-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Feature (m : (ℓ : Loc Cert.Feature.nD Cert.Feature.τ Cert.Feature.sig) → Buf (Elt Bits) ℓ) : Prop :=
  True

def Pre_FeatureIdeal (m : (ℓ : Loc Cert.FeatureIdeal.nD Cert.FeatureIdeal.τ Cert.FeatureIdeal.sig) → Buf (Elt Ideal) ℓ) : Prop :=
  True

def Pre_FeatureIdeal_in_classes [hPre_in_classes : Cert.Pre_in_classes.Facts] (m : (ℓ : Loc Cert.FeatureIdeal.nD Cert.FeatureIdeal.τ Cert.FeatureIdeal.sig) → Buf (Elt Ideal) ℓ) : Prop :=
  ∀ c : Dev Cert.FeatureIdeal.nD,
    (Cert.Pre_in_classes.fn (F := Ideal) (m ((c.tc : Thread Cert.FeatureIdeal.nD Cert.FeatureIdeal.τ).loc Cert.FeatureIdeal.main_arg0)) (m ((c.tc : Thread Cert.FeatureIdeal.nD Cert.FeatureIdeal.τ).loc Cert.FeatureIdeal.main_arg1)) (m ((c.tc : Thread Cert.FeatureIdeal.nD Cert.FeatureIdeal.τ).loc Cert.FeatureIdeal.main_arg2)) (m ((c.tc : Thread Cert.FeatureIdeal.nD Cert.FeatureIdeal.τ).loc Cert.FeatureIdeal.main_arg3)) (m ((c.tc : Thread Cert.FeatureIdeal.nD Cert.FeatureIdeal.τ).loc Cert.FeatureIdeal.main_arg4)) (m ((c.tc : Thread Cert.FeatureIdeal.nD Cert.FeatureIdeal.τ).loc Cert.FeatureIdeal.main_arg5)) (m ((c.tc : Thread Cert.FeatureIdeal.nD Cert.FeatureIdeal.τ).loc Cert.FeatureIdeal.main_arg6))) = (fun _ => 1#1)

def Pre_FeatureReferenceIdeal (m : (ℓ : Loc Cert.FeatureReferenceIdeal.nD Cert.FeatureReferenceIdeal.τ Cert.FeatureReferenceIdeal.sig) → Buf (Elt Ideal) ℓ) : Prop :=
  True

def Pre_FeatureReferenceIdeal_in_classes [hPre_in_classes : Cert.Pre_in_classes.Facts] (m : (ℓ : Loc Cert.FeatureReferenceIdeal.nD Cert.FeatureReferenceIdeal.τ Cert.FeatureReferenceIdeal.sig) → Buf (Elt Ideal) ℓ) : Prop :=
  ∀ c : Dev Cert.FeatureReferenceIdeal.nD,
    (Cert.Pre_in_classes.fn (F := Ideal) (m ((c.tc : Thread Cert.FeatureReferenceIdeal.nD Cert.FeatureReferenceIdeal.τ).loc Cert.FeatureReferenceIdeal.main_arg0)) (m ((c.tc : Thread Cert.FeatureReferenceIdeal.nD Cert.FeatureReferenceIdeal.τ).loc Cert.FeatureReferenceIdeal.main_arg1)) (m ((c.tc : Thread Cert.FeatureReferenceIdeal.nD Cert.FeatureReferenceIdeal.τ).loc Cert.FeatureReferenceIdeal.main_arg2)) (m ((c.tc : Thread Cert.FeatureReferenceIdeal.nD Cert.FeatureReferenceIdeal.τ).loc Cert.FeatureReferenceIdeal.main_arg3)) (m ((c.tc : Thread Cert.FeatureReferenceIdeal.nD Cert.FeatureReferenceIdeal.τ).loc Cert.FeatureReferenceIdeal.main_arg4)) (m ((c.tc : Thread Cert.FeatureReferenceIdeal.nD Cert.FeatureReferenceIdeal.τ).loc Cert.FeatureReferenceIdeal.main_arg5)) (m ((c.tc : Thread Cert.FeatureReferenceIdeal.nD Cert.FeatureReferenceIdeal.τ).loc Cert.FeatureReferenceIdeal.main_arg6))) = (fun _ => 1#1)

def Pre_Counts [hPre_in_table : Cert.Pre_in_table.Facts] (m : (ℓ : Loc Cert.Counts.nD Cert.Counts.τ Cert.Counts.sig) → Buf (Elt Bits) ℓ) : Prop :=
  ∀ c : Dev Cert.Counts.nD,
    (Cert.Pre_in_table.fn (F := Bits) (m ((c.tc : Thread Cert.Counts.nD Cert.Counts.τ).loc Cert.Counts.main_arg0)) (m ((c.tc : Thread Cert.Counts.nD Cert.Counts.τ).loc Cert.Counts.main_arg1))) = (fun _ => 1#1)

def Pre_CountsIdeal [hPre_in_table : Cert.Pre_in_table.Facts] (m : (ℓ : Loc Cert.CountsIdeal.nD Cert.CountsIdeal.τ Cert.CountsIdeal.sig) → Buf (Elt Ideal) ℓ) : Prop :=
  ∀ c : Dev Cert.CountsIdeal.nD,
    (Cert.Pre_in_table.fn (F := Ideal) (m ((c.tc : Thread Cert.CountsIdeal.nD Cert.CountsIdeal.τ).loc Cert.CountsIdeal.main_arg0)) (m ((c.tc : Thread Cert.CountsIdeal.nD Cert.CountsIdeal.τ).loc Cert.CountsIdeal.main_arg1))) = (fun _ => 1#1)

def Pre_CountsReferenceIdeal [hPre_in_table : Cert.Pre_in_table.Facts] (m : (ℓ : Loc Cert.CountsReferenceIdeal.nD Cert.CountsReferenceIdeal.τ Cert.CountsReferenceIdeal.sig) → Buf (Elt Ideal) ℓ) : Prop :=
  ∀ c : Dev Cert.CountsReferenceIdeal.nD,
    (Cert.Pre_in_table.fn (F := Ideal) (m ((c.tc : Thread Cert.CountsReferenceIdeal.nD Cert.CountsReferenceIdeal.τ).loc Cert.CountsReferenceIdeal.main_arg0)) (m ((c.tc : Thread Cert.CountsReferenceIdeal.nD Cert.CountsReferenceIdeal.τ).loc Cert.CountsReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Feature [hFeature : Cert.Feature.Facts] : Prop :=
  ∀ (m : (ℓ : Loc Cert.Feature.nD Cert.Feature.τ Cert.Feature.sig) → Buf (Elt Bits) ℓ) (g : Dev Cert.Feature.nD → PrngReg), Pre_Feature m →
    θ_run (Cert.Feature.defs (F := Bits)) (onTc (τ := Cert.Feature.τ) (Cert.Feature.main (F := Bits))) ⟨m, fun _ => 0, g⟩ (fun r => (∀ c : Dev Cert.Feature.nD,
      r.2.mem ((c.tc : Thread Cert.Feature.nD Cert.Feature.τ).loc Cert.Feature.main_arg0) = m ((c.tc : Thread Cert.Feature.nD Cert.Feature.τ).loc Cert.Feature.main_arg0)
      ∧ r.2.mem ((c.tc : Thread Cert.Feature.nD Cert.Feature.τ).loc Cert.Feature.main_arg1) = m ((c.tc : Thread Cert.Feature.nD Cert.Feature.τ).loc Cert.Feature.main_arg1)
      ∧ r.2.mem ((c.tc : Thread Cert.Feature.nD Cert.Feature.τ).loc Cert.Feature.main_arg2) = m ((c.tc : Thread Cert.Feature.nD Cert.Feature.τ).loc Cert.Feature.main_arg2)
      ∧ r.2.mem ((c.tc : Thread Cert.Feature.nD Cert.Feature.τ).loc Cert.Feature.main_arg3) = m ((c.tc : Thread Cert.Feature.nD Cert.Feature.τ).loc Cert.Feature.main_arg3)
      ∧ r.2.mem ((c.tc : Thread Cert.Feature.nD Cert.Feature.τ).loc Cert.Feature.main_arg4) = m ((c.tc : Thread Cert.Feature.nD Cert.Feature.τ).loc Cert.Feature.main_arg4)
      ∧ r.2.mem ((c.tc : Thread Cert.Feature.nD Cert.Feature.τ).loc Cert.Feature.main_arg5) = m ((c.tc : Thread Cert.Feature.nD Cert.Feature.τ).loc Cert.Feature.main_arg5)
      ∧ r.2.mem ((c.tc : Thread Cert.Feature.nD Cert.Feature.τ).loc Cert.Feature.main_arg6) = m ((c.tc : Thread Cert.Feature.nD Cert.Feature.τ).loc Cert.Feature.main_arg6))
      ∧ r.2.sem = fun _ => 0)

def quiescent_FeatureIdeal [hFeatureIdeal : Cert.FeatureIdeal.Facts] : Prop :=
  ∀ (m : (ℓ : Loc Cert.FeatureIdeal.nD Cert.FeatureIdeal.τ Cert.FeatureIdeal.sig) → Buf (Elt Ideal) ℓ) (g : Dev Cert.FeatureIdeal.nD → PrngReg), Pre_FeatureIdeal m →
    θ_run (Cert.FeatureIdeal.defs (F := Ideal)) (onTc (τ := Cert.FeatureIdeal.τ) (Cert.FeatureIdeal.main (F := Ideal))) ⟨m, fun _ => 0, g⟩ (fun r => (∀ c : Dev Cert.FeatureIdeal.nD,
      r.2.mem ((c.tc : Thread Cert.FeatureIdeal.nD Cert.FeatureIdeal.τ).loc Cert.FeatureIdeal.main_arg0) = m ((c.tc : Thread Cert.FeatureIdeal.nD Cert.FeatureIdeal.τ).loc Cert.FeatureIdeal.main_arg0)
      ∧ r.2.mem ((c.tc : Thread Cert.FeatureIdeal.nD Cert.FeatureIdeal.τ).loc Cert.FeatureIdeal.main_arg1) = m ((c.tc : Thread Cert.FeatureIdeal.nD Cert.FeatureIdeal.τ).loc Cert.FeatureIdeal.main_arg1)
      ∧ r.2.mem ((c.tc : Thread Cert.FeatureIdeal.nD Cert.FeatureIdeal.τ).loc Cert.FeatureIdeal.main_arg2) = m ((c.tc : Thread Cert.FeatureIdeal.nD Cert.FeatureIdeal.τ).loc Cert.FeatureIdeal.main_arg2)
      ∧ r.2.mem ((c.tc : Thread Cert.FeatureIdeal.nD Cert.FeatureIdeal.τ).loc Cert.FeatureIdeal.main_arg3) = m ((c.tc : Thread Cert.FeatureIdeal.nD Cert.FeatureIdeal.τ).loc Cert.FeatureIdeal.main_arg3)
      ∧ r.2.mem ((c.tc : Thread Cert.FeatureIdeal.nD Cert.FeatureIdeal.τ).loc Cert.FeatureIdeal.main_arg4) = m ((c.tc : Thread Cert.FeatureIdeal.nD Cert.FeatureIdeal.τ).loc Cert.FeatureIdeal.main_arg4)
      ∧ r.2.mem ((c.tc : Thread Cert.FeatureIdeal.nD Cert.FeatureIdeal.τ).loc Cert.FeatureIdeal.main_arg5) = m ((c.tc : Thread Cert.FeatureIdeal.nD Cert.FeatureIdeal.τ).loc Cert.FeatureIdeal.main_arg5)
      ∧ r.2.mem ((c.tc : Thread Cert.FeatureIdeal.nD Cert.FeatureIdeal.τ).loc Cert.FeatureIdeal.main_arg6) = m ((c.tc : Thread Cert.FeatureIdeal.nD Cert.FeatureIdeal.τ).loc Cert.FeatureIdeal.main_arg6))
      ∧ r.2.sem = fun _ => 0)

def quiescent_FeatureIdeal_pre_in_classes [hFeatureIdeal : Cert.FeatureIdeal.Facts] [hPre_in_classes : Cert.Pre_in_classes.Facts] : Prop :=
  ∀ (m : (ℓ : Loc Cert.FeatureIdeal.nD Cert.FeatureIdeal.τ Cert.FeatureIdeal.sig) → Buf (Elt Ideal) ℓ) (g : Dev Cert.FeatureIdeal.nD → PrngReg), Pre_FeatureIdeal_in_classes m →
    θ_run (Cert.FeatureIdeal.defs (F := Ideal)) (onTc (τ := Cert.FeatureIdeal.τ) (Cert.FeatureIdeal.main (F := Ideal))) ⟨m, fun _ => 0, g⟩ (fun r => (∀ c : Dev Cert.FeatureIdeal.nD,
      r.2.mem ((c.tc : Thread Cert.FeatureIdeal.nD Cert.FeatureIdeal.τ).loc Cert.FeatureIdeal.main_arg0) = m ((c.tc : Thread Cert.FeatureIdeal.nD Cert.FeatureIdeal.τ).loc Cert.FeatureIdeal.main_arg0)
      ∧ r.2.mem ((c.tc : Thread Cert.FeatureIdeal.nD Cert.FeatureIdeal.τ).loc Cert.FeatureIdeal.main_arg1) = m ((c.tc : Thread Cert.FeatureIdeal.nD Cert.FeatureIdeal.τ).loc Cert.FeatureIdeal.main_arg1)
      ∧ r.2.mem ((c.tc : Thread Cert.FeatureIdeal.nD Cert.FeatureIdeal.τ).loc Cert.FeatureIdeal.main_arg2) = m ((c.tc : Thread Cert.FeatureIdeal.nD Cert.FeatureIdeal.τ).loc Cert.FeatureIdeal.main_arg2)
      ∧ r.2.mem ((c.tc : Thread Cert.FeatureIdeal.nD Cert.FeatureIdeal.τ).loc Cert.FeatureIdeal.main_arg3) = m ((c.tc : Thread Cert.FeatureIdeal.nD Cert.FeatureIdeal.τ).loc Cert.FeatureIdeal.main_arg3)
      ∧ r.2.mem ((c.tc : Thread Cert.FeatureIdeal.nD Cert.FeatureIdeal.τ).loc Cert.FeatureIdeal.main_arg4) = m ((c.tc : Thread Cert.FeatureIdeal.nD Cert.FeatureIdeal.τ).loc Cert.FeatureIdeal.main_arg4)
      ∧ r.2.mem ((c.tc : Thread Cert.FeatureIdeal.nD Cert.FeatureIdeal.τ).loc Cert.FeatureIdeal.main_arg5) = m ((c.tc : Thread Cert.FeatureIdeal.nD Cert.FeatureIdeal.τ).loc Cert.FeatureIdeal.main_arg5)
      ∧ r.2.mem ((c.tc : Thread Cert.FeatureIdeal.nD Cert.FeatureIdeal.τ).loc Cert.FeatureIdeal.main_arg6) = m ((c.tc : Thread Cert.FeatureIdeal.nD Cert.FeatureIdeal.τ).loc Cert.FeatureIdeal.main_arg6))
      ∧ r.2.sem = fun _ => 0)

def quiescent_FeatureReferenceIdeal [hFeatureReferenceIdeal : Cert.FeatureReferenceIdeal.Facts] : Prop :=
  ∀ (m : (ℓ : Loc Cert.FeatureReferenceIdeal.nD Cert.FeatureReferenceIdeal.τ Cert.FeatureReferenceIdeal.sig) → Buf (Elt Ideal) ℓ) (g : Dev Cert.FeatureReferenceIdeal.nD → PrngReg), Pre_FeatureReferenceIdeal m →
    θ_run (Cert.FeatureReferenceIdeal.defs (F := Ideal)) (onTc (τ := Cert.FeatureReferenceIdeal.τ) (Cert.FeatureReferenceIdeal.main (F := Ideal))) ⟨m, fun _ => 0, g⟩ (fun r => (∀ c : Dev Cert.FeatureReferenceIdeal.nD,
      r.2.mem ((c.tc : Thread Cert.FeatureReferenceIdeal.nD Cert.FeatureReferenceIdeal.τ).loc Cert.FeatureReferenceIdeal.main_arg0) = m ((c.tc : Thread Cert.FeatureReferenceIdeal.nD Cert.FeatureReferenceIdeal.τ).loc Cert.FeatureReferenceIdeal.main_arg0)
      ∧ r.2.mem ((c.tc : Thread Cert.FeatureReferenceIdeal.nD Cert.FeatureReferenceIdeal.τ).loc Cert.FeatureReferenceIdeal.main_arg1) = m ((c.tc : Thread Cert.FeatureReferenceIdeal.nD Cert.FeatureReferenceIdeal.τ).loc Cert.FeatureReferenceIdeal.main_arg1)
      ∧ r.2.mem ((c.tc : Thread Cert.FeatureReferenceIdeal.nD Cert.FeatureReferenceIdeal.τ).loc Cert.FeatureReferenceIdeal.main_arg2) = m ((c.tc : Thread Cert.FeatureReferenceIdeal.nD Cert.FeatureReferenceIdeal.τ).loc Cert.FeatureReferenceIdeal.main_arg2)
      ∧ r.2.mem ((c.tc : Thread Cert.FeatureReferenceIdeal.nD Cert.FeatureReferenceIdeal.τ).loc Cert.FeatureReferenceIdeal.main_arg3) = m ((c.tc : Thread Cert.FeatureReferenceIdeal.nD Cert.FeatureReferenceIdeal.τ).loc Cert.FeatureReferenceIdeal.main_arg3)
      ∧ r.2.mem ((c.tc : Thread Cert.FeatureReferenceIdeal.nD Cert.FeatureReferenceIdeal.τ).loc Cert.FeatureReferenceIdeal.main_arg4) = m ((c.tc : Thread Cert.FeatureReferenceIdeal.nD Cert.FeatureReferenceIdeal.τ).loc Cert.FeatureReferenceIdeal.main_arg4)
      ∧ r.2.mem ((c.tc : Thread Cert.FeatureReferenceIdeal.nD Cert.FeatureReferenceIdeal.τ).loc Cert.FeatureReferenceIdeal.main_arg5) = m ((c.tc : Thread Cert.FeatureReferenceIdeal.nD Cert.FeatureReferenceIdeal.τ).loc Cert.FeatureReferenceIdeal.main_arg5)
      ∧ r.2.mem ((c.tc : Thread Cert.FeatureReferenceIdeal.nD Cert.FeatureReferenceIdeal.τ).loc Cert.FeatureReferenceIdeal.main_arg6) = m ((c.tc : Thread Cert.FeatureReferenceIdeal.nD Cert.FeatureReferenceIdeal.τ).loc Cert.FeatureReferenceIdeal.main_arg6))
      ∧ r.2.sem = fun _ => 0)

def quiescent_FeatureReferenceIdeal_pre_in_classes [hFeatureReferenceIdeal : Cert.FeatureReferenceIdeal.Facts] [hPre_in_classes : Cert.Pre_in_classes.Facts] : Prop :=
  ∀ (m : (ℓ : Loc Cert.FeatureReferenceIdeal.nD Cert.FeatureReferenceIdeal.τ Cert.FeatureReferenceIdeal.sig) → Buf (Elt Ideal) ℓ) (g : Dev Cert.FeatureReferenceIdeal.nD → PrngReg), Pre_FeatureReferenceIdeal_in_classes m →
    θ_run (Cert.FeatureReferenceIdeal.defs (F := Ideal)) (onTc (τ := Cert.FeatureReferenceIdeal.τ) (Cert.FeatureReferenceIdeal.main (F := Ideal))) ⟨m, fun _ => 0, g⟩ (fun r => (∀ c : Dev Cert.FeatureReferenceIdeal.nD,
      r.2.mem ((c.tc : Thread Cert.FeatureReferenceIdeal.nD Cert.FeatureReferenceIdeal.τ).loc Cert.FeatureReferenceIdeal.main_arg0) = m ((c.tc : Thread Cert.FeatureReferenceIdeal.nD Cert.FeatureReferenceIdeal.τ).loc Cert.FeatureReferenceIdeal.main_arg0)
      ∧ r.2.mem ((c.tc : Thread Cert.FeatureReferenceIdeal.nD Cert.FeatureReferenceIdeal.τ).loc Cert.FeatureReferenceIdeal.main_arg1) = m ((c.tc : Thread Cert.FeatureReferenceIdeal.nD Cert.FeatureReferenceIdeal.τ).loc Cert.FeatureReferenceIdeal.main_arg1)
      ∧ r.2.mem ((c.tc : Thread Cert.FeatureReferenceIdeal.nD Cert.FeatureReferenceIdeal.τ).loc Cert.FeatureReferenceIdeal.main_arg2) = m ((c.tc : Thread Cert.FeatureReferenceIdeal.nD Cert.FeatureReferenceIdeal.τ).loc Cert.FeatureReferenceIdeal.main_arg2)
      ∧ r.2.mem ((c.tc : Thread Cert.FeatureReferenceIdeal.nD Cert.FeatureReferenceIdeal.τ).loc Cert.FeatureReferenceIdeal.main_arg3) = m ((c.tc : Thread Cert.FeatureReferenceIdeal.nD Cert.FeatureReferenceIdeal.τ).loc Cert.FeatureReferenceIdeal.main_arg3)
      ∧ r.2.mem ((c.tc : Thread Cert.FeatureReferenceIdeal.nD Cert.FeatureReferenceIdeal.τ).loc Cert.FeatureReferenceIdeal.main_arg4) = m ((c.tc : Thread Cert.FeatureReferenceIdeal.nD Cert.FeatureReferenceIdeal.τ).loc Cert.FeatureReferenceIdeal.main_arg4)
      ∧ r.2.mem ((c.tc : Thread Cert.FeatureReferenceIdeal.nD Cert.FeatureReferenceIdeal.τ).loc Cert.FeatureReferenceIdeal.main_arg5) = m ((c.tc : Thread Cert.FeatureReferenceIdeal.nD Cert.FeatureReferenceIdeal.τ).loc Cert.FeatureReferenceIdeal.main_arg5)
      ∧ r.2.mem ((c.tc : Thread Cert.FeatureReferenceIdeal.nD Cert.FeatureReferenceIdeal.τ).loc Cert.FeatureReferenceIdeal.main_arg6) = m ((c.tc : Thread Cert.FeatureReferenceIdeal.nD Cert.FeatureReferenceIdeal.τ).loc Cert.FeatureReferenceIdeal.main_arg6))
      ∧ r.2.sem = fun _ => 0)

def quiescent_Counts [hCounts : Cert.Counts.Facts] [hPre_in_table : Cert.Pre_in_table.Facts] : Prop :=
  ∀ (m : (ℓ : Loc Cert.Counts.nD Cert.Counts.τ Cert.Counts.sig) → Buf (Elt Bits) ℓ) (g : Dev Cert.Counts.nD → PrngReg), Pre_Counts m →
    θ_run (Cert.Counts.defs (F := Bits)) (Cert.Counts.threads (F := Bits)) ⟨m, fun _ => 0, g⟩ (fun r => (∀ c : Dev Cert.Counts.nD,
      r.2.mem ((c.tc : Thread Cert.Counts.nD Cert.Counts.τ).loc Cert.Counts.main_arg0) = m ((c.tc : Thread Cert.Counts.nD Cert.Counts.τ).loc Cert.Counts.main_arg0)
      ∧ r.2.mem ((c.tc : Thread Cert.Counts.nD Cert.Counts.τ).loc Cert.Counts.main_arg1) = m ((c.tc : Thread Cert.Counts.nD Cert.Counts.τ).loc Cert.Counts.main_arg1))
      ∧ r.2.sem = fun _ => 0)

def quiescent_CountsIdeal [hCountsIdeal : Cert.CountsIdeal.Facts] [hPre_in_table : Cert.Pre_in_table.Facts] : Prop :=
  ∀ (m : (ℓ : Loc Cert.CountsIdeal.nD Cert.CountsIdeal.τ Cert.CountsIdeal.sig) → Buf (Elt Ideal) ℓ) (g : Dev Cert.CountsIdeal.nD → PrngReg), Pre_CountsIdeal m →
    θ_run (Cert.CountsIdeal.defs (F := Ideal)) (Cert.CountsIdeal.threads (F := Ideal)) ⟨m, fun _ => 0, g⟩ (fun r => (∀ c : Dev Cert.CountsIdeal.nD,
      r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0)
      ∧ r.2.mem ((c.tc : Thread Cert.CountsIdeal.nD Cert.CountsIdeal.τ).loc Cert.CountsIdeal.main_arg1) = m ((c.tc : Thread Cert.CountsIdeal.nD Cert.CountsIdeal.τ).loc Cert.CountsIdeal.main_arg1))
      ∧ r.2.sem = fun _ => 0)

def quiescent_CountsReferenceIdeal [hCountsReferenceIdeal : Cert.CountsReferenceIdeal.Facts] [hPre_in_table : Cert.Pre_in_table.Facts] : Prop :=
  ∀ (m : (ℓ : Loc Cert.CountsReferenceIdeal.nD Cert.CountsReferenceIdeal.τ Cert.CountsReferenceIdeal.sig) → Buf (Elt Ideal) ℓ) (g : Dev Cert.CountsReferenceIdeal.nD → PrngReg), Pre_CountsReferenceIdeal m →
    θ_run (Cert.CountsReferenceIdeal.defs (F := Ideal)) (onTc (τ := Cert.CountsReferenceIdeal.τ) (Cert.CountsReferenceIdeal.main (F := Ideal))) ⟨m, fun _ => 0, g⟩ (fun r => (∀ c : Dev Cert.CountsReferenceIdeal.nD,
      r.2.mem ((c.tc : Thread Cert.CountsReferenceIdeal.nD Cert.CountsReferenceIdeal.τ).loc Cert.CountsReferenceIdeal.main_arg0) = m ((c.tc : Thread Cert.CountsReferenceIdeal.nD Cert.CountsReferenceIdeal.τ).loc Cert.CountsReferenceIdeal.main_arg0)
      ∧ r.2.mem ((c.tc : Thread Cert.CountsReferenceIdeal.nD Cert.CountsReferenceIdeal.τ).loc Cert.CountsReferenceIdeal.main_arg1) = m ((c.tc : Thread Cert.CountsReferenceIdeal.nD Cert.CountsReferenceIdeal.τ).loc Cert.CountsReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Feature_FeatureIdeal : Prop :=
  True

def algebraic_FeatureIdeal_FeatureReferenceIdeal_pre_in_classes [hFeatureIdeal : Cert.FeatureIdeal.Facts] [hFeatureReferenceIdeal : Cert.FeatureReferenceIdeal.Facts] [hPre_in_classes : Cert.Pre_in_classes.Facts] : Prop :=
  ∀ (m : (ℓ : Loc Cert.FeatureIdeal.nD Cert.FeatureIdeal.τ Cert.FeatureIdeal.sig) → Buf (Elt Ideal) ℓ) (g : Dev Cert.FeatureIdeal.nD → PrngReg)
    (m' : (ℓ : Loc Cert.FeatureReferenceIdeal.nD Cert.FeatureReferenceIdeal.τ Cert.FeatureReferenceIdeal.sig) → Buf (Elt Ideal) ℓ) (g' : Dev Cert.FeatureReferenceIdeal.nD → PrngReg), Pre_FeatureIdeal_in_classes m →
    (∀ c : Dev Cert.FeatureIdeal.nD,
      m' ((c.tc : Thread Cert.FeatureReferenceIdeal.nD Cert.FeatureReferenceIdeal.τ).loc Cert.FeatureReferenceIdeal.main_arg0) = m ((c.tc : Thread Cert.FeatureIdeal.nD Cert.FeatureIdeal.τ).loc Cert.FeatureIdeal.main_arg0)
      ∧ m' ((c.tc : Thread Cert.FeatureReferenceIdeal.nD Cert.FeatureReferenceIdeal.τ).loc Cert.FeatureReferenceIdeal.main_arg1) = m ((c.tc : Thread Cert.FeatureIdeal.nD Cert.FeatureIdeal.τ).loc Cert.FeatureIdeal.main_arg1)
      ∧ m' ((c.tc : Thread Cert.FeatureReferenceIdeal.nD Cert.FeatureReferenceIdeal.τ).loc Cert.FeatureReferenceIdeal.main_arg2) = m ((c.tc : Thread Cert.FeatureIdeal.nD Cert.FeatureIdeal.τ).loc Cert.FeatureIdeal.main_arg2)
      ∧ m' ((c.tc : Thread Cert.FeatureReferenceIdeal.nD Cert.FeatureReferenceIdeal.τ).loc Cert.FeatureReferenceIdeal.main_arg3) = m ((c.tc : Thread Cert.FeatureIdeal.nD Cert.FeatureIdeal.τ).loc Cert.FeatureIdeal.main_arg3)
      ∧ m' ((c.tc : Thread Cert.FeatureReferenceIdeal.nD Cert.FeatureReferenceIdeal.τ).loc Cert.FeatureReferenceIdeal.main_arg4) = m ((c.tc : Thread Cert.FeatureIdeal.nD Cert.FeatureIdeal.τ).loc Cert.FeatureIdeal.main_arg4)
      ∧ m' ((c.tc : Thread Cert.FeatureReferenceIdeal.nD Cert.FeatureReferenceIdeal.τ).loc Cert.FeatureReferenceIdeal.main_arg5) = m ((c.tc : Thread Cert.FeatureIdeal.nD Cert.FeatureIdeal.τ).loc Cert.FeatureIdeal.main_arg5)
      ∧ m' ((c.tc : Thread Cert.FeatureReferenceIdeal.nD Cert.FeatureReferenceIdeal.τ).loc Cert.FeatureReferenceIdeal.main_arg6) = m ((c.tc : Thread Cert.FeatureIdeal.nD Cert.FeatureIdeal.τ).loc Cert.FeatureIdeal.main_arg6)) →
    ∃ (v0 : (c : Dev Cert.FeatureIdeal.nD) → Buf (Elt Ideal) ((c.tc : Thread Cert.FeatureIdeal.nD Cert.FeatureIdeal.τ).loc Cert.FeatureIdeal.main_v5_0)) (v1 : (c : Dev Cert.FeatureIdeal.nD) → Buf (Elt Ideal) ((c.tc : Thread Cert.FeatureIdeal.nD Cert.FeatureIdeal.τ).loc Cert.FeatureIdeal.main_v5_1)),
      θ_run (Cert.FeatureIdeal.defs (F := Ideal)) (onTc (τ := Cert.FeatureIdeal.τ) (Cert.FeatureIdeal.main (F := Ideal))) ⟨m, fun _ => 0, g⟩ (fun r => ∀ c : Dev Cert.FeatureIdeal.nD,
          r.2.mem ((c.tc : Thread Cert.FeatureIdeal.nD Cert.FeatureIdeal.τ).loc Cert.FeatureIdeal.main_v5_0) = v0 c
          ∧ r.2.mem ((c.tc : Thread Cert.FeatureIdeal.nD Cert.FeatureIdeal.τ).loc Cert.FeatureIdeal.main_v5_1) = v1 c
          ∧ r.2.mem ((c.tc : Thread Cert.FeatureIdeal.nD Cert.FeatureIdeal.τ).loc Cert.FeatureIdeal.main_arg0) = m ((c.tc : Thread Cert.FeatureIdeal.nD Cert.FeatureIdeal.τ).loc Cert.FeatureIdeal.main_arg0)
          ∧ r.2.mem ((c.tc : Thread Cert.FeatureIdeal.nD Cert.FeatureIdeal.τ).loc Cert.FeatureIdeal.main_arg1) = m ((c.tc : Thread Cert.FeatureIdeal.nD Cert.FeatureIdeal.τ).loc Cert.FeatureIdeal.main_arg1)
          ∧ r.2.mem ((c.tc : Thread Cert.FeatureIdeal.nD Cert.FeatureIdeal.τ).loc Cert.FeatureIdeal.main_arg2) = m ((c.tc : Thread Cert.FeatureIdeal.nD Cert.FeatureIdeal.τ).loc Cert.FeatureIdeal.main_arg2)
          ∧ r.2.mem ((c.tc : Thread Cert.FeatureIdeal.nD Cert.FeatureIdeal.τ).loc Cert.FeatureIdeal.main_arg3) = m ((c.tc : Thread Cert.FeatureIdeal.nD Cert.FeatureIdeal.τ).loc Cert.FeatureIdeal.main_arg3)
          ∧ r.2.mem ((c.tc : Thread Cert.FeatureIdeal.nD Cert.FeatureIdeal.τ).loc Cert.FeatureIdeal.main_arg4) = m ((c.tc : Thread Cert.FeatureIdeal.nD Cert.FeatureIdeal.τ).loc Cert.FeatureIdeal.main_arg4)
          ∧ r.2.mem ((c.tc : Thread Cert.FeatureIdeal.nD Cert.FeatureIdeal.τ).loc Cert.FeatureIdeal.main_arg5) = m ((c.tc : Thread Cert.FeatureIdeal.nD Cert.FeatureIdeal.τ).loc Cert.FeatureIdeal.main_arg5)
          ∧ r.2.mem ((c.tc : Thread Cert.FeatureIdeal.nD Cert.FeatureIdeal.τ).loc Cert.FeatureIdeal.main_arg6) = m ((c.tc : Thread Cert.FeatureIdeal.nD Cert.FeatureIdeal.τ).loc Cert.FeatureIdeal.main_arg6))
      ∧ θ_run (Cert.FeatureReferenceIdeal.defs (F := Ideal)) (onTc (τ := Cert.FeatureReferenceIdeal.τ) (Cert.FeatureReferenceIdeal.main (F := Ideal))) ⟨m', fun _ => 0, g'⟩ (fun r => ∀ c : Dev Cert.FeatureReferenceIdeal.nD,
          r.2.mem ((c.tc : Thread Cert.FeatureReferenceIdeal.nD Cert.FeatureReferenceIdeal.τ).loc Cert.FeatureReferenceIdeal.main_v8) = v0 c
          ∧ r.2.mem ((c.tc : Thread Cert.FeatureReferenceIdeal.nD Cert.FeatureReferenceIdeal.τ).loc Cert.FeatureReferenceIdeal.main_v27) = v1 c
          ∧ r.2.mem ((c.tc : Thread Cert.FeatureReferenceIdeal.nD Cert.FeatureReferenceIdeal.τ).loc Cert.FeatureReferenceIdeal.main_arg0) = m' ((c.tc : Thread Cert.FeatureReferenceIdeal.nD Cert.FeatureReferenceIdeal.τ).loc Cert.FeatureReferenceIdeal.main_arg0)
          ∧ r.2.mem ((c.tc : Thread Cert.FeatureReferenceIdeal.nD Cert.FeatureReferenceIdeal.τ).loc Cert.FeatureReferenceIdeal.main_arg1) = m' ((c.tc : Thread Cert.FeatureReferenceIdeal.nD Cert.FeatureReferenceIdeal.τ).loc Cert.FeatureReferenceIdeal.main_arg1)
          ∧ r.2.mem ((c.tc : Thread Cert.FeatureReferenceIdeal.nD Cert.FeatureReferenceIdeal.τ).loc Cert.FeatureReferenceIdeal.main_arg2) = m' ((c.tc : Thread Cert.FeatureReferenceIdeal.nD Cert.FeatureReferenceIdeal.τ).loc Cert.FeatureReferenceIdeal.main_arg2)
          ∧ r.2.mem ((c.tc : Thread Cert.FeatureReferenceIdeal.nD Cert.FeatureReferenceIdeal.τ).loc Cert.FeatureReferenceIdeal.main_arg3) = m' ((c.tc : Thread Cert.FeatureReferenceIdeal.nD Cert.FeatureReferenceIdeal.τ).loc Cert.FeatureReferenceIdeal.main_arg3)
          ∧ r.2.mem ((c.tc : Thread Cert.FeatureReferenceIdeal.nD Cert.FeatureReferenceIdeal.τ).loc Cert.FeatureReferenceIdeal.main_arg4) = m' ((c.tc : Thread Cert.FeatureReferenceIdeal.nD Cert.FeatureReferenceIdeal.τ).loc Cert.FeatureReferenceIdeal.main_arg4)
          ∧ r.2.mem ((c.tc : Thread Cert.FeatureReferenceIdeal.nD Cert.FeatureReferenceIdeal.τ).loc Cert.FeatureReferenceIdeal.main_arg5) = m' ((c.tc : Thread Cert.FeatureReferenceIdeal.nD Cert.FeatureReferenceIdeal.τ).loc Cert.FeatureReferenceIdeal.main_arg5)
          ∧ r.2.mem ((c.tc : Thread Cert.FeatureReferenceIdeal.nD Cert.FeatureReferenceIdeal.τ).loc Cert.FeatureReferenceIdeal.main_arg6) = m' ((c.tc : Thread Cert.FeatureReferenceIdeal.nD Cert.FeatureReferenceIdeal.τ).loc Cert.FeatureReferenceIdeal.main_arg6))

def preserves_Counts_CountsIdeal : Prop :=
  True

def algebraic_CountsIdeal_CountsReferenceIdeal [hCountsIdeal : Cert.CountsIdeal.Facts] [hCountsReferenceIdeal : Cert.CountsReferenceIdeal.Facts] [hPre_in_table : Cert.Pre_in_table.Facts] : Prop :=
  ∀ (m : (ℓ : Loc Cert.CountsIdeal.nD Cert.CountsIdeal.τ Cert.CountsIdeal.sig) → Buf (Elt Ideal) ℓ) (g : Dev Cert.CountsIdeal.nD → PrngReg)
    (m' : (ℓ : Loc Cert.CountsReferenceIdeal.nD Cert.CountsReferenceIdeal.τ Cert.CountsReferenceIdeal.sig) → Buf (Elt Ideal) ℓ) (g' : Dev Cert.CountsReferenceIdeal.nD → PrngReg), Pre_CountsIdeal m →
    (∀ c : Dev Cert.CountsIdeal.nD,
      m' ((c.tc : Thread Cert.CountsReferenceIdeal.nD Cert.CountsReferenceIdeal.τ).loc Cert.CountsReferenceIdeal.main_arg0) = m ((c.tc : Thread Cert.CountsIdeal.nD Cert.CountsIdeal.τ).loc Cert.CountsIdeal.main_arg0)
      ∧ m' ((c.tc : Thread Cert.CountsReferenceIdeal.nD Cert.CountsReferenceIdeal.τ).loc Cert.CountsReferenceIdeal.main_arg1) = m ((c.tc : Thread Cert.CountsIdeal.nD Cert.CountsIdeal.τ).loc Cert.CountsIdeal.main_arg1)) →
    ∃ (v0 : (c : Dev Cert.CountsIdeal.nD) → Buf (Elt Ideal) ((c.tc : Thread Cert.CountsIdeal.nD Cert.CountsIdeal.τ).loc Cert.CountsIdeal.main_v0_0)) (v1 : (c : Dev Cert.CountsIdeal.nD) → Buf (Elt Ideal) ((c.tc : Thread Cert.CountsIdeal.nD Cert.CountsIdeal.τ).loc Cert.CountsIdeal.main_v0_1)) (v2 : (c : Dev Cert.CountsIdeal.nD) → Buf (Elt Ideal) ((c.tc : Thread Cert.CountsIdeal.nD Cert.CountsIdeal.τ).loc Cert.CountsIdeal.main_v0_2)) (v3 : (c : Dev Cert.CountsIdeal.nD) → Buf (Elt Ideal) ((c.tc : Thread Cert.CountsIdeal.nD Cert.CountsIdeal.τ).loc Cert.CountsIdeal.main_v0_3)),
      θ_run (Cert.CountsIdeal.defs (F := Ideal)) (Cert.CountsIdeal.threads (F := Ideal)) ⟨m, fun _ => 0, g⟩ (fun r => ∀ c : Dev Cert.CountsIdeal.nD,
          r.2.mem ((c.tc : Thread Cert.CountsIdeal.nD Cert.CountsIdeal.τ).loc Cert.CountsIdeal.main_v0_0) = v0 c
          ∧ r.2.mem ((c.tc : Thread Cert.CountsIdeal.nD Cert.CountsIdeal.τ).loc Cert.CountsIdeal.main_v0_1) = v1 c
          ∧ r.2.mem ((c.tc : Thread Cert.CountsIdeal.nD Cert.CountsIdeal.τ).loc Cert.CountsIdeal.main_v0_2) = v2 c
          ∧ r.2.mem ((c.tc : Thread Cert.CountsIdeal.nD Cert.CountsIdeal.τ).loc Cert.CountsIdeal.main_v0_3) = v3 c
          ∧ r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0)
          ∧ r.2.mem ((c.tc : Thread Cert.CountsIdeal.nD Cert.CountsIdeal.τ).loc Cert.CountsIdeal.main_arg1) = m ((c.tc : Thread Cert.CountsIdeal.nD Cert.CountsIdeal.τ).loc Cert.CountsIdeal.main_arg1))
      ∧ θ_run (Cert.CountsReferenceIdeal.defs (F := Ideal)) (onTc (τ := Cert.CountsReferenceIdeal.τ) (Cert.CountsReferenceIdeal.main (F := Ideal))) ⟨m', fun _ => 0, g'⟩ (fun r => ∀ c : Dev Cert.CountsReferenceIdeal.nD,
          r.2.mem ((c.tc : Thread Cert.CountsReferenceIdeal.nD Cert.CountsReferenceIdeal.τ).loc Cert.CountsReferenceIdeal.main_v6) = v0 c
          ∧ r.2.mem ((c.tc : Thread Cert.CountsReferenceIdeal.nD Cert.CountsReferenceIdeal.τ).loc Cert.CountsReferenceIdeal.main_v14) = v1 c
          ∧ r.2.mem ((c.tc : Thread Cert.CountsReferenceIdeal.nD Cert.CountsReferenceIdeal.τ).loc Cert.CountsReferenceIdeal.main_v21) = v2 c
          ∧ r.2.mem ((c.tc : Thread Cert.CountsReferenceIdeal.nD Cert.CountsReferenceIdeal.τ).loc Cert.CountsReferenceIdeal.main_v23) = v3 c
          ∧ r.2.mem ((c.tc : Thread Cert.CountsReferenceIdeal.nD Cert.CountsReferenceIdeal.τ).loc Cert.CountsReferenceIdeal.main_arg0) = m' ((c.tc : Thread Cert.CountsReferenceIdeal.nD Cert.CountsReferenceIdeal.τ).loc Cert.CountsReferenceIdeal.main_arg0)
          ∧ r.2.mem ((c.tc : Thread Cert.CountsReferenceIdeal.nD Cert.CountsReferenceIdeal.τ).loc Cert.CountsReferenceIdeal.main_arg1) = m' ((c.tc : Thread Cert.CountsReferenceIdeal.nD Cert.CountsReferenceIdeal.τ).loc Cert.CountsReferenceIdeal.main_arg1))

def Claim : Prop :=
  ∃ (hKernel : Cert.Kernel.Facts) (hKernelIdeal : Cert.KernelIdeal.Facts) (hReferenceIdeal : Cert.ReferenceIdeal.Facts) (hFeature : Cert.Feature.Facts) (hFeatureIdeal : Cert.FeatureIdeal.Facts) (hFeatureReferenceIdeal : Cert.FeatureReferenceIdeal.Facts) (hCounts : Cert.Counts.Facts) (hCountsIdeal : Cert.CountsIdeal.Facts) (hCountsReferenceIdeal : Cert.CountsReferenceIdeal.Facts) (hPre_in_range : Cert.Pre_in_range.Facts) (hPre_in_classes : Cert.Pre_in_classes.Facts) (hPre_in_table : Cert.Pre_in_table.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Feature (hFeature := hFeature)
    ∧ quiescent_FeatureIdeal (hFeatureIdeal := hFeatureIdeal)
    ∧ quiescent_FeatureIdeal_pre_in_classes (hFeatureIdeal := hFeatureIdeal) (hPre_in_classes := hPre_in_classes)
    ∧ quiescent_FeatureReferenceIdeal (hFeatureReferenceIdeal := hFeatureReferenceIdeal)
    ∧ quiescent_FeatureReferenceIdeal_pre_in_classes (hFeatureReferenceIdeal := hFeatureReferenceIdeal) (hPre_in_classes := hPre_in_classes)
    ∧ quiescent_Counts (hCounts := hCounts) (hPre_in_table := hPre_in_table)
    ∧ quiescent_CountsIdeal (hCountsIdeal := hCountsIdeal) (hPre_in_table := hPre_in_table)
    ∧ quiescent_CountsReferenceIdeal (hCountsReferenceIdeal := hCountsReferenceIdeal) (hPre_in_table := hPre_in_table)
    ∧ preserves_Kernel_KernelIdeal
    ∧ algebraic_KernelIdeal_ReferenceIdeal (hKernelIdeal := hKernelIdeal) (hReferenceIdeal := hReferenceIdeal) (hPre_in_range := hPre_in_range)
    ∧ preserves_Feature_FeatureIdeal
    ∧ algebraic_FeatureIdeal_FeatureReferenceIdeal_pre_in_classes (hFeatureIdeal := hFeatureIdeal) (hFeatureReferenceIdeal := hFeatureReferenceIdeal) (hPre_in_classes := hPre_in_classes)
    ∧ preserves_Counts_CountsIdeal
    ∧ algebraic_CountsIdeal_CountsReferenceIdeal (hCountsIdeal := hCountsIdeal) (hCountsReferenceIdeal := hCountsReferenceIdeal) (hPre_in_table := hPre_in_table)
-- ==== Pre_in_classes.lean ====
abbrev S800000 : Shape := ⟨1, ![800000]⟩
abbrev S64 : Shape := ⟨1, ![64]⟩
abbrev S_ : Shape := ⟨0, ![]⟩
abbrev S1 : Shape := ⟨1, ![1]⟩
abbrev S63 : Shape := ⟨1, ![63]⟩

class Facts : Prop where
  bcast_S_S800000 : S_.BroadcastsInDim S800000 (![] : Fin 0 → Fin S800000.rank)
  reducesTo_S800000_S_d0 : S800000.ReducesTo [0] S_
  h_S_ : 0 < S_.numel
  slices_S64_S1_0 : S64.Slices ![0] S1
  shapeCasts_S1_S_ : S1.ShapeCasts S_
  slices_S64_S63_0 : S64.Slices ![0] S63
  slices_S64_S63_1 : S64.Slices ![1] S63
  reducesTo_S63_S_d0 : S63.ReducesTo [0] S_

variable [Facts]

def fn_part2 {F : FTy → Type} [FloatOps F] (main_arg6 : IVec S64 32) (main_v30 : IVec S_ 1) (main_v31 : IVec S1 32) : IVec S_ 1 :=
  let main_v32 : IVec S_ 32 := shapeCast S_ main_v31 shapeCasts_S1_S_
  let main_c_15 : IVec S_ 32 := constantI S_ 32 0#32
  let main_v33 : IVec S_ 1 := cmpi .eq main_v32 main_c_15
  let main_v34 : IVec S_ 1 := andi main_v30 main_v33
  let main_v35 : IVec S63 32 := (extractStridedSlice S63 ![0] · slices_S64_S63_0) main_arg6
  let main_v36 : IVec S63 32 := (extractStridedSlice S63 ![1] · slices_S64_S63_1) main_arg6
  let main_v37 : IVec S63 1 := cmpi .sle main_v35 main_v36
  let main_c_16 : IVec S_ 1 := constantI S_ 1 1#1
  let main_v38 : IVec S_ 1 := (fun x v => Host.reduce IntOp.andi x v reducesTo_S63_S_d0 h_S_) main_v37 main_c_16
  let main_v39 : IVec S_ 1 := andi main_v34 main_v38
  main_v39

def fn_part1 {F : FTy → Type} [FloatOps F] (main_arg2 : IVec S800000 32) (main_arg3 : IVec S800000 32) (main_arg6 : IVec S64 32) (main_v14 : IVec S_ 1) (main_c_7 : IVec S_ 32) : IVec S_ 1 :=
  let main_v15 : IVec S800000 32 := broadcastInDim S800000 ![] bcast_S_S800000 main_c_7
  let main_v16 : IVec S800000 1 := cmpi .sge main_arg2 main_v15
  let main_c_8 : IVec S_ 1 := constantI S_ 1 1#1
  let main_v17 : IVec S_ 1 := (fun x v => Host.reduce IntOp.andi x v reducesTo_S800000_S_d0 h_S_) main_v16 main_c_8
  let main_v18 : IVec S_ 1 := andi main_v14 main_v17
  let main_c_9 : IVec S_ 32 := constantI S_ 32 7#32
  let main_v19 : IVec S800000 32 := broadcastInDim S800000 ![] bcast_S_S800000 main_c_9
  let main_v20 : IVec S800000 1 := cmpi .slt main_arg2 main_v19
  let main_c_10 : IVec S_ 1 := constantI S_ 1 1#1
  let main_v21 : IVec S_ 1 := (fun x v => Host.reduce IntOp.andi x v reducesTo_S800000_S_d0 h_S_) main_v20 main_c_10
  let main_v22 : IVec S_ 1 := andi main_v18 main_v21
  let main_c_11 : IVec S_ 32 := constantI S_ 32 0#32
  let main_v23 : IVec S800000 32 := broadcastInDim S800000 ![] bcast_S_S800000 main_c_11
  let main_v24 : IVec S800000 1 := cmpi .sge main_arg3 main_v23
  let main_c_12 : IVec S_ 1 := constantI S_ 1 1#1
  let main_v25 : IVec S_ 1 := (fun x v => Host.reduce IntOp.andi x v reducesTo_S800000_S_d0 h_S_) main_v24 main_c_12
  let main_v26 : IVec S_ 1 := andi main_v22 main_v25
  let main_c_13 : IVec S_ 32 := constantI S_ 32 11#32
  let main_v27 : IVec S800000 32 := broadcastInDim S800000 ![] bcast_S_S800000 main_c_13
  let main_v28 : IVec S800000 1 := cmpi .slt main_arg3 main_v27
  let main_c_14 : IVec S_ 1 := constantI S_ 1 1#1
  let main_v29 : IVec S_ 1 := (fun x v => Host.reduce IntOp.andi x v reducesTo_S800000_S_d0 h_S_) main_v28 main_c_14
  let main_v30 : IVec S_ 1 := andi main_v26 main_v29
  let main_v31 : IVec S1 32 := (extractStridedSlice S1 ![0] · slices_S64_S1_0) main_arg6
  fn_part2 (F := F) main_arg6 main_v30 main_v31

def fn {F : FTy → Type} [FloatOps F] (main_arg0 : IVec S800000 32) (main_arg1 : IVec S800000 32) (main_arg2 : IVec S800000 32) (main_arg3 : IVec S800000 32) (main_arg4 : FVec F S800000 .f32) (main_arg5 : IVec S64 32) (main_arg6 : IVec S64 32) : IVec S_ 1 :=
  let main_c : IVec S_ 32 := constantI S_ 32 0#32
  let main_v0 : IVec S800000 32 := broadcastInDim S800000 ![] bcast_S_S800000 main_c
  let main_v1 : IVec S800000 1 := cmpi .sge main_arg0 main_v0
  let main_c_0 : IVec S_ 1 := constantI S_ 1 1#1
  let main_v2 : IVec S_ 1 := (fun x v => Host.reduce IntOp.andi x v reducesTo_S800000_S_d0 h_S_) main_v1 main_c_0
  let main_c_1 : IVec S_ 32 := constantI S_ 32 21#32
  let main_v3 : IVec S800000 32 := broadcastInDim S800000 ![] bcast_S_S800000 main_c_1
  let main_v4 : IVec S800000 1 := cmpi .slt main_arg0 main_v3
  let main_c_2 : IVec S_ 1 := constantI S_ 1 1#1
  let main_v5 : IVec S_ 1 := (fun x v => Host.reduce IntOp.andi x v reducesTo_S800000_S_d0 h_S_) main_v4 main_c_2
  let main_v6 : IVec S_ 1 := andi main_v2 main_v5
  let main_c_3 : IVec S_ 32 := constantI S_ 32 0#32
  let main_v7 : IVec S800000 32 := broadcastInDim S800000 ![] bcast_S_S800000 main_c_3
  let main_v8 : IVec S800000 1 := cmpi .sge main_arg1 main_v7
  let main_c_4 : IVec S_ 1 := constantI S_ 1 1#1
  let main_v9 : IVec S_ 1 := (fun x v => Host.reduce IntOp.andi x v reducesTo_S800000_S_d0 h_S_) main_v8 main_c_4
  let main_v10 : IVec S_ 1 := andi main_v6 main_v9
  let main_c_5 : IVec S_ 32 := constantI S_ 32 21#32
  let main_v11 : IVec S800000 32 := broadcastInDim S800000 ![] bcast_S_S800000 main_c_5
  let main_v12 : IVec S800000 1 := cmpi .slt main_arg1 main_v11
  let main_c_6 : IVec S_ 1 := constantI S_ 1 1#1
  let main_v13 : IVec S_ 1 := (fun x v => Host.reduce IntOp.andi x v reducesTo_S800000_S_d0 h_S_) main_v12 main_c_6
  let main_v14 : IVec S_ 1 := andi main_v10 main_v13
  let main_c_7 : IVec S_ 32 := constantI S_ 32 0#32
  fn_part1 (F := F) main_arg2 main_arg3 main_arg6 main_v14 main_c_7
-- ==== Pre_in_range.lean ====
abbrev S802816 : Shape := ⟨1, ![802816]⟩
abbrev S50000x3 : Shape := ⟨2, ![50000, 3]⟩
abbrev S800000 : Shape := ⟨1, ![800000]⟩
abbrev S50000 : Shape := ⟨1, ![50000]⟩
abbrev S12500 : Shape := ⟨1, ![12500]⟩
abbrev S_ : Shape := ⟨0, ![]⟩

class Facts : Prop where
  bcast_S_S802816 : S_.BroadcastsInDim S802816 (![] : Fin 0 → Fin S802816.rank)
  reducesTo_S802816_S_d0 : S802816.ReducesTo [0] S_
  h_S_ : 0 < S_.numel
  slices_S802816_S800000_0 : S802816.Slices ![0] S800000
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg5 : IVec S50000 32) (main_v31 : IVec S_ 1) : IVec S_ 1 :=
  let main_c_15 : IVec S_ 32 := constantI S_ 32 12500#32
  let main_v32 : IVec S50000 32 := broadcastInDim S50000 ![] bcast_S_S50000 main_c_15
  let main_v33 : IVec S50000 1 := cmpi .slt main_arg5 main_v32
  let main_c_16 : IVec S_ 1 := constantI S_ 1 1#1
  let main_v34 : IVec S_ 1 := (fun x v => Host.reduce IntOp.andi x v reducesTo_S50000_S_d0 h_S_) main_v33 main_c_16
  let main_v35 : IVec S_ 1 := andi main_v31 main_v34
  main_v35

def fn_part1 {F : FTy → Type} [FloatOps F] (main_arg2 : IVec S800000 32) (main_arg3 : IVec S800000 32) (main_arg5 : IVec S50000 32) (main_v15 : IVec S_ 1) : IVec S_ 1 :=
  let main_c_7 : IVec S_ 32 := constantI S_ 32 50000#32
  let main_v16 : IVec S800000 32 := broadcastInDim S800000 ![] bcast_S_S800000 main_c_7
  let main_v17 : IVec S800000 1 := cmpi .slt main_arg2 main_v16
  let main_c_8 : IVec S_ 1 := constantI S_ 1 1#1
  let main_v18 : IVec S_ 1 := (fun x v => Host.reduce IntOp.andi x v reducesTo_S800000_S_d0 h_S_) main_v17 main_c_8
  let main_v19 : IVec S_ 1 := andi main_v15 main_v18
  let main_c_9 : IVec S_ 32 := constantI S_ 32 0#32
  let main_v20 : IVec S800000 32 := broadcastInDim S800000 ![] bcast_S_S800000 main_c_9
  let main_v21 : IVec S800000 1 := cmpi .sge main_arg3 main_v20
  let main_c_10 : IVec S_ 1 := constantI S_ 1 1#1
  let main_v22 : IVec S_ 1 := (fun x v => Host.reduce IntOp.andi x v reducesTo_S800000_S_d0 h_S_) main_v21 main_c_10
  let main_v23 : IVec S_ 1 := andi main_v19 main_v22
  let main_c_11 : IVec S_ 32 := constantI S_ 32 50000#32
  let main_v24 : IVec S800000 32 := broadcastInDim S800000 ![] bcast_S_S800000 main_c_11
  let main_v25 : IVec S800000 1 := cmpi .slt main_arg3 main_v24
  let main_c_12 : IVec S_ 1 := constantI S_ 1 1#1
  let main_v26 : IVec S_ 1 := (fun x v => Host.reduce IntOp.andi x v reducesTo_S800000_S_d0 h_S_) main_v25 main_c_12
  let main_v27 : IVec S_ 1 := andi main_v23 main_v26
  let main_c_13 : IVec S_ 32 := constantI S_ 32 0#32
  let main_v28 : IVec S50000 32 := broadcastInDim S50000 ![] bcast_S_S50000 main_c_13
  let main_v29 : IVec S50000 1 := cmpi .sge main_arg5 main_v28
  let main_c_14 : IVec S_ 1 := constantI S_ 1 1#1
  let main_v30 : IVec S_ 1 := (fun x v => Host.reduce IntOp.andi x v reducesTo_S50000_S_d0 h_S_) main_v29 main_c_14
  let main_v31 : IVec S_ 1 := andi main_v27 main_v30
  fn_part2 (F := F) main_arg5 main_v31

def fn {F : FTy → Type} [FloatOps F] (main_arg0 : IVec S802816 32) (main_arg1 : FVec F S50000x3 .f32) (main_arg2 : IVec S800000 32) (main_arg3 : IVec S800000 32) (main_arg4 : IVec S800000 32) (main_arg5 : IVec S50000 32) (main_arg6 : IVec S12500 32) : IVec S_ 1 :=
  let main_c : IVec S_ 32 := constantI S_ 32 0#32
  let main_v0 : IVec S802816 32 := broadcastInDim S802816 ![] bcast_S_S802816 main_c
  let main_v1 : IVec S802816 1 := cmpi .sge main_arg0 main_v0
  let main_c_0 : IVec S_ 1 := constantI S_ 1 1#1
  let main_v2 : IVec S_ 1 := (fun x v => Host.reduce IntOp.andi x v reducesTo_S802816_S_d0 h_S_) main_v1 main_c_0
  let main_c_1 : IVec S_ 32 := constantI S_ 32 802816#32
  let main_v3 : IVec S802816 32 := broadcastInDim S802816 ![] bcast_S_S802816 main_c_1
  let main_v4 : IVec S802816 1 := cmpi .slt main_arg0 main_v3
  let main_c_2 : IVec S_ 1 := constantI S_ 1 1#1
  let main_v5 : IVec S_ 1 := (fun x v => Host.reduce IntOp.andi x v reducesTo_S802816_S_d0 h_S_) main_v4 main_c_2
  let main_v6 : IVec S_ 1 := andi main_v2 main_v5
  let main_v7 : IVec S800000 32 := (extractStridedSlice S800000 ![0] · slices_S802816_S800000_0) main_arg0
  let main_c_3 : IVec S_ 32 := constantI S_ 32 800000#32
  let main_v8 : IVec S800000 32 := broadcastInDim S800000 ![] bcast_S_S800000 main_c_3
  let main_v9 : IVec S800000 1 := cmpi .slt main_v7 main_v8
  let main_c_4 : IVec S_ 1 := constantI S_ 1 1#1
  let main_v10 : IVec S_ 1 := (fun x v => Host.reduce IntOp.andi x v reducesTo_S800000_S_d0 h_S_) main_v9 main_c_4
  let main_v11 : IVec S_ 1 := andi main_v6 main_v10
  let main_c_5 : IVec S_ 32 := constantI S_ 32 0#32
  let main_v12 : IVec S800000 32 := broadcastInDim S800000 ![] bcast_S_S800000 main_c_5
  let main_v13 : IVec S800000 1 := cmpi .sge main_arg2 main_v12
  let main_c_6 : IVec S_ 1 := constantI S_ 1 1#1
  let main_v14 : IVec S_ 1 := (fun x v => Host.reduce IntOp.andi x v reducesTo_S800000_S_d0 h_S_) main_v13 main_c_6
  let main_v15 : IVec S_ 1 := andi main_v11 main_v14
  fn_part1 (F := F) main_arg2 main_arg3 main_arg5 main_v15
-- ==== Pre_in_table.lean ====
abbrev S802816 : Shape := ⟨1, ![802816]⟩
abbrev S50176 : Shape := ⟨1, ![50176]⟩
abbrev S_ : Shape := ⟨0, ![]⟩

class Facts : Prop where
  bcast_S_S802816 : S_.BroadcastsInDim S802816 (![] : Fin 0 → Fin S802816.rank)
  reducesTo_S802816_S_d0 : S802816.ReducesTo [0] S_
  h_S_ : 0 < S_.numel
  bcast_S_S50176 : S_.BroadcastsInDim S50176 (![] : Fin 0 → Fin S50176.rank)
  reducesTo_S50176_S_d0 : S50176.ReducesTo [0] S_

variable [Facts]

def fn {F : FTy → Type} [FloatOps F] (main_arg0 : IVec S802816 32) (main_arg1 : IVec S50176 32) : IVec S_ 1 :=
  let main_c : IVec S_ 32 := constantI S_ 32 0#32
  let main_v0 : IVec S802816 32 := broadcastInDim S802816 ![] bcast_S_S802816 main_c
  let main_v1 : IVec S802816 1 := cmpi .sge main_arg0 main_v0
  let main_c_0 : IVec S_ 1 := constantI S_ 1 1#1
  let main_v2 : IVec S_ 1 := (fun x v => Host.reduce IntOp.andi x v reducesTo_S802816_S_d0 h_S_) main_v1 main_c_0
  let main_c_1 : IVec S_ 32 := constantI S_ 32 50176#32
  let main_v3 : IVec S802816 32 := broadcastInDim S802816 ![] bcast_S_S802816 main_c_1
  let main_v4 : IVec S802816 1 := cmpi .slt main_arg0 main_v3
  let main_c_2 : IVec S_ 1 := constantI S_ 1 1#1
  let main_v5 : IVec S_ 1 := (fun x v => Host.reduce IntOp.andi x v reducesTo_S802816_S_d0 h_S_) main_v4 main_c_2
  let main_v6 : IVec S_ 1 := andi main_v2 main_v5
  let main_c_3 : IVec S_ 32 := constantI S_ 32 0#32
  let main_v7 : IVec S50176 32 := broadcastInDim S50176 ![] bcast_S_S50176 main_c_3
  let main_v8 : IVec S50176 1 := cmpi .sge main_arg1 main_v7
  let main_c_4 : IVec S_ 1 := constantI S_ 1 1#1
  let main_v9 : IVec S_ 1 := (fun x v => Host.reduce IntOp.andi x v reducesTo_S50176_S_d0 h_S_) main_v8 main_c_4
  let main_v10 : IVec S_ 1 := andi main_v6 main_v9
  let main_c_5 : IVec S_ 32 := constantI S_ 32 80#32
  let main_v11 : IVec S50176 32 := broadcastInDim S50176 ![] bcast_S_S50176 main_c_5
  let main_v12 : IVec S50176 1 := cmpi .slt main_arg1 main_v11
  let main_c_6 : IVec S_ 1 := constantI S_ 1 1#1
  let main_v13 : IVec S_ 1 := (fun x v => Host.reduce IntOp.andi x v reducesTo_S50176_S_d0 h_S_) main_v12 main_c_6
  let main_v14 : IVec S_ 1 := andi main_v10 main_v13
  main_v14
-- ==== Kernel.lean ====
abbrev S802816 : Shape := ⟨1, ![802816]⟩
abbrev S50000x3 : Shape := ⟨2, ![50000, 3]⟩
abbrev S800000 : Shape := ⟨1, ![800000]⟩
abbrev S50000 : Shape := ⟨1, ![50000]⟩
abbrev S12500 : Shape := ⟨1, ![12500]⟩
abbrev S_ : Shape := ⟨0, ![]⟩
abbrev S2816 : Shape := ⟨1, ![2816]⟩
abbrev S1792 : Shape := ⟨1, ![1792]⟩
abbrev S8x128 : Shape := ⟨2, ![8, 128]⟩
abbrev S8 : Shape := ⟨1, ![8]⟩
abbrev S1x128 : Shape := ⟨2, ![1, 128]⟩
abbrev S128 : Shape := ⟨1, ![128]⟩
abbrev S1 : Shape := ⟨1, ![1]⟩
abbrev S16 : Shape := ⟨1, ![16]⟩
abbrev S1x16 : Shape := ⟨2, ![1, 16]⟩
abbrev S176 : Shape := ⟨1, ![176]⟩
abbrev S50176 : Shape := ⟨1, ![50176]⟩
abbrev S12 : Shape := ⟨1, ![12]⟩
abbrev S12512 : Shape := ⟨1, ![12512]⟩
abbrev S50176x3 : Shape := ⟨2, ![50176, 3]⟩
abbrev S50176x1 : Shape := ⟨2, ![50176, 1]⟩
abbrev S4x128 : Shape := ⟨2, ![4, 128]⟩
abbrev S12x128 : Shape := ⟨2, ![12, 128]⟩
abbrev S800000x1 : Shape := ⟨2, ![800000, 1]⟩
abbrev S800000x3 : Shape := ⟨2, ![800000, 3]⟩

abbrev nBuf : Table → Nat
  | .hbm => 49
  | .local .scVector .vmem => 20
  | _ => 0

abbrev bufTy : (tb : Table) → Fin (nBuf tb) → BufTy
  | .hbm, ⟨0, _⟩ => ⟨S802816, .i32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S50000, .i32⟩
  | .hbm, ⟨6, _⟩ => ⟨S12500, .i32⟩
  | .hbm, ⟨7, _⟩ => ⟨S_, .i32⟩
  | .hbm, ⟨8, _⟩ => ⟨S2816, .i32⟩
  | .hbm, ⟨9, _⟩ => ⟨S802816, .i32⟩
  | .hbm, ⟨10, _⟩ => ⟨S_, .i32⟩
  | .hbm, ⟨11, _⟩ => ⟨S2816, .i32⟩
  | .hbm, ⟨12, _⟩ => ⟨S802816, .i32⟩
  | .hbm, ⟨13, _⟩ => ⟨S_, .i32⟩
  | .hbm, ⟨14, _⟩ => ⟨S2816, .i32⟩
  | .hbm, ⟨15, _⟩ => ⟨S802816, .i32⟩
  | .hbm, ⟨16, _⟩ => ⟨S802816, .i32⟩
  | .hbm, ⟨17, _⟩ => ⟨S802816, .i32⟩
  | .hbm, ⟨18, _⟩ => ⟨S802816, .i32⟩
  | .hbm, ⟨19, _⟩ => ⟨S_, .i32⟩
  | .hbm, ⟨20, _⟩ => ⟨S176, .i32⟩
  | .hbm, ⟨21, _⟩ => ⟨S50176, .i32⟩
  | .hbm, ⟨22, _⟩ => ⟨S_, .i32⟩
  | .hbm, ⟨23, _⟩ => ⟨S12, .i32⟩
  | .hbm, ⟨24, _⟩ => ⟨S12512, .i32⟩
  | .hbm, ⟨25, _⟩ => ⟨S_, .i32⟩
  | .hbm, ⟨26, _⟩ => ⟨S_, .f32⟩
  | .hbm, ⟨27, _⟩ => ⟨S50176x3, .f32⟩
  | .hbm, ⟨28, _⟩ => ⟨S50176x1, .f32⟩
  | .hbm, ⟨29, _⟩ => ⟨S50176, .f32⟩
  | .hbm, ⟨30, _⟩ => ⟨S50176x1, .f32⟩
  | .hbm, ⟨31, _⟩ => ⟨S50176, .f32⟩
  | .hbm, ⟨32, _⟩ => ⟨S50176x1, .f32⟩
  | .hbm, ⟨33, _⟩ => ⟨S50176, .f32⟩
  | .hbm, ⟨34, _⟩ => ⟨S802816, .i32⟩
  | .hbm, ⟨35, _⟩ => ⟨S802816, .i32⟩
  | .hbm, ⟨36, _⟩ => ⟨S802816, .i32⟩
  | .hbm, ⟨37, _⟩ => ⟨S802816, .f32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x1, .i32⟩
  | .hbm, ⟨43, _⟩ => ⟨S800000x1, .i32⟩
  | .hbm, ⟨44, _⟩ => ⟨S800000x3, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000, .f32⟩
  | .local .scVector .vmem, ⟨0, _⟩ => ⟨S1792, .i32⟩
  | .local .scVector .vmem, ⟨1, _⟩ => ⟨S8x128, .i32⟩
  | .local .scVector .vmem, ⟨2, _⟩ => ⟨S8x128, .i32⟩
  | .local .scVector .vmem, ⟨3, _⟩ => ⟨S8x128, .i32⟩
  | .local .scVector .vmem, ⟨4, _⟩ => ⟨S8x128, .i32⟩
  | .local .scVector .vmem, ⟨5, _⟩ => ⟨S1792, .i32⟩
  | .local .scVector .vmem, ⟨6, _⟩ => ⟨S1792, .i32⟩
  | .local .scVector .vmem, ⟨7, _⟩ => ⟨S1792, .i32⟩
  | .local .scVector .vmem, ⟨8, _⟩ => ⟨S50176, .i32⟩
  | .local .scVector .vmem, ⟨9, _⟩ => ⟨S12512, .i32⟩
  | .local .scVector .vmem, ⟨10, _⟩ => ⟨S1792, .i32⟩
  | .local .scVector .vmem, ⟨11, _⟩ => ⟨S1792, .i32⟩
  | .local .scVector .vmem, ⟨12, _⟩ => ⟨S4x128, .i32⟩
  | .local .scVector .vmem, ⟨13, _⟩ => ⟨S4x128, .i32⟩
  | .local .scVector .vmem, ⟨14, _⟩ => ⟨S1792, .i32⟩
  | .local .scVector .vmem, ⟨15, _⟩ => ⟨S1792, .i32⟩
  | .local .scVector .vmem, ⟨16, _⟩ => ⟨S1792, .i32⟩
  | .local .scVector .vmem, ⟨17, _⟩ => ⟨S1792, .f32⟩
  | .local .scVector .vmem, ⟨18, _⟩ => ⟨S12x128, .f32⟩
  | .local .scVector .vmem, ⟨19, _⟩ => ⟨S12x128, .f32⟩
  | _, _ => ⟨S802816, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_arg0_scv : Ref sig .scVector := ⟨.hbm, 0, rfl⟩
abbrev main_v1_scv : Ref sig .scVector := ⟨.hbm, 9, rfl⟩
abbrev main_v3_scv : Ref sig .scVector := ⟨.hbm, 12, rfl⟩
abbrev main_v5_scv : Ref sig .scVector := ⟨.hbm, 15, rfl⟩
abbrev main_v6_0_scv : Ref sig .scVector := ⟨.hbm, 16, rfl⟩
abbrev main_v6_1_scv : Ref sig .scVector := ⟨.hbm, 17, rfl⟩
abbrev main_v6_2_scv : Ref sig .scVector := ⟨.hbm, 18, rfl⟩
abbrev main_v8_scv : Ref sig .scVector := ⟨.hbm, 21, rfl⟩
abbrev main_v10_scv : Ref sig .scVector := ⟨.hbm, 24, rfl⟩
abbrev main_v13_scv : Ref sig .scVector := ⟨.hbm, 29, rfl⟩
abbrev main_v15_scv : Ref sig .scVector := ⟨.hbm, 31, rfl⟩
abbrev main_v17_scv : Ref sig .scVector := ⟨.hbm, 33, rfl⟩
abbrev main_v18_0_scv : Ref sig .scVector := ⟨.hbm, 34, rfl⟩
abbrev main_v18_1_scv : Ref sig .scVector := ⟨.hbm, 35, rfl⟩
abbrev main_v18_2_scv : Ref sig .scVector := ⟨.hbm, 36, rfl⟩
abbrev main_v18_3_scv : Ref sig .scVector := ⟨.hbm, 37, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_scratch0 : Ref sig .scVector := ⟨.vmem, 8, rfl⟩
abbrev cc1_scratch1 : Ref sig .scVector := ⟨.vmem, 9, rfl⟩
abbrev cc1_scratch2 : Ref sig .scVector := ⟨.vmem, 10, rfl⟩
abbrev cc1_scratch3 : Ref sig .scVector := ⟨.vmem, 11, rfl⟩
abbrev cc1_scratch4 : Ref sig .scVector := ⟨.vmem, 12, rfl⟩
abbrev cc1_scratch5 : Ref sig .scVector := ⟨.vmem, 13, rfl⟩
abbrev cc1_scratch6 : Ref sig .scVector := ⟨.vmem, 14, rfl⟩
abbrev cc1_scratch7 : Ref sig .scVector := ⟨.vmem, 15, rfl⟩
abbrev cc1_scratch8 : Ref sig .scVector := ⟨.vmem, 16, rfl⟩
abbrev cc1_scratch9 : Ref sig .scVector := ⟨.vmem, 17, rfl⟩
abbrev cc1_scratch10 : Ref sig .scVector := ⟨.vmem, 18, rfl⟩
abbrev cc1_scratch11 : Ref sig .scVector := ⟨.vmem, 19, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c14_i32 : BitVec 32 := 14#32
  let v2 : BitVec 32 := Scalar.addi c0_i32_0 c14_i32
  let c1_i32 : BitVec 32 := 1#32
  ⟨c0_i32_0, v2, c1_i32⟩
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c25088_i32 : BitVec 32 := 25088#32
  let v4 : BitVec 32 := Scalar.muli v1 c25088_i32
  let c0_i32_0 : BitVec 32 := 0#32
  let c1_i32 : BitVec 32 := 1#32
  let arg20 : BitVec 32 := Scf.iv c0_i32_0 c1_i32 k0_t1
  let c1792_i32 : BitVec 32 := 1792#32
  let v5 : BitVec 32 := Scalar.muli arg20 c1792_i32
  let v6 : BitVec 32 := Scalar.addi v4 v5
  ![v6.toNat]
@[reducible] def k0_t2_loop : Scf.Loop 32 :=
  let c0_i32_3 : BitVec 32 := 0#32
  let c14_i32_4 : BitVec 32 := 14#32
  let v7 : BitVec 32 := Scalar.addi c0_i32_3 c14_i32_4
  let c1_i32_5 : BitVec 32 := 1#32
  ⟨c0_i32_3, v7, c1_i32_5⟩
def k0_cond1 (k0_t2 : Fin k0_t2_loop.trips) : BitVec 1 :=
  let c0_i32_3 : BitVec 32 := 0#32
  let c1_i32_5 : BitVec 32 := 1#32
  let arg22 : BitVec 32 := Scf.iv c0_i32_3 c1_i32_5 k0_t2
  let c2_i32 : BitVec 32 := 2#32
  let v198 : BitVec 1 := Scalar.cmpi .sge arg22 c2_i32
  let v199 : BitVec 32 := Scalar.extui v198
  let c0_i32_100 : BitVec 32 := 0#32
  let v200 : BitVec 1 := Scalar.cmpi .ne v199 c0_i32_100
  v200

def k0_off2 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let c0_i32_130 : BitVec 32 := 0#32
  ![v271.toNat, 0]
def k0_off3 (k0_t2 : Fin k0_t2_loop.trips) : Fin 1 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  ![v271.toNat]
def k0_off4 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v295 : Index := Scalar.indexCast v271
  let c0_141 : Index := 0#32
  ![v295.toNat, 0]
def k0_off5 (k0_t2 : Fin k0_t2_loop.trips) (c0_i32_140 : BitVec 32) : Fin 1 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c128_i32_139 : BitVec 32 := 128#32
  let v293 : BitVec 32 := Scalar.muli v270 c128_i32_139
  let v294 : BitVec 32 := Scalar.addi v293 c0_i32_140
  let v297 : Index := Scalar.indexCast v294
  ![v297.toNat]
def k0_off6 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v309 : Index := Scalar.indexCast v271
  let c16_146 : Index := 16#32
  ![v309.toNat, 16]
def k0_off7 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v323 : Index := Scalar.indexCast v271
  let c32_151 : Index := 32#32
  ![v323.toNat, 32]
def k0_off8 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v337 : Index := Scalar.indexCast v271
  let c48_156 : Index := 48#32
  ![v337.toNat, 48]
def k0_off9 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v351 : Index := Scalar.indexCast v271
  let c64_161 : Index := 64#32
  ![v351.toNat, 64]
def k0_off10 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v365 : Index := Scalar.indexCast v271
  let c80_166 : Index := 80#32
  ![v365.toNat, 80]
def k0_off11 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v379 : Index := Scalar.indexCast v271
  let c96_171 : Index := 96#32
  ![v379.toNat, 96]
def k0_off12 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c2_i32_128 : BitVec 32 := 2#32
  let v270 : BitVec 32 := Scalar.subi arg22 c2_i32_128
  let c8_i32_129 : BitVec 32 := 8#32
  let v271 : BitVec 32 := Scalar.remsi v270 c8_i32_129
  let v393 : Index := Scalar.indexCast v271
  let c112_176 : Index := 112#32
  ![v393.toNat, 112]
def k0_off13 (k0_t2 : Fin k0_t2_loop.trips) (c0_i32_101 : BitVec 32) : Fin 1 → Nat :=
  let c0_i32_3 : BitVec 32 := 0#32
  let c1_i32_5 : BitVec 32 := 1#32
  let arg22 : BitVec 32 := Scf.iv c0_i32_3 c1_i32_5 k0_t2
  let c128_i32 : BitVec 32 := 128#32
  let v201 : BitVec 32 := Scalar.muli arg22 c128_i32
  let v202 : BitVec 32 := Scalar.addi v201 c0_i32_101
  let v203 : Index := Scalar.indexCast v202
  ![v203.toNat]
def k0_off14 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v205 : Index := Scalar.indexCast v197
  let c0_102 : Index := 0#32
  ![v205.toNat, 0]
def k0_off15 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v211 : Index := Scalar.indexCast v197
  let c16_105 : Index := 16#32
  ![v211.toNat, 16]
def k0_off16 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v217 : Index := Scalar.indexCast v197
  let c32_107 : Index := 32#32
  ![v217.toNat, 32]
def k0_off17 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v223 : Index := Scalar.indexCast v197
  let c48_109 : Index := 48#32
  ![v223.toNat, 48]
def k0_off18 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v229 : Index := Scalar.indexCast v197
  let c64_111 : Index := 64#32
  ![v229.toNat, 64]
def k0_off19 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v235 : Index := Scalar.indexCast v197
  let c80_113 : Index := 80#32
  ![v235.toNat, 80]
def k0_off20 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v241 : Index := Scalar.indexCast v197
  let c96_115 : Index := 96#32
  ![v241.toNat, 96]
def k0_off21 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let v247 : Index := Scalar.indexCast v197
  let c112_117 : Index := 112#32
  ![v247.toNat, 112]
def k0_off22 (k0_t2 : Fin k0_t2_loop.trips) : Fin 2 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  let c0_i32_118 : BitVec 32 := 0#32
  ![v197.toNat, 0]
def k0_off23 (k0_t2 : Fin k0_t2_loop.trips) : Fin 1 → Nat :=
  let c0_i32_3 : BitVec 32 := 0#32
  let c1_i32_5 : BitVec 32 := 1#32
  let arg22 : BitVec 32 := Scf.iv c0_i32_3 c1_i32_5 k0_t2
  let c8_i32_99 : BitVec 32 := 8#32
  let v197 : BitVec 32 := Scalar.remsi arg22 c8_i32_99
  ![v197.toNat]
def k0_off24 (c12_i32 : BitVec 32) : Fin 2 → Nat :=
  let c8_i32 : BitVec 32 := 8#32
  let v9 : BitVec 32 := Scalar.remsi c12_i32 c8_i32
  let c0_i32_7 : BitVec 32 := 0#32
  ![v9.toNat, 0]
def k0_off25 (c12_i32 : BitVec 32) : Fin 1 → Nat :=
  let c8_i32 : BitVec 32 := 8#32
  let v9 : BitVec 32 := Scalar.remsi c12_i32 c8_i32
  ![v9.toNat]
def k0_off26 (c12_i32 : BitVec 32) : Fin 2 → Nat :=
  let c8_i32 : BitVec 32 := 8#32
  let v9 : BitVec 32 := Scalar.remsi c12_i32 c8_i32
  let v31 : Index := Scalar.indexCast v9
  let c0 : Index := 0#32
  ![v31.toNat, 0]
def k0_off27 (c12_i32 : BitVec 32) : Fin 2 → Nat :=
  let c8_i32 : BitVec 32 := 8#32
  let v9 : BitVec 32 := Scalar.remsi c12_i32 c8_i32
  let v40 : Index := Scalar.indexCast v9
  let c16 : Index := 16#32
  ![v40.toNat, 16]
def k0_off28 (c12_i32 : BitVec 32) : Fin 2 → Nat :=
  let c8_i32 : BitVec 32 := 8#32
  let v9 : BitVec 32 := Scalar.remsi c12_i32 c8_i32
  let v49 : Index := Scalar.indexCast v9
  let c32 : Index := 32#32
  ![v49.toNat, 32]
def k0_off29 (c12_i32 : BitVec 32) : Fin 2 → Nat :=
  let c8_i32 : BitVec 32 := 8#32
  let v9 : BitVec 32 := Scalar.remsi c12_i32 c8_i32
  let v58 : Index := Scalar.indexCast v9
  let c48 : Index := 48#32
  ![v58.toNat, 48]
def k0_off30 (c12_i32 : BitVec 32) : Fin 2 → Nat :=
  let c8_i32 : BitVec 32 := 8#32
  let v9 : BitVec 32 := Scalar.remsi c12_i32 c8_i32
  let v67 : Index := Scalar.indexCast v9
  let c64 : Index := 64#32
  ![v67.toNat, 64]
def k0_off31 (c12_i32 : BitVec 32) : Fin 2 → Nat :=
  let c8_i32 : BitVec 32 := 8#32
  let v9 : BitVec 32 := Scalar.remsi c12_i32 c8_i32
  let v76 : Index := Scalar.indexCast v9
  let c80 : Index := 80#32
  ![v76.toNat, 80]
def k0_off32 (c12_i32 : BitVec 32) : Fin 2 → Nat :=
  let c8_i32 : BitVec 32 := 8#32
  let v9 : BitVec 32 := Scalar.remsi c12_i32 c8_i32
  let v85 : Index := Scalar.indexCast v9
  let c96 : Index := 96#32
  ![v85.toNat, 96]
def k0_off33 (c12_i32 : BitVec 32) : Fin 2 → Nat :=
  let c8_i32 : BitVec 32 := 8#32
  let v9 : BitVec 32 := Scalar.remsi c12_i32 c8_i32
  let v94 : Index := Scalar.indexCast v9
  let c112 : Index := 112#32
  ![v94.toNat, 112]
abbrev grid1 : Pipeline.Grid := ⟨2, ![2, 16], ![false, false]⟩

@[reducible] def k1_t1_loop : Scf.Loop 32 :=
  let c0_i32_0 : BitVec 32 := 0#32
  let c14_i32 : BitVec 32 := 14#32
  let v2 : BitVec 32 := Scalar.addi c0_i32_0 c14_i32
  let c1_i32 : BitVec 32 := 1#32
  ⟨c0_i32_0, v2, c1_i32⟩
def k1_off1 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c25088_i32 : BitVec 32 := 25088#32
  let v4 : BitVec 32 := Scalar.muli v1 c25088_i32
  let c0_i32_0 : BitVec 32 := 0#32
  let c1_i32 : BitVec 32 := 1#32
  let arg27 : BitVec 32 := Scf.iv c0_i32_0 c1_i32 k1_t1
  let c1792_i32 : BitVec 32 := 1792#32
  let v5 : BitVec 32 := Scalar.muli arg27 c1792_i32
  let v6 : BitVec 32 := Scalar.addi v4 v5
  ![v6.toNat]
@[reducible] def k1_t2_loop : Scf.Loop 32 :=
  let c0_i32_3 : BitVec 32 := 0#32
  let c14_i32_4 : BitVec 32 := 14#32
  let v7 : BitVec 32 := Scalar.addi c0_i32_3 c14_i32_4
  let c1_i32_5 : BitVec 32 := 1#32
  ⟨c0_i32_3, v7, c1_i32_5⟩
def k1_cond1 (k1_t2 : Fin k1_t2_loop.trips) : BitVec 1 :=
  let c0_i32_3 : BitVec 32 := 0#32
  let c1_i32_5 : BitVec 32 := 1#32
  let arg29 : BitVec 32 := Scf.iv c0_i32_3 c1_i32_5 k1_t2
  let c2_i32_387 : BitVec 32 := 2#32
  let v704 : BitVec 1 := Scalar.cmpi .sge arg29 c2_i32_387
  let v705 : BitVec 32 := Scalar.extui v704
  let c0_i32_388 : BitVec 32 := 0#32
  let v706 : BitVec 1 := Scalar.cmpi .ne v705 c0_i32_388
  v706

def k1_off2 (k1_t2 : Fin k1_t2_loop.trips) (c0_i32_463 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_462 : BitVec 32 := 3#32
  let v963 : BitVec 32 := Scalar.muli v962 c3_i32_462
  let v964 : BitVec 32 := Scalar.addi v963 c0_i32_463
  let c0_i32_466 : BitVec 32 := 0#32
  ![v964.toNat, 0]
def k1_off3 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c0_i32_467 : BitVec 32 := 0#32
  ![v962.toNat, 0]
def k1_off4 (k1_t2 : Fin k1_t2_loop.trips) (c0_i32_465 : BitVec 32) : Fin 1 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_464 : BitVec 32 := 3#32
  let v965 : BitVec 32 := Scalar.muli v962 c3_i32_464
  let v966 : BitVec 32 := Scalar.addi v965 c0_i32_465
  ![v966.toNat]
def k1_off5 (k1_t2 : Fin k1_t2_loop.trips) (c0_i32_506 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_505 : BitVec 32 := 3#32
  let v1030 : BitVec 32 := Scalar.muli v962 c3_i32_505
  let v1031 : BitVec 32 := Scalar.addi v1030 c0_i32_506
  let v1032 : Index := Scalar.indexCast v1031
  let c0_507 : Index := 0#32
  ![v1032.toNat, 0]
def k1_off6 (k1_t2 : Fin k1_t2_loop.trips) (c0_i32_524 : BitVec 32) : Fin 1 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c128_i32_523 : BitVec 32 := 128#32
  let v1063 : BitVec 32 := Scalar.muli v961 c128_i32_523
  let v1064 : BitVec 32 := Scalar.addi v1063 c0_i32_524
  let v1065 : Index := Scalar.indexCast v1064
  ![v1065.toNat]
def k1_off7 (k1_t2 : Fin k1_t2_loop.trips) (c0_i32_527 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_526 : BitVec 32 := 3#32
  let v1068 : BitVec 32 := Scalar.muli v962 c3_i32_526
  let v1069 : BitVec 32 := Scalar.addi v1068 c0_i32_527
  let v1070 : Index := Scalar.indexCast v1069
  let c16_528 : Index := 16#32
  ![v1070.toNat, 16]
def k1_off8 (k1_t2 : Fin k1_t2_loop.trips) (c0_i32_548 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_547 : BitVec 32 := 3#32
  let v1106 : BitVec 32 := Scalar.muli v962 c3_i32_547
  let v1107 : BitVec 32 := Scalar.addi v1106 c0_i32_548
  let v1108 : Index := Scalar.indexCast v1107
  let c32_549 : Index := 32#32
  ![v1108.toNat, 32]
def k1_off9 (k1_t2 : Fin k1_t2_loop.trips) (c0_i32_569 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_568 : BitVec 32 := 3#32
  let v1144 : BitVec 32 := Scalar.muli v962 c3_i32_568
  let v1145 : BitVec 32 := Scalar.addi v1144 c0_i32_569
  let v1146 : Index := Scalar.indexCast v1145
  let c48_570 : Index := 48#32
  ![v1146.toNat, 48]
def k1_off10 (k1_t2 : Fin k1_t2_loop.trips) (c0_i32_590 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_589 : BitVec 32 := 3#32
  let v1182 : BitVec 32 := Scalar.muli v962 c3_i32_589
  let v1183 : BitVec 32 := Scalar.addi v1182 c0_i32_590
  let v1184 : Index := Scalar.indexCast v1183
  let c64_591 : Index := 64#32
  ![v1184.toNat, 64]
def k1_off11 (k1_t2 : Fin k1_t2_loop.trips) (c0_i32_611 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_610 : BitVec 32 := 3#32
  let v1220 : BitVec 32 := Scalar.muli v962 c3_i32_610
  let v1221 : BitVec 32 := Scalar.addi v1220 c0_i32_611
  let v1222 : Index := Scalar.indexCast v1221
  let c80_612 : Index := 80#32
  ![v1222.toNat, 80]
def k1_off12 (k1_t2 : Fin k1_t2_loop.trips) (c0_i32_632 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_631 : BitVec 32 := 3#32
  let v1258 : BitVec 32 := Scalar.muli v962 c3_i32_631
  let v1259 : BitVec 32 := Scalar.addi v1258 c0_i32_632
  let v1260 : Index := Scalar.indexCast v1259
  let c96_633 : Index := 96#32
  ![v1260.toNat, 96]
def k1_off13 (k1_t2 : Fin k1_t2_loop.trips) (c0_i32_653 : BitVec 32) : Fin 2 → Nat :=
  let c0_i32_3 : BitVec 32 := 0#32
  let c1_i32_5 : BitVec 32 := 1#32
  let arg29 : BitVec 32 := Scf.iv c0_i32_3 c1_i32_5 k1_t2
  let c2_i32_460 : BitVec 32 := 2#32
  let v961 : BitVec 32 := Scalar.subi arg29 c2_i32_460
  let c4_i32_461 : BitVec 32 := 4#32
  let v962 : BitVec 32 := Scalar.remsi v961 c4_i32_461
  let c3_i32_652 : BitVec 32 := 3#32
  let v1296 : BitVec 32 := Scalar.muli v962 c3_i32_652
  let v1297 : BitVec 32 := Scalar.addi v1296 c0_i32_653
  let v1298 : Index := Scalar.indexCast v1297
  let c112_654 : Index := 112#32
  ![v1298.toNat, 112]
def k1_off14 (k1_t2 : Fin k1_t2_loop.trips) : Fin 1 → Nat :=
  let c0_i32_3 : BitVec 32 := 0#32
  let c1_i32_5 : BitVec 32 := 1#32
  let arg29 : BitVec 32 := Scf.iv c0_i32_3 c1_i32_5 k1_t2
  let c128_i32 : BitVec 32 := 128#32
  let v707 : BitVec 32 := Scalar.muli arg29 c128_i32
  let c0_i32_389 : BitVec 32 := 0#32
  let v708 : BitVec 32 := Scalar.addi v707 c0_i32_389
  let v709 : Index := Scalar.indexCast v708
  ![v709.toNat]
def k1_off15 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v713 : Index := Scalar.indexCast v703
  let c0_390 : Index := 0#32
  ![v713.toNat, 0]

def k1_chk1 (v710 : IVec S16 32) : Prop :=
  (∀ a x, ((![v710] : Fin 1 → IVec S16 32) a x).toNat < S50176.size a)
theorem k1_idx1_inb : ∀ (v710 : IVec S16 32) (k1_hw1 : k1_chk1 v710), ∀ a x, ((![v710] : Fin 1 → IVec S16 32) a x).toNat < S50176.size a := fun v710 k1_hw1 => k1_hw1

def k1_chk2 (v712 : IVec S16 32) : Prop :=
  (∀ a x, ((![v712] : Fin 1 → IVec S16 32) a x).toNat < S50176.size a)
theorem k1_idx2_inb : ∀ (v712 : IVec S16 32) (k1_hw2 : k1_chk2 v712), ∀ a x, ((![v712] : Fin 1 → IVec S16 32) a x).toNat < S50176.size a := fun v712 k1_hw2 => k1_hw2

def k1_chk3 (v717 : IVec S16 32) : Prop :=
  (∀ a x, ((![v717] : Fin 1 → IVec S16 32) a x).toNat < S12512.size a)
theorem k1_idx3_inb : ∀ (v717 : IVec S16 32) (k1_hw3 : k1_chk3 v717), ∀ a x, ((![v717] : Fin 1 → IVec S16 32) a x).toNat < S12512.size a := fun v717 k1_hw3 => k1_hw3

def k1_chk4 (v718 : IVec S16 32) : Prop :=
  (∀ a x, ((![v718] : Fin 1 → IVec S16 32) a x).toNat < S12512.size a)
theorem k1_idx4_inb : ∀ (v718 : IVec S16 32) (k1_hw4 : k1_chk4 v718), ∀ a x, ((![v718] : Fin 1 → IVec S16 32) a x).toNat < S12512.size a := fun v718 k1_hw4 => k1_hw4
def k1_off16 (k1_t2 : Fin k1_t2_loop.trips) (c0_i32_389 : BitVec 32) : Fin 1 → Nat :=
  let c0_i32_3 : BitVec 32 := 0#32
  let c1_i32_5 : BitVec 32 := 1#32
  let arg29 : BitVec 32 := Scf.iv c0_i32_3 c1_i32_5 k1_t2
  let c128_i32 : BitVec 32 := 128#32
  let v707 : BitVec 32 := Scalar.muli arg29 c128_i32
  let v708 : BitVec 32 := Scalar.addi v707 c0_i32_389
  let v725 : Index := Scalar.indexCast v708
  ![v725.toNat]
def k1_off17 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v737 : Index := Scalar.indexCast v703
  let c16_394 : Index := 16#32
  ![v737.toNat, 16]

def k1_chk5 (v734 : IVec S16 32) : Prop :=
  (∀ a x, ((![v734] : Fin 1 → IVec S16 32) a x).toNat < S50176.size a)
theorem k1_idx5_inb : ∀ (v734 : IVec S16 32) (k1_hw5 : k1_chk5 v734), ∀ a x, ((![v734] : Fin 1 → IVec S16 32) a x).toNat < S50176.size a := fun v734 k1_hw5 => k1_hw5

def k1_chk6 (v736 : IVec S16 32) : Prop :=
  (∀ a x, ((![v736] : Fin 1 → IVec S16 32) a x).toNat < S50176.size a)
theorem k1_idx6_inb : ∀ (v736 : IVec S16 32) (k1_hw6 : k1_chk6 v736), ∀ a x, ((![v736] : Fin 1 → IVec S16 32) a x).toNat < S50176.size a := fun v736 k1_hw6 => k1_hw6

def k1_chk7 (v741 : IVec S16 32) : Prop :=
  (∀ a x, ((![v741] : Fin 1 → IVec S16 32) a x).toNat < S12512.size a)
theorem k1_idx7_inb : ∀ (v741 : IVec S16 32) (k1_hw7 : k1_chk7 v741), ∀ a x, ((![v741] : Fin 1 → IVec S16 32) a x).toNat < S12512.size a := fun v741 k1_hw7 => k1_hw7

def k1_chk8 (v742 : IVec S16 32) : Prop :=
  (∀ a x, ((![v742] : Fin 1 → IVec S16 32) a x).toNat < S12512.size a)
theorem k1_idx8_inb : ∀ (v742 : IVec S16 32) (k1_hw8 : k1_chk8 v742), ∀ a x, ((![v742] : Fin 1 → IVec S16 32) a x).toNat < S12512.size a := fun v742 k1_hw8 => k1_hw8
def k1_off18 (k1_t2 : Fin k1_t2_loop.trips) (c16_i32_393 : BitVec 32) : Fin 1 → Nat :=
  let c0_i32_3 : BitVec 32 := 0#32
  let c1_i32_5 : BitVec 32 := 1#32
  let arg29 : BitVec 32 := Scf.iv c0_i32_3 c1_i32_5 k1_t2
  let c128_i32_392 : BitVec 32 := 128#32
  let v731 : BitVec 32 := Scalar.muli arg29 c128_i32_392
  let v732 : BitVec 32 := Scalar.addi v731 c16_i32_393
  let v749 : Index := Scalar.indexCast v732
  ![v749.toNat]
def k1_off19 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v761 : Index := Scalar.indexCast v703
  let c32_398 : Index := 32#32
  ![v761.toNat, 32]

def k1_chk9 (v758 : IVec S16 32) : Prop :=
  (∀ a x, ((![v758] : Fin 1 → IVec S16 32) a x).toNat < S50176.size a)
theorem k1_idx9_inb : ∀ (v758 : IVec S16 32) (k1_hw9 : k1_chk9 v758), ∀ a x, ((![v758] : Fin 1 → IVec S16 32) a x).toNat < S50176.size a := fun v758 k1_hw9 => k1_hw9

def k1_chk10 (v760 : IVec S16 32) : Prop :=
  (∀ a x, ((![v760] : Fin 1 → IVec S16 32) a x).toNat < S50176.size a)
theorem k1_idx10_inb : ∀ (v760 : IVec S16 32) (k1_hw10 : k1_chk10 v760), ∀ a x, ((![v760] : Fin 1 → IVec S16 32) a x).toNat < S50176.size a := fun v760 k1_hw10 => k1_hw10

def k1_chk11 (v765 : IVec S16 32) : Prop :=
  (∀ a x, ((![v765] : Fin 1 → IVec S16 32) a x).toNat < S12512.size a)
theorem k1_idx11_inb : ∀ (v765 : IVec S16 32) (k1_hw11 : k1_chk11 v765), ∀ a x, ((![v765] : Fin 1 → IVec S16 32) a x).toNat < S12512.size a := fun v765 k1_hw11 => k1_hw11

def k1_chk12 (v766 : IVec S16 32) : Prop :=
  (∀ a x, ((![v766] : Fin 1 → IVec S16 32) a x).toNat < S12512.size a)
theorem k1_idx12_inb : ∀ (v766 : IVec S16 32) (k1_hw12 : k1_chk12 v766), ∀ a x, ((![v766] : Fin 1 → IVec S16 32) a x).toNat < S12512.size a := fun v766 k1_hw12 => k1_hw12
def k1_off20 (k1_t2 : Fin k1_t2_loop.trips) (c32_i32 : BitVec 32) : Fin 1 → Nat :=
  let c0_i32_3 : BitVec 32 := 0#32
  let c1_i32_5 : BitVec 32 := 1#32
  let arg29 : BitVec 32 := Scf.iv c0_i32_3 c1_i32_5 k1_t2
  let c128_i32_397 : BitVec 32 := 128#32
  let v755 : BitVec 32 := Scalar.muli arg29 c128_i32_397
  let v756 : BitVec 32 := Scalar.addi v755 c32_i32
  let v773 : Index := Scalar.indexCast v756
  ![v773.toNat]
def k1_off21 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v785 : Index := Scalar.indexCast v703
  let c48_402 : Index := 48#32
  ![v785.toNat, 48]

def k1_chk13 (v782 : IVec S16 32) : Prop :=
  (∀ a x, ((![v782] : Fin 1 → IVec S16 32) a x).toNat < S50176.size a)
theorem k1_idx13_inb : ∀ (v782 : IVec S16 32) (k1_hw13 : k1_chk13 v782), ∀ a x, ((![v782] : Fin 1 → IVec S16 32) a x).toNat < S50176.size a := fun v782 k1_hw13 => k1_hw13

def k1_chk14 (v784 : IVec S16 32) : Prop :=
  (∀ a x, ((![v784] : Fin 1 → IVec S16 32) a x).toNat < S50176.size a)
theorem k1_idx14_inb : ∀ (v784 : IVec S16 32) (k1_hw14 : k1_chk14 v784), ∀ a x, ((![v784] : Fin 1 → IVec S16 32) a x).toNat < S50176.size a := fun v784 k1_hw14 => k1_hw14

def k1_chk15 (v789 : IVec S16 32) : Prop :=
  (∀ a x, ((![v789] : Fin 1 → IVec S16 32) a x).toNat < S12512.size a)
theorem k1_idx15_inb : ∀ (v789 : IVec S16 32) (k1_hw15 : k1_chk15 v789), ∀ a x, ((![v789] : Fin 1 → IVec S16 32) a x).toNat < S12512.size a := fun v789 k1_hw15 => k1_hw15

def k1_chk16 (v790 : IVec S16 32) : Prop :=
  (∀ a x, ((![v790] : Fin 1 → IVec S16 32) a x).toNat < S12512.size a)
theorem k1_idx16_inb : ∀ (v790 : IVec S16 32) (k1_hw16 : k1_chk16 v790), ∀ a x, ((![v790] : Fin 1 → IVec S16 32) a x).toNat < S12512.size a := fun v790 k1_hw16 => k1_hw16
def k1_off22 (k1_t2 : Fin k1_t2_loop.trips) (c48_i32 : BitVec 32) : Fin 1 → Nat :=
  let c0_i32_3 : BitVec 32 := 0#32
  let c1_i32_5 : BitVec 32 := 1#32
  let arg29 : BitVec 32 := Scf.iv c0_i32_3 c1_i32_5 k1_t2
  let c128_i32_401 : BitVec 32 := 128#32
  let v779 : BitVec 32 := Scalar.muli arg29 c128_i32_401
  let v780 : BitVec 32 := Scalar.addi v779 c48_i32
  let v797 : Index := Scalar.indexCast v780
  ![v797.toNat]
def k1_off23 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v809 : Index := Scalar.indexCast v703
  let c64_406 : Index := 64#32
  ![v809.toNat, 64]

def k1_chk17 (v806 : IVec S16 32) : Prop :=
  (∀ a x, ((![v806] : Fin 1 → IVec S16 32) a x).toNat < S50176.size a)
theorem k1_idx17_inb : ∀ (v806 : IVec S16 32) (k1_hw17 : k1_chk17 v806), ∀ a x, ((![v806] : Fin 1 → IVec S16 32) a x).toNat < S50176.size a := fun v806 k1_hw17 => k1_hw17

def k1_chk18 (v808 : IVec S16 32) : Prop :=
  (∀ a x, ((![v808] : Fin 1 → IVec S16 32) a x).toNat < S50176.size a)
theorem k1_idx18_inb : ∀ (v808 : IVec S16 32) (k1_hw18 : k1_chk18 v808), ∀ a x, ((![v808] : Fin 1 → IVec S16 32) a x).toNat < S50176.size a := fun v808 k1_hw18 => k1_hw18

def k1_chk19 (v813 : IVec S16 32) : Prop :=
  (∀ a x, ((![v813] : Fin 1 → IVec S16 32) a x).toNat < S12512.size a)
theorem k1_idx19_inb : ∀ (v813 : IVec S16 32) (k1_hw19 : k1_chk19 v813), ∀ a x, ((![v813] : Fin 1 → IVec S16 32) a x).toNat < S12512.size a := fun v813 k1_hw19 => k1_hw19

def k1_chk20 (v814 : IVec S16 32) : Prop :=
  (∀ a x, ((![v814] : Fin 1 → IVec S16 32) a x).toNat < S12512.size a)
theorem k1_idx20_inb : ∀ (v814 : IVec S16 32) (k1_hw20 : k1_chk20 v814), ∀ a x, ((![v814] : Fin 1 → IVec S16 32) a x).toNat < S12512.size a := fun v814 k1_hw20 => k1_hw20
def k1_off24 (k1_t2 : Fin k1_t2_loop.trips) (c64_i32 : BitVec 32) : Fin 1 → Nat :=
  let c0_i32_3 : BitVec 32 := 0#32
  let c1_i32_5 : BitVec 32 := 1#32
  let arg29 : BitVec 32 := Scf.iv c0_i32_3 c1_i32_5 k1_t2
  let c128_i32_405 : BitVec 32 := 128#32
  let v803 : BitVec 32 := Scalar.muli arg29 c128_i32_405
  let v804 : BitVec 32 := Scalar.addi v803 c64_i32
  let v821 : Index := Scalar.indexCast v804
  ![v821.toNat]
def k1_off25 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v833 : Index := Scalar.indexCast v703
  let c80_410 : Index := 80#32
  ![v833.toNat, 80]

def k1_chk21 (v830 : IVec S16 32) : Prop :=
  (∀ a x, ((![v830] : Fin 1 → IVec S16 32) a x).toNat < S50176.size a)
theorem k1_idx21_inb : ∀ (v830 : IVec S16 32) (k1_hw21 : k1_chk21 v830), ∀ a x, ((![v830] : Fin 1 → IVec S16 32) a x).toNat < S50176.size a := fun v830 k1_hw21 => k1_hw21

def k1_chk22 (v832 : IVec S16 32) : Prop :=
  (∀ a x, ((![v832] : Fin 1 → IVec S16 32) a x).toNat < S50176.size a)
theorem k1_idx22_inb : ∀ (v832 : IVec S16 32) (k1_hw22 : k1_chk22 v832), ∀ a x, ((![v832] : Fin 1 → IVec S16 32) a x).toNat < S50176.size a := fun v832 k1_hw22 => k1_hw22

def k1_chk23 (v837 : IVec S16 32) : Prop :=
  (∀ a x, ((![v837] : Fin 1 → IVec S16 32) a x).toNat < S12512.size a)
theorem k1_idx23_inb : ∀ (v837 : IVec S16 32) (k1_hw23 : k1_chk23 v837), ∀ a x, ((![v837] : Fin 1 → IVec S16 32) a x).toNat < S12512.size a := fun v837 k1_hw23 => k1_hw23

def k1_chk24 (v838 : IVec S16 32) : Prop :=
  (∀ a x, ((![v838] : Fin 1 → IVec S16 32) a x).toNat < S12512.size a)
theorem k1_idx24_inb : ∀ (v838 : IVec S16 32) (k1_hw24 : k1_chk24 v838), ∀ a x, ((![v838] : Fin 1 → IVec S16 32) a x).toNat < S12512.size a := fun v838 k1_hw24 => k1_hw24
def k1_off26 (k1_t2 : Fin k1_t2_loop.trips) (c80_i32 : BitVec 32) : Fin 1 → Nat :=
  let c0_i32_3 : BitVec 32 := 0#32
  let c1_i32_5 : BitVec 32 := 1#32
  let arg29 : BitVec 32 := Scf.iv c0_i32_3 c1_i32_5 k1_t2
  let c128_i32_409 : BitVec 32 := 128#32
  let v827 : BitVec 32 := Scalar.muli arg29 c128_i32_409
  let v828 : BitVec 32 := Scalar.addi v827 c80_i32
  let v845 : Index := Scalar.indexCast v828
  ![v845.toNat]
def k1_off27 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v857 : Index := Scalar.indexCast v703
  let c96_414 : Index := 96#32
  ![v857.toNat, 96]

def k1_chk25 (v854 : IVec S16 32) : Prop :=
  (∀ a x, ((![v854] : Fin 1 → IVec S16 32) a x).toNat < S50176.size a)
theorem k1_idx25_inb : ∀ (v854 : IVec S16 32) (k1_hw25 : k1_chk25 v854), ∀ a x, ((![v854] : Fin 1 → IVec S16 32) a x).toNat < S50176.size a := fun v854 k1_hw25 => k1_hw25

def k1_chk26 (v856 : IVec S16 32) : Prop :=
  (∀ a x, ((![v856] : Fin 1 → IVec S16 32) a x).toNat < S50176.size a)
theorem k1_idx26_inb : ∀ (v856 : IVec S16 32) (k1_hw26 : k1_chk26 v856), ∀ a x, ((![v856] : Fin 1 → IVec S16 32) a x).toNat < S50176.size a := fun v856 k1_hw26 => k1_hw26

def k1_chk27 (v861 : IVec S16 32) : Prop :=
  (∀ a x, ((![v861] : Fin 1 → IVec S16 32) a x).toNat < S12512.size a)
theorem k1_idx27_inb : ∀ (v861 : IVec S16 32) (k1_hw27 : k1_chk27 v861), ∀ a x, ((![v861] : Fin 1 → IVec S16 32) a x).toNat < S12512.size a := fun v861 k1_hw27 => k1_hw27

def k1_chk28 (v862 : IVec S16 32) : Prop :=
  (∀ a x, ((![v862] : Fin 1 → IVec S16 32) a x).toNat < S12512.size a)
theorem k1_idx28_inb : ∀ (v862 : IVec S16 32) (k1_hw28 : k1_chk28 v862), ∀ a x, ((![v862] : Fin 1 → IVec S16 32) a x).toNat < S12512.size a := fun v862 k1_hw28 => k1_hw28
def k1_off28 (k1_t2 : Fin k1_t2_loop.trips) (c96_i32 : BitVec 32) : Fin 1 → Nat :=
  let c0_i32_3 : BitVec 32 := 0#32
  let c1_i32_5 : BitVec 32 := 1#32
  let arg29 : BitVec 32 := Scf.iv c0_i32_3 c1_i32_5 k1_t2
  let c128_i32_413 : BitVec 32 := 128#32
  let v851 : BitVec 32 := Scalar.muli arg29 c128_i32_413
  let v852 : BitVec 32 := Scalar.addi v851 c96_i32
  let v869 : Index := Scalar.indexCast v852
  ![v869.toNat]
def k1_off29 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let v881 : Index := Scalar.indexCast v703
  let c112_418 : Index := 112#32
  ![v881.toNat, 112]

def k1_chk29 (v878 : IVec S16 32) : Prop :=
  (∀ a x, ((![v878] : Fin 1 → IVec S16 32) a x).toNat < S50176.size a)
theorem k1_idx29_inb : ∀ (v878 : IVec S16 32) (k1_hw29 : k1_chk29 v878), ∀ a x, ((![v878] : Fin 1 → IVec S16 32) a x).toNat < S50176.size a := fun v878 k1_hw29 => k1_hw29

def k1_chk30 (v880 : IVec S16 32) : Prop :=
  (∀ a x, ((![v880] : Fin 1 → IVec S16 32) a x).toNat < S50176.size a)
theorem k1_idx30_inb : ∀ (v880 : IVec S16 32) (k1_hw30 : k1_chk30 v880), ∀ a x, ((![v880] : Fin 1 → IVec S16 32) a x).toNat < S50176.size a := fun v880 k1_hw30 => k1_hw30

def k1_chk31 (v885 : IVec S16 32) : Prop :=
  (∀ a x, ((![v885] : Fin 1 → IVec S16 32) a x).toNat < S12512.size a)
theorem k1_idx31_inb : ∀ (v885 : IVec S16 32) (k1_hw31 : k1_chk31 v885), ∀ a x, ((![v885] : Fin 1 → IVec S16 32) a x).toNat < S12512.size a := fun v885 k1_hw31 => k1_hw31

def k1_chk32 (v886 : IVec S16 32) : Prop :=
  (∀ a x, ((![v886] : Fin 1 → IVec S16 32) a x).toNat < S12512.size a)
theorem k1_idx32_inb : ∀ (v886 : IVec S16 32) (k1_hw32 : k1_chk32 v886), ∀ a x, ((![v886] : Fin 1 → IVec S16 32) a x).toNat < S12512.size a := fun v886 k1_hw32 => k1_hw32
def k1_off30 (k1_t2 : Fin k1_t2_loop.trips) : Fin 1 → Nat :=
  let c0_i32_3 : BitVec 32 := 0#32
  let c1_i32_5 : BitVec 32 := 1#32
  let arg29 : BitVec 32 := Scf.iv c0_i32_3 c1_i32_5 k1_t2
  let c128_i32_417 : BitVec 32 := 128#32
  let v875 : BitVec 32 := Scalar.muli arg29 c128_i32_417
  let c112_i32 : BitVec 32 := 112#32
  let v876 : BitVec 32 := Scalar.addi v875 c112_i32
  let v893 : Index := Scalar.indexCast v876
  ![v893.toNat]
def k1_off31 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let c3_i32_421 : BitVec 32 := 3#32
  let v899 : BitVec 32 := Scalar.muli v703 c3_i32_421
  let c0_i32_423 : BitVec 32 := 0#32
  ![v899.toNat, 0]
def k1_off32 (k1_t2 : Fin k1_t2_loop.trips) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let c0_i32_424 : BitVec 32 := 0#32
  ![v703.toNat, 0]
def k1_off33 (k1_t2 : Fin k1_t2_loop.trips) : Fin 1 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let c3_i32_422 : BitVec 32 := 3#32
  let v900 : BitVec 32 := Scalar.muli v703 c3_i32_422
  ![v900.toNat]
def k1_off34 (k1_t2 : Fin k1_t2_loop.trips) (c1_i32_427 : BitVec 32) : Fin 2 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let c3_i32_426 : BitVec 32 := 3#32
  let v908 : BitVec 32 := Scalar.muli v703 c3_i32_426
  let v909 : BitVec 32 := Scalar.addi v908 c1_i32_427
  let c0_i32_430 : BitVec 32 := 0#32
  ![v909.toNat, 0]
def k1_off35 (k1_t2 : Fin k1_t2_loop.trips) (c1_i32_429 : BitVec 32) : Fin 1 → Nat :=
  let c0_i32_3 : BitVec 32 := 0#32
  let c1_i32_5 : BitVec 32 := 1#32
  let arg29 : BitVec 32 := Scf.iv c0_i32_3 c1_i32_5 k1_t2
  let c4_i32_386 : BitVec 32 := 4#32
  let v703 : BitVec 32 := Scalar.remsi arg29 c4_i32_386
  let c3_i32_428 : BitVec 32 := 3#32
  let v910 : BitVec 32 := Scalar.muli v703 c3_i32_428
  let v911 : BitVec 32 := Scalar.addi v910 c1_i32_429
  ![v911.toNat]
def k1_off36 (c12_i32 : BitVec 32) (c0_i32_7 : BitVec 32) : Fin 2 → Nat :=
  let c4_i32 : BitVec 32 := 4#32
  let v9 : BitVec 32 := Scalar.remsi c12_i32 c4_i32
  let c3_i32 : BitVec 32 := 3#32
  let v10 : BitVec 32 := Scalar.muli v9 c3_i32
  let v11 : BitVec 32 := Scalar.addi v10 c0_i32_7
  let c0_i32_10 : BitVec 32 := 0#32
  ![v11.toNat, 0]
def k1_off37 (c12_i32 : BitVec 32) : Fin 2 → Nat :=
  let c4_i32 : BitVec 32 := 4#32
  let v9 : BitVec 32 := Scalar.remsi c12_i32 c4_i32
  let c0_i32_11 : BitVec 32 := 0#32
  ![v9.toNat, 0]
def k1_off38 (c12_i32 : BitVec 32) (c0_i32_9 : BitVec 32) : Fin 1 → Nat :=
  let c4_i32 : BitVec 32 := 4#32
  let v9 : BitVec 32 := Scalar.remsi c12_i32 c4_i32
  let c3_i32_8 : BitVec 32 := 3#32
  let v12 : BitVec 32 := Scalar.muli v9 c3_i32_8
  let v13 : BitVec 32 := Scalar.addi v12 c0_i32_9
  ![v13.toNat]
def k1_off39 (c12_i32 : BitVec 32) (c0_i32_48 : BitVec 32) : Fin 2 → Nat :=
  let c4_i32 : BitVec 32 := 4#32
  let v9 : BitVec 32 := Scalar.remsi c12_i32 c4_i32
  let c3_i32_47 : BitVec 32 := 3#32
  let v77 : BitVec 32 := Scalar.muli v9 c3_i32_47
  let v78 : BitVec 32 := Scalar.addi v77 c0_i32_48
  let v79 : Index := Scalar.indexCast v78
  let c0 : Index := 0#32
  ![v79.toNat, 0]
def k1_off40 (c12_i32 : BitVec 32) (c0_i32_66 : BitVec 32) : Fin 2 → Nat :=
  let c4_i32 : BitVec 32 := 4#32
  let v9 : BitVec 32 := Scalar.remsi c12_i32 c4_i32
  let c3_i32_65 : BitVec 32 := 3#32
  let v112 : BitVec 32 := Scalar.muli v9 c3_i32_65
  let v113 : BitVec 32 := Scalar.addi v112 c0_i32_66
  let v114 : Index := Scalar.indexCast v113
  let c16 : Index := 16#32
  ![v114.toNat, 16]
def k1_off41 (c12_i32 : BitVec 32) (c0_i32_84 : BitVec 32) : Fin 2 → Nat :=
  let c4_i32 : BitVec 32 := 4#32
  let v9 : BitVec 32 := Scalar.remsi c12_i32 c4_i32
  let c3_i32_83 : BitVec 32 := 3#32
  let v147 : BitVec 32 := Scalar.muli v9 c3_i32_83
  let v148 : BitVec 32 := Scalar.addi v147 c0_i32_84
  let v149 : Index := Scalar.indexCast v148
  let c32 : Index := 32#32
  ![v149.toNat, 32]
def k1_off42 (c12_i32 : BitVec 32) (c0_i32_102 : BitVec 32) : Fin 2 → Nat :=
  let c4_i32 : BitVec 32 := 4#32
  let v9 : BitVec 32 := Scalar.remsi c12_i32 c4_i32
  let c3_i32_101 : BitVec 32 := 3#32
  let v182 : BitVec 32 := Scalar.muli v9 c3_i32_101
  let v183 : BitVec 32 := Scalar.addi v182 c0_i32_102
  let v184 : Index := Scalar.indexCast v183
  let c48 : Index := 48#32
  ![v184.toNat, 48]
def k1_off43 (c12_i32 : BitVec 32) (c0_i32_120 : BitVec 32) : Fin 2 → Nat :=
  let c4_i32 : BitVec 32 := 4#32
  let v9 : BitVec 32 := Scalar.remsi c12_i32 c4_i32
  let c3_i32_119 : BitVec 32 := 3#32
  let v217 : BitVec 32 := Scalar.muli v9 c3_i32_119
  let v218 : BitVec 32 := Scalar.addi v217 c0_i32_120
  let v219 : Index := Scalar.indexCast v218
  let c64 : Index := 64#32
  ![v219.toNat, 64]
def k1_off44 (c12_i32 : BitVec 32) (c0_i32_138 : BitVec 32) : Fin 2 → Nat :=
  let c4_i32 : BitVec 32 := 4#32
  let v9 : BitVec 32 := Scalar.remsi c12_i32 c4_i32
  let c3_i32_137 : BitVec 32 := 3#32
  let v252 : BitVec 32 := Scalar.muli v9 c3_i32_137
  let v253 : BitVec 32 := Scalar.addi v252 c0_i32_138
  let v254 : Index := Scalar.indexCast v253
  let c80 : Index := 80#32
  ![v254.toNat, 80]
def k1_off45 (c12_i32 : BitVec 32) (c0_i32_156 : BitVec 32) : Fin 2 → Nat :=
  let c4_i32 : BitVec 32 := 4#32
  let v9 : BitVec 32 := Scalar.remsi c12_i32 c4_i32
  let c3_i32_155 : BitVec 32 := 3#32
  let v287 : BitVec 32 := Scalar.muli v9 c3_i32_155
  let v288 : BitVec 32 := Scalar.addi v287 c0_i32_156
  let v289 : Index := Scalar.indexCast v288
  let c96 : Index := 96#32
  ![v289.toNat, 96]
def k1_off46 (c12_i32 : BitVec 32) (c0_i32_174 : BitVec 32) : Fin 2 → Nat :=
  let c4_i32 : BitVec 32 := 4#32
  let v9 : BitVec 32 := Scalar.remsi c12_i32 c4_i32
  let c3_i32_173 : BitVec 32 := 3#32
  let v322 : BitVec 32 := Scalar.muli v9 c3_i32_173
  let v323 : BitVec 32 := Scalar.addi v322 c0_i32_174
  let v324 : Index := Scalar.indexCast v323
  let c112 : Index := 112#32
  ![v324.toNat, 112]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S802816 : Shape := ⟨1, ![802816]⟩
abbrev S50000x3 : Shape := ⟨2, ![50000, 3]⟩
abbrev S800000 : Shape := ⟨1, ![800000]⟩
abbrev S50000 : Shape := ⟨1, ![50000]⟩
abbrev S12500 : Shape := ⟨1, ![12500]⟩
abbrev S_ : Shape := ⟨0, ![]⟩
abbrev S800000x1 : Shape := ⟨2, ![800000, 1]⟩
abbrev S800000x3 : Shape := ⟨2, ![800000, 3]⟩

abbrev nBuf : Space → Nat
  | .hbm => 107
  | .vmem => 0
  | .smem => 0
  | _ => 0

abbrev bufTy : (tb : Table) → Fin (tcTables nBuf tb) → BufTy
  | .hbm, ⟨0, _⟩ => ⟨S802816, .i32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S50000, .i32⟩
  | .hbm, ⟨6, _⟩ => ⟨S12500, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x3, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x3, .f32⟩
  | .hbm, ⟨72, _⟩ => ⟨S800000x3, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000, .i32⟩
  | .hbm, ⟨82, _⟩ => ⟨S800000x1, .i32⟩
  | .hbm, ⟨83, _⟩ => ⟨S800000x1, .i32⟩
  | .hbm, ⟨84, _⟩ => ⟨S800000x1, .i32⟩
  | .hbm, ⟨85, _⟩ => ⟨S800000x3, .i32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000, .i32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000, .i32⟩
  | .hbm, ⟨104, _⟩ => ⟨S800000x3, .f32⟩
  | .hbm, ⟨105, _⟩ => ⟨S_, .f32⟩
  | .hbm, ⟨106, _⟩ => ⟨S800000, .f32⟩
  | _, _ => ⟨S802816, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_c_8 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_c_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_17 : Ref sig .tc := ⟨.hbm, 95, rfl⟩
abbrev main_v65 : Ref sig .tc := ⟨.hbm, 96, rfl⟩
abbrev main_v66 : Ref sig .tc := ⟨.hbm, 97, rfl⟩
abbrev main_c_18 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst : Ref sig .tc := ⟨.hbm, 105, rfl⟩
abbrev main_v73 : Ref sig .tc := ⟨.hbm, 106, rfl⟩

abbrev nD : Nat := 1
abbrev τ : Topo := Topo.v7x

variable {F : FTy → Type} [FloatOps F]
-- ==== Feature.lean ====
abbrev S800000 : Shape := ⟨1, ![800000]⟩
abbrev S64 : Shape := ⟨1, ![64]⟩
abbrev S125x1x6400 : Shape := ⟨3, ![125, 1, 6400]⟩
abbrev S800000x61 : Shape := ⟨2, ![800000, 61]⟩
abbrev S1x1x6400 : Shape := ⟨3, ![1, 1, 6400]⟩
abbrev S6400x61 : Shape := ⟨2, ![6400, 61]⟩
abbrev S6400 : Shape := ⟨1, ![6400]⟩
abbrev S6400x1 : Shape := ⟨2, ![6400, 1]⟩
abbrev S6400x64 : Shape := ⟨2, ![6400, 64]⟩
abbrev S1x64 : Shape := ⟨2, ![1, 64]⟩

abbrev nBuf : Space → Nat
  | .hbm => 14
  | .vmem => 16
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S64, .i32⟩
  | .hbm, ⟨6, _⟩ => ⟨S64, .i32⟩
  | .hbm, ⟨7, _⟩ => ⟨S125x1x6400, .i32⟩
  | .hbm, ⟨8, _⟩ => ⟨S125x1x6400, .i32⟩
  | .hbm, ⟨9, _⟩ => ⟨S125x1x6400, .i32⟩
  | .hbm, ⟨10, _⟩ => ⟨S125x1x6400, .i32⟩
  | .hbm, ⟨11, _⟩ => ⟨S125x1x6400, .f32⟩
  | .hbm, ⟨12, _⟩ => ⟨S800000x61, .f32⟩
  | .hbm, ⟨13, _⟩ => ⟨S125x1x6400, .i32⟩
  | .local _ .vmem, ⟨0, _⟩ => ⟨S1x1x6400, .i32⟩
  | .local _ .vmem, ⟨1, _⟩ => ⟨S1x1x6400, .i32⟩
  | .local _ .vmem, ⟨2, _⟩ => ⟨S1x1x6400, .i32⟩
  | .local _ .vmem, ⟨3, _⟩ => ⟨S1x1x6400, .i32⟩
  | .local _ .vmem, ⟨4, _⟩ => ⟨S1x1x6400, .i32⟩
  | .local _ .vmem, ⟨5, _⟩ => ⟨S1x1x6400, .i32⟩
  | .local _ .vmem, ⟨6, _⟩ => ⟨S1x1x6400, .i32⟩
  | .local _ .vmem, ⟨7, _⟩ => ⟨S1x1x6400, .i32⟩
  | .local _ .vmem, ⟨8, _⟩ => ⟨S1x1x6400, .f32⟩
  | .local _ .vmem, ⟨9, _⟩ => ⟨S1x1x6400, .f32⟩
  | .local _ .vmem, ⟨10, _⟩ => ⟨S64, .i32⟩
  | .local _ .vmem, ⟨11, _⟩ => ⟨S64, .i32⟩
  | .local _ .vmem, ⟨12, _⟩ => ⟨S6400x61, .f32⟩
  | .local _ .vmem, ⟨13, _⟩ => ⟨S6400x61, .f32⟩
  | .local _ .vmem, ⟨14, _⟩ => ⟨S1x1x6400, .i32⟩
  | .local _ .vmem, ⟨15, _⟩ => ⟨S1x1x6400, .i32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6400 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6400 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x61 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x6400 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FeatureReferenceIdeal.lean ====
abbrev S800000 : Shape := ⟨1, ![800000]⟩
abbrev S64 : Shape := ⟨1, ![64]⟩
abbrev S_ : Shape := ⟨0, ![]⟩
abbrev S800000x1 : Shape := ⟨2, ![800000, 1]⟩
abbrev S1x21 : Shape := ⟨2, ![1, 21]⟩
abbrev S800000x21 : Shape := ⟨2, ![800000, 21]⟩
abbrev S1x7 : Shape := ⟨2, ![1, 7]⟩
abbrev S800000x7 : Shape := ⟨2, ![800000, 7]⟩
abbrev S1x11 : Shape := ⟨2, ![1, 11]⟩
abbrev S800000x11 : Shape := ⟨2, ![800000, 11]⟩
abbrev S800000x61 : Shape := ⟨2, ![800000, 61]⟩
abbrev S1x64 : Shape := ⟨2, ![1, 64]⟩
abbrev S800000x64 : Shape := ⟨2, ![800000, 64]⟩
abbrev S125x1x6400 : Shape := ⟨3, ![125, 1, 6400]⟩

abbrev nBuf : Space → Nat
  | .hbm => 62
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S64, .i32⟩
  | .hbm, ⟨6, _⟩ => ⟨S64, .i32⟩
  | .hbm, ⟨7, _⟩ => ⟨S_, .f32⟩
  | .hbm, ⟨8, _⟩ => ⟨S800000, .f32⟩
  | .hbm, ⟨9, _⟩ => ⟨S800000, .f32⟩
  | .hbm, ⟨10, _⟩ => ⟨S800000, .f32⟩
  | .hbm, ⟨11, _⟩ => ⟨S800000x1, .i32⟩
  | .hbm, ⟨12, _⟩ => ⟨S1x21, .i32⟩
  | .hbm, ⟨13, _⟩ => ⟨S800000x21, .i32⟩
  | .hbm, ⟨14, _⟩ => ⟨S800000x21, .i32⟩
  | .hbm, ⟨15, _⟩ => ⟨S800000x21, .i1⟩
  | .hbm, ⟨16, _⟩ => ⟨S800000x21, .f32⟩
  | .hbm, ⟨17, _⟩ => ⟨S800000x1, .i32⟩
  | .hbm, ⟨18, _⟩ => ⟨S1x21, .i32⟩
  | .hbm, ⟨19, _⟩ => ⟨S800000x21, .i32⟩
  | .hbm, ⟨20, _⟩ => ⟨S800000x21, .i32⟩
  | .hbm, ⟨21, _⟩ => ⟨S800000x21, .i1⟩
  | .hbm, ⟨22, _⟩ => ⟨S800000x21, .f32⟩
  | .hbm, ⟨23, _⟩ => ⟨S800000x1, .i32⟩
  | .hbm, ⟨24, _⟩ => ⟨S1x7, .i32⟩
  | .hbm, ⟨25, _⟩ => ⟨S800000x7, .i32⟩
  | .hbm, ⟨26, _⟩ => ⟨S800000x7, .i32⟩
  | .hbm, ⟨27, _⟩ => ⟨S800000x7, .i1⟩
  | .hbm, ⟨28, _⟩ => ⟨S800000x7, .f32⟩
  | .hbm, ⟨29, _⟩ => ⟨S800000x1, .i32⟩
  | .hbm, ⟨30, _⟩ => ⟨S1x11, .i32⟩
  | .hbm, ⟨31, _⟩ => ⟨S800000x11, .i32⟩
  | .hbm, ⟨32, _⟩ => ⟨S800000x11, .i32⟩
  | .hbm, ⟨33, _⟩ => ⟨S800000x11, .i1⟩
  | .hbm, ⟨34, _⟩ => ⟨S800000x11, .f32⟩
  | .hbm, ⟨35, _⟩ => ⟨S800000x1, .f32⟩
  | .hbm, ⟨36, _⟩ => ⟨S800000x61, .f32⟩
  | .hbm, ⟨37, _⟩ => ⟨S_, .i32⟩
  | .hbm, ⟨38, _⟩ => ⟨S_, .i32⟩
  | .hbm, ⟨39, _⟩ => ⟨S64, .i32⟩
  | .hbm, ⟨40, _⟩ => ⟨S800000, .i32⟩
  | .hbm, ⟨41, _⟩ => ⟨S1x64, .i32⟩
  | .hbm, ⟨42, _⟩ => ⟨S800000x1, .i32⟩
  | .hbm, ⟨43, _⟩ => ⟨S800000x64, .i32⟩
  | .hbm, ⟨44, _⟩ => ⟨S800000x64, .i32⟩
  | .hbm, ⟨45, _⟩ => ⟨S800000x64, .i1⟩
  | .hbm, ⟨46, _⟩ => ⟨S800000x64, .i32⟩
  | .hbm, ⟨47, _⟩ => ⟨S_, .i32⟩
  | .hbm, ⟨48, _⟩ => ⟨S800000, .i32⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000, .i32⟩
  | .hbm, ⟨61, _⟩ => ⟨S125x1x6400, .i32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v5 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call4_call0_c : Ref sig .tc := ⟨.hbm, 37, rfl⟩
abbrev main_call4_call0_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_c_0 : Ref sig .tc := ⟨.hbm, 49, rfl⟩
abbrev main_v18 : Ref sig .tc := ⟨.hbm, 50, rfl⟩
abbrev main_v19 : Ref sig .tc := ⟨.hbm, 51, rfl⟩
abbrev main_c_1 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]
-- ==== Counts.lean ====
abbrev S802816 : Shape := ⟨1, ![802816]⟩
abbrev S50176 : Shape := ⟨1, ![50176]⟩
abbrev S32x80x16 : Shape := ⟨3, ![32, 80, 16]⟩
abbrev S32x80 : Shape := ⟨2, ![32, 80]⟩
abbrev S25088 : Shape := ⟨1, ![25088]⟩
abbrev S80x16 : Shape := ⟨2, ![80, 16]⟩
abbrev S16x80 : Shape := ⟨2, ![16, 80]⟩
abbrev S80 : Shape := ⟨1, ![80]⟩
abbrev S16 : Shape := ⟨1, ![16]⟩
abbrev S_ : Shape := ⟨0, ![]⟩
abbrev S1x16 : Shape := ⟨2, ![1, 16]⟩
abbrev S1x80x16 : Shape := ⟨3, ![1, 80, 16]⟩
abbrev S1x80 : Shape := ⟨2, ![1, 80]⟩

abbrev nBuf : Table → Nat
  | .hbm => 6
  | .local .scVector .vmem => 9
  | _ => 0

abbrev bufTy : (tb : Table) → Fin (nBuf tb) → BufTy
  | .hbm, ⟨0, _⟩ => ⟨S802816, .i32⟩
  | .hbm, ⟨1, _⟩ => ⟨S50176, .i32⟩
  | .hbm, ⟨2, _⟩ => ⟨S802816, .i32⟩
  | .hbm, ⟨3, _⟩ => ⟨S32x80x16, .i32⟩
  | .hbm, ⟨4, _⟩ => ⟨S32x80, .i32⟩
  | .hbm, ⟨5, _⟩ => ⟨S32x80, .i32⟩
  | .local .scVector .vmem, ⟨0, _⟩ => ⟨S50176, .i32⟩
  | .local .scVector .vmem, ⟨1, _⟩ => ⟨S25088, .i32⟩
  | .local .scVector .vmem, ⟨2, _⟩ => ⟨S25088, .i32⟩
  | .local .scVector .vmem, ⟨3, _⟩ => ⟨S80x16, .i32⟩
  | .local .scVector .vmem, ⟨4, _⟩ => ⟨S80x16, .i32⟩
  | .local .scVector .vmem, ⟨5, _⟩ => ⟨S16x80, .i32⟩
  | .local .scVector .vmem, ⟨6, _⟩ => ⟨S16x80, .i32⟩
  | .local .scVector .vmem, ⟨7, _⟩ => ⟨S80, .i32⟩
  | .local .scVector .vmem, ⟨8, _⟩ => ⟨S80, .i32⟩
  | _, _ => ⟨S802816, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev main_v0_3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c25088_i32 : BitVec 32 := 25088#32
  let v5 : BitVec 32 := Scalar.muli v1 c25088_i32
  ![v5.toNat]
@[reducible] def k0_t1_loop : Scf.Loop 32 :=
  let c0_i32_1 : BitVec 32 := 0#32
  let c80_i32 : BitVec 32 := 80#32
  let v6 : BitVec 32 := Scalar.addi c0_i32_1 c80_i32
  let c1_i32_2 : BitVec 32 := 1#32
  ⟨c0_i32_1, v6, c1_i32_2⟩
def k0_off2 (k0_t1 : Fin k0_t1_loop.trips) : Fin 2 → Nat :=
  let c0_i32_1 : BitVec 32 := 0#32
  let c1_i32_2 : BitVec 32 := 1#32
  let arg17 : BitVec 32 := Scf.iv c0_i32_1 c1_i32_2 k0_t1
  let v515 : Index := Scalar.indexCast arg17
  let c0_339 : Index := 0#32
  ![v515.toNat, 0]
@[reducible] def k0_t2_loop : Scf.Loop 32 :=
  let c0_i32_5 : BitVec 32 := 0#32
  let c1568_i32 : BitVec 32 := 1568#32
  let v8 : BitVec 32 := Scalar.addi c0_i32_5 c1568_i32
  let c1_i32_6 : BitVec 32 := 1#32
  ⟨c0_i32_5, v8, c1_i32_6⟩

def k0_chk2 (v519 : IVec S16 32) : Prop :=
  (∀ a x, ((![v519] : Fin 1 → IVec S16 32) a x).toNat < S50176.size a)
theorem k0_idx2_inb : ∀ (v519 : IVec S16 32) (k0_hw2 : k0_chk2 v519), ∀ a x, ((![v519] : Fin 1 → IVec S16 32) a x).toNat < S50176.size a := fun v519 k0_hw2 => k0_hw2

def k0_chk1 (v518 : IVec S16 32) : Prop :=
  (∀ a x, ((![v518] : Fin 1 → IVec S16 32) a x).toNat < S25088.size a) ∧
  (∀ a x, ((![v518] : Fin 1 → IVec S16 32) a x).toNat < S25088.size a)
theorem k0_idx1_inb : ∀ (v518 : IVec S16 32) (k0_hw1 : k0_chk1 v518), ∀ a x, ((![v518] : Fin 1 → IVec S16 32) a x).toNat < S25088.size a := fun v518 k0_hw1 => k0_hw1.1
theorem k0_idx3_inb : ∀ (v518 : IVec S16 32) (k0_hw1 : k0_chk1 v518), ∀ a x, ((![v518] : Fin 1 → IVec S16 32) a x).toNat < S25088.size a := fun v518 k0_hw1 => k0_hw1.2

def k0_chk3 (v2 : IVec S16 32) (v520 : IVec S16 32) : Prop :=
  (∀ a x, ((![v520, v2] : Fin 2 → IVec S16 32) a x).toNat < S80x16.size a)
theorem k0_idx4_inb : ∀ (v2 : IVec S16 32) (v520 : IVec S16 32) (k0_hw3 : k0_chk3 v2 v520), ∀ a x, ((![v520, v2] : Fin 2 → IVec S16 32) a x).toNat < S80x16.size a := fun v2 v520 k0_hw3 => k0_hw3
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c25088_i32_8 : BitVec 32 := 25088#32
  let v10 : BitVec 32 := Scalar.muli v1 c25088_i32_8
  ![v10.toNat]
@[reducible] def k0_t3_loop : Scf.Loop 32 :=
  let c0_i32_10 : BitVec 32 := 0#32
  let c98_i32 : BitVec 32 := 98#32
  let v11 : BitVec 32 := Scalar.addi c0_i32_10 c98_i32
  let c1_i32_11 : BitVec 32 := 1#32
  ⟨c0_i32_10, v11, c1_i32_11⟩
def k0_off4 (i : grid0.Coords) (k0_t3 : Fin k0_t3_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32_339 : BitVec 32 := 1568#32
  let v515 : BitVec 32 := Scalar.muli v1 c1568_i32_339
  let c0_i32_10 : BitVec 32 := 0#32
  let c1_i32_11 : BitVec 32 := 1#32
  let arg17 : BitVec 32 := Scf.iv c0_i32_10 c1_i32_11 k0_t3
  let c16_i32_340 : BitVec 32 := 16#32
  let v516 : BitVec 32 := Scalar.muli arg17 c16_i32_340
  let v517 : BitVec 32 := Scalar.addi v515 v516
  let v518 : Index := Scalar.indexCast v517
  ![v518.toNat]

def k0_chk4 (v2 : IVec S16 32) (v519 : IVec S16 32) : Prop :=
  (∀ a x, ((![v519, v2] : Fin 2 → IVec S16 32) a x).toNat < S80x16.size a)
theorem k0_idx5_inb : ∀ (v2 : IVec S16 32) (v519 : IVec S16 32) (k0_hw4 : k0_chk4 v2 v519), ∀ a x, ((![v519, v2] : Fin 2 → IVec S16 32) a x).toNat < S80x16.size a := fun v2 v519 k0_hw4 => k0_hw4
@[reducible] def k0_t4_loop : Scf.Loop 32 :=
  let c0_i32_14 : BitVec 32 := 0#32
  let c80_i32_15 : BitVec 32 := 80#32
  let v13 : BitVec 32 := Scalar.addi c0_i32_14 c80_i32_15
  let c1_i32_16 : BitVec 32 := 1#32
  ⟨c0_i32_14, v13, c1_i32_16⟩
def k0_off5 (k0_t4 : Fin k0_t4_loop.trips) : Fin 2 → Nat :=
  let c0_i32_14 : BitVec 32 := 0#32
  let c1_i32_16 : BitVec 32 := 1#32
  let arg17 : BitVec 32 := Scf.iv c0_i32_14 c1_i32_16 k0_t4
  let v516 : Index := Scalar.indexCast arg17
  let c0_339 : Index := 0#32
  ![v516.toNat, 0]
def k0_off6 (k0_t4 : Fin k0_t4_loop.trips) : Fin 2 → Nat :=
  let c0_i32_14 : BitVec 32 := 0#32
  let c1_i32_16 : BitVec 32 := 1#32
  let arg17 : BitVec 32 := Scf.iv c0_i32_14 c1_i32_16 k0_t4
  let v518 : Index := Scalar.indexCast arg17
  let c0_340 : Index := 0#32
  ![v518.toNat, 0]

def k0_chk5 (v2 : IVec S16 32) (v515 : IVec S16 32) : Prop :=
  (∀ a x, ((![v2, v515] : Fin 2 → IVec S16 32) a x).toNat < S16x80.size a) ∧
  (∀ a x, ((![v2, v515] : Fin 2 → IVec S16 32) a x).toNat < S16x80.size a)
theorem k0_idx6_inb : ∀ (v2 : IVec S16 32) (v515 : IVec S16 32) (k0_hw5 : k0_chk5 v2 v515), ∀ a x, ((![v2, v515] : Fin 2 → IVec S16 32) a x).toNat < S16x80.size a := fun v2 v515 k0_hw5 => k0_hw5.1
theorem k0_idx7_inb : ∀ (v2 : IVec S16 32) (v515 : IVec S16 32) (k0_hw5 : k0_chk5 v2 v515), ∀ a x, ((![v2, v515] : Fin 2 → IVec S16 32) a x).toNat < S16x80.size a := fun v2 v515 k0_hw5 => k0_hw5.2
def k0_off7 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_339_r3 : BitVec 32 := 0#32
  let c0_i32_340_r3 : BitVec 32 := 0#32
  ![v1.toNat, 0, 0]
def k0_off8 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_339_r4 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CountsReferenceIdeal.lean ====
abbrev S802816 : Shape := ⟨1, ![802816]⟩
abbrev S50176 : Shape := ⟨1, ![50176]⟩
abbrev S_ : Shape := ⟨0, ![]⟩
abbrev S802816x1 : Shape := ⟨2, ![802816, 1]⟩
abbrev S80 : Shape := ⟨1, ![80]⟩
abbrev S32x1x16x1568 : Shape := ⟨4, ![32, 1, 16, 1568]⟩
abbrev S1x80x1x1 : Shape := ⟨4, ![1, 80, 1, 1]⟩
abbrev S32x80x16x1568 : Shape := ⟨4, ![32, 80, 16, 1568]⟩
abbrev S32x80x16 : Shape := ⟨3, ![32, 80, 16]⟩
abbrev S32x1x98x16 : Shape := ⟨4, ![32, 1, 98, 16]⟩
abbrev S32x80x98x16 : Shape := ⟨4, ![32, 80, 98, 16]⟩
abbrev S32x80 : Shape := ⟨2, ![32, 80]⟩

abbrev nBuf : Space → Nat
  | .hbm => 32
  | .vmem => 0
  | .smem => 0
  | _ => 0

abbrev bufTy : (tb : Table) → Fin (tcTables nBuf tb) → BufTy
  | .hbm, ⟨0, _⟩ => ⟨S802816, .i32⟩
  | .hbm, ⟨1, _⟩ => ⟨S50176, .i32⟩
  | .hbm, ⟨2, _⟩ => ⟨S_, .i32⟩
  | .hbm, ⟨3, _⟩ => ⟨S802816, .i32⟩
  | .hbm, ⟨4, _⟩ => ⟨S802816, .i1⟩
  | .hbm, ⟨5, _⟩ => ⟨S_, .i32⟩
  | .hbm, ⟨6, _⟩ => ⟨S802816, .i32⟩
  | .hbm, ⟨7, _⟩ => ⟨S802816, .i32⟩
  | .hbm, ⟨8, _⟩ => ⟨S802816, .i32⟩
  | .hbm, ⟨9, _⟩ => ⟨S802816x1, .i32⟩
  | .hbm, ⟨10, _⟩ => ⟨S802816, .i32⟩
  | .hbm, ⟨11, _⟩ => ⟨S80, .i32⟩
  | .hbm, ⟨12, _⟩ => ⟨S32x1x16x1568, .i32⟩
  | .hbm, ⟨13, _⟩ => ⟨S1x80x1x1, .i32⟩
  | .hbm, ⟨14, _⟩ => ⟨S32x80x16x1568, .i32⟩
  | .hbm, ⟨15, _⟩ => ⟨S32x80x16x1568, .i32⟩
  | .hbm, ⟨16, _⟩ => ⟨S32x80x16x1568, .i1⟩
  | .hbm, ⟨17, _⟩ => ⟨S32x80x16x1568, .i32⟩
  | .hbm, ⟨18, _⟩ => ⟨S_, .i32⟩
  | .hbm, ⟨19, _⟩ => ⟨S32x80x16, .i32⟩
  | .hbm, ⟨20, _⟩ => ⟨S32x1x98x16, .i32⟩
  | .hbm, ⟨21, _⟩ => ⟨S1x80x1x1, .i32⟩
  | .hbm, ⟨22, _⟩ => ⟨S32x80x98x16, .i32⟩
  | .hbm, ⟨23, _⟩ => ⟨S32x80x98x16, .i32⟩
  | .hbm, ⟨24, _⟩ => ⟨S32x80x98x16, .i1⟩
  | .hbm, ⟨25, _⟩ => ⟨S32x80x98x16, .i32⟩
  | .hbm, ⟨26, _⟩ => ⟨S_, .i32⟩
  | .hbm, ⟨27, _⟩ => ⟨S32x80, .i32⟩
  | .hbm, ⟨28, _⟩ => ⟨S_, .i32⟩
  | .hbm, ⟨29, _⟩ => ⟨S32x80x16, .i32⟩
  | .hbm, ⟨30, _⟩ => ⟨S_, .i32⟩
  | .hbm, ⟨31, _⟩ => ⟨S32x80, .i32⟩
  | _, _ => ⟨S802816, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Rows.lean ====
/-
  Rows of a rank-two scratch memref, and the straight-line steps over them: copying sixteen lanes out of a row into a
  flat buffer, filling a row sixteen lanes at a time, and the indirect gather of 128 words of a table into a row. Each
  step's rule carries what the buffers READ, as a function of the position, so a run of steps carries the value.
-/
module

public import Idealize.ShloMosaic.Lib.SparseCore.Quiescent
public import Idealize.ShloMosaic.Lib.SparseCore.Ops
public import Idealize.ShloMosaic.Lib.SparseCore.Stream
public import Idealize.ShloMosaic.Lib.Pipeline.Value
public import Idealize.ShloMosaic.Lib.ShareLeaves
public import Idealize.ShloMosaic.Lib.Tactic

@[expose] public section

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

/-- The shape of a flat buffer of `n` elements. -/
abbrev Sh1 (n : ℕ) : Shape := ⟨1, ![n]⟩
/-- The shape of `n` rows of `k` elements. -/
abbrev Sh2 (n k : ℕ) : Shape := ⟨2, ![n, k]⟩

section Views

variable {sig : RefSig} {κ : Kind} {sp : Space} {e : EltTy} {R : ℕ} {Val : EltTy → Type}

theorem row_inb (s : Fin R) : ∀ a, (![s.val, 0] : Fin 2 → ℕ) a + (Sh2 1 128).size a ≤ (Sh2 R 128).size a := by
  intro a
  have := s.isLt
  match a with
  | ⟨0, _⟩ => show s.val + 1 ≤ R; omega
  | ⟨1, _⟩ => show 0 + 128 ≤ 128; omega

theorem row_sq : (Sh2 1 128).Squeezes (Sh1 128) := by decide

/-- Row `s` of a memref of rows. -/
abbrev rowM (M : Memref sig κ sp (Sh2 R 128) e) (s : Fin R) : Memref sig κ sp (Sh1 128) e :=
  (M.slice (Rect.unit (s := Sh2 R 128) ![s.val, 0] (Sh2 1 128).size (row_inb s)) (fun _ => rfl)).squeeze (Sh1 128) row_sq

/-- A printed row window at offsets that are row `s`'s is row `s`. -/
theorem rowM_of {M : Memref sig κ sp (Sh2 R 128) e} {off : Fin 2 → ℕ} {s : Fin R} (h : off = ![s.val, 0])
    {inb : ∀ a, off a + (Sh2 1 128).size a ≤ (Sh2 R 128).size a} {hs : ∀ a, (Rect.unit (s := Sh2 R 128) off (Sh2 1 128).size inb).stride a = 1}
    {hq : (Sh2 1 128).Squeezes (Sh1 128)} :
    (M.slice (Rect.unit (s := Sh2 R 128) off (Sh2 1 128).size inb) hs).squeeze (Sh1 128) hq = rowM M s := by
  subst h; rfl

/-- The index of element `j` of row `s`. -/
def ixr (s : Fin R) (j : (Sh1 128).Idx) : (Sh2 R 128).Idx := fun a => match a with | ⟨0, _⟩ => s | ⟨1, _⟩ => j 0

theorem rowM_emb (M : Memref sig κ sp (Sh2 R 128) e) (s : Fin R) (j : (Sh1 128).Idx) :
    (rowM M s).view.emb j = M.view.emb (ixr s j) := by
  show M.view.emb ((Rect.unit (s := Sh2 R 128) ![s.val, 0] (Sh2 1 128).size (row_inb s)).emb (Shape.reshapeEquiv row_sq.numel_eq j)) = _
  congr 1
  rw [Shape.reshapeEquiv_cons_one]
  funext a
  refine Fin.ext ?_
  rw [Rect.emb_apply]
  match a with
  | ⟨0, _⟩ => show s.val + 1 * 0 = s.val; omega
  | ⟨1, _⟩ => show 0 + 1 * (j 0).val = (j 0).val; omega

/-- Sixteen lanes of a row are the row's elements. -/
theorem piece_subset (M : Memref sig κ sp (Sh2 R 128) e) (s : Fin R) {b : ℕ} {off : Fin 2 → ℕ} (h : off = ![s.val, b])
    (inb : ∀ a, off a + (Sh2 1 16).size a ≤ (Sh2 R 128).size a) :
    M.view.setOn (Rect.unit (s := Sh2 R 128) off (Sh2 1 16).size inb).set ⊆ (rowM M s).view.set := by
  subst h
  intro i hi
  obtain ⟨x, hx, rfl⟩ := Finset.mem_map.mp hi
  rw [Rect.mem_set_unit] at hx
  have h0 := hx 0
  have h1 := hx 1
  have e0 : (x 0).val = s.val := by
    have h0' : s.val ≤ (x 0).val ∧ (x 0).val < s.val + 1 := h0
    omega
  refine Finset.mem_map.mpr ⟨(fun a => match a with | ⟨0, _⟩ => x 1 : (Sh1 128).Idx), Finset.mem_univ _, ?_⟩
  rw [rowM_emb]
  congr 1
  funext a
  match a with
  | ⟨0, _⟩ => exact Fin.ext e0.symm
  | ⟨1, _⟩ => rfl

/-- Where lane `x` of sixteen starting at `b` lies in its row. -/
def lane (b : ℕ) (hb : b + 16 ≤ 128) (x : ℕ) (hx : x < 16) : (Sh1 128).Idx := fun a => match a with | ⟨0, _⟩ => ⟨b + x, by show b + x < 128; omega⟩

theorem piece_idx (s : Fin R) {b : ℕ} (hb : b + 16 ≤ 128) {off : Fin 2 → ℕ} (h : off = ![s.val, b])
    (inb : ∀ a, off a + (Sh2 1 16).size a ≤ (Sh2 R 128).size a) (x : (Sh2 1 16).Idx) :
    (Rect.unit (s := Sh2 R 128) off (Sh2 1 16).size inb).emb x = ixr s (lane b hb (x 1).val (x 1).isLt) := by
  subst h
  funext a
  refine Fin.ext ?_
  rw [Rect.emb_apply]
  match a with
  | ⟨0, _⟩ =>
    have : (x 0).val = 0 := by have h : (x 0).val < 1 := (x 0).isLt; omega
    show s.val + 1 * (x 0).val = s.val; omega
  | ⟨1, _⟩ => show b + 1 * (x 1).val = b + (x 1).val; omega

theorem piece_inb' {s : Fin R} {b : ℕ} {off : Fin 2 → ℕ} (h : off = ![s.val, b])
    (inb : ∀ a, off a + (Sh2 1 16).size a ≤ (Sh2 R 128).size a) : b + 16 ≤ 128 := by
  subst h; exact inb 1

/-- What a row reads, as a function of the position in it. -/
def RowIs (M : Memref sig κ sp (Sh2 R 128) e) (s : Fin R) (f : M.view.ty.Contents Val) (G : ℕ → Val e) : Prop :=
  ∀ j : (Sh1 128).Idx, (rowM M s).view.read Val f j = G (j 0).val

/-- What the first `n` elements of a row read. -/
def RowTo (M : Memref sig κ sp (Sh2 R 128) e) (s : Fin R) (f : M.view.ty.Contents Val) (G : ℕ → Val e) (n : ℕ) : Prop :=
  ∀ j : (Sh1 128).Idx, (j 0).val < n → (rowM M s).view.read Val f j = G (j 0).val

theorem RowTo.all {M : Memref sig κ sp (Sh2 R 128) e} {s : Fin R} {f : M.view.ty.Contents Val} {G : ℕ → Val e}
    (h : RowTo M s f G 128) : RowIs M s f G := fun j => h j (j 0).isLt

theorem RowTo.zero {M : Memref sig κ sp (Sh2 R 128) e} {s : Fin R} {f : M.view.ty.Contents Val} {G : ℕ → Val e} :
    RowTo M s f G 0 := fun _ h => absurd h (Nat.not_lt_zero _)

/-- A load of sixteen lanes of a row. -/
theorem piece_read {M : Memref sig κ sp (Sh2 R 128) e} {s : Fin R} {f : M.view.ty.Contents Val} {G : ℕ → Val e} (hf : RowIs M s f G)
    {b : ℕ} {off : Fin 2 → ℕ} (h : off = ![s.val, b]) (inb : ∀ a, off a + (Sh2 1 16).size a ≤ (Sh2 R 128).size a) (x : (Sh2 1 16).Idx) :
    M.view.readAt Val (Rect.unit (s := Sh2 R 128) off (Sh2 1 16).size inb).toLoadRect f x = G (b + (x 1).val) := by
  have hb := piece_inb' h inb
  have := hf (lane b hb (x 1).val (x 1).isLt)
  rw [View.read_apply, rowM_emb, ← piece_idx s hb h inb x] at this
  exact this

/-- What a row reads once sixteen more of its lanes are stored. -/
theorem RowTo.store {M : Memref sig κ sp (Sh2 R 128) e} {s : Fin R} {f : M.view.ty.Contents Val} {G : ℕ → Val e}
    {b : ℕ} (hf : RowTo M s f G b) {off : Fin 2 → ℕ} (h : off = ![s.val, b])
    {inb : ∀ a, off a + (Sh2 1 16).size a ≤ (Sh2 R 128).size a} {w : (Sh2 1 16).Idx → Val e} (hw : ∀ x, w x = G (b + (x 1).val)) :
    RowTo M s ((M.access (Rect.unit (s := Sh2 R 128) off (Sh2 1 16).size inb)).write Val f w Finset.univ) G (b + 16) := by
  have hb := piece_inb' h inb
  intro j hj
  rw [View.read_apply, rowM_emb]
  show M.view.read Val _ (ixr s j) = _
  by_cases hjb : (j 0).val < b
  · have hn : ixr s j ∉ (Rect.unit (s := Sh2 R 128) off (Sh2 1 16).size inb).set := by
      rw [Rect.mem_set_unit]
      intro hc
      have := (hc 1).1
      subst h
      have h1 : b ≤ (j 0).val := this
      omega
    rw [View.read_apply, View.write_of_not_mem]
    · have := hf j hjb
      rw [View.read_apply, rowM_emb] at this
      exact this
    · rintro hm
      replace hm : M.view.emb (ixr s j) ∈ (M.view.slice (Rect.unit (s := Sh2 R 128) off (Sh2 1 16).size inb)).set := hm
      rw [View.set_slice] at hm
      obtain ⟨y, hy, hye⟩ := Finset.mem_map.mp hm
      have := M.view.emb.injective hye
      subst this
      exact hn hy
  · have hlt : (j 0).val - b < 16 := by omega
    let x : (Sh2 1 16).Idx := fun a => match a with | ⟨0, _⟩ => ⟨0, Nat.one_pos⟩ | ⟨1, _⟩ => ⟨(j 0).val - b, hlt⟩
    have hx : ixr s j = (Rect.unit (s := Sh2 R 128) off (Sh2 1 16).size inb).emb x := by
      rw [piece_idx s hb h inb x]
      congr 1
      funext a
      match a with
      | ⟨0, _⟩ => exact Fin.ext (show (j 0).val = b + ((j 0).val - b) by omega)
    have e2 := View.read_slice_write_emb (v := M.view) (Rect.unit (s := Sh2 R 128) off (Sh2 1 16).size inb) f w (Finset.mem_univ x)
    rw [hx, e2, hw]
    congr 1
    show b + ((j 0).val - b) = _
    omega

variable {n : ℕ}

/-- What the first `k` elements of a flat buffer read. -/
def Done (D : Memref sig κ sp (Sh1 n) e) (f : D.view.ty.Contents Val) (G : ℕ → Val e) (k : ℕ) : Prop :=
  ∀ j : (Sh1 n).Idx, (j 0).val < k → D.view.read Val f j = G (j 0).val

theorem Done.zero {D : Memref sig κ sp (Sh1 n) e} {f : D.view.ty.Contents Val} {G : ℕ → Val e} : Done D f G 0 :=
  fun _ h => absurd h (Nat.not_lt_zero _)

theorem flat_inb {m k : ℕ} {off : Fin 1 → ℕ} (h : off = ![k])
    (inb : ∀ a, off a + (Sh1 m).size a ≤ (Sh1 n).size a) : k + m ≤ n := by
  subst h; exact inb 0

theorem flat_emb {m k : ℕ} {off : Fin 1 → ℕ} (h : off = ![k])
    (inb : ∀ a, off a + (Sh1 m).size a ≤ (Sh1 n).size a) (x : (Sh1 m).Idx) :
    (Rect.unit (s := Sh1 n) off (Sh1 m).size inb).emb x
      = fun a => match a with | ⟨0, _⟩ => (⟨k + (x 0).val, by have h1 := flat_inb h inb; have h2 : (x 0).val < m := (x 0).isLt; show k + (x 0).val < n; omega⟩ : Fin n) := by
  subst h
  funext a
  refine Fin.ext ?_
  rw [Rect.emb_apply]
  match a with
  | ⟨0, _⟩ => show k + 1 * (x 0).val = k + (x 0).val; omega

/-- A load of `m` elements of a flat buffer from `k` on. -/
theorem flat_read {m k : ℕ} {D : Memref sig κ sp (Sh1 n) e} {f : D.view.ty.Contents Val} {G : ℕ → Val e} (hf : Done D f G (k + m))
    {off : Fin 1 → ℕ} (h : off = ![k]) (inb : ∀ a, off a + (Sh1 m).size a ≤ (Sh1 n).size a) (x : (Sh1 m).Idx) :
    D.view.read Val f ((Rect.unit (s := Sh1 n) off (Sh1 m).size inb).emb x) = G (k + (x 0).val) := by
  rw [flat_emb h inb x]
  exact hf _ (by have h2 : (x 0).val < m := (x 0).isLt; show k + (x 0).val < k + m; omega)

/-- What a flat buffer reads once `m` more elements are written. -/
theorem Done.write {m k : ℕ} {D : Memref sig κ sp (Sh1 n) e} {f : D.view.ty.Contents Val} {G : ℕ → Val e} (hf : Done D f G k)
    {off : Fin 1 → ℕ} (h : off = ![k]) {inb : ∀ a, off a + (Sh1 m).size a ≤ (Sh1 n).size a} {w : (Sh1 m).Idx → Val e}
    (hw : ∀ x, w x = G (k + (x 0).val)) :
    Done D ((D.view.slice (Rect.unit (s := Sh1 n) off (Sh1 m).size inb)).write Val f w Finset.univ) G (k + m) := by
  intro j hj
  by_cases hk : (j 0).val < k
  · have hn : j ∉ (Rect.unit (s := Sh1 n) off (Sh1 m).size inb).set := by
      rw [Rect.mem_set_unit]
      intro hc
      have := (hc 0).1
      subst h
      have h1 : k ≤ (j 0).val := this
      omega
    rw [View.read_apply, View.write_of_not_mem]
    · exact hf j hk
    · rintro hm
      replace hm : D.view.emb j ∈ (D.view.slice (Rect.unit (s := Sh1 n) off (Sh1 m).size inb)).set := hm
      rw [View.set_slice] at hm
      obtain ⟨y, hy, hye⟩ := Finset.mem_map.mp hm
      have := D.view.emb.injective hye
      subst this
      exact hn hy
  · have hlt : (j 0).val - k < m := by omega
    let x : (Sh1 m).Idx := fun a => match a with | ⟨0, _⟩ => ⟨(j 0).val - k, hlt⟩
    have hx : j = (Rect.unit (s := Sh1 n) off (Sh1 m).size inb).emb x := by
      rw [flat_emb h inb x]
      funext a
      match a with
      | ⟨0, _⟩ => exact Fin.ext (show (j 0).val = k + ((j 0).val - k) by omega)
    have e2 := View.read_slice_write_emb (v := D.view) (Rect.unit (s := Sh1 n) off (Sh1 m).size inb) f w (Finset.mem_univ x)
    conv_lhs => rw [hx, e2, hw]
    congr 1
    show k + ((j 0).val - k) = _
    omega

/-- The one semaphore at position `s` of an array. -/
abbrev semAt {α : Type} (A : SemArray α (Sh1 R)) (s : Fin R) : α := A.ix (fun a => match a with | ⟨0, _⟩ => s)

theorem semAt_of {α : Type} {A : SemArray α (Sh1 R)} {s : Fin R} {off : Fin 1 → ℕ} (h : off = ![s.val])
    {inb : ∀ a, off a + (Sh1 1).size a ≤ (Sh1 R).size a} {hq : (Sh1 1).Squeezes ⟨0, ![]⟩} :
    ((A.slice (Rect.unit (s := Sh1 R) off (Sh1 1).size inb)).squeeze ⟨0, ![]⟩ hq).sem = semAt A s := by
  subst h
  show A.ix _ = A.ix _
  congr 1
  funext a
  refine Fin.ext ?_
  rw [Rect.emb_apply]
  match a with
  | ⟨0, _⟩ =>
    show s.val + 1 * (Shape.reshapeEquiv hq.numel_eq (fun i => i.elim0) 0).val = s.val
    have : (Shape.reshapeEquiv hq.numel_eq (fun i => i.elim0) 0).val < 1 := (Shape.reshapeEquiv hq.numel_eq (fun i => i.elim0) 0).isLt
    omega

/-- The window of a flat memref that is all of it. -/
theorem all_emb (D : Memref sig κ sp (Sh1 n) e) (inb : ∀ a, (![0] : Fin 1 → ℕ) a + (Sh1 n).size a ≤ (Sh1 n).size a)
    (x : (Sh1 n).Idx) : (D.view.slice (Rect.unit (s := Sh1 n) ![0] (Sh1 n).size inb)).emb x = D.view.emb x := by
  show D.view.emb _ = _
  congr 1
  rw [flat_emb rfl inb x]
  funext a
  match a with
  | ⟨0, _⟩ => exact Fin.ext (Nat.zero_add _)

theorem all_set (D : Memref sig κ sp (Sh1 n) e) (inb : ∀ a, (![0] : Fin 1 → ℕ) a + (Sh1 n).size a ≤ (Sh1 n).size a) :
    (D.view.slice (Rect.unit (s := Sh1 n) ![0] (Sh1 n).size inb)).set = D.view.set := by
  ext i
  simp only [View.set, View.setOn, Finset.mem_map, Finset.mem_univ, true_and]
  constructor
  · rintro ⟨x, rfl⟩; exact ⟨x, (all_emb D inb x).symm⟩
  · rintro ⟨x, rfl⟩; exact ⟨x, all_emb D inb x⟩

end Views

/-- Sixteen lanes of a row as a flat vector. -/
theorem cast_flat {α : Type} (v : (Sh2 1 16).Idx → α) (h : (Sh2 1 16).ShapeCasts (Sh1 16)) (x : (Sh1 16).Idx) :
    shapeCast (Sh1 16) v h x = v (Fin.cons ⟨0, Nat.one_pos⟩ x) := shapeCast_dropUnit_apply _ v h x

/-- A flat vector as sixteen lanes of a row. -/
theorem cast_row {α : Type} (v : (Sh1 16).Idx → α) (h : (Sh1 16).ShapeCasts (Sh2 1 16)) (x : (Sh2 1 16).Idx) :
    shapeCast (Sh2 1 16) v h x = v (fun a => x a.succ) := shapeCast_addUnit_apply _ v h x

end Cert.Proof.Rows
-- ==== Proof.Steps.lean ====
/-
  The steps of a tile's straight-line program over rows and flat buffers, each as one rule at the head of a program:
  what it takes and leaves is stated by what the buffers read (`RowIs`, `Done`, `Span`).
-/
module

public import proofs.«01_k».proof.Proof.Rows

@[expose] public section

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

/-- What the elements `lo ≤ i < hi` of a flat buffer read. -/
def Span {sig : RefSig} {κ : Kind} {sp : Space} {e : EltTy} {Val : EltTy → Type} {n : ℕ} (D : Memref sig κ sp (Sh1 n) e)
    (f : D.view.ty.Contents Val) (G : ℕ → Val e) (lo hi : ℕ) : Prop :=
  ∀ j : (Sh1 n).Idx, lo ≤ (j 0).val → (j 0).val < hi → D.view.read Val f j = G (j 0).val

theorem Span.write {sig : RefSig} {κ : Kind} {sp : Space} {e : EltTy} {Val : EltTy → Type} {n m lo k : ℕ} {D : Memref sig κ sp (Sh1 n) e}
    {f : D.view.ty.Contents Val} {G : ℕ → Val e} (hf : Span D f G lo k)
    {off : Fin 1 → ℕ} (h : off = ![k]) {inb : ∀ a, off a + (Sh1 m).size a ≤ (Sh1 n).size a} {w : (Sh1 m).Idx → Val e}
    (hw : ∀ x, w x = G (k + (x 0).val)) :
    Span D ((D.view.slice (Rect.unit (s := Sh1 n) off (Sh1 m).size inb)).write Val f w Finset.univ) G lo (k + m) := by
  intro j hl hj
  have hd : Done D f (fun i => if lo ≤ i then G i else if h : i < n then D.view.read Val f (fun a => match a with | ⟨0, _⟩ => ⟨i, h⟩) else G i) k := by
    intro j hj
    by_cases h1 : lo ≤ (j 0).val
    · simp only [h1, if_true]; exact hf j h1 hj
    · have h2 : (j 0).val < n := (j 0).isLt
      simp only [h1, if_false, h2, dif_pos]
      congr 1
      funext a
      match a with
      | ⟨0, _⟩ => rfl
  by_cases hk : lo ≤ k
  · have := Done.write hd h (inb := inb) (w := w) (fun x => by
      rw [hw]; have : lo ≤ k + (x 0).val := by omega
      simp only [this, if_true]) j hj
    rw [this]
    simp only [hl, if_true]
  · have h3 : Done D f G 0 := Done.zero
    have hd2 : Done D f (fun i => if k ≤ i then G i else if h : i < n then D.view.read Val f (fun a => match a with | ⟨0, _⟩ => ⟨i, h⟩) else G i) k := by
      intro j hj
      have h2 : (j 0).val < n := (j 0).isLt
      have h1 : ¬ k ≤ (j 0).val := by omega
      simp only [h1, if_false, h2, dif_pos]
      congr 1
      funext a
      match a with
      | ⟨0, _⟩ => rfl
    have := Done.write hd2 h (inb := inb) (w := w) (fun x => by
      rw [hw]; have : k ≤ k + (x 0).val := by omega
      simp only [this, if_true]) j hj
    rw [this]
    have : k ≤ (j 0).val := by omega
    simp only [this, if_true]

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {e : EltTy} {R R' R'' n m : ℕ} {α : Type} {Q : α → sProp (MT nD τ sig Ix (Elt F) Name U Lvl)}

local notation "𝕄" => MT nD τ sig Ix (Elt F) Name U Lvl

/-- A row held outright, reading `G`. -/
def RowHas (M : Memref sig c.2.kind .vmem (Sh2 R 128) e) (s : Fin R) (G : ℕ → Elt F e) : sProp 𝕄 :=
  iprop(∃ f : Buf (Elt F) ((rowM M s).view.loc c), ⌜RowIs M s f G⌝ ∗ ((rowM M s).view.loc c ↦[(rowM M s).view.set]{fullShare} f))

/-- A row held outright, its first `k` elements reading `G`. -/
def RowFill (M : Memref sig c.2.kind .vmem (Sh2 R 128) e) (s : Fin R) (G : ℕ → Elt F e) (k : ℕ) : sProp 𝕄 :=
  iprop(∃ f : Buf (Elt F) ((rowM M s).view.loc c), ⌜RowTo M s f G k⌝ ∗ ((rowM M s).view.loc c ↦[(rowM M s).view.set]{fullShare} f))

/-- A row held outright. -/
def RowAny (M : Memref sig c.2.kind .vmem (Sh2 R 128) e) (s : Fin R) : sProp 𝕄 :=
  iprop(∃ f : Buf (Elt F) ((rowM M s).view.loc c), ((rowM M s).view.loc c ↦[(rowM M s).view.set]{fullShare} f))

theorem RowAny.fill (M : Memref sig c.2.kind .vmem (Sh2 R 128) e) (s : Fin R) (G : ℕ → Elt F e) :
    (RowAny c M s : sProp 𝕄) ⊢ RowFill c M s G 0 := by
  unfold RowAny RowFill
  iintro ⟨%f, H⟩
  iexists f
  isplitr
  · ipureintro; exact RowTo.zero
  · iexact H

theorem RowFill.all (M : Memref sig c.2.kind .vmem (Sh2 R 128) e) (s : Fin R) (G : ℕ → Elt F e) :
    (RowFill c M s G 128 : sProp 𝕄) ⊢ RowHas c M s G := by
  unfold RowFill RowHas
  iintro ⟨%f, %h, H⟩
  iexists f
  isplitr
  · ipureintro; exact h.all
  · iexact H

theorem RowHas.forget (M : Memref sig c.2.kind .vmem (Sh2 R 128) e) (s : Fin R) (G : ℕ → Elt F e) :
    (RowHas c M s G : sProp 𝕄) ⊢ RowAny c M s := by
  unfold RowHas RowAny
  iintro ⟨%f, %h, H⟩
  iexists f
  iexact H

/-- A flat buffer held outright, its first `k` elements reading `G`. -/
def Filled (D : Memref sig c.2.kind sp (Sh1 n) e) (G : ℕ → Elt F e) (k : ℕ) : sProp 𝕄 :=
  iprop(∃ f : Buf (Elt F) (D.view.loc c), ⌜Done D f G k⌝ ∗ (D.view.loc c ↦[D.view.set]{fullShare} f))

theorem Filled.any (D : Memref sig c.2.kind sp (Sh1 n) e) (G G' : ℕ → Elt F e) (k : ℕ) :
    (Filled c D G k : sProp 𝕄) ⊢ Filled c D G' 0 := by
  unfold Filled
  iintro ⟨%f, %h, H⟩
  iexists f
  isplitr
  · ipureintro; exact Done.zero
  · iexact H

theorem Filled.intro (D : Memref sig c.2.kind sp (Sh1 n) e) (G : ℕ → Elt F e) (f : Buf (Elt F) (D.view.loc c)) :
    (D.view.loc c ↦[D.view.set]{fullShare} f : sProp 𝕄) ⊢ Filled c D G 0 := by
  unfold Filled
  iintro H
  iexists f
  isplitr
  · ipureintro; exact Done.zero
  · iexact H

/-- The elements `S` of a flat buffer held outright, those of positions `lo ≤ i < hi` reading `G`. -/
def Spanned (D : Memref sig c.2.kind sp (Sh1 n) e) (S : Finset (Idx (D.view.loc c))) (G : ℕ → Elt F e) (lo hi : ℕ) : sProp 𝕄 :=
  iprop(∃ f : Buf (Elt F) (D.view.loc c), ⌜Span D f G lo hi⌝ ∗ (D.view.loc c ↦[S]{fullShare} f))

/-- A share of a flat buffer that reads `T`. -/
def Table (D : Memref sig c.2.kind sp (Sh1 n) e) (q : PosShare TreeShare) (f : Buf (Elt F) (D.view.loc c)) (T : ℕ → Elt F e) : sProp 𝕄 :=
  iprop(⌜∀ x, D.view.read (Elt F) f x = T (x 0).val⌝ ∗ (D.view.loc c ↦[D.view.set]{q} f))

/-- What a core owes, its waits so far being `W` and waits at the default index. -/
def Owing (ι : Ix) (O : CellTallies nD τ sig Ix) (W : Waits sig Ix) : sProp 𝕄 :=
  iprop(∃ W' : Waits sig Ix, ⌜∀ p ∈ W', p ∈ W ∨ p.2 = ι⌝ ∗ owes c O W')

/-- Sixteen lanes of a row copied into a flat buffer. -/
theorem wp_copyLane {M : Memref sig c.2.kind .vmem (Sh2 R 128) e} {D : Memref sig c.2.kind .vmem (Sh1 n) e} {s : Fin R} {b k : ℕ}
    {G G' : ℕ → Elt F e} {off : Fin 2 → ℕ} {off' : Fin 1 → ℕ} (h : off = ![s.val, b]) (h' : off' = ![k])
    (hG : ∀ x, x < 16 → G (b + x) = G' (k + x))
    {inb : ∀ a, off a + (Sh2 1 16).size a ≤ (Sh2 R 128).size a} {inb' : ∀ a, off' a + (Sh1 16).size a ≤ (Sh1 n).size a}
    {pay : ((Sh2 1 16).Idx → Elt F e) → (Sh1 16).Idx → Elt F e} (hp : ∀ v x, pay v x = v (Fin.cons ⟨0, Nat.one_pos⟩ x))
    {hl : M.view.LoadsAt (Rect.unit (s := Sh2 R 128) off (Sh2 1 16).size inb).toLoadRect}
    {hl' : D.view.LoadsAt (Rect.unit (s := Sh1 n) off' (Sh1 16).size inb').toLoadRect}
    {hx : (D.access (Rect.unit (s := Sh1 n) off' (Sh1 16).size inb')).Stores Finset.univ}
    {hm : Finset.univ = Finset.univ ∨ ∀ a, (Rect.unit (s := Sh1 n) off' (Sh1 16).size inb').stride a = 1}
    {kk : PUnit → Prog (TpuEff nD τ sig (Elt F) Λ c.2) α} :
    iprop(RowHas c M s G ∗ Filled c D G' k)
      ⊢ iprop((RowHas c M s G ∗ Filled c D G' (k + 16) -∗ wp frame (wpE defs 𝒱 c bd) Set.univ (kk ⟨⟩) Q)
        -∗ wp frame (wpE defs 𝒱 c bd) Set.univ
            (Prog.lift (.load M (Rect.unit (s := Sh2 R 128) off (Sh2 1 16).size inb).toLoadRect hl) >>= fun v =>
              Prog.lift (.load D (Rect.unit (s := Sh1 n) off' (Sh1 16).size inb').toLoadRect hl') >>= fun _ =>
              Prog.lift (.store D (Rect.unit (s := Sh1 n) off' (Sh1 16).size inb') (pay v) Finset.univ hx hm) >>= kk) Q) := by
  unfold RowHas Filled
  iintro ⟨⟨%f, %hf, Hr⟩, ⟨%g, %hg, Hd⟩⟩ Hk
  iapply (wp_load 𝒱 c bd Set.univ (m := M) (piece_subset M s h inb)) $$ Hr
  iintro Hr
  iapply (wp_load 𝒱 c bd Set.univ (m := D) (S := D.view.set) (Finset.map_subset_map.mpr (Finset.subset_univ _))) $$ Hd
  iintro Hd
  iapply (wp_store 𝒱 c bd Set.univ (m := D) (r := Rect.unit (s := Sh1 n) off' (Sh1 16).size inb') (S := D.view.set) (View.set_slice_subset _ _)) $$ Hd
  iintro Hd
  iapply Hk
  isplitl [Hr]
  · iexists f
    isplitr
    · ipureintro; exact hf
    · iexact Hr
  · iexists _
    isplitr
    rotate_left
    · iexact Hd
    · ipureintro
      refine Done.write hg h' fun x => ?_
      rw [hp, piece_read hf h inb]
      exact hG (x 0).val (x 0).isLt

/-- Sixteen elements of a flat buffer stored into the next lanes of a row. -/
theorem wp_fillLane {D : Memref sig c.2.kind .vmem (Sh1 n) e} {M : Memref sig c.2.kind .vmem (Sh2 R 128) e} {s : Fin R} {b k N : ℕ}
    {G G' : ℕ → Elt F e} {off : Fin 2 → ℕ} {off' : Fin 1 → ℕ} (h : off = ![s.val, b]) (h' : off' = ![k])
    (hG : ∀ x, x < 16 → G' (b + x) = G (k + x)) (hN : k + 16 ≤ N)
    {inb : ∀ a, off a + (Sh2 1 16).size a ≤ (Sh2 R 128).size a} {inb' : ∀ a, off' a + (Sh1 16).size a ≤ (Sh1 n).size a}
    {pay : ((Sh1 16).Idx → Elt F e) → (Sh2 1 16).Idx → Elt F e} (hp : ∀ v x, pay v x = v (fun a => x a.succ))
    {hl : D.view.LoadsAt (Rect.unit (s := Sh1 n) off' (Sh1 16).size inb').toLoadRect}
    {hl' : M.view.LoadsAt (Rect.unit (s := Sh2 R 128) off (Sh2 1 16).size inb).toLoadRect}
    {hx : (M.access (Rect.unit (s := Sh2 R 128) off (Sh2 1 16).size inb)).Stores Finset.univ}
    {hm : Finset.univ = Finset.univ ∨ ∀ a, (Rect.unit (s := Sh2 R 128) off (Sh2 1 16).size inb).stride a = 1}
    {kk : PUnit → Prog (TpuEff nD τ sig (Elt F) Λ c.2) α} :
    iprop(Filled c D G N ∗ RowFill c M s G' b)
      ⊢ iprop((Filled c D G N ∗ RowFill c M s G' (b + 16) -∗ wp frame (wpE defs 𝒱 c bd) Set.univ (kk ⟨⟩) Q)
        -∗ wp frame (wpE defs 𝒱 c bd) Set.univ
            (Prog.lift (.load D (Rect.unit (s := Sh1 n) off' (Sh1 16).size inb').toLoadRect hl) >>= fun v =>
              Prog.lift (.load M (Rect.unit (s := Sh2 R 128) off (Sh2 1 16).size inb).toLoadRect hl') >>= fun _ =>
              Prog.lift (.store M (Rect.unit (s := Sh2 R 128) off (Sh2 1 16).size inb) (pay v) Finset.univ hx hm) >>= kk) Q) := by
  unfold RowFill Filled
  iintro ⟨⟨%g, %hg, Hd⟩, ⟨%f, %hf, Hr⟩⟩ Hk
  iapply (wp_load 𝒱 c bd Set.univ (m := D) (S := D.view.set) (Finset.map_subset_map.mpr (Finset.subset_univ _))) $$ Hd
  iintro Hd
  iapply (wp_load 𝒱 c bd Set.univ (m := M) (piece_subset M s h inb)) $$ Hr
  iintro Hr
  iapply (wp_store 𝒱 c bd Set.univ (m := M) (r := Rect.unit (s := Sh2 R 128) off (Sh2 1 16).size inb) (S := (rowM M s).view.set) (by
    show (M.access (Rect.unit (s := Sh2 R 128) off (Sh2 1 16).size inb)).set ⊆ _
    rw [View.set_slice]; exact piece_subset M s h inb)) $$ Hr
  iintro Hr
  iapply Hk
  isplitl [Hd]
  · iexists g
    isplitr
    · ipureintro; exact hg
    · iexact Hd
  · iexists _
    isplitr
    rotate_left
    · iexact Hr
    · ipureintro
      refine RowTo.store hf h fun x => ?_
      rw [hp]
      exact (flat_read (k := k) (m := 16) (fun j hj => hg j (Nat.lt_of_lt_of_le hj hN)) h' inb' (fun a => x a.succ)).trans
        (hG (x 1).val (x 1).isLt).symm

/-- The indirect gather of the words a row of indices names into a row. -/
theorem wp_gatherRow [Infinite Name] [EC.LandsIn (upEmb : UEmb _ 𝕄)] {Z : ℕ}
    {A : Memref sig c.2.kind .hbm (Sh1 Z) e} {M : Memref sig c.2.kind .vmem (Sh2 R 128) e} {I : Memref sig c.2.kind .vmem (Sh2 R' 128) .i32}
    {SA : SemArray (DmaSem sig) (Sh1 R'')} {s : Fin R} {s' : Fin R'} {s'' : Fin R''}
    {off off' : Fin 2 → ℕ} {off'' : Fin 1 → ℕ} (h : off = ![s.val, 0]) (h' : off' = ![s'.val, 0]) (h'' : off'' = ![s''.val])
    (hcr : ∀ t : Shape, sig.dmaCredit c.2.kind (c.2.kind.table .vmem) M.view.buf t e = t.numel * e.bits)
    {inb : ∀ a, off a + (Sh2 1 128).size a ≤ (Sh2 R 128).size a} {inb' : ∀ a, off' a + (Sh2 1 128).size a ≤ (Sh2 R' 128).size a}
    {inb'' : ∀ a, off'' a + (Sh1 1).size a ≤ (Sh1 R'').size a} {inbA : ∀ a, (![0] : Fin 1 → ℕ) a + (Sh1 Z).size a ≤ (Sh1 Z).size a}
    {hs : ∀ a, (Rect.unit (s := Sh2 R 128) off (Sh2 1 128).size inb).stride a = 1} {hs' : ∀ a, (Rect.unit (s := Sh2 R' 128) off' (Sh2 1 128).size inb').stride a = 1}
    {hsA : ∀ a, (Rect.unit (s := Sh1 Z) ![0] (Sh1 Z).size inbA).stride a = 1}
    {hq : (Sh2 1 128).Squeezes (Sh1 128)} {hq' : (Sh2 1 128).Squeezes (Sh1 128)} {hq'' : (Sh1 1).Squeezes ⟨0, ![]⟩}
    {hg : (Sh1 Z).Gathers 0 (Sh1 128)} {hn : (Sh1 128).numel = (Sh1 128).size hg.axis'}
    {hp : c.2.kind = .scVector} {hsrc : (A.slice (Rect.unit (s := Sh1 Z) ![0] (Sh1 Z).size inbA) hsA).view.WordExact} {he : e.bits = 32}
    {hsp : Space.hbm = .hbm ∨ Space.hbm = .shared} {hr : (Sh1 Z).StreamRows 0}
    {kk : PUnit → Prog (TpuEff nD τ sig (Elt F) Λ c.2) α} {q qo : PosShare TreeShare} {fs : Buf (Elt F) (A.view.loc c)}
    {T : ℕ → Elt F e} {g : Buf (Elt F) ((rowM I s').view.loc c)} {Gi : ℕ → BitVec 32}
    (ι : Ix) (hIx : RowIs (Val := Elt F) I s' g Gi) (hin : ∀ j, j < 128 → (Gi j).toNat < Z) :
    iprop(Table c A q fs T ∗ RowAny c M s ∗ ((rowM I s').view.loc c ↦[(rowM I s').view.set]{qo} g) ∗ semVal (c, SemLoc.dma (semAt SA s'')) 0)
      ⊢ iprop((Transfers.Flight EC c (.dma (semAt SA s'')) ι (rowM M s).view.dmaCredit
                iprop(RowHas c M s (fun j => T (Gi j).toNat) ∗ Table c A q fs T ∗ ((rowM I s').view.loc c ↦[(rowM I s').view.set]{qo} g))
              -∗ wp frame (wpE defs 𝒱 c bd) Set.univ (kk ⟨⟩) Q)
          -∗ wp frame (wpE defs 𝒱 c bd) Set.univ
            (SparseCore.enqueueIndirectGather hp (A.slice (Rect.unit (s := Sh1 Z) ![0] (Sh1 Z).size inbA) hsA)
              ((M.slice (Rect.unit (s := Sh2 R 128) off (Sh2 1 128).size inb) hs).squeeze (Sh1 128) hq) hg
              ((I.slice (Rect.unit (s := Sh2 R' 128) off' (Sh2 1 128).size inb') hs').squeeze (Sh1 128) hq') hn
              ((SA.slice (Rect.unit (s := Sh1 R'') off'' (Sh1 1).size inb'')).squeeze ⟨0, ![]⟩ hq'').sem hsrc he hsp hr >>= kk) Q) := by
  rw [rowM_of (M := M) h, rowM_of (M := I) h', semAt_of (A := SA) h'']
  unfold Table RowAny
  iintro ⟨⟨%hT, HA⟩, ⟨%fd, Hd⟩, Hi, Hs⟩ Hk
  have hinr : ∀ x, ((rowM I s').view.read (Elt F) g x).toNat < (Sh1 Z).size hg.axis := by
    intro x
    rw [show (rowM I s').view.read (Elt F) g x = Gi (x 0).val from hIx x]
    have : hg.axis = 0 := Fin.fin_one_eq_zero _
    rw [this]
    exact hin _ (x 0).isLt
  ihave HA := (Entails.of_eq (show (A.view.loc c ↦[A.view.set]{q} fs : sProp 𝕄)
      = ((A.slice (Rect.unit (s := Sh1 Z) ![0] (Sh1 Z).size inbA) hsA).view.loc c ↦[(A.slice (Rect.unit (s := Sh1 Z) ![0] (Sh1 Z).size inbA) hsA).view.set]{q} fs) by
    rw [show (A.slice (Rect.unit (s := Sh1 Z) ![0] (Sh1 Z).size inbA) hsA).view.set = A.view.set from all_set A inbA])) $$ HA
  iapply (SparseCore.wp_indirectGatherLocal EC 𝒱 c bd (hg := hg) (hn := hn) ι (rowM M s).view.dmaCredit
    (SparseCore.sum_rowCredit_eq_dmaCredit (rowM M s) hg.axis' hcr) (by decide) hinr) $$ [HA Hd Hi Hs]
  · iframe HA Hd Hi Hs
  iintro Hf
  iapply Hk
  iapply (Transfers.Flight_mono EC c (D' := iprop(RowHas c M s (fun j => T (Gi j).toNat) ∗ iprop(⌜∀ x, A.view.read (Elt F) fs x = T (x 0).val⌝ ∗ (A.view.loc c ↦[A.view.set]{q} fs)) ∗ ((rowM I s').view.loc c ↦[(rowM I s').view.set]{qo} g))) ?_) $$ Hf
  unfold RowHas
  iintro ⟨Hd, HA, Hi⟩
  isplitl [Hd]
  · iexists _
    isplitr
    rotate_left
    · iexact Hd
    · ipureintro
      intro j
      rw [View.read_write_univ]
      show (A.slice (Rect.unit (s := Sh1 Z) ![0] (Sh1 Z).size inbA) hsA).view.read (Elt F) fs _ = _
      rw [View.read_apply]
      rw [show (A.slice (Rect.unit (s := Sh1 Z) ![0] (Sh1 Z).size inbA) hsA).view.emb = (A.view.slice (Rect.unit (s := Sh1 Z) ![0] (Sh1 Z).size inbA)).emb from rfl, all_emb]
      refine (hT _).trans ?_
      congr 1
      have ha : hg.axis = 0 := Fin.fin_one_eq_zero _
      have ha' : hg.axis' = 0 := Fin.fin_one_eq_zero _
      have e1 := congrArg Fin.val (Shape.Gathers.idx_axis hg (SparseCore.rows ((rowM I s').view.read (Elt F) g) hn hinr) j)
      have e0 : ∀ y : (Sh1 Z).Idx, (y 0).val = (y hg.axis).val := by rw [ha]; intro y; rfl
      rw [e0, e1]
      show ((rowM I s').view.read (Elt F) g ((Sh1 128).rowMajor.symm ((j hg.axis').cast hn.symm))).toNat = _
      have e2 : (Sh1 128).rowMajor.symm ((j hg.axis').cast hn.symm) = j := by
        rw [Equiv.symm_apply_eq]
        refine Fin.ext ?_
        rw [Shape.rowMajor_val_one]
        show (j hg.axis').val = (j 0).val
        have e3 : ∀ y : (Sh1 128).Idx, (y 0).val = (y hg.axis').val := by rw [ha']; intro y; rfl
        exact (e3 j).symm
      rw [e2]
      exact congrArg BitVec.toNat (hIx j)
  isplitl [HA]
  · isplitr
    · ipureintro; exact hT
    · iapply (Entails.of_eq (show (A.view.loc c ↦[A.view.set]{q} fs : sProp 𝕄)
        = ((A.slice (Rect.unit (s := Sh1 Z) ![0] (Sh1 Z).size inbA) hsA).view.loc c ↦[(A.slice (Rect.unit (s := Sh1 Z) ![0] (Sh1 Z).size inbA) hsA).view.set]{q} fs) by
        rw [show (A.slice (Rect.unit (s := Sh1 Z) ![0] (Sh1 Z).size inbA) hsA).view.set = A.view.set from all_set A inbA]).symm); iexact HA
  · iexact Hi

/-- The wait for a gather into a row. -/
theorem wp_waitRow [Infinite Name] [EC.LandsIn (upEmb : UEmb _ 𝕄)] {Z : ℕ}
    {A : Memref sig c.2.kind .hbm (Sh1 Z) e} {M : Memref sig c.2.kind .vmem (Sh2 R 128) e}
    {SA : SemArray (DmaSem sig) (Sh1 R'')} {s : Fin R} {s'' : Fin R''}
    {off : Fin 2 → ℕ} {off'' : Fin 1 → ℕ} (h : off = ![s.val, 0]) (h'' : off'' = ![s''.val])
    {inb : ∀ a, off a + (Sh2 1 128).size a ≤ (Sh2 R 128).size a} {inb'' : ∀ a, off'' a + (Sh1 1).size a ≤ (Sh1 R'').size a}
    {hs : ∀ a, (Rect.unit (s := Sh2 R 128) off (Sh2 1 128).size inb).stride a = 1}
    {hq : (Sh2 1 128).Squeezes (Sh1 128)} {hq'' : (Sh1 1).Squeezes ⟨0, ![]⟩}
    {hsrc : A.view.WordExact} {hdst : ((M.slice (Rect.unit (s := Sh2 R 128) off (Sh2 1 128).size inb) hs).squeeze (Sh1 128) hq).view.WordExact}
    {kk : PUnit → Prog (TpuEff nD τ sig (Elt F) Λ c.2) α} (ι : Ix) {N : ℕ} (hN : (rowM M s).view.dmaCredit = N) {D : sProp 𝕄}
    {O : CellTallies nD τ sig Ix} {W : Waits sig Ix} :
    iprop(Transfers.Flight EC c (.dma (semAt SA s'')) ι N D ∗ Owing c ι O W ∗ Transfers.MayWaits c ι O)
      ⊢ iprop((D ∗ semVal (c, SemLoc.dma (semAt SA s'')) 0 ∗ Owing c ι O W -∗ wp frame (wpE defs 𝒱 c bd) Set.univ (kk ⟨⟩) Q)
          -∗ wp frame (wpE defs 𝒱 c bd) Set.univ
            (SparseCore.waitIndirectGather ((SA.slice (Rect.unit (s := Sh1 R'') off'' (Sh1 1).size inb'')).squeeze ⟨0, ![]⟩ hq'').sem A
              ((M.slice (Rect.unit (s := Sh2 R 128) off (Sh2 1 128).size inb) hs).squeeze (Sh1 128) hq) hsrc hdst >>= kk) Q) := by
  subst h
  rw [semAt_of (A := SA) h'']
  unfold Owing
  iintro ⟨Hf, ⟨%W', %hW, HO⟩, Hmw⟩ Hk
  rw [SparseCore.waitIndirectGather_bind]
  iapply (Transfers.wp_waitLocalO EC 𝒱 c bd ι (N := N) hN) $$ [Hf HO Hmw]
  · iframe Hf HO
    iapply (Transfers.MayWaits.elim (SemLoc.dma (semAt SA s''))) $$ Hmw
  iintro ⟨HD, Hs, HO⟩
  iapply Hk
  iframe HD Hs
  iexists _
  isplitr
  rotate_left
  · iexact HO
  · ipureintro
    intro p hp
    rcases Finset.mem_insert.mp hp with hp | hp
    · exact Or.inr (by rw [hp])
    · exact hW p hp

/-- A copy of a window of a flat table into a whole flat buffer, and its wait. -/
theorem wp_copyIn [Infinite Name] [EC.LandsIn (upEmb : UEmb _ 𝕄)] {sp' : Space}
    {A : Memref sig c.2.kind sp (Sh1 n) e} {D : Memref sig c.2.kind sp' (Sh1 m) e} {sem : DmaSem sig} {k : ℕ}
    {off off' : Fin 1 → ℕ} (h : off = ![k]) (h' : off' = off) (hm0 : 0 < m)
    {inb : ∀ a, off a + (Sh1 m).size a ≤ (Sh1 n).size a} {inb' : ∀ a, off' a + (Sh1 m).size a ≤ (Sh1 n).size a}
    {hs : ∀ a, (Rect.unit (s := Sh1 n) off (Sh1 m).size inb).stride a = 1} {hs' : ∀ a, (Rect.unit (s := Sh1 n) off' (Sh1 m).size inb').stride a = 1}
    {hsrc : (A.slice (Rect.unit (s := Sh1 n) off (Sh1 m).size inb) hs).view.WordExact} {hdst : D.view.WordExact}
    {hsem : DmaTarget.Typed (nD := nD) sp (.dma sem) (.here D)}
    {hsrc' : (A.slice (Rect.unit (s := Sh1 n) off' (Sh1 m).size inb') hs').view.WordExact} {hdst' : D.view.WordExact}
    {kk : PUnit → Prog (TpuEff nD τ sig (Elt F) Λ c.2) α} {q : PosShare TreeShare} {fs : Buf (Elt F) (A.view.loc c)}
    {T G : ℕ → Elt F e} (ι : Ix) {O : CellTallies nD τ sig Ix} {W : Waits sig Ix} (hG : ∀ j, j < m → T (k + j) = G j) :
    iprop(Table c A q fs T ∗ Filled c D G 0 ∗ semVal (c, SemLoc.dma sem) 0 ∗ Owing c ι O W ∗ Transfers.MayWaits c ι O)
      ⊢ iprop((Table c A q fs T ∗ Filled c D G m ∗ semVal (c, SemLoc.dma sem) 0 ∗ Owing c ι O W
              -∗ wp frame (wpE defs 𝒱 c bd) Set.univ (kk ⟨⟩) Q)
          -∗ wp frame (wpE defs 𝒱 c bd) Set.univ
            (Prog.lift (.enqueueDma (A.slice (Rect.unit (s := Sh1 n) off (Sh1 m).size inb) hs) (.here D) (.dma sem) hsrc hdst hsem) >>= fun _ =>
              Prog.lift (.waitDma2 sem (A.slice (Rect.unit (s := Sh1 n) off' (Sh1 m).size inb') hs') D hsrc' hdst') >>= kk) Q) := by
  unfold Owing Table Filled
  iintro ⟨⟨%hT, HA⟩, ⟨%fd, %_, Hd⟩, Hs, ⟨%W', %hW, HO⟩, Hmw⟩ Hk
  have hsub : (A.view.slice (Rect.unit (s := Sh1 n) off (Sh1 m).size inb)).set ⊆ A.view.set := View.set_slice_subset _ _
  ihave HA := (pointsTo_split_subset (q := q) (f := fs) hsub).1 $$ HA
  icases HA with ⟨HA, HAr⟩
  iapply (Transfers.wp_dmaLocal EC 𝒱 c bd (src := A.slice (Rect.unit (s := Sh1 n) off (Sh1 m).size inb) hs) (dst := D) (sm := .dma sem) ι D.view.dmaCredit rfl
    (View.dmaCredit_pos _ (by rw [show (Sh1 m).numel = m from by simp [Shape.numel]]; exact hm0)) (Finset.Subset.refl _)) $$ [HA Hd Hs]
  · iframe HA Hd Hs
  iintro Hf
  iapply (Transfers.wp_waitLocalO EC 𝒱 c bd ι (N := D.view.dmaCredit) rfl) $$ [Hf HO Hmw]
  · iframe Hf HO
    iapply (Transfers.MayWaits.elim (SemLoc.dma sem)) $$ Hmw
  iintro ⟨⟨Hd, HA⟩, Hs, HO⟩
  iapply Hk
  ihave HA := (pointsTo_split_subset (q := q) (f := fs) hsub).2 $$ [HA HAr]
  · isplitl [HA] <;> iassumption
  isplitl [HA]
  · isplitr
    · ipureintro; exact hT
    · iexact HA
  isplitl [Hd]
  · iexists _
    isplitr
    rotate_left
    · iexact Hd
    · ipureintro
      intro j _
      rw [View.read_write_univ, ReadAs.apply_same]
      show A.view.read (Elt F) fs ((Rect.unit (s := Sh1 n) off (Sh1 m).size inb).emb j) = _
      rw [hT, flat_emb h inb j]
      exact hG _ (j 0).isLt
  isplitl [Hs]; · iexact Hs
  iexists _
  isplitr
  rotate_left
  · iexact HO
  · ipureintro
    intro p hp
    rcases Finset.mem_insert.mp hp with hp | hp
    · exact Or.inr (by rw [hp])
    · exact hW p hp

/-- A copy of a whole flat buffer into a window of a flat result, and its wait. -/
theorem wp_copyOut [Infinite Name] [EC.LandsIn (upEmb : UEmb _ 𝕄)] {sp' : Space}
    {D : Memref sig c.2.kind sp (Sh1 m) e} {A : Memref sig c.2.kind sp' (Sh1 n) e} {sem : DmaSem sig} {k lo : ℕ}
    {off off' : Fin 1 → ℕ} (h : off = ![k]) (h' : off' = off) (hm0 : 0 < m)
    {inb : ∀ a, off a + (Sh1 m).size a ≤ (Sh1 n).size a} {inb' : ∀ a, off' a + (Sh1 m).size a ≤ (Sh1 n).size a}
    {hs : ∀ a, (Rect.unit (s := Sh1 n) off (Sh1 m).size inb).stride a = 1} {hs' : ∀ a, (Rect.unit (s := Sh1 n) off' (Sh1 m).size inb').stride a = 1}
    {hdst : (A.slice (Rect.unit (s := Sh1 n) off (Sh1 m).size inb) hs).view.WordExact} {hsrc : D.view.WordExact}
    {hsem : DmaTarget.Typed (nD := nD) sp (.dma sem) (.here (A.slice (Rect.unit (s := Sh1 n) off (Sh1 m).size inb) hs))}
    {hdst' : (A.slice (Rect.unit (s := Sh1 n) off' (Sh1 m).size inb') hs').view.WordExact} {hsrc' : D.view.WordExact}
    {kk : PUnit → Prog (TpuEff nD τ sig (Elt F) Λ c.2) α} {S : Finset (Idx (A.view.loc c))}
    (hS : (A.view.slice (Rect.unit (s := Sh1 n) off (Sh1 m).size inb)).set ⊆ S)
    {T G : ℕ → Elt F e} (ι : Ix) {O : CellTallies nD τ sig Ix} {W : Waits sig Ix} (hG : ∀ j, j < m → T (k + j) = G j) :
    iprop(Filled c D G m ∗ Spanned c A S T lo k ∗ semVal (c, SemLoc.dma sem) 0 ∗ Owing c ι O W ∗ Transfers.MayWaits c ι O)
      ⊢ iprop((Filled c D G m ∗ Spanned c A S T lo (k + m) ∗ semVal (c, SemLoc.dma sem) 0 ∗ Owing c ι O W
              -∗ wp frame (wpE defs 𝒱 c bd) Set.univ (kk ⟨⟩) Q)
          -∗ wp frame (wpE defs 𝒱 c bd) Set.univ
            (Prog.lift (.enqueueDma D (.here (A.slice (Rect.unit (s := Sh1 n) off (Sh1 m).size inb) hs)) (.dma sem) hsrc hdst hsem) >>= fun _ =>
              Prog.lift (.waitDma2 sem D (A.slice (Rect.unit (s := Sh1 n) off' (Sh1 m).size inb') hs') hsrc' hdst') >>= kk) Q) := by
  subst h'
  unfold Owing Spanned Filled
  iintro ⟨⟨%fd, %hd, Hd⟩, ⟨%fa, %ha, HA⟩, Hs, ⟨%W', %hW, HO⟩, Hmw⟩ Hk
  iapply (Transfers.wp_dmaLocal EC 𝒱 c bd (src := D) (dst := A.slice (Rect.unit (s := Sh1 n) off' (Sh1 m).size inb) hs) (sm := .dma sem) ι
    (A.slice (Rect.unit (s := Sh1 n) off' (Sh1 m).size inb) hs).view.dmaCredit rfl
    (View.dmaCredit_pos _ (by rw [show (Rect.unit (s := Sh1 n) off' (Sh1 m).size inb).shape.numel = m from by simp [Shape.numel]]; exact hm0)) hS) $$ [HA Hd Hs]
  · iframe Hd HA Hs
  iintro Hf
  iapply (Transfers.wp_waitLocalO EC 𝒱 c bd ι (N := (A.slice (Rect.unit (s := Sh1 n) off' (Sh1 m).size inb) hs).view.dmaCredit) rfl) $$ [Hf HO Hmw]
  · iframe Hf HO
    iapply (Transfers.MayWaits.elim (SemLoc.dma sem)) $$ Hmw
  iintro ⟨⟨HA, Hd⟩, Hs, HO⟩
  iapply Hk
  isplitl [Hd]
  · iexists fd
    isplitr
    · ipureintro; exact hd
    · iexact Hd
  isplitl [HA]
  · iexists _
    isplitr
    rotate_left
    · iexact HA
    · ipureintro
      refine Span.write ha h fun x => ?_
      rw [ReadAs.apply_same, hd x (x 0).isLt]
      exact (hG _ (x 0).isLt).symm
  isplitl [Hs]; · iexact Hs
  iexists _
  isplitr
  rotate_left
  · iexact HO
  · ipureintro
    intro p hp
    rcases Finset.mem_insert.mp hp with hp | hp
    · exact Or.inr (by rw [hp])
    · exact hW p hp

end Cert.Proof.Rows
-- ==== Proof.Lanes.lean ====
/-
  Two steps of sixteen lanes, each as one rule at the head of a program: the lanes of two index lists looked up twice in
  tables held on the tile, and the lanes of six rows combined into a flat buffer. Also the copy of a whole flat table.
-/
module

public import proofs.«01_k».proof.Proof.Steps

@[expose] public section

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {e : EltTy} {R R' R'' n m : ℕ} {α : Type} {Q : α → sProp (MT nD τ sig Ix (Elt F) Name U Lvl)}

local notation "𝕄" => MT nD τ sig Ix (Elt F) Name U Lvl

/-- Sixteen lanes of six rows, two buffers' rows by turns, combined into the next lanes of a flat buffer. -/
theorem wp_mixLane {MI MO : Memref sig c.2.kind .vmem (Sh2 R 128) e} {D : Memref sig c.2.kind .vmem (Sh1 n) e} {s0 s1 s2 : Fin R} {b k : ℕ}
    {GI0 GO0 GI1 GO1 GI2 GO2 G' : ℕ → Elt F e} {o0 o1 o2 : Fin 2 → ℕ} {off' : Fin 1 → ℕ}
    (h0 : o0 = ![s0.val, b]) (h1 : o1 = ![s1.val, b]) (h2 : o2 = ![s2.val, b]) (h' : off' = ![k])
    {g : Elt F e → Elt F e → Elt F e → Elt F e → Elt F e → Elt F e → Elt F e}
    (hG : ∀ x, x < 16 → g (GI0 (b + x)) (GO0 (b + x)) (GI1 (b + x)) (GO1 (b + x)) (GI2 (b + x)) (GO2 (b + x)) = G' (k + x))
    {i0 : ∀ a, o0 a + (Sh2 1 16).size a ≤ (Sh2 R 128).size a} {i1 : ∀ a, o1 a + (Sh2 1 16).size a ≤ (Sh2 R 128).size a}
    {i2 : ∀ a, o2 a + (Sh2 1 16).size a ≤ (Sh2 R 128).size a} {inb' : ∀ a, off' a + (Sh1 16).size a ≤ (Sh1 n).size a}
    {pay : ((Sh2 1 16).Idx → Elt F e) → ((Sh2 1 16).Idx → Elt F e) → ((Sh2 1 16).Idx → Elt F e) → ((Sh2 1 16).Idx → Elt F e) →
      ((Sh2 1 16).Idx → Elt F e) → ((Sh2 1 16).Idx → Elt F e) → (Sh1 16).Idx → Elt F e}
    (hp : ∀ a b c d e f x, pay a b c d e f x = g (a (Fin.cons ⟨0, Nat.one_pos⟩ x)) (b (Fin.cons ⟨0, Nat.one_pos⟩ x)) (c (Fin.cons ⟨0, Nat.one_pos⟩ x))
      (d (Fin.cons ⟨0, Nat.one_pos⟩ x)) (e (Fin.cons ⟨0, Nat.one_pos⟩ x)) (f (Fin.cons ⟨0, Nat.one_pos⟩ x)))
    {a0 : MI.view.LoadsAt (Rect.unit (s := Sh2 R 128) o0 (Sh2 1 16).size i0).toLoadRect}
    {b0 : MO.view.LoadsAt (Rect.unit (s := Sh2 R 128) o0 (Sh2 1 16).size i0).toLoadRect}
    {a1 : MI.view.LoadsAt (Rect.unit (s := Sh2 R 128) o1 (Sh2 1 16).size i1).toLoadRect}
    {b1 : MO.view.LoadsAt (Rect.unit (s := Sh2 R 128) o1 (Sh2 1 16).size i1).toLoadRect}
    {a2 : MI.view.LoadsAt (Rect.unit (s := Sh2 R 128) o2 (Sh2 1 16).size i2).toLoadRect}
    {b2 : MO.view.LoadsAt (Rect.unit (s := Sh2 R 128) o2 (Sh2 1 16).size i2).toLoadRect}
    {hl' : D.view.LoadsAt (Rect.unit (s := Sh1 n) off' (Sh1 16).size inb').toLoadRect}
    {hx : (D.access (Rect.unit (s := Sh1 n) off' (Sh1 16).size inb')).Stores Finset.univ}
    {hm : Finset.univ = Finset.univ ∨ ∀ a, (Rect.unit (s := Sh1 n) off' (Sh1 16).size inb').stride a = 1}
    {kk : PUnit → Prog (TpuEff nD τ sig (Elt F) Λ c.2) α} :
    iprop(RowHas c MI s0 GI0 ∗ RowHas c MO s0 GO0 ∗ RowHas c MI s1 GI1 ∗ RowHas c MO s1 GO1 ∗ RowHas c MI s2 GI2 ∗ RowHas c MO s2 GO2 ∗ Filled c D G' k)
      ⊢ iprop((RowHas c MI s0 GI0 ∗ RowHas c MO s0 GO0 ∗ RowHas c MI s1 GI1 ∗ RowHas c MO s1 GO1 ∗ RowHas c MI s2 GI2 ∗ RowHas c MO s2 GO2 ∗ Filled c D G' (k + 16)
            -∗ wp frame (wpE defs 𝒱 c bd) Set.univ (kk ⟨⟩) Q)
        -∗ wp frame (wpE defs 𝒱 c bd) Set.univ
            (Prog.lift (.load MI (Rect.unit (s := Sh2 R 128) o0 (Sh2 1 16).size i0).toLoadRect a0) >>= fun v0 =>
              Prog.lift (.load MO (Rect.unit (s := Sh2 R 128) o0 (Sh2 1 16).size i0).toLoadRect b0) >>= fun w0 =>
              Prog.lift (.load MI (Rect.unit (s := Sh2 R 128) o1 (Sh2 1 16).size i1).toLoadRect a1) >>= fun v1 =>
              Prog.lift (.load MO (Rect.unit (s := Sh2 R 128) o1 (Sh2 1 16).size i1).toLoadRect b1) >>= fun w1 =>
              Prog.lift (.load MI (Rect.unit (s := Sh2 R 128) o2 (Sh2 1 16).size i2).toLoadRect a2) >>= fun v2 =>
              Prog.lift (.load MO (Rect.unit (s := Sh2 R 128) o2 (Sh2 1 16).size i2).toLoadRect b2) >>= fun w2 =>
              Prog.lift (.load D (Rect.unit (s := Sh1 n) off' (Sh1 16).size inb').toLoadRect hl') >>= fun _ =>
              Prog.lift (.store D (Rect.unit (s := Sh1 n) off' (Sh1 16).size inb') (pay v0 w0 v1 w1 v2 w2) Finset.univ hx hm) >>= kk) Q) := by
  unfold RowHas Filled
  iintro ⟨⟨%f0, %hf0, H0⟩, ⟨%e0, %he0, K0⟩, ⟨%f1, %hf1, H1⟩, ⟨%e1, %he1, K1⟩, ⟨%f2, %hf2, H2⟩, ⟨%e2, %he2, K2⟩, ⟨%gd, %hg, Hd⟩⟩ Hk
  iapply (wp_load 𝒱 c bd Set.univ (m := MI) (piece_subset MI s0 h0 i0)) $$ H0
  iintro H0
  iapply (wp_load 𝒱 c bd Set.univ (m := MO) (piece_subset MO s0 h0 i0)) $$ K0
  iintro K0
  iapply (wp_load 𝒱 c bd Set.univ (m := MI) (piece_subset MI s1 h1 i1)) $$ H1
  iintro H1
  iapply (wp_load 𝒱 c bd Set.univ (m := MO) (piece_subset MO s1 h1 i1)) $$ K1
  iintro K1
  iapply (wp_load 𝒱 c bd Set.univ (m := MI) (piece_subset MI s2 h2 i2)) $$ H2
  iintro H2
  iapply (wp_load 𝒱 c bd Set.univ (m := MO) (piece_subset MO s2 h2 i2)) $$ K2
  iintro K2
  iapply (wp_load 𝒱 c bd Set.univ (m := D) (S := D.view.set) (Finset.map_subset_map.mpr (Finset.subset_univ _))) $$ Hd
  iintro Hd
  iapply (wp_store 𝒱 c bd Set.univ (m := D) (r := Rect.unit (s := Sh1 n) off' (Sh1 16).size inb') (S := D.view.set) (View.set_slice_subset _ _)) $$ Hd
  iintro Hd
  iapply Hk
  isplitl [H0]
  · iexists f0; isplitr; · ipureintro; exact hf0
    iexact H0
  isplitl [K0]
  · iexists e0; isplitr; · ipureintro; exact he0
    iexact K0
  isplitl [H1]
  · iexists f1; isplitr; · ipureintro; exact hf1
    iexact H1
  isplitl [K1]
  · iexists e1; isplitr; · ipureintro; exact he1
    iexact K1
  isplitl [H2]
  · iexists f2; isplitr; · ipureintro; exact hf2
    iexact H2
  isplitl [K2]
  · iexists e2; isplitr; · ipureintro; exact he2
    iexact K2
  iexists _
  isplitr
  rotate_left
  · iexact Hd
  · ipureintro
    refine Done.write hg h' fun x => ?_
    rw [hp, piece_read hf0 h0 i0, piece_read he0 h0 i0, piece_read hf1 h1 i1, piece_read he1 h1 i1, piece_read hf2 h2 i2, piece_read he2 h2 i2]
    exact hG (x 0).val (x 0).isLt

/-- A table held on the tile read at sixteen indices. -/
theorem lookup_read {sp : Space} {B : Memref sig c.2.kind sp (Sh1 n) e} {f : Buf (Elt F) (B.view.loc c)} {T : ℕ → Elt F e}
    (hf : Done (Val := Elt F) B f T n) (v : IVec (Sh1 16) 32)
    (h : ∀ a x, ((![v] : Fin 1 → IVec (Sh1 16) 32) a x).toNat < (Sh1 n).size a) (x : (Sh1 16).Idx) :
    loadIdx ((B.access (.whole (Sh1 n))).read (Elt F) f) (![v] : Fin 1 → IVec (Sh1 16) 32) h x = T (v x).toNat := by
  show B.view.read (Elt F) f ((Rect.whole (Sh1 n)).emb (idxAt (![v] : Fin 1 → IVec (Sh1 16) 32) h x)) = _
  have e : (((Rect.whole (Sh1 n)).emb (idxAt (![v] : Fin 1 → IVec (Sh1 16) 32) h x)) 0).val = (v x).toNat := by
    rw [Rect.emb_whole_apply]
    rfl
  rw [hf _ (by rw [e]; exact h 0 x), e]

/-- Sixteen lanes of two index lists: kept as the next lanes of two rows of indices, looked up in one table and then in
    another, the two results and a function of the first lookups stored. -/
theorem wp_lookLane {nB nC : ℕ} {D1 D2 : Memref sig c.2.kind .vmem (Sh1 m) .i32} {M1 M2 : Memref sig c.2.kind .vmem (Sh2 R 128) .i32}
    {B : Memref sig c.2.kind .vmem (Sh1 nB) .i32} {C : Memref sig c.2.kind .vmem (Sh1 nC) .i32}
    {E1 E2 E3 : Memref sig c.2.kind .vmem (Sh1 n) .i32} {s : Fin R} {b k N : ℕ}
    {G1 G2 I1 I2 TB TC V1 V2 V3 : ℕ → Elt F .i32} {oD oE : Fin 1 → ℕ} {oM : Fin 2 → ℕ}
    (hD : oD = ![k]) (hM : oM = ![s.val, b]) (hE : oE = ![k]) (hN : k + 16 ≤ N)
    {g : Elt F .i32 → Elt F .i32 → Elt F .i32}
    (hI1 : ∀ x, x < 16 → I1 (b + x) = G1 (k + x)) (hI2 : ∀ x, x < 16 → I2 (b + x) = G2 (k + x))
    (hB1 : ∀ x, x < 16 → BitVec.toNat (w := 32) (G1 (k + x)) < nB) (hB2 : ∀ x, x < 16 → BitVec.toNat (w := 32) (G2 (k + x)) < nB)
    (hC : ∀ j, BitVec.toNat (w := 32) (TB j) < nC)
    (hV1 : ∀ x, x < 16 → TC (BitVec.toNat (w := 32) (TB (BitVec.toNat (w := 32) (G1 (k + x))))) = V1 (k + x))
    (hV2 : ∀ x, x < 16 → TC (BitVec.toNat (w := 32) (TB (BitVec.toNat (w := 32) (G2 (k + x))))) = V2 (k + x))
    (hV3 : ∀ x, x < 16 → g (TB (BitVec.toNat (w := 32) (G1 (k + x)))) (TB (BitVec.toNat (w := 32) (G2 (k + x)))) = V3 (k + x))
    {inbD : ∀ a, oD a + (Sh1 16).size a ≤ (Sh1 m).size a} {inbE : ∀ a, oE a + (Sh1 16).size a ≤ (Sh1 n).size a}
    {inbM : ∀ a, oM a + (Sh2 1 16).size a ≤ (Sh2 R 128).size a}
    {p1 p2 : ((Sh1 16).Idx → Elt F .i32) → (Sh2 1 16).Idx → Elt F .i32}
    (hp1 : ∀ v x, p1 v x = v (fun a => x a.succ)) (hp2 : ∀ v x, p2 v x = v (fun a => x a.succ))
    {p3 : ((Sh1 16).Idx → Elt F .i32) → ((Sh1 16).Idx → Elt F .i32) → (Sh1 16).Idx → Elt F .i32}
    (hp3 : ∀ v w x, p3 v w x = g (v x) (w x))
    {P1 P2 P3 P4 : ((Sh1 16).Idx → Elt F .i32) → Prop}
    (e1 : ∀ v : IVec (Sh1 16) 32, P1 v ↔ ∀ a x, ((![v] : Fin 1 → IVec (Sh1 16) 32) a x).toNat < (Sh1 nB).size a)
    (e2 : ∀ v : IVec (Sh1 16) 32, P2 v ↔ ∀ a x, ((![v] : Fin 1 → IVec (Sh1 16) 32) a x).toNat < (Sh1 nB).size a)
    (e3 : ∀ v : IVec (Sh1 16) 32, P3 v ↔ ∀ a x, ((![v] : Fin 1 → IVec (Sh1 16) 32) a x).toNat < (Sh1 nC).size a)
    (e4 : ∀ v : IVec (Sh1 16) 32, P4 v ↔ ∀ a x, ((![v] : Fin 1 → IVec (Sh1 16) 32) a x).toNat < (Sh1 nC).size a)
    {d1 : ∀ v, Decidable (P1 v)} {d2 : ∀ v, Decidable (P2 v)} {d3 : ∀ v, Decidable (P3 v)} {d4 : ∀ v, Decidable (P4 v)}
    {l1 : D1.view.LoadsAt (Rect.unit (s := Sh1 m) oD (Sh1 16).size inbD).toLoadRect} {l2 : D2.view.LoadsAt (Rect.unit (s := Sh1 m) oD (Sh1 16).size inbD).toLoadRect}
    {l3 : M1.view.LoadsAt (Rect.unit (s := Sh2 R 128) oM (Sh2 1 16).size inbM).toLoadRect} {l4 : M2.view.LoadsAt (Rect.unit (s := Sh2 R 128) oM (Sh2 1 16).size inbM).toLoadRect}
    {x3 : (M1.access (Rect.unit (s := Sh2 R 128) oM (Sh2 1 16).size inbM)).Stores Finset.univ}
    {x4 : (M2.access (Rect.unit (s := Sh2 R 128) oM (Sh2 1 16).size inbM)).Stores Finset.univ}
    {m3 m4 : Finset.univ = Finset.univ ∨ ∀ a, (Rect.unit (s := Sh2 R 128) oM (Sh2 1 16).size inbM).stride a = 1}
    {lB lB' : B.view.Loads} {lC lC' : C.view.Loads}
    {y1 : E1.view.LoadsAt (Rect.unit (s := Sh1 n) oE (Sh1 16).size inbE).toLoadRect} {y2 : E2.view.LoadsAt (Rect.unit (s := Sh1 n) oE (Sh1 16).size inbE).toLoadRect}
    {y3 : E3.view.LoadsAt (Rect.unit (s := Sh1 n) oE (Sh1 16).size inbE).toLoadRect}
    {z1 : (E1.access (Rect.unit (s := Sh1 n) oE (Sh1 16).size inbE)).Stores Finset.univ} {z2 : (E2.access (Rect.unit (s := Sh1 n) oE (Sh1 16).size inbE)).Stores Finset.univ}
    {z3 : (E3.access (Rect.unit (s := Sh1 n) oE (Sh1 16).size inbE)).Stores Finset.univ}
    {n1 n2 n3 : Finset.univ = Finset.univ ∨ ∀ a, (Rect.unit (s := Sh1 n) oE (Sh1 16).size inbE).stride a = 1}
    {kk : (v : (Sh1 16).Idx → Elt F .i32) → PLift (P1 v) → (w : (Sh1 16).Idx → Elt F .i32) → PLift (P2 w) → Prog (TpuEff nD τ sig (Elt F) Λ c.2) α} :
    iprop(Filled c D1 G1 N ∗ Filled c D2 G2 N ∗ RowFill c M1 s I1 b ∗ RowFill c M2 s I2 b ∗ Filled c B TB nB ∗ Filled c C TC nC
        ∗ Filled c E1 V1 k ∗ Filled c E2 V2 k ∗ Filled c E3 V3 k)
      ⊢ iprop((∀ v q1 w q2, Filled c D1 G1 N ∗ Filled c D2 G2 N ∗ RowFill c M1 s I1 (b + 16) ∗ RowFill c M2 s I2 (b + 16) ∗ Filled c B TB nB ∗ Filled c C TC nC
        ∗ Filled c E1 V1 (k + 16) ∗ Filled c E2 V2 (k + 16) ∗ Filled c E3 V3 (k + 16) -∗ wp frame (wpE defs 𝒱 c bd) Set.univ (kk v q1 w q2) Q)
        -∗ wp frame (wpE defs 𝒱 c bd) Set.univ
            (Prog.lift (.load D1 (Rect.unit (s := Sh1 m) oD (Sh1 16).size inbD).toLoadRect l1) >>= fun v =>
              Prog.lift (TpuEff.assume (P1 v) (d1 v)) >>= fun q1 =>
              Prog.lift (.load D2 (Rect.unit (s := Sh1 m) oD (Sh1 16).size inbD).toLoadRect l2) >>= fun w =>
              Prog.lift (TpuEff.assume (P2 w) (d2 w)) >>= fun q2 =>
              Prog.lift (.load M1 (Rect.unit (s := Sh2 R 128) oM (Sh2 1 16).size inbM).toLoadRect l3) >>= fun _ =>
              Prog.lift (.store M1 (Rect.unit (s := Sh2 R 128) oM (Sh2 1 16).size inbM) (p1 v) Finset.univ x3 m3) >>= fun _ =>
              Prog.lift (.load M2 (Rect.unit (s := Sh2 R 128) oM (Sh2 1 16).size inbM).toLoadRect l4) >>= fun _ =>
              Prog.lift (.store M2 (Rect.unit (s := Sh2 R 128) oM (Sh2 1 16).size inbM) (p2 w) Finset.univ x4 m4) >>= fun _ =>
              SparseCore.vectorLoadIdx B (![v] : Fin 1 → IVec (Sh1 16) 32) ((e1 v).1 q1.down) lB >>= fun a =>
              Prog.lift (TpuEff.assume (P3 a) (d3 a)) >>= fun q3 =>
              SparseCore.vectorLoadIdx B (![w] : Fin 1 → IVec (Sh1 16) 32) ((e2 w).1 q2.down) lB' >>= fun b =>
              Prog.lift (TpuEff.assume (P4 b) (d4 b)) >>= fun q4 =>
              SparseCore.vectorLoadIdx C (![a] : Fin 1 → IVec (Sh1 16) 32) ((e3 a).1 q3.down) lC >>= fun p =>
              SparseCore.vectorLoadIdx C (![b] : Fin 1 → IVec (Sh1 16) 32) ((e4 b).1 q4.down) lC' >>= fun q =>
              Prog.lift (.load E1 (Rect.unit (s := Sh1 n) oE (Sh1 16).size inbE).toLoadRect y1) >>= fun _ =>
              Prog.lift (.store E1 (Rect.unit (s := Sh1 n) oE (Sh1 16).size inbE) p Finset.univ z1 n1) >>= fun _ =>
              Prog.lift (.load E2 (Rect.unit (s := Sh1 n) oE (Sh1 16).size inbE).toLoadRect y2) >>= fun _ =>
              Prog.lift (.store E2 (Rect.unit (s := Sh1 n) oE (Sh1 16).size inbE) q Finset.univ z2 n2) >>= fun _ =>
              Prog.lift (.load E3 (Rect.unit (s := Sh1 n) oE (Sh1 16).size inbE).toLoadRect y3) >>= fun _ =>
              Prog.lift (.store E3 (Rect.unit (s := Sh1 n) oE (Sh1 16).size inbE) (p3 a b) Finset.univ z3 n3) >>= fun _ => kk v q1 w q2) Q) := by
  unfold RowFill Filled
  iintro ⟨⟨%f1, %hf1, H1⟩, ⟨%f2, %hf2, H2⟩, ⟨%f3, %hf3, H3⟩, ⟨%f4, %hf4, H4⟩, ⟨%fb, %hfb, HB⟩, ⟨%fc, %hfc, HC⟩, ⟨%g1, %hg1, J1⟩, ⟨%g2, %hg2, J2⟩, ⟨%g3, %hg3, J3⟩⟩ Hk
  have r1 : ∀ x, D1.view.readAt (Elt F) (Rect.unit (s := Sh1 m) oD (Sh1 16).size inbD).toLoadRect f1 x = G1 (k + (x 0).val) := fun x =>
    flat_read (k := k) (m := 16) (fun j hj => hf1 j (Nat.lt_of_lt_of_le hj hN)) hD inbD x
  have r2 : ∀ x, D2.view.readAt (Elt F) (Rect.unit (s := Sh1 m) oD (Sh1 16).size inbD).toLoadRect f2 x = G2 (k + (x 0).val) := fun x =>
    flat_read (k := k) (m := 16) (fun j hj => hf2 j (Nat.lt_of_lt_of_le hj hN)) hD inbD x
  iapply (wp_load 𝒱 c bd Set.univ (m := D1) (S := D1.view.set) (Finset.map_subset_map.mpr (Finset.subset_univ _))) $$ H1
  iintro H1
  have q1 : P1 (D1.view.readAt (Elt F) (Rect.unit (s := Sh1 m) oD (Sh1 16).size inbD).toLoadRect f1) := by
    rw [e1]
    intro a x
    match a with
    | ⟨0, _⟩ =>
      exact lt_of_eq_of_lt (congrArg (BitVec.toNat (w := 32)) (r1 x)) (hB1 _ (x 0).isLt)
  iapply (wp_assume 𝒱 c bd Set.univ q1)
  iapply (wp_load 𝒱 c bd Set.univ (m := D2) (S := D2.view.set) (Finset.map_subset_map.mpr (Finset.subset_univ _))) $$ H2
  iintro H2
  have q2 : P2 (D2.view.readAt (Elt F) (Rect.unit (s := Sh1 m) oD (Sh1 16).size inbD).toLoadRect f2) := by
    rw [e2]
    intro a x
    match a with
    | ⟨0, _⟩ =>
      exact lt_of_eq_of_lt (congrArg (BitVec.toNat (w := 32)) (r2 x)) (hB2 _ (x 0).isLt)
  iapply (wp_assume 𝒱 c bd Set.univ q2)
  iapply (wp_load 𝒱 c bd Set.univ (m := M1) (piece_subset M1 s hM inbM)) $$ H3
  iintro H3
  iapply (wp_store 𝒱 c bd Set.univ (m := M1) (r := Rect.unit (s := Sh2 R 128) oM (Sh2 1 16).size inbM) (S := (rowM M1 s).view.set) (by
    show (M1.access (Rect.unit (s := Sh2 R 128) oM (Sh2 1 16).size inbM)).set ⊆ _
    rw [View.set_slice]; exact piece_subset M1 s hM inbM)) $$ H3
  iintro H3
  iapply (wp_load 𝒱 c bd Set.univ (m := M2) (piece_subset M2 s hM inbM)) $$ H4
  iintro H4
  iapply (wp_store 𝒱 c bd Set.univ (m := M2) (r := Rect.unit (s := Sh2 R 128) oM (Sh2 1 16).size inbM) (S := (rowM M2 s).view.set) (by
    show (M2.access (Rect.unit (s := Sh2 R 128) oM (Sh2 1 16).size inbM)).set ⊆ _
    rw [View.set_slice]; exact piece_subset M2 s hM inbM)) $$ H4
  iintro H4
  iapply (SparseCore.wp_vectorLoadIdx 𝒱 c bd Set.univ (base := B) (hl := lB) (S := B.view.set) (View.set_slice_subset _ _)) $$ HB
  iintro HB
  have ra := lookup_read (c := c) hfb (D1.view.readAt (Elt F) (Rect.unit (s := Sh1 m) oD (Sh1 16).size inbD).toLoadRect f1) ((e1 _).1 q1)
  generalize loadIdx ((B.access (.whole (Sh1 nB))).read (Elt F) fb) (![D1.view.readAt (Elt F) (Rect.unit (s := Sh1 m) oD (Sh1 16).size inbD).toLoadRect f1] : Fin 1 → IVec (Sh1 16) 32) ((e1 _).1 q1) = va at ra ⊢
  have q3 : P3 va := by
    rw [e3]
    intro a x
    match a with
    | ⟨0, _⟩ =>
      show BitVec.toNat (w := 32) (va x) < nC
      rw [ra]
      exact hC _
  iapply (wp_assume 𝒱 c bd Set.univ q3)
  iapply (SparseCore.wp_vectorLoadIdx 𝒱 c bd Set.univ (base := B) (hl := lB') (S := B.view.set) (View.set_slice_subset _ _)) $$ HB
  iintro HB
  have rb := lookup_read (c := c) hfb (D2.view.readAt (Elt F) (Rect.unit (s := Sh1 m) oD (Sh1 16).size inbD).toLoadRect f2) ((e2 _).1 q2)
  generalize loadIdx ((B.access (.whole (Sh1 nB))).read (Elt F) fb) (![D2.view.readAt (Elt F) (Rect.unit (s := Sh1 m) oD (Sh1 16).size inbD).toLoadRect f2] : Fin 1 → IVec (Sh1 16) 32) ((e2 _).1 q2) = vb at rb ⊢
  have q4 : P4 vb := by
    rw [e4]
    intro a x
    match a with
    | ⟨0, _⟩ =>
      show BitVec.toNat (w := 32) (vb x) < nC
      rw [rb]
      exact hC _
  iapply (wp_assume 𝒱 c bd Set.univ q4)
  iapply (SparseCore.wp_vectorLoadIdx 𝒱 c bd Set.univ (base := C) (hl := lC) (S := C.view.set) (View.set_slice_subset _ _)) $$ HC
  iintro HC
  have rp := lookup_read (c := c) hfc va ((e3 _).1 q3)
  generalize loadIdx ((C.access (.whole (Sh1 nC))).read (Elt F) fc) (![va] : Fin 1 → IVec (Sh1 16) 32) ((e3 _).1 q3) = vp at rp ⊢
  iapply (SparseCore.wp_vectorLoadIdx 𝒱 c bd Set.univ (base := C) (hl := lC') (S := C.view.set) (View.set_slice_subset _ _)) $$ HC
  iintro HC
  have rq := lookup_read (c := c) hfc vb ((e4 _).1 q4)
  generalize loadIdx ((C.access (.whole (Sh1 nC))).read (Elt F) fc) (![vb] : Fin 1 → IVec (Sh1 16) 32) ((e4 _).1 q4) = vq at rq ⊢
  iapply (wp_load 𝒱 c bd Set.univ (m := E1) (S := E1.view.set) (Finset.map_subset_map.mpr (Finset.subset_univ _))) $$ J1
  iintro J1
  iapply (wp_store 𝒱 c bd Set.univ (m := E1) (r := Rect.unit (s := Sh1 n) oE (Sh1 16).size inbE) (S := E1.view.set) (View.set_slice_subset _ _)) $$ J1
  iintro J1
  iapply (wp_load 𝒱 c bd Set.univ (m := E2) (S := E2.view.set) (Finset.map_subset_map.mpr (Finset.subset_univ _))) $$ J2
  iintro J2
  iapply (wp_store 𝒱 c bd Set.univ (m := E2) (r := Rect.unit (s := Sh1 n) oE (Sh1 16).size inbE) (S := E2.view.set) (View.set_slice_subset _ _)) $$ J2
  iintro J2
  iapply (wp_load 𝒱 c bd Set.univ (m := E3) (S := E3.view.set) (Finset.map_subset_map.mpr (Finset.subset_univ _))) $$ J3
  iintro J3
  iapply (wp_store 𝒱 c bd Set.univ (m := E3) (r := Rect.unit (s := Sh1 n) oE (Sh1 16).size inbE) (S := E3.view.set) (View.set_slice_subset _ _)) $$ J3
  iintro J3
  ispecialize Hk $$ %(D1.view.readAt (Elt F) (Rect.unit (s := Sh1 m) oD (Sh1 16).size inbD).toLoadRect f1) %(PLift.up q1) %(D2.view.readAt (Elt F) (Rect.unit (s := Sh1 m) oD (Sh1 16).size inbD).toLoadRect f2) %(PLift.up q2)
  iapply Hk
  isplitl [H1]
  · iexists f1; isplitr; · ipureintro; exact hf1
    iexact H1
  isplitl [H2]
  · iexists f2; isplitr; · ipureintro; exact hf2
    iexact H2
  isplitl [H3]
  · iexists _; isplitr
    rotate_left
    · iexact H3
    · ipureintro
      refine RowTo.store hf3 hM fun x => ?_
      rw [hp1]
      exact (r1 _).trans (hI1 (x 1).val (x 1).isLt).symm
  isplitl [H4]
  · iexists _; isplitr
    rotate_left
    · iexact H4
    · ipureintro
      refine RowTo.store hf4 hM fun x => ?_
      rw [hp2]
      exact (r2 _).trans (hI2 (x 1).val (x 1).isLt).symm
  isplitl [HB]
  · iexists fb; isplitr; · ipureintro; exact hfb
    iexact HB
  isplitl [HC]
  · iexists fc; isplitr; · ipureintro; exact hfc
    iexact HC
  isplitl [J1]
  · iexists _; isplitr
    rotate_left
    · iexact J1
    · ipureintro
      refine Done.write hg1 hE fun x => ?_
      rw [rp, ra, r1]
      exact hV1 (x 0).val (x 0).isLt
  isplitl [J2]
  · iexists _; isplitr
    rotate_left
    · iexact J2
    · ipureintro
      refine Done.write hg2 hE fun x => ?_
      rw [rq, rb, r2]
      exact hV2 (x 0).val (x 0).isLt
  · iexists _; isplitr
    rotate_left
    · iexact J3
    · ipureintro
      refine Done.write hg3 hE fun x => ?_
      rw [hp3, ra, rb, r1, r2]
      exact hV3 (x 0).val (x 0).isLt

/-- A copy of a whole flat table into a whole flat buffer, and its wait. -/
theorem wp_copyAll [Infinite Name] [EC.LandsIn (upEmb : UEmb _ 𝕄)] {sp' : Space}
    {A : Memref sig c.2.kind sp (Sh1 m) e} {D : Memref sig c.2.kind sp' (Sh1 m) e} {sem : DmaSem sig} (hm0 : 0 < m)
    {hsrc : A.view.WordExact} {hdst : D.view.WordExact} {hsem : DmaTarget.Typed (nD := nD) sp (.dma sem) (.here D)}
    {hsrc' : A.view.WordExact} {hdst' : D.view.WordExact}
    {kk : PUnit → Prog (TpuEff nD τ sig (Elt F) Λ c.2) α} {q : PosShare TreeShare} {fs : Buf (Elt F) (A.view.loc c)}
    {T : ℕ → Elt F e} (ι : Ix) {O : CellTallies nD τ sig Ix} {W : Waits sig Ix} :
    iprop(Table c A q fs T ∗ Filled c D T 0 ∗ semVal (c, SemLoc.dma sem) 0 ∗ Owing c ι O W ∗ Transfers.MayWaits c ι O)
      ⊢ iprop((Table c A q fs T ∗ Filled c D T m ∗ semVal (c, SemLoc.dma sem) 0 ∗ Owing c ι O W
              -∗ wp frame (wpE defs 𝒱 c bd) Set.univ (kk ⟨⟩) Q)
          -∗ wp frame (wpE defs 𝒱 c bd) Set.univ
            (Prog.lift (.enqueueDma A (.here D) (.dma sem) hsrc hdst hsem) >>= fun _ =>
              Prog.lift (.waitDma2 sem A D hsrc' hdst') >>= kk) Q) := by
  unfold Owing Table Filled
  iintro ⟨⟨%hT, HA⟩, ⟨%fd, %_, Hd⟩, Hs, ⟨%W', %hW, HO⟩, Hmw⟩ Hk
  iapply (Transfers.wp_dmaLocal EC 𝒱 c bd (src := A) (dst := D) (sm := .dma sem) ι D.view.dmaCredit rfl
    (View.dmaCredit_pos _ (by rw [show (Sh1 m).numel = m from by simp [Shape.numel]]; exact hm0)) (Finset.Subset.refl _)) $$ [HA Hd Hs]
  · iframe HA Hd Hs
  iintro Hf
  iapply (Transfers.wp_waitLocalO EC 𝒱 c bd ι (N := D.view.dmaCredit) rfl) $$ [Hf HO Hmw]
  · iframe Hf HO
    iapply (Transfers.MayWaits.elim (SemLoc.dma sem)) $$ Hmw
  iintro ⟨⟨Hd, HA⟩, Hs, HO⟩
  iapply Hk
  isplitl [HA]
  · isplitr
    · ipureintro; exact hT
    · iexact HA
  isplitl [Hd]
  · iexists _
    isplitr
    rotate_left
    · iexact Hd
    · ipureintro
      intro j _
      rw [View.read_write_univ, ReadAs.apply_same]
      exact hT j
  isplitl [Hs]; · iexact Hs
  iexists _
  isplitr
  rotate_left
  · iexact HO
  · ipureintro
    intro p hp
    rcases Finset.mem_insert.mp hp with hp | hp
    · exact Or.inr (by rw [hp])
    · exact hW p hp

end Cert.Proof.Rows
-- ==== Proof.CdTwoBase.lean ====
/-
  The tile program of the residue and distance gather. Two small tables are first copied whole onto the tile. Per period
  the tile's slices of the two sorted endpoint lists are fetched; in chunks of 128 their lanes are looked up in the small
  tables, and the three coordinate tables are gathered at both endpoints, four chunks' rows in flight, every copy on a
  semaphore of its own; a chunk's squared distances are formed two chunks later. The run is stated by what the buffers
  read, over any logic parameters.
-/
module

public import proofs.«01_k».proof.Proof.Lanes
public import proofs.«01_k».proof.Proof.Gen.KernelIdeal
public import proofs.«01_k».proof.Proof.Gen.KernelIdeal.Skeleton

@[expose] public section

noncomputable section

namespace Cert.Proof.CdTwo

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

/-! ## The offsets in closed form -/

theorem trips2 : k1_t2_loop.trips = 14 := by decide
theorem trips1 : k1_t1_loop.trips = 14 := by decide

/-- The row, and the semaphore, of a slot's component. -/
abbrev r3 (s : Fin 4) (c : ℕ) (hc : c < 3 := by decide) : Fin 12 := ⟨3 * s.val + c, by omega⟩

theorem cond_iff : ∀ t : Fin k1_t2_loop.trips, k1_cond1 t = 1#1 ↔ 2 ≤ t.val := by decide +kernel
theorem off2_0 : ∀ t : Fin k1_t2_loop.trips, 2 ≤ t.val → k1_off2 t 0#32 = ![3 * ((t.val - 2) % 4) + 0, 0] := by decide +kernel
theorem off4_0 : ∀ t : Fin k1_t2_loop.trips, 2 ≤ t.val → k1_off4 t 0#32 = ![3 * ((t.val - 2) % 4) + 0] := by decide +kernel
theorem off5_0 : ∀ t : Fin k1_t2_loop.trips, 2 ≤ t.val → k1_off5 t 0#32 = ![3 * ((t.val - 2) % 4) + 0, 0] := by decide +kernel
theorem off7_0 : ∀ t : Fin k1_t2_loop.trips, 2 ≤ t.val → k1_off7 t 0#32 = ![3 * ((t.val - 2) % 4) + 0, 16] := by decide +kernel
theorem off8_0 : ∀ t : Fin k1_t2_loop.trips, 2 ≤ t.val → k1_off8 t 0#32 = ![3 * ((t.val - 2) % 4) + 0, 32] := by decide +kernel
theorem off9_0 : ∀ t : Fin k1_t2_loop.trips, 2 ≤ t.val → k1_off9 t 0#32 = ![3 * ((t.val - 2) % 4) + 0, 48] := by decide +kernel
theorem off10_0 : ∀ t : Fin k1_t2_loop.trips, 2 ≤ t.val → k1_off10 t 0#32 = ![3 * ((t.val - 2) % 4) + 0, 64] := by decide +kernel
theorem off11_0 : ∀ t : Fin k1_t2_loop.trips, 2 ≤ t.val → k1_off11 t 0#32 = ![3 * ((t.val - 2) % 4) + 0, 80] := by decide +kernel
theorem off12_0 : ∀ t : Fin k1_t2_loop.trips, 2 ≤ t.val → k1_off12 t 0#32 = ![3 * ((t.val - 2) % 4) + 0, 96] := by decide +kernel
theorem off13_0 : ∀ t : Fin k1_t2_loop.trips, 2 ≤ t.val → k1_off13 t 0#32 = ![3 * ((t.val - 2) % 4) + 0, 112] := by decide +kernel
theorem off2_1 : ∀ t : Fin k1_t2_loop.trips, 2 ≤ t.val → k1_off2 t 1#32 = ![3 * ((t.val - 2) % 4) + 1, 0] := by decide +kernel
theorem off4_1 : ∀ t : Fin k1_t2_loop.trips, 2 ≤ t.val → k1_off4 t 1#32 = ![3 * ((t.val - 2) % 4) + 1] := by decide +kernel
theorem off5_1 : ∀ t : Fin k1_t2_loop.trips, 2 ≤ t.val → k1_off5 t 1#32 = ![3 * ((t.val - 2) % 4) + 1, 0] := by decide +kernel
theorem off7_1 : ∀ t : Fin k1_t2_loop.trips, 2 ≤ t.val → k1_off7 t 1#32 = ![3 * ((t.val - 2) % 4) + 1, 16] := by decide +kernel
theorem off8_1 : ∀ t : Fin k1_t2_loop.trips, 2 ≤ t.val → k1_off8 t 1#32 = ![3 * ((t.val - 2) % 4) + 1, 32] := by decide +kernel
theorem off9_1 : ∀ t : Fin k1_t2_loop.trips, 2 ≤ t.val → k1_off9 t 1#32 = ![3 * ((t.val - 2) % 4) + 1, 48] := by decide +kernel
theorem off10_1 : ∀ t : Fin k1_t2_loop.trips, 2 ≤ t.val → k1_off10 t 1#32 = ![3 * ((t.val - 2) % 4) + 1, 64] := by decide +kernel
theorem off11_1 : ∀ t : Fin k1_t2_loop.trips, 2 ≤ t.val → k1_off11 t 1#32 = ![3 * ((t.val - 2) % 4) + 1, 80] := by decide +kernel
theorem off12_1 : ∀ t : Fin k1_t2_loop.trips, 2 ≤ t.val → k1_off12 t 1#32 = ![3 * ((t.val - 2) % 4) + 1, 96] := by decide +kernel
theorem off13_1 : ∀ t : Fin k1_t2_loop.trips, 2 ≤ t.val → k1_off13 t 1#32 = ![3 * ((t.val - 2) % 4) + 1, 112] := by decide +kernel
theorem off2_2 : ∀ t : Fin k1_t2_loop.trips, 2 ≤ t.val → k1_off2 t 2#32 = ![3 * ((t.val - 2) % 4) + 2, 0] := by decide +kernel
theorem off4_2 : ∀ t : Fin k1_t2_loop.trips, 2 ≤ t.val → k1_off4 t 2#32 = ![3 * ((t.val - 2) % 4) + 2] := by decide +kernel
theorem off5_2 : ∀ t : Fin k1_t2_loop.trips, 2 ≤ t.val → k1_off5 t 2#32 = ![3 * ((t.val - 2) % 4) + 2, 0] := by decide +kernel
theorem off7_2 : ∀ t : Fin k1_t2_loop.trips, 2 ≤ t.val → k1_off7 t 2#32 = ![3 * ((t.val - 2) % 4) + 2, 16] := by decide +kernel
theorem off8_2 : ∀ t : Fin k1_t2_loop.trips, 2 ≤ t.val → k1_off8 t 2#32 = ![3 * ((t.val - 2) % 4) + 2, 32] := by decide +kernel
theorem off9_2 : ∀ t : Fin k1_t2_loop.trips, 2 ≤ t.val → k1_off9 t 2#32 = ![3 * ((t.val - 2) % 4) + 2, 48] := by decide +kernel
theorem off10_2 : ∀ t : Fin k1_t2_loop.trips, 2 ≤ t.val → k1_off10 t 2#32 = ![3 * ((t.val - 2) % 4) + 2, 64] := by decide +kernel
theorem off11_2 : ∀ t : Fin k1_t2_loop.trips, 2 ≤ t.val → k1_off11 t 2#32 = ![3 * ((t.val - 2) % 4) + 2, 80] := by decide +kernel
theorem off12_2 : ∀ t : Fin k1_t2_loop.trips, 2 ≤ t.val → k1_off12 t 2#32 = ![3 * ((t.val - 2) % 4) + 2, 96] := by decide +kernel
theorem off13_2 : ∀ t : Fin k1_t2_loop.trips, 2 ≤ t.val → k1_off13 t 2#32 = ![3 * ((t.val - 2) % 4) + 2, 112] := by decide +kernel
theorem off6_0 : ∀ t : Fin k1_t2_loop.trips, 2 ≤ t.val → k1_off6 t 0#32 = ![128 * (t.val - 2) + 0] := by decide +kernel
theorem off6_1 : ∀ t : Fin k1_t2_loop.trips, 2 ≤ t.val → k1_off6 t 16#32 = ![128 * (t.val - 2) + 16] := by decide +kernel
theorem off6_2 : ∀ t : Fin k1_t2_loop.trips, 2 ≤ t.val → k1_off6 t 32#32 = ![128 * (t.val - 2) + 32] := by decide +kernel
theorem off6_3 : ∀ t : Fin k1_t2_loop.trips, 2 ≤ t.val → k1_off6 t 48#32 = ![128 * (t.val - 2) + 48] := by decide +kernel
theorem off6_4 : ∀ t : Fin k1_t2_loop.trips, 2 ≤ t.val → k1_off6 t 64#32 = ![128 * (t.val - 2) + 64] := by decide +kernel
theorem off6_5 : ∀ t : Fin k1_t2_loop.trips, 2 ≤ t.val → k1_off6 t 80#32 = ![128 * (t.val - 2) + 80] := by decide +kernel
theorem off6_6 : ∀ t : Fin k1_t2_loop.trips, 2 ≤ t.val → k1_off6 t 96#32 = ![128 * (t.val - 2) + 96] := by decide +kernel
theorem off6_7 : ∀ t : Fin k1_t2_loop.trips, 2 ≤ t.val → k1_off6 t 112#32 = ![128 * (t.val - 2) + 112] := by decide +kernel
theorem ld0 : ∀ t : Fin k1_t2_loop.trips, k1_off14 t = ![128 * t.val + 0] := by decide +kernel
theorem st0 : ∀ t : Fin k1_t2_loop.trips, k1_off16 t 0#32 = ![128 * t.val + 0] := by decide +kernel
theorem rw0 : ∀ t : Fin k1_t2_loop.trips, k1_off15 t = ![t.val % 4, 0] := by decide +kernel
theorem ld1 : ∀ t : Fin k1_t2_loop.trips, k1_off16 t 16#32 = ![128 * t.val + 16] := by decide +kernel
theorem st1 : ∀ t : Fin k1_t2_loop.trips, k1_off18 t 16#32 = ![128 * t.val + 16] := by decide +kernel
theorem rw1 : ∀ t : Fin k1_t2_loop.trips, k1_off17 t = ![t.val % 4, 16] := by decide +kernel
theorem ld2 : ∀ t : Fin k1_t2_loop.trips, k1_off18 t 32#32 = ![128 * t.val + 32] := by decide +kernel
theorem st2 : ∀ t : Fin k1_t2_loop.trips, k1_off20 t 32#32 = ![128 * t.val + 32] := by decide +kernel
theorem rw2 : ∀ t : Fin k1_t2_loop.trips, k1_off19 t = ![t.val % 4, 32] := by decide +kernel
theorem ld3 : ∀ t : Fin k1_t2_loop.trips, k1_off20 t 48#32 = ![128 * t.val + 48] := by decide +kernel
theorem st3 : ∀ t : Fin k1_t2_loop.trips, k1_off22 t 48#32 = ![128 * t.val + 48] := by decide +kernel
theorem rw3 : ∀ t : Fin k1_t2_loop.trips, k1_off21 t = ![t.val % 4, 48] := by decide +kernel
theorem ld4 : ∀ t : Fin k1_t2_loop.trips, k1_off22 t 64#32 = ![128 * t.val + 64] := by decide +kernel
theorem st4 : ∀ t : Fin k1_t2_loop.trips, k1_off24 t 64#32 = ![128 * t.val + 64] := by decide +kernel
theorem rw4 : ∀ t : Fin k1_t2_loop.trips, k1_off23 t = ![t.val % 4, 64] := by decide +kernel
theorem ld5 : ∀ t : Fin k1_t2_loop.trips, k1_off24 t 80#32 = ![128 * t.val + 80] := by decide +kernel
theorem st5 : ∀ t : Fin k1_t2_loop.trips, k1_off26 t 80#32 = ![128 * t.val + 80] := by decide +kernel
theorem rw5 : ∀ t : Fin k1_t2_loop.trips, k1_off25 t = ![t.val % 4, 80] := by decide +kernel
theorem ld6 : ∀ t : Fin k1_t2_loop.trips, k1_off26 t 96#32 = ![128 * t.val + 96] := by decide +kernel
theorem st6 : ∀ t : Fin k1_t2_loop.trips, k1_off28 t 96#32 = ![128 * t.val + 96] := by decide +kernel
theorem rw6 : ∀ t : Fin k1_t2_loop.trips, k1_off27 t = ![t.val % 4, 96] := by decide +kernel
theorem ld7 : ∀ t : Fin k1_t2_loop.trips, k1_off28 t 112#32 = ![128 * t.val + 112] := by decide +kernel
theorem st7 : ∀ t : Fin k1_t2_loop.trips, k1_off30 t = ![128 * t.val + 112] := by decide +kernel
theorem rw7 : ∀ t : Fin k1_t2_loop.trips, k1_off29 t = ![t.val % 4, 112] := by decide +kernel
theorem gr0 : ∀ t : Fin k1_t2_loop.trips, k1_off31 t = ![3 * (t.val % 4) + 0, 0] := by decide +kernel
theorem gs0 : ∀ t : Fin k1_t2_loop.trips, k1_off33 t = ![3 * (t.val % 4) + 0] := by decide +kernel
theorem gr1 : ∀ t : Fin k1_t2_loop.trips, k1_off34 t 1#32 = ![3 * (t.val % 4) + 1, 0] := by decide +kernel
theorem gs1 : ∀ t : Fin k1_t2_loop.trips, k1_off35 t 1#32 = ![3 * (t.val % 4) + 1] := by decide +kernel
theorem gr2 : ∀ t : Fin k1_t2_loop.trips, k1_off34 t 2#32 = ![3 * (t.val % 4) + 2, 0] := by decide +kernel
theorem gs2 : ∀ t : Fin k1_t2_loop.trips, k1_off35 t 2#32 = ![3 * (t.val % 4) + 2] := by decide +kernel
theorem gi : ∀ t : Fin k1_t2_loop.trips, k1_off32 t = ![t.val % 4, 0] := by decide +kernel
theorem off36_12_0 : k1_off36 12#32 0#32 = ![(r3 0 0).val, 0] := by decide +kernel
theorem off38_12_0 : k1_off38 12#32 0#32 = ![(r3 0 0).val] := by decide +kernel
theorem off39_12_0 : k1_off39 12#32 0#32 = ![(r3 0 0).val, 0] := by decide +kernel
theorem off40_12_0 : k1_off40 12#32 0#32 = ![(r3 0 0).val, 16] := by decide +kernel
theorem off41_12_0 : k1_off41 12#32 0#32 = ![(r3 0 0).val, 32] := by decide +kernel
theorem off42_12_0 : k1_off42 12#32 0#32 = ![(r3 0 0).val, 48] := by decide +kernel
theorem off43_12_0 : k1_off43 12#32 0#32 = ![(r3 0 0).val, 64] := by decide +kernel
theorem off44_12_0 : k1_off44 12#32 0#32 = ![(r3 0 0).val, 80] := by decide +kernel
theorem off45_12_0 : k1_off45 12#32 0#32 = ![(r3 0 0).val, 96] := by decide +kernel
theorem off46_12_0 : k1_off46 12#32 0#32 = ![(r3 0 0).val, 112] := by decide +kernel
theorem off36_12_1 : k1_off36 12#32 1#32 = ![(r3 0 1).val, 0] := by decide +kernel
theorem off38_12_1 : k1_off38 12#32 1#32 = ![(r3 0 1).val] := by decide +kernel
theorem off39_12_1 : k1_off39 12#32 1#32 = ![(r3 0 1).val, 0] := by decide +kernel
theorem off40_12_1 : k1_off40 12#32 1#32 = ![(r3 0 1).val, 16] := by decide +kernel
theorem off41_12_1 : k1_off41 12#32 1#32 = ![(r3 0 1).val, 32] := by decide +kernel
theorem off42_12_1 : k1_off42 12#32 1#32 = ![(r3 0 1).val, 48] := by decide +kernel
theorem off43_12_1 : k1_off43 12#32 1#32 = ![(r3 0 1).val, 64] := by decide +kernel
theorem off44_12_1 : k1_off44 12#32 1#32 = ![(r3 0 1).val, 80] := by decide +kernel
theorem off45_12_1 : k1_off45 12#32 1#32 = ![(r3 0 1).val, 96] := by decide +kernel
theorem off46_12_1 : k1_off46 12#32 1#32 = ![(r3 0 1).val, 112] := by decide +kernel
theorem off36_12_2 : k1_off36 12#32 2#32 = ![(r3 0 2).val, 0] := by decide +kernel
theorem off38_12_2 : k1_off38 12#32 2#32 = ![(r3 0 2).val] := by decide +kernel
theorem off39_12_2 : k1_off39 12#32 2#32 = ![(r3 0 2).val, 0] := by decide +kernel
theorem off40_12_2 : k1_off40 12#32 2#32 = ![(r3 0 2).val, 16] := by decide +kernel
theorem off41_12_2 : k1_off41 12#32 2#32 = ![(r3 0 2).val, 32] := by decide +kernel
theorem off42_12_2 : k1_off42 12#32 2#32 = ![(r3 0 2).val, 48] := by decide +kernel
theorem off43_12_2 : k1_off43 12#32 2#32 = ![(r3 0 2).val, 64] := by decide +kernel
theorem off44_12_2 : k1_off44 12#32 2#32 = ![(r3 0 2).val, 80] := by decide +kernel
theorem off45_12_2 : k1_off45 12#32 2#32 = ![(r3 0 2).val, 96] := by decide +kernel
theorem off46_12_2 : k1_off46 12#32 2#32 = ![(r3 0 2).val, 112] := by decide +kernel
theorem off36_13_0 : k1_off36 13#32 0#32 = ![(r3 1 0).val, 0] := by decide +kernel
theorem off38_13_0 : k1_off38 13#32 0#32 = ![(r3 1 0).val] := by decide +kernel
theorem off39_13_0 : k1_off39 13#32 0#32 = ![(r3 1 0).val, 0] := by decide +kernel
theorem off40_13_0 : k1_off40 13#32 0#32 = ![(r3 1 0).val, 16] := by decide +kernel
theorem off41_13_0 : k1_off41 13#32 0#32 = ![(r3 1 0).val, 32] := by decide +kernel
theorem off42_13_0 : k1_off42 13#32 0#32 = ![(r3 1 0).val, 48] := by decide +kernel
theorem off43_13_0 : k1_off43 13#32 0#32 = ![(r3 1 0).val, 64] := by decide +kernel
theorem off44_13_0 : k1_off44 13#32 0#32 = ![(r3 1 0).val, 80] := by decide +kernel
theorem off45_13_0 : k1_off45 13#32 0#32 = ![(r3 1 0).val, 96] := by decide +kernel
theorem off46_13_0 : k1_off46 13#32 0#32 = ![(r3 1 0).val, 112] := by decide +kernel
theorem off36_13_1 : k1_off36 13#32 1#32 = ![(r3 1 1).val, 0] := by decide +kernel
theorem off38_13_1 : k1_off38 13#32 1#32 = ![(r3 1 1).val] := by decide +kernel
theorem off39_13_1 : k1_off39 13#32 1#32 = ![(r3 1 1).val, 0] := by decide +kernel
theorem off40_13_1 : k1_off40 13#32 1#32 = ![(r3 1 1).val, 16] := by decide +kernel
theorem off41_13_1 : k1_off41 13#32 1#32 = ![(r3 1 1).val, 32] := by decide +kernel
theorem off42_13_1 : k1_off42 13#32 1#32 = ![(r3 1 1).val, 48] := by decide +kernel
theorem off43_13_1 : k1_off43 13#32 1#32 = ![(r3 1 1).val, 64] := by decide +kernel
theorem off44_13_1 : k1_off44 13#32 1#32 = ![(r3 1 1).val, 80] := by decide +kernel
theorem off45_13_1 : k1_off45 13#32 1#32 = ![(r3 1 1).val, 96] := by decide +kernel
theorem off46_13_1 : k1_off46 13#32 1#32 = ![(r3 1 1).val, 112] := by decide +kernel
theorem off36_13_2 : k1_off36 13#32 2#32 = ![(r3 1 2).val, 0] := by decide +kernel
theorem off38_13_2 : k1_off38 13#32 2#32 = ![(r3 1 2).val] := by decide +kernel
theorem off39_13_2 : k1_off39 13#32 2#32 = ![(r3 1 2).val, 0] := by decide +kernel
theorem off40_13_2 : k1_off40 13#32 2#32 = ![(r3 1 2).val, 16] := by decide +kernel
theorem off41_13_2 : k1_off41 13#32 2#32 = ![(r3 1 2).val, 32] := by decide +kernel
theorem off42_13_2 : k1_off42 13#32 2#32 = ![(r3 1 2).val, 48] := by decide +kernel
theorem off43_13_2 : k1_off43 13#32 2#32 = ![(r3 1 2).val, 64] := by decide +kernel
theorem off44_13_2 : k1_off44 13#32 2#32 = ![(r3 1 2).val, 80] := by decide +kernel
theorem off45_13_2 : k1_off45 13#32 2#32 = ![(r3 1 2).val, 96] := by decide +kernel
theorem off46_13_2 : k1_off46 13#32 2#32 = ![(r3 1 2).val, 112] := by decide +kernel

/-! ## The run -/

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid1.Coords) (bd : Option 𝒱.V)

local notation "𝕄" => MT nD τ sig Ix (Elt F) Name U Lvl

/-- The tile's thread. -/
abbrev thr (d : Dev nD) (i : grid1.Coords) : Thread nD τ := (d, .scVector ((i 0).castLE hcore1) ((i 1).castLE hsub1))

variable (A2 A3 : Memref sig .scVector .hbm S802816 .i32) (A4 : Memref sig .scVector .hbm S50176 .i32) (A5 : Memref sig .scVector .hbm S12512 .i32)
variable (A6 A7 A8 : Memref sig .scVector .hbm S50176 .f32) (A9 A10 A11 : Memref sig .scVector .hbm S802816 .i32) (A12 : Memref sig .scVector .hbm S802816 .f32)
variable (A13 : Memref sig .scVector .vmem S50176 .i32) (A14 : Memref sig .scVector .vmem S12512 .i32) (A15 A16 : Memref sig .scVector .vmem S1792 .i32)
variable (A17 A18 : Memref sig .scVector .vmem S4x128 .i32) (A19 A20 A21 : Memref sig .scVector .vmem S1792 .i32) (A22 : Memref sig .scVector .vmem S1792 .f32)
variable (A23 A24 : Memref sig .scVector .vmem S12x128 .f32) (A25 A26 : DmaSems sig S12)
variable (h2 : A2.IsWhole) (h3 : A3.IsWhole) (h4 : A4.IsWhole) (h5 : A5.IsWhole) (h6 : A6.IsWhole) (h7 : A7.IsWhole) (h8 : A8.IsWhole) (h9 : A9.IsWhole) (h10 : A10.IsWhole) (h11 : A11.IsWhole) (h12 : A12.IsWhole) (h13 : A13.IsWhole) (h14 : A14.IsWhole) (h15 : A15.IsWhole) (h16 : A16.IsWhole) (h17 : A17.IsWhole) (h18 : A18.IsWhole) (h19 : A19.IsWhole) (h20 : A20.IsWhole) (h21 : A21.IsWhole) (h22 : A22.IsWhole) (h23 : A23.IsWhole) (h24 : A24.IsWhole)
variable (r0 r1 r2 r3' r4 r5 r6 r7 : DmaSems sig S_)
variable (ι : Ix) (O : CellTallies nD τ sig Ix) (W : Waits sig Ix)
-- the coordinate tables' shares (per slot and endpoint), contents, and what the tables and lists read
variable (qi qo : Fin 4 → PosShare TreeShare)
variable (f6 : Buf (Elt F) (A6.view.loc (thr d i))) (f7 : Buf (Elt F) (A7.view.loc (thr d i))) (f8 : Buf (Elt F) (A8.view.loc (thr d i)))
variable (iT oT bT rT : ℕ → BitVec 32) (X6 X7 X8 : ℕ → Elt F .f32)

/-- What a row's position `j` is to read, a table `T` taken at the list `oT` from `base` on. -/
abbrev pick (oT : ℕ → BitVec 32) (T : ℕ → Elt F .f32) (base j : ℕ) : Elt F .f32 := T (oT (base + j)).toNat

/-- Two lookups of a list, from `base` on. -/
abbrev look (oT bT rT : ℕ → BitVec 32) (base j : ℕ) : Elt F .i32 := rT (bT (oT (base + j)).toNat).toNat

/-- The clipped distance of two positions. -/
def sdOf (a b : BitVec 32) : BitVec 32 := IntOp.minsi (IntOp.absi (IntOp.subi a b)) 10#32

/-- The clipped distances of the lists' first lookups, from `base` on. -/
abbrev sdAt (iT oT bT : ℕ → BitVec 32) (base j : ℕ) : Elt F .i32 := sdOf (bT (iT (base + j)).toNat) (bT (oT (base + j)).toNat)

/-- The squared distance of two points. -/
def distOf (a0 b0 a1 b1 a2 b2 : F .f32) : F .f32 :=
  FloatOps.addf (FloatOps.addf (FloatOps.addf (Scalar.ofBits .f32 0x00000000#32) (FloatOps.mulf (FloatOps.subf a0 b0) (FloatOps.subf a0 b0)))
    (FloatOps.mulf (FloatOps.subf a1 b1) (FloatOps.subf a1 b1))) (FloatOps.mulf (FloatOps.subf a2 b2) (FloatOps.subf a2 b2))

/-- The squared distances of the lists' points, from `base` on. -/
def distAt (iT oT : ℕ → BitVec 32) (X6 X7 X8 : ℕ → Elt F .f32) (base j : ℕ) : Elt F .f32 :=
  distOf (F := F) (pick (F := F) iT X6 base j) (pick (F := F) oT X6 base j) (pick (F := F) iT X7 base j) (pick (F := F) oT X7 base j)
    (pick (F := F) iT X8 base j) (pick (F := F) oT X8 base j)

theorem distAt_shift (base k b j : ℕ) :
    distOf (F := F) (pick (F := F) iT X6 (base + k) (b + j)) (pick (F := F) oT X6 (base + k) (b + j)) (pick (F := F) iT X7 (base + k) (b + j))
      (pick (F := F) oT X7 (base + k) (b + j)) (pick (F := F) iT X8 (base + k) (b + j)) (pick (F := F) oT X8 (base + k) (b + j))
      = distAt (F := F) iT oT X6 X7 X8 base (k + b + j) := by
  unfold distAt pick
  rw [show base + k + (b + j) = base + (k + b + j) by omega]

/-- The lanes of six rows combined as the program does. -/
theorem dist_of (l0 l1 l2 l3 l4 l5 : Vec F S1x16 .f32) (x : S16.Idx) :
    addf (addf (addf (broadcast S16 (Scalar.ofBits .f32 0x00000000#32 : F .f32))
        (mulf (subf (shapeCast S16 l0 shapeCasts_S1x16_S16) (shapeCast S16 l1 shapeCasts_S1x16_S16)) (subf (shapeCast S16 l0 shapeCasts_S1x16_S16) (shapeCast S16 l1 shapeCasts_S1x16_S16))))
        (mulf (subf (shapeCast S16 l2 shapeCasts_S1x16_S16) (shapeCast S16 l3 shapeCasts_S1x16_S16)) (subf (shapeCast S16 l2 shapeCasts_S1x16_S16) (shapeCast S16 l3 shapeCasts_S1x16_S16))))
        (mulf (subf (shapeCast S16 l4 shapeCasts_S1x16_S16) (shapeCast S16 l5 shapeCasts_S1x16_S16)) (subf (shapeCast S16 l4 shapeCasts_S1x16_S16) (shapeCast S16 l5 shapeCasts_S1x16_S16))) x
      = distOf (F := F) (l0 (Fin.cons ⟨0, Nat.one_pos⟩ x)) (l1 (Fin.cons ⟨0, Nat.one_pos⟩ x)) (l2 (Fin.cons ⟨0, Nat.one_pos⟩ x))
          (l3 (Fin.cons ⟨0, Nat.one_pos⟩ x)) (l4 (Fin.cons ⟨0, Nat.one_pos⟩ x)) (l5 (Fin.cons ⟨0, Nat.one_pos⟩ x)) := by
  have e : ∀ l : Vec F S1x16 .f32, shapeCast S16 l shapeCasts_S1x16_S16 x = l (Fin.cons ⟨0, Nat.one_pos⟩ x) := fun l => cast_flat l _ x
  show distOf (F := F) (shapeCast S16 l0 shapeCasts_S1x16_S16 x) (shapeCast S16 l1 shapeCasts_S1x16_S16 x) (shapeCast S16 l2 shapeCasts_S1x16_S16 x)
    (shapeCast S16 l3 shapeCasts_S1x16_S16 x) (shapeCast S16 l4 shapeCasts_S1x16_S16 x) (shapeCast S16 l5 shapeCasts_S1x16_S16 x) = _
  rw [e, e, e, e, e, e]

/-- A slot with nothing in flight: its rows, its semaphores at zero, its shares of the tables. -/
def Idle (s : Fin 4) : sProp 𝕄 :=
  iprop(RowAny (thr d i) A17 s
    ∗ RowAny (thr d i) A18 s
    ∗ RowAny (thr d i) A23 (r3 s 0)
    ∗ RowAny (thr d i) A24 (r3 s 0)
    ∗ RowAny (thr d i) A23 (r3 s 1)
    ∗ RowAny (thr d i) A24 (r3 s 1)
    ∗ RowAny (thr d i) A23 (r3 s 2)
    ∗ RowAny (thr d i) A24 (r3 s 2)
    ∗ semVal (thr d i, SemLoc.dma (semAt A25 (r3 s 0))) 0
    ∗ semVal (thr d i, SemLoc.dma (semAt A26 (r3 s 0))) 0
    ∗ semVal (thr d i, SemLoc.dma (semAt A25 (r3 s 1))) 0
    ∗ semVal (thr d i, SemLoc.dma (semAt A26 (r3 s 1))) 0
    ∗ semVal (thr d i, SemLoc.dma (semAt A25 (r3 s 2))) 0
    ∗ semVal (thr d i, SemLoc.dma (semAt A26 (r3 s 2))) 0
    ∗ Table (thr d i) A6 (qi s) f6 X6
    ∗ Table (thr d i) A6 (qo s) f6 X6
    ∗ Table (thr d i) A7 (qi s) f7 X7
    ∗ Table (thr d i) A7 (qo s) f7 X7
    ∗ Table (thr d i) A8 (qi s) f8 X8
    ∗ Table (thr d i) A8 (qo s) f8 X8)

/-- A slot's row of indices, a share of it. -/
abbrev ixRow (M : Memref sig .scVector .vmem S4x128 .i32) (s : Fin 4) (p : PosShare TreeShare) (g : Buf (Elt F) ((rowM M s).view.loc (thr d i))) : sProp 𝕄 :=
  iprop((rowM M s).view.loc (thr d i) ↦[(rowM M s).view.set]{p} g)

/-- A slot with its chunk's six gathers in flight. -/
def Fly (base : ℕ) (s : Fin 4) : sProp 𝕄 :=
  iprop(∃ g0 : Buf (Elt F) ((rowM A17 s).view.loc (thr d i)), ∃ g1 : Buf (Elt F) ((rowM A18 s).view.loc (thr d i)),
    Transfers.Flight EC (thr d i) (.dma (semAt A25 (r3 s 0))) ι (rowM A23 (r3 s 0)).view.dmaCredit
      iprop(RowHas (thr d i) A23 (r3 s 0) (pick (F := F) iT X6 base) ∗ Table (thr d i) A6 (qi s) f6 X6 ∗ ixRow (F := F) d i A17 s fullShare.left g0)
    ∗ Transfers.Flight EC (thr d i) (.dma (semAt A26 (r3 s 0))) ι (rowM A24 (r3 s 0)).view.dmaCredit
      iprop(RowHas (thr d i) A24 (r3 s 0) (pick (F := F) oT X6 base) ∗ Table (thr d i) A6 (qo s) f6 X6 ∗ ixRow (F := F) d i A18 s fullShare.left g1)
    ∗ Transfers.Flight EC (thr d i) (.dma (semAt A25 (r3 s 1))) ι (rowM A23 (r3 s 1)).view.dmaCredit
      iprop(RowHas (thr d i) A23 (r3 s 1) (pick (F := F) iT X7 base) ∗ Table (thr d i) A7 (qi s) f7 X7 ∗ ixRow (F := F) d i A17 s fullShare.right.left g0)
    ∗ Transfers.Flight EC (thr d i) (.dma (semAt A26 (r3 s 1))) ι (rowM A24 (r3 s 1)).view.dmaCredit
      iprop(RowHas (thr d i) A24 (r3 s 1) (pick (F := F) oT X7 base) ∗ Table (thr d i) A7 (qo s) f7 X7 ∗ ixRow (F := F) d i A18 s fullShare.right.left g1)
    ∗ Transfers.Flight EC (thr d i) (.dma (semAt A25 (r3 s 2))) ι (rowM A23 (r3 s 2)).view.dmaCredit
      iprop(RowHas (thr d i) A23 (r3 s 2) (pick (F := F) iT X8 base) ∗ Table (thr d i) A8 (qi s) f8 X8 ∗ ixRow (F := F) d i A17 s fullShare.right.right g0)
    ∗ Transfers.Flight EC (thr d i) (.dma (semAt A26 (r3 s 2))) ι (rowM A24 (r3 s 2)).view.dmaCredit
      iprop(RowHas (thr d i) A24 (r3 s 2) (pick (F := F) oT X8 base) ∗ Table (thr d i) A8 (qo s) f8 X8 ∗ ixRow (F := F) d i A18 s fullShare.right.right g1))

omit [FloatOps F] [Infinite Name] [Preorder Lvl] in
/-- The three shares of a slot's row of indices are the row. -/
theorem ixRow_join (M : Memref sig .scVector .vmem S4x128 .i32) (s : Fin 4) (g : Buf (Elt F) ((rowM M s).view.loc (thr d i))) :
    (ixRow (F := F) d i M s fullShare g : sProp 𝕄) ⊣⊢ iprop(ixRow (F := F) d i M s fullShare.left g
      ∗ ixRow (F := F) d i M s fullShare.right.left g ∗ ixRow (F := F) d i M s fullShare.right.right g) := by
  constructor
  · iintro H
    ihave H := (pointsTo_share (PosShare.mem_left_op_right fullShare)).1 $$ H
    icases H with ⟨Ha, Hb⟩
    ihave Hb := (pointsTo_share (PosShare.mem_left_op_right fullShare.right)).1 $$ Hb
    icases Hb with ⟨Hb, Hc⟩
    iframe Ha Hb Hc
  · iintro ⟨Ha, Hb, Hc⟩
    ihave Hb := (pointsTo_share (PosShare.mem_left_op_right fullShare.right)).2 $$ [Hb Hc]
    · isplitl [Hb] <;> iassumption
    iapply (pointsTo_share (PosShare.mem_left_op_right fullShare)).2
    isplitl [Ha] <;> iassumption

/-- The three flat buffers of lookups, their first `k` elements done. -/
def Bufs (base k : ℕ) : sProp 𝕄 :=
  iprop(Filled (thr d i) A19 (look (F := F) iT bT rT base) k ∗ Filled (thr d i) A20 (look (F := F) oT bT rT base) k
    ∗ Filled (thr d i) A21 (sdAt (F := F) iT oT bT base) k)

/-- The flat buffer of squared distances, its first `k` elements done. -/
def Dist (base k : ℕ) : sProp 𝕄 := Filled (thr d i) A22 (distAt (F := F) iT oT X6 X7 X8 base) k

/-- What a period reads: the two slices and the two small tables. -/
def Lists (base : ℕ) : sProp 𝕄 :=
  iprop(Filled (thr d i) A15 (fun j => (iT (base + j) : Elt F .i32)) 1792 ∗ Filled (thr d i) A16 (fun j => (oT (base + j) : Elt F .i32)) 1792
    ∗ Filled (thr d i) A13 (fun j => (bT j : Elt F .i32)) 50176 ∗ Filled (thr d i) A14 (fun j => (rT j : Elt F .i32)) 12512)

end Cert.Proof.CdTwo
-- ==== Proof.CdTwoLane.lean ====
/-
  The lanes of a chunk looked up, sixteen by sixteen.
-/
module

public import proofs.«01_k».proof.Proof.CdTwoBase

@[expose] public section

noncomputable section

namespace Cert.Proof.CdTwo

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid1.Coords) (bd : Option 𝒱.V)

local notation "𝕄" => MT nD τ sig Ix (Elt F) Name U Lvl

variable (A2 A3 : Memref sig .scVector .hbm S802816 .i32) (A4 : Memref sig .scVector .hbm S50176 .i32) (A5 : Memref sig .scVector .hbm S12512 .i32)
variable (A6 A7 A8 : Memref sig .scVector .hbm S50176 .f32) (A9 A10 A11 : Memref sig .scVector .hbm S802816 .i32) (A12 : Memref sig .scVector .hbm S802816 .f32)
variable (A13 : Memref sig .scVector .vmem S50176 .i32) (A14 : Memref sig .scVector .vmem S12512 .i32) (A15 A16 : Memref sig .scVector .vmem S1792 .i32)
variable (A17 A18 : Memref sig .scVector .vmem S4x128 .i32) (A19 A20 A21 : Memref sig .scVector .vmem S1792 .i32) (A22 : Memref sig .scVector .vmem S1792 .f32)
variable (A23 A24 : Memref sig .scVector .vmem S12x128 .f32) (A25 A26 : DmaSems sig S12)
variable (h2 : A2.IsWhole) (h3 : A3.IsWhole) (h4 : A4.IsWhole) (h5 : A5.IsWhole) (h6 : A6.IsWhole) (h7 : A7.IsWhole) (h8 : A8.IsWhole) (h9 : A9.IsWhole) (h10 : A10.IsWhole) (h11 : A11.IsWhole) (h12 : A12.IsWhole) (h13 : A13.IsWhole) (h14 : A14.IsWhole) (h15 : A15.IsWhole) (h16 : A16.IsWhole) (h17 : A17.IsWhole) (h18 : A18.IsWhole) (h19 : A19.IsWhole) (h20 : A20.IsWhole) (h21 : A21.IsWhole) (h22 : A22.IsWhole) (h23 : A23.IsWhole) (h24 : A24.IsWhole)
variable (r0 r1 r2 r3' r4 r5 r6 r7 : DmaSems sig S_)
variable (ι : Ix) (O : CellTallies nD τ sig Ix) (W : Waits sig Ix)
-- the coordinate tables' shares (per slot and endpoint), contents, and what the tables and lists read
variable (qi qo : Fin 4 → PosShare TreeShare)
variable (f6 : Buf (Elt F) (A6.view.loc (thr d i))) (f7 : Buf (Elt F) (A7.view.loc (thr d i))) (f8 : Buf (Elt F) (A8.view.loc (thr d i)))
variable (iT oT bT rT : ℕ → BitVec 32) (X6 X7 X8 : ℕ → Elt F .f32)

set_option maxHeartbeats 16000000 in
set_option maxRecDepth 65536 in
/-- Lanes `b` to `b + 15` of a chunk. -/
theorem lane (hiT : ∀ j, (iT j).toNat < 50176) (hoT : ∀ j, (oT j).toNat < 50176) (hbT : ∀ j, (bT j).toNat < 12512) (base : ℕ) (t : Fin k1_t2_loop.trips)
    (b b' : ℕ) {o1 o3 : Fin 1 → ℕ} {o2 : Fin 2 → ℕ} (g1 : o1 = ![128 * t.val + b]) (g2 : o2 = ![t.val % 4, b]) (g3 : o3 = ![128 * t.val + b]) (hb : b + 16 ≤ 128) (hb' : b' = b + 16)
    {i1 : ∀ a, o1 a + S16.size a ≤ S1792.size a} {i2 : ∀ a, o2 a + S1x16.size a ≤ S4x128.size a} {i3 : ∀ a, o3 a + S16.size a ≤ S1792.size a}
    {p3 : IVec S16 32 → IVec S16 32 → IVec S16 32} (hp3 : ∀ v w x, p3 v w x = sdOf (v x) (w x)) {P1 P2 P3 P4 : IVec S16 32 → Prop}
    (e1 : ∀ v : IVec S16 32, P1 v ↔ ∀ a x, ((![v] : Fin 1 → IVec S16 32) a x).toNat < S50176.size a) (e2 : ∀ v : IVec S16 32, P2 v ↔ ∀ a x, ((![v] : Fin 1 → IVec S16 32) a x).toNat < S50176.size a)
    (e3 : ∀ v : IVec S16 32, P3 v ↔ ∀ a x, ((![v] : Fin 1 → IVec S16 32) a x).toNat < S12512.size a) (e4 : ∀ v : IVec S16 32, P4 v ↔ ∀ a x, ((![v] : Fin 1 → IVec S16 32) a x).toNat < S12512.size a)
    {d1 : ∀ v, Decidable (P1 v)} {d2 : ∀ v, Decidable (P2 v)} {d3 : ∀ v, Decidable (P3 v)} {d4 : ∀ v, Decidable (P4 v)}
    {l1 : A15.view.LoadsAt (Rect.unit (s := S1792) o1 S16.size i1).toLoadRect} {l2 : A16.view.LoadsAt (Rect.unit (s := S1792) o1 S16.size i1).toLoadRect} {l3 : A17.view.LoadsAt (Rect.unit (s := S4x128) o2 S1x16.size i2).toLoadRect} {l4 : A18.view.LoadsAt (Rect.unit (s := S4x128) o2 S1x16.size i2).toLoadRect}
    {x3 : (A17.access (Rect.unit (s := S4x128) o2 S1x16.size i2)).Stores Finset.univ} {x4 : (A18.access (Rect.unit (s := S4x128) o2 S1x16.size i2)).Stores Finset.univ} {m3 m4 : Finset.univ = Finset.univ ∨ ∀ a, (Rect.unit (s := S4x128) o2 S1x16.size i2).stride a = 1}
    {lB lB' : A13.view.Loads} {lC lC' : A14.view.Loads}
    {y1 : A19.view.LoadsAt (Rect.unit (s := S1792) o3 S16.size i3).toLoadRect} {y2 : A20.view.LoadsAt (Rect.unit (s := S1792) o3 S16.size i3).toLoadRect} {y3 : A21.view.LoadsAt (Rect.unit (s := S1792) o3 S16.size i3).toLoadRect}
    {z1 : (A19.access (Rect.unit (s := S1792) o3 S16.size i3)).Stores Finset.univ} {z2 : (A20.access (Rect.unit (s := S1792) o3 S16.size i3)).Stores Finset.univ} {z3 : (A21.access (Rect.unit (s := S1792) o3 S16.size i3)).Stores Finset.univ}
    {n1 n2 n3 : Finset.univ = Finset.univ ∨ ∀ a, (Rect.unit (s := S1792) o3 S16.size i3).stride a = 1}
    {α : Type} {Q : α → sProp 𝕄} {kk : (v : Vec F S16 .i32) → PLift (P1 v) → (w : Vec F S16 .i32) → PLift (P2 w) → Prog (TpuEff nD τ sig (Elt F) Λ₀ (thr d i).2) α} :
    iprop(Filled (thr d i) A15 (fun j => (iT (base + j) : Elt F .i32)) 1792 ∗ Filled (thr d i) A16 (fun j => (oT (base + j) : Elt F .i32)) 1792 ∗ RowFill (thr d i) A17 ⟨t.val % 4, Nat.mod_lt _ (by decide)⟩ (fun j => (iT (base + 128 * t.val + j) : Elt F .i32)) b ∗ RowFill (thr d i) A18 ⟨t.val % 4, Nat.mod_lt _ (by decide)⟩ (fun j => (oT (base + 128 * t.val + j) : Elt F .i32)) b ∗ Filled (thr d i) A13 (fun j => (bT j : Elt F .i32)) 50176 ∗ Filled (thr d i) A14 (fun j => (rT j : Elt F .i32)) 12512 ∗ Filled (thr d i) A19 (look (F := F) iT bT rT base) (128 * t.val + b) ∗ Filled (thr d i) A20 (look (F := F) oT bT rT base) (128 * t.val + b) ∗ Filled (thr d i) A21 (sdAt (F := F) iT oT bT base) (128 * t.val + b))
      ⊢ iprop((∀ v q1 w q2, Filled (thr d i) A15 (fun j => (iT (base + j) : Elt F .i32)) 1792 ∗ Filled (thr d i) A16 (fun j => (oT (base + j) : Elt F .i32)) 1792 ∗ RowFill (thr d i) A17 ⟨t.val % 4, Nat.mod_lt _ (by decide)⟩ (fun j => (iT (base + 128 * t.val + j) : Elt F .i32)) b' ∗ RowFill (thr d i) A18 ⟨t.val % 4, Nat.mod_lt _ (by decide)⟩ (fun j => (oT (base + 128 * t.val + j) : Elt F .i32)) b' ∗ Filled (thr d i) A13 (fun j => (bT j : Elt F .i32)) 50176 ∗ Filled (thr d i) A14 (fun j => (rT j : Elt F .i32)) 12512 ∗ Filled (thr d i) A19 (look (F := F) iT bT rT base) (128 * t.val + b') ∗ Filled (thr d i) A20 (look (F := F) oT bT rT base) (128 * t.val + b') ∗ Filled (thr d i) A21 (sdAt (F := F) iT oT bT base) (128 * t.val + b') -∗ wp frame (wpE defs 𝒱 (thr d i) bd) Set.univ (kk v q1 w q2) Q)
        -∗ wp frame (wpE defs 𝒱 (thr d i) bd) Set.univ
          (Prog.lift (.load A15 (Rect.unit (s := S1792) o1 S16.size i1).toLoadRect l1) >>= fun (v : Vec F S16 .i32) =>
            Prog.lift (TpuEff.assume (P1 v) (d1 v)) >>= fun q1 =>
            Prog.lift (.load A16 (Rect.unit (s := S1792) o1 S16.size i1).toLoadRect l2) >>= fun (w : Vec F S16 .i32) =>
            Prog.lift (TpuEff.assume (P2 w) (d2 w)) >>= fun q2 =>
            Prog.lift (.load A17 (Rect.unit (s := S4x128) o2 S1x16.size i2).toLoadRect l3) >>= fun _ =>
            Prog.lift (.store A17 (Rect.unit (s := S4x128) o2 S1x16.size i2) (shapeCast S1x16 v shapeCasts_S16_S1x16) Finset.univ x3 m3) >>= fun _ =>
            Prog.lift (.load A18 (Rect.unit (s := S4x128) o2 S1x16.size i2).toLoadRect l4) >>= fun _ =>
            Prog.lift (.store A18 (Rect.unit (s := S4x128) o2 S1x16.size i2) (shapeCast S1x16 w shapeCasts_S16_S1x16) Finset.univ x4 m4) >>= fun _ =>
            SparseCore.vectorLoadIdx A13 ![v] ((e1 v).1 q1.down) lB >>= fun a =>
            Prog.lift (TpuEff.assume (P3 a) (d3 a)) >>= fun q3 =>
            SparseCore.vectorLoadIdx A13 ![w] ((e2 w).1 q2.down) lB' >>= fun b =>
            Prog.lift (TpuEff.assume (P4 b) (d4 b)) >>= fun q4 =>
            SparseCore.vectorLoadIdx A14 ![a] ((e3 a).1 q3.down) lC >>= fun p =>
            SparseCore.vectorLoadIdx A14 ![b] ((e4 b).1 q4.down) lC' >>= fun q =>
            Prog.lift (.load A19 (Rect.unit (s := S1792) o3 S16.size i3).toLoadRect y1) >>= fun _ =>
            Prog.lift (.store A19 (Rect.unit (s := S1792) o3 S16.size i3) p Finset.univ z1 n1) >>= fun _ =>
            Prog.lift (.load A20 (Rect.unit (s := S1792) o3 S16.size i3).toLoadRect y2) >>= fun _ =>
            Prog.lift (.store A20 (Rect.unit (s := S1792) o3 S16.size i3) q Finset.univ z2 n2) >>= fun _ =>
            Prog.lift (.load A21 (Rect.unit (s := S1792) o3 S16.size i3).toLoadRect y3) >>= fun _ =>
            Prog.lift (.store A21 (Rect.unit (s := S1792) o3 S16.size i3) (p3 a b) Finset.univ z3 n3) >>= fun _ => kk v q1 w q2) Q) := by
  have htl : t.val < 14 := t.isLt
  subst hb'
  rw [← Nat.add_assoc]
  exact wp_lookLane 𝒱 (thr d i) bd (D1 := A15) (D2 := A16) (M1 := A17) (M2 := A18) (B := A13) (C := A14) (E1 := A19) (E2 := A20) (E3 := A21)
    (G1 := fun j => (iT (base + j) : Elt F .i32)) (G2 := fun j => (oT (base + j) : Elt F .i32)) (I1 := fun j => (iT (base + 128 * t.val + j) : Elt F .i32)) (I2 := fun j => (oT (base + 128 * t.val + j) : Elt F .i32))
    (TB := fun j => (bT j : Elt F .i32)) (TC := fun j => (rT j : Elt F .i32)) (V1 := look (F := F) iT bT rT base) (V2 := look (F := F) oT bT rT base) (V3 := sdAt (F := F) iT oT bT base)
    (s := ⟨t.val % 4, Nat.mod_lt _ (by decide)⟩) (b := b) (k := 128 * t.val + b) (N := 1792) g1 g2 g3 (by omega) (g := sdOf)
    (fun x _ => by show iT (base + 128 * t.val + (b + x)) = iT (base + (128 * t.val + b + x)); congr 1; omega)
    (fun x _ => by show oT (base + 128 * t.val + (b + x)) = oT (base + (128 * t.val + b + x)); congr 1; omega)
    (fun _ _ => hiT _) (fun _ _ => hoT _) (fun _ => hbT _) (fun _ _ => rfl) (fun _ _ => rfl) (fun _ _ => rfl)
    (p1 := fun v => shapeCast S1x16 v shapeCasts_S16_S1x16) (p2 := fun v => shapeCast S1x16 v shapeCasts_S16_S1x16)
    (fun v x => cast_row v _ x) (fun v x => cast_row v _ x) (p3 := p3) hp3
    (P1 := P1) (P2 := P2) (P3 := P3) (P4 := P4)
    e1 e2 e3 e4

end Cert.Proof.CdTwo
-- ==== Proof.CdTwo.lean ====
/-
  A chunk of the residue and distance gather's tile program.
-/
module

public import proofs.«01_k».proof.Proof.CdTwoLane

@[expose] public section

noncomputable section

namespace Cert.Proof.CdTwo

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid1.Coords) (bd : Option 𝒱.V)

local notation "𝕄" => MT nD τ sig Ix (Elt F) Name U Lvl

variable (A2 A3 : Memref sig .scVector .hbm S802816 .i32) (A4 : Memref sig .scVector .hbm S50176 .i32) (A5 : Memref sig .scVector .hbm S12512 .i32)
variable (A6 A7 A8 : Memref sig .scVector .hbm S50176 .f32) (A9 A10 A11 : Memref sig .scVector .hbm S802816 .i32) (A12 : Memref sig .scVector .hbm S802816 .f32)
variable (A13 : Memref sig .scVector .vmem S50176 .i32) (A14 : Memref sig .scVector .vmem S12512 .i32) (A15 A16 : Memref sig .scVector .vmem S1792 .i32)
variable (A17 A18 : Memref sig .scVector .vmem S4x128 .i32) (A19 A20 A21 : Memref sig .scVector .vmem S1792 .i32) (A22 : Memref sig .scVector .vmem S1792 .f32)
variable (A23 A24 : Memref sig .scVector .vmem S12x128 .f32) (A25 A26 : DmaSems sig S12)
variable (h2 : A2.IsWhole) (h3 : A3.IsWhole) (h4 : A4.IsWhole) (h5 : A5.IsWhole) (h6 : A6.IsWhole) (h7 : A7.IsWhole) (h8 : A8.IsWhole) (h9 : A9.IsWhole) (h10 : A10.IsWhole) (h11 : A11.IsWhole) (h12 : A12.IsWhole) (h13 : A13.IsWhole) (h14 : A14.IsWhole) (h15 : A15.IsWhole) (h16 : A16.IsWhole) (h17 : A17.IsWhole) (h18 : A18.IsWhole) (h19 : A19.IsWhole) (h20 : A20.IsWhole) (h21 : A21.IsWhole) (h22 : A22.IsWhole) (h23 : A23.IsWhole) (h24 : A24.IsWhole)
variable (r0 r1 r2 r3' r4 r5 r6 r7 : DmaSems sig S_)
variable (ι : Ix) (O : CellTallies nD τ sig Ix) (W : Waits sig Ix)
-- the coordinate tables' shares (per slot and endpoint), contents, and what the tables and lists read
variable (qi qo : Fin 4 → PosShare TreeShare)
variable (f6 : Buf (Elt F) (A6.view.loc (thr d i))) (f7 : Buf (Elt F) (A7.view.loc (thr d i))) (f8 : Buf (Elt F) (A8.view.loc (thr d i)))
variable (iT oT bT rT : ℕ → BitVec 32) (X6 X7 X8 : ℕ → Elt F .f32)

local notation "IDLE" => Idle (F := F) (Ix := Ix) (Name := Name) (U := U) (Lvl := Lvl) d i A6 A7 A8 A17 A18 A23 A24 A25 A26 qi qo f6 f7 f8 X6 X7 X8
local notation "FLY" => Fly (F := F) (Ix := Ix) (Name := Name) (U := U) (Lvl := Lvl) EC d i A6 A7 A8 A17 A18 A23 A24 A25 A26 ι qi qo f6 f7 f8 iT oT X6 X7 X8
local notation "BUFS" => Bufs (F := F) (Ix := Ix) (Name := Name) (U := U) (Lvl := Lvl) d i A19 A20 A21 iT oT bT rT
local notation "DIST" => Dist (F := F) (Ix := Ix) (Name := Name) (U := U) (Lvl := Lvl) d i A22 iT oT X6 X7 X8
local notation "LISTS" => Lists (F := F) (Ix := Ix) (Name := Name) (U := U) (Lvl := Lvl) d i A13 A14 A15 A16 iT oT bT rT
local notation "OWING" => Owing (F := F) (Ix := Ix) (Name := Name) (U := U) (Lvl := Lvl) (thr d i) ι O W
local notation "MAYW" => (Transfers.MayWaits (thr d i) ι O : sProp (MT nD τ sig Ix (Elt F) Name U Lvl))

omit [FloatOps F] [Infinite Name] in
/-- One part of a family replaced by another. -/
theorem bigSep_update {n : ℕ} (Φ Ψ : Fin n → sProp 𝕄) (a : Fin n) (h : ∀ s, s ≠ a → Φ s = Ψ s) :
    bigSep Finset.univ Φ ⊢ iprop(Φ a ∗ (Ψ a -∗ bigSep Finset.univ Ψ)) := by
  rw [SparseCore.bigSep_erase' (Finset.mem_univ a), SparseCore.bigSep_erase' (Φ := Ψ) (Finset.mem_univ a),
    bigSep_congr (Φ := Φ) (Ψ := Ψ) (fun s hs => h s (Finset.ne_of_mem_erase hs))]
  iintro ⟨Ha, Hr⟩
  isplitl [Ha]; · iexact Ha
  iintro Hb
  isplitl [Hb] <;> iassumption

/-- The slots before chunk `c`: the last two chunks' are in flight. -/
def St (base c : ℕ) (s : Fin 4) : sProp 𝕄 :=
  if 1 ≤ c ∧ s.val = (c - 1) % 4 then FLY (base + 128 * (c - 1)) s
  else if 2 ≤ c ∧ s.val = (c - 2) % 4 then FLY (base + 128 * (c - 2)) s else IDLE s

/-- The slots in chunk `c`, the chunk before last taken in. -/
def Mid (base c : ℕ) (s : Fin 4) : sProp 𝕄 :=
  if 1 ≤ c ∧ s.val = (c - 1) % 4 then FLY (base + 128 * (c - 1)) s else IDLE s

local notation "STS" => St (F := F) (Ix := Ix) (Name := Name) (U := U) (Lvl := Lvl) EC d i A6 A7 A8 A17 A18 A23 A24 A25 A26 ι qi qo f6 f7 f8 iT oT X6 X7 X8
local notation "MIDS" => Mid (F := F) (Ix := Ix) (Name := Name) (U := U) (Lvl := Lvl) EC d i A6 A7 A8 A17 A18 A23 A24 A25 A26 ι qi qo f6 f7 f8 iT oT X6 X7 X8

omit [FloatOps F] [Infinite Name] in
theorem St_two (base c : ℕ) (hc : 2 ≤ c) (s : Fin 4) (hs : s.val = (c - 2) % 4) : STS base c s = FLY (base + 128 * (c - 2)) s := by
  unfold St
  rw [if_neg (by omega), if_pos ⟨hc, hs⟩]

omit [FloatOps F] [Infinite Name] in
theorem Mid_two (base c : ℕ) (hc : 2 ≤ c) (s : Fin 4) (hs : s.val = (c - 2) % 4) : MIDS base c s = IDLE s := by
  unfold Mid
  rw [if_neg (by omega)]

omit [FloatOps F] [Infinite Name] in
theorem St_mid (base c : ℕ) (s : Fin 4) (hs : c < 2 ∨ s.val ≠ (c - 2) % 4) : STS base c s = MIDS base c s := by
  unfold St Mid
  split
  · rfl
  · rw [if_neg (by omega)]

omit [FloatOps F] [Infinite Name] in
theorem Mid_now (base c : ℕ) (s : Fin 4) (hs : s.val = c % 4) : MIDS base c s = IDLE s := by
  unfold Mid
  rw [if_neg (by omega)]

omit [FloatOps F] [Infinite Name] in
theorem St_now (base c : ℕ) (s : Fin 4) (hs : s.val = c % 4) : STS base (c + 1) s = FLY (base + 128 * c) s := by
  unfold St
  rw [if_pos ⟨by omega, by simpa using hs⟩]
  rfl

omit [FloatOps F] [Infinite Name] in
theorem Mid_St (base c : ℕ) (s : Fin 4) (hs : s.val ≠ c % 4) : MIDS base c s = STS base (c + 1) s := by
  unfold St Mid
  rw [if_neg (c := 1 ≤ c + 1 ∧ s.val = (c + 1 - 1) % 4) (by simpa using hs)]
  have e : c + 1 - 2 = c - 1 := by omega
  rw [e]
  by_cases h : 1 ≤ c ∧ s.val = (c - 1) % 4
  · rw [if_pos h, if_pos ⟨by omega, h.2⟩]
  · rw [if_neg h, if_neg (by omega)]

omit [FloatOps F] [Infinite Name] in
theorem St_zero (base : ℕ) (s : Fin 4) : STS base 0 s = IDLE s := by
  unfold St
  rw [if_neg (by omega), if_neg (by omega)]

set_option maxHeartbeats 16000000 in
set_option maxRecDepth 65536 in
/-- A chunk of the first two: the slot's indices looked up and filled in, its six gathers issued. -/
theorem chunk_first [EC.LandsIn (upEmb : UEmb _ 𝕄)] (hiT : ∀ j, (iT j).toNat < 50176) (hoT : ∀ j, (oT j).toNat < 50176) (hbT : ∀ j, (bT j).toNat < 12512)
    (base : ℕ) (v1 c0 c1 : BitVec 32) (t1 : Fin k1_t1_loop.trips) (t : Fin k1_t2_loop.trips) (acc : BitVec 32) (hc : ¬ k1_cond1 t = 1#1) {Q : BitVec 32 → sProp 𝕄} :
    iprop(bigSep Finset.univ (STS base t.val) ∗ BUFS base (128 * t.val) ∗ DIST base (128 * (t.val - 2)) ∗ LISTS base ∗ OWING ∗ MAYW)
      ⊢ iprop((∀ v, bigSep Finset.univ (STS base (t.val + 1)) ∗ BUFS base (128 * (t.val + 1)) ∗ DIST base (128 * (t.val + 1 - 2)) ∗ LISTS base ∗ OWING -∗ Q v)
        -∗ wp frame (wpE defs 𝒱 (thr d i) bd) Set.univ (k1_t2_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 c0 c1 t1 t acc) Q) := by
  unfold k1_t2_body
  simp only [k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, dif_neg hc, bind_assoc, pure_bind]
  have ht : t.val < 2 := by
    by_contra h
    exact hc ((cond_iff t).2 (by omega))
  have e : t.val + 1 - 2 = t.val - 2 := by omega
  rw [e, bigSep_congr fun s _ => St_mid (F := F) EC d i A6 A7 A8 A17 A18 A23 A24 A25 A26 ι qi qo f6 f7 f8 iT oT X6 X7 X8 base t.val s (Or.inl ht)]
  iintro ⟨HS, HU, HD, HL, HO, #Hmw⟩ Hk
  ihave HS := (bigSep_update (MIDS base t.val) (STS base (t.val + 1)) ⟨t.val % 4, Nat.mod_lt _ (by decide)⟩
    (fun s hs => Mid_St (F := F) EC d i A6 A7 A8 A17 A18 A23 A24 A25 A26 ι qi qo f6 f7 f8 iT oT X6 X7 X8 base t.val s (fun h => hs (Fin.ext h)))) $$ HS
  icases HS with ⟨Ha, HS⟩
  ihave Ha := (Entails.of_eq (Mid_now (F := F) EC d i A6 A7 A8 A17 A18 A23 A24 A25 A26 ι qi qo f6 f7 f8 iT oT X6 X7 X8 base t.val ⟨t.val % 4, Nat.mod_lt _ (by decide)⟩ rfl)) $$ Ha
  unfold Idle Bufs Lists
  icases Ha with ⟨Hp, Hq, Hr00, Hr01, Hr10, Hr11, Hr20, Hr21, Hs00, Hs01, Hs10, Hs11, Hs20, Hs21, Ht00, Ht01, Ht10, Ht11, Ht20, Ht21⟩
  icases HU with ⟨Hx, Hy, Hz⟩
  icases HL with ⟨HI, HJ, HB, HC⟩
  ihave Hp := (RowAny.fill (thr d i) A17 _ (fun j => (iT (base + 128 * t.val + j) : Elt F .i32))) $$ Hp
  ihave Hq := (RowAny.fill (thr d i) A18 _ (fun j => (oT (base + 128 * t.val + j) : Elt F .i32))) $$ Hq
  iapply (lane 𝒱 d i bd A13 A14 A15 A16 A17 A18 A19 A20 A21 iT oT bT rT hiT hoT hbT base t 0 16 (ld0 t) (rw0 t) (st0 t) (by decide) rfl (p3 := k1_pay23) (fun _ _ _ => rfl) (P1 := k1_chk1) (P2 := k1_chk2) (P3 := k1_chk3) (P4 := k1_chk4) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 16 32 (ld1 t) (rw1 t) (st1 t) (by decide) rfl (p3 := k1_pay24) (fun _ _ _ => rfl) (P1 := k1_chk5) (P2 := k1_chk6) (P3 := k1_chk7) (P4 := k1_chk8) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 32 48 (ld2 t) (rw2 t) (st2 t) (by decide) rfl (p3 := k1_pay25) (fun _ _ _ => rfl) (P1 := k1_chk9) (P2 := k1_chk10) (P3 := k1_chk11) (P4 := k1_chk12) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 48 64 (ld3 t) (rw3 t) (st3 t) (by decide) rfl (p3 := k1_pay26) (fun _ _ _ => rfl) (P1 := k1_chk13) (P2 := k1_chk14) (P3 := k1_chk15) (P4 := k1_chk16) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 64 80 (ld4 t) (rw4 t) (st4 t) (by decide) rfl (p3 := k1_pay27) (fun _ _ _ => rfl) (P1 := k1_chk17) (P2 := k1_chk18) (P3 := k1_chk19) (P4 := k1_chk20) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 80 96 (ld5 t) (rw5 t) (st5 t) (by decide) rfl (p3 := k1_pay28) (fun _ _ _ => rfl) (P1 := k1_chk21) (P2 := k1_chk22) (P3 := k1_chk23) (P4 := k1_chk24) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 96 112 (ld6 t) (rw6 t) (st6 t) (by decide) rfl (p3 := k1_pay29) (fun _ _ _ => rfl) (P1 := k1_chk25) (P2 := k1_chk26) (P3 := k1_chk27) (P4 := k1_chk28) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 112 128 (ld7 t) (rw7 t) (st7 t) (by decide) rfl (p3 := k1_pay30) (fun _ _ _ => rfl) (P1 := k1_chk29) (P2 := k1_chk30) (P3 := k1_chk31) (P4 := k1_chk32) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  ihave Hp := (RowFill.all (thr d i) A17 _ _) $$ Hp
  ihave Hq := (RowFill.all (thr d i) A18 _ _) $$ Hq
  unfold RowHas
  icases Hp with ⟨%g0, %hg0, Hp⟩
  ihave Hp := (ixRow_join (F := F) d i A17 _ g0).1 $$ Hp
  icases Hp with ⟨Hi00, Hi10, Hi20⟩
  icases Hq with ⟨%g1, %hg1, Hq⟩
  ihave Hq := (ixRow_join (F := F) d i A18 _ g1).1 $$ Hq
  icases Hq with ⟨Hi01, Hi11, Hi21⟩
  iapply (wp_gatherRow EC 𝒱 (thr d i) bd (A := A6) (M := A23) (I := A17) (SA := A25) (s := r3 ⟨t.val % 4, Nat.mod_lt _ (by decide)⟩ 0) (s' := ⟨t.val % 4, Nat.mod_lt _ (by decide)⟩)
    (s'' := r3 ⟨t.val % 4, Nat.mod_lt _ (by decide)⟩ 0) (gr0 t) (gi t) (gs0 t) (fun _ => rfl) (T := X6) ι hg0 (fun j _ => hiT _)) $$ [Ht00 Hr00 Hi00 Hs00]
  · iframe Ht00 Hr00 Hi00 Hs00
  iintro Hf00
  iapply (wp_gatherRow EC 𝒱 (thr d i) bd (A := A7) (M := A23) (I := A17) (SA := A25) (s := r3 ⟨t.val % 4, Nat.mod_lt _ (by decide)⟩ 1) (s' := ⟨t.val % 4, Nat.mod_lt _ (by decide)⟩)
    (s'' := r3 ⟨t.val % 4, Nat.mod_lt _ (by decide)⟩ 1) (gr1 t) (gi t) (gs1 t) (fun _ => rfl) (T := X7) ι hg0 (fun j _ => hiT _)) $$ [Ht10 Hr10 Hi10 Hs10]
  · iframe Ht10 Hr10 Hi10 Hs10
  iintro Hf10
  iapply (wp_gatherRow EC 𝒱 (thr d i) bd (A := A8) (M := A23) (I := A17) (SA := A25) (s := r3 ⟨t.val % 4, Nat.mod_lt _ (by decide)⟩ 2) (s' := ⟨t.val % 4, Nat.mod_lt _ (by decide)⟩)
    (s'' := r3 ⟨t.val % 4, Nat.mod_lt _ (by decide)⟩ 2) (gr2 t) (gi t) (gs2 t) (fun _ => rfl) (T := X8) ι hg0 (fun j _ => hiT _)) $$ [Ht20 Hr20 Hi20 Hs20]
  · iframe Ht20 Hr20 Hi20 Hs20
  iintro Hf20
  iapply (wp_gatherRow EC 𝒱 (thr d i) bd (A := A6) (M := A24) (I := A18) (SA := A26) (s := r3 ⟨t.val % 4, Nat.mod_lt _ (by decide)⟩ 0) (s' := ⟨t.val % 4, Nat.mod_lt _ (by decide)⟩)
    (s'' := r3 ⟨t.val % 4, Nat.mod_lt _ (by decide)⟩ 0) (gr0 t) (gi t) (gs0 t) (fun _ => rfl) (T := X6) ι hg1 (fun j _ => hoT _)) $$ [Ht01 Hr01 Hi01 Hs01]
  · iframe Ht01 Hr01 Hi01 Hs01
  iintro Hf01
  iapply (wp_gatherRow EC 𝒱 (thr d i) bd (A := A7) (M := A24) (I := A18) (SA := A26) (s := r3 ⟨t.val % 4, Nat.mod_lt _ (by decide)⟩ 1) (s' := ⟨t.val % 4, Nat.mod_lt _ (by decide)⟩)
    (s'' := r3 ⟨t.val % 4, Nat.mod_lt _ (by decide)⟩ 1) (gr1 t) (gi t) (gs1 t) (fun _ => rfl) (T := X7) ι hg1 (fun j _ => hoT _)) $$ [Ht11 Hr11 Hi11 Hs11]
  · iframe Ht11 Hr11 Hi11 Hs11
  iintro Hf11
  iapply (wp_gatherRow EC 𝒱 (thr d i) bd (A := A8) (M := A24) (I := A18) (SA := A26) (s := r3 ⟨t.val % 4, Nat.mod_lt _ (by decide)⟩ 2) (s' := ⟨t.val % 4, Nat.mod_lt _ (by decide)⟩)
    (s'' := r3 ⟨t.val % 4, Nat.mod_lt _ (by decide)⟩ 2) (gr2 t) (gi t) (gs2 t) (fun _ => rfl) (T := X8) ι hg1 (fun j _ => hoT _)) $$ [Ht21 Hr21 Hi21 Hs21]
  · iframe Ht21 Hr21 Hi21 Hs21
  iintro Hf21
  iapply le_wp_ret
  iapply Hk
  isplitl [HS Hf00 Hf01 Hf10 Hf11 Hf20 Hf21]
  · iapply HS
    iapply (Entails.of_eq (St_now (F := F) EC d i A6 A7 A8 A17 A18 A23 A24 A25 A26 ι qi qo f6 f7 f8 iT oT X6 X7 X8 base t.val ⟨t.val % 4, Nat.mod_lt _ (by decide)⟩ rfl).symm)
    unfold Fly
    iexists g0
    iexists g1
    iframe Hf00 Hf01 Hf10 Hf11 Hf20 Hf21
  isplitl [Hx Hy Hz]
  · iframe Hx Hy Hz
  isplitl [HD]; · iexact HD
  isplitl [HI HJ HB HC]
  · iframe HI HJ HB HC
  iexact HO

set_option maxHeartbeats 16000000 in
set_option maxRecDepth 65536 in
/-- A later chunk: before that, the chunk before last is waited for and its squared distances formed. -/
theorem chunk_later [EC.LandsIn (upEmb : UEmb _ 𝕄)] (hiT : ∀ j, (iT j).toNat < 50176) (hoT : ∀ j, (oT j).toNat < 50176) (hbT : ∀ j, (bT j).toNat < 12512)
    (base : ℕ) (v1 c0 c1 : BitVec 32) (t1 : Fin k1_t1_loop.trips) (t : Fin k1_t2_loop.trips) (acc : BitVec 32) (hc : k1_cond1 t = 1#1) {Q : BitVec 32 → sProp 𝕄} :
    iprop(bigSep Finset.univ (STS base t.val) ∗ BUFS base (128 * t.val) ∗ DIST base (128 * (t.val - 2)) ∗ LISTS base ∗ OWING ∗ MAYW)
      ⊢ iprop((∀ v, bigSep Finset.univ (STS base (t.val + 1)) ∗ BUFS base (128 * (t.val + 1)) ∗ DIST base (128 * (t.val + 1 - 2)) ∗ LISTS base ∗ OWING -∗ Q v)
        -∗ wp frame (wpE defs 𝒱 (thr d i) bd) Set.univ (k1_t2_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 c0 c1 t1 t acc) Q) := by
  unfold k1_t2_body
  simp only [k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, dif_pos hc, bind_assoc, pure_bind]
  have ht := (cond_iff t).1 hc
  iintro ⟨HS, HU, Hd, HL, HO, #Hmw⟩ Hk
  ihave HS := (bigSep_update (STS base t.val) (MIDS base t.val) ⟨(t.val - 2) % 4, Nat.mod_lt _ (by decide)⟩
    (fun s hs => St_mid (F := F) EC d i A6 A7 A8 A17 A18 A23 A24 A25 A26 ι qi qo f6 f7 f8 iT oT X6 X7 X8 base t.val s (Or.inr (fun h => hs (Fin.ext h))))) $$ HS
  icases HS with ⟨Ha, HS⟩
  ihave Ha := (Entails.of_eq (St_two (F := F) EC d i A6 A7 A8 A17 A18 A23 A24 A25 A26 ι qi qo f6 f7 f8 iT oT X6 X7 X8 base t.val ht ⟨(t.val - 2) % 4, Nat.mod_lt _ (by decide)⟩ rfl)) $$ Ha
  unfold Fly Dist
  icases Ha with ⟨%g0, %g1, Hf00, Hf01, Hf10, Hf11, Hf20, Hf21⟩
  iapply (wp_waitRow EC 𝒱 (thr d i) bd (M := A23) (SA := A25) (s := r3 ⟨(t.val - 2) % 4, Nat.mod_lt _ (by decide)⟩ 0) (s'' := r3 ⟨(t.val - 2) % 4, Nat.mod_lt _ (by decide)⟩ 0) (off2_0 t ht) (off4_0 t ht) ι rfl) $$ [Hf00 HO]
  · iframe Hf00 HO Hmw
  iintro ⟨⟨Hr00, Ht00, Hi00⟩, Hs00, HO⟩
  iapply (wp_waitRow EC 𝒱 (thr d i) bd (M := A24) (SA := A26) (s := r3 ⟨(t.val - 2) % 4, Nat.mod_lt _ (by decide)⟩ 0) (s'' := r3 ⟨(t.val - 2) % 4, Nat.mod_lt _ (by decide)⟩ 0) (off2_0 t ht) (off4_0 t ht) ι rfl) $$ [Hf01 HO]
  · iframe Hf01 HO Hmw
  iintro ⟨⟨Hr01, Ht01, Hi01⟩, Hs01, HO⟩
  iapply (wp_waitRow EC 𝒱 (thr d i) bd (M := A23) (SA := A25) (s := r3 ⟨(t.val - 2) % 4, Nat.mod_lt _ (by decide)⟩ 1) (s'' := r3 ⟨(t.val - 2) % 4, Nat.mod_lt _ (by decide)⟩ 1) (off2_1 t ht) (off4_1 t ht) ι rfl) $$ [Hf10 HO]
  · iframe Hf10 HO Hmw
  iintro ⟨⟨Hr10, Ht10, Hi10⟩, Hs10, HO⟩
  iapply (wp_waitRow EC 𝒱 (thr d i) bd (M := A24) (SA := A26) (s := r3 ⟨(t.val - 2) % 4, Nat.mod_lt _ (by decide)⟩ 1) (s'' := r3 ⟨(t.val - 2) % 4, Nat.mod_lt _ (by decide)⟩ 1) (off2_1 t ht) (off4_1 t ht) ι rfl) $$ [Hf11 HO]
  · iframe Hf11 HO Hmw
  iintro ⟨⟨Hr11, Ht11, Hi11⟩, Hs11, HO⟩
  iapply (wp_waitRow EC 𝒱 (thr d i) bd (M := A23) (SA := A25) (s := r3 ⟨(t.val - 2) % 4, Nat.mod_lt _ (by decide)⟩ 2) (s'' := r3 ⟨(t.val - 2) % 4, Nat.mod_lt _ (by decide)⟩ 2) (off2_2 t ht) (off4_2 t ht) ι rfl) $$ [Hf20 HO]
  · iframe Hf20 HO Hmw
  iintro ⟨⟨Hr20, Ht20, Hi20⟩, Hs20, HO⟩
  iapply (wp_waitRow EC 𝒱 (thr d i) bd (M := A24) (SA := A26) (s := r3 ⟨(t.val - 2) % 4, Nat.mod_lt _ (by decide)⟩ 2) (s'' := r3 ⟨(t.val - 2) % 4, Nat.mod_lt _ (by decide)⟩ 2) (off2_2 t ht) (off4_2 t ht) ι rfl) $$ [Hf21 HO]
  · iframe Hf21 HO Hmw
  iintro ⟨⟨Hr21, Ht21, Hi21⟩, Hs21, HO⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 0) (k := 128 * (t.val - 2) + 0)
    (G' := distAt (F := F) iT oT X6 X7 X8 base) (off5_0 t ht) (off5_1 t ht) (off5_2 t ht) (off6_0 t ht) (g := distOf (F := F))
    (fun x _ => distAt_shift (F := F) iT oT X6 X7 X8 base (128 * (t.val - 2)) 0 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 16) (k := 128 * (t.val - 2) + 16)
    (G' := distAt (F := F) iT oT X6 X7 X8 base) (off7_0 t ht) (off7_1 t ht) (off7_2 t ht) (off6_1 t ht) (g := distOf (F := F))
    (fun x _ => distAt_shift (F := F) iT oT X6 X7 X8 base (128 * (t.val - 2)) 16 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 32) (k := 128 * (t.val - 2) + 32)
    (G' := distAt (F := F) iT oT X6 X7 X8 base) (off8_0 t ht) (off8_1 t ht) (off8_2 t ht) (off6_2 t ht) (g := distOf (F := F))
    (fun x _ => distAt_shift (F := F) iT oT X6 X7 X8 base (128 * (t.val - 2)) 32 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 48) (k := 128 * (t.val - 2) + 48)
    (G' := distAt (F := F) iT oT X6 X7 X8 base) (off9_0 t ht) (off9_1 t ht) (off9_2 t ht) (off6_3 t ht) (g := distOf (F := F))
    (fun x _ => distAt_shift (F := F) iT oT X6 X7 X8 base (128 * (t.val - 2)) 48 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 64) (k := 128 * (t.val - 2) + 64)
    (G' := distAt (F := F) iT oT X6 X7 X8 base) (off10_0 t ht) (off10_1 t ht) (off10_2 t ht) (off6_4 t ht) (g := distOf (F := F))
    (fun x _ => distAt_shift (F := F) iT oT X6 X7 X8 base (128 * (t.val - 2)) 64 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 80) (k := 128 * (t.val - 2) + 80)
    (G' := distAt (F := F) iT oT X6 X7 X8 base) (off11_0 t ht) (off11_1 t ht) (off11_2 t ht) (off6_5 t ht) (g := distOf (F := F))
    (fun x _ => distAt_shift (F := F) iT oT X6 X7 X8 base (128 * (t.val - 2)) 80 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 96) (k := 128 * (t.val - 2) + 96)
    (G' := distAt (F := F) iT oT X6 X7 X8 base) (off12_0 t ht) (off12_1 t ht) (off12_2 t ht) (off6_6 t ht) (g := distOf (F := F))
    (fun x _ => distAt_shift (F := F) iT oT X6 X7 X8 base (128 * (t.val - 2)) 96 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 ⟨(t.val - 2) % 4, Nat.mod_lt _ (by decide)⟩ 0) (s1 := r3 ⟨(t.val - 2) % 4, Nat.mod_lt _ (by decide)⟩ 1) (s2 := r3 ⟨(t.val - 2) % 4, Nat.mod_lt _ (by decide)⟩ 2) (b := 112) (k := 128 * (t.val - 2) + 112)
    (G' := distAt (F := F) iT oT X6 X7 X8 base) (off13_0 t ht) (off13_1 t ht) (off13_2 t ht) (off6_7 t ht) (g := distOf (F := F))
    (fun x _ => distAt_shift (F := F) iT oT X6 X7 X8 base (128 * (t.val - 2)) 112 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  ihave HS := HS $$ [Hr00 Hr01 Hr10 Hr11 Hr20 Hr21 Ht00 Ht01 Ht10 Ht11 Ht20 Ht21 Hi00 Hi01 Hi10 Hi11 Hi20 Hi21 Hs00 Hs01 Hs10 Hs11 Hs20 Hs21]
  · iapply (Entails.of_eq (Mid_two (F := F) EC d i A6 A7 A8 A17 A18 A23 A24 A25 A26 ι qi qo f6 f7 f8 iT oT X6 X7 X8 base t.val ht ⟨(t.val - 2) % 4, Nat.mod_lt _ (by decide)⟩ rfl).symm)
    unfold Idle
    isplitl [Hi00 Hi10 Hi20]
    · unfold RowAny
      iexists g0
      iapply (ixRow_join (F := F) d i A17 _ g0).2
      iframe Hi00 Hi10 Hi20
    isplitl [Hi01 Hi11 Hi21]
    · unfold RowAny
      iexists g1
      iapply (ixRow_join (F := F) d i A18 _ g1).2
      iframe Hi01 Hi11 Hi21
    isplitl [Hr00]; · iapply (RowHas.forget _ _ _ _); iexact Hr00
    isplitl [Hr01]; · iapply (RowHas.forget _ _ _ _); iexact Hr01
    isplitl [Hr10]; · iapply (RowHas.forget _ _ _ _); iexact Hr10
    isplitl [Hr11]; · iapply (RowHas.forget _ _ _ _); iexact Hr11
    isplitl [Hr20]; · iapply (RowHas.forget _ _ _ _); iexact Hr20
    isplitl [Hr21]; · iapply (RowHas.forget _ _ _ _); iexact Hr21
    iframe Hs00 Hs01 Hs10 Hs11 Hs20 Hs21 Ht00 Ht01 Ht10 Ht11 Ht20 Ht21
  ihave HD := (Entails.of_eq (show Filled (thr d i) A22 (distAt (F := F) iT oT X6 X7 X8 base) (128 * (t.val - 2) + 128) = Filled (thr d i) A22 (distAt (F := F) iT oT X6 X7 X8 base) (128 * (t.val + 1 - 2)) by
    congr 1; omega)) $$ Hd
  ihave HS := (bigSep_update (MIDS base t.val) (STS base (t.val + 1)) ⟨t.val % 4, Nat.mod_lt _ (by decide)⟩
    (fun s hs => Mid_St (F := F) EC d i A6 A7 A8 A17 A18 A23 A24 A25 A26 ι qi qo f6 f7 f8 iT oT X6 X7 X8 base t.val s (fun h => hs (Fin.ext h)))) $$ HS
  icases HS with ⟨Ha, HS⟩
  ihave Ha := (Entails.of_eq (Mid_now (F := F) EC d i A6 A7 A8 A17 A18 A23 A24 A25 A26 ι qi qo f6 f7 f8 iT oT X6 X7 X8 base t.val ⟨t.val % 4, Nat.mod_lt _ (by decide)⟩ rfl)) $$ Ha
  unfold Idle Bufs Lists
  icases Ha with ⟨Hp, Hq, Hr00, Hr01, Hr10, Hr11, Hr20, Hr21, Hs00, Hs01, Hs10, Hs11, Hs20, Hs21, Ht00, Ht01, Ht10, Ht11, Ht20, Ht21⟩
  icases HU with ⟨Hx, Hy, Hz⟩
  icases HL with ⟨HI, HJ, HB, HC⟩
  ihave Hp := (RowAny.fill (thr d i) A17 _ (fun j => (iT (base + 128 * t.val + j) : Elt F .i32))) $$ Hp
  ihave Hq := (RowAny.fill (thr d i) A18 _ (fun j => (oT (base + 128 * t.val + j) : Elt F .i32))) $$ Hq
  iapply (lane 𝒱 d i bd A13 A14 A15 A16 A17 A18 A19 A20 A21 iT oT bT rT hiT hoT hbT base t 0 16 (ld0 t) (rw0 t) (st0 t) (by decide) rfl (p3 := k1_pay23) (fun _ _ _ => rfl) (P1 := k1_chk1) (P2 := k1_chk2) (P3 := k1_chk3) (P4 := k1_chk4) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 16 32 (ld1 t) (rw1 t) (st1 t) (by decide) rfl (p3 := k1_pay24) (fun _ _ _ => rfl) (P1 := k1_chk5) (P2 := k1_chk6) (P3 := k1_chk7) (P4 := k1_chk8) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 32 48 (ld2 t) (rw2 t) (st2 t) (by decide) rfl (p3 := k1_pay25) (fun _ _ _ => rfl) (P1 := k1_chk9) (P2 := k1_chk10) (P3 := k1_chk11) (P4 := k1_chk12) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 48 64 (ld3 t) (rw3 t) (st3 t) (by decide) rfl (p3 := k1_pay26) (fun _ _ _ => rfl) (P1 := k1_chk13) (P2 := k1_chk14) (P3 := k1_chk15) (P4 := k1_chk16) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 64 80 (ld4 t) (rw4 t) (st4 t) (by decide) rfl (p3 := k1_pay27) (fun _ _ _ => rfl) (P1 := k1_chk17) (P2 := k1_chk18) (P3 := k1_chk19) (P4 := k1_chk20) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 80 96 (ld5 t) (rw5 t) (st5 t) (by decide) rfl (p3 := k1_pay28) (fun _ _ _ => rfl) (P1 := k1_chk21) (P2 := k1_chk22) (P3 := k1_chk23) (P4 := k1_chk24) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 96 112 (ld6 t) (rw6 t) (st6 t) (by decide) rfl (p3 := k1_pay29) (fun _ _ _ => rfl) (P1 := k1_chk25) (P2 := k1_chk26) (P3 := k1_chk27) (P4 := k1_chk28) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  iapply (lane 𝒱 d i bd A13 A14 A15 A16 A17 A18 A19 A20 A21 iT oT bT rT hiT hoT hbT base t 112 128 (ld7 t) (rw7 t) (st7 t) (by decide) rfl (p3 := k1_pay30) (fun _ _ _ => rfl) (P1 := k1_chk29) (P2 := k1_chk30) (P3 := k1_chk31) (P4 := k1_chk32) (fun _ => Iff.rfl) (fun _ => Iff.rfl) (fun _ => Iff.rfl) (fun _ => Iff.rfl)) $$ [HI HJ Hp Hq HB HC Hx Hy Hz]
  · iframe HI HJ Hp Hq HB HC Hx Hy Hz
  iintro %_ %_ %_ %_ ⟨HI, HJ, Hp, Hq, HB, HC, Hx, Hy, Hz⟩
  ihave Hp := (RowFill.all (thr d i) A17 _ _) $$ Hp
  ihave Hq := (RowFill.all (thr d i) A18 _ _) $$ Hq
  unfold RowHas
  icases Hp with ⟨%k0, %hk0, Hp⟩
  ihave Hp := (ixRow_join (F := F) d i A17 _ k0).1 $$ Hp
  icases Hp with ⟨Hi00, Hi10, Hi20⟩
  icases Hq with ⟨%k1', %hk1', Hq⟩
  ihave Hq := (ixRow_join (F := F) d i A18 _ k1').1 $$ Hq
  icases Hq with ⟨Hi01, Hi11, Hi21⟩
  iapply (wp_gatherRow EC 𝒱 (thr d i) bd (A := A6) (M := A23) (I := A17) (SA := A25) (s := r3 ⟨t.val % 4, Nat.mod_lt _ (by decide)⟩ 0) (s' := ⟨t.val % 4, Nat.mod_lt _ (by decide)⟩)
    (s'' := r3 ⟨t.val % 4, Nat.mod_lt _ (by decide)⟩ 0) (gr0 t) (gi t) (gs0 t) (fun _ => rfl) (T := X6) ι hk0 (fun j _ => hiT _)) $$ [Ht00 Hr00 Hi00 Hs00]
  · iframe Ht00 Hr00 Hi00 Hs00
  iintro Hf00
  iapply (wp_gatherRow EC 𝒱 (thr d i) bd (A := A7) (M := A23) (I := A17) (SA := A25) (s := r3 ⟨t.val % 4, Nat.mod_lt _ (by decide)⟩ 1) (s' := ⟨t.val % 4, Nat.mod_lt _ (by decide)⟩)
    (s'' := r3 ⟨t.val % 4, Nat.mod_lt _ (by decide)⟩ 1) (gr1 t) (gi t) (gs1 t) (fun _ => rfl) (T := X7) ι hk0 (fun j _ => hiT _)) $$ [Ht10 Hr10 Hi10 Hs10]
  · iframe Ht10 Hr10 Hi10 Hs10
  iintro Hf10
  iapply (wp_gatherRow EC 𝒱 (thr d i) bd (A := A8) (M := A23) (I := A17) (SA := A25) (s := r3 ⟨t.val % 4, Nat.mod_lt _ (by decide)⟩ 2) (s' := ⟨t.val % 4, Nat.mod_lt _ (by decide)⟩)
    (s'' := r3 ⟨t.val % 4, Nat.mod_lt _ (by decide)⟩ 2) (gr2 t) (gi t) (gs2 t) (fun _ => rfl) (T := X8) ι hk0 (fun j _ => hiT _)) $$ [Ht20 Hr20 Hi20 Hs20]
  · iframe Ht20 Hr20 Hi20 Hs20
  iintro Hf20
  iapply (wp_gatherRow EC 𝒱 (thr d i) bd (A := A6) (M := A24) (I := A18) (SA := A26) (s := r3 ⟨t.val % 4, Nat.mod_lt _ (by decide)⟩ 0) (s' := ⟨t.val % 4, Nat.mod_lt _ (by decide)⟩)
    (s'' := r3 ⟨t.val % 4, Nat.mod_lt _ (by decide)⟩ 0) (gr0 t) (gi t) (gs0 t) (fun _ => rfl) (T := X6) ι hk1' (fun j _ => hoT _)) $$ [Ht01 Hr01 Hi01 Hs01]
  · iframe Ht01 Hr01 Hi01 Hs01
  iintro Hf01
  iapply (wp_gatherRow EC 𝒱 (thr d i) bd (A := A7) (M := A24) (I := A18) (SA := A26) (s := r3 ⟨t.val % 4, Nat.mod_lt _ (by decide)⟩ 1) (s' := ⟨t.val % 4, Nat.mod_lt _ (by decide)⟩)
    (s'' := r3 ⟨t.val % 4, Nat.mod_lt _ (by decide)⟩ 1) (gr1 t) (gi t) (gs1 t) (fun _ => rfl) (T := X7) ι hk1' (fun j _ => hoT _)) $$ [Ht11 Hr11 Hi11 Hs11]
  · iframe Ht11 Hr11 Hi11 Hs11
  iintro Hf11
  iapply (wp_gatherRow EC 𝒱 (thr d i) bd (A := A8) (M := A24) (I := A18) (SA := A26) (s := r3 ⟨t.val % 4, Nat.mod_lt _ (by decide)⟩ 2) (s' := ⟨t.val % 4, Nat.mod_lt _ (by decide)⟩)
    (s'' := r3 ⟨t.val % 4, Nat.mod_lt _ (by decide)⟩ 2) (gr2 t) (gi t) (gs2 t) (fun _ => rfl) (T := X8) ι hk1' (fun j _ => hoT _)) $$ [Ht21 Hr21 Hi21 Hs21]
  · iframe Ht21 Hr21 Hi21 Hs21
  iintro Hf21
  iapply le_wp_ret
  iapply Hk
  isplitl [HS Hf00 Hf01 Hf10 Hf11 Hf20 Hf21]
  · iapply HS
    iapply (Entails.of_eq (St_now (F := F) EC d i A6 A7 A8 A17 A18 A23 A24 A25 A26 ι qi qo f6 f7 f8 iT oT X6 X7 X8 base t.val ⟨t.val % 4, Nat.mod_lt _ (by decide)⟩ rfl).symm)
    unfold Fly
    iexists k0
    iexists k1'
    iframe Hf00 Hf01 Hf10 Hf11 Hf20 Hf21
  isplitl [Hx Hy Hz]
  · iframe Hx Hy Hz
  isplitl [HD]; · iexact HD
  isplitl [HI HJ HB HC]
  · iframe HI HJ HB HC
  iexact HO

/-- A chunk. -/
theorem chunk_step [EC.LandsIn (upEmb : UEmb _ 𝕄)] (hiT : ∀ j, (iT j).toNat < 50176) (hoT : ∀ j, (oT j).toNat < 50176) (hbT : ∀ j, (bT j).toNat < 12512)
    (base : ℕ) (v1 c0 c1 : BitVec 32) (t1 : Fin k1_t1_loop.trips) (t : Fin k1_t2_loop.trips) (acc : BitVec 32) {Q : BitVec 32 → sProp 𝕄} :
    iprop(bigSep Finset.univ (STS base t.val) ∗ BUFS base (128 * t.val) ∗ DIST base (128 * (t.val - 2)) ∗ LISTS base ∗ OWING ∗ MAYW)
      ⊢ iprop((∀ v, bigSep Finset.univ (STS base (t.val + 1)) ∗ BUFS base (128 * (t.val + 1)) ∗ DIST base (128 * (t.val + 1 - 2)) ∗ LISTS base ∗ OWING -∗ Q v)
        -∗ wp frame (wpE defs 𝒱 (thr d i) bd) Set.univ (k1_t2_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 c0 c1 t1 t acc) Q) := by
  by_cases hc : k1_cond1 t = 1#1
  · exact chunk_later EC 𝒱 d i bd A2 A3 A4 A5 A6 A7 A8 A9 A10 A11 A12 A13 A14 A15 A16 A17 A18 A19 A20 A21 A22 A23 A24 A25 A26 h2 h3 h4 h5 h6 h7 h8 h9 h10 h11 h12 h13 h14 h15 h16 h17 h18 h19 h20 h21 h22 h23 h24 r0 r1 r2 r3' r4 r5 r6 r7 ι O W qi qo f6 f7 f8 iT oT bT rT X6 X7 X8 hiT hoT hbT base v1 c0 c1 t1 t acc hc
  · exact chunk_first EC 𝒱 d i bd A2 A3 A4 A5 A6 A7 A8 A9 A10 A11 A12 A13 A14 A15 A16 A17 A18 A19 A20 A21 A22 A23 A24 A25 A26 h2 h3 h4 h5 h6 h7 h8 h9 h10 h11 h12 h13 h14 h15 h16 h17 h18 h19 h20 h21 h22 h23 h24 r0 r1 r2 r3' r4 r5 r6 r7 ι O W qi qo f6 f7 f8 iT oT bT rT X6 X7 X8 hiT hoT hbT base v1 c0 c1 t1 t acc hc

end Cert.Proof.CdTwo
-- ==== Proof.CdTwoRun.lean ====
/-
  The run of the residue and distance gather's tile program: the chunks of a period, the last two chunks' distances, the
  periods.
-/
module

public import proofs.«01_k».proof.Proof.CdTwo

@[expose] public section

noncomputable section

namespace Cert.Proof.CdTwo

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid1.Coords) (bd : Option 𝒱.V)

local notation "𝕄" => MT nD τ sig Ix (Elt F) Name U Lvl

variable (A2 A3 : Memref sig .scVector .hbm S802816 .i32) (A4 : Memref sig .scVector .hbm S50176 .i32) (A5 : Memref sig .scVector .hbm S12512 .i32)
variable (A6 A7 A8 : Memref sig .scVector .hbm S50176 .f32) (A9 A10 A11 : Memref sig .scVector .hbm S802816 .i32) (A12 : Memref sig .scVector .hbm S802816 .f32)
variable (A13 : Memref sig .scVector .vmem S50176 .i32) (A14 : Memref sig .scVector .vmem S12512 .i32) (A15 A16 : Memref sig .scVector .vmem S1792 .i32)
variable (A17 A18 : Memref sig .scVector .vmem S4x128 .i32) (A19 A20 A21 : Memref sig .scVector .vmem S1792 .i32) (A22 : Memref sig .scVector .vmem S1792 .f32)
variable (A23 A24 : Memref sig .scVector .vmem S12x128 .f32) (A25 A26 : DmaSems sig S12)
variable (h2 : A2.IsWhole) (h3 : A3.IsWhole) (h4 : A4.IsWhole) (h5 : A5.IsWhole) (h6 : A6.IsWhole) (h7 : A7.IsWhole) (h8 : A8.IsWhole) (h9 : A9.IsWhole) (h10 : A10.IsWhole) (h11 : A11.IsWhole) (h12 : A12.IsWhole) (h13 : A13.IsWhole) (h14 : A14.IsWhole) (h15 : A15.IsWhole) (h16 : A16.IsWhole) (h17 : A17.IsWhole) (h18 : A18.IsWhole) (h19 : A19.IsWhole) (h20 : A20.IsWhole) (h21 : A21.IsWhole) (h22 : A22.IsWhole) (h23 : A23.IsWhole) (h24 : A24.IsWhole)
variable (r0 r1 r2 r3' r4 r5 r6 r7 : DmaSems sig S_)
variable (ι : Ix) (O : CellTallies nD τ sig Ix) (W : Waits sig Ix)
-- the coordinate tables' shares (per slot and endpoint), contents, and what the tables and lists read
variable (qi qo : Fin 4 → PosShare TreeShare)
variable (f6 : Buf (Elt F) (A6.view.loc (thr d i))) (f7 : Buf (Elt F) (A7.view.loc (thr d i))) (f8 : Buf (Elt F) (A8.view.loc (thr d i)))
variable (iT oT bT rT : ℕ → BitVec 32) (X6 X7 X8 : ℕ → Elt F .f32)

local notation "IDLE" => Idle (F := F) (Ix := Ix) (Name := Name) (U := U) (Lvl := Lvl) d i A6 A7 A8 A17 A18 A23 A24 A25 A26 qi qo f6 f7 f8 X6 X7 X8
local notation "FLY" => Fly (F := F) (Ix := Ix) (Name := Name) (U := U) (Lvl := Lvl) EC d i A6 A7 A8 A17 A18 A23 A24 A25 A26 ι qi qo f6 f7 f8 iT oT X6 X7 X8
local notation "BUFS" => Bufs (F := F) (Ix := Ix) (Name := Name) (U := U) (Lvl := Lvl) d i A19 A20 A21 iT oT bT rT
local notation "DIST" => Dist (F := F) (Ix := Ix) (Name := Name) (U := U) (Lvl := Lvl) d i A22 iT oT X6 X7 X8
local notation "LISTS" => Lists (F := F) (Ix := Ix) (Name := Name) (U := U) (Lvl := Lvl) d i A13 A14 A15 A16 iT oT bT rT
local notation "OWING" => Owing (F := F) (Ix := Ix) (Name := Name) (U := U) (Lvl := Lvl) (thr d i) ι O W
local notation "MAYW" => (Transfers.MayWaits (thr d i) ι O : sProp (MT nD τ sig Ix (Elt F) Name U Lvl))
local notation "STS" => St (F := F) (Ix := Ix) (Name := Name) (U := U) (Lvl := Lvl) EC d i A6 A7 A8 A17 A18 A23 A24 A25 A26 ι qi qo f6 f7 f8 iT oT X6 X7 X8
local notation "MIDS" => Mid (F := F) (Ix := Ix) (Name := Name) (U := U) (Lvl := Lvl) EC d i A6 A7 A8 A17 A18 A23 A24 A25 A26 ι qi qo f6 f7 f8 iT oT X6 X7 X8

/-- Where a tile's results begin. -/
abbrev lo (i : grid1.Coords) : ℕ := 401408 * (i 0).val + 25088 * (i 1).val

theorem off1 (i : grid1.Coords) (t : Fin k1_t1_loop.trips) : k1_off1 i t = ![lo i + 1792 * t.val] := by
  rw [k1_off1_eq]

/-- The chunks of a period: everything but the last two chunks' distances. -/
theorem chunks [EC.LandsIn (upEmb : UEmb _ 𝕄)] (hiT : ∀ j, (iT j).toNat < 50176) (hoT : ∀ j, (oT j).toNat < 50176) (hbT : ∀ j, (bT j).toNat < 12512) (base : ℕ) (v1 c0 c1 : BitVec 32) (t1 : Fin k1_t1_loop.trips)
    {α : Type} {Q : α → sProp 𝕄} {kk : BitVec 32 → Prog (TpuEff nD τ sig (Elt F) Λ₀ (thr d i).2) α} :
    iprop(bigSep Finset.univ (fun s => IDLE s) ∗ BUFS base 0 ∗ DIST base 0 ∗ LISTS base ∗ OWING ∗ MAYW)
      ⊢ iprop((∀ v, bigSep Finset.univ (STS base 14) ∗ BUFS base 1792 ∗ DIST base 1536 ∗ LISTS base ∗ OWING
            -∗ wp frame (wpE defs 𝒱 (thr d i) bd) Set.univ (kk v) Q)
        -∗ wp frame (wpE defs 𝒱 (thr d i) bd) Set.univ
          (Scf.Loop.for k1_t2_loop k1_t2_ok 0#32 (k1_t2_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 c0 c1 t1) >>= kk) Q) := by
  iintro ⟨HS, HB, HD, HI, HO, #Hmw⟩ Hk
  iapply (Scf.wp_for_bind frame (wpE defs 𝒱 (thr d i) bd) Set.univ k1_t2_loop.lb k1_t2_loop.ub k1_t2_loop.st k1_t2_ok 0#32
    (k1_t2_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 c0 c1 t1)
    (fun n _ => iprop(MAYW ∗ bigSep Finset.univ (STS base n) ∗ BUFS base (128 * n) ∗ DIST base (128 * (n - 2)) ∗ LISTS base ∗ OWING))
    (fun t acc => by
      iintro ⟨#Hmw, HS, HB, HD, HI, HO⟩
      iapply (chunk_step EC 𝒱 d i bd A2 A3 A4 A5 A6 A7 A8 A9 A10 A11 A12 A13 A14 A15 A16 A17 A18 A19 A20 A21 A22 A23 A24 A25 A26 h2 h3 h4 h5 h6 h7 h8 h9 h10 h11 h12 h13 h14 h15 h16 h17 h18 h19 h20 h21 h22 h23 h24 r0 r1 r2 r3' r4 r5 r6 r7 ι O W qi qo f6 f7 f8 iT oT bT rT X6 X7 X8 hiT hoT hbT base v1 c0 c1 t1 t acc) $$ [HS HB HD HI HO]
      · iframe HS HB HD HI HO Hmw
      iintro %v ⟨HS, HB, HD, HI, HO⟩
      isplitr; · iexact Hmw
      iframe HS HB HD HI HO)) $$ [HS HB HD HI HO]
  · isplitr; · iexact Hmw
    isplitl [HS]
    · iapply (Entails.of_eq (bigSep_congr fun s _ => (St_zero (F := F) EC d i A6 A7 A8 A17 A18 A23 A24 A25 A26 ι qi qo f6 f7 f8 iT oT X6 X7 X8 base s).symm))
      iexact HS
    iframe HB HD HI HO
  iintro %v H
  icases H with ⟨-, HS, HB, HD, HI, HO⟩
  iapply Hk
  iframe HS HB HD HI HO

omit [FloatOps F] [Infinite Name] in
theorem last_two (base : ℕ) : bigSep Finset.univ (STS base 14)
    ⊢ iprop(FLY (base + 1536) 0 ∗ FLY (base + 1664) 1 ∗ (IDLE 0 ∗ IDLE 1 -∗ bigSep Finset.univ fun s => IDLE s)) := by
  have e4 : STS base 14 0 = FLY (base + 1536) 0 := St_two (F := F) EC d i A6 A7 A8 A17 A18 A23 A24 A25 A26 ι qi qo f6 f7 f8 iT oT X6 X7 X8 base 14 (by decide) 0 rfl
  have e5 : STS base 14 1 = FLY (base + 1664) 1 := by unfold St; rw [if_pos ⟨by decide, rfl⟩]
  have er : ∀ s : Fin 4, s ≠ 0 → s ≠ 1 → STS base 14 s = IDLE s := by
    intro s h4 h5
    unfold St
    rw [if_neg (fun h => h5 (Fin.ext h.2)), if_neg (fun h => h4 (Fin.ext h.2))]
  rw [SparseCore.bigSep_erase' (Φ := STS base 14) (Finset.mem_univ 0), SparseCore.bigSep_erase' (Φ := STS base 14) (i := 1) (by decide),
    SparseCore.bigSep_erase' (Φ := fun s => IDLE s) (Finset.mem_univ 0), SparseCore.bigSep_erase' (Φ := fun s => IDLE s) (i := 1) (by decide), e4, e5,
    bigSep_congr (fun s hs => er s (Finset.ne_of_mem_erase (Finset.mem_of_mem_erase hs)) (Finset.ne_of_mem_erase hs))]
  iintro ⟨H4, H5, Hr⟩
  iframe H4 H5
  iintro ⟨Ha, Hb⟩
  iframe Ha Hb Hr

variable (q2 q3 : PosShare TreeShare) (f2 : Buf (Elt F) (A2.view.loc (thr d i))) (f3 : Buf (Elt F) (A3.view.loc (thr d i)))
variable (S9 : Finset (Idx (A9.view.loc (thr d i)))) (S10 : Finset (Idx (A10.view.loc (thr d i)))) (S11 : Finset (Idx (A11.view.loc (thr d i)))) (S12 : Finset (Idx (A12.view.loc (thr d i))))

/-- What a tile holds between periods, besides what it owes: `n` elements of its results done, `b` and `r` elements of the two small tables read in. -/
def Between (b r n : ℕ) : sProp 𝕄 :=
  iprop(bigSep Finset.univ (fun s => IDLE s) ∗ BUFS 0 0 ∗ DIST 0 0
    ∗ Filled (thr d i) A15 (fun j => (iT j : Elt F .i32)) 0 ∗ Filled (thr d i) A16 (fun j => (oT j : Elt F .i32)) 0
    ∗ Filled (thr d i) A13 (fun j => (bT j : Elt F .i32)) b ∗ Filled (thr d i) A14 (fun j => (rT j : Elt F .i32)) r
    ∗ Spanned (thr d i) A9 S9 (look (F := F) iT bT rT 0) (lo i) (lo i + n)
    ∗ Spanned (thr d i) A10 S10 (look (F := F) oT bT rT 0) (lo i) (lo i + n)
    ∗ Spanned (thr d i) A11 S11 (sdAt (F := F) iT oT bT 0) (lo i) (lo i + n)
    ∗ Spanned (thr d i) A12 S12 (distAt (F := F) iT oT X6 X7 X8 0) (lo i) (lo i + n)
    ∗ semVal (thr d i, SemLoc.dma r2.sem) 0 ∗ semVal (thr d i, SemLoc.dma r3'.sem) 0 ∗ semVal (thr d i, SemLoc.dma r4.sem) 0 ∗ semVal (thr d i, SemLoc.dma r5.sem) 0 ∗ semVal (thr d i, SemLoc.dma r6.sem) 0 ∗ semVal (thr d i, SemLoc.dma r7.sem) 0
    ∗ Table (thr d i) A2 q2 f2 (fun j => (iT j : Elt F .i32)) ∗ Table (thr d i) A3 q3 f3 (fun j => (oT j : Elt F .i32)))

local notation "BETW" => Between (F := F) (Ix := Ix) (Name := Name) (U := U) (Lvl := Lvl) d i A2 A3 A6 A7 A8 A9 A10 A11 A12 A13 A14 A15 A16 A17 A18 A19 A20 A21 A22 A23 A24 A25 A26 r2 r3' r4 r5 r6 r7 qi qo f6 f7 f8 iT oT bT rT X6 X7 X8 q2 q3 f2 f3 S9 S10 S11 S12

set_option maxHeartbeats 16000000 in
set_option maxRecDepth 65536 in
/-- A period. -/
theorem period_step [EC.LandsIn (upEmb : UEmb _ 𝕄)] (hiT : ∀ j, (iT j).toNat < 50176) (hoT : ∀ j, (oT j).toNat < 50176) (hbT : ∀ j, (bT j).toNat < 12512)
    (hS9 : ∀ t, (A9.view.slice (Rect.unit (s := S802816) (k1_off1 i t) S1792.size (k1_off1_inb i t))).set ⊆ S9)
    (hS10 : ∀ t, (A10.view.slice (Rect.unit (s := S802816) (k1_off1 i t) S1792.size (k1_off1_inb i t))).set ⊆ S10)
    (hS11 : ∀ t, (A11.view.slice (Rect.unit (s := S802816) (k1_off1 i t) S1792.size (k1_off1_inb i t))).set ⊆ S11)
    (hS12 : ∀ t, (A12.view.slice (Rect.unit (s := S802816) (k1_off1 i t) S1792.size (k1_off1_inb i t))).set ⊆ S12)
    (v1 : BitVec 32) (t : Fin k1_t1_loop.trips) (acc : BitVec 32) {Q : BitVec 32 → sProp 𝕄} :
    iprop(BETW 50176 12512 (1792 * t.val) ∗ OWING ∗ MAYW)
      ⊢ iprop((∀ v, BETW 50176 12512 (1792 * (t.val + 1)) ∗ OWING -∗ Q v)
        -∗ wp frame (wpE defs 𝒱 (thr d i) bd) Set.univ (k1_t1_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 v1 t acc) Q) := by
  unfold k1_t1_body
  simp only [k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel, k1_part38_eq_skeleton, k1_part38_skel, bind_assoc, pure_bind]
  unfold Between
  iintro ⟨⟨HS, HB, HD, H15, H16, H13, H14, H9, H10, H11, H12, Hv2, Hv3, Hv4, Hv5, Hv6, Hv7, H2, H3⟩, HO, #Hmw⟩ Hk
  ihave H15 := (Filled.any (thr d i) A15 _ (fun j => (iT (lo i + 1792 * t.val + j) : Elt F .i32)) _) $$ H15
  iapply (wp_copyIn EC 𝒱 (thr d i) bd (k := lo i + 1792 * t.val) (off1 i t) rfl (by decide) ι (fun j _ => rfl)) $$ [H2 H15 Hv2 HO]
  · iframe H2 H15 Hv2 HO Hmw
  iintro ⟨H2, H15, Hv2, HO⟩
  ihave H16 := (Filled.any (thr d i) A16 _ (fun j => (oT (lo i + 1792 * t.val + j) : Elt F .i32)) _) $$ H16
  iapply (wp_copyIn EC 𝒱 (thr d i) bd (k := lo i + 1792 * t.val) (off1 i t) rfl (by decide) ι (fun j _ => rfl)) $$ [H3 H16 Hv3 HO]
  · iframe H3 H16 Hv3 HO Hmw
  iintro ⟨H3, H16, Hv3, HO⟩
  iapply (chunks EC 𝒱 d i bd A2 A3 A4 A5 A6 A7 A8 A9 A10 A11 A12 A13 A14 A15 A16 A17 A18 A19 A20 A21 A22 A23 A24 A25 A26 h2 h3 h4 h5 h6 h7 h8 h9 h10 h11 h12 h13 h14 h15 h16 h17 h18 h19 h20 h21 h22 h23 h24 r0 r1 r2 r3' r4 r5 r6 r7 ι O W qi qo f6 f7 f8 iT oT bT rT X6 X7 X8 hiT hoT hbT (lo i + 1792 * t.val) v1 0#32 1#32 t) $$ [HS HB HD H15 H16 H13 H14 HO]
  · isplitl [HS]; · iexact HS
    isplitl [HB]
    · unfold Bufs
      icases HB with ⟨Hb0, Hb1, Hb2⟩
      isplitl [Hb0]; · iapply (Filled.any (thr d i) A19 _ _ _) $$ Hb0
      isplitl [Hb1]; · iapply (Filled.any (thr d i) A20 _ _ _) $$ Hb1
      iapply (Filled.any (thr d i) A21 _ _ _) $$ Hb2
    isplitl [HD]
    · unfold Dist
      iapply (Filled.any (thr d i) A22 _ _ _) $$ HD
    isplitl [H15 H16 H13 H14]
    · unfold Lists
      iframe H15 H16 H13 H14
    iframe HO Hmw
  iintro %v ⟨HS, HB, Hd, HL, HO⟩
  ihave HS := (last_two (F := F) EC d i A6 A7 A8 A17 A18 A23 A24 A25 A26 ι qi qo f6 f7 f8 iT oT X6 X7 X8 (lo i + 1792 * t.val)) $$ HS
  unfold Fly Bufs Dist Lists
  icases HS with ⟨⟨%g0, %g1, Hf00, Hf01, Hf10, Hf11, Hf20, Hf21⟩, ⟨%k0, %k1', Hg00, Hg01, Hg10, Hg11, Hg20, Hg21⟩, HS⟩
  icases HB with ⟨Hb0, Hb1, Hb2⟩
  icases HL with ⟨H15, H16, H13, H14⟩
  iapply (wp_waitRow EC 𝒱 (thr d i) bd (M := A23) (SA := A25) (s := r3 0 0) (s'' := r3 0 0) off36_12_0 off38_12_0 ι rfl) $$ [Hf00 HO]
  · iframe Hf00 HO Hmw
  iintro ⟨⟨Hr00, Ht00, Hi00⟩, Hs00, HO⟩
  iapply (wp_waitRow EC 𝒱 (thr d i) bd (M := A24) (SA := A26) (s := r3 0 0) (s'' := r3 0 0) off36_12_0 off38_12_0 ι rfl) $$ [Hf01 HO]
  · iframe Hf01 HO Hmw
  iintro ⟨⟨Hr01, Ht01, Hi01⟩, Hs01, HO⟩
  iapply (wp_waitRow EC 𝒱 (thr d i) bd (M := A23) (SA := A25) (s := r3 0 1) (s'' := r3 0 1) off36_12_1 off38_12_1 ι rfl) $$ [Hf10 HO]
  · iframe Hf10 HO Hmw
  iintro ⟨⟨Hr10, Ht10, Hi10⟩, Hs10, HO⟩
  iapply (wp_waitRow EC 𝒱 (thr d i) bd (M := A24) (SA := A26) (s := r3 0 1) (s'' := r3 0 1) off36_12_1 off38_12_1 ι rfl) $$ [Hf11 HO]
  · iframe Hf11 HO Hmw
  iintro ⟨⟨Hr11, Ht11, Hi11⟩, Hs11, HO⟩
  iapply (wp_waitRow EC 𝒱 (thr d i) bd (M := A23) (SA := A25) (s := r3 0 2) (s'' := r3 0 2) off36_12_2 off38_12_2 ι rfl) $$ [Hf20 HO]
  · iframe Hf20 HO Hmw
  iintro ⟨⟨Hr20, Ht20, Hi20⟩, Hs20, HO⟩
  iapply (wp_waitRow EC 𝒱 (thr d i) bd (M := A24) (SA := A26) (s := r3 0 2) (s'' := r3 0 2) off36_12_2 off38_12_2 ι rfl) $$ [Hf21 HO]
  · iframe Hf21 HO Hmw
  iintro ⟨⟨Hr21, Ht21, Hi21⟩, Hs21, HO⟩
  iapply (wp_mixLane 𝒱 (thr d i) bd (MI := A23) (MO := A24) (D := A22) (s0 := r3 0 0) (s1 := r3 0 1) (s2 := r3 0 2) (b := 0) (k := 1536 + 0)
    (G' := distAt (F := F) iT oT X6 X7 X8 (lo i + 1792 * t.val)) off39_12_0 off39_12_1 off39_12_2 rfl (g := distOf (F := F))
    (fun x _ => distAt_shift (F := F) iT oT X6 X7 X8 (lo i + 1792 * t.val) (1536) 0 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 16) (k := 1536 + 16)
    (G' := distAt (F := F) iT oT X6 X7 X8 (lo i + 1792 * t.val)) off40_12_0 off40_12_1 off40_12_2 rfl (g := distOf (F := F))
    (fun x _ => distAt_shift (F := F) iT oT X6 X7 X8 (lo i + 1792 * t.val) (1536) 16 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 32) (k := 1536 + 32)
    (G' := distAt (F := F) iT oT X6 X7 X8 (lo i + 1792 * t.val)) off41_12_0 off41_12_1 off41_12_2 rfl (g := distOf (F := F))
    (fun x _ => distAt_shift (F := F) iT oT X6 X7 X8 (lo i + 1792 * t.val) (1536) 32 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 48) (k := 1536 + 48)
    (G' := distAt (F := F) iT oT X6 X7 X8 (lo i + 1792 * t.val)) off42_12_0 off42_12_1 off42_12_2 rfl (g := distOf (F := F))
    (fun x _ => distAt_shift (F := F) iT oT X6 X7 X8 (lo i + 1792 * t.val) (1536) 48 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 64) (k := 1536 + 64)
    (G' := distAt (F := F) iT oT X6 X7 X8 (lo i + 1792 * t.val)) off43_12_0 off43_12_1 off43_12_2 rfl (g := distOf (F := F))
    (fun x _ => distAt_shift (F := F) iT oT X6 X7 X8 (lo i + 1792 * t.val) (1536) 64 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 80) (k := 1536 + 80)
    (G' := distAt (F := F) iT oT X6 X7 X8 (lo i + 1792 * t.val)) off44_12_0 off44_12_1 off44_12_2 rfl (g := distOf (F := F))
    (fun x _ => distAt_shift (F := F) iT oT X6 X7 X8 (lo i + 1792 * t.val) (1536) 80 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 96) (k := 1536 + 96)
    (G' := distAt (F := F) iT oT X6 X7 X8 (lo i + 1792 * t.val)) off45_12_0 off45_12_1 off45_12_2 rfl (g := distOf (F := F))
    (fun x _ => distAt_shift (F := F) iT oT X6 X7 X8 (lo i + 1792 * t.val) (1536) 96 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 0 0) (s1 := r3 0 1) (s2 := r3 0 2) (b := 112) (k := 1536 + 112)
    (G' := distAt (F := F) iT oT X6 X7 X8 (lo i + 1792 * t.val)) off46_12_0 off46_12_1 off46_12_2 rfl (g := distOf (F := F))
    (fun x _ => distAt_shift (F := F) iT oT X6 X7 X8 (lo i + 1792 * t.val) (1536) 112 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  ihave Ia : IDLE 0 $$ [Hr00 Hr01 Hr10 Hr11 Hr20 Hr21 Ht00 Ht01 Ht10 Ht11 Ht20 Ht21 Hi00 Hi01 Hi10 Hi11 Hi20 Hi21 Hs00 Hs01 Hs10 Hs11 Hs20 Hs21]
  · unfold Idle
    isplitl [Hi00 Hi10 Hi20]
    · unfold RowAny
      iexists g0
      iapply (ixRow_join (F := F) d i A17 _ g0).2
      iframe Hi00 Hi10 Hi20
    isplitl [Hi01 Hi11 Hi21]
    · unfold RowAny
      iexists g1
      iapply (ixRow_join (F := F) d i A18 _ g1).2
      iframe Hi01 Hi11 Hi21
    isplitl [Hr00]; · iapply (RowHas.forget _ _ _ _); iexact Hr00
    isplitl [Hr01]; · iapply (RowHas.forget _ _ _ _); iexact Hr01
    isplitl [Hr10]; · iapply (RowHas.forget _ _ _ _); iexact Hr10
    isplitl [Hr11]; · iapply (RowHas.forget _ _ _ _); iexact Hr11
    isplitl [Hr20]; · iapply (RowHas.forget _ _ _ _); iexact Hr20
    isplitl [Hr21]; · iapply (RowHas.forget _ _ _ _); iexact Hr21
    iframe Hs00 Hs01 Hs10 Hs11 Hs20 Hs21 Ht00 Ht01 Ht10 Ht11 Ht20 Ht21
  iapply (wp_waitRow EC 𝒱 (thr d i) bd (M := A23) (SA := A25) (s := r3 1 0) (s'' := r3 1 0) off36_13_0 off38_13_0 ι rfl) $$ [Hg00 HO]
  · iframe Hg00 HO Hmw
  iintro ⟨⟨Hr00, Ht00, Hi00⟩, Hs00, HO⟩
  iapply (wp_waitRow EC 𝒱 (thr d i) bd (M := A24) (SA := A26) (s := r3 1 0) (s'' := r3 1 0) off36_13_0 off38_13_0 ι rfl) $$ [Hg01 HO]
  · iframe Hg01 HO Hmw
  iintro ⟨⟨Hr01, Ht01, Hi01⟩, Hs01, HO⟩
  iapply (wp_waitRow EC 𝒱 (thr d i) bd (M := A23) (SA := A25) (s := r3 1 1) (s'' := r3 1 1) off36_13_1 off38_13_1 ι rfl) $$ [Hg10 HO]
  · iframe Hg10 HO Hmw
  iintro ⟨⟨Hr10, Ht10, Hi10⟩, Hs10, HO⟩
  iapply (wp_waitRow EC 𝒱 (thr d i) bd (M := A24) (SA := A26) (s := r3 1 1) (s'' := r3 1 1) off36_13_1 off38_13_1 ι rfl) $$ [Hg11 HO]
  · iframe Hg11 HO Hmw
  iintro ⟨⟨Hr11, Ht11, Hi11⟩, Hs11, HO⟩
  iapply (wp_waitRow EC 𝒱 (thr d i) bd (M := A23) (SA := A25) (s := r3 1 2) (s'' := r3 1 2) off36_13_2 off38_13_2 ι rfl) $$ [Hg20 HO]
  · iframe Hg20 HO Hmw
  iintro ⟨⟨Hr20, Ht20, Hi20⟩, Hs20, HO⟩
  iapply (wp_waitRow EC 𝒱 (thr d i) bd (M := A24) (SA := A26) (s := r3 1 2) (s'' := r3 1 2) off36_13_2 off38_13_2 ι rfl) $$ [Hg21 HO]
  · iframe Hg21 HO Hmw
  iintro ⟨⟨Hr21, Ht21, Hi21⟩, Hs21, HO⟩
  iapply (wp_mixLane 𝒱 (thr d i) bd (MI := A23) (MO := A24) (D := A22) (s0 := r3 1 0) (s1 := r3 1 1) (s2 := r3 1 2) (b := 0) (k := 1664 + 0)
    (G' := distAt (F := F) iT oT X6 X7 X8 (lo i + 1792 * t.val)) off39_13_0 off39_13_1 off39_13_2 rfl (g := distOf (F := F))
    (fun x _ => distAt_shift (F := F) iT oT X6 X7 X8 (lo i + 1792 * t.val) (1664) 0 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 16) (k := 1664 + 16)
    (G' := distAt (F := F) iT oT X6 X7 X8 (lo i + 1792 * t.val)) off40_13_0 off40_13_1 off40_13_2 rfl (g := distOf (F := F))
    (fun x _ => distAt_shift (F := F) iT oT X6 X7 X8 (lo i + 1792 * t.val) (1664) 16 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 32) (k := 1664 + 32)
    (G' := distAt (F := F) iT oT X6 X7 X8 (lo i + 1792 * t.val)) off41_13_0 off41_13_1 off41_13_2 rfl (g := distOf (F := F))
    (fun x _ => distAt_shift (F := F) iT oT X6 X7 X8 (lo i + 1792 * t.val) (1664) 32 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 48) (k := 1664 + 48)
    (G' := distAt (F := F) iT oT X6 X7 X8 (lo i + 1792 * t.val)) off42_13_0 off42_13_1 off42_13_2 rfl (g := distOf (F := F))
    (fun x _ => distAt_shift (F := F) iT oT X6 X7 X8 (lo i + 1792 * t.val) (1664) 48 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 64) (k := 1664 + 64)
    (G' := distAt (F := F) iT oT X6 X7 X8 (lo i + 1792 * t.val)) off43_13_0 off43_13_1 off43_13_2 rfl (g := distOf (F := F))
    (fun x _ => distAt_shift (F := F) iT oT X6 X7 X8 (lo i + 1792 * t.val) (1664) 64 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 80) (k := 1664 + 80)
    (G' := distAt (F := F) iT oT X6 X7 X8 (lo i + 1792 * t.val)) off44_13_0 off44_13_1 off44_13_2 rfl (g := distOf (F := F))
    (fun x _ => distAt_shift (F := F) iT oT X6 X7 X8 (lo i + 1792 * t.val) (1664) 80 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 96) (k := 1664 + 96)
    (G' := distAt (F := F) iT oT X6 X7 X8 (lo i + 1792 * t.val)) off45_13_0 off45_13_1 off45_13_2 rfl (g := distOf (F := F))
    (fun x _ => distAt_shift (F := F) iT oT X6 X7 X8 (lo i + 1792 * t.val) (1664) 96 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  iapply (wp_mixLane 𝒱 (thr d i) bd (MI := A23) (MO := A24) (D := A22) (s0 := r3 1 0) (s1 := r3 1 1) (s2 := r3 1 2) (b := 112) (k := 1664 + 112)
    (G' := distAt (F := F) iT oT X6 X7 X8 (lo i + 1792 * t.val)) off46_13_0 off46_13_1 off46_13_2 rfl (g := distOf (F := F))
    (fun x _ => distAt_shift (F := F) iT oT X6 X7 X8 (lo i + 1792 * t.val) (1664) 112 x) (fun a b c d e f x => dist_of a b c d e f x)) $$ [Hr00 Hr01 Hr10 Hr11 Hr20 Hr21 Hd]
  · iframe Hr00 Hr01 Hr10 Hr11 Hr20 Hr21 Hd
  iintro ⟨Hr00, Hr01, Hr10, Hr11, Hr20, Hr21, Hd⟩
  ihave Ib : IDLE 1 $$ [Hr00 Hr01 Hr10 Hr11 Hr20 Hr21 Ht00 Ht01 Ht10 Ht11 Ht20 Ht21 Hi00 Hi01 Hi10 Hi11 Hi20 Hi21 Hs00 Hs01 Hs10 Hs11 Hs20 Hs21]
  · unfold Idle
    isplitl [Hi00 Hi10 Hi20]
    · unfold RowAny
      iexists k0
      iapply (ixRow_join (F := F) d i A17 _ k0).2
      iframe Hi00 Hi10 Hi20
    isplitl [Hi01 Hi11 Hi21]
    · unfold RowAny
      iexists k1'
      iapply (ixRow_join (F := F) d i A18 _ k1').2
      iframe Hi01 Hi11 Hi21
    isplitl [Hr00]; · iapply (RowHas.forget _ _ _ _); iexact Hr00
    isplitl [Hr01]; · iapply (RowHas.forget _ _ _ _); iexact Hr01
    isplitl [Hr10]; · iapply (RowHas.forget _ _ _ _); iexact Hr10
    isplitl [Hr11]; · iapply (RowHas.forget _ _ _ _); iexact Hr11
    isplitl [Hr20]; · iapply (RowHas.forget _ _ _ _); iexact Hr20
    isplitl [Hr21]; · iapply (RowHas.forget _ _ _ _); iexact Hr21
    iframe Hs00 Hs01 Hs10 Hs11 Hs20 Hs21 Ht00 Ht01 Ht10 Ht11 Ht20 Ht21
  ihave HS := HS $$ [Ia Ib]
  · isplitl [Ia] <;> iassumption
  iapply (wp_copyOut EC 𝒱 (thr d i) bd (D := A19) (A := A9) (k := lo i + 1792 * t.val) (lo := lo i) (off1 i t) rfl (by decide) (hS9 t) ι
    (T := look (F := F) iT bT rT 0) (G := look (F := F) iT bT rT (lo i + 1792 * t.val)) (fun j _ => by simp only [look, Nat.zero_add])) $$ [Hb0 H9 Hv4 HO]
  · iframe Hb0 H9 Hv4 HO Hmw
  iintro ⟨Hb0, H9, Hv4, HO⟩
  iapply (wp_copyOut EC 𝒱 (thr d i) bd (D := A20) (A := A10) (k := lo i + 1792 * t.val) (lo := lo i) (off1 i t) rfl (by decide) (hS10 t) ι
    (T := look (F := F) oT bT rT 0) (G := look (F := F) oT bT rT (lo i + 1792 * t.val)) (fun j _ => by simp only [look, Nat.zero_add])) $$ [Hb1 H10 Hv5 HO]
  · iframe Hb1 H10 Hv5 HO Hmw
  iintro ⟨Hb1, H10, Hv5, HO⟩
  iapply (wp_copyOut EC 𝒱 (thr d i) bd (D := A21) (A := A11) (k := lo i + 1792 * t.val) (lo := lo i) (off1 i t) rfl (by decide) (hS11 t) ι
    (T := sdAt (F := F) iT oT bT 0) (G := sdAt (F := F) iT oT bT (lo i + 1792 * t.val)) (fun j _ => by simp only [sdAt, Nat.zero_add])) $$ [Hb2 H11 Hv6 HO]
  · iframe Hb2 H11 Hv6 HO Hmw
  iintro ⟨Hb2, H11, Hv6, HO⟩
  iapply (wp_copyOut EC 𝒱 (thr d i) bd (D := A22) (A := A12) (k := lo i + 1792 * t.val) (lo := lo i) (off1 i t) rfl (by decide) (hS12 t) ι
    (T := distAt (F := F) iT oT X6 X7 X8 0) (G := distAt (F := F) iT oT X6 X7 X8 (lo i + 1792 * t.val)) (fun j _ => by simp only [distAt, pick, Nat.zero_add])) $$ [Hd H12 Hv7 HO]
  · iframe Hd H12 Hv7 HO Hmw
  iintro ⟨Hd, H12, Hv7, HO⟩
  have e : lo i + 1792 * t.val + 1792 = lo i + 1792 * (t.val + 1) := by omega
  rw [e]
  iapply le_wp_ret
  iapply Hk
  isplitr [HO]
  · isplitl [HS]; · iexact HS
    isplitl [Hb0 Hb1 Hb2]
    · isplitl [Hb0]; · iapply (Filled.any (thr d i) A19 _ _ _) $$ Hb0
      isplitl [Hb1]; · iapply (Filled.any (thr d i) A20 _ _ _) $$ Hb1
      iapply (Filled.any (thr d i) A21 _ _ _) $$ Hb2
    isplitl [Hd]; · iapply (Filled.any (thr d i) A22 _ _ _) $$ Hd
    isplitl [H15]; · iapply (Filled.any (thr d i) A15 _ _ _) $$ H15
    isplitl [H16]; · iapply (Filled.any (thr d i) A16 _ _ _) $$ H16
    iframe H13 H14 H9 H10 H11 H12 Hv2 Hv3 Hv4 Hv5 Hv6 Hv7 H2 H3
  iexact HO

variable (q4 q5 : PosShare TreeShare) (f4 : Buf (Elt F) (A4.view.loc (thr d i))) (f5 : Buf (Elt F) (A5.view.loc (thr d i)))

set_option maxHeartbeats 4000000 in
/-- The tile program. -/
theorem tile_run [EC.LandsIn (upEmb : UEmb _ 𝕄)] (hiT : ∀ j, (iT j).toNat < 50176) (hoT : ∀ j, (oT j).toNat < 50176) (hbT : ∀ j, (bT j).toNat < 12512)
    (hS9 : ∀ t, (A9.view.slice (Rect.unit (s := S802816) (k1_off1 i t) S1792.size (k1_off1_inb i t))).set ⊆ S9)
    (hS10 : ∀ t, (A10.view.slice (Rect.unit (s := S802816) (k1_off1 i t) S1792.size (k1_off1_inb i t))).set ⊆ S10)
    (hS11 : ∀ t, (A11.view.slice (Rect.unit (s := S802816) (k1_off1 i t) S1792.size (k1_off1_inb i t))).set ⊆ S11)
    (hS12 : ∀ t, (A12.view.slice (Rect.unit (s := S802816) (k1_off1 i t) S1792.size (k1_off1_inb i t))).set ⊆ S12)
    {Q : PUnit → sProp 𝕄} :
    iprop(BETW 0 0 0 ∗ Table (thr d i) A4 q4 f4 (fun j => (bT j : Elt F .i32)) ∗ Table (thr d i) A5 q5 f5 (fun j => (rT j : Elt F .i32))
        ∗ semVal (thr d i, SemLoc.dma r0.sem) 0 ∗ semVal (thr d i, SemLoc.dma r1.sem) 0 ∗ OWING ∗ MAYW)
      ⊢ iprop((BETW 50176 12512 25088 ∗ Table (thr d i) A4 q4 f4 (fun j => (bT j : Elt F .i32)) ∗ Table (thr d i) A5 q5 f5 (fun j => (rT j : Elt F .i32))
            ∗ semVal (thr d i, SemLoc.dma r0.sem) 0 ∗ semVal (thr d i, SemLoc.dma r1.sem) 0 ∗ OWING -∗ Q ⟨⟩)
        -∗ wp frame (wpE defs 𝒱 (thr d i) bd) Set.univ (cc1__pass_cd i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7) Q) := by
  rw [cc1__pass_cd_eq_skeleton]
  unfold cc1__pass_cd_skel
  iintro ⟨HB, H4, H5, Hv0, Hv1, HO, #Hmw⟩ Hk
  unfold Between
  icases HB with ⟨HS, HB, HD, H15, H16, H13, H14, HR⟩
  iapply (wp_copyAll EC 𝒱 (thr d i) bd (A := A4) (D := A13) (by decide) ι) $$ [H4 H13 Hv0 HO]
  · iframe H4 H13 Hv0 HO Hmw
  iintro ⟨H4, H13, Hv0, HO⟩
  iapply (wp_copyAll EC 𝒱 (thr d i) bd (A := A5) (D := A14) (by decide) ι) $$ [H5 H14 Hv1 HO]
  · iframe H5 H14 Hv1 HO Hmw
  iintro ⟨H5, H14, Hv1, HO⟩
  iapply (Scf.wp_for_bind frame (wpE defs 𝒱 (thr d i) bd) Set.univ k1_t1_loop.lb k1_t1_loop.ub k1_t1_loop.st k1_t1_ok 0#32
    (k1_t1_body i A2 h2 A3 h3 A4 h4 A5 h5 A6 h6 A7 h7 A8 h8 A9 h9 A10 h10 A11 h11 A12 h12 A13 h13 A14 h14 A15 h15 A16 h16 A17 h17 A18 h18 A19 h19 A20 h20 A21 h21 A22 h22 A23 h23 A24 h24 A25 A26 r0 r1 r2 r3' r4 r5 r6 r7 _)
    (fun n _ => iprop(MAYW ∗ BETW 50176 12512 (1792 * n) ∗ OWING))
    (fun t acc => by
      iintro ⟨#Hmw, HB, HO⟩
      iapply (period_step EC 𝒱 d i bd A2 A3 A4 A5 A6 A7 A8 A9 A10 A11 A12 A13 A14 A15 A16 A17 A18 A19 A20 A21 A22 A23 A24 A25 A26 h2 h3 h4 h5 h6 h7 h8 h9 h10 h11 h12 h13 h14 h15 h16 h17 h18 h19 h20 h21 h22 h23 h24 r0 r1 r2 r3' r4 r5 r6 r7 ι O W qi qo f6 f7 f8 iT oT bT rT X6 X7 X8 q2 q3 f2 f3 S9 S10 S11 S12 hiT hoT hbT hS9 hS10 hS11 hS12 _ t acc) $$ [HB HO]
      · iframe HB HO Hmw
      iintro %v ⟨HB, HO⟩
      isplitr; · iexact Hmw
      iframe HB HO)) $$ [HS HB HD H15 H16 H13 H14 HR HO]
  · isplitr; · iexact Hmw
    isplitr [HO]
    · unfold Between
      iframe HS HB HD H15 H16 H13 H14 HR
    iexact HO
  iintro %v H
  icases H with ⟨-, HB, HO⟩
  ihave HB := (Entails.of_eq (show BETW 50176 12512 (1792 * k1_t1_loop.trips) = BETW 50176 12512 25088 by rw [trips1])) $$ HB
  iapply le_wp_ret
  iapply Hk
  isplitl [HB]
  · unfold Between
    iexact HB
  iframe H4 H5 Hv0 Hv1 HO

end Cert.Proof.CdTwo
-- ==== Proof.CdOne.lean ====
/-
  The tile program of the edge gather: per period, the tile's slice of the order is fetched, and in chunks of 128 the
  three endpoint and relation tables are gathered at it, eight chunks in flight, each table's copies of a slot on a
  semaphore of their own; a chunk's rows are copied out two chunks later. The run is stated by what the buffers read,
  over any logic parameters.
-/
module

public import proofs.«01_k».proof.Proof.Steps
public import proofs.«01_k».proof.Proof.Gen.KernelIdeal
public import proofs.«01_k».proof.Proof.Gen.KernelIdeal.Skeleton

@[expose] public section

noncomputable section

namespace Cert.Proof.CdOne

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

/-! ## The offsets in closed form -/

theorem trips2 : k0_t2_loop.trips = 14 := by decide
theorem trips1 : k0_t1_loop.trips = 14 := by decide

theorem cond_iff : ∀ t : Fin k0_t2_loop.trips, k0_cond1 t = 1#1 ↔ 2 ≤ t.val := by decide +kernel
theorem off2 : ∀ t : Fin k0_t2_loop.trips, 2 ≤ t.val → k0_off2 t = ![(t.val - 2) % 8, 0] := by decide +kernel
theorem off4 : ∀ t : Fin k0_t2_loop.trips, 2 ≤ t.val → k0_off4 t = ![(t.val - 2) % 8, 0] := by decide +kernel
theorem off6 : ∀ t : Fin k0_t2_loop.trips, 2 ≤ t.val → k0_off6 t = ![(t.val - 2) % 8, 16] := by decide +kernel
theorem off7 : ∀ t : Fin k0_t2_loop.trips, 2 ≤ t.val → k0_off7 t = ![(t.val - 2) % 8, 32] := by decide +kernel
theorem off8 : ∀ t : Fin k0_t2_loop.trips, 2 ≤ t.val → k0_off8 t = ![(t.val - 2) % 8, 48] := by decide +kernel
theorem off9 : ∀ t : Fin k0_t2_loop.trips, 2 ≤ t.val → k0_off9 t = ![(t.val - 2) % 8, 64] := by decide +kernel
theorem off10 : ∀ t : Fin k0_t2_loop.trips, 2 ≤ t.val → k0_off10 t = ![(t.val - 2) % 8, 80] := by decide +kernel
theorem off11 : ∀ t : Fin k0_t2_loop.trips, 2 ≤ t.val → k0_off11 t = ![(t.val - 2) % 8, 96] := by decide +kernel
theorem off12 : ∀ t : Fin k0_t2_loop.trips, 2 ≤ t.val → k0_off12 t = ![(t.val - 2) % 8, 112] := by decide +kernel
theorem off3 : ∀ t : Fin k0_t2_loop.trips, 2 ≤ t.val → k0_off3 t = ![(t.val - 2) % 8] := by decide +kernel
theorem off5_0 : ∀ t : Fin k0_t2_loop.trips, 2 ≤ t.val → k0_off5 t 0#32 = ![128 * (t.val - 2) + 0] := by decide +kernel
theorem off5_1 : ∀ t : Fin k0_t2_loop.trips, 2 ≤ t.val → k0_off5 t 16#32 = ![128 * (t.val - 2) + 16] := by decide +kernel
theorem off5_2 : ∀ t : Fin k0_t2_loop.trips, 2 ≤ t.val → k0_off5 t 32#32 = ![128 * (t.val - 2) + 32] := by decide +kernel
theorem off5_3 : ∀ t : Fin k0_t2_loop.trips, 2 ≤ t.val → k0_off5 t 48#32 = ![128 * (t.val - 2) + 48] := by decide +kernel
theorem off5_4 : ∀ t : Fin k0_t2_loop.trips, 2 ≤ t.val → k0_off5 t 64#32 = ![128 * (t.val - 2) + 64] := by decide +kernel
theorem off5_5 : ∀ t : Fin k0_t2_loop.trips, 2 ≤ t.val → k0_off5 t 80#32 = ![128 * (t.val - 2) + 80] := by decide +kernel
theorem off5_6 : ∀ t : Fin k0_t2_loop.trips, 2 ≤ t.val → k0_off5 t 96#32 = ![128 * (t.val - 2) + 96] := by decide +kernel
theorem off5_7 : ∀ t : Fin k0_t2_loop.trips, 2 ≤ t.val → k0_off5 t 112#32 = ![128 * (t.val - 2) + 112] := by decide +kernel
theorem off13_0 : ∀ t : Fin k0_t2_loop.trips, k0_off13 t 0#32 = ![128 * t.val + 0] := by decide +kernel
theorem off13_1 : ∀ t : Fin k0_t2_loop.trips, k0_off13 t 16#32 = ![128 * t.val + 16] := by decide +kernel
theorem off13_2 : ∀ t : Fin k0_t2_loop.trips, k0_off13 t 32#32 = ![128 * t.val + 32] := by decide +kernel
theorem off13_3 : ∀ t : Fin k0_t2_loop.trips, k0_off13 t 48#32 = ![128 * t.val + 48] := by decide +kernel
theorem off13_4 : ∀ t : Fin k0_t2_loop.trips, k0_off13 t 64#32 = ![128 * t.val + 64] := by decide +kernel
theorem off13_5 : ∀ t : Fin k0_t2_loop.trips, k0_off13 t 80#32 = ![128 * t.val + 80] := by decide +kernel
theorem off13_6 : ∀ t : Fin k0_t2_loop.trips, k0_off13 t 96#32 = ![128 * t.val + 96] := by decide +kernel
theorem off13_7 : ∀ t : Fin k0_t2_loop.trips, k0_off13 t 112#32 = ![128 * t.val + 112] := by decide +kernel
theorem off14 : ∀ t : Fin k0_t2_loop.trips, k0_off14 t = ![t.val % 8, 0] := by decide +kernel
theorem off15 : ∀ t : Fin k0_t2_loop.trips, k0_off15 t = ![t.val % 8, 16] := by decide +kernel
theorem off16 : ∀ t : Fin k0_t2_loop.trips, k0_off16 t = ![t.val % 8, 32] := by decide +kernel
theorem off17 : ∀ t : Fin k0_t2_loop.trips, k0_off17 t = ![t.val % 8, 48] := by decide +kernel
theorem off18 : ∀ t : Fin k0_t2_loop.trips, k0_off18 t = ![t.val % 8, 64] := by decide +kernel
theorem off19 : ∀ t : Fin k0_t2_loop.trips, k0_off19 t = ![t.val % 8, 80] := by decide +kernel
theorem off20 : ∀ t : Fin k0_t2_loop.trips, k0_off20 t = ![t.val % 8, 96] := by decide +kernel
theorem off21 : ∀ t : Fin k0_t2_loop.trips, k0_off21 t = ![t.val % 8, 112] := by decide +kernel
theorem off22 : ∀ t : Fin k0_t2_loop.trips, k0_off22 t = ![t.val % 8, 0] := by decide +kernel
theorem off23 : ∀ t : Fin k0_t2_loop.trips, k0_off23 t = ![t.val % 8] := by decide +kernel
theorem off24_12 : k0_off24 12#32 = ![4, 0] := by decide +kernel
theorem off25_12 : k0_off25 12#32 = ![4] := by decide +kernel
theorem off26_12 : k0_off26 12#32 = ![4, 0] := by decide +kernel
theorem off27_12 : k0_off27 12#32 = ![4, 16] := by decide +kernel
theorem off28_12 : k0_off28 12#32 = ![4, 32] := by decide +kernel
theorem off29_12 : k0_off29 12#32 = ![4, 48] := by decide +kernel
theorem off30_12 : k0_off30 12#32 = ![4, 64] := by decide +kernel
theorem off31_12 : k0_off31 12#32 = ![4, 80] := by decide +kernel
theorem off32_12 : k0_off32 12#32 = ![4, 96] := by decide +kernel
theorem off33_12 : k0_off33 12#32 = ![4, 112] := by decide +kernel
theorem off24_13 : k0_off24 13#32 = ![5, 0] := by decide +kernel
theorem off25_13 : k0_off25 13#32 = ![5] := by decide +kernel
theorem off26_13 : k0_off26 13#32 = ![5, 0] := by decide +kernel
theorem off27_13 : k0_off27 13#32 = ![5, 16] := by decide +kernel
theorem off28_13 : k0_off28 13#32 = ![5, 32] := by decide +kernel
theorem off29_13 : k0_off29 13#32 = ![5, 48] := by decide +kernel
theorem off30_13 : k0_off30 13#32 = ![5, 64] := by decide +kernel
theorem off31_13 : k0_off31 13#32 = ![5, 80] := by decide +kernel
theorem off32_13 : k0_off32 13#32 = ![5, 96] := by decide +kernel
theorem off33_13 : k0_off33 13#32 = ![5, 112] := by decide +kernel
theorem off1 : ∀ (i : grid0.Coords) (t : Fin k0_t1_loop.trips), k0_off1 i t = ![401408 * (i 0).val + 25088 * (i 1).val + 1792 * t.val] := k0_off1_eq

/-! ## The run -/

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid0.Coords) (bd : Option 𝒱.V)

local notation "𝕄" => MT nD τ sig Ix (Elt F) Name U Lvl

/-- The tile's thread. -/
abbrev thr (d : Dev nD) (i : grid0.Coords) : Thread nD τ := (d, .scVector ((i 0).castLE hcore0) ((i 1).castLE hsub0))

variable (A2 A3 A4 A5 A6 A7 A8 : Memref sig .scVector .hbm S802816 .i32) (A9 : Memref sig .scVector .vmem S1792 .i32)
variable (A10 A11 A12 A13 : Memref sig .scVector .vmem S8x128 .i32) (A14 A15 A16 : Memref sig .scVector .vmem S1792 .i32)
variable (A17 A18 A19 : DmaSems sig S8)
variable (h2 : A2.IsWhole) (h3 : A3.IsWhole) (h4 : A4.IsWhole) (h5 : A5.IsWhole) (h6 : A6.IsWhole) (h7 : A7.IsWhole) (h8 : A8.IsWhole) (h9 : A9.IsWhole)
variable (h10 : A10.IsWhole) (h11 : A11.IsWhole) (h12 : A12.IsWhole) (h13 : A13.IsWhole) (h14 : A14.IsWhole) (h15 : A15.IsWhole) (h16 : A16.IsWhole)
variable (r0 r1 r2 r3 : DmaSems sig S_)
variable (ι : Ix) (O : CellTallies nD τ sig Ix) (W : Waits sig Ix)
-- the tables' shares (per slot), contents and what they read
variable (q : Fin 8 → PosShare TreeShare)
variable (f3 : Buf (Elt F) (A3.view.loc (thr d i))) (f4 : Buf (Elt F) (A4.view.loc (thr d i))) (f5 : Buf (Elt F) (A5.view.loc (thr d i)))
variable (oT T3 T4 T5 : ℕ → BitVec 32)

/-- What the destination's position `j` is to read, a table `T` taken at the order from `base` on. -/
abbrev pick (oT T : ℕ → BitVec 32) (base j : ℕ) : Elt F .i32 := T (oT (base + j)).toNat

/-- A slot with nothing in flight: its rows, its semaphores at zero, its shares of the tables. -/
def Idle (s : Fin 8) : sProp 𝕄 :=
  iprop(RowAny (thr d i) A10 s ∗ RowAny (thr d i) A11 s ∗ RowAny (thr d i) A12 s ∗ RowAny (thr d i) A13 s
    ∗ semVal (thr d i, SemLoc.dma (semAt A17 s)) 0 ∗ semVal (thr d i, SemLoc.dma (semAt A18 s)) 0 ∗ semVal (thr d i, SemLoc.dma (semAt A19 s)) 0
    ∗ Table (thr d i) A3 (q s) f3 T3 ∗ Table (thr d i) A4 (q s) f4 T4 ∗ Table (thr d i) A5 (q s) f5 T5)

/-- A slot's row of indices, a share of it. -/
abbrev ixRow (s : Fin 8) (p : PosShare TreeShare) (g : Buf (Elt F) ((rowM A10 s).view.loc (thr d i))) : sProp 𝕄 :=
  iprop((rowM A10 s).view.loc (thr d i) ↦[(rowM A10 s).view.set]{p} g)

/-- A slot with its chunk's three gathers in flight. -/
def Fly (base : ℕ) (s : Fin 8) : sProp 𝕄 :=
  iprop(∃ g : Buf (Elt F) ((rowM A10 s).view.loc (thr d i)),
    Transfers.Flight EC (thr d i) (.dma (semAt A17 s)) ι (rowM A11 s).view.dmaCredit
      iprop(RowHas (thr d i) A11 s (pick (F := F) oT T3 base) ∗ Table (thr d i) A3 (q s) f3 T3 ∗ ixRow (F := F) d i A10 s fullShare.left g)
    ∗ Transfers.Flight EC (thr d i) (.dma (semAt A18 s)) ι (rowM A12 s).view.dmaCredit
      iprop(RowHas (thr d i) A12 s (pick (F := F) oT T4 base) ∗ Table (thr d i) A4 (q s) f4 T4 ∗ ixRow (F := F) d i A10 s fullShare.right.left g)
    ∗ Transfers.Flight EC (thr d i) (.dma (semAt A19 s)) ι (rowM A13 s).view.dmaCredit
      iprop(RowHas (thr d i) A13 s (pick (F := F) oT T5 base) ∗ Table (thr d i) A5 (q s) f5 T5 ∗ ixRow (F := F) d i A10 s fullShare.right.right g))

omit [FloatOps F] [Infinite Name] [Preorder Lvl] in
/-- The three shares of a slot's row of indices are the row. -/
theorem ixRow_join (s : Fin 8) (g : Buf (Elt F) ((rowM A10 s).view.loc (thr d i))) :
    (ixRow (F := F) d i A10 s fullShare g : sProp 𝕄) ⊣⊢ iprop(ixRow (F := F) d i A10 s fullShare.left g
      ∗ ixRow (F := F) d i A10 s fullShare.right.left g ∗ ixRow (F := F) d i A10 s fullShare.right.right g) := by
  constructor
  · iintro H
    ihave H := (pointsTo_share (PosShare.mem_left_op_right fullShare)).1 $$ H
    icases H with ⟨Ha, Hb⟩
    ihave Hb := (pointsTo_share (PosShare.mem_left_op_right fullShare.right)).1 $$ Hb
    icases Hb with ⟨Hb, Hc⟩
    iframe Ha Hb Hc
  · iintro ⟨Ha, Hb, Hc⟩
    ihave Hb := (pointsTo_share (PosShare.mem_left_op_right fullShare.right)).2 $$ [Hb Hc]
    · isplitl [Hb] <;> iassumption
    iapply (pointsTo_share (PosShare.mem_left_op_right fullShare)).2
    isplitl [Ha] <;> iassumption

/-- The three flat buffers of a period, their first `k` elements done. -/
def Bufs (base k : ℕ) : sProp 𝕄 :=
  iprop(Filled (thr d i) A14 (pick (F := F) oT T3 base) k ∗ Filled (thr d i) A15 (pick (F := F) oT T4 base) k
    ∗ Filled (thr d i) A16 (pick (F := F) oT T5 base) k)

omit [FloatOps F] in
theorem pick_shift (T : ℕ → BitVec 32) (base k b j : ℕ) : (pick (F := F) oT T (base + k) (b + j)) = pick (F := F) oT T base (k + b + j) := by
  show T (oT (base + k + (b + j))).toNat = T (oT (base + (k + b + j))).toNat
  rw [Nat.add_assoc base k, Nat.add_assoc k b]

local notation "IDLE" => Idle (F := F) (Ix := Ix) (Name := Name) (U := U) (Lvl := Lvl) d i A3 A4 A5 A10 A11 A12 A13 A17 A18 A19 q f3 f4 f5 T3 T4 T5
local notation "FLY" => Fly (F := F) (Ix := Ix) (Name := Name) (U := U) (Lvl := Lvl) EC d i A3 A4 A5 A10 A11 A12 A13 A17 A18 A19 ι q f3 f4 f5 oT T3 T4 T5
local notation "BUFS" => Bufs (F := F) (Ix := Ix) (Name := Name) (U := U) (Lvl := Lvl) d i A14 A15 A16 oT T3 T4 T5
local notation "OWING" => Owing (F := F) (Ix := Ix) (Name := Name) (U := U) (Lvl := Lvl) (thr d i) ι O W
local notation "MAYW" => (Transfers.MayWaits (thr d i) ι O : sProp (MT nD τ sig Ix (Elt F) Name U Lvl))

set_option maxHeartbeats 4000000 in
set_option maxRecDepth 65536 in
/-- The chunk before last is waited for and copied out, inside the loop. -/
theorem pull_then [EC.LandsIn (upEmb : UEmb _ 𝕄)] (base : ℕ) (t : Fin k0_t2_loop.trips) (iv : BitVec 32) (hc : k0_cond1 t = 1#1) (ht : 2 ≤ t.val)
    {α : Type} {Q : α → sProp 𝕄} {kk : PUnit → Prog (TpuEff nD τ sig (Elt F) Λ₀ (thr d i).2) α} :
    iprop(FLY (base + 128 * (t.val - 2)) ⟨(t.val - 2) % 8, Nat.mod_lt _ (by decide)⟩ ∗ BUFS base (128 * (t.val - 2)) ∗ OWING ∗ MAYW)
      ⊢ iprop((IDLE ⟨(t.val - 2) % 8, Nat.mod_lt _ (by decide)⟩ ∗ BUFS base (128 * (t.val - 2) + 128) ∗ OWING -∗ wp frame (wpE defs 𝒱 (thr d i) bd) Set.univ (kk ⟨⟩) Q)
        -∗ wp frame (wpE defs 𝒱 (thr d i) bd) Set.univ (k0_part4 i A2 h2 A3 h3 A4 h4 A5 h5 A6 h6 A7 h7 A8 h8 A9 h9 A10 h10 A11 h11 A12 h12 A13 h13 A14 h14 A15 h15 A16 h16 A17 A18 A19 r0 r1 r2 r3 t iv hc >>= kk) Q) := by
  simp only [k0_part4_eq_skeleton, k0_part4_skel, k0_part1_eq_skeleton, k0_part1_skel, k0_part2_eq_skeleton, k0_part2_skel,
    k0_part3_eq_skeleton, k0_part3_skel, bind_assoc, pure_bind]
  unfold Fly Bufs
  iintro ⟨⟨%g, Hf0, Hf1, Hf2⟩, ⟨Hb0, Hb1, Hb2⟩, HO, #Hmw⟩ Hk
  iapply (wp_waitRow EC 𝒱 (thr d i) bd (M := A11) (SA := A17) (s := ⟨(t.val - 2) % 8, Nat.mod_lt _ (by decide)⟩) (s'' := ⟨(t.val - 2) % 8, Nat.mod_lt _ (by decide)⟩) (off2 t ht) (off3 t ht) ι rfl) $$ [Hf0 HO]
  · iframe Hf0 HO Hmw
  iintro ⟨⟨Hr0, Ht0, Hi0⟩, Hs0, HO⟩
  iapply (wp_waitRow EC 𝒱 (thr d i) bd (M := A12) (SA := A18) (s := ⟨(t.val - 2) % 8, Nat.mod_lt _ (by decide)⟩) (s'' := ⟨(t.val - 2) % 8, Nat.mod_lt _ (by decide)⟩) (off2 t ht) (off3 t ht) ι rfl) $$ [Hf1 HO]
  · iframe Hf1 HO Hmw
  iintro ⟨⟨Hr1, Ht1, Hi1⟩, Hs1, HO⟩
  iapply (wp_waitRow EC 𝒱 (thr d i) bd (M := A13) (SA := A19) (s := ⟨(t.val - 2) % 8, Nat.mod_lt _ (by decide)⟩) (s'' := ⟨(t.val - 2) % 8, Nat.mod_lt _ (by decide)⟩) (off2 t ht) (off3 t ht) ι rfl) $$ [Hf2 HO]
  · iframe Hf2 HO Hmw
  iintro ⟨⟨Hr2, Ht2, Hi2⟩, Hs2, HO⟩
  iapply (wp_copyLane 𝒱 (thr d i) bd (M := A11) (D := A14) (s := ⟨(t.val - 2) % 8, Nat.mod_lt _ (by decide)⟩) (b := 0) (k := 128 * (t.val - 2) + 0) (off4 t ht) (off5_0 t ht)
    (fun x _ => pick_shift (F := F) oT T3 base (128 * (t.val - 2)) 0 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 0) (k := 128 * (t.val - 2) + 0) (off4 t ht) (off5_0 t ht)
    (fun x _ => pick_shift (F := F) oT T4 base (128 * (t.val - 2)) 0 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 0) (k := 128 * (t.val - 2) + 0) (off4 t ht) (off5_0 t ht)
    (fun x _ => pick_shift (F := F) oT T5 base (128 * (t.val - 2)) 0 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 16) (k := 128 * (t.val - 2) + 16) (off6 t ht) (off5_1 t ht)
    (fun x _ => pick_shift (F := F) oT T3 base (128 * (t.val - 2)) 16 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 16) (k := 128 * (t.val - 2) + 16) (off6 t ht) (off5_1 t ht)
    (fun x _ => pick_shift (F := F) oT T4 base (128 * (t.val - 2)) 16 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 16) (k := 128 * (t.val - 2) + 16) (off6 t ht) (off5_1 t ht)
    (fun x _ => pick_shift (F := F) oT T5 base (128 * (t.val - 2)) 16 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 32) (k := 128 * (t.val - 2) + 32) (off7 t ht) (off5_2 t ht)
    (fun x _ => pick_shift (F := F) oT T3 base (128 * (t.val - 2)) 32 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 32) (k := 128 * (t.val - 2) + 32) (off7 t ht) (off5_2 t ht)
    (fun x _ => pick_shift (F := F) oT T4 base (128 * (t.val - 2)) 32 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 32) (k := 128 * (t.val - 2) + 32) (off7 t ht) (off5_2 t ht)
    (fun x _ => pick_shift (F := F) oT T5 base (128 * (t.val - 2)) 32 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 48) (k := 128 * (t.val - 2) + 48) (off8 t ht) (off5_3 t ht)
    (fun x _ => pick_shift (F := F) oT T3 base (128 * (t.val - 2)) 48 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 48) (k := 128 * (t.val - 2) + 48) (off8 t ht) (off5_3 t ht)
    (fun x _ => pick_shift (F := F) oT T4 base (128 * (t.val - 2)) 48 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 48) (k := 128 * (t.val - 2) + 48) (off8 t ht) (off5_3 t ht)
    (fun x _ => pick_shift (F := F) oT T5 base (128 * (t.val - 2)) 48 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 64) (k := 128 * (t.val - 2) + 64) (off9 t ht) (off5_4 t ht)
    (fun x _ => pick_shift (F := F) oT T3 base (128 * (t.val - 2)) 64 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 64) (k := 128 * (t.val - 2) + 64) (off9 t ht) (off5_4 t ht)
    (fun x _ => pick_shift (F := F) oT T4 base (128 * (t.val - 2)) 64 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 64) (k := 128 * (t.val - 2) + 64) (off9 t ht) (off5_4 t ht)
    (fun x _ => pick_shift (F := F) oT T5 base (128 * (t.val - 2)) 64 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 80) (k := 128 * (t.val - 2) + 80) (off10 t ht) (off5_5 t ht)
    (fun x _ => pick_shift (F := F) oT T3 base (128 * (t.val - 2)) 80 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 80) (k := 128 * (t.val - 2) + 80) (off10 t ht) (off5_5 t ht)
    (fun x _ => pick_shift (F := F) oT T4 base (128 * (t.val - 2)) 80 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 80) (k := 128 * (t.val - 2) + 80) (off10 t ht) (off5_5 t ht)
    (fun x _ => pick_shift (F := F) oT T5 base (128 * (t.val - 2)) 80 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 96) (k := 128 * (t.val - 2) + 96) (off11 t ht) (off5_6 t ht)
    (fun x _ => pick_shift (F := F) oT T3 base (128 * (t.val - 2)) 96 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 96) (k := 128 * (t.val - 2) + 96) (off11 t ht) (off5_6 t ht)
    (fun x _ => pick_shift (F := F) oT T4 base (128 * (t.val - 2)) 96 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 96) (k := 128 * (t.val - 2) + 96) (off11 t ht) (off5_6 t ht)
    (fun x _ => pick_shift (F := F) oT T5 base (128 * (t.val - 2)) 96 x) (fun v x => cast_flat v _ x)) $$ [Hr2 Hb2]
  · isplitl [Hr2] <;> iassumption
  iintro ⟨Hr2, Hb2⟩
  iapply (wp_copyLane 𝒱 (thr d i) bd (M := A11) (D := A14) (s := ⟨(t.val - 2) % 8, Nat.mod_lt _ (by decide)⟩) (b := 112) (k := 128 * (t.val - 2) + 112) (off12 t ht) (off5_7 t ht)
    (fun x _ => pick_shift (F := F) oT T3 base (128 * (t.val - 2)) 112 x) (fun v x => cast_flat v _ x)) $$ [Hr0 Hb0]
  · isplitl [Hr0] <;> iassumption
  iintro ⟨Hr0, Hb0⟩
  iapply (wp_copyLane 𝒱 (thr d i) bd (M := A12) (D := A15) (s := ⟨(t.val - 2) % 8, Nat.mod_lt _ (by decide)⟩) (b := 112) (k := 128 * (t.val - 2) + 112) (off12 t ht) (off5_7 t ht)
    (fun x _ => pick_shift (F := F) oT T4 base (128 * (t.val - 2)) 112 x) (fun v x => cast_flat v _ x)) $$ [Hr1 Hb1]
  · isplitl [Hr1] <;> iassumption
  iintro ⟨Hr1, Hb1⟩
  iapply (wp_copyLane 𝒱 (thr d i) bd (M := A13) (D := A16) (s := ⟨(t.val - 2) % 8, Nat.mod_lt _ (by decide)⟩) (b := 112) (k := 128 * (t.val - 2) + 112) (off12 t ht) (off5_7 t ht)
    (fun x _ => pick_shift (F := F) oT T5 base (128 * (t.val - 2)) 112 x) (fun v x => cast_flat v _ x)) $$ [Hr2 Hb2]
  · isplitl [Hr2] <;> iassumption
  iintro ⟨Hr2, Hb2⟩
  iapply Hk
  isplitl [Hr0 Hr1 Hr2 Ht0 Ht1 Ht2 Hi0 Hi1 Hi2 Hs0 Hs1 Hs2]
  · unfold Idle
    isplitl [Hi0 Hi1 Hi2]
    · unfold RowAny
      iexists g
      iapply (ixRow_join (F := F) d i A10 _ g).2
      iframe Hi0 Hi1 Hi2
    isplitl [Hr0]; · iapply (RowHas.forget _ _ _ _); iexact Hr0
    isplitl [Hr1]; · iapply (RowHas.forget _ _ _ _); iexact Hr1
    isplitl [Hr2]; · iapply (RowHas.forget _ _ _ _); iexact Hr2
    iframe Hs0 Hs1 Hs2 Ht0 Ht1 Ht2
  isplitl [Hb0 Hb1 Hb2]
  · iframe Hb0 Hb1 Hb2
  iexact HO

omit [FloatOps F] [Infinite Name] in
/-- One part of a family replaced by another. -/
theorem bigSep_update {n : ℕ} (Φ Ψ : Fin n → sProp 𝕄) (a : Fin n) (h : ∀ s, s ≠ a → Φ s = Ψ s) :
    bigSep Finset.univ Φ ⊢ iprop(Φ a ∗ (Ψ a -∗ bigSep Finset.univ Ψ)) := by
  rw [SparseCore.bigSep_erase' (Finset.mem_univ a), SparseCore.bigSep_erase' (Φ := Ψ) (Finset.mem_univ a),
    bigSep_congr (Φ := Φ) (Ψ := Ψ) (fun s hs => h s (Finset.ne_of_mem_erase hs))]
  iintro ⟨Ha, Hr⟩
  isplitl [Ha]; · iexact Ha
  iintro Hb
  isplitl [Hb] <;> iassumption

/-- The slots before chunk `c`: the last two chunks' are in flight. -/
def St (base c : ℕ) (s : Fin 8) : sProp 𝕄 :=
  if 1 ≤ c ∧ s.val = (c - 1) % 8 then FLY (base + 128 * (c - 1)) s
  else if 2 ≤ c ∧ s.val = (c - 2) % 8 then FLY (base + 128 * (c - 2)) s else IDLE s

/-- The slots in chunk `c`, the chunk before last copied out. -/
def Mid (base c : ℕ) (s : Fin 8) : sProp 𝕄 :=
  if 1 ≤ c ∧ s.val = (c - 1) % 8 then FLY (base + 128 * (c - 1)) s else IDLE s

local notation "STS" => St (F := F) (Ix := Ix) (Name := Name) (U := U) (Lvl := Lvl) EC d i A3 A4 A5 A10 A11 A12 A13 A17 A18 A19 ι q f3 f4 f5 oT T3 T4 T5
local notation "MIDS" => Mid (F := F) (Ix := Ix) (Name := Name) (U := U) (Lvl := Lvl) EC d i A3 A4 A5 A10 A11 A12 A13 A17 A18 A19 ι q f3 f4 f5 oT T3 T4 T5

omit [FloatOps F] [Infinite Name] in
theorem St_two (base c : ℕ) (hc : 2 ≤ c) (s : Fin 8) (hs : s.val = (c - 2) % 8) : STS base c s = FLY (base + 128 * (c - 2)) s := by
  unfold St
  rw [if_neg (by omega), if_pos ⟨hc, hs⟩]

omit [FloatOps F] [Infinite Name] in
theorem Mid_two (base c : ℕ) (hc : 2 ≤ c) (s : Fin 8) (hs : s.val = (c - 2) % 8) : MIDS base c s = IDLE s := by
  unfold Mid
  rw [if_neg (by omega)]

omit [FloatOps F] [Infinite Name] in
theorem St_mid (base c : ℕ) (s : Fin 8) (hs : c < 2 ∨ s.val ≠ (c - 2) % 8) : STS base c s = MIDS base c s := by
  unfold St Mid
  split
  · rfl
  · rw [if_neg (by omega)]

omit [FloatOps F] [Infinite Name] in
theorem Mid_now (base c : ℕ) (s : Fin 8) (hs : s.val = c % 8) : MIDS base c s = IDLE s := by
  unfold Mid
  rw [if_neg (by omega)]

omit [FloatOps F] [Infinite Name] in
theorem St_now (base c : ℕ) (s : Fin 8) (hs : s.val = c % 8) : STS base (c + 1) s = FLY (base + 128 * c) s := by
  unfold St
  rw [if_pos ⟨by omega, by simpa using hs⟩]
  rfl

omit [FloatOps F] [Infinite Name] in
theorem Mid_St (base c : ℕ) (s : Fin 8) (hs : s.val ≠ c % 8) : MIDS base c s = STS base (c + 1) s := by
  unfold St Mid
  rw [if_neg (c := 1 ≤ c + 1 ∧ s.val = (c + 1 - 1) % 8) (by simpa using hs)]
  have e : c + 1 - 2 = c - 1 := by omega
  rw [e]
  by_cases h : 1 ≤ c ∧ s.val = (c - 1) % 8
  · rw [if_pos h, if_pos ⟨by omega, h.2⟩]
  · rw [if_neg h, if_neg (by omega)]

omit [FloatOps F] [Infinite Name] in
theorem St_zero (base : ℕ) (s : Fin 8) : STS base 0 s = IDLE s := by
  unfold St
  rw [if_neg (by omega), if_neg (by omega)]

/-- Before a chunk is issued, the chunk before last is copied out. -/
theorem pull_mid [EC.LandsIn (upEmb : UEmb _ 𝕄)] (base : ℕ) (t : Fin k0_t2_loop.trips) (iv : BitVec 32) (hc : k0_cond1 t = 1#1)
    {α : Type} {Q : α → sProp 𝕄} {kk : PUnit → Prog (TpuEff nD τ sig (Elt F) Λ₀ (thr d i).2) α} :
    iprop(bigSep Finset.univ (STS base t.val) ∗ BUFS base (128 * (t.val - 2)) ∗ OWING ∗ MAYW)
      ⊢ iprop((bigSep Finset.univ (MIDS base t.val) ∗ BUFS base (128 * (t.val + 1 - 2)) ∗ OWING -∗ wp frame (wpE defs 𝒱 (thr d i) bd) Set.univ (kk ⟨⟩) Q)
        -∗ wp frame (wpE defs 𝒱 (thr d i) bd) Set.univ (k0_part4 i A2 h2 A3 h3 A4 h4 A5 h5 A6 h6 A7 h7 A8 h8 A9 h9 A10 h10 A11 h11 A12 h12 A13 h13 A14 h14 A15 h15 A16 h16 A17 A18 A19 r0 r1 r2 r3 t iv hc >>= kk) Q) := by
  iintro ⟨HS, HB, HO, #Hmw⟩ Hk
  have ht := (cond_iff t).1 hc
  ihave HS := (bigSep_update (STS base t.val) (MIDS base t.val) ⟨(t.val - 2) % 8, Nat.mod_lt _ (by decide)⟩
    (fun s hs => St_mid (F := F) EC d i A3 A4 A5 A10 A11 A12 A13 A17 A18 A19 ι q f3 f4 f5 oT T3 T4 T5 base t.val s (Or.inr (fun h => hs (Fin.ext h))))) $$ HS
  icases HS with ⟨Ha, HS⟩
  ihave Ha := (Entails.of_eq (St_two (F := F) EC d i A3 A4 A5 A10 A11 A12 A13 A17 A18 A19 ι q f3 f4 f5 oT T3 T4 T5 base t.val ht ⟨(t.val - 2) % 8, Nat.mod_lt _ (by decide)⟩ rfl)) $$ Ha
  iapply (pull_then EC 𝒱 d i bd A2 A3 A4 A5 A6 A7 A8 A9 A10 A11 A12 A13 A14 A15 A16 A17 A18 A19 h2 h3 h4 h5 h6 h7 h8 h9 h10 h11 h12 h13 h14 h15 h16 r0 r1 r2 r3 ι O W q f3 f4 f5 oT T3 T4 T5 base t iv hc ht) $$ [Ha HB HO]
  · iframe Ha HB HO Hmw
  iintro ⟨Ha, HB, HO⟩
  iapply Hk
  isplitl [Ha HS]
  · iapply HS
    iapply (Entails.of_eq (Mid_two (F := F) EC d i A3 A4 A5 A10 A11 A12 A13 A17 A18 A19 ι q f3 f4 f5 oT T3 T4 T5 base t.val ht ⟨(t.val - 2) % 8, Nat.mod_lt _ (by decide)⟩ rfl).symm)
    iexact Ha
  isplitl [HB]
  · iapply (Entails.of_eq (show BUFS base (128 * (t.val - 2) + 128) = BUFS base (128 * (t.val + 1 - 2)) by
      congr 1; omega))
    iexact HB
  iexact HO

/-- Before the first two chunks nothing is copied out. -/
theorem skip_mid (base : ℕ) (t : Fin k0_t2_loop.trips) (hc : ¬ k0_cond1 t = 1#1) :
    iprop(bigSep Finset.univ (STS base t.val) ∗ BUFS base (128 * (t.val - 2)))
      ⊢ iprop(bigSep Finset.univ (MIDS base t.val) ∗ BUFS base (128 * (t.val + 1 - 2))) := by
  have ht : t.val < 2 := by
    by_contra h
    exact hc ((cond_iff t).2 (by omega))
  have e : t.val + 1 - 2 = t.val - 2 := by omega
  rw [e, bigSep_congr fun s _ =>
    St_mid (F := F) EC d i A3 A4 A5 A10 A11 A12 A13 A17 A18 A19 ι q f3 f4 f5 oT T3 T4 T5 base t.val s (Or.inl ht)]

set_option maxHeartbeats 4000000 in
set_option maxRecDepth 65536 in
/-- A chunk: the chunk before last copied out, the slot's indices filled in, its three gathers issued. -/
theorem chunk_step [EC.LandsIn (upEmb : UEmb _ 𝕄)] (hin : ∀ j, (oT j).toNat < 802816) (base : ℕ) (v1 c0 c1 : BitVec 32) (t1 : Fin k0_t1_loop.trips) (t : Fin k0_t2_loop.trips) (acc : BitVec 32)
    {Q : BitVec 32 → sProp 𝕄} :
    iprop(bigSep Finset.univ (STS base t.val) ∗ BUFS base (128 * (t.val - 2)) ∗ Filled (thr d i) A9 (fun j => (oT (base + j) : Elt F .i32)) 1792 ∗ OWING ∗ MAYW)
      ⊢ iprop((∀ v, bigSep Finset.univ (STS base (t.val + 1)) ∗ BUFS base (128 * (t.val + 1 - 2)) ∗ Filled (thr d i) A9 (fun j => (oT (base + j) : Elt F .i32)) 1792 ∗ OWING -∗ Q v)
        -∗ wp frame (wpE defs 𝒱 (thr d i) bd) Set.univ (k0_t2_body i A2 h2 A3 h3 A4 h4 A5 h5 A6 h6 A7 h7 A8 h8 A9 h9 A10 h10 A11 h11 A12 h12 A13 h13 A14 h14 A15 h15 A16 h16 A17 A18 A19 r0 r1 r2 r3 v1 c0 c1 t1 t acc) Q) := by
  unfold k0_t2_body
  simp only [k0_part5_eq_skeleton, k0_part5_skel, k0_part6_eq_skeleton, k0_part6_skel, bind_assoc, pure_bind]
  iintro ⟨HS, HB, HI, HO, #Hmw⟩ Hk
  by_cases hc : k0_cond1 t = 1#1
  · simp only [dif_pos hc, bind_assoc, pure_bind]
    iapply (pull_mid EC 𝒱 d i bd A2 A3 A4 A5 A6 A7 A8 A9 A10 A11 A12 A13 A14 A15 A16 A17 A18 A19 h2 h3 h4 h5 h6 h7 h8 h9 h10 h11 h12 h13 h14 h15 h16 r0 r1 r2 r3 ι O W q f3 f4 f5 oT T3 T4 T5 base t _ hc) $$ [HS HB HO]
    · iframe HS HB HO Hmw
    iintro ⟨HS, HB, HO⟩
    ihave HS := (bigSep_update (MIDS base t.val) (STS base (t.val + 1)) ⟨t.val % 8, Nat.mod_lt _ (by decide)⟩
      (fun s hs => Mid_St (F := F) EC d i A3 A4 A5 A10 A11 A12 A13 A17 A18 A19 ι q f3 f4 f5 oT T3 T4 T5 base t.val s (fun h => hs (Fin.ext h)))) $$ HS
    icases HS with ⟨Ha, HS⟩
    ihave Ha := (Entails.of_eq (Mid_now (F := F) EC d i A3 A4 A5 A10 A11 A12 A13 A17 A18 A19 ι q f3 f4 f5 oT T3 T4 T5 base t.val ⟨t.val % 8, Nat.mod_lt _ (by decide)⟩ rfl)) $$ Ha
    unfold Idle
    icases Ha with ⟨Hi, Hr0, Hr1, Hr2, Hs0, Hs1, Hs2, Ht0, Ht1, Ht2⟩
    ihave Hi := (RowAny.fill (thr d i) A10 _ (fun j => (oT (base + 128 * t.val + j) : Elt F .i32))) $$ Hi
    have htl : t.val < 14 := t.isLt
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 0) (k := 128 * t.val + 0) (N := 1792)
      (off14 t) (off13_0 t) (fun x _ => by show oT (base + 128 * t.val + (0 + x)) = oT (base + (128 * t.val + 0 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 16) (k := 128 * t.val + 16) (N := 1792)
      (off15 t) (off13_1 t) (fun x _ => by show oT (base + 128 * t.val + (16 + x)) = oT (base + (128 * t.val + 16 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 32) (k := 128 * t.val + 32) (N := 1792)
      (off16 t) (off13_2 t) (fun x _ => by show oT (base + 128 * t.val + (32 + x)) = oT (base + (128 * t.val + 32 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 48) (k := 128 * t.val + 48) (N := 1792)
      (off17 t) (off13_3 t) (fun x _ => by show oT (base + 128 * t.val + (48 + x)) = oT (base + (128 * t.val + 48 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 64) (k := 128 * t.val + 64) (N := 1792)
      (off18 t) (off13_4 t) (fun x _ => by show oT (base + 128 * t.val + (64 + x)) = oT (base + (128 * t.val + 64 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 80) (k := 128 * t.val + 80) (N := 1792)
      (off19 t) (off13_5 t) (fun x _ => by show oT (base + 128 * t.val + (80 + x)) = oT (base + (128 * t.val + 80 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 96) (k := 128 * t.val + 96) (N := 1792)
      (off20 t) (off13_6 t) (fun x _ => by show oT (base + 128 * t.val + (96 + x)) = oT (base + (128 * t.val + 96 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 112) (k := 128 * t.val + 112) (N := 1792)
      (off21 t) (off13_7 t) (fun x _ => by show oT (base + 128 * t.val + (112 + x)) = oT (base + (128 * t.val + 112 + x)); congr 1; omega) (by omega) (fun v x => cast_row v _ x)) $$ [HI Hi]
    · isplitl [HI] <;> iassumption
    iintro ⟨HI, Hi⟩
    ihave Hi := (RowFill.all (thr d i) A10 _ _) $$ Hi
    unfold RowHas
    icases Hi with ⟨%g, %hg, Hi⟩
    ihave Hi := (ixRow_join (F := F) d i A10 _ g).1 $$ Hi
    icases Hi with ⟨Hi0, Hi1, Hi2⟩
    iapply (wp_gatherRow EC 𝒱 (thr d i) bd (A := A3) (M := A11) (I := A10) (SA := A17) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T3) ι hg (fun j _ => hin _)) $$ [Ht0 Hr0 Hi0 Hs0]
    · iframe Ht0 Hr0 Hi0 Hs0
    iintro Hf0
    iapply (wp_gatherRow EC 𝒱 (thr d i) bd (A := A4) (M := A12) (I := A10) (SA := A18) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T4) ι hg (fun j _ => hin _)) $$ [Ht1 Hr1 Hi1 Hs1]
    · iframe Ht1 Hr1 Hi1 Hs1
    iintro Hf1
    iapply (wp_gatherRow EC 𝒱 (thr d i) bd (A := A5) (M := A13) (I := A10) (SA := A19) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T5) ι hg (fun j _ => hin _)) $$ [Ht2 Hr2 Hi2 Hs2]
    · iframe Ht2 Hr2 Hi2 Hs2
    iintro Hf2
    iapply le_wp_ret
    iapply Hk
    isplitl [HS Hf0 Hf1 Hf2]
    · iapply HS
      iapply (Entails.of_eq (St_now (F := F) EC d i A3 A4 A5 A10 A11 A12 A13 A17 A18 A19 ι q f3 f4 f5 oT T3 T4 T5 base t.val ⟨t.val % 8, Nat.mod_lt _ (by decide)⟩ rfl).symm)
      unfold Fly
      iexists g
      iframe Hf0 Hf1 Hf2
    iframe HB HI HO
  · simp only [dif_neg hc, bind_assoc, pure_bind]
    ihave H := (skip_mid (F := F) EC d i A3 A4 A5 A10 A11 A12 A13 A14 A15 A16 A17 A18 A19 ι q f3 f4 f5 oT T3 T4 T5 base t hc) $$ [HS HB]
    · isplitl [HS] <;> iassumption
    icases H with ⟨HS, HB⟩
    ihave HS := (bigSep_update (MIDS base t.val) (STS base (t.val + 1)) ⟨t.val % 8, Nat.mod_lt _ (by decide)⟩
      (fun s hs => Mid_St (F := F) EC d i A3 A4 A5 A10 A11 A12 A13 A17 A18 A19 ι q f3 f4 f5 oT T3 T4 T5 base t.val s (fun h => hs (Fin.ext h)))) $$ HS
    icases HS with ⟨Ha, HS⟩
    ihave Ha := (Entails.of_eq (Mid_now (F := F) EC d i A3 A4 A5 A10 A11 A12 A13 A17 A18 A19 ι q f3 f4 f5 oT T3 T4 T5 base t.val ⟨t.val % 8, Nat.mod_lt _ (by decide)⟩ rfl)) $$ Ha
    unfold Idle
    icases Ha with ⟨Hi, Hr0, Hr1, Hr2, Hs0, Hs1, Hs2, Ht0, Ht1, Ht2⟩
    ihave Hi := (RowAny.fill (thr d i) A10 _ (fun j => (oT (base + 128 * t.val + j) : Elt F .i32))) $$ Hi
    have htl : t.val < 14 := t.isLt
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 0) (k := 128 * t.val + 0) (N := 1792)
      (off14 t) (off13_0 t) (fun x _ => by show oT (base + 128 * t.val + (0 + x)) = oT (base + (128 * t.val + 0 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 16) (k := 128 * t.val + 16) (N := 1792)
      (off15 t) (off13_1 t) (fun x _ => by show oT (base + 128 * t.val + (16 + x)) = oT (base + (128 * t.val + 16 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 32) (k := 128 * t.val + 32) (N := 1792)
      (off16 t) (off13_2 t) (fun x _ => by show oT (base + 128 * t.val + (32 + x)) = oT (base + (128 * t.val + 32 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 48) (k := 128 * t.val + 48) (N := 1792)
      (off17 t) (off13_3 t) (fun x _ => by show oT (base + 128 * t.val + (48 + x)) = oT (base + (128 * t.val + 48 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 64) (k := 128 * t.val + 64) (N := 1792)
      (off18 t) (off13_4 t) (fun x _ => by show oT (base + 128 * t.val + (64 + x)) = oT (base + (128 * t.val + 64 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 80) (k := 128 * t.val + 80) (N := 1792)
      (off19 t) (off13_5 t) (fun x _ => by show oT (base + 128 * t.val + (80 + x)) = oT (base + (128 * t.val + 80 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 96) (k := 128 * t.val + 96) (N := 1792)
      (off20 t) (off13_6 t) (fun x _ => by show oT (base + 128 * t.val + (96 + x)) = oT (base + (128 * t.val + 96 + x)); congr 1; omega) (by omega) (fun v x => cast_row v _ x)) $$ [HI Hi]
    · isplitl [HI] <;> iassumption
    iintro ⟨HI, Hi⟩
    iapply (wp_fillLane 𝒱 (thr d i) bd (D := A9) (M := A10) (G := fun j => (oT (base + j) : Elt F .i32)) (G' := fun j => (oT (base + 128 * t.val + j) : Elt F .i32)) (s := ⟨t.val % 8, Nat.mod_lt _ (by decide)⟩) (b := 112) (k := 128 * t.val + 112) (N := 1792)
      (off21 t) (off13_7 t) (fun x _ => by show oT (base + 128 * t.val + (112 + x)) = oT (base + (128 * t.val + 112 + x)); congr 1; omega) (by omega) (fun v x => cast_row v _ x)) $$ [HI Hi]
    · isplitl [HI] <;> iassumption
    iintro ⟨HI, Hi⟩
    ihave Hi := (RowFill.all (thr d i) A10 _ _) $$ Hi
    unfold RowHas
    icases Hi with ⟨%g, %hg, Hi⟩
    ihave Hi := (ixRow_join (F := F) d i A10 _ g).1 $$ Hi
    icases Hi with ⟨Hi0, Hi1, Hi2⟩
    iapply (wp_gatherRow EC 𝒱 (thr d i) bd (A := A3) (M := A11) (I := A10) (SA := A17) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T3) ι hg (fun j _ => hin _)) $$ [Ht0 Hr0 Hi0 Hs0]
    · iframe Ht0 Hr0 Hi0 Hs0
    iintro Hf0
    iapply (wp_gatherRow EC 𝒱 (thr d i) bd (A := A4) (M := A12) (I := A10) (SA := A18) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T4) ι hg (fun j _ => hin _)) $$ [Ht1 Hr1 Hi1 Hs1]
    · iframe Ht1 Hr1 Hi1 Hs1
    iintro Hf1
    iapply (wp_gatherRow EC 𝒱 (thr d i) bd (A := A5) (M := A13) (I := A10) (SA := A19) (s := ⟨t.val % 8, Nat.mod_lt _ (by decide)⟩) (s' := ⟨t.val % 8, Nat.mod_lt _ (by decide)⟩)
      (s'' := ⟨t.val % 8, Nat.mod_lt _ (by decide)⟩) (off22 t) (off22 t) (off23 t) (fun _ => rfl) (T := T5) ι hg (fun j _ => hin _)) $$ [Ht2 Hr2 Hi2 Hs2]
    · iframe Ht2 Hr2 Hi2 Hs2
    iintro Hf2
    iapply le_wp_ret
    iapply Hk
    isplitl [HS Hf0 Hf1 Hf2]
    · iapply HS
      iapply (Entails.of_eq (St_now (F := F) EC d i A3 A4 A5 A10 A11 A12 A13 A17 A18 A19 ι q f3 f4 f5 oT T3 T4 T5 base t.val ⟨t.val % 8, Nat.mod_lt _ (by decide)⟩ rfl).symm)
      unfold Fly
      iexists g
      iframe Hf0 Hf1 Hf2
    iframe HB HI HO

end Cert.Proof.CdOne
-- ==== Proof.CdOneRun.lean ====
/-
  The run of the edge gather's tile program: the chunks of a period, the last two chunks copied out, the periods.
-/
module

public import proofs.«01_k».proof.Proof.CdOne
public import proofs.«01_k».proof.Proof.Gen.KernelIdeal
public import proofs.«01_k».proof.Proof.Gen.KernelIdeal.Skeleton

@[expose] public section

noncomputable section

namespace Cert.Proof.CdOne

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

/-! ## The run -/

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid0.Coords) (bd : Option 𝒱.V)

local notation "𝕄" => MT nD τ sig Ix (Elt F) Name U Lvl

variable (A2 A3 A4 A5 A6 A7 A8 : Memref sig .scVector .hbm S802816 .i32) (A9 : Memref sig .scVector .vmem S1792 .i32)
variable (A10 A11 A12 A13 : Memref sig .scVector .vmem S8x128 .i32) (A14 A15 A16 : Memref sig .scVector .vmem S1792 .i32)
variable (A17 A18 A19 : DmaSems sig S8)
variable (h2 : A2.IsWhole) (h3 : A3.IsWhole) (h4 : A4.IsWhole) (h5 : A5.IsWhole) (h6 : A6.IsWhole) (h7 : A7.IsWhole) (h8 : A8.IsWhole) (h9 : A9.IsWhole)
variable (h10 : A10.IsWhole) (h11 : A11.IsWhole) (h12 : A12.IsWhole) (h13 : A13.IsWhole) (h14 : A14.IsWhole) (h15 : A15.IsWhole) (h16 : A16.IsWhole)
variable (r0 r1 r2 r3 : DmaSems sig S_)
variable (ι : Ix) (O : CellTallies nD τ sig Ix) (W : Waits sig Ix)
-- the tables' shares (per slot), contents and what they read
variable (q : Fin 8 → PosShare TreeShare)
variable (f3 : Buf (Elt F) (A3.view.loc (thr d i))) (f4 : Buf (Elt F) (A4.view.loc (thr d i))) (f5 : Buf (Elt F) (A5.view.loc (thr d i)))
variable (oT T3 T4 T5 : ℕ → BitVec 32)

local notation "IDLE" => Idle (F := F) (Ix := Ix) (Name := Name) (U := U) (Lvl := Lvl) d i A3 A4 A5 A10 A11 A12 A13 A17 A18 A19 q f3 f4 f5 T3 T4 T5
local notation "FLY" => Fly (F := F) (Ix := Ix) (Name := Name) (U := U) (Lvl := Lvl) EC d i A3 A4 A5 A10 A11 A12 A13 A17 A18 A19 ι q f3 f4 f5 oT T3 T4 T5
local notation "BUFS" => Bufs (F := F) (Ix := Ix) (Name := Name) (U := U) (Lvl := Lvl) d i A14 A15 A16 oT T3 T4 T5
local notation "OWING" => Owing (F := F) (Ix := Ix) (Name := Name) (U := U) (Lvl := Lvl) (thr d i) ι O W
local notation "MAYW" => (Transfers.MayWaits (thr d i) ι O : sProp (MT nD τ sig Ix (Elt F) Name U Lvl))

local notation "STS" => St (F := F) (Ix := Ix) (Name := Name) (U := U) (Lvl := Lvl) EC d i A3 A4 A5 A10 A11 A12 A13 A17 A18 A19 ι q f3 f4 f5 oT T3 T4 T5
local notation "MIDS" => Mid (F := F) (Ix := Ix) (Name := Name) (U := U) (Lvl := Lvl) EC d i A3 A4 A5 A10 A11 A12 A13 A17 A18 A19 ι q f3 f4 f5 oT T3 T4 T5

/-- The chunks of a period: everything but the last two chunks copied out. -/
theorem chunks [EC.LandsIn (upEmb : UEmb _ 𝕄)] (hin : ∀ j, (oT j).toNat < 802816) (base : ℕ) (v1 c0 c1 : BitVec 32) (t1 : Fin k0_t1_loop.trips)
    {α : Type} {Q : α → sProp 𝕄} {kk : BitVec 32 → Prog (TpuEff nD τ sig (Elt F) Λ₀ (thr d i).2) α} :
    iprop(bigSep Finset.univ (fun s => IDLE s) ∗ BUFS base 0 ∗ Filled (thr d i) A9 (fun j => (oT (base + j) : Elt F .i32)) 1792 ∗ OWING ∗ MAYW)
      ⊢ iprop((∀ v, bigSep Finset.univ (STS base 14) ∗ BUFS base 1536 ∗ Filled (thr d i) A9 (fun j => (oT (base + j) : Elt F .i32)) 1792 ∗ OWING
            -∗ wp frame (wpE defs 𝒱 (thr d i) bd) Set.univ (kk v) Q)
        -∗ wp frame (wpE defs 𝒱 (thr d i) bd) Set.univ
          (Scf.Loop.for k0_t2_loop k0_t2_ok 0#32 (k0_t2_body i A2 h2 A3 h3 A4 h4 A5 h5 A6 h6 A7 h7 A8 h8 A9 h9 A10 h10 A11 h11 A12 h12 A13 h13 A14 h14 A15 h15 A16 h16 A17 A18 A19 r0 r1 r2 r3 v1 c0 c1 t1) >>= kk) Q) := by
  iintro ⟨HS, HB, HI, HO, #Hmw⟩ Hk
  iapply (Scf.wp_for_bind frame (wpE defs 𝒱 (thr d i) bd) Set.univ k0_t2_loop.lb k0_t2_loop.ub k0_t2_loop.st k0_t2_ok 0#32
    (k0_t2_body i A2 h2 A3 h3 A4 h4 A5 h5 A6 h6 A7 h7 A8 h8 A9 h9 A10 h10 A11 h11 A12 h12 A13 h13 A14 h14 A15 h15 A16 h16 A17 A18 A19 r0 r1 r2 r3 v1 c0 c1 t1)
    (fun n _ => iprop(MAYW ∗ bigSep Finset.univ (STS base n) ∗ BUFS base (128 * (n - 2)) ∗ Filled (thr d i) A9 (fun j => (oT (base + j) : Elt F .i32)) 1792 ∗ OWING))
    (fun t acc => by
      iintro ⟨#Hmw, HS, HB, HI, HO⟩
      iapply (chunk_step EC 𝒱 d i bd A2 A3 A4 A5 A6 A7 A8 A9 A10 A11 A12 A13 A14 A15 A16 A17 A18 A19 h2 h3 h4 h5 h6 h7 h8 h9 h10 h11 h12 h13 h14 h15 h16 r0 r1 r2 r3 ι O W q f3 f4 f5 oT T3 T4 T5 hin base v1 c0 c1 t1 t acc) $$ [HS HB HI HO]
      · iframe HS HB HI HO Hmw
      iintro %v ⟨HS, HB, HI, HO⟩
      isplitr; · iexact Hmw
      iframe HS HB HI HO)) $$ [HS HB HI HO]
  · isplitr; · iexact Hmw
    isplitl [HS]
    · iapply (Entails.of_eq (bigSep_congr fun s _ => (St_zero (F := F) EC d i A3 A4 A5 A10 A11 A12 A13 A17 A18 A19 ι q f3 f4 f5 oT T3 T4 T5 base s).symm))
      iexact HS
    iframe HB HI HO
  iintro %v H
  icases H with ⟨-, HS, HB, HI, HO⟩
  iapply Hk
  iframe HS HB HI HO

omit [FloatOps F] [Infinite Name] in
theorem last_two (base : ℕ) : bigSep Finset.univ (STS base 14)
    ⊢ iprop(FLY (base + 1536) 4 ∗ FLY (base + 1664) 5 ∗ (IDLE 4 ∗ IDLE 5 -∗ bigSep Finset.univ fun s => IDLE s)) := by
  have e4 : STS base 14 4 = FLY (base + 1536) 4 := St_two (F := F) EC d i A3 A4 A5 A10 A11 A12 A13 A17 A18 A19 ι q f3 f4 f5 oT T3 T4 T5 base 14 (by decide) 4 rfl
  have e5 : STS base 14 5 = FLY (base + 1664) 5 := by unfold St; rw [if_pos ⟨by decide, rfl⟩]
  have er : ∀ s : Fin 8, s ≠ 4 → s ≠ 5 → STS base 14 s = IDLE s := by
    intro s h4 h5
    unfold St
    rw [if_neg (fun h => h5 (Fin.ext h.2)), if_neg (fun h => h4 (Fin.ext h.2))]
  rw [SparseCore.bigSep_erase' (Φ := STS base 14) (Finset.mem_univ 4), SparseCore.bigSep_erase' (Φ := STS base 14) (i := 5) (by decide),
    SparseCore.bigSep_erase' (Φ := fun s => IDLE s) (Finset.mem_univ 4), SparseCore.bigSep_erase' (Φ := fun s => IDLE s) (i := 5) (by decide), e4, e5,
    bigSep_congr (fun s hs => er s (Finset.ne_of_mem_erase (Finset.mem_of_mem_erase hs)) (Finset.ne_of_mem_erase hs))]
  iintro ⟨H4, H5, Hr⟩
  iframe H4 H5
  iintro ⟨Ha, Hb⟩
  iframe Ha Hb Hr

variable (q2 : PosShare TreeShare) (f2 : Buf (Elt F) (A2.view.loc (thr d i)))
variable (S6 : Finset (Idx (A6.view.loc (thr d i)))) (S7 : Finset (Idx (A7.view.loc (thr d i)))) (S8 : Finset (Idx (A8.view.loc (thr d i))))

/-- Where a tile's results begin. -/
abbrev lo (i : grid0.Coords) : ℕ := 401408 * (i 0).val + 25088 * (i 1).val

/-- What a tile holds between periods, besides what it owes: `n` elements of its results done. -/
def Between (n : ℕ) : sProp 𝕄 :=
  iprop(bigSep Finset.univ (fun s => IDLE s) ∗ BUFS 0 0 ∗ Filled (thr d i) A9 (fun j => (oT j : Elt F .i32)) 0
    ∗ Spanned (thr d i) A6 S6 (pick (F := F) oT T3 0) (lo i) (lo i + n)
    ∗ Spanned (thr d i) A7 S7 (pick (F := F) oT T4 0) (lo i) (lo i + n)
    ∗ Spanned (thr d i) A8 S8 (pick (F := F) oT T5 0) (lo i) (lo i + n)
    ∗ semVal (thr d i, SemLoc.dma r0.sem) 0 ∗ semVal (thr d i, SemLoc.dma r1.sem) 0 ∗ semVal (thr d i, SemLoc.dma r2.sem) 0 ∗ semVal (thr d i, SemLoc.dma r3.sem) 0
    ∗ Table (thr d i) A2 q2 f2 (fun j => (oT j : Elt F .i32)))

local notation "BETW" => Between (F := F) (Ix := Ix) (Name := Name) (U := U) (Lvl := Lvl) d i A2 A3 A4 A5 A6 A7 A8 A9 A10 A11 A12 A13 A14 A15 A16 A17 A18 A19 r0 r1 r2 r3 q f3 f4 f5 oT T3 T4 T5 q2 f2 S6 S7 S8

set_option maxHeartbeats 4000000 in
set_option maxRecDepth 65536 in
/-- A period. -/
theorem period_step [EC.LandsIn (upEmb : UEmb _ 𝕄)] (hin : ∀ j, (oT j).toNat < 802816)
    (hS6 : ∀ t, (A6.view.slice (Rect.unit (s := S802816) (k0_off1 i t) S1792.size (k0_off1_inb i t))).set ⊆ S6)
    (hS7 : ∀ t, (A7.view.slice (Rect.unit (s := S802816) (k0_off1 i t) S1792.size (k0_off1_inb i t))).set ⊆ S7)
    (hS8 : ∀ t, (A8.view.slice (Rect.unit (s := S802816) (k0_off1 i t) S1792.size (k0_off1_inb i t))).set ⊆ S8)
    (v1 : BitVec 32) (t : Fin k0_t1_loop.trips) (acc : BitVec 32) {Q : BitVec 32 → sProp 𝕄} :
    iprop(BETW (1792 * t.val) ∗ OWING ∗ MAYW)
      ⊢ iprop((∀ v, BETW (1792 * (t.val + 1)) ∗ OWING -∗ Q v)
        -∗ wp frame (wpE defs 𝒱 (thr d i) bd) Set.univ (k0_t1_body i A2 h2 A3 h3 A4 h4 A5 h5 A6 h6 A7 h7 A8 h8 A9 h9 A10 h10 A11 h11 A12 h12 A13 h13 A14 h14 A15 h15 A16 h16 A17 A18 A19 r0 r1 r2 r3 v1 t acc) Q) := by
  unfold k0_t1_body
  simp only [k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, bind_assoc, pure_bind]
  unfold Between
  iintro ⟨⟨HS, HB, H9, H6, H7, H8, Hr0, Hr1, Hr2, Hr3, H2⟩, HO, #Hmw⟩ Hk
  ihave H9 := (Filled.any (thr d i) A9 _ (fun j => (oT (lo i + 1792 * t.val + j) : Elt F .i32)) _) $$ H9
  iapply (wp_copyIn EC 𝒱 (thr d i) bd (k := lo i + 1792 * t.val) (off1 i t) rfl (by decide) ι (fun j _ => rfl)) $$ [H2 H9 Hr0 HO]
  · iframe H2 H9 Hr0 HO Hmw
  iintro ⟨H2, H9, Hr0, HO⟩
  iapply (chunks EC 𝒱 d i bd A2 A3 A4 A5 A6 A7 A8 A9 A10 A11 A12 A13 A14 A15 A16 A17 A18 A19 h2 h3 h4 h5 h6 h7 h8 h9 h10 h11 h12 h13 h14 h15 h16 r0 r1 r2 r3 ι O W q f3 f4 f5 oT T3 T4 T5 hin (lo i + 1792 * t.val) v1 0#32 1#32 t) $$ [HS HB H9 HO]
  · isplitl [HS]; · iexact HS
    isplitl [HB]
    · unfold Bufs
      icases HB with ⟨Hb0, Hb1, Hb2⟩
      isplitl [Hb0]; · iapply (Filled.any (thr d i) A14 _ _ _) $$ Hb0
      isplitl [Hb1]; · iapply (Filled.any (thr d i) A15 _ _ _) $$ Hb1
      iapply (Filled.any (thr d i) A16 _ _ _) $$ Hb2
    iframe H9 HO Hmw
  iintro %v ⟨HS, HB, H9, HO⟩
  ihave HS := (last_two (F := F) EC d i A3 A4 A5 A10 A11 A12 A13 A17 A18 A19 ι q f3 f4 f5 oT T3 T4 T5 (lo i + 1792 * t.val)) $$ HS
  unfold Fly Bufs
  icases HS with ⟨⟨%g, Hf0, Hf1, Hf2⟩, ⟨%g', Hg0, Hg1, Hg2⟩, HS⟩
  icases HB with ⟨Hb0, Hb1, Hb2⟩
  iapply (wp_waitRow EC 𝒱 (thr d i) bd (M := A11) (SA := A17) (s := 4) (s'' := 4) off24_12 off25_12 ι rfl) $$ [Hf0 HO]
  · iframe Hf0 HO Hmw
  iintro ⟨⟨Hx0, Ht0, Hi0⟩, Hs0, HO⟩
  iapply (wp_waitRow EC 𝒱 (thr d i) bd (M := A12) (SA := A18) (s := 4) (s'' := 4) off24_12 off25_12 ι rfl) $$ [Hf1 HO]
  · iframe Hf1 HO Hmw
  iintro ⟨⟨Hx1, Ht1, Hi1⟩, Hs1, HO⟩
  iapply (wp_waitRow EC 𝒱 (thr d i) bd (M := A13) (SA := A19) (s := 4) (s'' := 4) off24_12 off25_12 ι rfl) $$ [Hf2 HO]
  · iframe Hf2 HO Hmw
  iintro ⟨⟨Hx2, Ht2, Hi2⟩, Hs2, HO⟩
  iapply (wp_copyLane 𝒱 (thr d i) bd (M := A11) (D := A14) (s := 4) (b := 0) (k := 1536 + 0) off26_12 rfl
    (fun x _ => pick_shift (F := F) oT T3 (lo i + 1792 * t.val) (1536) 0 x) (fun v x => cast_flat v _ x)) $$ [Hx0 Hb0]
  · isplitl [Hx0] <;> iassumption
  iintro ⟨Hx0, Hb0⟩
  iapply (wp_copyLane 𝒱 (thr d i) bd (M := A12) (D := A15) (s := 4) (b := 0) (k := 1536 + 0) off26_12 rfl
    (fun x _ => pick_shift (F := F) oT T4 (lo i + 1792 * t.val) (1536) 0 x) (fun v x => cast_flat v _ x)) $$ [Hx1 Hb1]
  · isplitl [Hx1] <;> iassumption
  iintro ⟨Hx1, Hb1⟩
  iapply (wp_copyLane 𝒱 (thr d i) bd (M := A13) (D := A16) (s := 4) (b := 0) (k := 1536 + 0) off26_12 rfl
    (fun x _ => pick_shift (F := F) oT T5 (lo i + 1792 * t.val) (1536) 0 x) (fun v x => cast_flat v _ x)) $$ [Hx2 Hb2]
  · isplitl [Hx2] <;> iassumption
  iintro ⟨Hx2, Hb2⟩
  iapply (wp_copyLane 𝒱 (thr d i) bd (M := A11) (D := A14) (s := 4) (b := 16) (k := 1536 + 16) off27_12 rfl
    (fun x _ => pick_shift (F := F) oT T3 (lo i + 1792 * t.val) (1536) 16 x) (fun v x => cast_flat v _ x)) $$ [Hx0 Hb0]
  · isplitl [Hx0] <;> iassumption
  iintro ⟨Hx0, Hb0⟩
  iapply (wp_copyLane 𝒱 (thr d i) bd (M := A12) (D := A15) (s := 4) (b := 16) (k := 1536 + 16) off27_12 rfl
    (fun x _ => pick_shift (F := F) oT T4 (lo i + 1792 * t.val) (1536) 16 x) (fun v x => cast_flat v _ x)) $$ [Hx1 Hb1]
  · isplitl [Hx1] <;> iassumption
  iintro ⟨Hx1, Hb1⟩
  iapply (wp_copyLane 𝒱 (thr d i) bd (M := A13) (D := A16) (s := 4) (b := 16) (k := 1536 + 16) off27_12 rfl
    (fun x _ => pick_shift (F := F) oT T5 (lo i + 1792 * t.val) (1536) 16 x) (fun v x => cast_flat v _ x)) $$ [Hx2 Hb2]
  · isplitl [Hx2] <;> iassumption
  iintro ⟨Hx2, Hb2⟩
  iapply (wp_copyLane 𝒱 (thr d i) bd (M := A11) (D := A14) (s := 4) (b := 32) (k := 1536 + 32) off28_12 rfl
    (fun x _ => pick_shift (F := F) oT T3 (lo i + 1792 * t.val) (1536) 32 x) (fun v x => cast_flat v _ x)) $$ [Hx0 Hb0]
  · isplitl [Hx0] <;> iassumption
  iintro ⟨Hx0, Hb0⟩
  iapply (wp_copyLane 𝒱 (thr d i) bd (M := A12) (D := A15) (s := 4) (b := 32) (k := 1536 + 32) off28_12 rfl
    (fun x _ => pick_shift (F := F) oT T4 (lo i + 1792 * t.val) (1536) 32 x) (fun v x => cast_flat v _ x)) $$ [Hx1 Hb1]
  · isplitl [Hx1] <;> iassumption
  iintro ⟨Hx1, Hb1⟩
  iapply (wp_copyLane 𝒱 (thr d i) bd (M := A13) (D := A16) (s := 4) (b := 32) (k := 1536 + 32) off28_12 rfl
    (fun x _ => pick_shift (F := F) oT T5 (lo i + 1792 * t.val) (1536) 32 x) (fun v x => cast_flat v _ x)) $$ [Hx2 Hb2]
  · isplitl [Hx2] <;> iassumption
  iintro ⟨Hx2, Hb2⟩
  iapply (wp_copyLane 𝒱 (thr d i) bd (M := A11) (D := A14) (s := 4) (b := 48) (k := 1536 + 48) off29_12 rfl
    (fun x _ => pick_shift (F := F) oT T3 (lo i + 1792 * t.val) (1536) 48 x) (fun v x => cast_flat v _ x)) $$ [Hx0 Hb0]
  · isplitl [Hx0] <;> iassumption
  iintro ⟨Hx0, Hb0⟩
  iapply (wp_copyLane 𝒱 (thr d i) bd (M := A12) (D := A15) (s := 4) (b := 48) (k := 1536 + 48) off29_12 rfl
    (fun x _ => pick_shift (F := F) oT T4 (lo i + 1792 * t.val) (1536) 48 x) (fun v x => cast_flat v _ x)) $$ [Hx1 Hb1]
  · isplitl [Hx1] <;> iassumption
  iintro ⟨Hx1, Hb1⟩
  iapply (wp_copyLane 𝒱 (thr d i) bd (M := A13) (D := A16) (s := 4) (b := 48) (k := 1536 + 48) off29_12 rfl
    (fun x _ => pick_shift (F := F) oT T5 (lo i + 1792 * t.val) (1536) 48 x) (fun v x => cast_flat v _ x)) $$ [Hx2 Hb2]
  · isplitl [Hx2] <;> iassumption
  iintro ⟨Hx2, Hb2⟩
  iapply (wp_copyLane 𝒱 (thr d i) bd (M := A11) (D := A14) (s := 4) (b := 64) (k := 1536 + 64) off30_12 rfl
    (fun x _ => pick_shift (F := F) oT T3 (lo i + 1792 * t.val) (1536) 64 x) (fun v x => cast_flat v _ x)) $$ [Hx0 Hb0]
  · isplitl [Hx0] <;> iassumption
  iintro ⟨Hx0, Hb0⟩
  iapply (wp_copyLane 𝒱 (thr d i) bd (M := A12) (D := A15) (s := 4) (b := 64) (k := 1536 + 64) off30_12 rfl
    (fun x _ => pick_shift (F := F) oT T4 (lo i + 1792 * t.val) (1536) 64 x) (fun v x => cast_flat v _ x)) $$ [Hx1 Hb1]
  · isplitl [Hx1] <;> iassumption
  iintro ⟨Hx1, Hb1⟩
  iapply (wp_copyLane 𝒱 (thr d i) bd (M := A13) (D := A16) (s := 4) (b := 64) (k := 1536 + 64) off30_12 rfl
    (fun x _ => pick_shift (F := F) oT T5 (lo i + 1792 * t.val) (1536) 64 x) (fun v x => cast_flat v _ x)) $$ [Hx2 Hb2]
  · isplitl [Hx2] <;> iassumption
  iintro ⟨Hx2, Hb2⟩
  iapply (wp_copyLane 𝒱 (thr d i) bd (M := A11) (D := A14) (s := 4) (b := 80) (k := 1536 + 80) off31_12 rfl
    (fun x _ => pick_shift (F := F) oT T3 (lo i + 1792 * t.val) (1536) 80 x) (fun v x => cast_flat v _ x)) $$ [Hx0 Hb0]
  · isplitl [Hx0] <;> iassumption
  iintro ⟨Hx0, Hb0⟩
  iapply (wp_copyLane 𝒱 (thr d i) bd (M := A12) (D := A15) (s := 4) (b := 80) (k := 1536 + 80) off31_12 rfl
    (fun x _ => pick_shift (F := F) oT T4 (lo i + 1792 * t.val) (1536) 80 x) (fun v x => cast_flat v _ x)) $$ [Hx1 Hb1]
  · isplitl [Hx1] <;> iassumption
  iintro ⟨Hx1, Hb1⟩
  iapply (wp_copyLane 𝒱 (thr d i) bd (M := A13) (D := A16) (s := 4) (b := 80) (k := 1536 + 80) off31_12 rfl
    (fun x _ => pick_shift (F := F) oT T5 (lo i + 1792 * t.val) (1536) 80 x) (fun v x => cast_flat v _ x)) $$ [Hx2 Hb2]
  · isplitl [Hx2] <;> iassumption
  iintro ⟨Hx2, Hb2⟩
  iapply (wp_copyLane 𝒱 (thr d i) bd (M := A11) (D := A14) (s := 4) (b := 96) (k := 1536 + 96) off32_12 rfl
    (fun x _ => pick_shift (F := F) oT T3 (lo i + 1792 * t.val) (1536) 96 x) (fun v x => cast_flat v _ x)) $$ [Hx0 Hb0]
  · isplitl [Hx0] <;> iassumption
  iintro ⟨Hx0, Hb0⟩
  iapply (wp_copyLane 𝒱 (thr d i) bd (M := A12) (D := A15) (s := 4) (b := 96) (k := 1536 + 96) off32_12 rfl
    (fun x _ => pick_shift (F := F) oT T4 (lo i + 1792 * t.val) (1536) 96 x) (fun v x => cast_flat v _ x)) $$ [Hx1 Hb1]
  · isplitl [Hx1] <;> iassumption
  iintro ⟨Hx1, Hb1⟩
  iapply (wp_copyLane 𝒱 (thr d i) bd (M := A13) (D := A16) (s := 4) (b := 96) (k := 1536 + 96) off32_12 rfl
    (fun x _ => pick_shift (F := F) oT T5 (lo i + 1792 * t.val) (1536) 96 x) (fun v x => cast_flat v _ x)) $$ [Hx2 Hb2]
  · isplitl [Hx2] <;> iassumption
  iintro ⟨Hx2, Hb2⟩
  iapply (wp_copyLane 𝒱 (thr d i) bd (M := A11) (D := A14) (s := 4) (b := 112) (k := 1536 + 112) off33_12 rfl
    (fun x _ => pick_shift (F := F) oT T3 (lo i + 1792 * t.val) (1536) 112 x) (fun v x => cast_flat v _ x)) $$ [Hx0 Hb0]
  · isplitl [Hx0] <;> iassumption
  iintro ⟨Hx0, Hb0⟩
  iapply (wp_copyLane 𝒱 (thr d i) bd (M := A12) (D := A15) (s := 4) (b := 112) (k := 1536 + 112) off33_12 rfl
    (fun x _ => pick_shift (F := F) oT T4 (lo i + 1792 * t.val) (1536) 112 x) (fun v x => cast_flat v _ x)) $$ [Hx1 Hb1]
  · isplitl [Hx1] <;> iassumption
  iintro ⟨Hx1, Hb1⟩
  iapply (wp_copyLane 𝒱 (thr d i) bd (M := A13) (D := A16) (s := 4) (b := 112) (k := 1536 + 112) off33_12 rfl
    (fun x _ => pick_shift (F := F) oT T5 (lo i + 1792 * t.val) (1536) 112 x) (fun v x => cast_flat v _ x)) $$ [Hx2 Hb2]
  · isplitl [Hx2] <;> iassumption
  iintro ⟨Hx2, Hb2⟩
  ihave Ia : IDLE 4 $$ [Hx0 Hx1 Hx2 Ht0 Ht1 Ht2 Hi0 Hi1 Hi2 Hs0 Hs1 Hs2]
  · unfold Idle
    isplitl [Hi0 Hi1 Hi2]
    · unfold RowAny
      iexists g
      iapply (ixRow_join (F := F) d i A10 _ g).2
      iframe Hi0 Hi1 Hi2
    isplitl [Hx0]; · iapply (RowHas.forget _ _ _ _); iexact Hx0
    isplitl [Hx1]; · iapply (RowHas.forget _ _ _ _); iexact Hx1
    isplitl [Hx2]; · iapply (RowHas.forget _ _ _ _); iexact Hx2
    iframe Hs0 Hs1 Hs2 Ht0 Ht1 Ht2
  iapply (wp_waitRow EC 𝒱 (thr d i) bd (M := A11) (SA := A17) (s := 5) (s'' := 5) off24_13 off25_13 ι rfl) $$ [Hg0 HO]
  · iframe Hg0 HO Hmw
  iintro ⟨⟨Hx0, Ht0, Hi0⟩, Hs0, HO⟩
  iapply (wp_waitRow EC 𝒱 (thr d i) bd (M := A12) (SA := A18) (s := 5) (s'' := 5) off24_13 off25_13 ι rfl) $$ [Hg1 HO]
  · iframe Hg1 HO Hmw
  iintro ⟨⟨Hx1, Ht1, Hi1⟩, Hs1, HO⟩
  iapply (wp_waitRow EC 𝒱 (thr d i) bd (M := A13) (SA := A19) (s := 5) (s'' := 5) off24_13 off25_13 ι rfl) $$ [Hg2 HO]
  · iframe Hg2 HO Hmw
  iintro ⟨⟨Hx2, Ht2, Hi2⟩, Hs2, HO⟩
  iapply (wp_copyLane 𝒱 (thr d i) bd (M := A11) (D := A14) (s := 5) (b := 0) (k := 1664 + 0) off26_13 rfl
    (fun x _ => pick_shift (F := F) oT T3 (lo i + 1792 * t.val) (1664) 0 x) (fun v x => cast_flat v _ x)) $$ [Hx0 Hb0]
  · isplitl [Hx0] <;> iassumption
  iintro ⟨Hx0, Hb0⟩
  iapply (wp_copyLane 𝒱 (thr d i) bd (M := A12) (D := A15) (s := 5) (b := 0) (k := 1664 + 0) off26_13 rfl
    (fun x _ => pick_shift (F := F) oT T4 (lo i + 1792 * t.val) (1664) 0 x) (fun v x => cast_flat v _ x)) $$ [Hx1 Hb1]
  · isplitl [Hx1] <;> iassumption
  iintro ⟨Hx1, Hb1⟩
  iapply (wp_copyLane 𝒱 (thr d i) bd (M := A13) (D := A16) (s := 5) (b := 0) (k := 1664 + 0) off26_13 rfl
    (fun x _ => pick_shift (F := F) oT T5 (lo i + 1792 * t.val) (1664) 0 x) (fun v x => cast_flat v _ x)) $$ [Hx2 Hb2]
  · isplitl [Hx2] <;> iassumption
  iintro ⟨Hx2, Hb2⟩
  iapply (wp_copyLane 𝒱 (thr d i) bd (M := A11) (D := A14) (s := 5) (b := 16) (k := 1664 + 16) off27_13 rfl
    (fun x _ => pick_shift (F := F) oT T3 (lo i + 1792 * t.val) (1664) 16 x) (fun v x => cast_flat v _ x)) $$ [Hx0 Hb0]
  · isplitl [Hx0] <;> iassumption
  iintro ⟨Hx0, Hb0⟩
  iapply (wp_copyLane 𝒱 (thr d i) bd (M := A12) (D := A15) (s := 5) (b := 16) (k := 1664 + 16) off27_13 rfl
    (fun x _ => pick_shift (F := F) oT T4 (lo i + 1792 * t.val) (1664) 16 x) (fun v x => cast_flat v _ x)) $$ [Hx1 Hb1]
  · isplitl [Hx1] <;> iassumption
  iintro ⟨Hx1, Hb1⟩
  iapply (wp_copyLane 𝒱 (thr d i) bd (M := A13) (D := A16) (s := 5) (b := 16) (k := 1664 + 16) off27_13 rfl
    (fun x _ => pick_shift (F := F) oT T5 (lo i + 1792 * t.val) (1664) 16 x) (fun v x => cast_flat v _ x)) $$ [Hx2 Hb2]
  · isplitl [Hx2] <;> iassumption
  iintro ⟨Hx2, Hb2⟩
  iapply (wp_copyLane 𝒱 (thr d i) bd (M := A11) (D := A14) (s := 5) (b := 32) (k := 1664 + 32) off28_13 rfl
    (fun x _ => pick_shift (F := F) oT T3 (lo i + 1792 * t.val) (1664) 32 x) (fun v x => cast_flat v _ x)) $$ [Hx0 Hb0]
  · isplitl [Hx0] <;> iassumption
  iintro ⟨Hx0, Hb0⟩
  iapply (wp_copyLane 𝒱 (thr d i) bd (M := A12) (D := A15) (s := 5) (b := 32) (k := 1664 + 32) off28_13 rfl
    (fun x _ => pick_shift (F := F) oT T4 (lo i + 1792 * t.val) (1664) 32 x) (fun v x => cast_flat v _ x)) $$ [Hx1 Hb1]
  · isplitl [Hx1] <;> iassumption
  iintro ⟨Hx1, Hb1⟩
  iapply (wp_copyLane 𝒱 (thr d i) bd (M := A13) (D := A16) (s := 5) (b := 32) (k := 1664 + 32) off28_13 rfl
    (fun x _ => pick_shift (F := F) oT T5 (lo i + 1792 * t.val) (1664) 32 x) (fun v x => cast_flat v _ x)) $$ [Hx2 Hb2]
  · isplitl [Hx2] <;> iassumption
  iintro ⟨Hx2, Hb2⟩
  iapply (wp_copyLane 𝒱 (thr d i) bd (M := A11) (D := A14) (s := 5) (b := 48) (k := 1664 + 48) off29_13 rfl
    (fun x _ => pick_shift (F := F) oT T3 (lo i + 1792 * t.val) (1664) 48 x) (fun v x => cast_flat v _ x)) $$ [Hx0 Hb0]
  · isplitl [Hx0] <;> iassumption
  iintro ⟨Hx0, Hb0⟩
  iapply (wp_copyLane 𝒱 (thr d i) bd (M := A12) (D := A15) (s := 5) (b := 48) (k := 1664 + 48) off29_13 rfl
    (fun x _ => pick_shift (F := F) oT T4 (lo i + 1792 * t.val) (1664) 48 x) (fun v x => cast_flat v _ x)) $$ [Hx1 Hb1]
  · isplitl [Hx1] <;> iassumption
  iintro ⟨Hx1, Hb1⟩
  iapply (wp_copyLane 𝒱 (thr d i) bd (M := A13) (D := A16) (s := 5) (b := 48) (k := 1664 + 48) off29_13 rfl
    (fun x _ => pick_shift (F := F) oT T5 (lo i + 1792 * t.val) (1664) 48 x) (fun v x => cast_flat v _ x)) $$ [Hx2 Hb2]
  · isplitl [Hx2] <;> iassumption
  iintro ⟨Hx2, Hb2⟩
  iapply (wp_copyLane 𝒱 (thr d i) bd (M := A11) (D := A14) (s := 5) (b := 64) (k := 1664 + 64) off30_13 rfl
    (fun x _ => pick_shift (F := F) oT T3 (lo i + 1792 * t.val) (1664) 64 x) (fun v x => cast_flat v _ x)) $$ [Hx0 Hb0]
  · isplitl [Hx0] <;> iassumption
  iintro ⟨Hx0, Hb0⟩
  iapply (wp_copyLane 𝒱 (thr d i) bd (M := A12) (D := A15) (s := 5) (b := 64) (k := 1664 + 64) off30_13 rfl
    (fun x _ => pick_shift (F := F) oT T4 (lo i + 1792 * t.val) (1664) 64 x) (fun v x => cast_flat v _ x)) $$ [Hx1 Hb1]
  · isplitl [Hx1] <;> iassumption
  iintro ⟨Hx1, Hb1⟩
  iapply (wp_copyLane 𝒱 (thr d i) bd (M := A13) (D := A16) (s := 5) (b := 64) (k := 1664 + 64) off30_13 rfl
    (fun x _ => pick_shift (F := F) oT T5 (lo i + 1792 * t.val) (1664) 64 x) (fun v x => cast_flat v _ x)) $$ [Hx2 Hb2]
  · isplitl [Hx2] <;> iassumption
  iintro ⟨Hx2, Hb2⟩
  iapply (wp_copyLane 𝒱 (thr d i) bd (M := A11) (D := A14) (s := 5) (b := 80) (k := 1664 + 80) off31_13 rfl
    (fun x _ => pick_shift (F := F) oT T3 (lo i + 1792 * t.val) (1664) 80 x) (fun v x => cast_flat v _ x)) $$ [Hx0 Hb0]
  · isplitl [Hx0] <;> iassumption
  iintro ⟨Hx0, Hb0⟩
  iapply (wp_copyLane 𝒱 (thr d i) bd (M := A12) (D := A15) (s := 5) (b := 80) (k := 1664 + 80) off31_13 rfl
    (fun x _ => pick_shift (F := F) oT T4 (lo i + 1792 * t.val) (1664) 80 x) (fun v x => cast_flat v _ x)) $$ [Hx1 Hb1]
  · isplitl [Hx1] <;> iassumption
  iintro ⟨Hx1, Hb1⟩
  iapply (wp_copyLane 𝒱 (thr d i) bd (M := A13) (D := A16) (s := 5) (b := 80) (k := 1664 + 80) off31_13 rfl
    (fun x _ => pick_shift (F := F) oT T5 (lo i + 1792 * t.val) (1664) 80 x) (fun v x => cast_flat v _ x)) $$ [Hx2 Hb2]
  · isplitl [Hx2] <;> iassumption
  iintro ⟨Hx2, Hb2⟩
  iapply (wp_copyLane 𝒱 (thr d i) bd (M := A11) (D := A14) (s := 5) (b := 96) (k := 1664 + 96) off32_13 rfl
    (fun x _ => pick_shift (F := F) oT T3 (lo i + 1792 * t.val) (1664) 96 x) (fun v x => cast_flat v _ x)) $$ [Hx0 Hb0]
  · isplitl [Hx0] <;> iassumption
  iintro ⟨Hx0, Hb0⟩
  iapply (wp_copyLane 𝒱 (thr d i) bd (M := A12) (D := A15) (s := 5) (b := 96) (k := 1664 + 96) off32_13 rfl
    (fun x _ => pick_shift (F := F) oT T4 (lo i + 1792 * t.val) (1664) 96 x) (fun v x => cast_flat v _ x)) $$ [Hx1 Hb1]
  · isplitl [Hx1] <;> iassumption
  iintro ⟨Hx1, Hb1⟩
  iapply (wp_copyLane 𝒱 (thr d i) bd (M := A13) (D := A16) (s := 5) (b := 96) (k := 1664 + 96) off32_13 rfl
    (fun x _ => pick_shift (F := F) oT T5 (lo i + 1792 * t.val) (1664) 96 x) (fun v x => cast_flat v _ x)) $$ [Hx2 Hb2]
  · isplitl [Hx2] <;> iassumption
  iintro ⟨Hx2, Hb2⟩
  iapply (wp_copyLane 𝒱 (thr d i) bd (M := A11) (D := A14) (s := 5) (b := 112) (k := 1664 + 112) off33_13 rfl
    (fun x _ => pick_shift (F := F) oT T3 (lo i + 1792 * t.val) (1664) 112 x) (fun v x => cast_flat v _ x)) $$ [Hx0 Hb0]
  · isplitl [Hx0] <;> iassumption
  iintro ⟨Hx0, Hb0⟩
  iapply (wp_copyLane 𝒱 (thr d i) bd (M := A12) (D := A15) (s := 5) (b := 112) (k := 1664 + 112) off33_13 rfl
    (fun x _ => pick_shift (F := F) oT T4 (lo i + 1792 * t.val) (1664) 112 x) (fun v x => cast_flat v _ x)) $$ [Hx1 Hb1]
  · isplitl [Hx1] <;> iassumption
  iintro ⟨Hx1, Hb1⟩
  iapply (wp_copyLane 𝒱 (thr d i) bd (M := A13) (D := A16) (s := 5) (b := 112) (k := 1664 + 112) off33_13 rfl
    (fun x _ => pick_shift (F := F) oT T5 (lo i + 1792 * t.val) (1664) 112 x) (fun v x => cast_flat v _ x)) $$ [Hx2 Hb2]
  · isplitl [Hx2] <;> iassumption
  iintro ⟨Hx2, Hb2⟩
  ihave Ib : IDLE 5 $$ [Hx0 Hx1 Hx2 Ht0 Ht1 Ht2 Hi0 Hi1 Hi2 Hs0 Hs1 Hs2]
  · unfold Idle
    isplitl [Hi0 Hi1 Hi2]
    · unfold RowAny
      iexists g'
      iapply (ixRow_join (F := F) d i A10 _ g').2
      iframe Hi0 Hi1 Hi2
    isplitl [Hx0]; · iapply (RowHas.forget _ _ _ _); iexact Hx0
    isplitl [Hx1]; · iapply (RowHas.forget _ _ _ _); iexact Hx1
    isplitl [Hx2]; · iapply (RowHas.forget _ _ _ _); iexact Hx2
    iframe Hs0 Hs1 Hs2 Ht0 Ht1 Ht2
  ihave HS := HS $$ [Ia Ib]
  · isplitl [Ia] <;> iassumption
  iapply (wp_copyOut EC 𝒱 (thr d i) bd (D := A14) (A := A6) (k := lo i + 1792 * t.val) (lo := lo i) (off1 i t) rfl (by decide) (hS6 t) ι
    (T := pick (F := F) oT T3 0) (G := pick (F := F) oT T3 (lo i + 1792 * t.val)) (fun j _ => by simp only [pick, Nat.zero_add])) $$ [Hb0 H6 Hr1 HO]
  · iframe Hb0 H6 Hr1 HO Hmw
  iintro ⟨Hb0, H6, Hr1, HO⟩
  iapply (wp_copyOut EC 𝒱 (thr d i) bd (D := A15) (A := A7) (k := lo i + 1792 * t.val) (lo := lo i) (off1 i t) rfl (by decide) (hS7 t) ι
    (T := pick (F := F) oT T4 0) (G := pick (F := F) oT T4 (lo i + 1792 * t.val)) (fun j _ => by simp only [pick, Nat.zero_add])) $$ [Hb1 H7 Hr2 HO]
  · iframe Hb1 H7 Hr2 HO Hmw
  iintro ⟨Hb1, H7, Hr2, HO⟩
  iapply (wp_copyOut EC 𝒱 (thr d i) bd (D := A16) (A := A8) (k := lo i + 1792 * t.val) (lo := lo i) (off1 i t) rfl (by decide) (hS8 t) ι
    (T := pick (F := F) oT T5 0) (G := pick (F := F) oT T5 (lo i + 1792 * t.val)) (fun j _ => by simp only [pick, Nat.zero_add])) $$ [Hb2 H8 Hr3 HO]
  · iframe Hb2 H8 Hr3 HO Hmw
  iintro ⟨Hb2, H8, Hr3, HO⟩
  have e : lo i + 1792 * t.val + 1792 = lo i + 1792 * (t.val + 1) := by omega
  rw [e]
  iapply le_wp_ret
  iapply Hk
  isplitr [HO]
  · isplitl [HS]; · iexact HS
    isplitl [Hb0 Hb1 Hb2]
    · isplitl [Hb0]; · iapply (Filled.any (thr d i) A14 _ _ _) $$ Hb0
      isplitl [Hb1]; · iapply (Filled.any (thr d i) A15 _ _ _) $$ Hb1
      iapply (Filled.any (thr d i) A16 _ _ _) $$ Hb2
    isplitl [H9]; · iapply (Filled.any (thr d i) A9 _ _ _) $$ H9
    iframe H6 H7 H8 Hr0 Hr1 Hr2 Hr3 H2
  iexact HO

/-- The tile program. -/
theorem tile_run [EC.LandsIn (upEmb : UEmb _ 𝕄)] (hin : ∀ j, (oT j).toNat < 802816)
    (hS6 : ∀ t, (A6.view.slice (Rect.unit (s := S802816) (k0_off1 i t) S1792.size (k0_off1_inb i t))).set ⊆ S6)
    (hS7 : ∀ t, (A7.view.slice (Rect.unit (s := S802816) (k0_off1 i t) S1792.size (k0_off1_inb i t))).set ⊆ S7)
    (hS8 : ∀ t, (A8.view.slice (Rect.unit (s := S802816) (k0_off1 i t) S1792.size (k0_off1_inb i t))).set ⊆ S8)
    {Q : PUnit → sProp 𝕄} :
    iprop(BETW 0 ∗ OWING ∗ MAYW)
      ⊢ iprop((BETW 25088 ∗ OWING -∗ Q ⟨⟩)
        -∗ wp frame (wpE defs 𝒱 (thr d i) bd) Set.univ (cc0__pass_cd1 i A2 h2 A3 h3 A4 h4 A5 h5 A6 h6 A7 h7 A8 h8 A9 h9 A10 h10 A11 h11 A12 h12 A13 h13 A14 h14 A15 h15 A16 h16 A17 A18 A19 r0 r1 r2 r3) Q) := by
  rw [cc0__pass_cd1_eq_skeleton]
  unfold cc0__pass_cd1_skel
  iintro ⟨HB, HO, #Hmw⟩ Hk
  iapply (Scf.wp_for_bind frame (wpE defs 𝒱 (thr d i) bd) Set.univ k0_t1_loop.lb k0_t1_loop.ub k0_t1_loop.st k0_t1_ok 0#32
    (k0_t1_body i A2 h2 A3 h3 A4 h4 A5 h5 A6 h6 A7 h7 A8 h8 A9 h9 A10 h10 A11 h11 A12 h12 A13 h13 A14 h14 A15 h15 A16 h16 A17 A18 A19 r0 r1 r2 r3 _)
    (fun n _ => iprop(MAYW ∗ BETW (1792 * n) ∗ OWING))
    (fun t acc => by
      iintro ⟨#Hmw, HB, HO⟩
      iapply (period_step EC 𝒱 d i bd A2 A3 A4 A5 A6 A7 A8 A9 A10 A11 A12 A13 A14 A15 A16 A17 A18 A19 h2 h3 h4 h5 h6 h7 h8 h9 h10 h11 h12 h13 h14 h15 h16 r0 r1 r2 r3 ι O W q f3 f4 f5 oT T3 T4 T5 q2 f2 S6 S7 S8 hin hS6 hS7 hS8 _ t acc) $$ [HB HO]
      · iframe HB HO Hmw
      iintro %v ⟨HB, HO⟩
      isplitr; · iexact Hmw
      iframe HB HO)) $$ [HB HO]
  · isplitr; · iexact Hmw
    iframe HB HO
  iintro %v H
  icases H with ⟨-, HB, HO⟩
  iapply le_wp_ret
  iapply Hk
  iframe HB HO

end Cert.Proof.CdOne
-- ==== Proof.Deal.lean ====
/-
  How resources are dealt: a family's parts named one by one, a buffer by the parts a function cuts it into, a buffer of
  rows row by row, a thread's counters as a family, a table's share among the slots.
-/
module

public import proofs.«01_k».proof.Proof.Steps
public import Idealize.ShloMosaic.Lib.ShareLeaves
public import Idealize.ShloMosaic.Lib.SparseCore.Quiescent

@[expose] public section

noncomputable section

namespace Cert.Proof.Rows

open Idealize.ShloMosaic Idealize.ShloMosaic.ShareLeaves
open Idealize.SL Idealize.SL.RA Idealize.SL.BI
open scoped Idealize.SL.BI
open Idealize.SL.BI.BIBase Idealize.SL.BI.Laws Idealize.SL.ProofMode Idealize.SL.Sem

/-- A flat buffer's element `k`, the default past its end. -/
def ofFlat {α : Type} {n : ℕ} (z : α) (f : (Sh1 n).Idx → α) (k : ℕ) : α :=
  if h : k < n then f (fun a => match a with | ⟨0, _⟩ => ⟨k, h⟩) else z

theorem ofFlat_idx {α : Type} {n : ℕ} (z : α) (f : (Sh1 n).Idx → α) (j : (Sh1 n).Idx) : ofFlat z f (j 0).val = f j := by
  unfold ofFlat
  have h : (j 0).val < n := (j 0).isLt
  rw [dif_pos h]
  congr 1
  funext a
  match a with
  | ⟨0, _⟩ => rfl

variable {nD : Nat} {τ : Topo} {sig : RefSig} {Ix : Type} [DecidableEq Ix]
variable {F : FTy → Type} {Name : Type} [DecidableEq Name]
variable {U : Type} [URA U] {Lvl : Type} [Preorder Lvl]

local notation "𝕄" => MT nD τ sig Ix (Elt F) Name U Lvl

/-- A whole buffer's view is all of it. -/
theorem whole_set {sig : RefSig} {κ : Kind} (b : Ref sig κ) : (Memref.whole b : Memref sig κ _ _ _).view.set = Finset.univ :=
  View.set_whole b

/-- The named parts of a family, then the rest. -/
def sepL {I : Type} (Φ : I → sProp 𝕄) : List I → sProp 𝕄 → sProp 𝕄
  | [], R => R
  | i :: l, R => iprop(Φ i ∗ sepL Φ l R)

theorem bigSep_list {I : Type} [DecidableEq I] (Φ : I → sProp 𝕄) : ∀ (l : List I) (S : Finset I), l.Nodup → (∀ i ∈ l, i ∈ S) →
    bigSep S Φ = sepL Φ l (bigSep (S \ l.toFinset) Φ)
  | [], S, _, _ => by simp [sepL]
  | i :: l, S, hn, hS => by
    obtain ⟨hi, hl⟩ := List.nodup_cons.mp hn
    rw [sepL, SparseCore.bigSep_erase' (hS i (by simp)),
      bigSep_list Φ l (S.erase i) hl (fun k hk => Finset.mem_erase.mpr ⟨fun h => hi (h ▸ hk), hS k (by simp [hk])⟩)]
    congr 3
    ext x
    simp only [Finset.mem_sdiff, Finset.mem_erase, List.mem_toFinset, List.mem_cons]
    tauto

/-- A family's members that an injective naming reaches, then the rest. -/
theorem bigSep_named {I J : Type} [DecidableEq I] [DecidableEq J] [Fintype J] (Φ : I → sProp 𝕄) (S : Finset I) (φ : J → I)
    (hφ : Function.Injective φ) (hS : ∀ j, φ j ∈ S) :
    bigSep S Φ = iprop(bigSep Finset.univ (fun j => Φ (φ j)) ∗ bigSep (S \ Finset.univ.image φ) Φ) := by
  rw [SparseCore.bigSep_sdiff_split' (s := S) (t := Finset.univ.image φ) (fun x hx => by
      obtain ⟨j, -, rfl⟩ := Finset.mem_image.mp hx
      exact hS j), SparseCore.bigSep_image_of_injOn hφ.injOn]

/-- A buffer cut by the value of a function. -/
theorem pts_fibers {ℓ : Loc nD τ sig} (S : Finset (Idx ℓ)) {n : ℕ} (g : Idx ℓ → Fin n) (q : PosShare TreeShare) (f : Buf (Elt F) ℓ) :
    (ℓ ↦[S]{q} f : sProp 𝕄) = bigSep Finset.univ fun k : Fin n => ℓ ↦[S.filter fun i => g i = k]{q} f := by
  rw [← pointsTo_biUnion Finset.univ (ℓ := ℓ) (fun k => S.filter fun i => g i = k) (fun a _ b _ hab => by
    rw [Finset.disjoint_left]
    intro x hx hy
    exact hab ((Finset.mem_filter.mp hx).2.symm.trans (Finset.mem_filter.mp hy).2))]
  congr 1
  ext x
  simp

variable (c : Thread nD τ)

theorem whole_pts (b : Ref sig c.2.kind) (q : PosShare TreeShare) (f : Buf (Elt F) (c.loc b)) :
    ((Memref.whole b).view.loc c ↦[(Memref.whole b).view.set]{q} f : sProp 𝕄) = c.loc b ↦{q} f := by
  rw [whole_set]

theorem whole_some (b : Ref sig c.2.kind) :
    (iprop(∃ f : Buf (Elt F) ((Memref.whole b).view.loc c), (Memref.whole b).view.loc c ↦[(Memref.whole b).view.set]{fullShare} f) : sProp 𝕄)
      = iprop(∃ f : Buf (Elt F) (c.loc b), c.loc b ↦{fullShare} f) := by
  rw [whole_set]

/-- The rows of a buffer are apart. -/
theorem rows_disjoint {κ : Kind} {sp : Space} {e : EltTy} {R : ℕ} (M : Memref sig κ sp (Sh2 R 128) e) :
    ∀ a ∈ (Finset.univ : Finset (Fin R)), ∀ b ∈ (Finset.univ : Finset (Fin R)), a ≠ b → Disjoint (rowM M a).view.set (rowM M b).view.set := by
  intro a _ b _ hab
  rw [Finset.disjoint_left]
  intro x hx hy
  obtain ⟨i, -, rfl⟩ := Finset.mem_map.mp hx
  obtain ⟨j, -, h⟩ := Finset.mem_map.mp hy
  rw [rowM_emb, rowM_emb] at h
  have := congrFun (M.view.emb.injective h) 0
  exact hab this.symm

/-- The rows of a buffer are all of it. -/
theorem rows_cover {κ : Kind} {sp : Space} {e : EltTy} {R : ℕ} (M : Memref sig κ sp (Sh2 R 128) e) :
    (Finset.univ : Finset (Fin R)).biUnion (fun s => (rowM M s).view.set) = M.view.set := by
  ext x
  simp only [Finset.mem_biUnion, Finset.mem_univ, true_and]
  constructor
  · rintro ⟨s, hx⟩
    obtain ⟨i, -, rfl⟩ := Finset.mem_map.mp hx
    rw [rowM_emb]
    exact Finset.mem_map.mpr ⟨_, Finset.mem_univ _, rfl⟩
  · intro hx
    obtain ⟨i, -, rfl⟩ := Finset.mem_map.mp hx
    refine ⟨i 0, Finset.mem_map.mpr ⟨fun a => match a with | ⟨0, _⟩ => i 1, Finset.mem_univ _, ?_⟩⟩
    refine (rowM_emb M (i 0) _).trans ?_
    congr 1
    funext a
    match a with
    | ⟨0, _⟩ => rfl
    | ⟨1, _⟩ => rfl

/-- A buffer of rows, whatever it holds, is its rows. -/
theorem rows_any {e : EltTy} {R : ℕ} (M : Memref sig c.2.kind .vmem (Sh2 R 128) e) :
    (iprop(∃ f : Buf (Elt F) (M.view.loc c), M.view.loc c ↦[M.view.set]{fullShare} f) : sProp 𝕄)
      ⊢ bigSep Finset.univ fun s => RowAny c M s := by
  iintro ⟨%f, H⟩
  ihave H := (Entails.of_eq (show (M.view.loc c ↦[M.view.set]{fullShare} f : sProp 𝕄) = bigSep Finset.univ fun s => iprop(M.view.loc c ↦[(rowM M s).view.set]{fullShare} f) by
    rw [← rows_cover M, pointsTo_biUnion Finset.univ (ℓ := M.view.loc c) (fun s => (rowM M s).view.set) (rows_disjoint M)])) $$ H
  have h : ∀ s ∈ (Finset.univ : Finset (Fin R)), (iprop(M.view.loc c ↦[(rowM M s).view.set]{fullShare} f) : sProp 𝕄) ⊢ RowAny c M s := by
    intro s _
    unfold RowAny
    iintro H
    iexists f
    iexact H
  iapply (show (bigSep Finset.univ (fun s => iprop(M.view.loc c ↦[(rowM M s).view.set]{fullShare} f)) : sProp 𝕄) ⊢ bigSep Finset.univ (fun s => RowAny c M s) from bigSep_mono h) $$ H

theorem any_rows {e : EltTy} {R : ℕ} (M : Memref sig c.2.kind .vmem (Sh2 R 128) e) (hR : 0 < R) :
    (bigSep Finset.univ fun s => RowAny c M s)
      ⊢ (iprop(∃ f : Buf (Elt F) (M.view.loc c), M.view.loc c ↦[M.view.set]{fullShare} f) : sProp 𝕄) := by
  rw [SparseCore.bigSep_erase' (Finset.mem_univ (⟨0, hR⟩ : Fin R))]
  iintro H
  icases H with ⟨H0, H⟩
  unfold RowAny
  icases H0 with ⟨%f, H0⟩
  have hne : Nonempty (Buf (Elt F) (M.view.loc c)) := ⟨f⟩
  ihave H := (Idealize.SL.BI.bigSep_exists_pi (Finset.univ.erase (⟨0, hR⟩ : Fin R)) (fun s (f : Buf (Elt F) (M.view.loc c)) =>
    (iprop(M.view.loc c ↦[(rowM M s).view.set]{fullShare} f) : sProp 𝕄))) $$ H
  icases H with ⟨%fs, H⟩
  have hc : bigSep (Finset.univ.erase (⟨0, hR⟩ : Fin R)) (fun s => (iprop(M.view.loc c ↦[(rowM M s).view.set]{fullShare} fs s) : sProp 𝕄))
      = bigSep (Finset.univ.erase (⟨0, hR⟩ : Fin R)) fun s => iprop(M.view.loc c ↦[(rowM M s).view.set]{fullShare} Function.update fs ⟨0, hR⟩ f s) :=
    bigSep_congr fun s hs => by rw [Function.update_of_ne (Finset.ne_of_mem_erase hs)]
  ihave HH : bigSep Finset.univ (fun s => (iprop(M.view.loc c ↦[(rowM M s).view.set]{fullShare} Function.update fs ⟨0, hR⟩ f s) : sProp 𝕄)) $$ [H0 H]
  · rw [SparseCore.bigSep_erase' (Finset.mem_univ (⟨0, hR⟩ : Fin R)), Function.update_self, ← hc]
    isplitl [H0]
    · iexact H0
    · iexact H
  ihave H := (pointsTo_biUnion_join (ℓ := M.view.loc c) (q := fullShare) (Val := Elt F) Finset.univ (fun s => (rowM M s).view.set)
    (Function.update fs ⟨0, hR⟩ f) f (rows_disjoint M)) $$ HH
  icases H with ⟨%g, -, Hg⟩
  rw [rows_cover]
  iexists g
  iexact Hg

/-- A table's share is the slots' shares. -/
theorem table_leaves {sp : Space} {e : EltTy} {n : ℕ} (D : Memref sig c.2.kind sp (Sh1 n) e) (k : ℕ) (q : PosShare TreeShare)
    (f : Buf (Elt F) (D.view.loc c)) (T : ℕ → Elt F e) (hT : ∀ x, D.view.read (Elt F) f x = T (x 0).val) :
    (iprop(D.view.loc c ↦[D.view.set]{q} f) : sProp 𝕄) ⊢ bigSep Finset.univ fun i : Fin (2 ^ k) => Table c D (leaf k q i) f T := by
  rw [pointsTo_leaves D.view.set f k q]
  have h : ∀ i ∈ (Finset.univ : Finset (Fin (2 ^ k))), (iprop(D.view.loc c ↦[D.view.set]{leaf k q i} f) : sProp 𝕄) ⊢ Table c D (leaf k q i) f T := by
    intro i _
    unfold Table
    iintro H
    isplitr
    · ipureintro; exact hT
    · iexact H
  exact bigSep_mono h

theorem leaves_table {sp : Space} {e : EltTy} {n : ℕ} (D : Memref sig c.2.kind sp (Sh1 n) e) (k : ℕ) (q : PosShare TreeShare)
    (f : Buf (Elt F) (D.view.loc c)) (T : ℕ → Elt F e) :
    (bigSep Finset.univ fun i : Fin (2 ^ k) => Table c D (leaf k q i) f T) ⊢ (iprop(D.view.loc c ↦[D.view.set]{q} f) : sProp 𝕄) := by
  rw [pointsTo_leaves D.view.set f k q]
  have h : ∀ i ∈ (Finset.univ : Finset (Fin (2 ^ k))), Table c D (leaf k q i) f T ⊢ (iprop(D.view.loc c ↦[D.view.set]{leaf k q i} f) : sProp 𝕄) := by
    intro i _
    unfold Table
    iintro ⟨-, H⟩
    iexact H
  exact bigSep_mono h

end Cert.Proof.Rows
-- ==== Proof.CdOneCall.lean ====
/-
  The edge gather as a task: from the operands' shares, the task's parts of the results and a subcore's own buffers and
  counters, to the results' parts at the gathered values and the rest back.
-/
module

public import proofs.«01_k».proof.Proof.CdOneRun
public import proofs.«01_k».proof.Proof.Deal

@[expose] public section

noncomputable section

namespace Cert.Proof.CdOne

open Cert.KernelIdeal Cert.KernelIdeal.Gen
open Idealize.ShloMosaic Idealize.ShloMosaic.ShareLeaves
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (L : grid0.Coords) (bd : Option 𝒱.V)

local notation "𝕄" => MT nD τ sig Ix (Elt F) Name U Lvl

/-- A flat buffer's part that task `(c, s)` computes. -/
def tileSet (c s : ℕ) : Finset S802816.Idx := Finset.univ.filter fun j => (j 0).val / 25088 = 16 * c + s

/-- A flat buffer's part that SparseCore `c` computes. -/
def coreSet (c : ℕ) : Finset S802816.Idx := Finset.univ.filter fun j => (j 0).val / 401408 = c

/-- A flat buffer by position. -/
abbrev flat (f : S802816.Idx → BitVec 32) : ℕ → BitVec 32 := ofFlat (n := 802816) (0 : BitVec 32) f

/-- The value: a table taken at the order. -/
def taken (f2 f3 : S802816.Idx → BitVec 32) : S802816.Idx → BitVec 32 := fun j => flat f3 (f2 j).toNat

omit [FloatOps F] in
theorem taken_pick (f2 f3 : S802816.Idx → BitVec 32) (j : S802816.Idx) : taken f2 f3 j = pick (F := F) (flat f2) (flat f3) 0 (j 0).val := by
  show flat f3 (f2 j).toNat = flat f3 (flat f2 (0 + (j 0).val)).toNat
  rw [Nat.zero_add]
  exact congrArg (fun v : BitVec 32 => flat f3 v.toNat) (ofFlat_idx (0 : BitVec 32) f2 j).symm

variable (q : PosShare TreeShare)

variable (f2 f3 f4 f5 : S802816.Idx → BitVec 32)

/-- The operands, a share of each. -/
def Ops : sProp 𝕄 :=
  iprop(((thr d L).loc main_arg0_scv ↦{q} (f2 : Buf (Elt F) ((thr d L).loc main_arg0_scv))) ∗ ((thr d L).loc main_v1_scv ↦{q} (f3 : Buf (Elt F) ((thr d L).loc main_v1_scv)))
    ∗ ((thr d L).loc main_v3_scv ↦{q} (f4 : Buf (Elt F) ((thr d L).loc main_v3_scv))) ∗ ((thr d L).loc main_v5_scv ↦{q} (f5 : Buf (Elt F) ((thr d L).loc main_v5_scv))))

/-- The task's parts of the results, whatever they hold. -/
def ResAny : sProp 𝕄 :=
  iprop((∃ f : Buf (Elt F) ((thr d L).loc main_v6_0_scv), (thr d L).loc main_v6_0_scv ↦[tileSet (L 0).val (L 1).val]{fullShare} f)
    ∗ (∃ f : Buf (Elt F) ((thr d L).loc main_v6_1_scv), (thr d L).loc main_v6_1_scv ↦[tileSet (L 0).val (L 1).val]{fullShare} f)
    ∗ (∃ f : Buf (Elt F) ((thr d L).loc main_v6_2_scv), (thr d L).loc main_v6_2_scv ↦[tileSet (L 0).val (L 1).val]{fullShare} f))

/-- The task's parts of the results at the gathered values. -/
def ResAt : sProp 𝕄 :=
  iprop(((thr d L).loc main_v6_0_scv ↦[tileSet (L 0).val (L 1).val]{fullShare} (taken f2 f3 : Buf (Elt F) ((thr d L).loc main_v6_0_scv)))
    ∗ ((thr d L).loc main_v6_1_scv ↦[tileSet (L 0).val (L 1).val]{fullShare} (taken f2 f4 : Buf (Elt F) ((thr d L).loc main_v6_1_scv)))
    ∗ ((thr d L).loc main_v6_2_scv ↦[tileSet (L 0).val (L 1).val]{fullShare} (taken f2 f5 : Buf (Elt F) ((thr d L).loc main_v6_2_scv))))

/-- The subcore's buffers the task names. -/
def names : List (Ref sig .scVector) := [cc0_scratch0, cc0_scratch1, cc0_scratch2, cc0_scratch3, cc0_scratch4, cc0_scratch5, cc0_scratch6, cc0_scratch7]

theorem names_nodup : names.Nodup := by decide

/-- The subcore's counters the task names. -/
def cellOf : Fin 8 ⊕ Fin 8 ⊕ Fin 8 ⊕ Fin 4 → DmaSem sig :=
  Sum.elim (fun s => semAt cc0_scratch8 s) (Sum.elim (fun s => semAt cc0_scratch9 s) (Sum.elim (fun s => semAt cc0_scratch10 s) ![cc0_scoped0.sem, cc0_scoped1.sem, cc0_scoped2.sem, cc0_scoped3.sem]))

theorem cellOf_injective : Function.Injective cellOf := by decide +kernel

theorem cellOf_scoped : ∀ x, (SemLoc.dma (cellOf x) : SemLoc sig).isScoped .scVector = true := by decide +kernel

omit [FloatOps F] [Infinite Name] in
/-- A subcore's own counters at zero: those the task names, and the rest. -/
theorem own_sems : (ownSems0 (thr d L) : sProp 𝕄)
    = iprop((bigSep Finset.univ (fun s : Fin 8 => semVal (thr d L, SemLoc.dma (semAt cc0_scratch8 s)) 0)
        ∗ bigSep Finset.univ (fun s : Fin 8 => semVal (thr d L, SemLoc.dma (semAt cc0_scratch9 s)) 0)
        ∗ bigSep Finset.univ (fun s : Fin 8 => semVal (thr d L, SemLoc.dma (semAt cc0_scratch10 s)) 0)
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0)
      ∗ bigSep (ownCells (thr d L) \ Finset.univ.image fun x => (thr d L, SemLoc.dma (cellOf x))) fun g => semVal g 0) := by
  unfold SparseCore.Cfg.ownSems0
  rw [bigSep_named (fun g => (semVal g 0 : sProp 𝕄)) (ownCells (thr d L)) (fun x => (thr d L, SemLoc.dma (cellOf x)))
    (fun a b h => cellOf_injective (SemLoc.dma.inj (Prod.mk.inj h).2))
    (fun x => mem_ownCells.mpr ⟨rfl, cellOf_scoped x⟩), bigSep_univ_sum, bigSep_univ_sum, bigSep_univ_sum,
    show (Finset.univ : Finset (Fin 4)) = {0, 1, 2, 3} by decide, SparseCore.bigSep_insert' (by decide), SparseCore.bigSep_insert' (by decide),
    SparseCore.bigSep_insert' (by decide), bigSep_singleton]
  rfl

omit [FloatOps F] [Infinite Name] in
/-- A subcore's own buffers: those the task names, and the rest. -/
theorem own_bufs : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f)
      ∗ (∃ f, (thr d L).loc cc0_scratch3 ↦{fullShare} f) ∗ (∃ f, (thr d L).loc cc0_scratch4 ↦{fullShare} f) ∗ (∃ f, (thr d L).loc cc0_scratch5 ↦{fullShare} f)
      ∗ (∃ f, (thr d L).loc cc0_scratch6 ↦{fullShare} f) ∗ (∃ f, (thr d L).loc cc0_scratch7 ↦{fullShare} f)
      ∗ bigSep (ownRefs (τ := τ) (thr d L).2 \ (names.map (thr d L).2.devRef).toFinset)
          fun b => iprop(∃ f, ((d, b) : Loc nD τ sig) ↦{fullShare} f)) := by
  unfold SparseCore.Cfg.ownBufs
  rw [bigSep_list _ (names.map (thr d L).2.devRef) _ (List.Nodup.map (Proc.devRef_injective _) names_nodup) (fun b hb => by
    obtain ⟨r, hr, rfl⟩ := List.mem_map.mp hb
    refine SparseCore.Cfg.mem_ownRefs_of_owner (p := (thr d L).2) ?_
    simp only [names, List.mem_cons, List.not_mem_nil, _root_.or_false] at hr
    rcases hr with rfl | rfl | rfl | rfl | rfl | rfl | rfl | rfl <;> rfl)]
  rfl

theorem slice_sub0 (t : Fin k0_t1_loop.trips) :
    ((Memref.whole main_v6_0_scv).view.slice (Rect.unit (s := S802816) (k0_off1 L t) S1792.size (k0_off1_inb L t))).set ⊆ tileSet (L 0).val (L 1).val := by
  intro x hx
  obtain ⟨y, -, rfl⟩ := Finset.mem_map.mp hx
  refine Finset.mem_filter.mpr ⟨Finset.mem_univ _, ?_⟩
  show ((Rect.unit (s := S802816) (k0_off1 L t) S1792.size (k0_off1_inb L t)).emb y 0).val / 25088 = _
  rw [Rect.emb_apply]
  have e : (k0_off1 L t) 0 = 401408 * (L 0).val + 25088 * (L 1).val + 1792 * t.val := by rw [off1]; rfl
  have hy : (y 0).val < 1792 := (y 0).isLt
  have ht : t.val < 14 := lt_of_lt_of_eq t.isLt trips1
  show ((k0_off1 L t) 0 + 1 * (y 0).val) / 25088 = _
  rw [e]
  omega

omit [FloatOps F] [Infinite Name] in
theorem some_flat (M : Memref sig .scVector .vmem S1792 .i32) (G : ℕ → Elt F .i32) :
    (iprop(∃ f : Buf (Elt F) (M.view.loc (thr d L)), M.view.loc (thr d L) ↦[M.view.set]{fullShare} f) : sProp 𝕄) ⊢ Filled (thr d L) M G 0 := by
  unfold Filled
  iintro ⟨%f, H⟩
  iexists f
  isplitr
  · ipureintro; exact Done.zero
  · iexact H

omit [FloatOps F] [Infinite Name] in
theorem flat_some (M : Memref sig .scVector .vmem S1792 .i32) (G : ℕ → Elt F .i32) :
    (Filled (thr d L) M G 0 : sProp 𝕄) ⊢ iprop(∃ f : Buf (Elt F) (M.view.loc (thr d L)), M.view.loc (thr d L) ↦[M.view.set]{fullShare} f) := by
  unfold Filled
  iintro ⟨%f, -, H⟩
  iexists f
  iexact H

omit [FloatOps F] [Infinite Name] in
/-- Nothing of a result done. -/
theorem span_any (D : Memref sig .scVector .hbm S802816 .i32) (S : Finset (Idx (D.view.loc (thr d L)))) (G : ℕ → Elt F .i32) (lo : ℕ) :
    (iprop(∃ f : Buf (Elt F) (D.view.loc (thr d L)), D.view.loc (thr d L) ↦[S]{fullShare} f) : sProp 𝕄) ⊢ Spanned (thr d L) D S G lo (lo + 0) := by
  unfold Spanned
  iintro ⟨%f, H⟩
  iexists f
  isplitr
  · ipureintro; exact fun j h1 h2 => absurd h2 (by omega)
  · iexact H

omit [FloatOps F] [Infinite Name] in
/-- The task's part of a result done. -/
theorem span_done0 (g : S802816.Idx → BitVec 32) (G : ℕ → Elt F .i32) (hG : ∀ j : S802816.Idx, g j = G (j 0).val) :
    (Spanned (thr d L) (Memref.whole main_v6_0_scv) (tileSet (L 0).val (L 1).val) G (lo L) (lo L + 25088) : sProp 𝕄)
      ⊢ iprop((thr d L).loc main_v6_0_scv ↦[tileSet (L 0).val (L 1).val]{fullShare} (g : Buf (Elt F) ((thr d L).loc main_v6_0_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

omit [FloatOps F] [Infinite Name] in
/-- The task's part of a result done. -/
theorem span_done1 (g : S802816.Idx → BitVec 32) (G : ℕ → Elt F .i32) (hG : ∀ j : S802816.Idx, g j = G (j 0).val) :
    (Spanned (thr d L) (Memref.whole main_v6_1_scv) (tileSet (L 0).val (L 1).val) G (lo L) (lo L + 25088) : sProp 𝕄)
      ⊢ iprop((thr d L).loc main_v6_1_scv ↦[tileSet (L 0).val (L 1).val]{fullShare} (g : Buf (Elt F) ((thr d L).loc main_v6_1_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

omit [FloatOps F] [Infinite Name] in
/-- The task's part of a result done. -/
theorem span_done2 (g : S802816.Idx → BitVec 32) (G : ℕ → Elt F .i32) (hG : ∀ j : S802816.Idx, g j = G (j 0).val) :
    (Spanned (thr d L) (Memref.whole main_v6_2_scv) (tileSet (L 0).val (L 1).val) G (lo L) (lo L + 25088) : sProp 𝕄)
      ⊢ iprop((thr d L).loc main_v6_2_scv ↦[tileSet (L 0).val (L 1).val]{fullShare} (g : Buf (Elt F) ((thr d L).loc main_v6_2_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

variable (ι : Ix) (O : CellTallies nD τ sig Ix) (W : Waits sig Ix)

/-- The counters the task names, at zero. -/
abbrev Sems0 : sProp 𝕄 :=
  iprop(bigSep Finset.univ (fun s : Fin 8 => semVal (thr d L, SemLoc.dma (semAt cc0_scratch8 s)) 0)
        ∗ bigSep Finset.univ (fun s : Fin 8 => semVal (thr d L, SemLoc.dma (semAt cc0_scratch9 s)) 0)
        ∗ bigSep Finset.univ (fun s : Fin 8 => semVal (thr d L, SemLoc.dma (semAt cc0_scratch10 s)) 0)
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0)

/-- The buffers the task names, whatever they hold. -/
abbrev BufsAny : sProp 𝕄 :=
  iprop((∃ f, (thr d L).loc cc0_scratch0 ↦{fullShare} f) ∗ (∃ f, (thr d L).loc cc0_scratch1 ↦{fullShare} f) ∗ (∃ f, (thr d L).loc cc0_scratch2 ↦{fullShare} f)
      ∗ (∃ f, (thr d L).loc cc0_scratch3 ↦{fullShare} f) ∗ (∃ f, (thr d L).loc cc0_scratch4 ↦{fullShare} f) ∗ (∃ f, (thr d L).loc cc0_scratch5 ↦{fullShare} f)
      ∗ (∃ f, (thr d L).loc cc0_scratch6 ↦{fullShare} f) ∗ (∃ f, (thr d L).loc cc0_scratch7 ↦{fullShare} f))

set_option maxHeartbeats 1000000 in
set_option maxRecDepth 65536 in
/-- What the task is handed is what it holds before its first period. -/
theorem task_in : iprop((Ops (F := F) d L q f2 f3 f4 f5 ∗ ResAny (F := F) d L) ∗ BufsAny (F := F) d L ∗ Sems0 (F := F) d L) ⊢ ((Between (F := F) (Ix := Ix) (Name := Name) (U := U) (Lvl := Lvl) d L (Memref.whole main_arg0_scv) (Memref.whole main_v1_scv) (Memref.whole main_v3_scv) (Memref.whole main_v5_scv) (Memref.whole main_v6_0_scv) (Memref.whole main_v6_1_scv) (Memref.whole main_v6_2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scoped0 cc0_scoped1 cc0_scoped2 cc0_scoped3 (leaf 3 q) f3 f4 f5 (flat f2) (flat f3) (flat f4) (flat f5) q f2
    (tileSet (L 0).val (L 1).val) (tileSet (L 0).val (L 1).val) (tileSet (L 0).val (L 1).val) 0) : sProp 𝕄) := by
  unfold Ops ResAny
  iintro ⟨⟨⟨Hi0, Hi1, Hi2, Hi3⟩, ⟨Ho0, Ho1, Ho2⟩⟩, ⟨Hs0, Hs1, Hs2, Hs3, Hs4, Hs5, Hs6, Hs7⟩, ⟨Hm0, Hm1, Hm2, Hr0, Hr1, Hr2, Hr3⟩⟩
  ihave Hs0 := (Entails.of_eq (whole_some (F := F) (thr d L) cc0_scratch0).symm) $$ Hs0
  ihave Hs1 := (Entails.of_eq (whole_some (F := F) (thr d L) cc0_scratch1).symm) $$ Hs1
  ihave Hs2 := (Entails.of_eq (whole_some (F := F) (thr d L) cc0_scratch2).symm) $$ Hs2
  ihave Hs3 := (Entails.of_eq (whole_some (F := F) (thr d L) cc0_scratch3).symm) $$ Hs3
  ihave Hs4 := (Entails.of_eq (whole_some (F := F) (thr d L) cc0_scratch4).symm) $$ Hs4
  ihave Hs5 := (Entails.of_eq (whole_some (F := F) (thr d L) cc0_scratch5).symm) $$ Hs5
  ihave Hs6 := (Entails.of_eq (whole_some (F := F) (thr d L) cc0_scratch6).symm) $$ Hs6
  ihave Hs7 := (Entails.of_eq (whole_some (F := F) (thr d L) cc0_scratch7).symm) $$ Hs7
  ihave Hs1 := (rows_any (thr d L) (Memref.whole cc0_scratch1)) $$ Hs1
  ihave Hs2 := (rows_any (thr d L) (Memref.whole cc0_scratch2)) $$ Hs2
  ihave Hs3 := (rows_any (thr d L) (Memref.whole cc0_scratch3)) $$ Hs3
  ihave Hs4 := (rows_any (thr d L) (Memref.whole cc0_scratch4)) $$ Hs4
  ihave Hs0 := (some_flat d L (Memref.whole cc0_scratch0) (fun j => (flat f2 j : Elt F .i32))) $$ Hs0
  ihave Hs5 := (some_flat d L (Memref.whole cc0_scratch5) (pick (F := F) (flat f2) (flat f3) 0)) $$ Hs5
  ihave Hs6 := (some_flat d L (Memref.whole cc0_scratch6) (pick (F := F) (flat f2) (flat f4) 0)) $$ Hs6
  ihave Hs7 := (some_flat d L (Memref.whole cc0_scratch7) (pick (F := F) (flat f2) (flat f5) 0)) $$ Hs7
  ihave Hi0 := (Entails.of_eq (whole_pts (F := F) (thr d L) main_arg0_scv _ _).symm) $$ Hi0
  ihave Hi1 := (Entails.of_eq (whole_pts (F := F) (thr d L) main_v1_scv _ _).symm) $$ Hi1
  ihave Hi2 := (Entails.of_eq (whole_pts (F := F) (thr d L) main_v3_scv _ _).symm) $$ Hi2
  ihave Hi3 := (Entails.of_eq (whole_pts (F := F) (thr d L) main_v5_scv _ _).symm) $$ Hi3
  ihave Hi1 := (table_leaves (thr d L) (Memref.whole main_v1_scv) 3 q f3 (flat f3) (fun x => (ofFlat_idx _ _ x).symm)) $$ Hi1
  ihave Hi2 := (table_leaves (thr d L) (Memref.whole main_v3_scv) 3 q f4 (flat f4) (fun x => (ofFlat_idx _ _ x).symm)) $$ Hi2
  ihave Hi3 := (table_leaves (thr d L) (Memref.whole main_v5_scv) 3 q f5 (flat f5) (fun x => (ofFlat_idx _ _ x).symm)) $$ Hi3
  ihave Ho0 := (span_any d L (Memref.whole main_v6_0_scv) _ (pick (F := F) (flat f2) (flat f3) 0) (lo L)) $$ Ho0
  ihave Ho1 := (span_any d L (Memref.whole main_v6_1_scv) _ (pick (F := F) (flat f2) (flat f4) 0) (lo L)) $$ Ho1
  ihave Ho2 := (span_any d L (Memref.whole main_v6_2_scv) _ (pick (F := F) (flat f2) (flat f5) 0) (lo L)) $$ Ho2
  unfold Between Bufs Idle
  rw [bigSep_sep', bigSep_sep', bigSep_sep', bigSep_sep', bigSep_sep', bigSep_sep', bigSep_sep', bigSep_sep', bigSep_sep']
  isplitl [Hs1 Hs2 Hs3 Hs4 Hm0 Hm1 Hm2 Hi1 Hi2 Hi3]
  · iframe Hs1 Hs2 Hs3 Hs4 Hm0 Hm1 Hm2 Hi1 Hi2 Hi3
  isplitl [Hs5 Hs6 Hs7]
  · iframe Hs5 Hs6 Hs7
  iframe Hs0 Ho0 Ho1 Ho2 Hr0 Hr1 Hr2 Hr3
  unfold Rows.Table
  isplitr
  · ipureintro; exact fun x => (ofFlat_idx _ _ x).symm
  · iexact Hi0

set_option maxHeartbeats 1000000 in
set_option maxRecDepth 65536 in
/-- What the task holds after its last period is what it hands back. -/
theorem task_out : ((Between (F := F) (Ix := Ix) (Name := Name) (U := U) (Lvl := Lvl) d L (Memref.whole main_arg0_scv) (Memref.whole main_v1_scv) (Memref.whole main_v3_scv) (Memref.whole main_v5_scv) (Memref.whole main_v6_0_scv) (Memref.whole main_v6_1_scv) (Memref.whole main_v6_2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 cc0_scoped0 cc0_scoped1 cc0_scoped2 cc0_scoped3 (leaf 3 q) f3 f4 f5 (flat f2) (flat f3) (flat f4) (flat f5) q f2
    (tileSet (L 0).val (L 1).val) (tileSet (L 0).val (L 1).val) (tileSet (L 0).val (L 1).val) 25088) : sProp 𝕄) ⊢ iprop((Ops (F := F) d L q f2 f3 f4 f5 ∗ ResAt (F := F) d L f2 f3 f4 f5) ∗ BufsAny (F := F) d L ∗ Sems0 (F := F) d L) := by
  unfold Between Bufs Idle Ops ResAt
  rw [bigSep_sep', bigSep_sep', bigSep_sep', bigSep_sep', bigSep_sep', bigSep_sep', bigSep_sep', bigSep_sep', bigSep_sep']
  iintro ⟨⟨Hs1, Hs2, Hs3, Hs4, Hm0, Hm1, Hm2, Hi1, Hi2, Hi3⟩, ⟨Hs5, Hs6, Hs7⟩, Hs0, Ho0, Ho1, Ho2, Hr0, Hr1, Hr2, Hr3, Hi0⟩
  ihave Hs1 := (any_rows (thr d L) (Memref.whole cc0_scratch1) (by decide)) $$ Hs1
  ihave Hs2 := (any_rows (thr d L) (Memref.whole cc0_scratch2) (by decide)) $$ Hs2
  ihave Hs3 := (any_rows (thr d L) (Memref.whole cc0_scratch3) (by decide)) $$ Hs3
  ihave Hs4 := (any_rows (thr d L) (Memref.whole cc0_scratch4) (by decide)) $$ Hs4
  ihave Hs0 := (flat_some d L (Memref.whole cc0_scratch0) _) $$ Hs0
  ihave Hs5 := (flat_some d L (Memref.whole cc0_scratch5) _) $$ Hs5
  ihave Hs6 := (flat_some d L (Memref.whole cc0_scratch6) _) $$ Hs6
  ihave Hs7 := (flat_some d L (Memref.whole cc0_scratch7) _) $$ Hs7
  ihave Hs0 := (Entails.of_eq (whole_some (F := F) (thr d L) cc0_scratch0)) $$ Hs0
  ihave Hs1 := (Entails.of_eq (whole_some (F := F) (thr d L) cc0_scratch1)) $$ Hs1
  ihave Hs2 := (Entails.of_eq (whole_some (F := F) (thr d L) cc0_scratch2)) $$ Hs2
  ihave Hs3 := (Entails.of_eq (whole_some (F := F) (thr d L) cc0_scratch3)) $$ Hs3
  ihave Hs4 := (Entails.of_eq (whole_some (F := F) (thr d L) cc0_scratch4)) $$ Hs4
  ihave Hs5 := (Entails.of_eq (whole_some (F := F) (thr d L) cc0_scratch5)) $$ Hs5
  ihave Hs6 := (Entails.of_eq (whole_some (F := F) (thr d L) cc0_scratch6)) $$ Hs6
  ihave Hs7 := (Entails.of_eq (whole_some (F := F) (thr d L) cc0_scratch7)) $$ Hs7
  ihave Hi1 := (leaves_table (thr d L) (Memref.whole main_v1_scv) 3 q f3 _) $$ Hi1
  ihave Hi2 := (leaves_table (thr d L) (Memref.whole main_v3_scv) 3 q f4 _) $$ Hi2
  ihave Hi3 := (leaves_table (thr d L) (Memref.whole main_v5_scv) 3 q f5 _) $$ Hi3
  unfold Rows.Table
  icases Hi0 with ⟨-, Hi0⟩
  ihave Hi0 := (Entails.of_eq (whole_pts (F := F) (thr d L) main_arg0_scv q f2)) $$ Hi0
  ihave Hi1 := (Entails.of_eq (whole_pts (F := F) (thr d L) main_v1_scv q f3)) $$ Hi1
  ihave Hi2 := (Entails.of_eq (whole_pts (F := F) (thr d L) main_v3_scv q f4)) $$ Hi2
  ihave Hi3 := (Entails.of_eq (whole_pts (F := F) (thr d L) main_v5_scv q f5)) $$ Hi3
  ihave Ho0 := (span_done0 d L (taken f2 f3) _ (taken_pick f2 f3)) $$ Ho0
  ihave Ho1 := (span_done1 d L (taken f2 f4) _ (taken_pick f2 f4)) $$ Ho1
  ihave Ho2 := (span_done2 d L (taken f2 f5) _ (taken_pick f2 f5)) $$ Ho2
  isplitl [Hi0 Hi1 Hi2 Hi3 Ho0 Ho1 Ho2]
  · isplitl [Hi0 Hi1 Hi2 Hi3]
    · iframe Hi0 Hi1 Hi2 Hi3
    iframe Ho0 Ho1 Ho2
  isplitl [Hs0 Hs1 Hs2 Hs3 Hs4 Hs5 Hs6 Hs7]
  · iframe Hs0 Hs1 Hs2 Hs3 Hs4 Hs5 Hs6 Hs7
  iframe Hm0 Hm1 Hm2 Hr0 Hr1 Hr2 Hr3

set_option maxHeartbeats 4000000 in
set_option maxRecDepth 65536 in
/-- The task: the operands' shares kept, the results' parts at the gathered values. -/
theorem task [EC.LandsIn (upEmb : UEmb _ 𝕄)] (hin : ∀ j, (f2 j).toNat < 802816) :
    iprop((Transfers.MayWaits (thr d L) ι O) ∗ (Ops (F := F) d L q f2 f3 f4 f5 ∗ ResAny (F := F) d L)
        ∗ ownBufs (thr d L) ∗ ownSems0 (thr d L) ∗ owes (thr d L) O W)
      ⊢ wp frame (wpE defs 𝒱 (thr d L) bd) Set.univ
          (cc0__pass_cd1 L (Memref.whole main_arg0_scv) (Memref.isWhole_whole _) (Memref.whole main_v1_scv) (Memref.isWhole_whole _) (Memref.whole main_v3_scv) (Memref.isWhole_whole _) (Memref.whole main_v5_scv) (Memref.isWhole_whole _) (Memref.whole main_v6_0_scv) (Memref.isWhole_whole _) (Memref.whole main_v6_1_scv) (Memref.isWhole_whole _) (Memref.whole main_v6_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3)
          fun _ => (iprop((Ops (F := F) d L q f2 f3 f4 f5 ∗ ResAt (F := F) d L f2 f3 f4 f5)
            ∗ ownBufs (thr d L) ∗ ownSems0 (thr d L) ∗ ∃ W', ⌜∀ p ∈ W', p ∈ W ∨ p.2 = ι⌝ ∗ owes (thr d L) O W') : sProp 𝕄) := by
  have hin' : ∀ j, (flat f2 j).toNat < 802816 := by
    intro j
    unfold flat ofFlat
    split
    · exact hin _
    · decide
  rw [own_sems, own_bufs]
  iintro ⟨#Hmw, HP, ⟨Hs0, Hs1, Hs2, Hs3, Hs4, Hs5, Hs6, Hs7, Hbufs⟩, ⟨Hm, Hsems⟩, HO⟩
  ihave HB := (task_in (F := F) d L q f2 f3 f4 f5) $$ [HP Hs0 Hs1 Hs2 Hs3 Hs4 Hs5 Hs6 Hs7 Hm]
  · isplitl [HP]; · iexact HP
    isplitr [Hm]
    · iframe Hs0 Hs1 Hs2 Hs3 Hs4 Hs5 Hs6 Hs7
    iexact Hm
  iapply (tile_run (defs := defs) EC 𝒱 d L bd (Memref.whole main_arg0_scv) (Memref.whole main_v1_scv) (Memref.whole main_v3_scv) (Memref.whole main_v5_scv) (Memref.whole main_v6_0_scv) (Memref.whole main_v6_1_scv) (Memref.whole main_v6_2_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 cc0_scratch9 cc0_scratch10 (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) cc0_scoped0 cc0_scoped1 cc0_scoped2 cc0_scoped3
    ι O W (leaf 3 q) f3 f4 f5 (flat f2) (flat f3) (flat f4) (flat f5) q f2
    (tileSet (L 0).val (L 1).val) (tileSet (L 0).val (L 1).val) (tileSet (L 0).val (L 1).val)
    hin' (slice_sub0 L) (slice_sub0 L) (slice_sub0 L)) $$ [HB HO]
  · isplitl [HB]; · iexact HB
    isplitl [HO]
    · unfold Owing
      iexists W
      isplitr
      · ipureintro; exact fun p hp => Or.inl hp
      · iexact HO
    · iexact Hmw
  iintro ⟨HB, HO⟩
  ihave HB := (task_out (F := F) d L q f2 f3 f4 f5) $$ HB
  icases HB with ⟨HP, ⟨Hs0, Hs1, Hs2, Hs3, Hs4, Hs5, Hs6, Hs7⟩, Hm⟩
  isplitl [HP]; · iexact HP
  isplitl [Hs0 Hs1 Hs2 Hs3 Hs4 Hs5 Hs6 Hs7 Hbufs]
  · iframe Hs0 Hs1 Hs2 Hs3 Hs4 Hs5 Hs6 Hs7 Hbufs
  isplitl [Hm Hsems]
  · iframe Hm Hsems
  unfold Owing
  iexact HO

end Cert.Proof.CdOne
-- ==== Proof.CdTwoCall.lean ====
/-
  The residue and distance gather as a task: from the operands' shares, the task's parts of the results and a subcore's
  own buffers and counters, to the results' parts at their values and the rest back.
-/
module

public import proofs.«01_k».proof.Proof.CdTwoRun
public import proofs.«01_k».proof.Proof.CdOneCall

@[expose] public section

noncomputable section

namespace Cert.Proof.CdTwo

open Cert.KernelIdeal Cert.KernelIdeal.Gen
open Idealize.ShloMosaic Idealize.ShloMosaic.ShareLeaves
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Rows
open Cert.Proof.CdOne (tileSet flat)

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (L : grid1.Coords) (bd : Option 𝒱.V)

local notation "𝕄" => MT nD τ sig Ix (Elt F) Name U Lvl

/-- The bodies' residues, by position. -/
abbrev flatB (f : S50176.Idx → BitVec 32) : ℕ → BitVec 32 := ofFlat (n := 50176) (0 : BitVec 32) f
/-- The residues' types, by position. -/
abbrev flatR (f : S12512.Idx → BitVec 32) : ℕ → BitVec 32 := ofFlat (n := 12512) (0 : BitVec 32) f
/-- A coordinate table, by position. -/
abbrev flatX (f : S50176.Idx → F .f32) : ℕ → F .f32 := ofFlat (n := 50176) (Scalar.ofBits .f32 0x00000000#32 : F .f32) f

/-- The value: a list looked up twice. -/
def twice (f2 : S802816.Idx → BitVec 32) (f4 : S50176.Idx → BitVec 32) (f5 : S12512.Idx → BitVec 32) : S802816.Idx → BitVec 32 :=
  fun j => flatR f5 (flatB f4 (f2 j).toNat).toNat

/-- The value: the clipped distance of two lists' lookups. -/
def apart (f2 f3 : S802816.Idx → BitVec 32) (f4 : S50176.Idx → BitVec 32) : S802816.Idx → BitVec 32 :=
  fun j => sdOf (flatB f4 (f2 j).toNat) (flatB f4 (f3 j).toNat)

/-- The value: the squared distance of two lists' points. -/
def square (f2 f3 : S802816.Idx → BitVec 32) (f6 f7 f8 : S50176.Idx → F .f32) : S802816.Idx → F .f32 :=
  fun j => distOf (F := F) (flatX f6 (f2 j).toNat) (flatX f6 (f3 j).toNat) (flatX f7 (f2 j).toNat) (flatX f7 (f3 j).toNat)
    (flatX f8 (f2 j).toNat) (flatX f8 (f3 j).toNat)

omit [FloatOps F] in
theorem flat_at (f : S802816.Idx → BitVec 32) (j : S802816.Idx) : flat f (0 + (j 0).val) = f j := by
  rw [Nat.zero_add]
  exact ofFlat_idx (0 : BitVec 32) f j

omit [FloatOps F] in
theorem twice_look (f2 : S802816.Idx → BitVec 32) (f4 : S50176.Idx → BitVec 32) (f5 : S12512.Idx → BitVec 32) (j : S802816.Idx) :
    twice f2 f4 f5 j = look (F := F) (flat f2) (flatB f4) (flatR f5) 0 (j 0).val := by
  show flatR f5 (flatB f4 (f2 j).toNat).toNat = flatR f5 (flatB f4 (flat f2 (0 + (j 0).val)).toNat).toNat
  rw [flat_at]

omit [FloatOps F] in
theorem apart_sdAt (f2 f3 : S802816.Idx → BitVec 32) (f4 : S50176.Idx → BitVec 32) (j : S802816.Idx) :
    apart f2 f3 f4 j = sdAt (F := F) (flat f2) (flat f3) (flatB f4) 0 (j 0).val := by
  show sdOf (flatB f4 (f2 j).toNat) (flatB f4 (f3 j).toNat)
    = sdOf (flatB f4 (flat f2 (0 + (j 0).val)).toNat) (flatB f4 (flat f3 (0 + (j 0).val)).toNat)
  rw [flat_at, flat_at]

theorem square_distAt (f2 f3 : S802816.Idx → BitVec 32) (f6 f7 f8 : S50176.Idx → F .f32) (j : S802816.Idx) :
    square f2 f3 f6 f7 f8 j = distAt (F := F) (flat f2) (flat f3) (flatX f6) (flatX f7) (flatX f8) 0 (j 0).val := by
  unfold distAt pick
  rw [flat_at, flat_at]
  rfl

variable (q : PosShare TreeShare)
variable (f2 f3 : S802816.Idx → BitVec 32) (f4 : S50176.Idx → BitVec 32) (f5 : S12512.Idx → BitVec 32) (f6 f7 f8 : S50176.Idx → F .f32)

/-- The operands, a share of each. -/
def Ops : sProp 𝕄 :=
  iprop((((thr d L).loc main_v6_0_scv) ↦{q} (f2 : Buf (Elt F) ((thr d L).loc main_v6_0_scv))) ∗ (((thr d L).loc main_v6_1_scv) ↦{q} (f3 : Buf (Elt F) ((thr d L).loc main_v6_1_scv))) ∗ (((thr d L).loc main_v8_scv) ↦{q} (f4 : Buf (Elt F) ((thr d L).loc main_v8_scv))) ∗ (((thr d L).loc main_v10_scv) ↦{q} (f5 : Buf (Elt F) ((thr d L).loc main_v10_scv))) ∗ (((thr d L).loc main_v13_scv) ↦{q} (f6 : Buf (Elt F) ((thr d L).loc main_v13_scv))) ∗ (((thr d L).loc main_v15_scv) ↦{q} (f7 : Buf (Elt F) ((thr d L).loc main_v15_scv))) ∗ (((thr d L).loc main_v17_scv) ↦{q} (f8 : Buf (Elt F) ((thr d L).loc main_v17_scv))))

/-- The task's parts of the results, whatever they hold. -/
def ResAny : sProp 𝕄 :=
  iprop((∃ f : Buf (Elt F) ((thr d L).loc main_v18_0_scv), (thr d L).loc main_v18_0_scv ↦[tileSet (L 0).val (L 1).val]{fullShare} f) ∗ (∃ f : Buf (Elt F) ((thr d L).loc main_v18_1_scv), (thr d L).loc main_v18_1_scv ↦[tileSet (L 0).val (L 1).val]{fullShare} f) ∗ (∃ f : Buf (Elt F) ((thr d L).loc main_v18_2_scv), (thr d L).loc main_v18_2_scv ↦[tileSet (L 0).val (L 1).val]{fullShare} f) ∗ (∃ f : Buf (Elt F) ((thr d L).loc main_v18_3_scv), (thr d L).loc main_v18_3_scv ↦[tileSet (L 0).val (L 1).val]{fullShare} f))

/-- The task's parts of the results at their values. -/
def ResAt : sProp 𝕄 :=
  iprop(((thr d L).loc main_v18_0_scv ↦[tileSet (L 0).val (L 1).val]{fullShare} (twice f2 f4 f5 : Buf (Elt F) ((thr d L).loc main_v18_0_scv))) ∗ ((thr d L).loc main_v18_1_scv ↦[tileSet (L 0).val (L 1).val]{fullShare} (twice f3 f4 f5 : Buf (Elt F) ((thr d L).loc main_v18_1_scv))) ∗ ((thr d L).loc main_v18_2_scv ↦[tileSet (L 0).val (L 1).val]{fullShare} (apart f2 f3 f4 : Buf (Elt F) ((thr d L).loc main_v18_2_scv))) ∗ ((thr d L).loc main_v18_3_scv ↦[tileSet (L 0).val (L 1).val]{fullShare} (square f2 f3 f6 f7 f8 : Buf (Elt F) ((thr d L).loc main_v18_3_scv))))

/-- The subcore's buffers the task names. -/
def names : List (Ref sig .scVector) := [cc1_scratch0, cc1_scratch1, cc1_scratch2, cc1_scratch3, cc1_scratch4, cc1_scratch5, cc1_scratch6, cc1_scratch7, cc1_scratch8, cc1_scratch9, cc1_scratch10, cc1_scratch11]

theorem names_nodup : names.Nodup := by decide

/-- The subcore's counters the task names. -/
def cellOf : Fin 12 ⊕ Fin 12 ⊕ Fin 8 → DmaSem sig :=
  Sum.elim (fun s => semAt cc1_scratch12 s) (Sum.elim (fun s => semAt cc1_scratch13 s) ![cc1_scoped0.sem, cc1_scoped1.sem, cc1_scoped2.sem, cc1_scoped3.sem, cc1_scoped4.sem, cc1_scoped5.sem, cc1_scoped6.sem, cc1_scoped7.sem])

theorem cellOf_injective : Function.Injective cellOf := by decide +kernel

theorem cellOf_scoped : ∀ x, (SemLoc.dma (cellOf x) : SemLoc sig).isScoped .scVector = true := by decide +kernel

omit [FloatOps F] [Infinite Name] in
/-- A subcore's own counters at zero: those the task names, and the rest. -/
theorem own_sems : (ownSems0 (thr d L) : sProp 𝕄)
    = iprop((bigSep Finset.univ (fun s : Fin 12 => semVal (thr d L, SemLoc.dma (semAt cc1_scratch12 s)) 0)
        ∗ bigSep Finset.univ (fun s : Fin 12 => semVal (thr d L, SemLoc.dma (semAt cc1_scratch13 s)) 0)
        ∗ semVal (thr d L, SemLoc.dma cc1_scoped0.sem) 0 ∗ semVal (thr d L, SemLoc.dma cc1_scoped1.sem) 0 ∗ semVal (thr d L, SemLoc.dma cc1_scoped2.sem) 0 ∗ semVal (thr d L, SemLoc.dma cc1_scoped3.sem) 0 ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0)
      ∗ bigSep (ownCells (thr d L) \ Finset.univ.image fun x => (thr d L, SemLoc.dma (cellOf x))) fun g => semVal g 0) := by
  unfold SparseCore.Cfg.ownSems0
  rw [bigSep_named (fun g => (semVal g 0 : sProp 𝕄)) (ownCells (thr d L)) (fun x => (thr d L, SemLoc.dma (cellOf x)))
    (fun a b h => cellOf_injective (SemLoc.dma.inj (Prod.mk.inj h).2))
    (fun x => mem_ownCells.mpr ⟨rfl, cellOf_scoped x⟩), bigSep_univ_sum, bigSep_univ_sum,
    show (Finset.univ : Finset (Fin 8)) = {0, 1, 2, 3, 4, 5, 6, 7} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] [Infinite Name] in
/-- A subcore's own buffers: those the task names, and the rest. -/
theorem own_bufs : (ownBufs (thr d L) : sProp 𝕄)
    = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ (∃ f, (thr d L).loc cc1_scratch8 ↦{fullShare} f) ∗ (∃ f, (thr d L).loc cc1_scratch9 ↦{fullShare} f) ∗ (∃ f, (thr d L).loc cc1_scratch10 ↦{fullShare} f) ∗ (∃ f, (thr d L).loc cc1_scratch11 ↦{fullShare} f)
      ∗ bigSep (ownRefs (τ := τ) (thr d L).2 \ (names.map (thr d L).2.devRef).toFinset)
          fun b => iprop(∃ f, ((d, b) : Loc nD τ sig) ↦{fullShare} f)) := by
  unfold SparseCore.Cfg.ownBufs
  rw [bigSep_list _ (names.map (thr d L).2.devRef) _ (List.Nodup.map (Proc.devRef_injective _) names_nodup) (fun b hb => by
    obtain ⟨r, hr, rfl⟩ := List.mem_map.mp hb
    refine SparseCore.Cfg.mem_ownRefs_of_owner (p := (thr d L).2) ?_
    simp only [names, List.mem_cons, List.not_mem_nil, _root_.or_false] at hr
    rcases hr with rfl | rfl | rfl | rfl | rfl | rfl | rfl | rfl | rfl | rfl | rfl | rfl <;> rfl)]
  rfl

/-- A family of twelve is its slots' three. -/
def slotOf : Fin 4 ⊕ Fin 4 ⊕ Fin 4 → Fin 12 := Sum.elim (fun s => r3 s 0) (Sum.elim (fun s => r3 s 1) (fun s => r3 s 2))

theorem slotOf_injective : Function.Injective slotOf := by decide +kernel

theorem slotOf_univ : (Finset.univ : Finset (Fin 12)) = Finset.univ.image slotOf := by decide +kernel

omit [FloatOps F] [Infinite Name] in
theorem by_slot (Φ : Fin 12 → sProp 𝕄) : bigSep Finset.univ Φ
    = iprop(bigSep Finset.univ (fun s : Fin 4 => Φ (r3 s 0)) ∗ bigSep Finset.univ (fun s : Fin 4 => Φ (r3 s 1)) ∗ bigSep Finset.univ (fun s : Fin 4 => Φ (r3 s 2))) := by
  rw [slotOf_univ, SparseCore.bigSep_image_of_injOn slotOf_injective.injOn, bigSep_univ_sum, bigSep_univ_sum]
  rfl

omit [FloatOps F] [Infinite Name] in
theorem some_flat {n : ℕ} {e : EltTy} (M : Memref sig .scVector .vmem (Sh1 n) e) (G : ℕ → Elt F e) :
    (iprop(∃ f : Buf (Elt F) (M.view.loc (thr d L)), M.view.loc (thr d L) ↦[M.view.set]{fullShare} f) : sProp 𝕄) ⊢ Filled (thr d L) M G 0 := by
  unfold Filled
  iintro ⟨%f, H⟩
  iexists f
  isplitr
  · ipureintro; exact Done.zero
  · iexact H

omit [FloatOps F] [Infinite Name] in
theorem flat_some {n : ℕ} {e : EltTy} (M : Memref sig .scVector .vmem (Sh1 n) e) (G : ℕ → Elt F e) (k : ℕ) :
    (Filled (thr d L) M G k : sProp 𝕄) ⊢ iprop(∃ f : Buf (Elt F) (M.view.loc (thr d L)), M.view.loc (thr d L) ↦[M.view.set]{fullShare} f) := by
  unfold Filled
  iintro ⟨%f, -, H⟩
  iexists f
  iexact H

omit [FloatOps F] [Infinite Name] in
/-- Nothing of a result done. -/
theorem span_any {e : EltTy} (D : Memref sig .scVector .hbm S802816 e) (S : Finset (Idx (D.view.loc (thr d L)))) (G : ℕ → Elt F e) (lo : ℕ) :
    (iprop(∃ f : Buf (Elt F) (D.view.loc (thr d L)), D.view.loc (thr d L) ↦[S]{fullShare} f) : sProp 𝕄) ⊢ Spanned (thr d L) D S G lo (lo + 0) := by
  unfold Spanned
  iintro ⟨%f, H⟩
  iexists f
  isplitr
  · ipureintro; exact fun j h1 h2 => absurd h2 (by omega)
  · iexact H

omit [FloatOps F] [Infinite Name] in
theorem table_of {n : ℕ} {e : EltTy} (D : Memref sig .scVector .hbm (Sh1 n) e) (q : PosShare TreeShare) (f : Buf (Elt F) (D.view.loc (thr d L))) (T : ℕ → Elt F e)
    (hT : ∀ x, D.view.read (Elt F) f x = T (x 0).val) :
    (iprop(D.view.loc (thr d L) ↦[D.view.set]{q} f) : sProp 𝕄) ⊢ Rows.Table (thr d L) D q f T := by
  unfold Rows.Table
  iintro H
  isplitr
  · ipureintro; exact hT
  · iexact H

omit [FloatOps F] [Infinite Name] in
theorem of_table {n : ℕ} {e : EltTy} (D : Memref sig .scVector .hbm (Sh1 n) e) (q : PosShare TreeShare) (f : Buf (Elt F) (D.view.loc (thr d L))) (T : ℕ → Elt F e) :
    (Rows.Table (thr d L) D q f T : sProp 𝕄) ⊢ iprop(D.view.loc (thr d L) ↦[D.view.set]{q} f) := by
  unfold Rows.Table
  iintro ⟨-, H⟩
  iexact H

omit [FloatOps F] [Infinite Name] in
/-- A coordinate table's share is the slots' shares for the first list and those for the second. -/
theorem table_two (D : Memref sig .scVector .hbm S50176 .f32) (q : PosShare TreeShare) (f : Buf (Elt F) (D.view.loc (thr d L))) (T : ℕ → Elt F .f32)
    (hT : ∀ x, D.view.read (Elt F) f x = T (x 0).val) :
    (iprop(D.view.loc (thr d L) ↦[D.view.set]{q} f) : sProp 𝕄)
      ⊢ iprop((bigSep Finset.univ fun s : Fin (2 ^ 2) => Rows.Table (thr d L) D (leaf 2 q.left s) f T) ∗ bigSep Finset.univ fun s : Fin (2 ^ 2) => Rows.Table (thr d L) D (leaf 2 q.right s) f T) := by
  iintro H
  ihave H := (pointsTo_share (PosShare.mem_left_op_right q)).1 $$ H
  icases H with ⟨Ha, Hb⟩
  isplitl [Ha]
  · iapply (table_leaves (thr d L) D 2 q.left f T hT) $$ Ha
  · iapply (table_leaves (thr d L) D 2 q.right f T hT) $$ Hb

omit [FloatOps F] [Infinite Name] in
theorem two_table (D : Memref sig .scVector .hbm S50176 .f32) (q : PosShare TreeShare) (f : Buf (Elt F) (D.view.loc (thr d L))) (T : ℕ → Elt F .f32) :
    (iprop((bigSep Finset.univ fun s : Fin (2 ^ 2) => Rows.Table (thr d L) D (leaf 2 q.left s) f T) ∗ bigSep Finset.univ fun s : Fin (2 ^ 2) => Rows.Table (thr d L) D (leaf 2 q.right s) f T) : sProp 𝕄)
      ⊢ iprop(D.view.loc (thr d L) ↦[D.view.set]{q} f) := by
  iintro ⟨Ha, Hb⟩
  ihave Ha := (leaves_table (thr d L) D 2 q.left f T) $$ Ha
  ihave Hb := (leaves_table (thr d L) D 2 q.right f T) $$ Hb
  iapply (pointsTo_share (PosShare.mem_left_op_right q)).2
  isplitl [Ha] <;> iassumption

omit [FloatOps F] [Infinite Name] in
/-- A period's part of a result lies in the task's. -/
theorem slice_sub0 (t : Fin k1_t1_loop.trips) :
    ((Memref.whole main_v18_0_scv).view.slice (Rect.unit (s := S802816) (k1_off1 L t) S1792.size (k1_off1_inb L t))).set ⊆ tileSet (L 0).val (L 1).val := by
  intro x hx
  obtain ⟨y, -, rfl⟩ := Finset.mem_map.mp hx
  refine Finset.mem_filter.mpr ⟨Finset.mem_univ _, ?_⟩
  show ((Rect.unit (s := S802816) (k1_off1 L t) S1792.size (k1_off1_inb L t)).emb y 0).val / 25088 = _
  rw [Rect.emb_apply]
  have e : (k1_off1 L t) 0 = 401408 * (L 0).val + 25088 * (L 1).val + 1792 * t.val := by rw [off1]; rfl
  have hy : (y 0).val < 1792 := (y 0).isLt
  have ht : t.val < 14 := lt_of_lt_of_eq t.isLt trips1
  show ((k1_off1 L t) 0 + 1 * (y 0).val) / 25088 = _
  rw [e]
  omega

omit [FloatOps F] [Infinite Name] in
/-- The task's part of a result done. -/
theorem span_done0 (g : S802816.Idx → BitVec 32) (G : ℕ → Elt F .i32) (hG : ∀ j : S802816.Idx, g j = G (j 0).val) :
    (Spanned (thr d L) (Memref.whole main_v18_0_scv) (tileSet (L 0).val (L 1).val) G (lo L) (lo L + 25088) : sProp 𝕄)
      ⊢ iprop((thr d L).loc main_v18_0_scv ↦[tileSet (L 0).val (L 1).val]{fullShare} (g : Buf (Elt F) ((thr d L).loc main_v18_0_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

omit [FloatOps F] [Infinite Name] in
/-- A period's part of a result lies in the task's. -/
theorem slice_sub1 (t : Fin k1_t1_loop.trips) :
    ((Memref.whole main_v18_1_scv).view.slice (Rect.unit (s := S802816) (k1_off1 L t) S1792.size (k1_off1_inb L t))).set ⊆ tileSet (L 0).val (L 1).val := by
  intro x hx
  obtain ⟨y, -, rfl⟩ := Finset.mem_map.mp hx
  refine Finset.mem_filter.mpr ⟨Finset.mem_univ _, ?_⟩
  show ((Rect.unit (s := S802816) (k1_off1 L t) S1792.size (k1_off1_inb L t)).emb y 0).val / 25088 = _
  rw [Rect.emb_apply]
  have e : (k1_off1 L t) 0 = 401408 * (L 0).val + 25088 * (L 1).val + 1792 * t.val := by rw [off1]; rfl
  have hy : (y 0).val < 1792 := (y 0).isLt
  have ht : t.val < 14 := lt_of_lt_of_eq t.isLt trips1
  show ((k1_off1 L t) 0 + 1 * (y 0).val) / 25088 = _
  rw [e]
  omega

omit [FloatOps F] [Infinite Name] in
/-- The task's part of a result done. -/
theorem span_done1 (g : S802816.Idx → BitVec 32) (G : ℕ → Elt F .i32) (hG : ∀ j : S802816.Idx, g j = G (j 0).val) :
    (Spanned (thr d L) (Memref.whole main_v18_1_scv) (tileSet (L 0).val (L 1).val) G (lo L) (lo L + 25088) : sProp 𝕄)
      ⊢ iprop((thr d L).loc main_v18_1_scv ↦[tileSet (L 0).val (L 1).val]{fullShare} (g : Buf (Elt F) ((thr d L).loc main_v18_1_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

omit [FloatOps F] [Infinite Name] in
/-- A period's part of a result lies in the task's. -/
theorem slice_sub2 (t : Fin k1_t1_loop.trips) :
    ((Memref.whole main_v18_2_scv).view.slice (Rect.unit (s := S802816) (k1_off1 L t) S1792.size (k1_off1_inb L t))).set ⊆ tileSet (L 0).val (L 1).val := by
  intro x hx
  obtain ⟨y, -, rfl⟩ := Finset.mem_map.mp hx
  refine Finset.mem_filter.mpr ⟨Finset.mem_univ _, ?_⟩
  show ((Rect.unit (s := S802816) (k1_off1 L t) S1792.size (k1_off1_inb L t)).emb y 0).val / 25088 = _
  rw [Rect.emb_apply]
  have e : (k1_off1 L t) 0 = 401408 * (L 0).val + 25088 * (L 1).val + 1792 * t.val := by rw [off1]; rfl
  have hy : (y 0).val < 1792 := (y 0).isLt
  have ht : t.val < 14 := lt_of_lt_of_eq t.isLt trips1
  show ((k1_off1 L t) 0 + 1 * (y 0).val) / 25088 = _
  rw [e]
  omega

omit [FloatOps F] [Infinite Name] in
/-- The task's part of a result done. -/
theorem span_done2 (g : S802816.Idx → BitVec 32) (G : ℕ → Elt F .i32) (hG : ∀ j : S802816.Idx, g j = G (j 0).val) :
    (Spanned (thr d L) (Memref.whole main_v18_2_scv) (tileSet (L 0).val (L 1).val) G (lo L) (lo L + 25088) : sProp 𝕄)
      ⊢ iprop((thr d L).loc main_v18_2_scv ↦[tileSet (L 0).val (L 1).val]{fullShare} (g : Buf (Elt F) ((thr d L).loc main_v18_2_scv))) := by
  unfold Spanned
  iintro ⟨%f, %h, H⟩
  have e : ∀ j ∈ tileSet (L 0).val (L 1).val, (f : S802816.Idx → BitVec 32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

omit [FloatOps F] [Infinite Name] in
/-- A period's part of a result lies in the task's. -/
theorem slice_sub3 (t : Fin k1_t1_loop.trips) :
    ((Memref.whole main_v18_3_scv).view.slice (Rect.unit (s := S802816) (k1_off1 L t) S1792.size (k1_off1_inb L t))).set ⊆ tileSet (L 0).val (L 1).val := by
  intro x hx
  obtain ⟨y, -, rfl⟩ := Finset.mem_map.mp hx
  refine Finset.mem_filter.mpr ⟨Finset.mem_univ _, ?_⟩
  show ((Rect.unit (s := S802816) (k1_off1 L t) S1792.size (k1_off1_inb L t)).emb y 0).val / 25088 = _
  rw [Rect.emb_apply]
  have e : (k1_off1 L t) 0 = 401408 * (L 0).val + 25088 * (L 1).val + 1792 * t.val := by rw [off1]; rfl
  have hy : (y 0).val < 1792 := (y 0).isLt
  have ht : t.val < 14 := lt_of_lt_of_eq t.isLt trips1
  show ((k1_off1 L t) 0 + 1 * (y 0).val) / 25088 = _
  rw [e]
  omega

omit [FloatOps F] [Infinite Name] in
/-- The task's part of a result done. -/
theorem span_done3 (g : S802816.Idx → F .f32) (G : ℕ → Elt F .f32) (hG : ∀ j : S802816.Idx, g j = G (j 0).val) :
    (Spanned (thr d L) (Memref.whole main_v18_3_scv) (tileSet (L 0).val (L 1).val) G (lo L) (lo L + 25088) : sProp 𝕄)
      ⊢ iprop((thr d L).loc main_v18_3_scv ↦[tileSet (L 0).val (L 1).val]{fullShare} (g : Buf (Elt F) ((thr d L).loc main_v18_3_scv))) := by
  unfold Spanned
  iintro ⟨%f, %h, H⟩
  have e : ∀ j ∈ tileSet (L 0).val (L 1).val, (f : S802816.Idx → F .f32) j = g j := by
    intro j hj
    have hj := (Finset.mem_filter.mp hj).2
    have h1 : lo L ≤ (j 0).val := by show 401408 * (L 0).val + 25088 * (L 1).val ≤ _; omega
    have h2 : (j 0).val < lo L + 25088 := by show _ < 401408 * (L 0).val + 25088 * (L 1).val + 25088; omega
    exact (h j h1 h2).trans (hG j).symm
  iapply (Entails.of_eq (pointsTo_congr e)) $$ H

variable (ι : Ix) (O : CellTallies nD τ sig Ix) (W : Waits sig Ix)

/-- The counters the task names, at zero. -/
abbrev Sems0 : sProp 𝕄 :=
  iprop(bigSep Finset.univ (fun s : Fin 12 => semVal (thr d L, SemLoc.dma (semAt cc1_scratch12 s)) 0)
        ∗ bigSep Finset.univ (fun s : Fin 12 => semVal (thr d L, SemLoc.dma (semAt cc1_scratch13 s)) 0)
        ∗ semVal (thr d L, SemLoc.dma cc1_scoped0.sem) 0 ∗ semVal (thr d L, SemLoc.dma cc1_scoped1.sem) 0 ∗ semVal (thr d L, SemLoc.dma cc1_scoped2.sem) 0 ∗ semVal (thr d L, SemLoc.dma cc1_scoped3.sem) 0 ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0)

/-- The buffers the task names, whatever they hold. -/
abbrev BufsAny : sProp 𝕄 :=
  iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ (∃ f, (thr d L).loc cc1_scratch8 ↦{fullShare} f) ∗ (∃ f, (thr d L).loc cc1_scratch9 ↦{fullShare} f) ∗ (∃ f, (thr d L).loc cc1_scratch10 ↦{fullShare} f) ∗ (∃ f, (thr d L).loc cc1_scratch11 ↦{fullShare} f))

set_option maxHeartbeats 4000000 in
set_option maxRecDepth 65536 in
/-- What the task is handed is what it holds before its first period. -/
theorem task_in : iprop((Ops (F := F) d L q f2 f3 f4 f5 f6 f7 f8 ∗ ResAny (F := F) d L) ∗ BufsAny (F := F) d L ∗ Sems0 (F := F) d L) ⊢ (iprop(Between (F := F) (Ix := Ix) (Name := Name) (U := U) (Lvl := Lvl) d L (Memref.whole main_v6_0_scv) (Memref.whole main_v6_1_scv) (Memref.whole main_v13_scv) (Memref.whole main_v15_scv) (Memref.whole main_v17_scv) (Memref.whole main_v18_0_scv) (Memref.whole main_v18_1_scv) (Memref.whole main_v18_2_scv) (Memref.whole main_v18_3_scv) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) cc1_scratch12 cc1_scratch13 cc1_scoped2 cc1_scoped3 cc1_scoped4 cc1_scoped5 cc1_scoped6 cc1_scoped7 (leaf 2 q.left) (leaf 2 q.right) f6 f7 f8 (flat f2) (flat f3) (flatB f4) (flatR f5) (flatX f6) (flatX f7) (flatX f8) q q f2 f3
    (tileSet (L 0).val (L 1).val) (tileSet (L 0).val (L 1).val) (tileSet (L 0).val (L 1).val) (tileSet (L 0).val (L 1).val) 0 0 0
    ∗ Rows.Table (thr d L) (Memref.whole main_v8_scv) q f4 (fun j => (flatB f4 j : Elt F .i32)) ∗ Rows.Table (thr d L) (Memref.whole main_v10_scv) q f5 (fun j => (flatR f5 j : Elt F .i32))
    ∗ semVal (thr d L, SemLoc.dma cc1_scoped0.sem) 0 ∗ semVal (thr d L, SemLoc.dma cc1_scoped1.sem) 0) : sProp 𝕄) := by
  unfold Ops ResAny
  iintro ⟨⟨⟨Hi0, Hi1, Hi2, Hi3, Hi4, Hi5, Hi6⟩, ⟨Ho0, Ho1, Ho2, Ho3⟩⟩, ⟨Hs0, Hs1, Hs2, Hs3, Hs4, Hs5, Hs6, Hs7, Hs8, Hs9, Hs10, Hs11⟩, ⟨Hm0, Hm1, Hr0, Hr1, Hr2, Hr3, Hr4, Hr5, Hr6, Hr7⟩⟩
  ihave Hs0 := (Entails.of_eq (whole_some (F := F) (thr d L) cc1_scratch0).symm) $$ Hs0
  ihave Hs1 := (Entails.of_eq (whole_some (F := F) (thr d L) cc1_scratch1).symm) $$ Hs1
  ihave Hs2 := (Entails.of_eq (whole_some (F := F) (thr d L) cc1_scratch2).symm) $$ Hs2
  ihave Hs3 := (Entails.of_eq (whole_some (F := F) (thr d L) cc1_scratch3).symm) $$ Hs3
  ihave Hs4 := (Entails.of_eq (whole_some (F := F) (thr d L) cc1_scratch4).symm) $$ Hs4
  ihave Hs5 := (Entails.of_eq (whole_some (F := F) (thr d L) cc1_scratch5).symm) $$ Hs5
  ihave Hs6 := (Entails.of_eq (whole_some (F := F) (thr d L) cc1_scratch6).symm) $$ Hs6
  ihave Hs7 := (Entails.of_eq (whole_some (F := F) (thr d L) cc1_scratch7).symm) $$ Hs7
  ihave Hs8 := (Entails.of_eq (whole_some (F := F) (thr d L) cc1_scratch8).symm) $$ Hs8
  ihave Hs9 := (Entails.of_eq (whole_some (F := F) (thr d L) cc1_scratch9).symm) $$ Hs9
  ihave Hs10 := (Entails.of_eq (whole_some (F := F) (thr d L) cc1_scratch10).symm) $$ Hs10
  ihave Hs11 := (Entails.of_eq (whole_some (F := F) (thr d L) cc1_scratch11).symm) $$ Hs11
  ihave Hs4 := (rows_any (thr d L) (Memref.whole cc1_scratch4)) $$ Hs4
  ihave Hs5 := (rows_any (thr d L) (Memref.whole cc1_scratch5)) $$ Hs5
  ihave Hs10 := (rows_any (thr d L) (Memref.whole cc1_scratch10)) $$ Hs10
  ihave Hs10 := (Entails.of_eq (by_slot (fun s => RowAny (F := F) (thr d L) (Memref.whole cc1_scratch10) s))) $$ Hs10
  icases Hs10 with ⟨Hs10a, Hs10b, Hs10c⟩
  ihave Hs11 := (rows_any (thr d L) (Memref.whole cc1_scratch11)) $$ Hs11
  ihave Hs11 := (Entails.of_eq (by_slot (fun s => RowAny (F := F) (thr d L) (Memref.whole cc1_scratch11) s))) $$ Hs11
  icases Hs11 with ⟨Hs11a, Hs11b, Hs11c⟩
  ihave Hm0 := (Entails.of_eq (by_slot (fun s => (semVal (thr d L, SemLoc.dma (semAt cc1_scratch12 s)) 0 : sProp 𝕄)))) $$ Hm0
  icases Hm0 with ⟨Hm0a, Hm0b, Hm0c⟩
  ihave Hm1 := (Entails.of_eq (by_slot (fun s => (semVal (thr d L, SemLoc.dma (semAt cc1_scratch13 s)) 0 : sProp 𝕄)))) $$ Hm1
  icases Hm1 with ⟨Hm1a, Hm1b, Hm1c⟩
  ihave Hs0 := (some_flat d L (Memref.whole cc1_scratch0) (fun j => (flatB f4 j : Elt F .i32))) $$ Hs0
  ihave Hs1 := (some_flat d L (Memref.whole cc1_scratch1) (fun j => (flatR f5 j : Elt F .i32))) $$ Hs1
  ihave Hs2 := (some_flat d L (Memref.whole cc1_scratch2) (fun j => (flat f2 j : Elt F .i32))) $$ Hs2
  ihave Hs3 := (some_flat d L (Memref.whole cc1_scratch3) (fun j => (flat f3 j : Elt F .i32))) $$ Hs3
  ihave Hs6 := (some_flat d L (Memref.whole cc1_scratch6) (look (F := F) (flat f2) (flatB f4) (flatR f5) 0)) $$ Hs6
  ihave Hs7 := (some_flat d L (Memref.whole cc1_scratch7) (look (F := F) (flat f3) (flatB f4) (flatR f5) 0)) $$ Hs7
  ihave Hs8 := (some_flat d L (Memref.whole cc1_scratch8) (sdAt (F := F) (flat f2) (flat f3) (flatB f4) 0)) $$ Hs8
  ihave Hs9 := (some_flat d L (Memref.whole cc1_scratch9) (distAt (F := F) (flat f2) (flat f3) (flatX f6) (flatX f7) (flatX f8) 0)) $$ Hs9
  ihave Hi0 := (Entails.of_eq (whole_pts (F := F) (thr d L) main_v6_0_scv _ _).symm) $$ Hi0
  ihave Hi1 := (Entails.of_eq (whole_pts (F := F) (thr d L) main_v6_1_scv _ _).symm) $$ Hi1
  ihave Hi2 := (Entails.of_eq (whole_pts (F := F) (thr d L) main_v8_scv _ _).symm) $$ Hi2
  ihave Hi3 := (Entails.of_eq (whole_pts (F := F) (thr d L) main_v10_scv _ _).symm) $$ Hi3
  ihave Hi4 := (Entails.of_eq (whole_pts (F := F) (thr d L) main_v13_scv _ _).symm) $$ Hi4
  ihave Hi5 := (Entails.of_eq (whole_pts (F := F) (thr d L) main_v15_scv _ _).symm) $$ Hi5
  ihave Hi6 := (Entails.of_eq (whole_pts (F := F) (thr d L) main_v17_scv _ _).symm) $$ Hi6
  ihave Hi0 := (table_of d L (Memref.whole main_v6_0_scv) q f2 (fun j => (flat f2 j : Elt F .i32)) (fun x => (ofFlat_idx _ _ x).symm)) $$ Hi0
  ihave Hi1 := (table_of d L (Memref.whole main_v6_1_scv) q f3 (fun j => (flat f3 j : Elt F .i32)) (fun x => (ofFlat_idx _ _ x).symm)) $$ Hi1
  ihave Hi2 := (table_of d L (Memref.whole main_v8_scv) q f4 (fun j => (flatB f4 j : Elt F .i32)) (fun x => (ofFlat_idx _ _ x).symm)) $$ Hi2
  ihave Hi3 := (table_of d L (Memref.whole main_v10_scv) q f5 (fun j => (flatR f5 j : Elt F .i32)) (fun x => (ofFlat_idx _ _ x).symm)) $$ Hi3
  ihave Hi4 := (table_two d L (Memref.whole main_v13_scv) q f6 (flatX f6) (fun x => (ofFlat_idx _ _ x).symm)) $$ Hi4
  icases Hi4 with ⟨Hi4a, Hi4b⟩
  ihave Hi5 := (table_two d L (Memref.whole main_v15_scv) q f7 (flatX f7) (fun x => (ofFlat_idx _ _ x).symm)) $$ Hi5
  icases Hi5 with ⟨Hi5a, Hi5b⟩
  ihave Hi6 := (table_two d L (Memref.whole main_v17_scv) q f8 (flatX f8) (fun x => (ofFlat_idx _ _ x).symm)) $$ Hi6
  icases Hi6 with ⟨Hi6a, Hi6b⟩
  ihave Ho0 := (span_any d L (Memref.whole main_v18_0_scv) _ (look (F := F) (flat f2) (flatB f4) (flatR f5) 0) (lo L)) $$ Ho0
  ihave Ho1 := (span_any d L (Memref.whole main_v18_1_scv) _ (look (F := F) (flat f3) (flatB f4) (flatR f5) 0) (lo L)) $$ Ho1
  ihave Ho2 := (span_any d L (Memref.whole main_v18_2_scv) _ (sdAt (F := F) (flat f2) (flat f3) (flatB f4) 0) (lo L)) $$ Ho2
  ihave Ho3 := (span_any d L (Memref.whole main_v18_3_scv) _ (distAt (F := F) (flat f2) (flat f3) (flatX f6) (flatX f7) (flatX f8) 0) (lo L)) $$ Ho3
  isplitr [Hi2 Hi3 Hr0 Hr1]
  · unfold Between Bufs Dist Idle
    rw [bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep']
    isplitl [Hs4 Hs5 Hs10a Hs11a Hs10b Hs11b Hs10c Hs11c Hm0a Hm1a Hm0b Hm1b Hm0c Hm1c Hi4a Hi4b Hi5a Hi5b Hi6a Hi6b]
    · iframe Hs4 Hs5 Hs10a Hs11a Hs10b Hs11b Hs10c Hs11c Hm0a Hm1a Hm0b Hm1b Hm0c Hm1c Hi4a Hi4b Hi5a Hi5b Hi6a Hi6b
    isplitl [Hs6 Hs7 Hs8]
    · iframe Hs6 Hs7 Hs8
    iframe Hs9 Hs2 Hs3 Hs0 Hs1 Ho0 Ho1 Ho2 Ho3 Hr2 Hr3 Hr4 Hr5 Hr6 Hr7 Hi0 Hi1
  iframe Hi2 Hi3 Hr0 Hr1

set_option maxHeartbeats 4000000 in
set_option maxRecDepth 65536 in
/-- What the task holds after its last period is what it hands back. -/
theorem task_out : (iprop(Between (F := F) (Ix := Ix) (Name := Name) (U := U) (Lvl := Lvl) d L (Memref.whole main_v6_0_scv) (Memref.whole main_v6_1_scv) (Memref.whole main_v13_scv) (Memref.whole main_v15_scv) (Memref.whole main_v17_scv) (Memref.whole main_v18_0_scv) (Memref.whole main_v18_1_scv) (Memref.whole main_v18_2_scv) (Memref.whole main_v18_3_scv) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) cc1_scratch12 cc1_scratch13 cc1_scoped2 cc1_scoped3 cc1_scoped4 cc1_scoped5 cc1_scoped6 cc1_scoped7 (leaf 2 q.left) (leaf 2 q.right) f6 f7 f8 (flat f2) (flat f3) (flatB f4) (flatR f5) (flatX f6) (flatX f7) (flatX f8) q q f2 f3
    (tileSet (L 0).val (L 1).val) (tileSet (L 0).val (L 1).val) (tileSet (L 0).val (L 1).val) (tileSet (L 0).val (L 1).val) 50176 12512 25088
    ∗ Rows.Table (thr d L) (Memref.whole main_v8_scv) q f4 (fun j => (flatB f4 j : Elt F .i32)) ∗ Rows.Table (thr d L) (Memref.whole main_v10_scv) q f5 (fun j => (flatR f5 j : Elt F .i32))
    ∗ semVal (thr d L, SemLoc.dma cc1_scoped0.sem) 0 ∗ semVal (thr d L, SemLoc.dma cc1_scoped1.sem) 0) : sProp 𝕄) ⊢ iprop((Ops (F := F) d L q f2 f3 f4 f5 f6 f7 f8 ∗ ResAt (F := F) d L f2 f3 f4 f5 f6 f7 f8) ∗ BufsAny (F := F) d L ∗ Sems0 (F := F) d L) := by
  unfold Between Bufs Dist Idle Ops ResAt
  rw [bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep']
  iintro ⟨⟨⟨Hs4, Hs5, Hs10a, Hs11a, Hs10b, Hs11b, Hs10c, Hs11c, Hm0a, Hm1a, Hm0b, Hm1b, Hm0c, Hm1c, Hi4a, Hi4b, Hi5a, Hi5b, Hi6a, Hi6b⟩, ⟨Hs6, Hs7, Hs8⟩, Hs9, Hs2, Hs3, Hs0, Hs1, Ho0, Ho1, Ho2, Ho3, Hr2, Hr3, Hr4, Hr5, Hr6, Hr7, Hi0, Hi1⟩, Hi2, Hi3, Hr0, Hr1⟩
  ihave Hs10 := (Entails.of_eq (by_slot (fun s => RowAny (F := F) (thr d L) (Memref.whole cc1_scratch10) s)).symm) $$ [Hs10a Hs10b Hs10c]
  · iframe Hs10a Hs10b Hs10c
  ihave Hs11 := (Entails.of_eq (by_slot (fun s => RowAny (F := F) (thr d L) (Memref.whole cc1_scratch11) s)).symm) $$ [Hs11a Hs11b Hs11c]
  · iframe Hs11a Hs11b Hs11c
  ihave Hm0 := (Entails.of_eq (by_slot (fun s => (semVal (thr d L, SemLoc.dma (semAt cc1_scratch12 s)) 0 : sProp 𝕄))).symm) $$ [Hm0a Hm0b Hm0c]
  · iframe Hm0a Hm0b Hm0c
  ihave Hm1 := (Entails.of_eq (by_slot (fun s => (semVal (thr d L, SemLoc.dma (semAt cc1_scratch13 s)) 0 : sProp 𝕄))).symm) $$ [Hm1a Hm1b Hm1c]
  · iframe Hm1a Hm1b Hm1c
  ihave Hs4 := (any_rows (thr d L) (Memref.whole cc1_scratch4) (by decide)) $$ Hs4
  ihave Hs5 := (any_rows (thr d L) (Memref.whole cc1_scratch5) (by decide)) $$ Hs5
  ihave Hs10 := (any_rows (thr d L) (Memref.whole cc1_scratch10) (by decide)) $$ Hs10
  ihave Hs11 := (any_rows (thr d L) (Memref.whole cc1_scratch11) (by decide)) $$ Hs11
  ihave Hs0 := (flat_some d L (Memref.whole cc1_scratch0) _ _) $$ Hs0
  ihave Hs1 := (flat_some d L (Memref.whole cc1_scratch1) _ _) $$ Hs1
  ihave Hs2 := (flat_some d L (Memref.whole cc1_scratch2) _ _) $$ Hs2
  ihave Hs3 := (flat_some d L (Memref.whole cc1_scratch3) _ _) $$ Hs3
  ihave Hs6 := (flat_some d L (Memref.whole cc1_scratch6) _ _) $$ Hs6
  ihave Hs7 := (flat_some d L (Memref.whole cc1_scratch7) _ _) $$ Hs7
  ihave Hs8 := (flat_some d L (Memref.whole cc1_scratch8) _ _) $$ Hs8
  ihave Hs9 := (flat_some d L (Memref.whole cc1_scratch9) _ _) $$ Hs9
  ihave Hs0 := (Entails.of_eq (whole_some (F := F) (thr d L) cc1_scratch0)) $$ Hs0
  ihave Hs1 := (Entails.of_eq (whole_some (F := F) (thr d L) cc1_scratch1)) $$ Hs1
  ihave Hs2 := (Entails.of_eq (whole_some (F := F) (thr d L) cc1_scratch2)) $$ Hs2
  ihave Hs3 := (Entails.of_eq (whole_some (F := F) (thr d L) cc1_scratch3)) $$ Hs3
  ihave Hs4 := (Entails.of_eq (whole_some (F := F) (thr d L) cc1_scratch4)) $$ Hs4
  ihave Hs5 := (Entails.of_eq (whole_some (F := F) (thr d L) cc1_scratch5)) $$ Hs5
  ihave Hs6 := (Entails.of_eq (whole_some (F := F) (thr d L) cc1_scratch6)) $$ Hs6
  ihave Hs7 := (Entails.of_eq (whole_some (F := F) (thr d L) cc1_scratch7)) $$ Hs7
  ihave Hs8 := (Entails.of_eq (whole_some (F := F) (thr d L) cc1_scratch8)) $$ Hs8
  ihave Hs9 := (Entails.of_eq (whole_some (F := F) (thr d L) cc1_scratch9)) $$ Hs9
  ihave Hs10 := (Entails.of_eq (whole_some (F := F) (thr d L) cc1_scratch10)) $$ Hs10
  ihave Hs11 := (Entails.of_eq (whole_some (F := F) (thr d L) cc1_scratch11)) $$ Hs11
  ihave Hi0 := (of_table d L (Memref.whole main_v6_0_scv) q f2 _) $$ Hi0
  ihave Hi1 := (of_table d L (Memref.whole main_v6_1_scv) q f3 _) $$ Hi1
  ihave Hi2 := (of_table d L (Memref.whole main_v8_scv) q f4 _) $$ Hi2
  ihave Hi3 := (of_table d L (Memref.whole main_v10_scv) q f5 _) $$ Hi3
  ihave Hi4 := (two_table d L (Memref.whole main_v13_scv) q f6 (flatX f6)) $$ [Hi4a Hi4b]
  · iframe Hi4a Hi4b
  ihave Hi5 := (two_table d L (Memref.whole main_v15_scv) q f7 (flatX f7)) $$ [Hi5a Hi5b]
  · iframe Hi5a Hi5b
  ihave Hi6 := (two_table d L (Memref.whole main_v17_scv) q f8 (flatX f8)) $$ [Hi6a Hi6b]
  · iframe Hi6a Hi6b
  ihave Hi0 := (Entails.of_eq (whole_pts (F := F) (thr d L) main_v6_0_scv q f2)) $$ Hi0
  ihave Hi1 := (Entails.of_eq (whole_pts (F := F) (thr d L) main_v6_1_scv q f3)) $$ Hi1
  ihave Hi2 := (Entails.of_eq (whole_pts (F := F) (thr d L) main_v8_scv q f4)) $$ Hi2
  ihave Hi3 := (Entails.of_eq (whole_pts (F := F) (thr d L) main_v10_scv q f5)) $$ Hi3
  ihave Hi4 := (Entails.of_eq (whole_pts (F := F) (thr d L) main_v13_scv q f6)) $$ Hi4
  ihave Hi5 := (Entails.of_eq (whole_pts (F := F) (thr d L) main_v15_scv q f7)) $$ Hi5
  ihave Hi6 := (Entails.of_eq (whole_pts (F := F) (thr d L) main_v17_scv q f8)) $$ Hi6
  ihave Ho0 := (span_done0 d L (twice f2 f4 f5) _ (twice_look f2 f4 f5)) $$ Ho0
  ihave Ho1 := (span_done1 d L (twice f3 f4 f5) _ (twice_look f3 f4 f5)) $$ Ho1
  ihave Ho2 := (span_done2 d L (apart f2 f3 f4) _ (apart_sdAt f2 f3 f4)) $$ Ho2
  ihave Ho3 := (span_done3 d L (square f2 f3 f6 f7 f8) _ (square_distAt f2 f3 f6 f7 f8)) $$ Ho3
  isplitl [Hi0 Hi1 Hi2 Hi3 Hi4 Hi5 Hi6 Ho0 Ho1 Ho2 Ho3]
  · isplitl [Hi0 Hi1 Hi2 Hi3 Hi4 Hi5 Hi6]
    · iframe Hi0 Hi1 Hi2 Hi3 Hi4 Hi5 Hi6
    iframe Ho0 Ho1 Ho2 Ho3
  isplitl [Hs0 Hs1 Hs2 Hs3 Hs4 Hs5 Hs6 Hs7 Hs8 Hs9 Hs10 Hs11]
  · iframe Hs0 Hs1 Hs2 Hs3 Hs4 Hs5 Hs6 Hs7 Hs8 Hs9 Hs10 Hs11
  iframe Hm0 Hm1 Hr0 Hr1 Hr2 Hr3 Hr4 Hr5 Hr6 Hr7

set_option maxHeartbeats 4000000 in
set_option maxRecDepth 65536 in
/-- The task: the operands' shares kept, the results' parts at their values. -/
theorem task [EC.LandsIn (upEmb : UEmb _ 𝕄)] (hin2 : ∀ j, (f2 j).toNat < 50176) (hin3 : ∀ j, (f3 j).toNat < 50176) (hin4 : ∀ j, (f4 j).toNat < 12512) :
    iprop((Transfers.MayWaits (thr d L) ι O) ∗ (Ops (F := F) d L q f2 f3 f4 f5 f6 f7 f8 ∗ ResAny (F := F) d L)
        ∗ ownBufs (thr d L) ∗ ownSems0 (thr d L) ∗ owes (thr d L) O W)
      ⊢ wp frame (wpE defs 𝒱 (thr d L) bd) Set.univ
          (cc1__pass_cd L (Memref.whole main_v6_0_scv) (Memref.isWhole_whole _) (Memref.whole main_v6_1_scv) (Memref.isWhole_whole _) (Memref.whole main_v8_scv) (Memref.isWhole_whole _) (Memref.whole main_v10_scv) (Memref.isWhole_whole _) (Memref.whole main_v13_scv) (Memref.isWhole_whole _) (Memref.whole main_v15_scv) (Memref.isWhole_whole _) (Memref.whole main_v17_scv) (Memref.isWhole_whole _) (Memref.whole main_v18_0_scv) (Memref.isWhole_whole _) (Memref.whole main_v18_1_scv) (Memref.isWhole_whole _) (Memref.whole main_v18_2_scv) (Memref.isWhole_whole _) (Memref.whole main_v18_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scoped0 cc1_scoped1 cc1_scoped2 cc1_scoped3 cc1_scoped4 cc1_scoped5 cc1_scoped6 cc1_scoped7)
          fun _ => (iprop((Ops (F := F) d L q f2 f3 f4 f5 f6 f7 f8 ∗ ResAt (F := F) d L f2 f3 f4 f5 f6 f7 f8)
            ∗ ownBufs (thr d L) ∗ ownSems0 (thr d L) ∗ ∃ W', ⌜∀ p ∈ W', p ∈ W ∨ p.2 = ι⌝ ∗ owes (thr d L) O W') : sProp 𝕄) := by
  have hin2' : ∀ j, (flat f2 j).toNat < 50176 := by
    intro j
    unfold flat ofFlat
    split
    · exact hin2 _
    · decide
  have hin3' : ∀ j, (flat f3 j).toNat < 50176 := by
    intro j
    unfold flat ofFlat
    split
    · exact hin3 _
    · decide
  have hin4' : ∀ j, (flatB f4 j).toNat < 12512 := by
    intro j
    unfold flatB ofFlat
    split
    · exact hin4 _
    · decide
  rw [own_sems, own_bufs]
  iintro ⟨#Hmw, HP, ⟨Hs0, Hs1, Hs2, Hs3, Hs4, Hs5, Hs6, Hs7, Hs8, Hs9, Hs10, Hs11, Hbufs⟩, ⟨Hm, Hsems⟩, HO⟩
  ihave HB := (task_in (F := F) d L q f2 f3 f4 f5 f6 f7 f8) $$ [HP Hs0 Hs1 Hs2 Hs3 Hs4 Hs5 Hs6 Hs7 Hs8 Hs9 Hs10 Hs11 Hm]
  · isplitl [HP]; · iexact HP
    isplitr [Hm]
    · iframe Hs0 Hs1 Hs2 Hs3 Hs4 Hs5 Hs6 Hs7 Hs8 Hs9 Hs10 Hs11
    iexact Hm
  icases HB with ⟨HB, Ht2, Ht3, Hr0, Hr1⟩
  iapply (tile_run (defs := defs) EC 𝒱 d L bd (Memref.whole main_v6_0_scv) (Memref.whole main_v6_1_scv) (Memref.whole main_v8_scv) (Memref.whole main_v10_scv) (Memref.whole main_v13_scv) (Memref.whole main_v15_scv) (Memref.whole main_v17_scv) (Memref.whole main_v18_0_scv) (Memref.whole main_v18_1_scv) (Memref.whole main_v18_2_scv) (Memref.whole main_v18_3_scv) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) cc1_scratch12 cc1_scratch13 (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) cc1_scoped0 cc1_scoped1 cc1_scoped2 cc1_scoped3 cc1_scoped4 cc1_scoped5 cc1_scoped6 cc1_scoped7
    ι O W (leaf 2 q.left) (leaf 2 q.right) f6 f7 f8 (flat f2) (flat f3) (flatB f4) (flatR f5) (flatX f6) (flatX f7) (flatX f8) q q f2 f3
    (tileSet (L 0).val (L 1).val) (tileSet (L 0).val (L 1).val) (tileSet (L 0).val (L 1).val) (tileSet (L 0).val (L 1).val) q q f4 f5
    hin2' hin3' hin4' (slice_sub0 L) (slice_sub1 L) (slice_sub2 L) (slice_sub3 L)) $$ [HB Ht2 Ht3 Hr0 Hr1 HO]
  · iframe HB Ht2 Ht3 Hr0 Hr1
    isplitl [HO]
    · unfold Owing
      iexists W
      isplitr
      · ipureintro; exact fun p hp => Or.inl hp
      · iexact HO
    · iexact Hmw
  iintro ⟨HB, Ht2, Ht3, Hr0, Hr1, HO⟩
  ihave HB := (task_out (F := F) d L q f2 f3 f4 f5 f6 f7 f8) $$ [HB Ht2 Ht3 Hr0 Hr1]
  · iframe HB Ht2 Ht3 Hr0 Hr1
  icases HB with ⟨HP, ⟨Hs0, Hs1, Hs2, Hs3, Hs4, Hs5, Hs6, Hs7, Hs8, Hs9, Hs10, Hs11⟩, Hm⟩
  isplitl [HP]; · iexact HP
  isplitl [Hs0 Hs1 Hs2 Hs3 Hs4 Hs5 Hs6 Hs7 Hs8 Hs9 Hs10 Hs11 Hbufs]
  · iframe Hs0 Hs1 Hs2 Hs3 Hs4 Hs5 Hs6 Hs7 Hs8 Hs9 Hs10 Hs11 Hbufs
  isplitl [Hm Hsems]
  · iframe Hm Hsems
  unfold Owing
  iexact HO

end Cert.Proof.CdTwo
-- ==== Proof.Launch.lean ====
/-
  The launch's set-up: what the two calls' handshakes carry, a subcore's task from what it is handed, and the dealing of the
  operands' shares and the results' parts from each call to the SparseCores and from each to its subcores.
-/
module

public import proofs.«01_k».proof.Proof.CdTwoCall
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Tactic

@[expose] public section

noncomputable section

namespace Cert.Proof.Launch

open Cert.KernelIdeal Cert.KernelIdeal.Gen
open Idealize.ShloMosaic Idealize.ShloMosaic.ShareLeaves
open Idealize.ShloMosaic.SparseCore (S V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rows Cert.Proof.CdOne
open Cert.Proof.CdTwo (twice apart square)

variable {F : FTy → Type}

/-! ## The program as the launch theorem takes it -/

abbrev ΛP : Labels := Pipeline.Sig Λ₀ (Fin 0) fun p => (pcfgs (F := F) p).Adm
abbrev K : SparseCore.Cfg τ sig (ΛP (F := F)) 2 := sc (F := F)
theorem nCore_zero : (K (F := F)).nCore 0 = 2 := rfl
theorem nSub_zero : (K (F := F)).nSub 0 = 16 := rfl
theorem nCore_one : (K (F := F)).nCore 1 = 2 := rfl
theorem nSub_one : (K (F := F)).nSub 1 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

variable (m : (ℓ : Loc nD τ sig) → Buf (Elt F) ℓ) (ρ : Dev nD → PrngReg)

/-! ## The parts of a flat buffer -/

/-- The SparseCore an element falls to. -/
def gc (j : S802816.Idx) : Fin 2 := ⟨(j 0).val / 401408, by have h : (j 0).val < 802816 := (j 0).isLt; omega⟩
/-- The subcore an element falls to. -/
def gt (j : S802816.Idx) : Fin 16 := ⟨(j 0).val / 25088 % 16, Nat.mod_lt _ (by decide)⟩

/-- The elements that fall to SparseCore `c`. -/
abbrev ofCore (c : Fin 2) : Finset S802816.Idx := Finset.univ.filter fun j => gc j = c
/-- The elements that fall to subcore `i` of SparseCore `c`. -/
abbrev ofTile (c : Fin 2) (i : Fin 16) : Finset S802816.Idx := (ofCore c).filter fun j => gt j = i

theorem ofTile_eq (c : Fin 2) (i : Fin 16) : ofTile c i = tileSet c.val i.val := by
  ext j
  have h : (j 0).val < 802816 := (j 0).isLt
  have hc := c.isLt
  have hi := i.isLt
  simp only [ofTile, ofCore, tileSet, Finset.mem_filter, Finset.mem_univ, true_and, gc, gt, Fin.ext_iff]
  omega

/-! ## What the handshakes carry -/

variable (x2 x3 x4 x5 : Dev nD → S802816.Idx → BitVec 32)

/-- The operands at a share. -/
def OpsAt (d : Dev nD) (q : PosShare TreeShare) : sProp 𝕄 :=
  iprop(((SparseCore.T d).loc main_arg0 ↦{q} (x2 d : Buf (Elt F) ((SparseCore.T d).loc main_arg0))) ∗ ((SparseCore.T d).loc main_v1 ↦{q} (x3 d : Buf (Elt F) ((SparseCore.T d).loc main_v1)))
    ∗ ((SparseCore.T d).loc main_v3 ↦{q} (x4 d : Buf (Elt F) ((SparseCore.T d).loc main_v3))) ∗ ((SparseCore.T d).loc main_v5 ↦{q} (x5 d : Buf (Elt F) ((SparseCore.T d).loc main_v5))))

/-- A part of the results, whatever it holds. -/
def Res (d : Dev nD) (A : Finset S802816.Idx) : sProp 𝕄 :=
  iprop((∃ f : Buf (Elt F) ((SparseCore.T d).loc main_v6_0), (SparseCore.T d).loc main_v6_0 ↦[A]{fullShare} f)
    ∗ (∃ f : Buf (Elt F) ((SparseCore.T d).loc main_v6_1), (SparseCore.T d).loc main_v6_1 ↦[A]{fullShare} f)
    ∗ (∃ f : Buf (Elt F) ((SparseCore.T d).loc main_v6_2), (SparseCore.T d).loc main_v6_2 ↦[A]{fullShare} f))

/-- A part of the results at the gathered values. -/
def ResV (d : Dev nD) (A : Finset S802816.Idx) : sProp 𝕄 :=
  iprop(((SparseCore.T d).loc main_v6_0 ↦[A]{fullShare} (taken (x2 d) (x3 d) : Buf (Elt F) ((SparseCore.T d).loc main_v6_0)))
    ∗ ((SparseCore.T d).loc main_v6_1 ↦[A]{fullShare} (taken (x2 d) (x4 d) : Buf (Elt F) ((SparseCore.T d).loc main_v6_1)))
    ∗ ((SparseCore.T d).loc main_v6_2 ↦[A]{fullShare} (taken (x2 d) (x5 d) : Buf (Elt F) ((SparseCore.T d).loc main_v6_2))))

theorem opsAt_leaves (d : Dev nD) (n : ℕ) (q : PosShare TreeShare) :
    (OpsAt x2 x3 x4 x5 d q : sProp 𝕄) = bigSep Finset.univ fun i : Fin (2 ^ n) => OpsAt x2 x3 x4 x5 d (leaf n q i) := by
  unfold OpsAt
  rw [bigSep_sep', bigSep_sep', bigSep_sep', ← pointsTo_leaves, ← pointsTo_leaves, ← pointsTo_leaves, ← pointsTo_leaves]

theorem some_fibers {ℓ : Loc nD τ sig} (A : Finset (Idx ℓ)) {n : ℕ} (g : Idx ℓ → Fin n) :
    (iprop(∃ f : Buf (Elt F) ℓ, ℓ ↦[A]{fullShare} f) : sProp 𝕄)
      ⊢ bigSep Finset.univ fun k : Fin n => iprop(∃ f : Buf (Elt F) ℓ, ℓ ↦[A.filter fun i => g i = k]{fullShare} f) := by
  iintro ⟨%f, H⟩
  ihave H := (Entails.of_eq (pts_fibers A g fullShare f)) $$ H
  have h : ∀ k ∈ (Finset.univ : Finset (Fin n)), (iprop(ℓ ↦[A.filter fun i => g i = k]{fullShare} f) : sProp 𝕄)
      ⊢ iprop(∃ f : Buf (Elt F) ℓ, ℓ ↦[A.filter fun i => g i = k]{fullShare} f) := by
    intro k _
    iintro H
    iexists f; iexact H
  iapply (show (bigSep Finset.univ fun k : Fin n => (iprop(ℓ ↦[A.filter fun i => g i = k]{fullShare} f) : sProp 𝕄))
    ⊢ bigSep Finset.univ fun k : Fin n => iprop(∃ f : Buf (Elt F) ℓ, ℓ ↦[A.filter fun i => g i = k]{fullShare} f) from bigSep_mono h) $$ H

theorem res_fibers (d : Dev nD) (A : Finset S802816.Idx) {n : ℕ} (g : S802816.Idx → Fin n) :
    (Res d A : sProp 𝕄) ⊢ bigSep Finset.univ fun k : Fin n => Res d (A.filter fun j => g j = k) := by
  unfold Res
  rw [bigSep_sep', bigSep_sep']
  iintro ⟨H0, H1, H2⟩
  isplitl [H0]; · iapply (some_fibers (ℓ := (SparseCore.T d).loc main_v6_0) A g) $$ H0
  isplitl [H1]; · iapply (some_fibers (ℓ := (SparseCore.T d).loc main_v6_1) A g) $$ H1
  iapply (some_fibers (ℓ := (SparseCore.T d).loc main_v6_2) A g) $$ H2

theorem resV_fibers (d : Dev nD) (A : Finset S802816.Idx) {n : ℕ} (g : S802816.Idx → Fin n) :
    (ResV x2 x3 x4 x5 d A : sProp 𝕄) = bigSep Finset.univ fun k : Fin n => ResV x2 x3 x4 x5 d (A.filter fun j => g j = k) := by
  unfold ResV
  rw [bigSep_sep', bigSep_sep', pts_fibers (ℓ := (SparseCore.T d).loc main_v6_0) A g fullShare (taken (x2 d) (x3 d)),
    pts_fibers (ℓ := (SparseCore.T d).loc main_v6_1) A g fullShare (taken (x2 d) (x4 d)),
    pts_fibers (ℓ := (SparseCore.T d).loc main_v6_2) A g fullShare (taken (x2 d) (x5 d))]
  rfl

variable (z2 z3 : Dev nD → S802816.Idx → BitVec 32) (z4 : Dev nD → S50176.Idx → BitVec 32) (z5 : Dev nD → S12512.Idx → BitVec 32)
variable (z6 z7 z8 : Dev nD → S50176.Idx → F .f32)

/-- The second call's operands at a share. -/
def OpsTwo (d : Dev nD) (q : PosShare TreeShare) : sProp 𝕄 :=
  iprop(((SparseCore.T d).loc main_v6_0 ↦{q} (z2 d : Buf (Elt F) ((SparseCore.T d).loc main_v6_0))) ∗ ((SparseCore.T d).loc main_v6_1 ↦{q} (z3 d : Buf (Elt F) ((SparseCore.T d).loc main_v6_1))) ∗ ((SparseCore.T d).loc main_v8 ↦{q} (z4 d : Buf (Elt F) ((SparseCore.T d).loc main_v8))) ∗ ((SparseCore.T d).loc main_v10 ↦{q} (z5 d : Buf (Elt F) ((SparseCore.T d).loc main_v10))) ∗ ((SparseCore.T d).loc main_v13 ↦{q} (z6 d : Buf (Elt F) ((SparseCore.T d).loc main_v13))) ∗ ((SparseCore.T d).loc main_v15 ↦{q} (z7 d : Buf (Elt F) ((SparseCore.T d).loc main_v15))) ∗ ((SparseCore.T d).loc main_v17 ↦{q} (z8 d : Buf (Elt F) ((SparseCore.T d).loc main_v17))))

/-- A part of the second call's results, whatever it holds. -/
def ResTwo (d : Dev nD) (A : Finset S802816.Idx) : sProp 𝕄 :=
  iprop((∃ f : Buf (Elt F) ((SparseCore.T d).loc main_v18_0), (SparseCore.T d).loc main_v18_0 ↦[A]{fullShare} f) ∗ (∃ f : Buf (Elt F) ((SparseCore.T d).loc main_v18_1), (SparseCore.T d).loc main_v18_1 ↦[A]{fullShare} f) ∗ (∃ f : Buf (Elt F) ((SparseCore.T d).loc main_v18_2), (SparseCore.T d).loc main_v18_2 ↦[A]{fullShare} f) ∗ (∃ f : Buf (Elt F) ((SparseCore.T d).loc main_v18_3), (SparseCore.T d).loc main_v18_3 ↦[A]{fullShare} f))

/-- A part of the second call's results at their values. -/
def ResVTwo [FloatOps F] (d : Dev nD) (A : Finset S802816.Idx) : sProp 𝕄 :=
  iprop(((SparseCore.T d).loc main_v18_0 ↦[A]{fullShare} (twice (z2 d) (z4 d) (z5 d) : Buf (Elt F) ((SparseCore.T d).loc main_v18_0))) ∗ ((SparseCore.T d).loc main_v18_1 ↦[A]{fullShare} (twice (z3 d) (z4 d) (z5 d) : Buf (Elt F) ((SparseCore.T d).loc main_v18_1))) ∗ ((SparseCore.T d).loc main_v18_2 ↦[A]{fullShare} (apart (z2 d) (z3 d) (z4 d) : Buf (Elt F) ((SparseCore.T d).loc main_v18_2))) ∗ ((SparseCore.T d).loc main_v18_3 ↦[A]{fullShare} (square (z2 d) (z3 d) (z6 d) (z7 d) (z8 d) : Buf (Elt F) ((SparseCore.T d).loc main_v18_3))))

theorem opsTwo_leaves (d : Dev nD) (n : ℕ) (q : PosShare TreeShare) :
    (OpsTwo z2 z3 z4 z5 z6 z7 z8 d q : sProp 𝕄) = bigSep Finset.univ fun i : Fin (2 ^ n) => OpsTwo z2 z3 z4 z5 z6 z7 z8 d (leaf n q i) := by
  unfold OpsTwo
  rw [bigSep_sep', bigSep_sep', bigSep_sep', bigSep_sep', bigSep_sep', bigSep_sep', ← pointsTo_leaves, ← pointsTo_leaves, ← pointsTo_leaves, ← pointsTo_leaves, ← pointsTo_leaves, ← pointsTo_leaves, ← pointsTo_leaves]

theorem resTwo_fibers (d : Dev nD) (A : Finset S802816.Idx) {n : ℕ} (g : S802816.Idx → Fin n) :
    (ResTwo d A : sProp 𝕄) ⊢ bigSep Finset.univ fun k : Fin n => ResTwo d (A.filter fun j => g j = k) := by
  unfold ResTwo
  rw [bigSep_sep', bigSep_sep', bigSep_sep']
  iintro ⟨H0, H1, H2, H3⟩
  isplitl [H0]; · iapply (some_fibers (ℓ := (SparseCore.T d).loc main_v18_0) A g) $$ H0
  isplitl [H1]; · iapply (some_fibers (ℓ := (SparseCore.T d).loc main_v18_1) A g) $$ H1
  isplitl [H2]; · iapply (some_fibers (ℓ := (SparseCore.T d).loc main_v18_2) A g) $$ H2
  iapply (some_fibers (ℓ := (SparseCore.T d).loc main_v18_3) A g) $$ H3

theorem resVTwo_fibers [FloatOps F] (d : Dev nD) (A : Finset S802816.Idx) {n : ℕ} (g : S802816.Idx → Fin n) :
    (ResVTwo z2 z3 z4 z5 z6 z7 z8 d A : sProp 𝕄) = bigSep Finset.univ fun k : Fin n => ResVTwo z2 z3 z4 z5 z6 z7 z8 d (A.filter fun j => g j = k) := by
  unfold ResVTwo
  rw [bigSep_sep', bigSep_sep', bigSep_sep', pts_fibers (ℓ := (SparseCore.T d).loc main_v18_0) A g fullShare (twice (z2 d) (z4 d) (z5 d)), pts_fibers (ℓ := (SparseCore.T d).loc main_v18_1) A g fullShare (twice (z3 d) (z4 d) (z5 d)), pts_fibers (ℓ := (SparseCore.T d).loc main_v18_2) A g fullShare (apart (z2 d) (z3 d) (z4 d)), pts_fibers (ℓ := (SparseCore.T d).loc main_v18_3) A g fullShare (square (z2 d) (z3 d) (z6 d) (z7 d) (z8 d))]
  rfl

variable [FloatOps F]

/-- Each call takes its operands and its results; each SparseCore half a share of the operands and its part of the
    results, each of its subcores a sixteenth of that. The results come back at their values. -/
def P : (K (F := F)).Pay (nD := nD) (Val := Elt F) (Name := ℕ) (U := UU) where
  st := fun q d c => match q with
    | 0 => iprop(OpsAt x2 x3 x4 x5 d (leaf 1 fullShare (Fin.cast nCore_zero c)) ∗ Res d (ofCore (Fin.cast nCore_zero c)))
    | 1 => iprop(OpsTwo z2 z3 z4 z5 z6 z7 z8 d (leaf 1 fullShare (Fin.cast nCore_one c)) ∗ ResTwo d (ofCore (Fin.cast nCore_one c)))
  dn := fun q d c => match q with
    | 0 => iprop(OpsAt x2 x3 x4 x5 d (leaf 1 fullShare (Fin.cast nCore_zero c)) ∗ ResV x2 x3 x4 x5 d (ofCore (Fin.cast nCore_zero c)))
    | 1 => iprop(OpsTwo z2 z3 z4 z5 z6 z7 z8 d (leaf 1 fullShare (Fin.cast nCore_one c)) ∗ ResVTwo z2 z3 z4 z5 z6 z7 z8 d (ofCore (Fin.cast nCore_one c)))
  go := fun q d c i => match q with
    | 0 => iprop(OpsAt x2 x3 x4 x5 d (leaf 4 (leaf 1 fullShare (Fin.cast nCore_zero c)) (Fin.cast nSub_zero i))
        ∗ Res d (ofTile (Fin.cast nCore_zero c) (Fin.cast nSub_zero i)))
    | 1 => iprop(OpsTwo z2 z3 z4 z5 z6 z7 z8 d (leaf 4 (leaf 1 fullShare (Fin.cast nCore_one c)) (Fin.cast nSub_one i))
        ∗ ResTwo d (ofTile (Fin.cast nCore_one c) (Fin.cast nSub_one i)))
  td := fun q d c i => match q with
    | 0 => iprop(OpsAt x2 x3 x4 x5 d (leaf 4 (leaf 1 fullShare (Fin.cast nCore_zero c)) (Fin.cast nSub_zero i))
        ∗ ResV x2 x3 x4 x5 d (ofTile (Fin.cast nCore_zero c) (Fin.cast nSub_zero i)))
    | 1 => iprop(OpsTwo z2 z3 z4 z5 z6 z7 z8 d (leaf 4 (leaf 1 fullShare (Fin.cast nCore_one c)) (Fin.cast nSub_one i))
        ∗ ResVTwo z2 z3 z4 z5 z6 z7 z8 d (ofTile (Fin.cast nCore_one c) (Fin.cast nSub_one i)))
  x := fun _ _ => iprop(emp)

instance storable_ops (d : Dev nD) (q : PosShare TreeShare) : BI.Storable (upEmb : UEmb _ 𝕄) (OpsAt x2 x3 x4 x5 d q) := by
  unfold OpsAt; infer_instance
instance storable_res (d : Dev nD) (A : Finset S802816.Idx) : BI.Storable (upEmb : UEmb _ 𝕄) (Res d A) := by
  unfold Res; infer_instance
instance storable_resV (d : Dev nD) (A : Finset S802816.Idx) : BI.Storable (upEmb : UEmb _ 𝕄) (ResV x2 x3 x4 x5 d A) := by
  unfold ResV; infer_instance

instance storable_opsTwo (d : Dev nD) (q : PosShare TreeShare) : BI.Storable (upEmb : UEmb _ 𝕄) (OpsTwo z2 z3 z4 z5 z6 z7 z8 d q) := by
  unfold OpsTwo; infer_instance
set_option synthInstance.maxHeartbeats 200000 in
set_option maxHeartbeats 1000000 in
instance storable_resTwo (d : Dev nD) (A : Finset S802816.Idx) : BI.Storable (upEmb : UEmb _ 𝕄) (ResTwo d A) := by
  unfold ResTwo; infer_instance
instance storable_resVTwo (d : Dev nD) (A : Finset S802816.Idx) : BI.Storable (upEmb : UEmb _ 𝕄) (ResVTwo z2 z3 z4 z5 z6 z7 z8 d A) := by
  unfold ResVTwo; infer_instance

instance P_storable : (P (F := F) x2 x3 x4 x5 z2 z3 z4 z5 z6 z7 z8).IsStorable where
  st q d c := match q with
    | 0 => (inferInstance : BI.Storable (upEmb : UEmb _ 𝕄)
      iprop(OpsAt x2 x3 x4 x5 d (leaf 1 fullShare (Fin.cast nCore_zero c)) ∗ Res d (ofCore (Fin.cast nCore_zero c))))
    | 1 => (inferInstance : BI.Storable (upEmb : UEmb _ 𝕄)
      iprop(OpsTwo z2 z3 z4 z5 z6 z7 z8 d (leaf 1 fullShare (Fin.cast nCore_one c)) ∗ ResTwo d (ofCore (Fin.cast nCore_one c))))
  dn q d c := match q with
    | 0 => (inferInstance : BI.Storable (upEmb : UEmb _ 𝕄)
      iprop(OpsAt x2 x3 x4 x5 d (leaf 1 fullShare (Fin.cast nCore_zero c)) ∗ ResV x2 x3 x4 x5 d (ofCore (Fin.cast nCore_zero c))))
    | 1 => (inferInstance : BI.Storable (upEmb : UEmb _ 𝕄)
      iprop(OpsTwo z2 z3 z4 z5 z6 z7 z8 d (leaf 1 fullShare (Fin.cast nCore_one c)) ∗ ResVTwo z2 z3 z4 z5 z6 z7 z8 d (ofCore (Fin.cast nCore_one c))))
  go q d c i := match q with
    | 0 => (inferInstance : BI.Storable (upEmb : UEmb _ 𝕄)
      iprop(OpsAt x2 x3 x4 x5 d (leaf 4 (leaf 1 fullShare (Fin.cast nCore_zero c)) (Fin.cast nSub_zero i))
        ∗ Res d (ofTile (Fin.cast nCore_zero c) (Fin.cast nSub_zero i))))
    | 1 => (inferInstance : BI.Storable (upEmb : UEmb _ 𝕄)
      iprop(OpsTwo z2 z3 z4 z5 z6 z7 z8 d (leaf 4 (leaf 1 fullShare (Fin.cast nCore_one c)) (Fin.cast nSub_one i))
        ∗ ResTwo d (ofTile (Fin.cast nCore_one c) (Fin.cast nSub_one i))))
  td q d c i := match q with
    | 0 => (inferInstance : BI.Storable (upEmb : UEmb _ 𝕄)
      iprop(OpsAt x2 x3 x4 x5 d (leaf 4 (leaf 1 fullShare (Fin.cast nCore_zero c)) (Fin.cast nSub_zero i))
        ∗ ResV x2 x3 x4 x5 d (ofTile (Fin.cast nCore_zero c) (Fin.cast nSub_zero i))))
    | 1 => (inferInstance : BI.Storable (upEmb : UEmb _ 𝕄)
      iprop(OpsTwo z2 z3 z4 z5 z6 z7 z8 d (leaf 4 (leaf 1 fullShare (Fin.cast nCore_one c)) (Fin.cast nSub_one i))
        ∗ ResVTwo z2 z3 z4 z5 z6 z7 z8 d (ofTile (Fin.cast nCore_one c) (Fin.cast nSub_one i))))

/-! ## A subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pass_cd1 (coordsV c s) (Memref.whole main_arg0_scv) (Memref.isWhole_whole _) (Memref.whole main_v1_scv) (Memref.isWhole_whole _) (Memref.whole main_v3_scv) (Memref.isWhole_whole _) (Memref.whole main_v5_scv) (Memref.isWhole_whole _) (Memref.whole main_v6_0_scv) (Memref.isWhole_whole _) (Memref.whole main_v6_1_scv) (Memref.isWhole_whole _) (Memref.whole main_v6_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3) ⟨⟩ c s := rfl

theorem tile_body (hF : (K (F := F)).Facts) (hin : ∀ d j, (x2 d j).toNat < 802816) (d : Dev nD) (c : Fin (grid0.bound 0)) (i : Fin (grid0.bound 1))
    (O : CellTallies nD τ sig (HIx 2)) (W : Waits sig (HIx 2)) (hO : ∀ g, O g none = 0) :
    iprop(levAts (K (F := F)).L (K (F := F)).lev ∗ emp
        ∗ (OpsAt x2 x3 x4 x5 d (leaf 4 (leaf 1 fullShare (⟨c.val, c.isLt⟩ : Fin 2)) (⟨i.val, i.isLt⟩ : Fin 16))
          ∗ Res d (ofTile ⟨c.val, c.isLt⟩ ⟨i.val, i.isLt⟩))
        ∗ scopedBufs (V d (c.castLE hcore0) (i.castLE hsub0)) ∗ scopedSems0 (V d (c.castLE hcore0) (i.castLE hsub0)) ∗ owes (V d (c.castLE hcore0) (i.castLE hsub0)) O W)
      ⊢ (wp frame (wpE defs₀ 𝒱₀ (V d (c.castLE hcore0) (i.castLE hsub0)) none) Set.univ (cc0__pass_cd1 (coordsV c i) (Memref.whole main_arg0_scv) (Memref.isWhole_whole _) (Memref.whole main_v1_scv) (Memref.isWhole_whole _) (Memref.whole main_v3_scv) (Memref.isWhole_whole _) (Memref.whole main_v5_scv) (Memref.isWhole_whole _) (Memref.whole main_v6_0_scv) (Memref.isWhole_whole _) (Memref.whole main_v6_1_scv) (Memref.isWhole_whole _) (Memref.whole main_v6_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1 cc0_scoped2 cc0_scoped3)
          fun _ => iprop((OpsAt x2 x3 x4 x5 d (leaf 4 (leaf 1 fullShare (⟨c.val, c.isLt⟩ : Fin 2)) (⟨i.val, i.isLt⟩ : Fin 16))
              ∗ ResV x2 x3 x4 x5 d (ofTile ⟨c.val, c.isLt⟩ ⟨i.val, i.isLt⟩))
            ∗ scopedBufs (V d (c.castLE hcore0) (i.castLE hsub0)) ∗ scopedSems0 (V d (c.castLE hcore0) (i.castLE hsub0))
            ∗ ∃ W', ⌜∀ p ∈ W', p ∈ W ∨ p.2 = none⌝ ∗ owes (V d (c.castLE hcore0) (i.castLE hsub0)) O W') : sProp 𝕄) := by
  rw [(K (F := F)).scopedBufs_V hF d (c.castLE hcore0) (i.castLE hsub0), SparseCore.Cfg.scopedSems0_V (Val := Elt F) d (c.castLE hcore0) (i.castLE hsub0),
    ofTile_eq]
  have h := task (F := F) (defs := defs₀) (countersEmb : UEmb Counters (MT nD τ sig (HIx 2) (Elt F) ℕ UU ℕ)) 𝒱₀ d (coordsV c i) none (leaf 4 (leaf 1 fullShare (⟨c.val, c.isLt⟩ : Fin 2)) (⟨i.val, i.isLt⟩ : Fin 16))
    (x2 d) (x3 d) (x4 d) (x5 d) (default : HIx 2) O W (hin d)
  iintro ⟨Hlv, -, HP, Hb, Hs, HO⟩
  ihave Hmw := ((K (F := F)).mayWaits_none (thr := V d (c.castLE hcore0) (i.castLE hsub0)) hO) $$ Hlv
  iapply h $$ [Hmw HP Hb Hs HO]
  isplitl [Hmw]; · iexact Hmw
  isplitl [HP]; · iexact HP
  iframe Hb Hs HO

def coordsTwo (c : Fin (grid1.bound 0)) (s : Fin (grid1.bound 1)) : grid1.Coords :=
  fun | 0 => c | 1 => s | ⟨_ + 2, h⟩ => absurd h (Nat.not_lt.2 (Nat.le_add_left _ _))

theorem defs₀_vectorTwo (c : Fin τ.nSC) (s : Fin τ.nSub) :
    defs₀ (F := F) (.scVector c s) 1 ()
      = SparseCore.onTile hcore1 hsub1 (fun c s => cc1__pass_cd (coordsTwo c s) (Memref.whole main_v6_0_scv) (Memref.isWhole_whole _) (Memref.whole main_v6_1_scv) (Memref.isWhole_whole _) (Memref.whole main_v8_scv) (Memref.isWhole_whole _) (Memref.whole main_v10_scv) (Memref.isWhole_whole _) (Memref.whole main_v13_scv) (Memref.isWhole_whole _) (Memref.whole main_v15_scv) (Memref.isWhole_whole _) (Memref.whole main_v17_scv) (Memref.isWhole_whole _) (Memref.whole main_v18_0_scv) (Memref.isWhole_whole _) (Memref.whole main_v18_1_scv) (Memref.isWhole_whole _) (Memref.whole main_v18_2_scv) (Memref.isWhole_whole _) (Memref.whole main_v18_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scoped0 cc1_scoped1 cc1_scoped2 cc1_scoped3 cc1_scoped4 cc1_scoped5 cc1_scoped6 cc1_scoped7) ⟨⟩ c s := rfl

theorem tile_bodyTwo (hF : (K (F := F)).Facts) (hin2 : ∀ d j, (z2 d j).toNat < 50176) (hin3 : ∀ d j, (z3 d j).toNat < 50176) (hin4 : ∀ d j, (z4 d j).toNat < 12512) (d : Dev nD) (c : Fin (grid1.bound 0)) (i : Fin (grid1.bound 1))
    (O : CellTallies nD τ sig (HIx 2)) (W : Waits sig (HIx 2)) (hO : ∀ g, O g none = 0) :
    iprop(levAts (K (F := F)).L (K (F := F)).lev ∗ emp
        ∗ (OpsTwo z2 z3 z4 z5 z6 z7 z8 d (leaf 4 (leaf 1 fullShare (⟨c.val, c.isLt⟩ : Fin 2)) (⟨i.val, i.isLt⟩ : Fin 16))
          ∗ ResTwo d (ofTile ⟨c.val, c.isLt⟩ ⟨i.val, i.isLt⟩))
        ∗ scopedBufs (V d (c.castLE hcore1) (i.castLE hsub1)) ∗ scopedSems0 (V d (c.castLE hcore1) (i.castLE hsub1)) ∗ owes (V d (c.castLE hcore1) (i.castLE hsub1)) O W)
      ⊢ (wp frame (wpE defs₀ 𝒱₀ (V d (c.castLE hcore1) (i.castLE hsub1)) none) Set.univ (cc1__pass_cd (coordsTwo c i) (Memref.whole main_v6_0_scv) (Memref.isWhole_whole _) (Memref.whole main_v6_1_scv) (Memref.isWhole_whole _) (Memref.whole main_v8_scv) (Memref.isWhole_whole _) (Memref.whole main_v10_scv) (Memref.isWhole_whole _) (Memref.whole main_v13_scv) (Memref.isWhole_whole _) (Memref.whole main_v15_scv) (Memref.isWhole_whole _) (Memref.whole main_v17_scv) (Memref.isWhole_whole _) (Memref.whole main_v18_0_scv) (Memref.isWhole_whole _) (Memref.whole main_v18_1_scv) (Memref.isWhole_whole _) (Memref.whole main_v18_2_scv) (Memref.isWhole_whole _) (Memref.whole main_v18_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scoped0 cc1_scoped1 cc1_scoped2 cc1_scoped3 cc1_scoped4 cc1_scoped5 cc1_scoped6 cc1_scoped7)
          fun _ => iprop((OpsTwo z2 z3 z4 z5 z6 z7 z8 d (leaf 4 (leaf 1 fullShare (⟨c.val, c.isLt⟩ : Fin 2)) (⟨i.val, i.isLt⟩ : Fin 16))
              ∗ ResVTwo z2 z3 z4 z5 z6 z7 z8 d (ofTile ⟨c.val, c.isLt⟩ ⟨i.val, i.isLt⟩))
            ∗ scopedBufs (V d (c.castLE hcore1) (i.castLE hsub1)) ∗ scopedSems0 (V d (c.castLE hcore1) (i.castLE hsub1))
            ∗ ∃ W', ⌜∀ p ∈ W', p ∈ W ∨ p.2 = none⌝ ∗ owes (V d (c.castLE hcore1) (i.castLE hsub1)) O W') : sProp 𝕄) := by
  rw [(K (F := F)).scopedBufs_V hF d (c.castLE hcore1) (i.castLE hsub1), SparseCore.Cfg.scopedSems0_V (Val := Elt F) d (c.castLE hcore1) (i.castLE hsub1),
    ofTile_eq]
  have h := Cert.Proof.CdTwo.task (F := F) (defs := defs₀) (countersEmb : UEmb Counters (MT nD τ sig (HIx 2) (Elt F) ℕ UU ℕ)) 𝒱₀ d (coordsTwo c i) none (leaf 4 (leaf 1 fullShare (⟨c.val, c.isLt⟩ : Fin 2)) (⟨i.val, i.isLt⟩ : Fin 16))
    (z2 d) (z3 d) (z4 d) (z5 d) (z6 d) (z7 d) (z8 d) (default : HIx 2) O W (hin2 d) (hin3 d) (hin4 d)
  iintro ⟨Hlv, -, HP, Hb, Hs, HO⟩
  ihave Hmw := ((K (F := F)).mayWaits_none (thr := V d (c.castLE hcore1) (i.castLE hsub1)) hO) $$ Hlv
  iapply h $$ [Hmw HP Hb Hs HO]
  isplitl [Hmw]; · iexact Hmw
  isplitl [HP]; · iexact HP
  iframe Hb Hs HO

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hin : ∀ d j, (x2 d j).toNat < 802816) :
    (K (F := F)).TileObl (D (F := F)) 𝒱 (P x2 x3 x4 x5 z2 z3 z4 z5 z6 z7 z8) v₀ 0 := by
  intro d c i O W hO _ _
  simp only [show (P (F := F) x2 x3 x4 x5 z2 z3 z4 z5 z6 z7 z8).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body x2 x3 x4 x5 hF hin d ⟨_, hci.1⟩ ⟨_, hci.2⟩ O W hO).trans (wp_mono frame _ _ fun _ => obl_post)

set_option maxRecDepth 16384 in
theorem tileOblTwo (hF : (K (F := F)).Facts) (hin2 : ∀ d j, (z2 d j).toNat < 50176) (hin3 : ∀ d j, (z3 d j).toNat < 50176) (hin4 : ∀ d j, (z4 d j).toNat < 12512) :
    (K (F := F)).TileObl (D (F := F)) 𝒱 (P x2 x3 x4 x5 z2 z3 z4 z5 z6 z7 z8) v₀ 1 := by
  intro d c i O W hO _ _
  simp only [show (P (F := F) x2 x3 x4 x5 z2 z3 z4 z5 z6 z7 z8).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vectorTwo]; simp only [SparseCore.onTile, hci, and_self, ↓reduceDIte]
  exact (tile_bodyTwo z2 z3 z4 z5 z6 z7 z8 hF hin2 hin3 hin4 d ⟨_, hci.1⟩ ⟨_, hci.2⟩ O W hO).trans (wp_mono frame _ _ fun _ => obl_post)

/-! ## The dealing -/

omit [FloatOps F] in
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem tiles_ops (d : Dev nD) (q : PosShare TreeShare) :
    (OpsAt x2 x3 x4 x5 d q : sProp 𝕄) = bigSep Finset.univ fun i : Fin 16 => OpsAt x2 x3 x4 x5 d (leaf 4 q i) :=
  opsAt_leaves x2 x3 x4 x5 d 4 q

omit [FloatOps F] in
theorem cores_ops (d : Dev nD) (q : PosShare TreeShare) :
    (OpsAt x2 x3 x4 x5 d q : sProp 𝕄) = bigSep Finset.univ fun c : Fin 2 => OpsAt x2 x3 x4 x5 d (leaf 1 q c) :=
  opsAt_leaves x2 x3 x4 x5 d 1 q

theorem vecSplit : (K (F := F)).VecSplit' (P x2 x3 x4 x5 z2 z3 z4 z5 z6 z7 z8) 0 := by
  intro d c
  have key : ∀ c' : Fin 2, iprop(OpsAt x2 x3 x4 x5 d (leaf 1 fullShare c') ∗ Res d (ofCore c')) ⊢ (|={Set.univ}=> iprop(
      (bigSep Finset.univ fun i : Fin 16 => iprop(OpsAt x2 x3 x4 x5 d (leaf 4 (leaf 1 fullShare c') i) ∗ Res d (ofTile c' i)))
      ∗ ((bigSep Finset.univ fun i : Fin 16 => iprop(OpsAt x2 x3 x4 x5 d (leaf 4 (leaf 1 fullShare c') i) ∗ ResV x2 x3 x4 x5 d (ofTile c' i)))
          -∗ iprop(OpsAt x2 x3 x4 x5 d (leaf 1 fullShare c') ∗ ResV x2 x3 x4 x5 d (ofCore c')))) : sProp 𝕄) := by
    intro c'
    rw [bigSep_sep', bigSep_sep', ← tiles_ops x2 x3 x4 x5 d (leaf 1 fullShare c'), ← resV_fibers x2 x3 x4 x5 d (ofCore c') gt]
    iintro ⟨Ho, Hr⟩
    imodintro
    isplitl [Ho Hr]
    · isplitl [Ho]; · iexact Ho
      iapply (res_fibers d (ofCore c') gt) $$ Hr
    iintro H
    iexact H
  have hg := over_subs (F := F) (fun i => iprop(OpsAt x2 x3 x4 x5 d (leaf 4 (leaf 1 fullShare (Fin.cast nCore_zero c)) i) ∗ Res d (ofTile (Fin.cast nCore_zero c) i)))
  have ht := over_subs (F := F) (fun i => iprop(OpsAt x2 x3 x4 x5 d (leaf 4 (leaf 1 fullShare (Fin.cast nCore_zero c)) i) ∗ ResV x2 x3 x4 x5 d (ofTile (Fin.cast nCore_zero c) i)))
  have h := key (Fin.cast nCore_zero c)
  rw [← hg, ← ht] at h
  exact h

theorem st0_eq (d : Dev nD) : (iprop(OpsAt x2 x3 x4 x5 d fullShare ∗ Res d Finset.univ) : sProp 𝕄)
    ⊢ bigSep Finset.univ fun c : Fin ((K (F := F)).nCore 0) => (P x2 x3 x4 x5 z2 z3 z4 z5 z6 z7 z8).st 0 d c := by
  show _ ⊢ bigSep Finset.univ fun c : Fin ((K (F := F)).nCore 0) =>
    iprop(OpsAt x2 x3 x4 x5 d (leaf 1 fullShare (Fin.cast nCore_zero c)) ∗ Res d (ofCore (Fin.cast nCore_zero c)))
  rw [over_cores (F := F) (fun c => iprop(OpsAt x2 x3 x4 x5 d (leaf 1 fullShare c) ∗ Res d (ofCore c))), bigSep_sep',
    ← cores_ops x2 x3 x4 x5 d fullShare]
  iintro ⟨Ho, Hr⟩
  isplitl [Ho]; · iexact Ho
  iapply (res_fibers d Finset.univ gc) $$ Hr

theorem dn0_eq (d : Dev nD) : (bigSep Finset.univ fun c : Fin ((K (F := F)).nCore 0) => (P x2 x3 x4 x5 z2 z3 z4 z5 z6 z7 z8).dn 0 d c)
    = (iprop(OpsAt x2 x3 x4 x5 d fullShare ∗ ResV x2 x3 x4 x5 d Finset.univ) : sProp 𝕄) := by
  show (bigSep Finset.univ fun c : Fin ((K (F := F)).nCore 0) =>
    iprop(OpsAt x2 x3 x4 x5 d (leaf 1 fullShare (Fin.cast nCore_zero c)) ∗ ResV x2 x3 x4 x5 d (ofCore (Fin.cast nCore_zero c)))) = _
  rw [over_cores (F := F) (fun c => iprop(OpsAt x2 x3 x4 x5 d (leaf 1 fullShare c) ∗ ResV x2 x3 x4 x5 d (ofCore c))), bigSep_sep',
    ← cores_ops x2 x3 x4 x5 d fullShare, ← resV_fibers x2 x3 x4 x5 d Finset.univ gc]

omit [FloatOps F] in
theorem over_coresTwo (Φ : Fin 2 → sProp 𝕄) :
    (bigSep Finset.univ fun c : Fin ((K (F := F)).nCore 1) => Φ (Fin.cast nCore_one c)) = bigSep Finset.univ Φ :=
  bigSep_congr fun _ _ => congrArg Φ (Fin.ext rfl)

omit [FloatOps F] in
theorem over_subsTwo (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

omit [FloatOps F] in
theorem tiles_opsTwo (d : Dev nD) (q : PosShare TreeShare) :
    (OpsTwo z2 z3 z4 z5 z6 z7 z8 d q : sProp 𝕄) = bigSep Finset.univ fun i : Fin 16 => OpsTwo z2 z3 z4 z5 z6 z7 z8 d (leaf 4 q i) :=
  opsTwo_leaves z2 z3 z4 z5 z6 z7 z8 d 4 q

omit [FloatOps F] in
theorem cores_opsTwo (d : Dev nD) (q : PosShare TreeShare) :
    (OpsTwo z2 z3 z4 z5 z6 z7 z8 d q : sProp 𝕄) = bigSep Finset.univ fun c : Fin 2 => OpsTwo z2 z3 z4 z5 z6 z7 z8 d (leaf 1 q c) :=
  opsTwo_leaves z2 z3 z4 z5 z6 z7 z8 d 1 q

theorem vecSplitTwo : (K (F := F)).VecSplit' (P x2 x3 x4 x5 z2 z3 z4 z5 z6 z7 z8) 1 := by
  intro d c
  have key : ∀ c' : Fin 2, iprop(OpsTwo z2 z3 z4 z5 z6 z7 z8 d (leaf 1 fullShare c') ∗ ResTwo d (ofCore c')) ⊢ (|={Set.univ}=> iprop(
      (bigSep Finset.univ fun i : Fin 16 => iprop(OpsTwo z2 z3 z4 z5 z6 z7 z8 d (leaf 4 (leaf 1 fullShare c') i) ∗ ResTwo d (ofTile c' i)))
      ∗ ((bigSep Finset.univ fun i : Fin 16 => iprop(OpsTwo z2 z3 z4 z5 z6 z7 z8 d (leaf 4 (leaf 1 fullShare c') i) ∗ ResVTwo z2 z3 z4 z5 z6 z7 z8 d (ofTile c' i)))
          -∗ iprop(OpsTwo z2 z3 z4 z5 z6 z7 z8 d (leaf 1 fullShare c') ∗ ResVTwo z2 z3 z4 z5 z6 z7 z8 d (ofCore c')))) : sProp 𝕄) := by
    intro c'
    rw [bigSep_sep', bigSep_sep', ← tiles_opsTwo z2 z3 z4 z5 z6 z7 z8 d (leaf 1 fullShare c'), ← resVTwo_fibers z2 z3 z4 z5 z6 z7 z8 d (ofCore c') gt]
    iintro ⟨Ho, Hr⟩
    imodintro
    isplitl [Ho Hr]
    · isplitl [Ho]; · iexact Ho
      iapply (resTwo_fibers d (ofCore c') gt) $$ Hr
    iintro H
    iexact H
  have hg := over_subsTwo (F := F) (fun i => iprop(OpsTwo z2 z3 z4 z5 z6 z7 z8 d (leaf 4 (leaf 1 fullShare (Fin.cast nCore_one c)) i) ∗ ResTwo d (ofTile (Fin.cast nCore_one c) i)))
  have ht := over_subsTwo (F := F) (fun i => iprop(OpsTwo z2 z3 z4 z5 z6 z7 z8 d (leaf 4 (leaf 1 fullShare (Fin.cast nCore_one c)) i) ∗ ResVTwo z2 z3 z4 z5 z6 z7 z8 d (ofTile (Fin.cast nCore_one c) i)))
  have h := key (Fin.cast nCore_one c)
  rw [← hg, ← ht] at h
  exact h

theorem st1_eq (d : Dev nD) : (iprop(OpsTwo z2 z3 z4 z5 z6 z7 z8 d fullShare ∗ ResTwo d Finset.univ) : sProp 𝕄)
    ⊢ bigSep Finset.univ fun c : Fin ((K (F := F)).nCore 1) => (P x2 x3 x4 x5 z2 z3 z4 z5 z6 z7 z8).st 1 d c := by
  show _ ⊢ bigSep Finset.univ fun c : Fin ((K (F := F)).nCore 1) =>
    iprop(OpsTwo z2 z3 z4 z5 z6 z7 z8 d (leaf 1 fullShare (Fin.cast nCore_one c)) ∗ ResTwo d (ofCore (Fin.cast nCore_one c)))
  rw [over_coresTwo (F := F) (fun c => iprop(OpsTwo z2 z3 z4 z5 z6 z7 z8 d (leaf 1 fullShare c) ∗ ResTwo d (ofCore c))), bigSep_sep',
    ← cores_opsTwo z2 z3 z4 z5 z6 z7 z8 d fullShare]
  iintro ⟨Ho, Hr⟩
  isplitl [Ho]; · iexact Ho
  iapply (resTwo_fibers d Finset.univ gc) $$ Hr

theorem dn1_eq (d : Dev nD) : (bigSep Finset.univ fun c : Fin ((K (F := F)).nCore 1) => (P x2 x3 x4 x5 z2 z3 z4 z5 z6 z7 z8).dn 1 d c)
    = (iprop(OpsTwo z2 z3 z4 z5 z6 z7 z8 d fullShare ∗ ResVTwo z2 z3 z4 z5 z6 z7 z8 d Finset.univ) : sProp 𝕄) := by
  show (bigSep Finset.univ fun c : Fin ((K (F := F)).nCore 1) =>
    iprop(OpsTwo z2 z3 z4 z5 z6 z7 z8 d (leaf 1 fullShare (Fin.cast nCore_one c)) ∗ ResVTwo z2 z3 z4 z5 z6 z7 z8 d (ofCore (Fin.cast nCore_one c)))) = _
  rw [over_coresTwo (F := F) (fun c => iprop(OpsTwo z2 z3 z4 z5 z6 z7 z8 d (leaf 1 fullShare c) ∗ ResVTwo z2 z3 z4 z5 z6 z7 z8 d (ofCore c))), bigSep_sep',
    ← cores_opsTwo z2 z3 z4 z5 z6 z7 z8 d fullShare, ← resVTwo_fibers z2 z3 z4 z5 z6 z7 z8 d Finset.univ gc]

/-! ## The launch's ghost state -/

def u₀ : UU := (initOf (K (F := F)).hsCells (K (F := F)).hsToks, 1)

omit [FloatOps F] in
theorem emps {I : Type} (A : Finset I) : (bigSep A fun _ => iprop(emp)) = (iprop(emp) : sProp 𝕄) := bigSep_emp_const A

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P x2 x3 x4 x5 z2 z3 z4 z5 z6 z7 z8).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 2 => (P (F := F) x2 x3 x4 x5 z2 z3 z4 z5 z6 z7 z8).x q thr) = bigSep Finset.univ fun _ => iprop(emp) from
    bigSep_congr fun _ _ => emps _, emps]
  iempintro

end Cert.Proof.Launch
-- ==== Proof.Main.lean ====
/-
  The whole program's run: the array operations before, between and after the two calls, and the calls, from the launch's memory
  to the result.
-/
module

public import proofs.«01_k».proof.Proof.Launch

@[expose] public section

noncomputable section

namespace Cert.Proof.Launch

open Cert.KernelIdeal Cert.KernelIdeal.Gen
open Idealize.ShloMosaic Idealize.ShloMosaic.ShareLeaves
open Idealize.ShloMosaic.StableHlo (after held held_sub_split held_congr)
open Idealize.ShloMosaic.Pipeline (ucRefs unscopedBufs_held sub_ucRefs)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rows Cert.Proof.CdOne
open Cert.Proof.CdTwo (twice apart square)

variable {F : FTy → Type} [FloatOps F]

local notation "𝕄" => MT nD τ sig (HIx 2) (Elt F) ℕ UU ℕ

/-- A table followed by its padding. -/
def padCat (a : (⟨S800000, .i32⟩ : BufTy).Contents (Elt F)) (b : (⟨S2816, .i32⟩ : BufTy).Contents (Elt F)) : (⟨S802816, .i32⟩ : BufTy).Contents (Elt F) :=
  concatenate S802816 0 [⟨S800000, a⟩, ⟨S2816, b⟩] concatenates_S800000_S2816_S802816_d0

/-- The bodies' residues followed by their padding. -/
def padB (a : (⟨S50000, .i32⟩ : BufTy).Contents (Elt F)) (b : (⟨S176, .i32⟩ : BufTy).Contents (Elt F)) : (⟨S50176, .i32⟩ : BufTy).Contents (Elt F) :=
  concatenate S50176 0 [⟨S50000, a⟩, ⟨S176, b⟩] concatenates_S50000_S176_S50176_d0

/-- The residues' types followed by their padding. -/
def padR (a : (⟨S12500, .i32⟩ : BufTy).Contents (Elt F)) (b : (⟨S12, .i32⟩ : BufTy).Contents (Elt F)) : (⟨S12512, .i32⟩ : BufTy).Contents (Elt F) :=
  concatenate S12512 0 [⟨S12500, a⟩, ⟨S12, b⟩] concatenates_S12500_S12_S12512_d0

/-- The points followed by their padding. -/
def padRows (x : (⟨S50000x3, .f32⟩ : BufTy).Contents (Elt F)) (v : (⟨S_, .f32⟩ : BufTy).Contents (Elt F)) : (⟨S50176x3, .f32⟩ : BufTy).Contents (Elt F) :=
  pad S50176x3 ![0, 0] ![176, 0] ![0, 0] x v pads_S50000x3_S50176x3_01760_000 h_S_

/-- Three columns side by side. -/
def stack3 (a b c : (⟨S800000x1, .i32⟩ : BufTy).Contents (Elt F)) : (⟨S800000x3, .i32⟩ : BufTy).Contents (Elt F) :=
  concatenate S800000x3 1 [⟨S800000x1, a⟩, ⟨S800000x1, b⟩, ⟨S800000x1, c⟩] concatenates_S800000x1_S800000x1_S800000x1_S800000x3_d1

/-- Line 1 of the program's array operations. -/
abbrev ops1 : List (HloOp τ sig (Elt F)) :=
  [StableHlo.nullary main_c (constantI S_ 32 50175#32),
   StableHlo.unary main_c main_v0 (broadcastInDim S2816 ![] bcast_S_S2816 : (⟨S_, .i32⟩ : BufTy).Contents (Elt F) → (⟨S2816, .i32⟩ : BufTy).Contents (Elt F)),
   StableHlo.binary main_arg2 main_v0 main_v1 padCat,
   StableHlo.nullary main_c_0 (constantI S_ 32 50175#32),
   StableHlo.unary main_c_0 main_v2 (broadcastInDim S2816 ![] bcast_S_S2816 : (⟨S_, .i32⟩ : BufTy).Contents (Elt F) → (⟨S2816, .i32⟩ : BufTy).Contents (Elt F)),
   StableHlo.binary main_arg3 main_v2 main_v3 padCat,
   StableHlo.nullary main_c_1 (constantI S_ 32 0#32),
   StableHlo.unary main_c_1 main_v4 (broadcastInDim S2816 ![] bcast_S_S2816 : (⟨S_, .i32⟩ : BufTy).Contents (Elt F) → (⟨S2816, .i32⟩ : BufTy).Contents (Elt F)),
   StableHlo.binary main_arg4 main_v4 main_v5 padCat]

/-- Line 2 of the program's array operations. -/
abbrev ops2 : List (HloOp τ sig (Elt F)) :=
  [StableHlo.nullary main_c_2 (constantI S_ 32 0#32),
   StableHlo.unary main_c_2 main_v7 (broadcastInDim S176 ![] bcast_S_S176 : (⟨S_, .i32⟩ : BufTy).Contents (Elt F) → (⟨S176, .i32⟩ : BufTy).Contents (Elt F)),
   StableHlo.binary main_arg5 main_v7 main_v8 padB,
   StableHlo.nullary main_c_3 (constantI S_ 32 0#32),
   StableHlo.unary main_c_3 main_v9 (broadcastInDim S12 ![] bcast_S_S12 : (⟨S_, .i32⟩ : BufTy).Contents (Elt F) → (⟨S12, .i32⟩ : BufTy).Contents (Elt F)),
   StableHlo.binary main_arg6 main_v9 main_v10 padR,
   StableHlo.nullary main_c_4 (constantI S_ 32 0#32),
   StableHlo.unary main_c_4 main_call0_v0 (sitofp .f32 : (⟨S_, .i32⟩ : BufTy).Contents (Elt F) → (⟨S_, .f32⟩ : BufTy).Contents (Elt F)),
   StableHlo.binary main_arg1 main_call0_v0 main_v11 padRows,
   StableHlo.unary main_v11 main_v12 ((extractStridedSlice S50176x1 ![0, 0] · slices_S50176x3_S50176x1_0_0) : (⟨S50176x3, .f32⟩ : BufTy).Contents (Elt F) → (⟨S50176x1, .f32⟩ : BufTy).Contents (Elt F)),
   StableHlo.reshape main_v12 main_v13 (rfl : (.f32 : EltTy) = .f32) shapeCasts_S50176x1_S50176,
   StableHlo.unary main_v11 main_v14 ((extractStridedSlice S50176x1 ![0, 1] · slices_S50176x3_S50176x1_0_1) : (⟨S50176x3, .f32⟩ : BufTy).Contents (Elt F) → (⟨S50176x1, .f32⟩ : BufTy).Contents (Elt F)),
   StableHlo.reshape main_v14 main_v15 (rfl : (.f32 : EltTy) = .f32) shapeCasts_S50176x1_S50176,
   StableHlo.unary main_v11 main_v16 ((extractStridedSlice S50176x1 ![0, 2] · slices_S50176x3_S50176x1_0_2) : (⟨S50176x3, .f32⟩ : BufTy).Contents (Elt F) → (⟨S50176x1, .f32⟩ : BufTy).Contents (Elt F)),
   StableHlo.reshape main_v16 main_v17 (rfl : (.f32 : EltTy) = .f32) shapeCasts_S50176x1_S50176]

/-- Line 3 of the program's array operations. -/
abbrev ops3 : List (HloOp τ sig (Elt F)) :=
  [StableHlo.unary main_v6_0 main_v19 ((extractStridedSlice S800000 ![0] · slices_S802816_S800000_0) : (⟨S802816, .i32⟩ : BufTy).Contents (Elt F) → (⟨S800000, .i32⟩ : BufTy).Contents (Elt F)),
   StableHlo.unary main_v6_1 main_v20 ((extractStridedSlice S800000 ![0] · slices_S802816_S800000_0) : (⟨S802816, .i32⟩ : BufTy).Contents (Elt F) → (⟨S800000, .i32⟩ : BufTy).Contents (Elt F)),
   StableHlo.unary main_v6_2 main_v21 ((extractStridedSlice S800000 ![0] · slices_S802816_S800000_0) : (⟨S802816, .i32⟩ : BufTy).Contents (Elt F) → (⟨S800000, .i32⟩ : BufTy).Contents (Elt F)),
   StableHlo.unary main_v19 main_v22 (broadcastInDim S800000x1 ![0] bcast_S800000_S800000x1_0 : (⟨S800000, .i32⟩ : BufTy).Contents (Elt F) → (⟨S800000x1, .i32⟩ : BufTy).Contents (Elt F)),
   StableHlo.unary main_v20 main_v23 (broadcastInDim S800000x1 ![0] bcast_S800000_S800000x1_0 : (⟨S800000, .i32⟩ : BufTy).Contents (Elt F) → (⟨S800000x1, .i32⟩ : BufTy).Contents (Elt F)),
   StableHlo.unary main_v21 main_v24 (broadcastInDim S800000x1 ![0] bcast_S800000_S800000x1_0 : (⟨S800000, .i32⟩ : BufTy).Contents (Elt F) → (⟨S800000x1, .i32⟩ : BufTy).Contents (Elt F)),
   StableHlo.nary ![main_v22, main_v23, main_v24] main_v25 (fun u => stack3 (u 0) (u 1) (u 2)),
   StableHlo.unary main_v18_0 main_v26 ((extractStridedSlice S800000 ![0] · slices_S802816_S800000_0) : (⟨S802816, .i32⟩ : BufTy).Contents (Elt F) → (⟨S800000, .i32⟩ : BufTy).Contents (Elt F)),
   StableHlo.unary main_v18_1 main_v27 ((extractStridedSlice S800000 ![0] · slices_S802816_S800000_0) : (⟨S802816, .i32⟩ : BufTy).Contents (Elt F) → (⟨S800000, .i32⟩ : BufTy).Contents (Elt F)),
   StableHlo.unary main_v18_2 main_v28 ((extractStridedSlice S800000 ![0] · slices_S802816_S800000_0) : (⟨S802816, .i32⟩ : BufTy).Contents (Elt F) → (⟨S800000, .i32⟩ : BufTy).Contents (Elt F)),
   StableHlo.unary main_v18_3 main_v29 ((extractStridedSlice S800000 ![0] · slices_S802816_S800000_0) : (⟨S802816, .f32⟩ : BufTy).Contents (Elt F) → (⟨S800000, .f32⟩ : BufTy).Contents (Elt F))]

theorem main_eq (d : Dev nD) : main (F := F) d = (StableHlo.seq ops1 >>= fun _ => (K (F := F)).run d 0 >>= fun _ => StableHlo.seq ops2 >>= fun _ =>
    (K (F := F)).run d 1 >>= fun _ => StableHlo.seq ops3 >>= fun _ => pure ⟨⟩) := rfl

theorem ops1_sub : ∀ op ∈ (ops1 : List (HloOp τ sig (Elt F))), op.bufs ⊆ ucRefs τ sig := by
  intro op h
  refine sub_ucRefs op ?_
  simp only [List.mem_cons, List.not_mem_nil, _root_.or_false] at h
  rcases h with rfl | rfl | rfl | rfl | rfl | rfl | rfl | rfl | rfl <;> simp
theorem ops1_fresh : ∀ op ∈ (ops1 : List (HloOp τ sig (Elt F))), op.fresh = ∅ := by
  intro op h
  simp only [List.mem_cons, List.not_mem_nil, _root_.or_false] at h
  rcases h with rfl | rfl | rfl | rfl | rfl | rfl | rfl | rfl | rfl <;> rfl
theorem ops2_sub : ∀ op ∈ (ops2 : List (HloOp τ sig (Elt F))), op.bufs ⊆ ucRefs τ sig := by
  intro op h
  refine sub_ucRefs op ?_
  simp only [List.mem_cons, List.not_mem_nil, _root_.or_false] at h
  rcases h with rfl | rfl | rfl | rfl | rfl | rfl | rfl | rfl | rfl | rfl | rfl | rfl | rfl | rfl | rfl <;> simp
theorem ops2_fresh : ∀ op ∈ (ops2 : List (HloOp τ sig (Elt F))), op.fresh = ∅ := by
  intro op h
  simp only [List.mem_cons, List.not_mem_nil, _root_.or_false] at h
  rcases h with rfl | rfl | rfl | rfl | rfl | rfl | rfl | rfl | rfl | rfl | rfl | rfl | rfl | rfl | rfl <;> rfl
theorem ops3_sub : ∀ op ∈ (ops3 : List (HloOp τ sig (Elt F))), op.bufs ⊆ ucRefs τ sig := by
  intro op h
  refine sub_ucRefs op ?_
  simp only [List.mem_cons, List.not_mem_nil, _root_.or_false] at h
  rcases h with rfl | rfl | rfl | rfl | rfl | rfl | rfl | rfl | rfl | rfl | rfl <;> simp
theorem ops3_fresh : ∀ op ∈ (ops3 : List (HloOp τ sig (Elt F))), op.fresh = ∅ := by
  intro op h
  simp only [List.mem_cons, List.not_mem_nil, _root_.or_false] at h
  rcases h with rfl | rfl | rfl | rfl | rfl | rfl | rfl | rfl | rfl | rfl | rfl <;> rfl

variable (m : (ℓ : Loc nD τ sig) → Buf (Elt F) ℓ) (ρ : Dev nD → PrngReg)

/-- A TensorCore reference as a device buffer. -/
abbrev tcb (r : Ref sig .tc) : DevRef τ sig := Proc.devRef .tc r

/-- The memory after line 1. -/
abbrev V1 (d : Dev nD) : Valuation τ sig (Elt F) := after ops1 (StableHlo.launchContents m d)

/-- The order, and the three tables the call reads. -/
abbrev y2 (d : Dev nD) : S802816.Idx → BitVec 32 := V1 m d (tcb main_arg0)
abbrev y3 (d : Dev nD) : S802816.Idx → BitVec 32 := V1 m d (tcb main_v1)
abbrev y4 (d : Dev nD) : S802816.Idx → BitVec 32 := V1 m d (tcb main_v3)
abbrev y5 (d : Dev nD) : S802816.Idx → BitVec 32 := V1 m d (tcb main_v5)

/-- The memory after the call. -/
def V2 (d : Dev nD) : Valuation τ sig (Elt F) :=
  Function.update (Function.update (Function.update (V1 m d) (tcb main_v6_0) (taken (y2 m d) (y3 m d)))
    (tcb main_v6_1) (taken (y2 m d) (y4 m d))) (tcb main_v6_2) (taken (y2 m d) (y5 m d))

/-- The memory after line 2. -/
abbrev V3 (d : Dev nD) : Valuation τ sig (Elt F) := after ops2 (V2 m d)

/-- The two lists, the four tables and the three coordinates the second call reads. -/
abbrev z2 (d : Dev nD) : S802816.Idx → BitVec 32 := V3 m d (tcb main_v6_0)
abbrev z3 (d : Dev nD) : S802816.Idx → BitVec 32 := V3 m d (tcb main_v6_1)
abbrev z4 (d : Dev nD) : S50176.Idx → BitVec 32 := V3 m d (tcb main_v8)
abbrev z5 (d : Dev nD) : S12512.Idx → BitVec 32 := V3 m d (tcb main_v10)
abbrev z6 (d : Dev nD) : S50176.Idx → F .f32 := V3 m d (tcb main_v13)
abbrev z7 (d : Dev nD) : S50176.Idx → F .f32 := V3 m d (tcb main_v15)
abbrev z8 (d : Dev nD) : S50176.Idx → F .f32 := V3 m d (tcb main_v17)

/-- The memory after the second call. -/
def V4 (d : Dev nD) : Valuation τ sig (Elt F) :=
  Function.update (Function.update (Function.update (Function.update (V3 m d) (tcb main_v18_0) (twice (z2 m d) (z4 m d) (z5 m d))) (tcb main_v18_1) (twice (z3 m d) (z4 m d) (z5 m d))) (tcb main_v18_2) (apart (z2 m d) (z3 m d) (z4 m d))) (tcb main_v18_3) (square (z2 m d) (z3 m d) (z6 m d) (z7 m d) (z8 m d))

/-- The memory at the end. -/
abbrev V5 (d : Dev nD) : Valuation τ sig (Elt F) := after ops3 (V4 m d)

/-- The buffers the call is handed. -/
def handed : Finset (DevRef τ sig) :=
  {tcb main_arg0, tcb main_v1, tcb main_v3, tcb main_v5, tcb main_v6_0, tcb main_v6_1, tcb main_v6_2}

theorem mem_uc (r : Ref sig .tc) (h : r.isScoped = false) : tcb r ∈ ucRefs τ sig :=
  Finset.mem_filter.mpr ⟨StableHlo.devRef_mem_tcRefs r, by
    intro h'
    exact Bool.false_ne_true (h.symm.trans h')⟩

theorem handed_sub : handed ⊆ ucRefs τ sig := by
  intro b hb
  simp only [handed, Finset.mem_insert, Finset.mem_singleton] at hb
  rcases hb with rfl | rfl | rfl | rfl | rfl | rfl | rfl <;> exact mem_uc _ (by decide)

theorem held_handed (d : Dev nD) (V : Valuation τ sig (Elt F)) :
    (held (SparseCore.T d) handed V : sProp 𝕄)
      = iprop((((d, tcb main_arg0) : Loc nD τ sig) ↦{fullShare} V (tcb main_arg0)) ∗ (((d, tcb main_v1) : Loc nD τ sig) ↦{fullShare} V (tcb main_v1))
        ∗ (((d, tcb main_v3) : Loc nD τ sig) ↦{fullShare} V (tcb main_v3)) ∗ (((d, tcb main_v5) : Loc nD τ sig) ↦{fullShare} V (tcb main_v5))
        ∗ (((d, tcb main_v6_0) : Loc nD τ sig) ↦{fullShare} V (tcb main_v6_0)) ∗ (((d, tcb main_v6_1) : Loc nD τ sig) ↦{fullShare} V (tcb main_v6_1))
        ∗ (((d, tcb main_v6_2) : Loc nD τ sig) ↦{fullShare} V (tcb main_v6_2))) := by
  unfold held handed
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem V2_of_ne (d : Dev nD) (b : DevRef τ sig) (h0 : b ≠ tcb main_v6_0) (h1 : b ≠ tcb main_v6_1) (h2 : b ≠ tcb main_v6_2) :
    V2 m d b = V1 m d b := by
  unfold V2
  rw [Function.update_of_ne h2, Function.update_of_ne h1, Function.update_of_ne h0]

theorem V2_v6_0 (d : Dev nD) : V2 m d (tcb main_v6_0) = taken (y2 m d) (y3 m d) := by
  unfold V2
  rw [Function.update_of_ne (by decide), Function.update_of_ne (by decide), Function.update_self]
theorem V2_v6_1 (d : Dev nD) : V2 m d (tcb main_v6_1) = taken (y2 m d) (y4 m d) := by
  unfold V2
  rw [Function.update_of_ne (by decide), Function.update_self]
theorem V2_v6_2 (d : Dev nD) : V2 m d (tcb main_v6_2) = taken (y2 m d) (y5 m d) := by
  unfold V2
  rw [Function.update_self]

/-- What the call is handed, from the buffers at the memory before it. -/
theorem hand (d : Dev nD) : (held (SparseCore.T d) handed (V1 m d) : sProp 𝕄)
    ⊢ iprop(OpsAt (y2 m) (y3 m) (y4 m) (y5 m) d fullShare ∗ Res d Finset.univ) := by
  rw [held_handed]
  unfold OpsAt Res
  iintro ⟨H0, H1, H2, H3, H4, H5, H6⟩
  isplitl [H0 H1 H2 H3]
  · iframe H0 H1 H2 H3
  isplitl [H4]; · iexists _; iexact H4
  isplitl [H5]; · iexists _; iexact H5
  iexists _; iexact H6

/-- The buffers at the memory after the call, from what it hands back. -/
theorem unhand (d : Dev nD) : (iprop(OpsAt (y2 m) (y3 m) (y4 m) (y5 m) d fullShare ∗ ResV (y2 m) (y3 m) (y4 m) (y5 m) d Finset.univ) : sProp 𝕄)
    ⊢ held (SparseCore.T d) handed (V2 m d) := by
  rw [held_handed, V2_v6_0, V2_v6_1, V2_v6_2, V2_of_ne m d (tcb main_arg0) (by decide) (by decide) (by decide),
    V2_of_ne m d (tcb main_v1) (by decide) (by decide) (by decide), V2_of_ne m d (tcb main_v3) (by decide) (by decide) (by decide),
    V2_of_ne m d (tcb main_v5) (by decide) (by decide) (by decide)]
  unfold OpsAt ResV
  iintro ⟨⟨H0, H1, H2, H3⟩, H4, H5, H6⟩
  iframe H0 H1 H2 H3 H4 H5 H6

theorem held_rest (d : Dev nD) : (held (SparseCore.T d) (ucRefs τ sig \ handed) (V1 m d) : sProp 𝕄)
    = held (SparseCore.T d) (ucRefs τ sig \ handed) (V2 m d) :=
  held_congr (SparseCore.T d) (fun b hb => by
    have hn := (Finset.mem_sdiff.mp hb).2
    refine (V2_of_ne m d b ?_ ?_ ?_).symm <;> rintro rfl <;> exact hn (by decide))

/-- The buffers the second call is handed. -/
def handedTwo : Finset (DevRef τ sig) :=
  {tcb main_v6_0, tcb main_v6_1, tcb main_v8, tcb main_v10, tcb main_v13, tcb main_v15, tcb main_v17, tcb main_v18_0, tcb main_v18_1, tcb main_v18_2, tcb main_v18_3}

theorem handedTwo_sub : handedTwo ⊆ ucRefs τ sig := by
  intro b hb
  simp only [handedTwo, Finset.mem_insert, Finset.mem_singleton] at hb
  rcases hb with rfl | rfl | rfl | rfl | rfl | rfl | rfl | rfl | rfl | rfl | rfl <;> exact mem_uc _ (by decide)

theorem held_handedTwo (d : Dev nD) (V : Valuation τ sig (Elt F)) :
    (held (SparseCore.T d) handedTwo V : sProp 𝕄)
      = iprop((((d, tcb main_v6_0) : Loc nD τ sig) ↦{fullShare} V (tcb main_v6_0)) ∗ (((d, tcb main_v6_1) : Loc nD τ sig) ↦{fullShare} V (tcb main_v6_1)) ∗ (((d, tcb main_v8) : Loc nD τ sig) ↦{fullShare} V (tcb main_v8)) ∗ (((d, tcb main_v10) : Loc nD τ sig) ↦{fullShare} V (tcb main_v10)) ∗ (((d, tcb main_v13) : Loc nD τ sig) ↦{fullShare} V (tcb main_v13)) ∗ (((d, tcb main_v15) : Loc nD τ sig) ↦{fullShare} V (tcb main_v15)) ∗ (((d, tcb main_v17) : Loc nD τ sig) ↦{fullShare} V (tcb main_v17)) ∗ (((d, tcb main_v18_0) : Loc nD τ sig) ↦{fullShare} V (tcb main_v18_0)) ∗ (((d, tcb main_v18_1) : Loc nD τ sig) ↦{fullShare} V (tcb main_v18_1)) ∗ (((d, tcb main_v18_2) : Loc nD τ sig) ↦{fullShare} V (tcb main_v18_2)) ∗ (((d, tcb main_v18_3) : Loc nD τ sig) ↦{fullShare} V (tcb main_v18_3))) := by
  unfold held handedTwo
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem V4_of_ne (d : Dev nD) (b : DevRef τ sig) (h0 : b ≠ tcb main_v18_0) (h1 : b ≠ tcb main_v18_1) (h2 : b ≠ tcb main_v18_2) (h3 : b ≠ tcb main_v18_3) :
    V4 m d b = V3 m d b := by
  unfold V4
  rw [Function.update_of_ne h3, Function.update_of_ne h2, Function.update_of_ne h1, Function.update_of_ne h0]

theorem V4_v18_0 (d : Dev nD) : V4 m d (tcb main_v18_0) = twice (z2 m d) (z4 m d) (z5 m d) := by
  unfold V4
  rw [Function.update_of_ne (by decide), Function.update_of_ne (by decide), Function.update_of_ne (by decide), Function.update_self]
theorem V4_v18_1 (d : Dev nD) : V4 m d (tcb main_v18_1) = twice (z3 m d) (z4 m d) (z5 m d) := by
  unfold V4
  rw [Function.update_of_ne (by decide), Function.update_of_ne (by decide), Function.update_self]
theorem V4_v18_2 (d : Dev nD) : V4 m d (tcb main_v18_2) = apart (z2 m d) (z3 m d) (z4 m d) := by
  unfold V4
  rw [Function.update_of_ne (by decide), Function.update_self]
theorem V4_v18_3 (d : Dev nD) : V4 m d (tcb main_v18_3) = square (z2 m d) (z3 m d) (z6 m d) (z7 m d) (z8 m d) := by
  unfold V4
  rw [Function.update_self]

/-- What the second call is handed, from the buffers at the memory before it. -/
theorem handTwo (d : Dev nD) : (held (SparseCore.T d) handedTwo (V3 m d) : sProp 𝕄)
    ⊢ iprop(OpsTwo (z2 m) (z3 m) (z4 m) (z5 m) (z6 m) (z7 m) (z8 m) d fullShare ∗ ResTwo d Finset.univ) := by
  rw [held_handedTwo]
  unfold OpsTwo ResTwo
  iintro ⟨H0, H1, H2, H3, H4, H5, H6, H7, H8, H9, H10⟩
  isplitl [H0 H1 H2 H3 H4 H5 H6]
  · iframe H0 H1 H2 H3 H4 H5 H6
  isplitl [H7]; · iexists _; iexact H7
  isplitl [H8]; · iexists _; iexact H8
  isplitl [H9]; · iexists _; iexact H9
  iexists _; iexact H10

/-- The buffers at the memory after the second call, from what it hands back. -/
theorem unhandTwo (d : Dev nD) : (iprop(OpsTwo (z2 m) (z3 m) (z4 m) (z5 m) (z6 m) (z7 m) (z8 m) d fullShare ∗ ResVTwo (z2 m) (z3 m) (z4 m) (z5 m) (z6 m) (z7 m) (z8 m) d Finset.univ) : sProp 𝕄)
    ⊢ held (SparseCore.T d) handedTwo (V4 m d) := by
  rw [held_handedTwo, V4_v18_0, V4_v18_1, V4_v18_2, V4_v18_3, V4_of_ne m d (tcb main_v6_0) (by decide) (by decide) (by decide) (by decide), V4_of_ne m d (tcb main_v6_1) (by decide) (by decide) (by decide) (by decide), V4_of_ne m d (tcb main_v8) (by decide) (by decide) (by decide) (by decide), V4_of_ne m d (tcb main_v10) (by decide) (by decide) (by decide) (by decide), V4_of_ne m d (tcb main_v13) (by decide) (by decide) (by decide) (by decide), V4_of_ne m d (tcb main_v15) (by decide) (by decide) (by decide) (by decide), V4_of_ne m d (tcb main_v17) (by decide) (by decide) (by decide) (by decide)]
  unfold OpsTwo ResVTwo
  iintro ⟨⟨H0, H1, H2, H3, H4, H5, H6⟩, H7, H8, H9, H10⟩
  iframe H0 H1 H2 H3 H4 H5 H6 H7 H8 H9 H10

theorem held_restTwo (d : Dev nD) : (held (SparseCore.T d) (ucRefs τ sig \ handedTwo) (V3 m d) : sProp 𝕄)
    = held (SparseCore.T d) (ucRefs τ sig \ handedTwo) (V4 m d) :=
  held_congr (SparseCore.T d) (fun b hb => by
    have hn := (Finset.mem_sdiff.mp hb).2
    refine (V4_of_ne m d b ?_ ?_ ?_ ?_).symm <;> rintro rfl <;> exact hn (by decide))

abbrev FIN (d : Dev nD) : sProp 𝕄 := held (SparseCore.T d) (ucRefs τ sig) (V5 m d)

/-- The program on device `d`'s TensorCore. -/
theorem hmain (κ : GSem nD τ sig → ℕ) (d : Dev nD) :
    iprop((K (F := F)).ctx EH (P (y2 m) (y3 m) (y4 m) (y5 m) (z2 m) (z3 m) (z4 m) (z5 m) (z6 m) (z7 m) (z8 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (StableHlo.launchContents m d) from
    unscopedBufs_held d (StableHlo.launchContents m d)]
  iintro ⟨#Hctx, Hst, ⟨Hb, Hh, Hts, -⟩, -⟩
  iapply (StableHlo.wp_seq 𝒱 none Set.univ d (ucRefs τ sig) _ ops1 ops1_sub ops1_fresh (StableHlo.launchContents m d)) $$ [Hb Hh]
  · iframe Hb Hh
  iintro ⟨Hb, Hh⟩
  ihave Hh := (Entails.of_eq (held_sub_split (SparseCore.T d) handed_sub (V1 m d))) $$ Hh
  icases Hh with ⟨Hh, Hr⟩
  ihave Hh := (hand m d) $$ Hh
  ihave Hh := (st0_eq (y2 m) (y3 m) (y4 m) (y5 m) (z2 m) (z3 m) (z4 m) (z5 m) (z6 m) (z7 m) (z8 m) d) $$ Hh
  rw [wp_bind]
  iapply ((K (F := F)).wp_run (D (F := F)) 𝒱 (EH := EH) (P := P (y2 m) (y3 m) (y4 m) (y5 m) (z2 m) (z3 m) (z4 m) (z5 m) (z6 m) (z7 m) (z8 m)) κ d 0) $$ [Hst Hh Hr Hb Hts]
  iframe Hctx Hst Hh
  iintro ⟨Hst, Hdn⟩
  ihave Hdn := (Entails.of_eq (dn0_eq (y2 m) (y3 m) (y4 m) (y5 m) (z2 m) (z3 m) (z4 m) (z5 m) (z6 m) (z7 m) (z8 m) d)) $$ Hdn
  ihave Hdn := (unhand m d) $$ Hdn
  ihave Hr := (Entails.of_eq (held_rest m d)) $$ Hr
  ihave Hh := (Entails.of_eq (held_sub_split (SparseCore.T d) handed_sub (V2 m d)).symm) $$ [Hdn Hr]
  · iframe Hdn Hr
  iapply (StableHlo.wp_seq 𝒱 none Set.univ d (ucRefs τ sig) _ ops2 ops2_sub ops2_fresh (V2 m d)) $$ [Hb Hh]
  · iframe Hb Hh
  iintro ⟨Hb, Hh⟩
  ihave Hh := (Entails.of_eq (held_sub_split (SparseCore.T d) handedTwo_sub (V3 m d))) $$ Hh
  icases Hh with ⟨Hh, Hr⟩
  ihave Hh := (handTwo m d) $$ Hh
  ihave Hh := (st1_eq (y2 m) (y3 m) (y4 m) (y5 m) (z2 m) (z3 m) (z4 m) (z5 m) (z6 m) (z7 m) (z8 m) d) $$ Hh
  rw [wp_bind]
  iapply ((K (F := F)).wp_run (D (F := F)) 𝒱 (EH := EH) (P := P (y2 m) (y3 m) (y4 m) (y5 m) (z2 m) (z3 m) (z4 m) (z5 m) (z6 m) (z7 m) (z8 m)) κ d 1) $$ [Hst Hh Hr Hb Hts]
  iframe Hctx Hst Hh
  iintro ⟨Hst, Hdn⟩
  ihave Hdn := (Entails.of_eq (dn1_eq (y2 m) (y3 m) (y4 m) (y5 m) (z2 m) (z3 m) (z4 m) (z5 m) (z6 m) (z7 m) (z8 m) d)) $$ Hdn
  ihave Hdn := (unhandTwo m d) $$ Hdn
  ihave Hr := (Entails.of_eq (held_restTwo m d)) $$ Hr
  ihave Hh := (Entails.of_eq (held_sub_split (SparseCore.T d) handedTwo_sub (V4 m d)).symm) $$ [Hdn Hr]
  · iframe Hdn Hr
  iapply (StableHlo.wp_seq 𝒱 none Set.univ d (ucRefs τ sig) _ ops3 ops3_sub ops3_fresh (V4 m d)) $$ [Hb Hh]
  · iframe Hb Hh
  iintro ⟨Hb, Hh⟩
  rw [wp_pure]
  imodintro
  isplitl [Hst]; · iexact Hst
  iframe

/-- What a final state holds: every unscoped buffer's contents at the end. -/
def fq (d : Dev nD) (s' : Phys nD τ sig (Elt F)) : Prop := ∀ r : Ref sig .tc, r.isScoped = false → s'.mem.mem (d, tcb r) = V5 m d (tcb r)

theorem held_agree (d : Dev nD) (V : Valuation τ sig (Elt F)) (s' : Phys nD τ sig (Elt F)) (A : Finset (DevRef τ sig)) (b : DevRef τ sig) (hb : b ∈ A) :
    iprop(held (SparseCore.T d) A V ∗ SI s') ⊢ (⌜s'.mem.mem (d, b) = V b⌝ : sProp 𝕄) := by
  unfold held
  rw [SparseCore.bigSep_erase' hb]
  iintro ⟨⟨H, -⟩, HS⟩
  ihave H := (SI_pointsTo_agree (st := s') (ℓ := (d, b)) (I := Finset.univ) (q := fullShare) (f := V b)) $$ [H HS]
  · isplitl [HS] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) :=
  ((forall_intro fun r : {r : Ref sig .tc // r.isScoped = false} =>
    held_agree d (V5 m d) s' (ucRefs τ sig) (tcb r.1) (mem_uc r.1 r.2)).trans pure_forall.2).trans (Laws.pure_mono fun h r hr => h ⟨r, hr⟩)

def QC : PUnit × MemSt nD τ sig (Elt F) → Prop := fun r =>
  (∀ d : Dev nD, ∀ b : Ref sig .tc, b.isScoped = false → r.2.mem (d, tcb b) = V5 m d (tcb b)) ∧ r.2.sem = fun _ => 0

/-- Every run of the program ends with its buffers at `V3`, where the order's words are positions. -/
theorem run_main [∀ e, Nonempty (Elt F e)] (hin : ∀ d j, (y2 m d j).toNat < 802816)
    (hin2 : ∀ d j, (z2 m d j).toNat < 50176) (hin3 : ∀ d j, (z3 m d j).toNat < 50176) (hin4 : ∀ d j, (z4 m d j).toNat < 12512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (y2 m) (y3 m) (y4 m) (y5 m) (z2 m) (z3 m) (z4 m) (z5 m) (z6 m) (z7 m) (z8 m)) (A := ∅) facts v₀
    (fun q hq => match q with | 0 => nomatch hq | 1 => nomatch hq)
    (fun q _ => match q with | 0 => tileObl (y2 m) (y3 m) (y4 m) (y5 m) (z2 m) (z3 m) (z4 m) (z5 m) (z6 m) (z7 m) (z8 m) facts hin | 1 => tileOblTwo (y2 m) (y3 m) (y4 m) (y5 m) (z2 m) (z3 m) (z4 m) (z5 m) (z6 m) (z7 m) (z8 m) facts hin2 hin3 hin4)
    (fun q _ => match q with | 0 => SparseCore.Cfg.VecSplit.of_plain (vecSplit (y2 m) (y3 m) (y4 m) (y5 m) (z2 m) (z3 m) (z4 m) (z5 m) (z6 m) (z7 m) (z8 m)) | 1 => SparseCore.Cfg.VecSplit.of_plain (vecSplitTwo (y2 m) (y3 m) (y4 m) (y5 m) (z2 m) (z3 m) (z4 m) (z5 m) (z6 m) (z7 m) (z8 m)))
    m ρ main (fun _ => iprop(emp)) (FIN m) (u₀ (F := F)) (sep_elim_left.trans (hu₀ (y2 m) (y3 m) (y4 m) (y5 m) (z2 m) (z3 m) (z4 m) (z5 m) (z6 m) (z7 m) (z8 m))) (hmain m ρ) (fq m) (hfin m) (QC m) (fun _ h hz => ⟨h, hz⟩)

end Cert.Proof.Launch
-- ==== Proof.Lookup.lean ====
/-
  Lookups: a table read at an index that counts from the end where it is negative, and at one within a padded table.
-/
module

public import proofs.«01_k».proof.Proof.CdTwoCall
public import Idealize.ShloMosaic.Lib.StableHlo.Predicate
public import Idealize.ShloMosaic.Lib.Pipeline.Value
public import Idealize.ShloMosaic.Lib.WordCmp
public import Idealize.ShloMosaic.Lib.KernelVsHost
public import Idealize.ShloMosaic.Lib.Routing.Ops
public import Idealize.ShloMosaic.Lib.Pointwise.Reduce
public import Idealize.ShloMosaic.Lib.Pointwise.SelectCore

@[expose] public section

noncomputable section

namespace Cert.Proof.Lookup

open Cert.KernelIdeal Cert.KernelIdeal.Gen
open Idealize.ShloMosaic
open Idealize.ShloMosaic.StableHlo.Predicate
open Cert.Proof.Rows Cert.Proof.CdOne
open Cert.Proof.CdTwo (flatB flatR flatX twice apart square sdOf distOf)

variable {α : Type}

theorem idx_fin {n : ℕ} (j : (⟨1, ![n]⟩ : Shape).Idx) : ∃ p : Fin n, j = Shape.Idx.ofFin p := ⟨j 0, by
  funext a
  match a with
  | ⟨0, _⟩ => rfl⟩

theorem lt_all (p : Fin 800000) : p.val < 802816 := by omega

/-- A padded list's head. -/
theorem slice_at (o : S802816.Idx → α) (hs : S802816.Slices ![0] S800000) (p : Fin 800000) :
    extractStridedSlice S800000 ![0] o hs (Shape.Idx.ofFin p) = o (Shape.Idx.ofFin ⟨p.val, lt_all p⟩) := by
  unfold extractStridedSlice
  congr 1
  funext a
  match a with
  | ⟨0, _⟩ => exact Fin.ext (Nat.zero_add _)

/-- The index as the array operations spell it: `N` added where it is negative. -/
abbrev wrapped (N : BitVec 32) (ix : S800000.Idx → BitVec 32) (hb : S_.BroadcastsInDim S800000 (![] : Fin 0 → Fin S800000.rank))
    (hb' : S800000.BroadcastsInDim S800000x1 (![0] : Fin 1 → Fin S800000x1.rank)) : S800000x1.Idx → BitVec 32 :=
  broadcastInDim S800000x1 ![0] hb' (select (cmpi .slt ix (broadcastInDim S800000 ![] hb (constantI S_ 32 0#32)))
    (addi ix (broadcastInDim S800000 ![] hb (constantI S_ 32 N))) ix)

theorem wrapped_at (N : BitVec 32) (ix : S800000.Idx → BitVec 32) (hb : S_.BroadcastsInDim S800000 (![] : Fin 0 → Fin S800000.rank))
    (hb' : S800000.BroadcastsInDim S800000x1 (![0] : Fin 1 → Fin S800000x1.rank)) (p : Fin 800000)
    (h : (ix (Shape.Idx.ofFin p)).toNat < 2 ^ 31) : wrapped N ix hb hb' (ixP p) = ix (Shape.Idx.ofFin p) := by
  have hp : ∀ f : S800000.Idx → BitVec 32, broadcastInDim S800000x1 ![0] hb' f (ixP p) = f (Shape.Idx.ofFin p) := by
    intro f
    unfold broadcastInDim
    congr 1
    funext a
    match a with
    | ⟨0, _⟩ => exact Fin.ext (by simp)
  unfold wrapped
  rw [hp]
  simp only [select, cmpi]
  have hc : IntOp.cmpi .slt (ix (Shape.Idx.ofFin p)) (broadcastInDim S800000 ![] hb (constantI S_ 32 0#32) (Shape.Idx.ofFin p)) = 0#1 := by
    show IntOp.cmpi .slt (ix (Shape.Idx.ofFin p)) 0#32 = 0#1
    rw [WordCmp.cmpi_slt_eq]
    have hn : ¬ (ix (Shape.Idx.ofFin p)).toInt < (0#32 : BitVec 32).toInt := by
      rw [BitVec.toInt_eq_toNat_cond]
      have : (0#32 : BitVec 32).toInt = 0 := by decide
      rw [this]
      omega
    rw [decide_eq_false hn]
    rfl
  rw [hc]
  rfl

/-- A table's entries at a list of positions. -/
theorem lookup {N : ℕ} (hN : N ≤ 2 ^ 31) (dm : GatherDims ⟨1, ![N]⟩ S800000x1 S800000) (hc : dm.collapsedSliceDims = [0]) (hob : dm.operandBatchingDims = [])
    (hsim : dm.startIndexMap = [0]) (hivd : dm.indexVectorDim = 1) (x : (⟨1, ![N]⟩ : Shape).Idx → α) (W : BitVec 32) (ix : S800000.Idx → BitVec 32)
    (hb : S_.BroadcastsInDim S800000 (![] : Fin 0 → Fin S800000.rank))
    (hb' : S800000.BroadcastsInDim S800000x1 (![0] : Fin 1 → Fin S800000x1.rank)) (p : Fin 800000) (h : (ix (Shape.Idx.ofFin p)).toNat < N) :
    Host.gather dm x (wrapped W ix hb hb') (Shape.Idx.ofFin p) = x (Shape.Idx.ofFin ⟨(ix (Shape.Idx.ofFin p)).toNat, h⟩) := by
  rw [gather_take dm hc hob hsim hivd x _ p (by omega)]
  have hw := wrapped_at W ix hb hb' p (by omega)
  have hi : (ix (Shape.Idx.ofFin p)).toInt.toNat = (ix (Shape.Idx.ofFin p)).toNat := by
    rw [BitVec.toInt_eq_toNat_cond]
    omega
  congr 2
  apply Fin.ext
  show min _ (N - 1) = (ix (Shape.Idx.ofFin p)).toNat
  rw [hw, hi]
  omega

/-- A table's rows at a list of positions. -/
theorem lookup_row (dm : GatherDims S50000x3 S800000x1 S800000x3) (hoff : dm.offsetDims = [1]) (hc : dm.collapsedSliceDims = [0])
    (hob : dm.operandBatchingDims = []) (hsim : dm.startIndexMap = [0]) (hivd : dm.indexVectorDim = 1) (x : S50000x3.Idx → α) (W : BitVec 32)
    (ix : S800000.Idx → BitVec 32) (hb : S_.BroadcastsInDim S800000 (![] : Fin 0 → Fin S800000.rank))
    (hb' : S800000.BroadcastsInDim S800000x1 (![0] : Fin 1 → Fin S800000x1.rank)) (p : Fin 800000) (k : Fin 3) (h : (ix (Shape.Idx.ofFin p)).toNat < 50000) :
    Host.gather dm x (wrapped W ix hb hb') (ix2 p k) = x (ix2 ⟨(ix (Shape.Idx.ofFin p)).toNat, h⟩ k) := by
  refine Routing.gather_row (nb := 50000) (B := 3) (n := 800000) dm hoff hc hob hsim hivd x _ p k ⟨(ix (Shape.Idx.ofFin p)).toNat, h⟩ ?_ (by decide)
  have hw := wrapped_at W ix hb hb' p (by omega)
  have he : (ValueIdx.ix2 p (0 : Fin 1) : S800000x1.Idx) = ixP p := by
    funext a
    match a with
    | ⟨0, _⟩ => rfl
    | ⟨1, _⟩ => rfl
  rw [he, hw]
  show _ = BitVec.ofNat 32 (ix (Shape.Idx.ofFin p)).toNat
  simp

/-- A padded table within its own entries. -/
theorem flat_cat {a b c : ℕ} (hac : a ≤ c) (z : α) (x : (⟨1, ![a]⟩ : Shape).Idx → α) (y : (⟨1, ![b]⟩ : Shape).Idx → α)
    (h : Shape.Concatenates [⟨1, ![a]⟩, ⟨1, ![b]⟩] ⟨1, ![c]⟩ 0) (k : ℕ) (hk : k < a) :
    ofFlat (n := c) z (concatenate ⟨1, ![c]⟩ 0 [⟨⟨1, ![a]⟩, x⟩, ⟨⟨1, ![b]⟩, y⟩] h) k = x (Shape.Idx.ofFin ⟨k, hk⟩) := by
  unfold ofFlat
  rw [dif_pos (by omega)]
  refine concatenate_pair_apply_left (t := ⟨1, ![c]⟩) (s₁ := ⟨1, ![a]⟩) (s₂ := ⟨1, ![b]⟩) 0 x y h _ rfl _ ?_
  intro b
  match b with
  | ⟨0, _⟩ => rfl

/-- What holds of a table's entries and of its padding holds of the two together. -/
theorem cat_all {a b c : ℕ} (P : α → Prop) (x : (⟨1, ![a]⟩ : Shape).Idx → α) (y : (⟨1, ![b]⟩ : Shape).Idx → α)
    (h : Shape.Concatenates [⟨1, ![a]⟩, ⟨1, ![b]⟩] ⟨1, ![c]⟩ 0) (hx : ∀ j, P (x j)) (hy : ∀ j, P (y j)) (j : (⟨1, ![c]⟩ : Shape).Idx) :
    P (concatenate ⟨1, ![c]⟩ 0 [⟨⟨1, ![a]⟩, x⟩, ⟨⟨1, ![b]⟩, y⟩] h j) := by
  rw [concatenate_pair_apply (t := ⟨1, ![c]⟩) (s₁ := ⟨1, ![a]⟩) (s₂ := ⟨1, ![b]⟩)]
  split
  · exact hx _
  · exact hy _

/-- What holds of a table's entries and of zero holds of the table taken at the order. -/
theorem taken_all (P : BitVec 32 → Prop) (o x : S802816.Idx → BitVec 32) (hx : ∀ j, P (x j)) (h0 : P 0#32) (j : S802816.Idx) : P (taken o x j) := by
  unfold taken flat ofFlat
  split
  · exact hx _
  · exact h0

/-- Column `k` of the padded points, at a point. -/
theorem flat_column (z : α) (k : Fin 3) (x : S50000x3.Idx → α) (v : S_.Idx → α) (hp : S50000x3.Pads ![0, 0] ![176, 0] ![0, 0] S50176x3) (hu : 0 < S_.numel)
    (off : Fin 2 → ℕ) (hoff : off = ![0, k.val]) (hs : S50176x3.Slices off S50176x1) (hc : S50176x1.ShapeCasts S50176) (i : ℕ) (hi : i < 50000) :
    ofFlat (n := 50176) z (shapeCast S50176 (extractStridedSlice S50176x1 off (pad S50176x3 ![0, 0] ![176, 0] ![0, 0] x v hp hu) hs) hc) i
      = x (ix2 ⟨i, hi⟩ k) := by
  subst hoff
  unfold ofFlat
  rw [dif_pos (by omega)]
  rw [shapeCast_apply (s := S50176x1) (t := S50176) _ hc _ (ix2 ⟨i, by omega⟩ (0 : Fin 1)) (by
    rw [Shape.rowMajor_val_two, Shape.rowMajor_val_one]
    show i * 1 + 0 = i
    omega)]
  unfold extractStridedSlice
  refine pad_apply_of_inside (s := S50000x3) (t := S50176x3) ![0, 0] ![176, 0] ![0, 0] x v hp hu _ (ix2 ⟨i, hi⟩ k) ?_
  intro a
  match a with
  | ⟨0, _⟩ =>
    show 0 + i = 0 + i * (0 + 1)
    omega
  | ⟨1, _⟩ =>
    show k.val + 0 = 0 + k.val * (0 + 1)
    omega

/-- Two small words' distance, clipped above, is the distance clipped on both sides. -/
theorem clip_eq (a b : BitVec 32) (ha : a.toNat < 12500) (hb : b.toNat < 12500) :
    IntOp.minsi 10#32 (IntOp.maxsi 0#32 (IntOp.absi (IntOp.subi a b))) = sdOf a b := by
  have h1 : ∀ x : BitVec 32, x.toNat < 2 ^ 31 → IntOp.maxsi 0#32 x = x := by
    intro x hx
    unfold IntOp.maxsi
    have : x.slt 0#32 = false := by
      rw [BitVec.slt_eq_decide, decide_eq_false_iff_not, BitVec.toInt_eq_toNat_cond, BitVec.toInt_eq_toNat_cond]
      simp only [BitVec.toNat_ofNat]
      omega
    rw [this]
    rfl
  have h2 : ∀ x : BitVec 32, IntOp.minsi 10#32 x = IntOp.minsi x 10#32 := by
    intro x
    unfold IntOp.minsi
    rcases lt_trichotomy x.toInt (10#32 : BitVec 32).toInt with h | h | h
    · rw [BitVec.slt_eq_decide, BitVec.slt_eq_decide, decide_eq_false (by omega), decide_eq_true h]
      rfl
    · have : x = 10#32 := BitVec.eq_of_toInt_eq h
      subst this
      rfl
    · rw [BitVec.slt_eq_decide, BitVec.slt_eq_decide, decide_eq_false (show ¬ x.toInt < (10#32 : BitVec 32).toInt by omega), decide_eq_true h]
      rfl
  have h3 : (IntOp.absi (IntOp.subi a b)).toNat < 2 ^ 31 := by
    unfold IntOp.absi IntOp.subi
    split
    · rename_i h
      rw [BitVec.msb_eq_decide, decide_eq_true_eq] at h
      rw [BitVec.toNat_neg, BitVec.toNat_sub] at *
      omega
    · rename_i h
      rw [BitVec.msb_eq_decide, decide_eq_true_eq] at h
      omega
  rw [h1 _ h3, h2]
  rfl

/-- Three squared differences summed from zero. -/
theorem dist_eq (a b : S800000x3.Idx → EReal) (h : S800000x3.ReducesTo [1] S800000) (hu : 0 < S_.numel) (p : Fin 800000) :
    Host.reduceAdd (F := Ideal) (φ := .f32) (mulf (F := Ideal) (φ := .f32) (subf (F := Ideal) (φ := .f32) a b) (subf (F := Ideal) (φ := .f32) a b))
        (constant (F := Ideal) S_ .f32 0x00000000#32) h hu (Shape.Idx.ofFin p)
      = distOf (F := Ideal) (a (ix2 p 0)) (b (ix2 p 0)) (a (ix2 p 1)) (b (ix2 p 1)) (a (ix2 p 2)) (b (ix2 p 2)) := by
  refine (Ideal.hostReduceAdd_r2_a1 (n0 := 800000) (n1 := 3) h _ _ (Shape.Idx.ofFin p)).trans ?_
  rw [Fin.sum_univ_three]
  unfold distOf
  show _ + (_ + _ + _) = ((_ + _) + _) + _
  rw [← add_assoc, ← add_assoc]
  rfl

theorem at_head (hs : S802816.Slices ![0] S800000) {z : S802816.Idx → BitVec 32} {n : S800000.Idx → BitVec 32} (h : extractStridedSlice S800000 ![0] z hs = n) (p : Fin 800000) :
    z (Shape.Idx.ofFin ⟨p.val, lt_all p⟩) = n (Shape.Idx.ofFin p) := by
  rw [← h, slice_at]

section Lists

variable (dmN : GatherDims S800000 S800000x1 S800000) (hNc : dmN.collapsedSliceDims = [0]) (hNb : dmN.operandBatchingDims = [])
  (hNs : dmN.startIndexMap = [0]) (hNi : dmN.indexVectorDim = 1)
  (dmB : GatherDims S50000 S800000x1 S800000) (hBc : dmB.collapsedSliceDims = [0]) (hBb : dmB.operandBatchingDims = [])
  (hBs : dmB.startIndexMap = [0]) (hBi : dmB.indexVectorDim = 1)
  (dmR : GatherDims S12500 S800000x1 S800000) (hRc : dmR.collapsedSliceDims = [0]) (hRb : dmR.operandBatchingDims = [])
  (hRs : dmR.startIndexMap = [0]) (hRi : dmR.indexVectorDim = 1)
  (dmX : GatherDims S50000x3 S800000x1 S800000x3) (hXo : dmX.offsetDims = [1]) (hXc : dmX.collapsedSliceDims = [0])
  (hXb : dmX.operandBatchingDims = []) (hXs : dmX.startIndexMap = [0]) (hXi : dmX.indexVectorDim = 1)
  (hs : S802816.Slices ![0] S800000) (hb : S_.BroadcastsInDim S800000 (![] : Fin 0 → Fin S800000.rank))
  (hb' : S800000.BroadcastsInDim S800000x1 (![0] : Fin 1 → Fin S800000x1.rank))

include hNc hNb hNs hNi in
/-- A padded list taken at the order and cut back is the list's lookups at the order's head. -/
theorem piece (o : S802816.Idx → BitVec 32) (x : S800000.Idx → BitVec 32) (y : S2816.Idx → BitVec 32)
    (h : ∀ p : Fin 800000, (o (Shape.Idx.ofFin ⟨p.val, lt_all p⟩)).toNat < 800000) (hcat : Shape.Concatenates [S800000, S2816] S802816 0) :
    extractStridedSlice S800000 ![0] (taken o (concatenate S802816 0 [⟨S800000, x⟩, ⟨S2816, y⟩] hcat)) hs
      = Host.gather dmN x (wrapped 800000#32 (extractStridedSlice S800000 ![0] o hs) hb hb') := by
  funext j
  obtain ⟨p, rfl⟩ := idx_fin j
  have hp := h p
  rw [lookup (N := 800000) (by decide) dmN hNc hNb hNs hNi x _ _ hb hb' p (by rw [slice_at]; exact hp), slice_at]
  refine (flat_cat (a := 800000) (b := 2816) (c := 802816) (by decide) 0#32 x y hcat _ hp).trans ?_
  congr 2
  apply Fin.ext
  show _ = (extractStridedSlice S800000 ![0] o hs (Shape.Idx.ofFin p)).toNat
  rw [slice_at]

include hNc hNb hNs hNi in
theorem gathered_all (P : BitVec 32 → Prop) (o : S802816.Idx → BitVec 32) (x : S800000.Idx → BitVec 32)
    (h : ∀ p : Fin 800000, (o (Shape.Idx.ofFin ⟨p.val, lt_all p⟩)).toNat < 800000) (hx : ∀ j, P (x j)) (p : Fin 800000) :
    P (Host.gather dmN x (wrapped 800000#32 (extractStridedSlice S800000 ![0] o hs) hb hb') (Shape.Idx.ofFin p)) := by
  have hp := h p
  rw [lookup (N := 800000) (by decide) dmN hNc hNb hNs hNi x _ _ hb hb' p (by rw [slice_at]; exact hp)]
  exact hx _

variable (z2 z3 : S802816.Idx → BitVec 32) (ni no : S800000.Idx → BitVec 32)
  (h2 : extractStridedSlice S800000 ![0] z2 hs = ni) (h3 : extractStridedSlice S800000 ![0] z3 hs = no)
  (hni : ∀ p : Fin 800000, (ni (Shape.Idx.ofFin p)).toNat < 50000) (hno : ∀ p : Fin 800000, (no (Shape.Idx.ofFin p)).toNat < 50000)

include hBc hBb hBs hBi in
/-- A residue of a body, looked up in the padded table and in the table. -/
theorem residue {n : S800000.Idx → BitVec 32} (hn : ∀ p : Fin 800000, (n (Shape.Idx.ofFin p)).toNat < 50000)
    (b : S50000.Idx → BitVec 32) (y : S176.Idx → BitVec 32) (hcat : Shape.Concatenates [S50000, S176] S50176 0) (p : Fin 800000) :
    flatB (concatenate S50176 0 [⟨S50000, b⟩, ⟨S176, y⟩] hcat) (n (Shape.Idx.ofFin p)).toNat
      = Host.gather dmB b (wrapped 50000#32 n hb hb') (Shape.Idx.ofFin p) := by
  rw [lookup (N := 50000) (by decide) dmB hBc hBb hBs hBi b _ n hb hb' p (hn p)]
  exact flat_cat (a := 50000) (b := 176) (c := 50176) (by decide) 0#32 b y hcat _ (hn p)

include hBc hBb hBs hBi in
theorem residue_lt {n : S800000.Idx → BitVec 32} (hn : ∀ p : Fin 800000, (n (Shape.Idx.ofFin p)).toNat < 50000)
    (b : S50000.Idx → BitVec 32) (hbr : ∀ j, (b j).toNat < 12500) (p : Fin 800000) :
    (Host.gather dmB b (wrapped 50000#32 n hb hb') (Shape.Idx.ofFin p)).toNat < 12500 := by
  rw [lookup (N := 50000) (by decide) dmB hBc hBb hBs hBi b _ n hb hb' p (hn p)]
  exact hbr _

include hBc hBb hBs hBi hRc hRb hRs hRi h2 hni in
/-- The types of the residues of a list's bodies. -/
theorem twice_eq (b : S50000.Idx → BitVec 32) (y : S176.Idx → BitVec 32) (hcat : Shape.Concatenates [S50000, S176] S50176 0)
    (r : S12500.Idx → BitVec 32) (y' : S12.Idx → BitVec 32) (hcat' : Shape.Concatenates [S12500, S12] S12512 0) (hbr : ∀ j, (b j).toNat < 12500) :
    extractStridedSlice S800000 ![0] (twice z2 (concatenate S50176 0 [⟨S50000, b⟩, ⟨S176, y⟩] hcat) (concatenate S12512 0 [⟨S12500, r⟩, ⟨S12, y'⟩] hcat')) hs
      = Host.gather dmR r (wrapped 12500#32 (Host.gather dmB b (wrapped 50000#32 ni hb hb')) hb hb') := by
  funext j
  obtain ⟨p, rfl⟩ := idx_fin j
  have hl := residue_lt dmB hBc hBb hBs hBi hb hb' hni b hbr p
  rw [slice_at, lookup (N := 12500) (by decide) dmR hRc hRb hRs hRi r _ _ hb hb' p hl]
  unfold twice
  rw [at_head hs h2 p, residue dmB hBc hBb hBs hBi hb hb' hni b y hcat p]
  exact flat_cat (a := 12500) (b := 12) (c := 12512) (by decide) 0#32 r y' hcat' _ hl

include hBc hBb hBs hBi h2 h3 hni hno in
/-- The clipped distances of the residues of two lists' bodies. -/
theorem apart_eq (b : S50000.Idx → BitVec 32) (y : S176.Idx → BitVec 32) (hcat : Shape.Concatenates [S50000, S176] S50176 0) (hbr : ∀ j, (b j).toNat < 12500) :
    extractStridedSlice S800000 ![0] (apart z2 z3 (concatenate S50176 0 [⟨S50000, b⟩, ⟨S176, y⟩] hcat)) hs
      = minsi (broadcastInDim S800000 ![] hb (id (constantI S_ 32 10#32))) (maxsi (broadcastInDim S800000 ![] hb (id (constantI S_ 32 0#32)))
        (absi (subi (Host.gather dmB b (wrapped 50000#32 ni hb hb')) (Host.gather dmB b (wrapped 50000#32 no hb hb'))))) := by
  funext j
  obtain ⟨p, rfl⟩ := idx_fin j
  rw [slice_at]
  unfold apart
  rw [at_head hs h2 p, at_head hs h3 p, residue dmB hBc hBb hBs hBi hb hb' hni b y hcat p, residue dmB hBc hBb hBs hBi hb hb' hno b y hcat p,
    ← clip_eq _ _ (residue_lt dmB hBc hBb hBs hBi hb hb' hni b hbr p) (residue_lt dmB hBc hBb hBs hBi hb hb' hno b hbr p)]
  rfl

include hXo hXc hXb hXs hXi h2 h3 hni hno in
/-- The squared distances of two lists' bodies' points. -/
theorem square_eq (x : S50000x3.Idx → EReal) (v : S_.Idx → EReal) (hp : S50000x3.Pads ![0, 0] ![176, 0] ![0, 0] S50176x3) (hu : 0 < S_.numel)
    (hs0 : S50176x3.Slices ![0, 0] S50176x1) (hs1 : S50176x3.Slices ![0, 1] S50176x1) (hs2 : S50176x3.Slices ![0, 2] S50176x1)
    (hc : S50176x1.ShapeCasts S50176) (h : S800000x3.ReducesTo [1] S800000) :
    extractStridedSlice S800000 ![0] (square (F := Ideal) z2 z3
        (shapeCast S50176 (extractStridedSlice S50176x1 ![0, 0] (pad S50176x3 ![0, 0] ![176, 0] ![0, 0] x v hp hu) hs0) hc)
        (shapeCast S50176 (extractStridedSlice S50176x1 ![0, 1] (pad S50176x3 ![0, 0] ![176, 0] ![0, 0] x v hp hu) hs1) hc)
        (shapeCast S50176 (extractStridedSlice S50176x1 ![0, 2] (pad S50176x3 ![0, 0] ![176, 0] ![0, 0] x v hp hu) hs2) hc)) hs
      = Host.reduceAdd (F := Ideal) (φ := .f32) (mulf (F := Ideal) (φ := .f32)
          (subf (F := Ideal) (φ := .f32) (Host.gather dmX x (wrapped 50000#32 ni hb hb')) (Host.gather dmX x (wrapped 50000#32 no hb hb')))
          (subf (F := Ideal) (φ := .f32) (Host.gather dmX x (wrapped 50000#32 ni hb hb')) (Host.gather dmX x (wrapped 50000#32 no hb hb'))))
        (constant (F := Ideal) S_ .f32 0x00000000#32) h hu := by
  funext j
  obtain ⟨p, rfl⟩ := idx_fin j
  rw [slice_at, dist_eq]
  unfold square flatX
  rw [at_head hs h2 p, at_head hs h3 p]
  rw [lookup_row dmX hXo hXc hXb hXs hXi x _ ni hb hb' p 0 (hni p), lookup_row dmX hXo hXc hXb hXs hXi x _ ni hb hb' p 1 (hni p),
    lookup_row dmX hXo hXc hXb hXs hXi x _ ni hb hb' p 2 (hni p), lookup_row dmX hXo hXc hXb hXs hXi x _ no hb hb' p 0 (hno p),
    lookup_row dmX hXo hXc hXb hXs hXi x _ no hb hb' p 1 (hno p), lookup_row dmX hXo hXc hXb hXs hXi x _ no hb hb' p 2 (hno p)]
  rw [flat_column _ 0 x v hp hu ![0, 0] rfl hs0 hc _ (hni p), flat_column _ 0 x v hp hu ![0, 0] rfl hs0 hc _ (hno p),
    flat_column _ 1 x v hp hu ![0, 1] rfl hs1 hc _ (hni p), flat_column _ 1 x v hp hu ![0, 1] rfl hs1 hc _ (hno p),
    flat_column _ 2 x v hp hu ![0, 2] rfl hs2 hc _ (hni p), flat_column _ 2 x v hp hu ![0, 2] rfl hs2 hc _ (hno p)]

end Lists

end Cert.Proof.Lookup
-- ==== Proof.Value.lean ====
/-
  The values: what the program's buffers hold at its end, in terms of its arguments; and what the precondition says of them.
-/
module

public import proofs.«01_k».proof.Proof.Main
public import proofs.«01_k».proof.Proof.Lookup
public import Idealize.ShloMosaic.Lib.ReduceAll
public import proofs.«01_k».proof.Proof.Gen.Pre_in_range

@[expose] public section

noncomputable section

namespace Cert.Proof.Launch

open Cert.KernelIdeal Cert.KernelIdeal.Gen
open Idealize.ShloMosaic
open Idealize.ShloMosaic.StableHlo Idealize.ShloMosaic.StableHlo.Predicate
open Cert.Proof.Rows Cert.Proof.CdOne Cert.Proof.Lookup
open Cert.Proof.CdTwo (twice apart square)

variable {F : FTy → Type} [FloatOps F]
variable (m : (ℓ : Loc nD τ sig) → Buf (Elt F) ℓ) (d : Dev nD)

theorem y2_eq : y2 m d = m (d, tcb main_arg0) := by
  unfold y2 V1
  after_results_simp

/-- A list followed by a constant. -/
abbrev padded (x : S800000.Idx → BitVec 32) (w : BitVec 32) : S802816.Idx → BitVec 32 :=
  padCat (F := F) x (broadcastInDim S2816 ![] bcast_S_S2816 (constantI S_ 32 w))

/-- The bodies' residues followed by zeros. -/
abbrev paddedB (x : S50000.Idx → BitVec 32) : S50176.Idx → BitVec 32 :=
  padB (F := F) x (broadcastInDim S176 ![] bcast_S_S176 (constantI S_ 32 0#32))

/-- The residues' types followed by zeros. -/
abbrev paddedR (x : S12500.Idx → BitVec 32) : S12512.Idx → BitVec 32 :=
  padR (F := F) x (broadcastInDim S12 ![] bcast_S_S12 (constantI S_ 32 0#32))

/-- A column of the points followed by rows of zeros. -/
abbrev columnOf (off : Fin 2 → ℕ) (hs : S50176x3.Slices off S50176x1) (x : S50000x3.Idx → F .f32) : S50176.Idx → F .f32 :=
  shapeCast S50176 (extractStridedSlice S50176x1 off (padRows (F := F) x (sitofp .f32 (constantI S_ 32 0#32))) hs) shapeCasts_S50176x1_S50176

theorem y3_eq : y3 m d = padded (F := F) (m (d, tcb main_arg2)) 50175#32 := by
  unfold y3 V1
  after_results_simp

theorem y4_eq : y4 m d = padded (F := F) (m (d, tcb main_arg3)) 50175#32 := by
  unfold y4 V1
  after_results_simp

theorem y5_eq : y5 m d = padded (F := F) (m (d, tcb main_arg4)) 0#32 := by
  unfold y5 V1
  after_results_simp

/-- A buffer the first line and the first call leave. -/
theorem kept_two (r : Ref sig .tc) (h2 : r ∉ [main_v6_0, main_v6_1, main_v6_2]) (h3 : r ∉ [main_c, main_v0, main_v1, main_c_0, main_v2, main_v3, main_c_1, main_v4, main_v5]) : V2 m d (tcb r) = m (d, tcb r) := by
  simp only [List.mem_cons, List.not_mem_nil, _root_.or_false, not_or] at h2
  have e1 : V1 m d (tcb r) = m (d, tcb r) := after_of_writes_sub ops1 (launchContents m d) (forall_writes_sub_of_map rfl) h3
  rw [V2_of_ne m d (tcb r) (fun h => h2.1 (Proc.devRef_injective _ h)) (fun h => h2.2.1 (Proc.devRef_injective _ h))
    (fun h => h2.2.2 (Proc.devRef_injective _ h)), e1]

theorem kept_three (r : Ref sig .tc) (h : r ∉ [main_c_2, main_v7, main_v8, main_c_3, main_v9, main_v10, main_c_4, main_call0_v0, main_v11, main_v12, main_v13, main_v14, main_v15, main_v16, main_v17]) :
    V3 m d (tcb r) = V2 m d (tcb r) :=
  after_of_writes_sub ops2 (V2 m d) (forall_writes_sub_of_map rfl) h

theorem arg_eq (r : Ref sig .tc) (h1 : r ∉ [main_v19, main_v20, main_v21, main_v22, main_v23, main_v24, main_v25, main_v26, main_v27, main_v28, main_v29])
    (h2 : r ∉ [main_v18_0, main_v18_1, main_v18_2, main_v18_3]) (h3 : r ∉ [main_c_2, main_v7, main_v8, main_c_3, main_v9, main_v10, main_c_4, main_call0_v0, main_v11, main_v12, main_v13, main_v14, main_v15, main_v16, main_v17])
    (h4 : r ∉ [main_v6_0, main_v6_1, main_v6_2]) (h5 : r ∉ [main_c, main_v0, main_v1, main_c_0, main_v2, main_v3, main_c_1, main_v4, main_v5]) :
    V5 m d (tcb r) = m (d, tcb r) := by
  simp only [List.mem_cons, List.not_mem_nil, _root_.or_false, not_or] at h2
  have e3 : V5 m d (tcb r) = V4 m d (tcb r) := after_of_writes_sub ops3 (V4 m d) (forall_writes_sub_of_map rfl) h1
  rw [e3, V4_of_ne m d (tcb r) (fun h => h2.1 (Proc.devRef_injective _ h)) (fun h => h2.2.1 (Proc.devRef_injective _ h))
    (fun h => h2.2.2.1 (Proc.devRef_injective _ h)) (fun h => h2.2.2.2 (Proc.devRef_injective _ h)), kept_three m d r h3, kept_two m d r h4 h5]

theorem z2_eq : z2 m d = taken (y2 m d) (y3 m d) := (kept_three m d main_v6_0 (by decide)).trans (V2_v6_0 m d)
theorem z3_eq : z3 m d = taken (y2 m d) (y4 m d) := (kept_three m d main_v6_1 (by decide)).trans (V2_v6_1 m d)

theorem z4_eq : z4 m d = paddedB (F := F) (m (d, tcb main_arg5)) := by
  unfold z4 V3
  after_results_simp
  rw [kept_two m d main_arg5 (by decide) (by decide)]

theorem z5_eq : z5 m d = paddedR (F := F) (m (d, tcb main_arg6)) := by
  unfold z5 V3
  after_results_simp
  rw [kept_two m d main_arg6 (by decide) (by decide)]

theorem z6_eq : z6 m d = columnOf (F := F) ![0, 0] slices_S50176x3_S50176x1_0_0 (m (d, tcb main_arg1)) := by
  unfold z6 V3
  after_results_simp
  rw [kept_two m d main_arg1 (by decide) (by decide)]
  rfl

theorem z7_eq : z7 m d = columnOf (F := F) ![0, 1] slices_S50176x3_S50176x1_0_1 (m (d, tcb main_arg1)) := by
  unfold z7 V3
  after_results_simp
  rw [kept_two m d main_arg1 (by decide) (by decide)]
  rfl

theorem z8_eq : z8 m d = columnOf (F := F) ![0, 2] slices_S50176x3_S50176x1_0_2 (m (d, tcb main_arg1)) := by
  unfold z8 V3
  after_results_simp
  rw [kept_two m d main_arg1 (by decide) (by decide)]
  rfl

/-- The list's head. -/
abbrev cut {α : Type} (x : S802816.Idx → α) : S800000.Idx → α := extractStridedSlice S800000 ![0] x slices_S802816_S800000_0

/-- The list's head as a column. -/
abbrev column (x : S802816.Idx → BitVec 32) : S800000x1.Idx → BitVec 32 := broadcastInDim S800000x1 ![0] bcast_S800000_S800000x1_0 (cut x)

theorem v6_at (r : Ref sig .tc) (h : r ∉ [main_v18_0, main_v18_1, main_v18_2, main_v18_3]) (h' : r ∉ [main_c_2, main_v7, main_v8, main_c_3, main_v9, main_v10, main_c_4, main_call0_v0, main_v11, main_v12, main_v13, main_v14, main_v15, main_v16, main_v17]) :
    V4 m d (tcb r) = V2 m d (tcb r) := by
  simp only [List.mem_cons, List.not_mem_nil, _root_.or_false, not_or] at h
  rw [V4_of_ne m d (tcb r) (fun e => h.1 (Proc.devRef_injective _ e)) (fun e => h.2.1 (Proc.devRef_injective _ e))
    (fun e => h.2.2.1 (Proc.devRef_injective _ e)) (fun e => h.2.2.2 (Proc.devRef_injective _ e)), kept_three m d r h']

theorem edges_eq : V5 m d (tcb main_v25)
    = stack3 (F := F) (column (taken (y2 m d) (y3 m d))) (column (taken (y2 m d) (y4 m d))) (column (taken (y2 m d) (y5 m d))) := by
  unfold V5
  after_results_simp
  dsimp only [Matrix.cons_val]
  after_results_simp
  rw [v6_at m d main_v6_0 (by decide) (by decide), v6_at m d main_v6_1 (by decide) (by decide), v6_at m d main_v6_2 (by decide) (by decide),
    V2_v6_0, V2_v6_1, V2_v6_2]

theorem typesIn_eq : V5 m d (tcb main_v26) = cut (twice (z2 m d) (z4 m d) (z5 m d)) := by
  unfold V5
  after_results_simp
  rw [V4_v18_0]

theorem typesOut_eq : V5 m d (tcb main_v27) = cut (twice (z3 m d) (z4 m d) (z5 m d)) := by
  unfold V5
  after_results_simp
  rw [V4_v18_1]

theorem apart_at : V5 m d (tcb main_v28) = cut (apart (z2 m d) (z3 m d) (z4 m d)) := by
  unfold V5
  after_results_simp
  rw [V4_v18_2]

theorem square_at : V5 m d (tcb main_v29) = cut (square (z2 m d) (z3 m d) (z6 m d) (z7 m d) (z8 m d)) := by
  unfold V5
  after_results_simp
  rw [V4_v18_3]

/-- A signed range is a range of the word's value. -/
theorem lt_of_range {x : BitVec 32} {n : ℕ} (h0 : (0 : ℤ) ≤ x.toInt) (h1 : x.toInt < n) : x.toNat < n := by
  rw [BitVec.toInt_eq_toNat_cond] at h0 h1
  split at h0 <;> omega

/-- What the precondition says: every word of the order is a position and each of the first 800000 an edge, the edges' ends are
    bodies, and the bodies' residues are residues. -/
theorem of_pre (o : S802816.Idx → BitVec 32) (x : S50000x3.Idx → F .f32) (a b c : S800000.Idx → BitVec 32) (e : S50000.Idx → BitVec 32)
    (f : S12500.Idx → BitVec 32) (h : Cert.Pre_in_range.fn (F := F) o x a b c e f = fun _ => 1#1) :
    (∀ j, (o j).toNat < 802816) ∧ (∀ p : Fin 800000, (o (Shape.Idx.ofFin ⟨p.val, by omega⟩)).toNat < 800000)
      ∧ (∀ j, (a j).toNat < 50000) ∧ (∀ j, (b j).toNat < 50000) ∧ ∀ j, (e j).toNat < 12500 := by
  have h0 := congrFun h (fun a => a.elim0)
  unfold Cert.Pre_in_range.fn Cert.Pre_in_range.fn_part1 Cert.Pre_in_range.fn_part2 at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_in_range.S_.Idx := ⟨fun x y => funext fun a => a.elim0⟩
  have k1 : ∀ j, (0 : ℤ) ≤ (o j).toInt := fun j => IntOp.cmpi_sge.1 (Host.reduce_andi_all _ _ _ _ _ h1 j)
  have k2 : ∀ j, (o j).toInt < (802816 : ℕ) := fun j => IntOp.cmpi_slt.1 (Host.reduce_andi_all _ _ _ _ _ h2 j)
  have k3 : ∀ p : Fin 800000, (o (Shape.Idx.ofFin ⟨p.val, by omega⟩)).toInt < (800000 : ℕ) := fun p => by
    have e := IntOp.cmpi_slt.1 (Host.reduce_andi_all _ _ _ _ _ h3 (Shape.Idx.ofFin p))
    have e' : (extractStridedSlice S800000 ![0] o slices_S802816_S800000_0 (Shape.Idx.ofFin p)).toInt < (800000 : ℕ) := e
    rw [slice_at] at e'
    exact e'
  have k4 : ∀ j, (0 : ℤ) ≤ (a j).toInt := fun j => IntOp.cmpi_sge.1 (Host.reduce_andi_all _ _ _ _ _ h4 j)
  have k5 : ∀ j, (a j).toInt < (50000 : ℕ) := fun j => IntOp.cmpi_slt.1 (Host.reduce_andi_all _ _ _ _ _ h5 j)
  have k6 : ∀ j, (0 : ℤ) ≤ (b j).toInt := fun j => IntOp.cmpi_sge.1 (Host.reduce_andi_all _ _ _ _ _ h6 j)
  have k7 : ∀ j, (b j).toInt < (50000 : ℕ) := fun j => IntOp.cmpi_slt.1 (Host.reduce_andi_all _ _ _ _ _ h7 j)
  have k8 : ∀ j, (0 : ℤ) ≤ (e j).toInt := fun j => IntOp.cmpi_sge.1 (Host.reduce_andi_all _ _ _ _ _ h8 j)
  have k9 : ∀ j, (e j).toInt < (12500 : ℕ) := fun j => IntOp.cmpi_slt.1 (Host.reduce_andi_all _ _ _ _ _ h9 j)
  exact ⟨fun j => lt_of_range (k1 j) (k2 j), fun p => lt_of_range (k1 _) (k3 p), fun j => lt_of_range (k4 j) (k5 j),
    fun j => lt_of_range (k6 j) (k7 j), fun j => lt_of_range (k8 j) (k9 j)⟩

/-- The taken lists' words are bodies of the padded table. -/
theorem taken_lt (o : S802816.Idx → BitVec 32) (x : S800000.Idx → BitVec 32) (hx : ∀ j, (x j).toNat < 50000) (j : S802816.Idx) :
    (taken o (padded (F := F) x 50175#32) j).toNat < 50176 :=
  taken_all (fun w => w.toNat < 50176) o _ (fun j => cat_all (a := 800000) (b := 2816) (c := 802816) (fun w => w.toNat < 50176) x _ _
    (fun j => by have := hx j; omega) (fun _ => by show (50175#32 : BitVec 32).toNat < 50176; decide) j) (by decide) j

/-- The padded residues are residues of the padded table. -/
theorem paddedB_lt (x : S50000.Idx → BitVec 32) (hx : ∀ j, (x j).toNat < 12500) (j : S50176.Idx) :
    (paddedB (F := F) x j).toNat < 12512 :=
  cat_all (a := 50000) (b := 176) (c := 50176) (fun w => w.toNat < 12512) x _ _
    (fun j => by have := hx j; omega) (fun _ => by show (0#32 : BitVec 32).toNat < 12512; decide) j

end Cert.Proof.Launch
-- ==== Proof.FeatureBlock.lean ====
/-
  The feature call's two results, element by element, from the arrays it is called with.
-/
module

public import proofs.«01_k».proof.Proof.Gen.FeatureIdeal.Value
public import Idealize.ShloMosaic.Lib.Pointwise
public import Idealize.ShloMosaic.Lib.Pipeline.Value

@[expose] public section

noncomputable section

namespace Cert.Proof.FeatureBlock

open Cert.FeatureIdeal Cert.FeatureIdeal.Gen Cert.FeatureIdeal.Value
open Idealize.ShloMosaic

variable {F : FTy → Type} [FloatOps F]

/-- Whether column `k` is one of an edge's four. -/
def hit (a b r s : BitVec 32) (k : ℕ) : BitVec 1 :=
  IntOp.ori
    (IntOp.ori (IntOp.ori (IntOp.cmpi .eq (BitVec.ofNat 32 k) a) (IntOp.cmpi .eq (BitVec.ofNat 32 k) (IntOp.addi b 21#32)))
      (IntOp.cmpi .eq (BitVec.ofNat 32 k) (IntOp.addi r 42#32)))
    (IntOp.cmpi .eq (BitVec.ofNat 32 k) (IntOp.addi (IntOp.addi s 42#32) 7#32))

/-- An edge's feature in column `k`. -/
def featOf (a b r s : BitVec 32) (x : F .f32) (k : ℕ) : F .f32 :=
  Scalar.select (IntOp.cmpi .eq (BitVec.ofNat 32 k) 60#32)
    (FloatOps.sqrt (FloatOps.addf x (FloatOps.ofBits .f32 730643660#32)))
    (Scalar.select (hit a b r s k) (FloatOps.ofBits .f32 1065353216#32) (FloatOps.ofBits .f32 0#32))

/-- What a row of the list is shifted by. -/
def offOf (row : BitVec 32) (u v : S64.Idx → BitVec 32) : BitVec 32 :=
  Finset.fold IntOp.addi 0#32 (fun q : Fin 64 => Scalar.select (IntOp.cmpi .sge row (u (ix1 q))) (v (ix1 q)) 0#32) Finset.univ

theorem pay_at (a b r s : Vec F S1x1x6400 .i32) (x : Vec F S1x1x6400 .f32) (p : Fin 6400) (k : Fin 61) :
    k0_pay1 (F := F) (iota .tc S6400x61 32 [1] iota_S6400x61_d1_w32) (k0_pay3 a b r s) (k0_pay4 x) (Scalar.ofBits .f32 0x2B8CBCCC#32) (ix2 p k)
      = featOf (a (ix3 0 0 p)) (b (ix3 0 0 p)) (r (ix3 0 0 p)) (s (ix3 0 0 p)) (x (ix3 0 0 p)) k.val := by
  unfold k0_pay1 k0_pay3 k0_pay4
  pointwise
  rfl

theorem off_at (w : BitVec 32) (u v : Vec F S64 .i32) (p : Fin 6400) :
    k0_pay2 (F := F) w u v (ix3 0 0 p) = offOf (IntOp.addi (Scalar.muli w 6400#32) (BitVec.ofNat 32 p.val)) u v := by
  unfold k0_pay2
  pointwise
  rfl

variable (m : (ℓ : Loc nD τ sig) → Buf (Elt F) ℓ)

abbrev arg0 (c : Dev nD) : S800000.Idx → BitVec 32 := m ((c.tc : Thread nD τ).loc main_arg0)

abbrev arg1 (c : Dev nD) : S800000.Idx → BitVec 32 := m ((c.tc : Thread nD τ).loc main_arg1)

abbrev arg2 (c : Dev nD) : S800000.Idx → BitVec 32 := m ((c.tc : Thread nD τ).loc main_arg2)

abbrev arg3 (c : Dev nD) : S800000.Idx → BitVec 32 := m ((c.tc : Thread nD τ).loc main_arg3)

abbrev arg4 (c : Dev nD) : S800000.Idx → F .f32 := m ((c.tc : Thread nD τ).loc main_arg4)

abbrev arg5 (c : Dev nD) : S64.Idx → BitVec 32 := m ((c.tc : Thread nD τ).loc main_arg5)

abbrev arg6 (c : Dev nD) : S64.Idx → BitVec 32 := m ((c.tc : Thread nD τ).loc main_arg6)

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem V_v0 (c : Dev nD) : V m c main_v0 = shapeCast S125x1x6400 (arg0 m c) shapeCasts_S800000_S125x1x6400 := by
  show StableHlo.after hostOps0 (fun b => m (c, b)) (Proc.devRef .tc main_v0) = _
  simp only [hostOps0]
  after_results_simp
  rfl

theorem iblk0_at (c : Dev nD) (t : Fin cfg0.N) (q : Fin 6400) (p : Fin 800000) (hp : p.val = t.val * 6400 + q.val) :
    (iblk m c 0 t : Vec F S1x1x6400 .i32) (ix3 0 0 q) = (arg0 m c) (ix1 p) := by
  show V m c main_v0 ((win0_0.rect t).emb (ix3 0 0 q)) = _
  rw [V_v0]
  obtain ⟨h0, h1, h2⟩ := index0 t
  have e0 : ((win0_0.rect t).emb (ix3 0 0 q) 0 : ℕ) = win0_0.index t 0 * 1 + 0 := win0_0.rect_emb_val t (ix3 0 0 q) 0
  have e1 : ((win0_0.rect t).emb (ix3 0 0 q) 1 : ℕ) = win0_0.index t 1 * 1 + 0 := win0_0.rect_emb_val t (ix3 0 0 q) 1
  have e2 : ((win0_0.rect t).emb (ix3 0 0 q) 2 : ℕ) = win0_0.index t 2 * 6400 + q.val := win0_0.rect_emb_val t (ix3 0 0 q) 2
  rw [h0] at e0
  rw [h1] at e1
  rw [h2] at e2
  refine shapeCast_apply _ _ _ _ ?_
  rw [Shape.rowMajor_val_three, Shape.rowMajor_val_one]
  show p.val = (((win0_0.rect t).emb (ix3 0 0 q) 0 : ℕ) * 1 + ((win0_0.rect t).emb (ix3 0 0 q) 1 : ℕ)) * 6400 + ((win0_0.rect t).emb (ix3 0 0 q) 2 : ℕ)
  rw [e0, e1, e2, hp]
  clear e0 e1 e2 h0 h1 h2
  generalize t.val = a
  generalize q.val = b
  omega

theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem V_v1 (c : Dev nD) : V m c main_v1 = shapeCast S125x1x6400 (arg1 m c) shapeCasts_S800000_S125x1x6400 := by
  show StableHlo.after hostOps0 (fun b => m (c, b)) (Proc.devRef .tc main_v1) = _
  simp only [hostOps0]
  after_results_simp
  rfl

theorem iblk1_at (c : Dev nD) (t : Fin cfg0.N) (q : Fin 6400) (p : Fin 800000) (hp : p.val = t.val * 6400 + q.val) :
    (iblk m c 1 t : Vec F S1x1x6400 .i32) (ix3 0 0 q) = (arg1 m c) (ix1 p) := by
  show V m c main_v1 ((win0_1.rect t).emb (ix3 0 0 q)) = _
  rw [V_v1]
  obtain ⟨h0, h1, h2⟩ := index1 t
  have e0 : ((win0_1.rect t).emb (ix3 0 0 q) 0 : ℕ) = win0_1.index t 0 * 1 + 0 := win0_1.rect_emb_val t (ix3 0 0 q) 0
  have e1 : ((win0_1.rect t).emb (ix3 0 0 q) 1 : ℕ) = win0_1.index t 1 * 1 + 0 := win0_1.rect_emb_val t (ix3 0 0 q) 1
  have e2 : ((win0_1.rect t).emb (ix3 0 0 q) 2 : ℕ) = win0_1.index t 2 * 6400 + q.val := win0_1.rect_emb_val t (ix3 0 0 q) 2
  rw [h0] at e0
  rw [h1] at e1
  rw [h2] at e2
  refine shapeCast_apply _ _ _ _ ?_
  rw [Shape.rowMajor_val_three, Shape.rowMajor_val_one]
  show p.val = (((win0_1.rect t).emb (ix3 0 0 q) 0 : ℕ) * 1 + ((win0_1.rect t).emb (ix3 0 0 q) 1 : ℕ)) * 6400 + ((win0_1.rect t).emb (ix3 0 0 q) 2 : ℕ)
  rw [e0, e1, e2, hp]
  clear e0 e1 e2 h0 h1 h2
  generalize t.val = a
  generalize q.val = b
  omega

theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem V_v2 (c : Dev nD) : V m c main_v2 = shapeCast S125x1x6400 (arg2 m c) shapeCasts_S800000_S125x1x6400 := by
  show StableHlo.after hostOps0 (fun b => m (c, b)) (Proc.devRef .tc main_v2) = _
  simp only [hostOps0]
  after_results_simp
  rfl

theorem iblk2_at (c : Dev nD) (t : Fin cfg0.N) (q : Fin 6400) (p : Fin 800000) (hp : p.val = t.val * 6400 + q.val) :
    (iblk m c 2 t : Vec F S1x1x6400 .i32) (ix3 0 0 q) = (arg2 m c) (ix1 p) := by
  show V m c main_v2 ((win0_2.rect t).emb (ix3 0 0 q)) = _
  rw [V_v2]
  obtain ⟨h0, h1, h2⟩ := index2 t
  have e0 : ((win0_2.rect t).emb (ix3 0 0 q) 0 : ℕ) = win0_2.index t 0 * 1 + 0 := win0_2.rect_emb_val t (ix3 0 0 q) 0
  have e1 : ((win0_2.rect t).emb (ix3 0 0 q) 1 : ℕ) = win0_2.index t 1 * 1 + 0 := win0_2.rect_emb_val t (ix3 0 0 q) 1
  have e2 : ((win0_2.rect t).emb (ix3 0 0 q) 2 : ℕ) = win0_2.index t 2 * 6400 + q.val := win0_2.rect_emb_val t (ix3 0 0 q) 2
  rw [h0] at e0
  rw [h1] at e1
  rw [h2] at e2
  refine shapeCast_apply _ _ _ _ ?_
  rw [Shape.rowMajor_val_three, Shape.rowMajor_val_one]
  show p.val = (((win0_2.rect t).emb (ix3 0 0 q) 0 : ℕ) * 1 + ((win0_2.rect t).emb (ix3 0 0 q) 1 : ℕ)) * 6400 + ((win0_2.rect t).emb (ix3 0 0 q) 2 : ℕ)
  rw [e0, e1, e2, hp]
  clear e0 e1 e2 h0 h1 h2
  generalize t.val = a
  generalize q.val = b
  omega

theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem V_v3 (c : Dev nD) : V m c main_v3 = shapeCast S125x1x6400 (arg3 m c) shapeCasts_S800000_S125x1x6400 := by
  show StableHlo.after hostOps0 (fun b => m (c, b)) (Proc.devRef .tc main_v3) = _
  simp only [hostOps0]
  after_results_simp
  rfl

theorem iblk3_at (c : Dev nD) (t : Fin cfg0.N) (q : Fin 6400) (p : Fin 800000) (hp : p.val = t.val * 6400 + q.val) :
    (iblk m c 3 t : Vec F S1x1x6400 .i32) (ix3 0 0 q) = (arg3 m c) (ix1 p) := by
  show V m c main_v3 ((win0_3.rect t).emb (ix3 0 0 q)) = _
  rw [V_v3]
  obtain ⟨h0, h1, h2⟩ := index3 t
  have e0 : ((win0_3.rect t).emb (ix3 0 0 q) 0 : ℕ) = win0_3.index t 0 * 1 + 0 := win0_3.rect_emb_val t (ix3 0 0 q) 0
  have e1 : ((win0_3.rect t).emb (ix3 0 0 q) 1 : ℕ) = win0_3.index t 1 * 1 + 0 := win0_3.rect_emb_val t (ix3 0 0 q) 1
  have e2 : ((win0_3.rect t).emb (ix3 0 0 q) 2 : ℕ) = win0_3.index t 2 * 6400 + q.val := win0_3.rect_emb_val t (ix3 0 0 q) 2
  rw [h0] at e0
  rw [h1] at e1
  rw [h2] at e2
  refine shapeCast_apply _ _ _ _ ?_
  rw [Shape.rowMajor_val_three, Shape.rowMajor_val_one]
  show p.val = (((win0_3.rect t).emb (ix3 0 0 q) 0 : ℕ) * 1 + ((win0_3.rect t).emb (ix3 0 0 q) 1 : ℕ)) * 6400 + ((win0_3.rect t).emb (ix3 0 0 q) 2 : ℕ)
  rw [e0, e1, e2, hp]
  clear e0 e1 e2 h0 h1 h2
  generalize t.val = a
  generalize q.val = b
  omega

theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem V_v4 (c : Dev nD) : V m c main_v4 = shapeCast S125x1x6400 (arg4 m c) shapeCasts_S800000_S125x1x6400 := by
  show StableHlo.after hostOps0 (fun b => m (c, b)) (Proc.devRef .tc main_v4) = _
  simp only [hostOps0]
  after_results_simp
  rfl

theorem iblk4_at (c : Dev nD) (t : Fin cfg0.N) (q : Fin 6400) (p : Fin 800000) (hp : p.val = t.val * 6400 + q.val) :
    (iblk m c 4 t : Vec F S1x1x6400 .f32) (ix3 0 0 q) = (arg4 m c) (ix1 p) := by
  show V m c main_v4 ((win0_4.rect t).emb (ix3 0 0 q)) = _
  rw [V_v4]
  obtain ⟨h0, h1, h2⟩ := index4 t
  have e0 : ((win0_4.rect t).emb (ix3 0 0 q) 0 : ℕ) = win0_4.index t 0 * 1 + 0 := win0_4.rect_emb_val t (ix3 0 0 q) 0
  have e1 : ((win0_4.rect t).emb (ix3 0 0 q) 1 : ℕ) = win0_4.index t 1 * 1 + 0 := win0_4.rect_emb_val t (ix3 0 0 q) 1
  have e2 : ((win0_4.rect t).emb (ix3 0 0 q) 2 : ℕ) = win0_4.index t 2 * 6400 + q.val := win0_4.rect_emb_val t (ix3 0 0 q) 2
  rw [h0] at e0
  rw [h1] at e1
  rw [h2] at e2
  refine shapeCast_apply _ _ _ _ ?_
  rw [Shape.rowMajor_val_three, Shape.rowMajor_val_one]
  show p.val = (((win0_4.rect t).emb (ix3 0 0 q) 0 : ℕ) * 1 + ((win0_4.rect t).emb (ix3 0 0 q) 1 : ℕ)) * 6400 + ((win0_4.rect t).emb (ix3 0 0 q) 2 : ℕ)
  rw [e0, e1, e2, hp]
  clear e0 e1 e2 h0 h1 h2
  generalize t.val = a
  generalize q.val = b
  omega

theorem index5 : ∀ t : Fin cfg0.N, win0_5.index t 0 = 0 :=
  (by decide +kernel : ∀ t : Fin grid0.N, win0_5.index t 0 = 0)

theorem index6 : ∀ t : Fin cfg0.N, win0_6.index t 0 = 0 :=
  (by decide +kernel : ∀ t : Fin grid0.N, win0_6.index t 0 = 0)

theorem index7 : ∀ t : Fin cfg0.N, win0_7.index t 0 = t.val ∧ win0_7.index t 1 = 0 :=
  (by decide +kernel : ∀ t : Fin grid0.N, win0_7.index t 0 = t.val ∧ win0_7.index t 1 = 0)

theorem index8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)

theorem coord0 : ∀ t : Fin cfg0.N, (grid0.coords t 0).val = t.val :=
  (by decide +kernel : ∀ t : Fin grid0.N, (grid0.coords t 0).val = t.val)

theorem iblk5_eq (c : Dev nD) (t : Fin cfg0.N) : (iblk m c 5 t : Vec F S64 .i32) = arg5 m c := by
  funext y
  show V m c main_arg5 ((win0_5.rect t).emb y) = _
  rw [V_main_arg5]
  refine congrArg (arg5 m c) ?_
  funext a
  match a with
  | ⟨0, _⟩ => exact Fin.ext (win0_5.rect_emb_val_of_index_zero t 0 (index5 t) y)

theorem iblk6_eq (c : Dev nD) (t : Fin cfg0.N) : (iblk m c 6 t : Vec F S64 .i32) = arg6 m c := by
  funext y
  show V m c main_arg6 ((win0_6.rect t).emb y) = _
  rw [V_main_arg6]
  refine congrArg (arg6 m c) ?_
  funext a
  match a with
  | ⟨0, _⟩ => exact Fin.ext (win0_6.rect_emb_val_of_index_zero t 0 (index6 t) y)

theorem hz1 : (![0] : Fin 1 → Nat) = fun _ => 0 := funext fun a => by fin_cases a <;> rfl

theorem hz2 : (![0, 0] : Fin 2 → Nat) = fun _ => 0 := funext fun a => by fin_cases a <;> rfl

theorem hz3 : (![0, 0, 0] : Fin 3 → Nat) = fun _ => 0 := funext fun a => by fin_cases a <;> rfl

/-- A row is one of a block's. -/
theorem split_row (p : Fin 800000) : ∃ (t : Fin cfg0.N) (q : Fin 6400), p.val = t.val * 6400 + q.val := by
  have h := p.isLt
  have hN : cfg0.N = 125 := N_0
  exact ⟨⟨p.val / 6400, by rw [hN]; omega⟩, ⟨p.val % 6400, by omega⟩, by show p.val = p.val / 6400 * 6400 + p.val % 6400; omega⟩

theorem out7_at (c : Dev nD) (t : Fin cfg0.N) (q : Fin 6400) (p : Fin 800000) (hp : p.val = t.val * 6400 + q.val) (k : Fin 61) :
    out0_7 (grid0.coords t) (iblk m c 0 t) (iblk m c 1 t) (iblk m c 2 t) (iblk m c 3 t) (iblk m c 4 t) (iblk m c 5 t) (iblk m c 6 t) (ix2 q k)
      = featOf (arg0 m c (ix1 p)) (arg1 m c (ix1 p)) (arg2 m c (ix1 p)) (arg3 m c (ix1 p)) (arg4 m c (ix1 p)) k.val := by
  unfold out0_7
  rw [View.canon_unit_zero hz2, View.ld_unit_zero hz3, View.ld_unit_zero hz3, View.ld_unit_zero hz3, View.ld_unit_zero hz3, View.ld_unit_zero hz3, pay_at,
    iblk0_at m c t q p hp, iblk1_at m c t q p hp, iblk2_at m c t q p hp, iblk3_at m c t q p hp, iblk4_at m c t q p hp]

theorem out8_at (c : Dev nD) (t : Fin cfg0.N) (q : Fin 6400) :
    out0_8 (grid0.coords t) (iblk m c 0 t) (iblk m c 1 t) (iblk m c 2 t) (iblk m c 3 t) (iblk m c 4 t) (iblk m c 5 t) (iblk m c 6 t) (ix3 0 0 q)
      = offOf (BitVec.ofNat 32 (t.val * 6400 + q.val)) (arg6 m c) (arg5 m c) := by
  unfold out0_8
  rw [View.canon_unit_zero hz3, View.ld_unit_zero hz1, View.ld_unit_zero hz1, off_at, iblk5_eq, iblk6_eq, coord0]
  refine congrArg (fun w => offOf w (arg6 m c) (arg5 m c)) ?_
  apply BitVec.eq_of_toNat_eq
  show ((BitVec.ofNat 32 t.val * 6400#32) + BitVec.ofNat 32 q.val).toNat = _
  simp only [BitVec.toNat_add, BitVec.toNat_mul, BitVec.toNat_ofNat]
  have h1 : t.val < 125 := t.isLt
  have h2 := q.isLt
  omega

/-- The features. -/
theorem feat_at (c : Dev nD) (p : Fin 800000) (k : Fin 61) :
    ((dats m 0 c).arrAt 7 cfg0.N : S800000x61.Idx → F .f32) (ix2 p k)
      = featOf (arg0 m c (ix1 p)) (arg1 m c (ix1 p)) (arg2 m c (ix1 p)) (arg3 m c (ix1 p)) (arg4 m c (ix1 p)) k.val := by
  obtain ⟨t, q, hp⟩ := split_row p
  have he : ((cfg0.win 7).blk t).view.emb (ix2 q k : S6400x61.Idx) = (ix2 p k : S800000x61.Idx) := by
    show (win0_7.rect t).emb (ix2 q k) = _
    obtain ⟨h0, h1⟩ := index7 t
    have e0 : ((win0_7.rect t).emb (ix2 q k) 0 : ℕ) = win0_7.index t 0 * 6400 + q.val := win0_7.rect_emb_val t (ix2 q k) 0
    have e1 : ((win0_7.rect t).emb (ix2 q k) 1 : ℕ) = k.val := win0_7.rect_emb_val_of_index_zero t 1 h1 (ix2 q k)
    rw [h0] at e0
    funext a
    match a with
    | ⟨0, _⟩ => exact Fin.ext (e0.trans hp.symm)
    | ⟨1, _⟩ => exact Fin.ext e1
  rw [← he]
  refine ((dats m 0 c).arrAt_emb_eq_flushed 7 disjoint7 t (flush0_7 t) (ix2 q k : S6400x61.Idx)).trans ?_
  rw [flushed7]
  refine (cast_eq _ _).trans ?_
  exact out7_at m c t q p hp k

/-- The offsets. -/
theorem offs_at (c : Dev nD) (t : Fin 125) (q : Fin 6400) :
    ((dats m 0 c).arrAt 8 cfg0.N : S125x1x6400.Idx → BitVec 32) (ix3 t 0 q)
      = offOf (BitVec.ofNat 32 (t.val * 6400 + q.val)) (arg6 m c) (arg5 m c) := by
  have hN : cfg0.N = 125 := N_0
  obtain ⟨t', ht⟩ : ∃ t' : Fin cfg0.N, t'.val = t.val := ⟨⟨t.val, by rw [hN]; exact t.isLt⟩, rfl⟩
  have he : ((cfg0.win 8).blk t').view.emb (ix3 0 0 q : S1x1x6400.Idx) = (ix3 t 0 q : S125x1x6400.Idx) := by
    show (win0_8.rect t').emb (ix3 0 0 q) = _
    obtain ⟨h0, h1, h2⟩ := index8 t'
    have e0 : ((win0_8.rect t').emb (ix3 0 0 q) 0 : ℕ) = win0_8.index t' 0 * 1 + 0 := win0_8.rect_emb_val t' (ix3 0 0 q) 0
    have e1 : ((win0_8.rect t').emb (ix3 0 0 q) 1 : ℕ) = 0 := win0_8.rect_emb_val_of_index_zero t' 1 h1 (ix3 0 0 q)
    have e2 : ((win0_8.rect t').emb (ix3 0 0 q) 2 : ℕ) = q.val := win0_8.rect_emb_val_of_index_zero t' 2 h2 (ix3 0 0 q)
    rw [h0, ht, Nat.mul_one, Nat.add_zero] at e0
    funext a
    match a with
    | ⟨0, _⟩ => exact Fin.ext e0
    | ⟨1, _⟩ => exact Fin.ext e1
    | ⟨2, _⟩ => exact Fin.ext e2
  rw [← he]
  refine ((dats m 0 c).arrAt_emb_eq_flushed 8 disjoint8 t' (flush0_8 t') (ix3 0 0 q : S1x1x6400.Idx)).trans ?_
  rw [flushed8]
  refine (cast_eq _ _).trans ?_
  exact (out8_at m c t' q).trans (by rw [ht])

end Cert.Proof.FeatureBlock
-- ==== Proof.FeatureRef.lean ====
/-
  The feature call's reference, element by element.
-/
module

public import proofs.«01_k».proof.Proof.FeatureBlock
public import proofs.«01_k».proof.Proof.Gen.FeatureReferenceIdeal.Run
public import proofs.«01_k».proof.Proof.Gen.Pre_in_classes
public import Idealize.ShloMosaic.Lib.Pointwise
public import Idealize.ShloMosaic.Lib.Routing.OpsSet
public import Idealize.ShloMosaic.Lib.Routing.Ops
public import Idealize.ShloMosaic.Lib.WordCmp
public import Idealize.ShloMosaic.Lib.StableHlo.Predicate

@[expose] public section

noncomputable section

namespace Cert.Proof.FeatureRef

open Cert.FeatureReferenceIdeal Cert.FeatureReferenceIdeal.Gen Cert.FeatureReferenceIdeal.Value
open Idealize.ShloMosaic
open Cert.Proof.FeatureBlock (hit featOf offOf)

/-- The edges' features, as the reference builds them. -/
abbrev feats (a b r s : S800000.Idx → BitVec 32) (x : S800000.Idx → Ideal .f32) : S800000x61.Idx → Ideal .f32 :=
  (concatenate S800000x61 1 [⟨S800000x21, ((uitofp (F := Ideal) .f32 (cmpi .eq (broadcastInDim S800000x21 ![0, 1] bcast_S800000x1_S800000x21_0_1 (broadcastInDim S800000x1 ![0] bcast_S800000_S800000x1_0 a)) (broadcastInDim S800000x21 ![0, 1] bcast_S1x21_S800000x21_0_1 (iotaInDim S1x21 32 1)))) : (⟨S800000x21, .f32⟩ : BufTy).Contents (Elt Ideal))⟩, ⟨S800000x21, ((uitofp (F := Ideal) .f32 (cmpi .eq (broadcastInDim S800000x21 ![0, 1] bcast_S800000x1_S800000x21_0_1 (broadcastInDim S800000x1 ![0] bcast_S800000_S800000x1_0 b)) (broadcastInDim S800000x21 ![0, 1] bcast_S1x21_S800000x21_0_1 (iotaInDim S1x21 32 1)))) : (⟨S800000x21, .f32⟩ : BufTy).Contents (Elt Ideal))⟩, ⟨S800000x7, ((uitofp (F := Ideal) .f32 (cmpi .eq (broadcastInDim S800000x7 ![0, 1] bcast_S800000x1_S800000x7_0_1 (broadcastInDim S800000x1 ![0] bcast_S800000_S800000x1_0 r)) (broadcastInDim S800000x7 ![0, 1] bcast_S1x7_S800000x7_0_1 (iotaInDim S1x7 32 1)))) : (⟨S800000x7, .f32⟩ : BufTy).Contents (Elt Ideal))⟩, ⟨S800000x11, ((uitofp (F := Ideal) .f32 (cmpi .eq (broadcastInDim S800000x11 ![0, 1] bcast_S800000x1_S800000x11_0_1 (broadcastInDim S800000x1 ![0] bcast_S800000_S800000x1_0 s)) (broadcastInDim S800000x11 ![0, 1] bcast_S1x11_S800000x11_0_1 (iotaInDim S1x11 32 1)))) : (⟨S800000x11, .f32⟩ : BufTy).Contents (Elt Ideal))⟩, ⟨S800000x1, ((broadcastInDim S800000x1 ![0] bcast_S800000_S800000x1_0 (Host.sqrt (F := Ideal) (addf (F := Ideal) x (broadcastInDim S800000 ![] bcast_S_S800000 (constant (F := Ideal) S_ .f32 0x2B8CBCCC#32))))) : (⟨S800000x1, .f32⟩ : BufTy).Contents (Elt Ideal))⟩] concatenates_S800000x21_S800000x21_S800000x7_S800000x11_S800000x1_S800000x61_d1 : (⟨S800000x61, .f32⟩ : BufTy).Contents (Elt Ideal))

theorem eq_bit (x y : BitVec 32) : IntOp.cmpi .eq x y = BitVec.ofBool (decide (x.toNat = y.toNat)) := by
  show BitVec.ofBool (x == y) = _
  congr 1
  rw [Bool.eq_iff_iff, beq_iff_eq, decide_eq_true_iff, BitVec.toNat_inj]

theorem or_bit (c d : Bool) : IntOp.ori (BitVec.ofBool c) (BitVec.ofBool d) = BitVec.ofBool (c || d) := by
  cases c <;> cases d <;> rfl

theorem select_bit {α : Type} (c : Bool) (x y : α) : Scalar.select (BitVec.ofBool c) x y = if c = true then x else y := by
  cases c <;> rfl

theorem ofBits_one : (FloatOps.ofBits .f32 1065353216#32 : Ideal .f32) = 1 := Ideal.ofBits_one_f32

theorem ofBits_zero : (FloatOps.ofBits .f32 0#32 : Ideal .f32) = 0 := Ideal.ofBits_zero_f32

theorem float_bit (c : Bool) : (FloatOps.uitofp .f32 (BitVec.ofBool c) : Ideal .f32) = if c = true then 1 else 0 := by
  cases c
  · show (((0 : ℕ) : ℝ) : EReal) = 0
    simp
  · show (((1 : ℕ) : ℝ) : EReal) = 1
    simp

/-- An edge's hit columns, where its classes are in range. -/
theorem hit_eq (a b r s : BitVec 32) (ha : a.toNat < 21) (hb : b.toNat < 21) (hr : r.toNat < 7) (hs : s.toNat < 11) (k : ℕ) (hk : k < 61) :
    hit a b r s k = BitVec.ofBool (decide (k = a.toNat ∨ k = b.toNat + 21 ∨ k = r.toNat + 42 ∨ k = s.toNat + 49)) := by
  unfold hit
  rw [eq_bit, eq_bit, eq_bit, eq_bit, or_bit, or_bit, or_bit]
  congr 1
  rw [Bool.eq_iff_iff]
  simp only [Bool.or_eq_true, decide_eq_true_iff]
  have e1 : (IntOp.addi b 21#32).toNat = b.toNat + 21 := by
    show (b + 21#32).toNat = _
    rw [BitVec.toNat_add, BitVec.toNat_ofNat]
    omega
  have e2 : (IntOp.addi r 42#32).toNat = r.toNat + 42 := by
    show (r + 42#32).toNat = _
    rw [BitVec.toNat_add, BitVec.toNat_ofNat]
    omega
  have e3 : (IntOp.addi (IntOp.addi s 42#32) 7#32).toNat = s.toNat + 49 := by
    show (s + 42#32 + 7#32).toNat = _
    rw [BitVec.toNat_add, BitVec.toNat_add, BitVec.toNat_ofNat, BitVec.toNat_ofNat]
    omega
  have e4 : (BitVec.ofNat 32 k).toNat = k := by
    rw [BitVec.toNat_ofNat]
    omega
  rw [e1, e2, e3, e4]
  omega

theorem feats_at (a b r s : S800000.Idx → BitVec 32) (x : S800000.Idx → Ideal .f32) (p : Fin 800000) (k : Fin 61)
    (ha : (a (ix1 p)).toNat < 21) (hb : (b (ix1 p)).toNat < 21) (hr : (r (ix1 p)).toNat < 7) (hs : (s (ix1 p)).toNat < 11) :
    feats a b r s x (ix2 p k) = featOf (F := Ideal) (a (ix1 p)) (b (ix1 p)) (r (ix1 p)) (s (ix1 p)) (x (ix1 p)) k.val := by
  have hk := k.isLt
  have e : ∀ n : ℕ, n < 61 → (BitVec.ofNat 32 n).toNat = n := fun n hn => by
    rw [BitVec.toNat_ofNat]
    omega
  unfold featOf
  rw [hit_eq _ _ _ _ ha hb hr hs _ hk, eq_bit, select_bit, select_bit, ofBits_one, ofBits_zero, e _ hk]
  unfold feats
  pointwise
  simp only [eq_bit, float_bit, decide_eq_true_iff, BitVec.toNat_ofNat]
  generalize (a (ix1 p)).toNat = a' at *
  generalize (b (ix1 p)).toNat = b' at *
  generalize (r (ix1 p)).toNat = r' at *
  generalize (s (ix1 p)).toNat = s' at *
  generalize k.val = k' at *
  by_cases h60 : k' = 60
  · subst h60
    simp
  · simp only [show (60 : ℕ) % 2 ^ 32 = 60 from rfl, h60, if_false]
    repeat' split
    all_goals first | rfl | omega
    repeat' split
    all_goals first | rfl | omega

/-- How many graphs begin at or before each row, less one. -/
abbrev graph (u : S64.Idx → BitVec 32) : S800000.Idx → BitVec 32 :=
  subi (Host.reduce IntOp.addi (extui 32 (cmpi .sle (broadcastInDim S800000x64 ![0, 1] bcast_S1x64_S800000x64_0_1 (broadcastInDim S1x64 ![1] bcast_S64_S1x64_1 u)) (broadcastInDim S800000x64 ![0, 1] bcast_S800000x1_S800000x64_0_1 (broadcastInDim S800000x1 ![0] bcast_S800000_S800000x1_0 (iotaInDim S800000 32 0)))) natLt_1_32) (constantI S_ 32 0#32) reducesTo_S800000x64_S800000_d1 h_S_) (broadcastInDim S800000 ![] bcast_S_S800000 (constantI S_ 32 1#32))

/-- The rows' offsets, as the reference reads them. -/
abbrev offs (v u : S64.Idx → BitVec 32) : S125x1x6400.Idx → BitVec 32 :=
  shapeCast _ (Host.gather gather_S64_S800000x1_S800000_n_0_n_n_0_1_1 (Host.reduceWindow IntOp.addi ![64] ![1] ![63] ![0] v (broadcastInDim S_ ![] bcast_S_S_ (constantI S_ 32 0#32)) reduceWindows_S64_S64_w64s1p63_0 h_S_) (broadcastInDim S800000x1 ![0] bcast_S800000_S800000x1_0 (select (cmpi .slt (graph u) (broadcastInDim S800000 ![] bcast_S_S800000 (constantI S_ 32 0#32))) (addi (graph u) (broadcastInDim S800000 ![] bcast_S_S800000 (constantI S_ 32 64#32))) (graph u)))) shapeCasts_S800000_S125x1x6400

theorem mask_at (u : S64.Idx → BitVec 32) (p : Fin 800000) (q : Fin 64) :
    cmpi .sle (broadcastInDim S800000x64 ![0, 1] bcast_S1x64_S800000x64_0_1 (broadcastInDim S1x64 ![1] bcast_S64_S1x64_1 u)) (broadcastInDim S800000x64 ![0, 1] bcast_S800000x1_S800000x64_0_1 (broadcastInDim S800000x1 ![0] bcast_S800000_S800000x1_0 (iotaInDim S800000 32 0))) (ix2 p q)
      = IntOp.cmpi .sle (u (ix1 q)) (BitVec.ofNat 32 p.val) := by
  pointwise

theorem wrap_at (n : S800000.Idx → BitVec 32) (p : Fin 800000) :
    broadcastInDim S800000x1 ![0] bcast_S800000_S800000x1_0 (select (cmpi .slt n (broadcastInDim S800000 ![] bcast_S_S800000 (constantI S_ 32 0#32))) (addi n (broadcastInDim S800000 ![] bcast_S_S800000 (constantI S_ 32 64#32))) n) (ix2 p (0 : Fin 1))
      = Scalar.select (IntOp.cmpi .slt (n (ix1 p)) 0#32) (IntOp.addi (n (ix1 p)) 64#32) (n (ix1 p)) := by
  pointwise

/-- A predicate that holds below wherever it holds is, below a bound, being among the first it counts. -/
theorem count_prefix (Q : ℕ → Prop) [DecidablePred Q] : ∀ N : ℕ, (∀ q q' : ℕ, q ≤ q' → q' < N → Q q' → Q q) →
    ∀ q < N, (Q q ↔ q < Nat.count Q N)
  | 0, _, q, hq => absurd hq (Nat.not_lt_zero q)
  | N + 1, h, q, hq => by
    have ih := count_prefix Q N fun q q' h1 h2 h3 => h q q' h1 (by omega) h3
    have hle : Nat.count Q N ≤ N := Nat.count_le Q
    rw [Nat.count_succ]
    by_cases hN : Q N
    · rw [if_pos hN]
      have hall : Nat.count Q N = N := by
        by_contra hne
        have hlt : Nat.count Q N < N := by omega
        have := (ih _ hlt).1 (h _ N (by omega) (by omega) hN)
        omega
      rw [hall]
      exact ⟨fun _ => hq, fun _ => h q N (by omega) (by omega) hN⟩
    · rw [if_neg hN, Nat.add_zero]
      by_cases hqN : q = N
      · subst hqN
        exact ⟨fun hQ => absurd hQ hN, fun hlt => by omega⟩
      · exact ih q (by omega)

/-- A sum of naturals, as a word, is the sum of the words. -/
theorem ofNat_sum (f : ℕ → ℕ) : ∀ n : ℕ, BitVec.ofNat 32 ((List.range n).map f).sum = ∑ q ∈ Finset.range n, BitVec.ofNat 32 (f q)
  | 0 => rfl
  | n + 1 => by
    rw [List.range_succ, List.map_append, List.sum_append, Finset.sum_range_succ, ← ofNat_sum f n]
    simp [BitVec.ofNat_add]

/-- The words whose predicate holds, added, are the first words, added. -/
theorem sum_prefix (w : Fin 64 → BitVec 32) (f : ℕ → ℕ) (hf : ∀ q : Fin 64, w q = BitVec.ofNat 32 (f q.val)) (Q : ℕ → Prop) [DecidablePred Q] (n : ℕ) (hn : n ≤ 64)
    (hQ : ∀ q : Fin 64, Q q.val ↔ q.val < n) :
    (∑ q : Fin 64, if Q q.val then w q else 0#32) = BitVec.ofNat 32 ((List.range n).map f).sum := by
  rw [ofNat_sum]
  rw [Finset.sum_congr rfl (fun (q : Fin 64) _ => show (if Q q.val then w q else 0#32) = (fun i : ℕ => if i < n then BitVec.ofNat 32 (f i) else 0) q.val by
    show _ = if q.val < n then BitVec.ofNat 32 (f q.val) else 0
    rw [hf q]
    by_cases h : q.val < n
    · rw [if_pos h, if_pos ((hQ q).2 h)]
    · rw [if_neg h, if_neg (fun e => h ((hQ q).1 e))]
      rfl)]
  rw [Fin.sum_univ_eq_sum_range (fun i : ℕ => if i < n then BitVec.ofNat 32 (f i) else 0) 64, ← Finset.sum_filter]
  refine Finset.sum_congr ?_ fun _ _ => rfl
  ext q
  simp only [Finset.mem_filter, Finset.mem_range]
  omega

theorem sge_bit (x y : BitVec 32) (hx : x.toNat < 2 ^ 31) (hy : y.toNat < 2 ^ 31) : IntOp.cmpi .sge x y = BitVec.ofBool (decide (y.toNat ≤ x.toNat)) := by
  show BitVec.ofBool (y.sle x) = _
  congr 1
  rw [BitVec.sle_eq_decide, BitVec.toInt_eq_toNat_cond, BitVec.toInt_eq_toNat_cond, if_pos (by omega), if_pos (by omega), decide_eq_decide]
  omega

theorem sle_bit (x y : BitVec 32) (hx : x.toNat < 2 ^ 31) (hy : y.toNat < 2 ^ 31) : IntOp.cmpi .sle x y = BitVec.ofBool (decide (x.toNat ≤ y.toNat)) := by
  show BitVec.ofBool (x.sle y) = _
  congr 1
  rw [BitVec.sle_eq_decide, BitVec.toInt_eq_toNat_cond, BitVec.toInt_eq_toNat_cond, if_pos (by omega), if_pos (by omega), decide_eq_decide]
  omega

theorem slt_zero (x : BitVec 32) (hx : x.toNat < 2 ^ 31) : IntOp.cmpi .slt x 0#32 = 0#1 := by
  show BitVec.ofBool (x.slt 0#32) = _
  have : x.slt 0#32 = false := by
    rw [BitVec.slt_eq_decide, decide_eq_false_iff_not, BitVec.toInt_eq_toNat_cond, BitVec.toInt_eq_toNat_cond]
    simp only [BitVec.toNat_ofNat]
    omega
  rw [this]
  rfl

/-- Adding words in any order is their sum. -/
theorem fold_sum {ι : Type} (s : Finset ι) (f : ι → BitVec 32) : Finset.fold IntOp.addi 0#32 f s = ∑ q ∈ s, f q := by
  induction s using Finset.cons_induction with
  | empty => rfl
  | cons a s ha ih =>
    rw [Finset.fold_cons, Finset.sum_cons, ih]
    rfl

theorem offOf_eq (row : BitVec 32) (u v : S64.Idx → BitVec 32) (hrow : row.toNat < 2 ^ 31) (hu : ∀ q : Fin 64, (u (ix1 q)).toNat < 2 ^ 31) :
    offOf row u v = ∑ q : Fin 64, if (u (ix1 q)).toNat ≤ row.toNat then v (ix1 q) else 0#32 := by
  unfold offOf
  rw [fold_sum]
  refine Finset.sum_congr rfl fun q _ => ?_
  rw [sge_bit _ _ hrow (hu q), select_bit]
  simp only [decide_eq_true_iff]

variable (u v : S64.Idx → BitVec 32) (hu : ∀ q : Fin 64, (u (ix1 q)).toNat < 2 ^ 31) (h0 : u (ix1 0) = 0#32)
  (hmono : ∀ q q' : Fin 64, q ≤ q' → (u (ix1 q)).toNat ≤ (u (ix1 q')).toNat)

/-- Whether graph `q` begins at or before row `p`. -/
abbrev begun (p q : ℕ) : Prop := ∃ h : q < 64, (u (ix1 ⟨q, h⟩)).toNat ≤ p

include hu in
theorem graph_at (p : Fin 800000) [DecidablePred (begun u p.val)] :
    graph u (ix1 p) = BitVec.ofNat 32 (Nat.count (begun u p.val) 64) - 1#32 := by
  have hc := Routing.reduce_count (n := 800000) (m := 64) (by decide)
    (cmpi .sle (broadcastInDim S800000x64 ![0, 1] bcast_S1x64_S800000x64_0_1 (broadcastInDim S1x64 ![1] bcast_S64_S1x64_1 u)) (broadcastInDim S800000x64 ![0, 1] bcast_S800000x1_S800000x64_0_1 (broadcastInDim S800000x1 ![0] bcast_S800000_S800000x1_0 (iotaInDim S800000 32 0))))
    natLt_1_32 reducesTo_S800000x64_S800000_d1 h_S_ p (begun u p.val) (fun q => by
      refine Iff.trans (Eq.congr_left (mask_at u p q)) ?_
      have hp : (BitVec.ofNat 32 p.val).toNat = p.val := by
        rw [BitVec.toNat_ofNat]
        have := p.isLt
        omega
      rw [sle_bit _ _ (hu q) (by have := p.isLt; omega), hp]
      constructor
      · intro h
        refine ⟨q.isLt, ?_⟩
        by_contra hne
        rw [decide_eq_false hne] at h
        exact absurd h (by decide)
      · rintro ⟨_, h⟩
        rw [decide_eq_true h]
        rfl)
  exact congrArg (fun w : BitVec 32 => w - 1#32) hc

include hu h0 hmono in
theorem offs_eq (t : Fin 125) (q : Fin 6400) : offs v u (ix3 t 0 q) = offOf (BitVec.ofNat 32 (t.val * 6400 + q.val)) u v := by
  classical
  have ht := t.isLt
  have hq := q.isLt
  obtain ⟨p, hp⟩ : ∃ p : Fin 800000, p.val = t.val * 6400 + q.val := ⟨⟨t.val * 6400 + q.val, by omega⟩, rfl⟩
  rw [← hp]
  have hpl := p.isLt
  have hpn : (BitVec.ofNat 32 p.val).toNat = p.val := by
    rw [BitVec.toNat_ofNat]
    omega
  have hrow : (BitVec.ofNat 32 p.val).toNat < 2 ^ 31 := by omega
  have hpre : ∀ k < 64, (begun u p.val k ↔ k < Nat.count (begun u p.val) 64) := count_prefix (begun u p.val) 64 (by
    rintro k k' hk _ ⟨hk', h⟩
    exact ⟨by omega, (hmono ⟨k, by omega⟩ ⟨k', hk'⟩ hk).trans h⟩)
  have hpos : 0 < Nat.count (begun u p.val) 64 := (hpre 0 (by omega)).1 ⟨by omega, by
    have : u (ix1 (⟨0, by omega⟩ : Fin 64)) = 0#32 := h0
    rw [this]
    exact Nat.zero_le _⟩
  have hle : Nat.count (begun u p.val) 64 ≤ 64 := Nat.count_le _
  generalize hn : Nat.count (begun u p.val) 64 = n at *
  have hg : graph u (ix1 p) = BitVec.ofNat 32 (n - 1) := by
    rw [graph_at u hu p, hn]
    apply BitVec.eq_of_toNat_eq
    rw [BitVec.toNat_sub, BitVec.toNat_ofNat, BitVec.toNat_ofNat, BitVec.toNat_ofNat]
    omega
  unfold offs
  refine (shapeCast_apply _ _ _ (ix1 p) ?_).trans ?_
  · rw [Shape.rowMajor_val_three, Shape.rowMajor_val_one]
    show p.val = (t.val * 1 + 0) * 6400 + q.val
    rw [hp, Nat.mul_one, Nat.add_zero]
  · refine (Routing.gather_take1 (N := 64) (n := 800000) gather_S64_S800000x1_S800000_n_0_n_n_0_1_1 rfl rfl rfl rfl _ _ p ⟨n - 1, by omega⟩ ?_ (by decide)).trans ?_
    · refine (wrap_at (graph u) p).trans ?_
      rw [hg, slt_zero _ (by rw [BitVec.toNat_ofNat]; omega)]
      rfl
    · refine (Routing.cumsum1 (N := 64) (Nm1 := 63) rfl v (fun i => if h : i < 64 then (v (ix1 ⟨i, h⟩)).toNat else 0) ?_ _ rfl _ _ _).trans ?_
      · intro i
        show v (ix1 i) = _
        rw [dif_pos i.isLt, BitVec.ofNat_toNat, BitVec.setWidth_eq]
      · rw [offOf_eq _ _ _ hrow hu, hpn]
        show BitVec.ofNat 32 ((List.range (n - 1 + 1)).map _).sum = _
        rw [show n - 1 + 1 = n by omega]
        refine (sum_prefix (fun i => v (ix1 i)) _ ?_ (begun u p.val) n hle (fun k => hpre k.val k.isLt)).symm.trans ?_
        · intro i
          show v (ix1 i) = _
          rw [dif_pos i.isLt, BitVec.ofNat_toNat, BitVec.setWidth_eq]
        · refine Finset.sum_congr rfl fun k _ => ?_
          by_cases h : (u (ix1 k)).toNat ≤ p.val
          · rw [if_pos h, if_pos ⟨k.isLt, h⟩]
          · rw [if_neg h, if_neg (fun e => h e.2)]

end Cert.Proof.FeatureRef
-- ==== Proof.FeatureValue.lean ====
/-
  The feature call and its reference agree.
-/
module

public import proofs.«01_k».proof.Proof.FeatureRef
public import proofs.«01_k».proof.Defs
public import Idealize.ShloMosaic.Lib.ReduceAll

@[expose] public section

noncomputable section

namespace Cert.Proof.FeatureValue

open Cert.Pre_in_classes Cert.Pre_in_classes.Gen
open Idealize.ShloMosaic
open Cert.Proof.FeatureBlock Cert.Proof.FeatureRef

/-- A signed range is a range of the word's value. -/
theorem lt_of_signed {x : BitVec 32} {n : ℕ} (h0 : (0 : ℤ) ≤ x.toInt) (h1 : x.toInt < n) : x.toNat < n := by
  rw [BitVec.toInt_eq_toNat_cond] at h0 h1
  split at h0 <;> omega

theorem first_at (u : S64.Idx → BitVec 32) (i : S_.Idx) :
    shapeCast S_ (extractStridedSlice S1 ![0] u slices_S64_S1_0) shapeCasts_S1_S_ i = u (ix1 0) := by
  refine (shapeCast_apply _ _ i (ix1 (0 : Fin 1)) ?_).trans ?_
  · have h : (S_.rowMajor i).val < 1 := (S_.rowMajor i).isLt
    rw [Shape.rowMajor_val_one]
    show 0 = _
    omega
  · pointwise

theorem low_at (u : S64.Idx → BitVec 32) (q : Fin 63) :
    extractStridedSlice S63 ![0] u slices_S64_S63_0 (ix1 q) = u (ix1 ⟨q.val, by omega⟩) := by
  unfold extractStridedSlice
  congr 1
  funext a
  match a with
  | ⟨0, _⟩ => exact Fin.ext (Nat.zero_add _)

theorem high_at (u : S64.Idx → BitVec 32) (q : Fin 63) :
    extractStridedSlice S63 ![1] u slices_S64_S63_1 (ix1 q) = u (ix1 ⟨q.val + 1, by omega⟩) := by
  unfold extractStridedSlice
  congr 1
  funext a
  match a with
  | ⟨0, _⟩ => exact Fin.ext (Nat.add_comm _ _)

/-- What the precondition says: the classes are in range, and the graphs' first rows begin at zero and do not go down. -/
theorem of_pre (a b r s : S800000.Idx → BitVec 32) (x : S800000.Idx → Ideal .f32) (v u : S64.Idx → BitVec 32)
    (h : Cert.Pre_in_classes.fn (F := Ideal) a b r s x v u = fun _ => 1#1) :
    (∀ j, (a j).toNat < 21) ∧ (∀ j, (b j).toNat < 21) ∧ (∀ j, (r j).toNat < 7) ∧ (∀ j, (s j).toNat < 11)
      ∧ u (ix1 0) = 0#32 ∧ ∀ q : Fin 63, (u (ix1 ⟨q.val, by omega⟩)).toInt ≤ (u (ix1 ⟨q.val + 1, by omega⟩)).toInt := by
  have h0 := congrFun h (fun a => a.elim0)
  unfold Cert.Pre_in_classes.fn Cert.Pre_in_classes.fn_part1 Cert.Pre_in_classes.fn_part2 at h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton S_.Idx := ⟨fun x y => funext fun a => a.elim0⟩
  have k1 : ∀ j, (0 : ℤ) ≤ (a j).toInt := fun j => IntOp.cmpi_sge.1 (Host.reduce_andi_all _ _ _ _ _ h1 j)
  have k2 : ∀ j, (a j).toInt < (21 : ℕ) := fun j => IntOp.cmpi_slt.1 (Host.reduce_andi_all _ _ _ _ _ h2 j)
  have k3 : ∀ j, (0 : ℤ) ≤ (b j).toInt := fun j => IntOp.cmpi_sge.1 (Host.reduce_andi_all _ _ _ _ _ h3 j)
  have k4 : ∀ j, (b j).toInt < (21 : ℕ) := fun j => IntOp.cmpi_slt.1 (Host.reduce_andi_all _ _ _ _ _ h4 j)
  have k5 : ∀ j, (0 : ℤ) ≤ (r j).toInt := fun j => IntOp.cmpi_sge.1 (Host.reduce_andi_all _ _ _ _ _ h5 j)
  have k6 : ∀ j, (r j).toInt < (7 : ℕ) := fun j => IntOp.cmpi_slt.1 (Host.reduce_andi_all _ _ _ _ _ h6 j)
  have k7 : ∀ j, (0 : ℤ) ≤ (s j).toInt := fun j => IntOp.cmpi_sge.1 (Host.reduce_andi_all _ _ _ _ _ h7 j)
  have k8 : ∀ j, (s j).toInt < (11 : ℕ) := fun j => IntOp.cmpi_slt.1 (Host.reduce_andi_all _ _ _ _ _ h8 j)
  refine ⟨fun j => lt_of_signed (k1 j) (k2 j), fun j => lt_of_signed (k3 j) (k4 j), fun j => lt_of_signed (k5 j) (k6 j),
    fun j => lt_of_signed (k7 j) (k8 j), ?_, fun q => ?_⟩
  · have e : IntOp.cmpi .eq (shapeCast S_ (extractStridedSlice S1 ![0] u slices_S64_S1_0) shapeCasts_S1_S_ (fun a => a.elim0)) 0#32 = 1#1 := h9
    rw [first_at, eq_bit] at e
    apply BitVec.eq_of_toNat_eq
    by_contra hne
    rw [decide_eq_false hne] at e
    exact absurd e (by decide)
  · have e : IntOp.cmpi .sle (extractStridedSlice S63 ![0] u slices_S64_S63_0 (ix1 q)) (extractStridedSlice S63 ![1] u slices_S64_S63_1 (ix1 q)) = 1#1 :=
      Host.reduce_andi_all _ _ _ _ _ h10 (ix1 q)
    rw [low_at, high_at] at e
    exact IntOp.cmpi_sle.1 e

/-- So the first rows are naturals in order. -/
theorem ordered (u : S64.Idx → BitVec 32) (h0 : u (ix1 0) = 0#32)
    (hs : ∀ q : Fin 63, (u (ix1 ⟨q.val, by omega⟩)).toInt ≤ (u (ix1 ⟨q.val + 1, by omega⟩)).toInt) :
    (∀ q : Fin 64, (u (ix1 q)).toNat < 2 ^ 31) ∧ ∀ q q' : Fin 64, q ≤ q' → (u (ix1 q)).toNat ≤ (u (ix1 q')).toNat := by
  have hm : ∀ (k : ℕ) (q : ℕ) (h : q + k < 64), (u (ix1 ⟨q, by omega⟩)).toInt ≤ (u (ix1 ⟨q + k, h⟩)).toInt := by
    intro k
    induction k with
    | zero => exact fun q h => le_refl _
    | succ k ih => exact fun q h => (ih q (by omega)).trans (hs ⟨q + k, by omega⟩)
  have hp : ∀ q : Fin 64, (0 : ℤ) ≤ (u (ix1 q)).toInt := fun q => by
    have e := hm q.val 0 (by omega)
    have e0 : u (ix1 (⟨0, by omega⟩ : Fin 64)) = 0#32 := h0
    rw [e0] at e
    have e1 : (⟨0 + q.val, by omega⟩ : Fin 64) = q := Fin.ext (Nat.zero_add _)
    rw [e1] at e
    exact e
  have hn : ∀ q : Fin 64, (u (ix1 q)).toNat < 2 ^ 31 := fun q => by
    have e := hp q
    rw [BitVec.toInt_eq_toNat_cond] at e
    split at e <;> omega
  refine ⟨hn, fun q q' hq => ?_⟩
  have hq' : q.val ≤ q'.val := hq
  have e := hm (q'.val - q.val) q.val (by omega)
  have e1 : (⟨q.val + (q'.val - q.val), by omega⟩ : Fin 64) = q' := Fin.ext (by show q.val + (q'.val - q.val) = q'.val; omega)
  rw [e1, BitVec.toInt_eq_toNat_cond, BitVec.toInt_eq_toNat_cond] at e
  have h1 := hn q
  have h2 := hn q'
  have e2 : (⟨q.val, by omega⟩ : Fin 64) = q := rfl
  rw [e2] at e
  rw [if_pos (by omega), if_pos (by omega)] at e
  omega

theorem values : Cert.algebraic_FeatureIdeal_FeatureReferenceIdeal_pre_in_classes := by
  intro m ρ m' ρ' hpre hargs
  refine ⟨fun c => (Cert.FeatureIdeal.Gen.dats m 0 c).arrAt 7 Cert.FeatureIdeal.cfg0.N, fun c => (Cert.FeatureIdeal.Gen.dats m 0 c).arrAt 8 Cert.FeatureIdeal.cfg0.N, ?_, ?_⟩
  · exact Cert.FeatureIdeal.Value.run_blocks (F := Ideal) m ρ
  · refine (θ_run Cert.FeatureReferenceIdeal.defs _ _).mono (fun _ h c => ⟨(h c).1.trans ?_, (h c).2.1.trans ?_, (h c).2.2⟩)
      (Cert.FeatureReferenceIdeal.Value.run (F := Ideal) m' ρ')
    all_goals
      obtain ⟨e0, e1, e2, e3, e4, e5, e6⟩ := hargs c
      obtain ⟨ha, hb, hr, hs, h0, hm⟩ := of_pre _ _ _ _ _ _ _ (hpre c)
      obtain ⟨hu, hmono⟩ := ordered _ h0 hm
    · rw [e0, e1, e2, e3, e4]
      refine funext fun j => ?_
      obtain ⟨p, k, rfl⟩ : ∃ (p : Fin 800000) (k : Fin 61), j = ix2 p k := ⟨j 0, j 1, by
        funext a
        match a with
        | ⟨0, _⟩ => rfl
        | ⟨1, _⟩ => rfl⟩
      exact (feats_at _ _ _ _ _ p k (ha _) (hb _) (hr _) (hs _)).trans (feat_at m c p k).symm
    · rw [e5, e6]
      refine funext fun j => ?_
      obtain ⟨t, q, rfl⟩ : ∃ (t : Fin 125) (q : Fin 6400), j = ix3 t 0 q := ⟨j 0, j 2, by
        funext a
        match a with
        | ⟨0, _⟩ => rfl
        | ⟨1, _⟩ => exact Subsingleton.elim (α := Fin 1) _ _
        | ⟨2, _⟩ => rfl⟩
      exact (offs_eq _ _ hu h0 hmono t q).trans (offs_at m c t q).symm

end Cert.Proof.FeatureValue
-- ==== Proof.Tally.lean ====
/-
  Steps over buffers held outright, of any shape: what a buffer reads is stated by a property of its contents. Then what a
  scatter of lanes leaves at one element.
-/
module

public import proofs.«01_k».proof.Proof.Lanes

@[expose] public section

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

section Scatter

variable {F : FTy → Type} [FloatOps F] {s : Shape} {e : EltTy} {d : Fin 1 → ℕ}

/-- Lane `k` goes to element `j`. -/
abbrev Hits (idxs : Fin s.rank → IVec ⟨1, d⟩ 32) (j : s.Idx) (k : Fin (d 0)) : Prop := ∀ a, (j a).val = (idxs a (Shape.ofLane k)).toNat

variable (idxs : Fin s.rank → IVec ⟨1, d⟩ 32) (v : Vec F ⟨1, d⟩ e) (add : Bool) (h : ∀ a x, (idxs a x).toNat < s.size a)

/-- One lane's write. -/
def lay (g : Vec F s e) (k : Fin (d 0)) : Vec F s e :=
  fun j => if (∀ a, (j a).val = (idxAt idxs h (Shape.ofLane k) a).val) then
    (if add then Elt.idxAdd e (g (idxAt idxs h (Shape.ofLane k))) (v (Shape.ofLane k)) else v (Shape.ofLane k)) else g j

theorem lay_miss (g : Vec F s e) (k : Fin (d 0)) (j : s.Idx) (hk : ¬ Hits idxs j k) : lay idxs v add h g k j = g j := if_neg hk

theorem lays_miss : ∀ (l : List (Fin (d 0))) (g : Vec F s e) (j : s.Idx), (∀ k ∈ l, ¬ Hits idxs j k) → l.foldl (lay idxs v add h) g j = g j
  | [], _, _, _ => rfl
  | k :: l, g, j, hm => by
    rw [List.foldl_cons, lays_miss l _ j (fun k' hk' => hm k' (List.mem_cons_of_mem _ hk')), lay_miss _ _ _ _ _ _ _ (hm k List.mem_cons_self)]

theorem lays_one : ∀ (l : List (Fin (d 0))) (g : Vec F s e) (j : s.Idx) (k : Fin (d 0)), k ∈ l → l.Nodup → Hits idxs j k →
    (∀ k' ∈ l, k' ≠ k → ¬ Hits idxs j k') →
    l.foldl (lay idxs v add h) g j = if add then Elt.idxAdd e (g j) (v (Shape.ofLane k)) else v (Shape.ofLane k)
  | k₁ :: l, g, j, k, hk, hn, hh, hm => by
    rw [List.foldl_cons]
    by_cases e1 : k = k₁
    · subst e1
      rw [lays_miss idxs v add h l _ j (fun k' hk' => hm k' (List.mem_cons_of_mem _ hk') (fun e => (List.nodup_cons.mp hn).1 (e ▸ hk')))]
      have hj : idxAt idxs h (Shape.ofLane k) = j := funext fun a => Fin.ext (hh a).symm
      unfold lay
      rw [hj, if_pos (fun _ => rfl)]
    · have hk' : k ∈ l := (List.mem_cons.mp hk).resolve_left e1
      rw [lays_one l _ j k hk' (List.nodup_cons.mp hn).2 hh (fun k' h' => hm k' (List.mem_cons_of_mem _ h')),
        lay_miss _ _ _ _ _ _ _ (hm k₁ List.mem_cons_self (fun e => e1 e.symm))]

theorem storeIdx_lays (g : Vec F s e) : storeIdx g idxs v (fun _ => 1#1) add h = (List.finRange (d 0)).foldl (lay idxs v add h) g := by
  unfold storeIdx
  refine congrArg (fun st => List.foldl st g (List.finRange (d 0))) (funext fun g' => funext fun k => ?_)
  dsimp only
  rw [if_pos (show (1#1 : BitVec 1) = 1 from rfl)]
  funext j
  unfold lay
  congr

/-- An element no lane goes to is kept. -/
theorem storeIdx_miss (g : Vec F s e) (j : s.Idx) (hm : ∀ k, ¬ Hits idxs j k) : storeIdx g idxs v (fun _ => 1#1) add h j = g j := by
  rw [storeIdx_lays, lays_miss idxs v add h _ g j (fun k _ => hm k)]

/-- An element one lane goes to. -/
theorem storeIdx_one (g : Vec F s e) (j : s.Idx) (k : Fin (d 0)) (hh : Hits idxs j k) (hm : ∀ k', k' ≠ k → ¬ Hits idxs j k') :
    storeIdx g idxs v (fun _ => 1#1) add h j = if add then Elt.idxAdd e (g j) (v (Shape.ofLane k)) else v (Shape.ofLane k) := by
  rw [storeIdx_lays, lays_one idxs v add h _ g j k (List.mem_finRange k) (List.nodup_finRange _) hh (fun k' _ => hm k')]

end Scatter

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s t : Shape} {e : EltTy} {n m : ℕ} {α : Type} {Q : α → sProp (MT nD τ sig Ix (Elt F) Name U Lvl)}

local notation "𝕄" => MT nD τ sig Ix (Elt F) Name U Lvl

/-- A buffer held outright, what it reads having a property. -/
def Holds (M : Memref sig c.2.kind sp s e) (Φ : (s.Idx → Elt F e) → Prop) : sProp 𝕄 :=
  iprop(∃ f : Buf (Elt F) (M.view.loc c), ⌜Φ (M.view.read (Elt F) f)⌝ ∗ (M.view.loc c ↦[M.view.set]{fullShare} f))

omit [FloatOps F] in
theorem Holds.mono (M : Memref sig c.2.kind sp s e) {Φ Ψ : (s.Idx → Elt F e) → Prop} (h : ∀ g, Φ g → Ψ g) : (Holds c M Φ : sProp 𝕄) ⊢ Holds c M Ψ := by
  unfold Holds
  iintro ⟨%f, %hf, H⟩
  iexists f
  isplitr
  · ipureintro; exact h _ hf
  · iexact H

theorem Holds.filled (M : Memref sig c.2.kind sp (Sh1 n) e) (G : ℕ → Elt F e) (k : ℕ) :
    (Filled c M G k : sProp 𝕄) = Holds c M (fun g => ∀ j, (j 0).val < k → g j = G (j 0).val) := rfl

/-- A load of a part. -/
theorem wp_hload {M : Memref sig c.2.kind .vmem s e} {Φ : (s.Idx → Elt F e) → Prop} {off : Fin s.rank → ℕ} {sz : Fin s.rank → ℕ}
    {inb : ∀ a, off a + sz a ≤ s.size a} {hl : M.view.LoadsAt (Rect.unit (s := s) off sz inb).toLoadRect}
    {kk : ((Rect.unit (s := s) off sz inb).shape.Idx → Elt F e) → Prog (TpuEff nD τ sig (Elt F) Λ c.2) α} :
    (Holds c M Φ : sProp 𝕄)
      ⊢ iprop((∀ g, ⌜Φ g⌝ -∗ Holds c M Φ -∗ wp frame (wpE defs 𝒱 c bd) Set.univ (kk fun x => g ((Rect.unit (s := s) off sz inb).emb x)) Q)
        -∗ wp frame (wpE defs 𝒱 c bd) Set.univ (Prog.lift (.load M (Rect.unit (s := s) off sz inb).toLoadRect hl) >>= kk) Q) := by
  unfold Holds
  iintro ⟨%f, %hf, H⟩ Hk
  iapply (wp_load 𝒱 c bd Set.univ (m := M) (S := M.view.set) (Finset.map_subset_map.mpr (Finset.subset_univ _))) $$ H
  iintro H
  iapply Hk $$ %(M.view.read (Elt F) f) %hf
  iexists f
  isplitr
  · ipureintro; exact hf
  · iexact H

/-- A store of a part. -/
theorem wp_hstore {M : Memref sig c.2.kind .vmem s e} {Φ Ψ : (s.Idx → Elt F e) → Prop} {off : Fin s.rank → ℕ} {sz : Fin s.rank → ℕ}
    {inb : ∀ a, off a + sz a ≤ s.size a} {hx : (M.access (Rect.unit (s := s) off sz inb)).Stores Finset.univ}
    {w : (Rect.unit (s := s) off sz inb).shape.Idx → Elt F e}
    {hm : Finset.univ = Finset.univ ∨ ∀ a, (Rect.unit (s := s) off sz inb).stride a = 1}
    {kk : PUnit → Prog (TpuEff nD τ sig (Elt F) Λ c.2) α}
    (hw : ∀ g g' : s.Idx → Elt F e, Φ g → (∀ x, g' ((Rect.unit (s := s) off sz inb).emb x) = w x) →
      (∀ j, (∀ x, (Rect.unit (s := s) off sz inb).emb x ≠ j) → g' j = g j) → Ψ g') :
    (Holds c M Φ : sProp 𝕄)
      ⊢ iprop((Holds c M Ψ -∗ wp frame (wpE defs 𝒱 c bd) Set.univ (kk ⟨⟩) Q)
        -∗ wp frame (wpE defs 𝒱 c bd) Set.univ (Prog.lift (.store M (Rect.unit (s := s) off sz inb) w Finset.univ hx hm) >>= kk) Q) := by
  unfold Holds
  iintro ⟨%f, %hf, H⟩ Hk
  iapply (wp_store 𝒱 c bd Set.univ (m := M) (r := Rect.unit (s := s) off sz inb) (S := M.view.set) (View.set_slice_subset _ _)) $$ H
  iintro H
  iapply Hk
  iexists _
  isplitr
  rotate_left
  · iexact H
  · ipureintro
    refine hw _ _ hf (fun x => View.read_slice_write_emb (v := M.view) (Rect.unit (s := s) off sz inb) f w (Finset.mem_univ x)) fun j hj => ?_
    rw [View.read_apply, View.write_of_not_mem]
    · rfl
    · rintro hm
      replace hm : M.view.emb j ∈ (M.view.slice (Rect.unit (s := s) off sz inb)).set := hm
      obtain ⟨x, -, hx⟩ := Finset.mem_map.mp hm
      exact hj x (M.view.emb.injective hx)

omit [FloatOps F] in
theorem access_read (M : Memref sig c.2.kind .vmem s e) (f : Buf (Elt F) (M.view.loc c)) :
    (M.access (.whole s)).read (Elt F) f = M.view.read (Elt F) f := by
  funext x
  show M.view.read (Elt F) f ((Rect.whole s).emb x) = _
  rw [Rect.emb_whole_apply]

omit [FloatOps F] in
theorem access_set (M : Memref sig c.2.kind .vmem s e) : (M.access (.whole s)).set = M.view.set := by
  refine le_antisymm (View.set_slice_subset _ _) fun x hx => ?_
  obtain ⟨y, hy, rfl⟩ := Finset.mem_map.mp hx
  refine Finset.mem_map.mpr ⟨y, Finset.mem_univ _, ?_⟩
  show M.view.emb ((Rect.whole s).emb y) = _
  rw [Rect.emb_whole_apply]

/-- Lanes looked up. -/
theorem wp_hloadIdx {M : Memref sig c.2.kind .vmem s e} {Φ : (s.Idx → Elt F e) → Prop} {idxs : Fin s.rank → IVec t 32}
    {h : ∀ a x, (idxs a x).toNat < s.size a} {hl : M.view.Loads} {kk : Vec F t e → Prog (TpuEff nD τ sig (Elt F) Λ c.2) α} :
    (Holds c M Φ : sProp 𝕄)
      ⊢ iprop((∀ g, ⌜Φ g⌝ -∗ Holds c M Φ -∗ wp frame (wpE defs 𝒱 c bd) Set.univ (kk (loadIdx g idxs h)) Q)
        -∗ wp frame (wpE defs 𝒱 c bd) Set.univ (SparseCore.vectorLoadIdx M idxs h hl >>= kk) Q) := by
  unfold Holds
  iintro ⟨%f, %hf, H⟩ Hk
  iapply (SparseCore.wp_vectorLoadIdx 𝒱 c bd Set.univ (base := M) (S := M.view.set) (f := f) (access_set c M).le) $$ H
  rw [access_read]
  iintro H
  iapply Hk $$ %(M.view.read (Elt F) f) %hf
  iexists f
  isplitr
  · ipureintro; exact hf
  · iexact H

/-- Lanes scattered. -/
theorem wp_hstoreIdx {d : Fin 1 → ℕ} {M : Memref sig c.2.kind .vmem s e} {Φ Ψ : (s.Idx → Elt F e) → Prop} {idxs : Fin s.rank → IVec ⟨1, d⟩ 32}
    {v : Vec F ⟨1, d⟩ e} {mask : IVec ⟨1, d⟩ 1} {add : Bool} {h : ∀ a x, (idxs a x).toNat < s.size a}
    {hs : (M.access (.whole s)).Stores Finset.univ} {kk : PUnit → Prog (TpuEff nD τ sig (Elt F) Λ c.2) α}
    (hw : ∀ g, Φ g → Ψ (storeIdx g idxs v mask add h)) :
    (Holds c M Φ : sProp 𝕄)
      ⊢ iprop((Holds c M Ψ -∗ wp frame (wpE defs 𝒱 c bd) Set.univ (kk ⟨⟩) Q)
        -∗ wp frame (wpE defs 𝒱 c bd) Set.univ (SparseCore.vectorStoreIdx M idxs v mask add h hs >>= kk) Q) := by
  unfold Holds
  iintro ⟨%f, %hf, H⟩ Hk
  ihave H := (Entails.of_eq (show (M.view.loc c ↦[M.view.set]{fullShare} f : sProp 𝕄) = ((M.access (.whole s)).loc c ↦[(M.access (.whole s)).set]{fullShare} f) by rw [access_set])) $$ H
  iapply (SparseCore.wp_vectorStoreIdx 𝒱 c bd Set.univ (base := M) (f := f)) $$ H
  iintro H
  iapply Hk
  iexists ((M.access (.whole s)).write (Elt F) f (storeIdx ((M.access (.whole s)).read (Elt F) f) idxs v mask add h) Finset.univ)
  isplitr
  · ipureintro
    rw [← access_read, View.read_write_univ, access_read]
    exact hw _ hf
  · rw [access_set]
    iexact H

/-- A whole buffer copied over another. -/
theorem wp_hcopyOut [Infinite Name] [EC.LandsIn (upEmb : UEmb _ 𝕄)] {sp' : Space}
    {D : Memref sig c.2.kind sp s e} {B B' : Memref sig c.2.kind sp' s e} (hB : B' = B) {sem : DmaSem sig} (hn : 0 < s.numel)
    {hdst : B.view.WordExact} {hsrc : D.view.WordExact}
    {hsem : DmaTarget.Typed (nD := nD) sp (.dma sem) (.here B)} {hdst' : B'.view.WordExact} {hsrc' : D.view.WordExact}
    {kk : PUnit → Prog (TpuEff nD τ sig (Elt F) Λ c.2) α} {S : Finset (Idx (B.view.loc c))} (hS : B.view.set ⊆ S)
    {Φ : (s.Idx → Elt F e) → Prop} (ι : Ix) {O : CellTallies nD τ sig Ix} {W : Waits sig Ix} :
    iprop(Holds c D Φ ∗ (∃ f : Buf (Elt F) (B.view.loc c), B.view.loc c ↦[S]{fullShare} f) ∗ semVal (c, SemLoc.dma sem) 0 ∗ Owing c ι O W ∗ Transfers.MayWaits c ι O)
      ⊢ iprop((Holds c D Φ ∗ (∃ f : Buf (Elt F) (B.view.loc c), ⌜Φ (B.view.read (Elt F) f)⌝ ∗ (B.view.loc c ↦[S]{fullShare} f)) ∗ semVal (c, SemLoc.dma sem) 0 ∗ Owing c ι O W
              -∗ wp frame (wpE defs 𝒱 c bd) Set.univ (kk ⟨⟩) Q)
          -∗ wp frame (wpE defs 𝒱 c bd) Set.univ
            (Prog.lift (.enqueueDma D (.here B) (.dma sem) hsrc hdst hsem) >>= fun _ =>
              Prog.lift (.waitDma2 sem D B' hsrc' hdst') >>= kk) Q) := by
  subst hB
  unfold Owing Holds
  iintro ⟨⟨%fd, %hd, Hd⟩, ⟨%fa, HA⟩, Hs, ⟨%W', %hW, HO⟩, Hmw⟩ Hk
  iapply (Transfers.wp_dmaLocal EC 𝒱 c bd (src := D) (dst := B') (sm := .dma sem) ι B'.view.dmaCredit rfl
    (View.dmaCredit_pos _ hn) hS) $$ [HA Hd Hs]
  · iframe Hd HA Hs
  iintro Hf
  iapply (Transfers.wp_waitLocalO EC 𝒱 c bd ι (N := B'.view.dmaCredit) rfl) $$ [Hf HO Hmw]
  · iframe Hf HO
    iapply (Transfers.MayWaits.elim (SemLoc.dma sem)) $$ Hmw
  iintro ⟨⟨HA, Hd⟩, Hs, HO⟩
  iapply Hk
  isplitl [Hd]
  · iexists fd
    isplitr
    · ipureintro; exact hd
    · iexact Hd
  isplitl [HA]
  · iexists _
    isplitr
    rotate_left
    · iexact HA
    · ipureintro
      rw [View.read_write_univ]
      exact hd
  isplitl [Hs]; · iexact Hs
  iexists _
  isplitr
  rotate_left
  · iexact HO
  · ipureintro
    intro p hp
    rcases Finset.mem_insert.mp hp with hp | hp
    · exact Or.inr (by rw [hp])
    · exact hW p hp

/-- A buffer of rows reads `G`. -/
abbrev Reads {R C : ℕ} (G : ℕ → ℕ → Elt F e) (g : (Sh2 R C).Idx → Elt F e) : Prop := ∀ j, g j = G (j 0).val (j 1).val

/-- A load of sixteen lanes of a row. -/
theorem wp_gload {R C r b : ℕ} {M : Memref sig c.2.kind .vmem (Sh2 R C) e} {G : ℕ → ℕ → Elt F e} {off : Fin 2 → ℕ} (h : off = ![r, b])
    {inb : ∀ a, off a + (Sh2 1 16).size a ≤ (Sh2 R C).size a} {hl : M.view.LoadsAt (Rect.unit (s := Sh2 R C) off (Sh2 1 16).size inb).toLoadRect}
    {kk : ((Sh2 1 16).Idx → Elt F e) → Prog (TpuEff nD τ sig (Elt F) Λ c.2) α} :
    (Holds c M (Reads G) : sProp 𝕄)
      ⊢ iprop((Holds c M (Reads G) -∗ wp frame (wpE defs 𝒱 c bd) Set.univ (kk fun x => G r (b + (x 1).val)) Q)
        -∗ wp frame (wpE defs 𝒱 c bd) Set.univ (Prog.lift (.load M (Rect.unit (s := Sh2 R C) off (Sh2 1 16).size inb).toLoadRect hl) >>= kk) Q) := by
  iintro H Hk
  iapply (wp_hload 𝒱 c bd (M := M)) $$ H
  iintro %g %hg H
  have e1 : (fun x => g ((Rect.unit (s := Sh2 R C) off (Sh2 1 16).size inb).emb x)) = fun x : (Sh2 1 16).Idx => G r (b + (x 1).val) := by
    funext x
    rw [hg, Rect.emb_apply, Rect.emb_apply]
    subst h
    have h0 : (x 0).val < 1 := (x 0).isLt
    show G (r + 1 * (x 0).val) (b + 1 * (x 1).val) = _
    rw [show r + 1 * (x 0).val = r by omega, Nat.one_mul]
  rw [e1]
  iapply Hk
  iexact H

/-- A store of the next lanes of a flat buffer, after a load of them. -/
theorem wp_gstore {k : ℕ} {M : Memref sig c.2.kind .vmem (Sh1 n) e} {G : ℕ → Elt F e} {off : Fin 1 → ℕ} (h : off = ![k])
    {inb : ∀ a, off a + (Sh1 16).size a ≤ (Sh1 n).size a} {hl : M.view.LoadsAt (Rect.unit (s := Sh1 n) off (Sh1 16).size inb).toLoadRect}
    {hx : (M.access (Rect.unit (s := Sh1 n) off (Sh1 16).size inb)).Stores Finset.univ} {w : (Sh1 16).Idx → Elt F e}
    {hm : Finset.univ = Finset.univ ∨ ∀ a, (Rect.unit (s := Sh1 n) off (Sh1 16).size inb).stride a = 1}
    {kk : PUnit → Prog (TpuEff nD τ sig (Elt F) Λ c.2) α} (hw : ∀ x, w x = G (k + (x 0).val)) :
    (Filled c M G k : sProp 𝕄)
      ⊢ iprop((Filled c M G (k + 16) -∗ wp frame (wpE defs 𝒱 c bd) Set.univ (kk ⟨⟩) Q)
        -∗ wp frame (wpE defs 𝒱 c bd) Set.univ (Prog.lift (.load M (Rect.unit (s := Sh1 n) off (Sh1 16).size inb).toLoadRect hl) >>= fun _ =>
            Prog.lift (.store M (Rect.unit (s := Sh1 n) off (Sh1 16).size inb) w Finset.univ hx hm) >>= kk) Q) := by
  unfold Filled
  iintro ⟨%f, %hf, H⟩ Hk
  iapply (wp_load 𝒱 c bd Set.univ (m := M) (S := M.view.set) (Finset.map_subset_map.mpr (Finset.subset_univ _))) $$ H
  iintro H
  iapply (wp_store 𝒱 c bd Set.univ (m := M) (r := Rect.unit (s := Sh1 n) off (Sh1 16).size inb) (S := M.view.set) (View.set_slice_subset _ _)) $$ H
  iintro H
  iapply Hk
  iexists _
  isplitr
  rotate_left
  · iexact H
  · ipureintro
    exact Done.write hf h hw

end Cert.Proof.Rows
-- ==== Proof.TallyRun.lean ====
/-
  The counting tile program's loops: each graph's lanes cleared, every edge's graph looked up, kept and counted by lane,
  every body counted by lane, the counts turned to rows of lanes.
-/
module

public import proofs.«01_k».proof.Proof.Tally
public import proofs.«01_k».proof.Proof.Gen.CountsIdeal
public import proofs.«01_k».proof.Proof.Gen.CountsIdeal.Skeleton

@[expose] public section

noncomputable section

namespace Cert.Proof.Counting

open Cert.CountsIdeal Cert.CountsIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Proof.Rows

/-- How many of a lane's first `t` words are `k`. -/
def tally (K : ℕ → ℕ → BitVec 32) : ℕ → ℕ → ℕ → BitVec 32
  | 0, _, _ => 0#32
  | t + 1, k, l => if (K l t).toNat = k then tally K t k l + 1#32 else tally K t k l

/-- The sixteen lanes' sum. -/
def tot (H : ℕ → ℕ → BitVec 32) (k : ℕ) : BitVec 32 :=
  0#32 + H k 0 + H k 1 + H k 2 + H k 3 + H k 4 + H k 5 + H k 6 + H k 7 + H k 8 + H k 9 + H k 10 + H k 11 + H k 12 + H k 13 + H k 14 + H k 15

theorem trips1 : k0_t1_loop.trips = 80 := by decide +kernel
theorem trips2 : k0_t2_loop.trips = 1568 := by decide +kernel
theorem trips3 : k0_t3_loop.trips = 98 := by decide +kernel
theorem trips4 : k0_t4_loop.trips = 80 := by decide +kernel
theorem off2 : ∀ t : Fin k0_t1_loop.trips, k0_off2 t = ![t.val, 0] := by decide +kernel
theorem off5 : ∀ t : Fin k0_t4_loop.trips, k0_off5 t = ![t.val, 0] := by decide +kernel
theorem off6 : ∀ t : Fin k0_t4_loop.trips, k0_off6 t = ![t.val, 0] := by decide +kernel

/-- A task's place among the tasks. -/
abbrev at_ (i : grid0.Coords) : ℕ := 16 * (i 0).val + (i 1).val

theorem at_lt (i : grid0.Coords) : at_ i < 32 := by
  have h0 : (i 0).val < 2 := (i 0).isLt
  have h1 : (i 1).val < 16 := (i 1).isLt
  show 16 * (i 0).val + (i 1).val < 32
  omega

theorem word_at (i : grid0.Coords) : Scalar.addi (Scalar.muli (BitVec.ofNat 32 (i 0).val) 16#32) (BitVec.ofNat 32 (i 1).val) = BitVec.ofNat 32 (at_ i) := by
  have h0 : (i 0).val < 2 := (i 0).isLt
  have h1 : (i 1).val < 16 := (i 1).isLt
  apply BitVec.eq_of_toNat_eq
  simp only [Scalar.addi, Scalar.muli, IntOp.addi, IntOp.muli, BitVec.toNat_add, BitVec.toNat_mul, BitVec.toNat_ofNat, at_]
  omega

theorem off1 (i : grid0.Coords) : k0_off1 i = ![25088 * at_ i] := by
  have := at_lt i
  show ![(Scalar.muli (Scalar.addi (Scalar.muli (BitVec.ofNat 32 (i 0).val) 16#32) (BitVec.ofNat 32 (i 1).val)) 25088#32).toNat] = _
  rw [word_at]
  congr 1
  simp only [Scalar.muli, IntOp.muli, BitVec.toNat_mul, BitVec.toNat_ofNat]
  omega

theorem off3 (i : grid0.Coords) : k0_off3 i = ![25088 * at_ i] := off1 i

theorem iv_toNat {n : ℕ} (t : Fin n) (h : n ≤ 1568) : (Scf.iv 0#32 1#32 t).toNat = t.val := by
  have := t.isLt
  simp only [Scf.iv, Scalar.addi, Scalar.muli, IntOp.addi, IntOp.muli, BitVec.toNat_add, BitVec.toNat_mul, BitVec.toNat_ofNat]
  omega

theorem off4 (i : grid0.Coords) (t : Fin k0_t3_loop.trips) : k0_off4 i t = ![1568 * at_ i + 16 * t.val] := by
  have := at_lt i
  have ht : t.val < 98 := lt_of_lt_of_eq t.isLt trips3
  show ![(Scalar.indexCast (Scalar.addi (Scalar.muli (Scalar.addi (Scalar.muli (BitVec.ofNat 32 (i 0).val) 16#32) (BitVec.ofNat 32 (i 1).val)) 1568#32) (Scalar.muli (Scf.iv 0#32 1#32 t) 16#32))).toNat] = _
  rw [word_at]
  congr 1
  have e := iv_toNat t (le_of_eq trips3 |>.trans (by decide))
  simp only [Scalar.indexCast, Scalar.addi, Scalar.muli, IntOp.addi, IntOp.muli, BitVec.toNat_add, BitVec.toNat_mul, BitVec.toNat_ofNat, e]
  omega

theorem off7 (i : grid0.Coords) : k0_off7 i = ![at_ i, 0, 0] := by
  have := at_lt i
  show ![(Scalar.addi (Scalar.muli (BitVec.ofNat 32 (i 0).val) 16#32) (BitVec.ofNat 32 (i 1).val)).toNat, 0, 0] = _
  rw [word_at, BitVec.toNat_ofNat, Nat.mod_eq_of_lt (by omega)]

theorem off8 (i : grid0.Coords) : k0_off8 i = ![at_ i, 0] := by
  have := at_lt i
  show ![(Scalar.addi (Scalar.muli (BitVec.ofNat 32 (i 0).val) 16#32) (BitVec.ofNat 32 (i 1).val)).toNat, 0] = _
  rw [word_at, BitVec.toNat_ofNat, Nat.mod_eq_of_lt (by omega)]

/-- The lanes' numbers. -/
abbrev lanes : IVec S16 32 := iota .scVector S16 32 [0] iota_S16_d0_w32_scVector

theorem lanes_val (x : S16.Idx) : (lanes x).toNat = (x 0).val := by
  have h : (x 0).val < 16 := (x 0).isLt
  show (BitVec.ofNat 32 (0 * S16.size 0 + (x 0).val)).toNat = _
  rw [BitVec.toNat_ofNat]
  omega

/-- The lanes' positions at trip `t`. -/
theorem spots (t : Fin k0_t2_loop.trips) (x : S16.Idx) : (k0_pay3 t x).toNat = 1568 * (x 0).val + t.val := by
  have h : (x 0).val < 16 := (x 0).isLt
  have ht : t.val < 1568 := lt_of_lt_of_eq t.isLt trips2
  show (IntOp.addi (IntOp.muli (lanes x) 1568#32) (Scf.iv 0#32 1#32 t)).toNat = _
  have e := iv_toNat t (le_of_eq trips2)
  have el := lanes_val x
  simp only [IntOp.addi, IntOp.muli, BitVec.toNat_add, BitVec.toNat_mul, BitVec.toNat_ofNat, e, el]
  omega

section Pure

variable {F : FTy → Type} [FloatOps F]

/-- One more word of each lane counted. -/
theorem tally_step (K : ℕ → ℕ → BitVec 32) (t : ℕ) (v : IVec S16 32) (hv : ∀ k : Fin 16, v (Shape.ofLane (d := ![16]) k) = K k.val t)
    (h : ∀ a x, ((![v, lanes] : Fin 2 → IVec S16 32) a x).toNat < S80x16.size a) (g : S80x16.Idx → Elt F .i32) (hg : Reads (F := F) (e := .i32) (tally K t) g) :
    Reads (F := F) (e := .i32) (tally K (t + 1)) (storeIdx (F := F) (e := .i32) g (![v, lanes] : Fin 2 → IVec S16 32) k0_pay1 (fun _ => 1#1) true h) := by
  intro j
  have hl : (j 1).val < 16 := (j 1).isLt
  have hits : ∀ k : Fin 16, Hits (s := S80x16) (d := ![16]) (![v, lanes] : Fin 2 → IVec S16 32) j k ↔ (j 0).val = (K k.val t).toNat ∧ (j 1).val = k.val := by
    intro k
    have e1 : ((![v, lanes] : Fin 2 → IVec S16 32) 0 (Shape.ofLane (d := ![16]) k)).toNat = (K k.val t).toNat := congrArg BitVec.toNat (hv k)
    have e2 : ((![v, lanes] : Fin 2 → IVec S16 32) 1 (Shape.ofLane (d := ![16]) k)).toNat = k.val := lanes_val _
    refine ⟨fun hh => ⟨(hh 0).trans e1, (hh 1).trans e2⟩, fun hh a => ?_⟩
    match a with
    | ⟨0, _⟩ => exact hh.1.trans e1.symm
    | ⟨1, _⟩ => exact hh.2.trans e2.symm
  show _ = if (K (j 1).val t).toNat = (j 0).val then tally K t (j 0).val (j 1).val + 1#32 else tally K t (j 0).val (j 1).val
  by_cases hc : (K (j 1).val t).toNat = (j 0).val
  · rw [if_pos hc, storeIdx_one (F := F) (e := .i32) (d := ![16]) _ _ _ h g j (⟨(j 1).val, hl⟩ : Fin 16) ((hits _).mpr ⟨hc.symm, rfl⟩)
      (fun k' hk hh => hk (Fin.ext ((hits k').mp hh).2.symm)), if_pos rfl, hg j]
    rfl
  · rw [if_neg hc, storeIdx_miss (F := F) (e := .i32) (d := ![16]) _ _ _ h g j (fun k hh => by
      obtain ⟨h1, h2⟩ := (hits k).mp hh
      exact hc (by rw [h2]; exact h1.symm)), hg j]

/-- One more position of each lane's stretch stored. -/
theorem keep_step (G : ℕ → BitVec 32) (t : Fin k0_t2_loop.trips) (v : IVec S16 32) (hv : ∀ k : Fin 16, v (Shape.ofLane (d := ![16]) k) = G (1568 * k.val + t.val))
    (h : ∀ a x, ((![k0_pay3 t] : Fin 1 → IVec S16 32) a x).toNat < S25088.size a) (g : S25088.Idx → Elt F .i32)
    (hg : ∀ j : S25088.Idx, (j 0).val % 1568 < t.val → g j = G (j 0).val) :
    ∀ j : S25088.Idx, (j 0).val % 1568 < t.val + 1 → storeIdx (F := F) (e := .i32) g (![k0_pay3 t] : Fin 1 → IVec S16 32) v (fun _ => 1#1) false h j = G (j 0).val := by
  intro j hj
  have hl : (j 0).val < 25088 := (j 0).isLt
  have ht : t.val < 1568 := lt_of_lt_of_eq t.isLt trips2
  have hits : ∀ k : Fin 16, Hits (s := S25088) (d := ![16]) (![k0_pay3 t] : Fin 1 → IVec S16 32) j k ↔ (j 0).val = 1568 * k.val + t.val := by
    intro k
    have e1 : ((![k0_pay3 t] : Fin 1 → IVec S16 32) 0 (Shape.ofLane (d := ![16]) k)).toNat = 1568 * k.val + t.val := spots t _
    refine ⟨fun hh => (hh 0).trans e1, fun hh a => ?_⟩
    match a with
    | ⟨0, _⟩ => exact hh.trans e1.symm
  by_cases hc : (j 0).val % 1568 = t.val
  · have hq : (j 0).val / 1568 < 16 := by omega
    have e : (j 0).val = 1568 * ((j 0).val / 1568) + t.val := by omega
    rw [storeIdx_one (F := F) (e := .i32) (d := ![16]) _ _ _ h g j (⟨(j 0).val / 1568, hq⟩ : Fin 16) ((hits _).mpr e)
      (fun k' hk hh => hk (Fin.ext (by have := (hits k').mp hh; show k'.val = (j 0).val / 1568; omega))), if_neg (by decide), hv]
    exact congrArg G e.symm
  · rw [storeIdx_miss (F := F) (e := .i32) (d := ![16]) _ _ _ h g j (fun k hh => by
      have := (hits k).mp hh
      omega)]
    exact hg j (by omega)

/-- One more column turned. -/
theorem turn_step (H : ℕ → ℕ → BitVec 32) (t : ℕ) (w : IVec S16 32) (hw : ∀ x, (w x).toNat = t) (v : IVec S16 32)
    (hv : ∀ k : Fin 16, v (Shape.ofLane (d := ![16]) k) = H t k.val)
    (h : ∀ a x, ((![lanes, w] : Fin 2 → IVec S16 32) a x).toNat < S16x80.size a) (g : S16x80.Idx → Elt F .i32)
    (hg : ∀ j : S16x80.Idx, (j 1).val < t → g j = H (j 1).val (j 0).val) :
    ∀ j : S16x80.Idx, (j 1).val < t + 1 → storeIdx (F := F) (e := .i32) g (![lanes, w] : Fin 2 → IVec S16 32) v (fun _ => 1#1) false h j = H (j 1).val (j 0).val := by
  intro j hj
  have hl : (j 0).val < 16 := (j 0).isLt
  have hits : ∀ k : Fin 16, Hits (s := S16x80) (d := ![16]) (![lanes, w] : Fin 2 → IVec S16 32) j k ↔ (j 0).val = k.val ∧ (j 1).val = t := by
    intro k
    have e1 : ((![lanes, w] : Fin 2 → IVec S16 32) 0 (Shape.ofLane (d := ![16]) k)).toNat = k.val := lanes_val _
    have e2 : ((![lanes, w] : Fin 2 → IVec S16 32) 1 (Shape.ofLane (d := ![16]) k)).toNat = t := hw _
    refine ⟨fun hh => ⟨(hh 0).trans e1, (hh 1).trans e2⟩, fun hh a => ?_⟩
    match a with
    | ⟨0, _⟩ => exact hh.1.trans e1.symm
    | ⟨1, _⟩ => exact hh.2.trans e2.symm
  by_cases hc : (j 1).val = t
  · rw [storeIdx_one (F := F) (e := .i32) (d := ![16]) _ _ _ h g j (⟨(j 0).val, hl⟩ : Fin 16) ((hits _).mpr ⟨rfl, hc⟩)
      (fun k' hk hh => hk (Fin.ext ((hits k').mp hh).1.symm)), if_neg (by decide), hv, hc]
  · rw [storeIdx_miss (F := F) (e := .i32) (d := ![16]) _ _ _ h g j (fun k hh => hc ((hits k).mp hh).2)]
    exact hg j (by omega)

end Pure

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (i : grid0.Coords) (bd : Option 𝒱.V)

local notation "𝕄" => MT nD τ sig Ix (Elt F) Name U Lvl

/-- The task's thread. -/
abbrev thr (d : Dev nD) (i : grid0.Coords) : Thread nD τ := (d, .scVector ((i 0).castLE hcore0) ((i 1).castLE hsub0))

variable (A2 : Memref sig .scVector .hbm S802816 .i32) (A3 : Memref sig .scVector .hbm S50176 .i32) (A4 : Memref sig .scVector .hbm S802816 .i32)
variable (A5 : Memref sig .scVector .hbm S32x80x16 .i32) (A6 A7 : Memref sig .scVector .hbm S32x80 .i32)
variable (A8 : Memref sig .scVector .vmem S50176 .i32) (A9 A10 : Memref sig .scVector .vmem S25088 .i32)
variable (A11 A12 : Memref sig .scVector .vmem S80x16 .i32) (A13 A14 : Memref sig .scVector .vmem S16x80 .i32) (A15 A16 : Memref sig .scVector .vmem S80 .i32)
variable (h2 : A2.IsWhole) (h3 : A3.IsWhole) (h4 : A4.IsWhole) (h5 : A5.IsWhole) (h6 : A6.IsWhole) (h7 : A7.IsWhole) (h8 : A8.IsWhole) (h9 : A9.IsWhole)
variable (h10 : A10.IsWhole) (h11 : A11.IsWhole) (h12 : A12.IsWhole) (h13 : A13.IsWhole) (h14 : A14.IsWhole) (h15 : A15.IsWhole) (h16 : A16.IsWhole)
variable (r0 r1 r2 r3 r4 r5 : DmaSems sig S_)
variable {α : Type} {Q : α → sProp (MT nD τ sig Ix (Elt F) Name U Lvl)}

omit [FloatOps F] in
/-- One more row cleared. -/
theorem clear_step (t : Fin k0_t1_loop.trips) (g g' : S80x16.Idx → Elt F .i32) (w : (Rect.unit (s := S80x16) (k0_off2 t) S1x16.size (k0_off2_inb t)).shape.Idx → Elt F .i32)
    (hw : ∀ x, w x = (0#32 : BitVec 32)) (hg : ∀ j : S80x16.Idx, (j 0).val < t.val → g j = (0#32 : BitVec 32))
    (hin : ∀ x, g' ((Rect.unit (s := S80x16) (k0_off2 t) S1x16.size (k0_off2_inb t)).emb x) = w x)
    (hout : ∀ j, (∀ x, (Rect.unit (s := S80x16) (k0_off2 t) S1x16.size (k0_off2_inb t)).emb x ≠ j) → g' j = g j) :
    ∀ j : S80x16.Idx, (j 0).val < t.val + 1 → g' j = (0#32 : BitVec 32) := by
  intro j hj
  by_cases hm : ∃ x, (Rect.unit (s := S80x16) (k0_off2 t) S1x16.size (k0_off2_inb t)).emb x = j
  · obtain ⟨x, rfl⟩ := hm
    rw [hin, hw]
  · rw [hout j (fun x e => hm ⟨x, e⟩)]
    refine hg j (by_contra fun hn => hm ?_)
    refine ⟨(fun a => match a with | ⟨0, _⟩ => (0 : Fin 1) | ⟨1, _⟩ => (⟨(j 1).val, (j 1).isLt⟩ : Fin 16) : S1x16.Idx), ?_⟩
    funext a
    refine Fin.ext ?_
    rw [Rect.emb_apply]
    match a with
    | ⟨0, _⟩ =>
      have e : k0_off2 t 0 = t.val := congrFun (off2 t) 0
      show k0_off2 t 0 + 1 * 0 = (j 0).val
      rw [e]
      omega
    | ⟨1, _⟩ =>
      have e : k0_off2 t 1 = 0 := congrFun (off2 t) 1
      show k0_off2 t 1 + 1 * (j 1).val = (j 1).val
      rw [e, Nat.one_mul, Nat.zero_add]

/-- Every graph's lanes cleared. -/
theorem clear {kk : BitVec 32 → Prog (TpuEff nD τ sig (Elt F) Λ₀ (thr d i).2) α} :
    iprop(Holds (thr d i) A11 (fun _ => True) ∗ Holds (thr d i) A12 (fun _ => True))
      ⊢ (iprop((∀ v, Holds (thr d i) A11 (Reads fun _ _ => (0#32 : BitVec 32)) ∗ Holds (thr d i) A12 (Reads fun _ _ => (0#32 : BitVec 32))
            -∗ wp frame (wpE defs 𝒱 (thr d i) bd) Set.univ (kk v) Q)
        -∗ wp frame (wpE defs 𝒱 (thr d i) bd) Set.univ
          (Scf.Loop.for k0_t1_loop k0_t1_ok 0#32 (k0_t1_body i A2 h2 A3 h3 A4 h4 A5 h5 A6 h6 A7 h7 A8 h8 A9 h9 A10 h10 A11 h11 A12 h12 A13 h13 A14 h14 A15 h15 A16 h16 r0 r1 r2 r3 r4 r5) >>= kk) Q) : sProp 𝕄) := by
  iintro ⟨H1, H2⟩ Hk
  iapply (Scf.wp_for_bind frame (wpE defs 𝒱 (thr d i) bd) Set.univ k0_t1_loop.lb k0_t1_loop.ub k0_t1_loop.st k0_t1_ok 0#32
    (k0_t1_body i A2 h2 A3 h3 A4 h4 A5 h5 A6 h6 A7 h7 A8 h8 A9 h9 A10 h10 A11 h11 A12 h12 A13 h13 A14 h14 A15 h15 A16 h16 r0 r1 r2 r3 r4 r5)
    (fun n _ => iprop(Holds (thr d i) A11 (fun g => ∀ j, (j 0).val < n → g j = (0#32 : BitVec 32)) ∗ Holds (thr d i) A12 (fun g => ∀ j, (j 0).val < n → g j = (0#32 : BitVec 32))))
    (fun t acc => by
      iintro ⟨H1, H2⟩
      unfold k0_t1_body
      iapply (wp_hload 𝒱 (thr d i) bd) $$ H1
      iintro %_ %_ H1
      iapply (wp_hstore 𝒱 (thr d i) bd (Ψ := fun g => ∀ j, (j 0).val < t.val + 1 → g j = (0#32 : BitVec 32)) (fun g g' hg hin hout => clear_step t g g' _ (fun _ => rfl) hg hin hout)) $$ H1
      iintro H1
      iapply (wp_hload 𝒱 (thr d i) bd) $$ H2
      iintro %_ %_ H2
      iapply (wp_hstore 𝒱 (thr d i) bd (Ψ := fun g => ∀ j, (j 0).val < t.val + 1 → g j = (0#32 : BitVec 32)) (fun g g' hg hin hout => clear_step t g g' _ (fun _ => rfl) hg hin hout)) $$ H2
      iintro H2
      rw [wp_pure]
      iframe H1 H2)) $$ [H1 H2]
  · isplitl [H1]
    · iapply (Holds.mono (thr d i) A11 (Φ := fun _ => True) fun g _ j hj => absurd hj (Nat.not_lt_zero _)) $$ H1
    · iapply (Holds.mono (thr d i) A12 (Φ := fun _ => True) fun g _ j hj => absurd hj (Nat.not_lt_zero _)) $$ H2
  iintro %v ⟨H1, H2⟩
  iapply Hk
  isplitl [H1]
  · iapply (Holds.mono (thr d i) A11 fun g hg j => hg j (lt_of_lt_of_eq (j 0).isLt trips1.symm)) $$ H1
  · iapply (Holds.mono (thr d i) A12 fun g hg j => hg j (lt_of_lt_of_eq (j 0).isLt trips1.symm)) $$ H2

variable (iT nT : ℕ → BitVec 32)

/-- A lane's edges' graphs, from position `b` on. -/
abbrev edgeKey (b l s : ℕ) : BitVec 32 := nT (iT (b + (1568 * l + s))).toNat

/-- A lane's bodies' graphs, from position `b` on. -/
abbrev nodeKey (b l s : ℕ) : BitVec 32 := nT (b + (16 * s + l))

/-- Every edge's graph looked up, kept and counted. -/
theorem edges (hi : ∀ j, (iT j).toNat < 50176) (hn : ∀ j, (nT j).toNat < 80) (b : ℕ)
    {kk : BitVec 32 → Prog (TpuEff nD τ sig (Elt F) Λ₀ (thr d i).2) α} :
    iprop(Filled (thr d i) A8 (fun j => (nT j : Elt F .i32)) 50176 ∗ Filled (thr d i) A9 (fun j => (iT (b + j) : Elt F .i32)) 25088
        ∗ Filled (thr d i) A10 (fun j => (nT (iT (b + j)).toNat : Elt F .i32)) 0 ∗ Holds (thr d i) A11 (Reads fun _ _ => (0#32 : BitVec 32)))
      ⊢ (iprop((∀ v, Filled (thr d i) A8 (fun j => (nT j : Elt F .i32)) 50176 ∗ Filled (thr d i) A9 (fun j => (iT (b + j) : Elt F .i32)) 25088
            ∗ Filled (thr d i) A10 (fun j => (nT (iT (b + j)).toNat : Elt F .i32)) 25088 ∗ Holds (thr d i) A11 (Reads (tally (edgeKey iT nT b) 1568))
            -∗ wp frame (wpE defs 𝒱 (thr d i) bd) Set.univ (kk v) Q)
        -∗ wp frame (wpE defs 𝒱 (thr d i) bd) Set.univ
          (Scf.Loop.for k0_t2_loop k0_t2_ok 0#32 (k0_t2_body i A2 h2 A3 h3 A4 h4 A5 h5 A6 h6 A7 h7 A8 h8 A9 h9 A10 h10 A11 h11 A12 h12 A13 h13 A14 h14 A15 h15 A16 h16 r0 r1 r2 r3 r4 r5 lanes) >>= kk) Q) : sProp 𝕄) := by
  iintro ⟨HN, HI, HE, HC⟩ Hk
  iapply (Scf.wp_for_bind frame (wpE defs 𝒱 (thr d i) bd) Set.univ k0_t2_loop.lb k0_t2_loop.ub k0_t2_loop.st k0_t2_ok 0#32
    (k0_t2_body i A2 h2 A3 h3 A4 h4 A5 h5 A6 h6 A7 h7 A8 h8 A9 h9 A10 h10 A11 h11 A12 h12 A13 h13 A14 h14 A15 h15 A16 h16 r0 r1 r2 r3 r4 r5 lanes)
    (fun n _ => iprop(Filled (thr d i) A8 (fun j => (nT j : Elt F .i32)) 50176 ∗ Filled (thr d i) A9 (fun j => (iT (b + j) : Elt F .i32)) 25088
      ∗ Holds (thr d i) A10 (fun g => ∀ j, (j 0).val % 1568 < n → g j = (nT (iT (b + (j 0).val)).toNat : Elt F .i32))
      ∗ Holds (thr d i) A11 (Reads (tally (edgeKey iT nT b) n))))
    (fun t acc => by
      iintro ⟨HN, HI, HE, HC⟩
      have ht : t.val < 1568 := lt_of_lt_of_eq t.isLt trips2
      unfold k0_t2_body
      have q1 : k0_chk1 (k0_pay3 t) := by
        have : ∀ a x, ((![k0_pay3 t] : Fin 1 → IVec S16 32) a x).toNat < S25088.size a := fun a x => by
          match a with
          | ⟨0, _⟩ =>
            have hx : (x 0).val < 16 := (x 0).isLt
            refine lt_of_eq_of_lt (spots t x) ?_
            show _ < 25088
            omega
        exact ⟨this, this⟩
      iapply (wp_assume 𝒱 (thr d i) bd Set.univ q1)
      ihave HI := (Entails.of_eq (Holds.filled (thr d i) A9 _ _)) $$ HI
      iapply (wp_hloadIdx 𝒱 (thr d i) bd (hl := View.loads_vmem h_S25088)) $$ HI
      iintro %g9 %hg9 HI
      have e9 : loadIdx (F := F) (s := S25088) (e := .i32) g9 (![k0_pay3 t] : Fin 1 → IVec S16 32) (k0_idx1_inb (k0_pay3 t) q1) = fun x => iT (b + (1568 * (x 0).val + t.val)) := by
        funext x
        have hx : (x 0).val < 16 := (x 0).isLt
        have e : ((idxAt (s := S25088) (![k0_pay3 t] : Fin 1 → IVec S16 32) (k0_idx1_inb (k0_pay3 t) q1) x) 0).val = 1568 * (x 0).val + t.val := spots t x
        show g9 _ = _
        rw [hg9 _ (by rw [e]; omega), e]
      rw [e9]
      have q2 : k0_chk2 (fun x : S16.Idx => iT (b + (1568 * (x 0).val + t.val))) := fun a x => by
        match a with
        | ⟨0, _⟩ => exact hi _
      iapply (wp_assume 𝒱 (thr d i) bd Set.univ q2)
      ihave HN := (Entails.of_eq (Holds.filled (thr d i) A8 _ _)) $$ HN
      iapply (wp_hloadIdx 𝒱 (thr d i) bd (hl := View.loads_vmem h_S50176)) $$ HN
      iintro %g8 %hg8 HN
      have e8 : loadIdx (F := F) (s := S50176) (e := .i32) g8 (![fun x : S16.Idx => iT (b + (1568 * (x 0).val + t.val))] : Fin 1 → IVec S16 32) (k0_idx2_inb _ q2)
          = fun x => edgeKey iT nT b (x 0).val t.val := by
        funext x
        show g8 _ = _
        rw [hg8 _ (hi _)]
        rfl
      rw [e8]
      have q3 : k0_chk3 lanes (fun x : S16.Idx => edgeKey iT nT b (x 0).val t.val) := fun a x => by
        match a with
        | ⟨0, _⟩ => exact hn _
        | ⟨1, _⟩ => exact lt_of_eq_of_lt (lanes_val x) (x 0).isLt
      iapply (wp_assume 𝒱 (thr d i) bd Set.univ q3)
      iapply (wp_hstoreIdx 𝒱 (thr d i) bd (Ψ := fun g => ∀ j, (j 0).val % 1568 < t.val + 1 → g j = (nT (iT (b + (j 0).val)).toNat : Elt F .i32)) (fun g hg => keep_step (fun j => nT (iT (b + j)).toNat) t _ (fun _ => rfl) _ g hg)) $$ HE
      iintro HE
      iapply (wp_hstoreIdx 𝒱 (thr d i) bd (fun g hg => tally_step (edgeKey iT nT b) t.val _ (fun _ => rfl) _ g hg)) $$ HC
      iintro HC
      ihave HN := (Entails.of_eq (Holds.filled (thr d i) A8 (fun j => (nT j : Elt F .i32)) 50176).symm) $$ HN
      ihave HI := (Entails.of_eq (Holds.filled (thr d i) A9 (fun j => (iT (b + j) : Elt F .i32)) 25088).symm) $$ HI
      rw [wp_pure]
      iframe HN HI HE HC)) $$ [HN HI HE HC]
  · iframe HN HI
    isplitl [HE]
    · ihave HE := (Entails.of_eq (Holds.filled (thr d i) A10 _ _)) $$ HE
      iapply (Holds.mono (thr d i) A10 fun g _ j hj => absurd hj (Nat.not_lt_zero _)) $$ HE
    iexact HC
  iintro %v ⟨HN, HI, HE, HC⟩
  iapply Hk
  iframe HN HI
  isplitl [HE]
  · iapply (Entails.of_eq (Holds.filled (thr d i) A10 _ _).symm)
    iapply (Holds.mono (thr d i) A10 fun g hg j _ => hg j (lt_of_lt_of_eq (Nat.mod_lt _ (by decide)) trips2.symm)) $$ HE
  · iapply (Entails.of_eq (congrArg (fun n => (Holds (thr d i) A11 (Reads (tally (edgeKey iT nT b) n)) : sProp 𝕄)) trips2)) $$ HC

/-- Every body counted. -/
theorem nodes (hn : ∀ j, (nT j).toNat < 80) {kk : BitVec 32 → Prog (TpuEff nD τ sig (Elt F) Λ₀ (thr d i).2) α} :
    iprop(Filled (thr d i) A8 (fun j => (nT j : Elt F .i32)) 50176 ∗ Holds (thr d i) A12 (Reads fun _ _ => (0#32 : BitVec 32)))
      ⊢ (iprop((∀ v, Filled (thr d i) A8 (fun j => (nT j : Elt F .i32)) 50176 ∗ Holds (thr d i) A12 (Reads (tally (nodeKey nT (1568 * at_ i)) 98))
            -∗ wp frame (wpE defs 𝒱 (thr d i) bd) Set.univ (kk v) Q)
        -∗ wp frame (wpE defs 𝒱 (thr d i) bd) Set.univ
          (Scf.Loop.for k0_t3_loop k0_t3_ok 0#32 (k0_t3_body i A2 h2 A3 h3 A4 h4 A5 h5 A6 h6 A7 h7 A8 h8 A9 h9 A10 h10 A11 h11 A12 h12 A13 h13 A14 h14 A15 h15 A16 h16 r0 r1 r2 r3 r4 r5 lanes) >>= kk) Q) : sProp 𝕄) := by
  iintro ⟨HN, HC⟩ Hk
  iapply (Scf.wp_for_bind frame (wpE defs 𝒱 (thr d i) bd) Set.univ k0_t3_loop.lb k0_t3_loop.ub k0_t3_loop.st k0_t3_ok 0#32
    (k0_t3_body i A2 h2 A3 h3 A4 h4 A5 h5 A6 h6 A7 h7 A8 h8 A9 h9 A10 h10 A11 h11 A12 h12 A13 h13 A14 h14 A15 h15 A16 h16 r0 r1 r2 r3 r4 r5 lanes)
    (fun n _ => iprop(Filled (thr d i) A8 (fun j => (nT j : Elt F .i32)) 50176 ∗ Holds (thr d i) A12 (Reads (tally (nodeKey nT (1568 * at_ i)) n))))
    (fun t acc => by
      iintro ⟨HN, HC⟩
      unfold k0_t3_body
      ihave HN := (Entails.of_eq (Holds.filled (thr d i) A8 _ _)) $$ HN
      iapply (wp_hload 𝒱 (thr d i) bd) $$ HN
      iintro %g8 %hg8 HN
      have e8 : (fun x => g8 ((Rect.unit (s := S50176) (k0_off4 i t) S16.size (k0_off4_inb i t)).emb x)) = fun x : S16.Idx => nodeKey nT (1568 * at_ i) (x 0).val t.val := by
        funext x
        rw [hg8 _ (Fin.isLt _), Rect.emb_apply]
        refine congrArg nT ?_
        show k0_off4 i t 0 + 1 * (x 0).val = _
        rw [Nat.one_mul]
        exact (congrArg (· + (x 0).val) (congrFun (off4 i t) 0)).trans (Nat.add_assoc _ _ _)
      rw [e8]
      have q4 : k0_chk4 lanes (fun x : S16.Idx => nodeKey nT (1568 * at_ i) (x 0).val t.val) := fun a x => by
        match a with
        | ⟨0, _⟩ => exact hn _
        | ⟨1, _⟩ => exact lt_of_eq_of_lt (lanes_val x) (x 0).isLt
      iapply (wp_assume 𝒱 (thr d i) bd Set.univ q4)
      iapply (wp_hstoreIdx 𝒱 (thr d i) bd (fun g hg => tally_step (nodeKey nT (1568 * at_ i)) t.val _ (fun _ => rfl) _ g hg)) $$ HC
      iintro HC
      ihave HN := (Entails.of_eq (Holds.filled (thr d i) A8 (fun j => (nT j : Elt F .i32)) 50176).symm) $$ HN
      rw [wp_pure]
      iframe HN HC)) $$ [HN HC]
  · iframe HN HC
  iintro %v ⟨HN, HC⟩
  iapply Hk
  isplitl [HN]; · iexact HN
  iapply (Entails.of_eq (congrArg (fun n => (Holds (thr d i) A12 (Reads (tally (nodeKey nT (1568 * at_ i)) n)) : sProp 𝕄)) trips3)) $$ HC

/-- The counts turned to rows of lanes. -/
theorem turn (H1 H2 : ℕ → ℕ → BitVec 32) {kk : BitVec 32 → Prog (TpuEff nD τ sig (Elt F) Λ₀ (thr d i).2) α} :
    iprop(Holds (thr d i) A11 (Reads H1) ∗ Holds (thr d i) A12 (Reads H2) ∗ Holds (thr d i) A13 (fun _ => True) ∗ Holds (thr d i) A14 (fun _ => True))
      ⊢ (iprop((∀ v, Holds (thr d i) A11 (Reads H1) ∗ Holds (thr d i) A12 (Reads H2) ∗ Holds (thr d i) A13 (Reads fun l k => H1 k l) ∗ Holds (thr d i) A14 (Reads fun l k => H2 k l)
            -∗ wp frame (wpE defs 𝒱 (thr d i) bd) Set.univ (kk v) Q)
        -∗ wp frame (wpE defs 𝒱 (thr d i) bd) Set.univ
          (Scf.Loop.for k0_t4_loop k0_t4_ok 0#32 (k0_t4_body i A2 h2 A3 h3 A4 h4 A5 h5 A6 h6 A7 h7 A8 h8 A9 h9 A10 h10 A11 h11 A12 h12 A13 h13 A14 h14 A15 h15 A16 h16 r0 r1 r2 r3 r4 r5 lanes) >>= kk) Q) : sProp 𝕄) := by
  iintro ⟨HA, HB, HC, HD⟩ Hk
  iapply (Scf.wp_for_bind frame (wpE defs 𝒱 (thr d i) bd) Set.univ k0_t4_loop.lb k0_t4_loop.ub k0_t4_loop.st k0_t4_ok 0#32
    (k0_t4_body i A2 h2 A3 h3 A4 h4 A5 h5 A6 h6 A7 h7 A8 h8 A9 h9 A10 h10 A11 h11 A12 h12 A13 h13 A14 h14 A15 h15 A16 h16 r0 r1 r2 r3 r4 r5 lanes)
    (fun n _ => iprop(Holds (thr d i) A11 (Reads H1) ∗ Holds (thr d i) A12 (Reads H2)
      ∗ Holds (thr d i) A13 (fun g => ∀ j, (j 1).val < n → g j = (H1 (j 1).val (j 0).val : Elt F .i32)) ∗ Holds (thr d i) A14 (fun g => ∀ j, (j 1).val < n → g j = (H2 (j 1).val (j 0).val : Elt F .i32))))
    (fun t acc => by
      iintro ⟨HA, HB, HC, HD⟩
      have ht : t.val < 80 := lt_of_lt_of_eq t.isLt trips4
      have hw : ∀ x : S16.Idx, ((broadcast S16 (Scf.iv 0#32 1#32 t) : IVec S16 32) x).toNat = t.val := fun x => iv_toNat t (le_of_eq trips4 |>.trans (by decide))
      unfold k0_t4_body
      have q5 : k0_chk5 lanes (broadcast S16 (Scf.iv 0#32 1#32 t)) := by
        have : ∀ a x, ((![lanes, broadcast S16 (Scf.iv 0#32 1#32 t)] : Fin 2 → IVec S16 32) a x).toNat < S16x80.size a := fun a x => by
          match a with
          | ⟨0, _⟩ => exact lt_of_eq_of_lt (lanes_val x) (x 0).isLt
          | ⟨1, _⟩ => exact lt_of_eq_of_lt (hw x) ht
        exact ⟨this, this⟩
      iapply (wp_assume 𝒱 (thr d i) bd Set.univ q5)
      iapply (wp_gload 𝒱 (thr d i) bd (off5 t)) $$ HA
      iintro HA
      iapply (wp_hstoreIdx 𝒱 (thr d i) bd (Ψ := fun g => ∀ j, (j 1).val < t.val + 1 → g j = (H1 (j 1).val (j 0).val : Elt F .i32)) (fun g hg => turn_step H1 t.val _ hw (k0_pay4 (F := F) fun x => H1 t.val (0 + (x 1).val)) (fun k => by unfold k0_pay4; rw [cast_flat]; exact congrArg (H1 t.val) (Nat.zero_add _)) _ g hg)) $$ HC
      iintro HC
      iapply (wp_gload 𝒱 (thr d i) bd (off6 t)) $$ HB
      iintro HB
      iapply (wp_hstoreIdx 𝒱 (thr d i) bd (Ψ := fun g => ∀ j, (j 1).val < t.val + 1 → g j = (H2 (j 1).val (j 0).val : Elt F .i32)) (fun g hg => turn_step H2 t.val _ hw (k0_pay5 (F := F) fun x => H2 t.val (0 + (x 1).val)) (fun k => by unfold k0_pay5; rw [cast_flat]; exact congrArg (H2 t.val) (Nat.zero_add _)) _ g hg)) $$ HD
      iintro HD
      rw [wp_pure]
      iframe HA HB HC HD)) $$ [HA HB HC HD]
  · iframe HA HB
    isplitl [HC]
    · iapply (Holds.mono (thr d i) A13 (Φ := fun _ => True) fun g _ j hj => absurd hj (Nat.not_lt_zero _)) $$ HC
    · iapply (Holds.mono (thr d i) A14 (Φ := fun _ => True) fun g _ j hj => absurd hj (Nat.not_lt_zero _)) $$ HD
  iintro %v ⟨HA, HB, HC, HD⟩
  iapply Hk
  iframe HA HB
  isplitl [HC]
  · iapply (Holds.mono (thr d i) A13 fun g hg j => hg j (lt_of_lt_of_eq (j 1).isLt trips4.symm)) $$ HC
  · iapply (Holds.mono (thr d i) A14 fun g hg j => hg j (lt_of_lt_of_eq (j 1).isLt trips4.symm)) $$ HD

/-- A task's part of the lanes' counts. -/
abbrev lanePart (A5 : Memref sig .scVector .hbm S32x80x16 .i32) (i : grid0.Coords) : Memref sig .scVector .hbm S80x16 .i32 :=
  (A5.slice (Rect.unit (s := S32x80x16) (k0_off7 i) S1x80x16.size (k0_off7_inb i)) (fun _ => rfl)).squeeze S80x16 squeezes_S1x80x16_S80x16

/-- A task's part of the sums. -/
abbrev sumPart (A6 : Memref sig .scVector .hbm S32x80 .i32) (i : grid0.Coords) : Memref sig .scVector .hbm S80 .i32 :=
  (A6.slice (Rect.unit (s := S32x80) (k0_off8 i) S1x80.size (k0_off8_inb i)) (fun _ => rfl)).squeeze S80 squeezes_S1x80_S80

/-- A task's counts of edges, by lane. -/
abbrev edgeTally (w : ℕ) : ℕ → ℕ → BitVec 32 := tally (edgeKey iT nT (25088 * w)) 1568

/-- A task's counts of bodies, by lane. -/
abbrev nodeTally (w : ℕ) : ℕ → ℕ → BitVec 32 := tally (nodeKey nT (1568 * w)) 98

variable (ι : Ix) (O : CellTallies nD τ sig Ix) (W : Waits sig Ix)
variable (q2 q3 : PosShare TreeShare) (f2 : Buf (Elt F) (A2.view.loc (thr d i))) (f3 : Buf (Elt F) (A3.view.loc (thr d i)))
variable (S4 : Finset (Idx (A4.view.loc (thr d i)))) (S5 : Finset (Idx (A5.view.loc (thr d i)))) (S6 : Finset (Idx (A6.view.loc (thr d i)))) (S7 : Finset (Idx (A7.view.loc (thr d i))))

set_option maxHeartbeats 4000000 in
set_option maxRecDepth 65536 in
/-- The task. -/
theorem tile_run [EC.LandsIn (upEmb : UEmb _ 𝕄)] (hi : ∀ j, (iT j).toNat < 50176) (hn : ∀ j, (nT j).toNat < 80)
    (hS4 : (A4.view.slice (Rect.unit (s := S802816) (k0_off3 i) S25088.size (k0_off3_inb i))).set ⊆ S4) (hS5 : (lanePart A5 i).view.set ⊆ S5)
    (hS6 : (sumPart A6 i).view.set ⊆ S6) (hS7 : (sumPart A7 i).view.set ⊆ S7) {Q : PUnit → sProp 𝕄} :
    iprop(Transfers.MayWaits (thr d i) ι O ∗ Rows.Table (thr d i) A2 q2 f2 (fun j => (iT j : Elt F .i32)) ∗ Rows.Table (thr d i) A3 q3 f3 (fun j => (nT j : Elt F .i32))
        ∗ (∃ f : Buf (Elt F) (A4.view.loc (thr d i)), A4.view.loc (thr d i) ↦[S4]{fullShare} f) ∗ (∃ f : Buf (Elt F) (A5.view.loc (thr d i)), A5.view.loc (thr d i) ↦[S5]{fullShare} f)
        ∗ (∃ f : Buf (Elt F) (A6.view.loc (thr d i)), A6.view.loc (thr d i) ↦[S6]{fullShare} f) ∗ (∃ f : Buf (Elt F) (A7.view.loc (thr d i)), A7.view.loc (thr d i) ↦[S7]{fullShare} f)
        ∗ Holds (thr d i) A8 (fun _ => True) ∗ Holds (thr d i) A9 (fun _ => True) ∗ Holds (thr d i) A10 (fun _ => True) ∗ Holds (thr d i) A11 (fun _ => True)
        ∗ Holds (thr d i) A12 (fun _ => True) ∗ Holds (thr d i) A13 (fun _ => True) ∗ Holds (thr d i) A14 (fun _ => True) ∗ Holds (thr d i) A15 (fun _ => True) ∗ Holds (thr d i) A16 (fun _ => True)
        ∗ semVal (thr d i, SemLoc.dma r0.sem) 0 ∗ semVal (thr d i, SemLoc.dma r1.sem) 0 ∗ semVal (thr d i, SemLoc.dma r2.sem) 0
        ∗ semVal (thr d i, SemLoc.dma r3.sem) 0 ∗ semVal (thr d i, SemLoc.dma r4.sem) 0 ∗ semVal (thr d i, SemLoc.dma r5.sem) 0 ∗ Owing (thr d i) ι O W)
      ⊢ (iprop((Rows.Table (thr d i) A2 q2 f2 (fun j => (iT j : Elt F .i32)) ∗ Rows.Table (thr d i) A3 q3 f3 (fun j => (nT j : Elt F .i32))
          ∗ Spanned (thr d i) A4 S4 (fun j => (nT (iT j).toNat : Elt F .i32)) (25088 * at_ i) (25088 * at_ i + 25088)
          ∗ (∃ f : Buf (Elt F) (A5.view.loc (thr d i)), ⌜Reads (edgeTally iT nT (at_ i)) ((lanePart A5 i).view.read (Elt F) f)⌝ ∗ (A5.view.loc (thr d i) ↦[S5]{fullShare} f))
          ∗ (∃ f : Buf (Elt F) (A6.view.loc (thr d i)), ⌜∀ j, (j 0).val < 80 → (sumPart A6 i).view.read (Elt F) f j = (tot (edgeTally iT nT (at_ i)) (j 0).val : Elt F .i32)⌝ ∗ (A6.view.loc (thr d i) ↦[S6]{fullShare} f))
          ∗ (∃ f : Buf (Elt F) (A7.view.loc (thr d i)), ⌜∀ j, (j 0).val < 80 → (sumPart A7 i).view.read (Elt F) f j = (tot (nodeTally nT (at_ i)) (j 0).val : Elt F .i32)⌝ ∗ (A7.view.loc (thr d i) ↦[S7]{fullShare} f))
          ∗ Holds (thr d i) A8 (fun _ => True) ∗ Holds (thr d i) A9 (fun _ => True) ∗ Holds (thr d i) A10 (fun _ => True) ∗ Holds (thr d i) A11 (fun _ => True)
          ∗ Holds (thr d i) A12 (fun _ => True) ∗ Holds (thr d i) A13 (fun _ => True) ∗ Holds (thr d i) A14 (fun _ => True) ∗ Holds (thr d i) A15 (fun _ => True) ∗ Holds (thr d i) A16 (fun _ => True)
          ∗ semVal (thr d i, SemLoc.dma r0.sem) 0 ∗ semVal (thr d i, SemLoc.dma r1.sem) 0 ∗ semVal (thr d i, SemLoc.dma r2.sem) 0
          ∗ semVal (thr d i, SemLoc.dma r3.sem) 0 ∗ semVal (thr d i, SemLoc.dma r4.sem) 0 ∗ semVal (thr d i, SemLoc.dma r5.sem) 0 ∗ Owing (thr d i) ι O W
          -∗ Q ⟨⟩)
        -∗ wp frame (wpE defs 𝒱 (thr d i) bd) Set.univ
          (cc0__pass_a i A2 h2 A3 h3 A4 h4 A5 h5 A6 h6 A7 h7 A8 h8 A9 h9 A10 h10 A11 h11 A12 h12 A13 h13 A14 h14 A15 h15 A16 h16 r0 r1 r2 r3 r4 r5) Q) : sProp 𝕄) := by
  iintro ⟨#Hmw, HT2, HT3, ⟨%f4, H4⟩, H5, H6, H7, HN, HI, HE, HA, HB, HC, HD, HX, HY, S0, S1, S2, S3, S4, S5, HO⟩ Hk
  ihave HN := (Holds.mono (thr d i) A8 (Ψ := fun g => ∀ j, (j 0).val < 0 → g j = (nT (j 0).val : Elt F .i32)) fun g _ j hj => absurd hj (Nat.not_lt_zero _)) $$ HN
  ihave HI := (Holds.mono (thr d i) A9 (Ψ := fun g => ∀ j, (j 0).val < 0 → g j = (iT (25088 * at_ i + (j 0).val) : Elt F .i32)) fun g _ j hj => absurd hj (Nat.not_lt_zero _)) $$ HI
  ihave HE := (Holds.mono (thr d i) A10 (Ψ := fun g => ∀ j, (j 0).val < 0 → g j = (nT (iT (25088 * at_ i + (j 0).val)).toNat : Elt F .i32)) fun g _ j hj => absurd hj (Nat.not_lt_zero _)) $$ HE
  ihave HX := (Holds.mono (thr d i) A15 (Ψ := fun g => ∀ j, (j 0).val < 0 → g j = (tot (edgeTally iT nT (at_ i)) (j 0).val : Elt F .i32)) fun g _ j hj => absurd hj (Nat.not_lt_zero _)) $$ HX
  ihave HY := (Holds.mono (thr d i) A16 (Ψ := fun g => ∀ j, (j 0).val < 0 → g j = (tot (nodeTally nT (at_ i)) (j 0).val : Elt F .i32)) fun g _ j hj => absurd hj (Nat.not_lt_zero _)) $$ HY
  ihave HN := (Entails.of_eq (Holds.filled (thr d i) A8 (fun j => (nT j : Elt F .i32)) 0).symm) $$ HN
  ihave HI := (Entails.of_eq (Holds.filled (thr d i) A9 (fun j => (iT (25088 * at_ i + j) : Elt F .i32)) 0).symm) $$ HI
  ihave HE := (Entails.of_eq (Holds.filled (thr d i) A10 (fun j => (nT (iT (25088 * at_ i + j)).toNat : Elt F .i32)) 0).symm) $$ HE
  ihave HX := (Entails.of_eq (Holds.filled (thr d i) A15 (fun j => (tot (edgeTally iT nT (at_ i)) j : Elt F .i32)) 0).symm) $$ HX
  ihave HY := (Entails.of_eq (Holds.filled (thr d i) A16 (fun j => (tot (nodeTally nT (at_ i)) j : Elt F .i32)) 0).symm) $$ HY
  simp only [cc0__pass_a_eq_skeleton, cc0__pass_a_skel, k0_part1_eq_skeleton, k0_part1_skel, bind_assoc, pure_bind]
  iapply (wp_copyAll EC 𝒱 (thr d i) bd (by decide) ι) $$ [HT3 HN S0 HO]
  · iframe HT3 HN S0 HO Hmw
  iintro ⟨HT3, HN, S0, HO⟩
  iapply (wp_copyIn EC 𝒱 (thr d i) bd (off1 i) rfl (by decide) ι (G := fun j => (iT (25088 * at_ i + j) : Elt F .i32)) (fun j _ => rfl)) $$ [HT2 HI S1 HO]
  · iframe HT2 HI S1 HO Hmw
  iintro ⟨HT2, HI, S1, HO⟩
  iapply (clear 𝒱 d i bd A2 A3 A4 A5 A6 A7 A8 A9 A10 A11 A12 A13 A14 A15 A16 h2 h3 h4 h5 h6 h7 h8 h9 h10 h11 h12 h13 h14 h15 h16 r0 r1 r2 r3 r4 r5) $$ [HA HB]
  · iframe HA HB
  iintro %_ ⟨HA, HB⟩
  iapply (edges 𝒱 d i bd A2 A3 A4 A5 A6 A7 A8 A9 A10 A11 A12 A13 A14 A15 A16 h2 h3 h4 h5 h6 h7 h8 h9 h10 h11 h12 h13 h14 h15 h16 r0 r1 r2 r3 r4 r5 iT nT hi hn (25088 * at_ i)) $$ [HN HI HE HA]
  · iframe HN HI HE HA
  iintro %_ ⟨HN, HI, HE, HA⟩
  iapply (wp_copyOut EC 𝒱 (thr d i) bd (off3 i) rfl (by decide) hS4 (lo := 25088 * at_ i) (T := fun j => (nT (iT j).toNat : Elt F .i32)) ι (fun j _ => rfl)) $$ [HE H4 S2 HO]
  · isplitl [HE]; · iexact HE
    isplitl [H4]
    · unfold Spanned
      iexists f4
      isplitr
      · ipureintro; exact fun j h1 h2 => absurd h2 (Nat.not_lt.mpr h1)
      · iexact H4
    iframe S2 HO Hmw
  iintro ⟨HE, H4, S2, HO⟩
  iapply (nodes 𝒱 d i bd A2 A3 A4 A5 A6 A7 A8 A9 A10 A11 A12 A13 A14 A15 A16 h2 h3 h4 h5 h6 h7 h8 h9 h10 h11 h12 h13 h14 h15 h16 r0 r1 r2 r3 r4 r5 nT hn) $$ [HN HB]
  · iframe HN HB
  iintro %_ ⟨HN, HB⟩
  iapply (turn 𝒱 d i bd A2 A3 A4 A5 A6 A7 A8 A9 A10 A11 A12 A13 A14 A15 A16 h2 h3 h4 h5 h6 h7 h8 h9 h10 h11 h12 h13 h14 h15 h16 r0 r1 r2 r3 r4 r5 (edgeTally iT nT (at_ i)) (nodeTally nT (at_ i))) $$ [HA HB HC HD]
  · iframe HA HB HC HD
  iintro %_ ⟨HA, HB, HC, HD⟩
  simp only [k0_part2_eq_skeleton, k0_part2_skel, bind_assoc, pure_bind]
  iterate 5
    iapply (wp_gload 𝒱 (thr d i) bd rfl) $$ HC; iintro HC
    iapply (wp_gload 𝒱 (thr d i) bd rfl) $$ HD; iintro HD
  simp only [k0_part3_eq_skeleton, k0_part3_skel, bind_assoc, pure_bind]
  iterate 5
    iapply (wp_gload 𝒱 (thr d i) bd rfl) $$ HC; iintro HC
    iapply (wp_gload 𝒱 (thr d i) bd rfl) $$ HD; iintro HD
  simp only [k0_part4_eq_skeleton, k0_part4_skel, bind_assoc, pure_bind]
  iterate 5
    iapply (wp_gload 𝒱 (thr d i) bd rfl) $$ HC; iintro HC
    iapply (wp_gload 𝒱 (thr d i) bd rfl) $$ HD; iintro HD
  simp only [k0_part5_eq_skeleton, k0_part5_skel, bind_assoc, pure_bind]
  iapply (wp_gload 𝒱 (thr d i) bd rfl) $$ HC; iintro HC
  iapply (wp_gload 𝒱 (thr d i) bd rfl) $$ HD; iintro HD
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HX; iintro HX
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HY; iintro HY
  iterate 3
    iapply (wp_gload 𝒱 (thr d i) bd rfl) $$ HC; iintro HC
    iapply (wp_gload 𝒱 (thr d i) bd rfl) $$ HD; iintro HD
  simp only [k0_part6_eq_skeleton, k0_part6_skel, bind_assoc, pure_bind]
  iterate 5
    iapply (wp_gload 𝒱 (thr d i) bd rfl) $$ HC; iintro HC
    iapply (wp_gload 𝒱 (thr d i) bd rfl) $$ HD; iintro HD
  simp only [k0_part7_eq_skeleton, k0_part7_skel, bind_assoc, pure_bind]
  iterate 5
    iapply (wp_gload 𝒱 (thr d i) bd rfl) $$ HC; iintro HC
    iapply (wp_gload 𝒱 (thr d i) bd rfl) $$ HD; iintro HD
  simp only [k0_part8_eq_skeleton, k0_part8_skel, bind_assoc, pure_bind]
  iterate 3
    iapply (wp_gload 𝒱 (thr d i) bd rfl) $$ HC; iintro HC
    iapply (wp_gload 𝒱 (thr d i) bd rfl) $$ HD; iintro HD
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HX; iintro HX
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HY; iintro HY
  iapply (wp_gload 𝒱 (thr d i) bd rfl) $$ HC; iintro HC
  iapply (wp_gload 𝒱 (thr d i) bd rfl) $$ HD; iintro HD
  iapply (wp_gload 𝒱 (thr d i) bd rfl) $$ HC; iintro HC
  simp only [k0_part9_eq_skeleton, k0_part9_skel, bind_assoc, pure_bind]
  iterate 5
    iapply (wp_gload 𝒱 (thr d i) bd rfl) $$ HD; iintro HD
    iapply (wp_gload 𝒱 (thr d i) bd rfl) $$ HC; iintro HC
  simp only [k0_part10_eq_skeleton, k0_part10_skel, bind_assoc, pure_bind]
  iterate 5
    iapply (wp_gload 𝒱 (thr d i) bd rfl) $$ HD; iintro HD
    iapply (wp_gload 𝒱 (thr d i) bd rfl) $$ HC; iintro HC
  simp only [k0_part11_eq_skeleton, k0_part11_skel, bind_assoc, pure_bind]
  iterate 4
    iapply (wp_gload 𝒱 (thr d i) bd rfl) $$ HD; iintro HD
    iapply (wp_gload 𝒱 (thr d i) bd rfl) $$ HC; iintro HC
  iapply (wp_gload 𝒱 (thr d i) bd rfl) $$ HD; iintro HD
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HX; iintro HX
  simp only [k0_part12_eq_skeleton, k0_part12_skel, bind_assoc, pure_bind]
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HY; iintro HY
  iterate 4
    iapply (wp_gload 𝒱 (thr d i) bd rfl) $$ HC; iintro HC
    iapply (wp_gload 𝒱 (thr d i) bd rfl) $$ HD; iintro HD
  iapply (wp_gload 𝒱 (thr d i) bd rfl) $$ HC; iintro HC
  simp only [k0_part13_eq_skeleton, k0_part13_skel, bind_assoc, pure_bind]
  iterate 5
    iapply (wp_gload 𝒱 (thr d i) bd rfl) $$ HD; iintro HD
    iapply (wp_gload 𝒱 (thr d i) bd rfl) $$ HC; iintro HC
  simp only [k0_part14_eq_skeleton, k0_part14_skel, bind_assoc, pure_bind]
  iterate 5
    iapply (wp_gload 𝒱 (thr d i) bd rfl) $$ HD; iintro HD
    iapply (wp_gload 𝒱 (thr d i) bd rfl) $$ HC; iintro HC
  simp only [k0_part15_eq_skeleton, k0_part15_skel, bind_assoc, pure_bind]
  iapply (wp_gload 𝒱 (thr d i) bd rfl) $$ HD; iintro HD
  iapply (wp_gload 𝒱 (thr d i) bd rfl) $$ HC; iintro HC
  iapply (wp_gload 𝒱 (thr d i) bd rfl) $$ HD; iintro HD
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HX; iintro HX
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HY; iintro HY
  iterate 2
    iapply (wp_gload 𝒱 (thr d i) bd rfl) $$ HC; iintro HC
    iapply (wp_gload 𝒱 (thr d i) bd rfl) $$ HD; iintro HD
  iapply (wp_gload 𝒱 (thr d i) bd rfl) $$ HC; iintro HC
  simp only [k0_part16_eq_skeleton, k0_part16_skel, bind_assoc, pure_bind]
  iterate 5
    iapply (wp_gload 𝒱 (thr d i) bd rfl) $$ HD; iintro HD
    iapply (wp_gload 𝒱 (thr d i) bd rfl) $$ HC; iintro HC
  simp only [k0_part17_eq_skeleton, k0_part17_skel, bind_assoc, pure_bind]
  iterate 5
    iapply (wp_gload 𝒱 (thr d i) bd rfl) $$ HD; iintro HD
    iapply (wp_gload 𝒱 (thr d i) bd rfl) $$ HC; iintro HC
  simp only [k0_part18_eq_skeleton, k0_part18_skel, bind_assoc, pure_bind]
  iterate 3
    iapply (wp_gload 𝒱 (thr d i) bd rfl) $$ HD; iintro HD
    iapply (wp_gload 𝒱 (thr d i) bd rfl) $$ HC; iintro HC
  iapply (wp_gload 𝒱 (thr d i) bd rfl) $$ HD; iintro HD
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HX; iintro HX
  iapply (wp_gstore 𝒱 (thr d i) bd rfl (fun x => by simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, addi, cast_flat]; rfl)) $$ HY; iintro HY
  ihave HX := (Entails.of_eq (Holds.filled (thr d i) A15 (fun j => (tot (edgeTally iT nT (at_ i)) j : Elt F .i32)) 80)) $$ HX
  ihave HY := (Entails.of_eq (Holds.filled (thr d i) A16 (fun j => (tot (nodeTally nT (at_ i)) j : Elt F .i32)) 80)) $$ HY
  iapply (wp_hcopyOut EC 𝒱 (thr d i) bd (B := lanePart A5 i) rfl (by decide) hS5 ι) $$ [HA H5 S3 HO]
  · iframe HA H5 S3 HO Hmw
  iintro ⟨HA, H5, S3, HO⟩
  iapply (wp_hcopyOut EC 𝒱 (thr d i) bd (B := sumPart A6 i) rfl (by decide) hS6 ι) $$ [HX H6 S4 HO]
  · iframe HX H6 S4 HO Hmw
  iintro ⟨HX, H6, S4, HO⟩
  rw [← bind_pure (Prog.lift (TpuEff.waitDma2 (nD := nD) (τ := τ) (Val := Elt F) _ _ _ _ _))]
  iapply (wp_hcopyOut EC 𝒱 (thr d i) bd (B := sumPart A7 i) rfl (by decide) hS7 ι) $$ [HY H7 S5 HO]
  · iframe HY H7 S5 HO Hmw
  iintro ⟨HY, H7, S5, HO⟩
  rw [wp_pure]
  imodintro
  iapply Hk
  ihave HN := (Entails.of_eq (Holds.filled (thr d i) A8 (fun j => (nT j : Elt F .i32)) 50176)) $$ HN
  ihave HI := (Entails.of_eq (Holds.filled (thr d i) A9 (fun j => (iT (25088 * at_ i + j) : Elt F .i32)) 25088)) $$ HI
  ihave HE := (Entails.of_eq (Holds.filled (thr d i) A10 (fun j => (nT (iT (25088 * at_ i + j)).toNat : Elt F .i32)) 25088)) $$ HE
  ihave HN := (Holds.mono (thr d i) A8 (Ψ := fun _ => True) fun _ _ => trivial) $$ HN
  ihave HI := (Holds.mono (thr d i) A9 (Ψ := fun _ => True) fun _ _ => trivial) $$ HI
  ihave HE := (Holds.mono (thr d i) A10 (Ψ := fun _ => True) fun _ _ => trivial) $$ HE
  ihave HA := (Holds.mono (thr d i) A11 (Ψ := fun _ => True) fun _ _ => trivial) $$ HA
  ihave HB := (Holds.mono (thr d i) A12 (Ψ := fun _ => True) fun _ _ => trivial) $$ HB
  ihave HC := (Holds.mono (thr d i) A13 (Ψ := fun _ => True) fun _ _ => trivial) $$ HC
  ihave HD := (Holds.mono (thr d i) A14 (Ψ := fun _ => True) fun _ _ => trivial) $$ HD
  ihave HX := (Holds.mono (thr d i) A15 (Ψ := fun _ => True) fun _ _ => trivial) $$ HX
  ihave HY := (Holds.mono (thr d i) A16 (Ψ := fun _ => True) fun _ _ => trivial) $$ HY
  iframe HT2 HT3 H4 H5 H6 H7 HN HI HE HA HB HC HD HX HY S0 S1 S2 S3 S4 S5 HO

end Cert.Proof.Counting
-- ==== Proof.TallyCall.lean ====
/-
  The counting as a task: from the operands' shares, the task's parts of the results and a subcore's own buffers and
  counters, to the results' parts at their values and the rest back.
-/
module

public import proofs.«01_k».proof.Proof.TallyRun
public import proofs.«01_k».proof.Proof.Deal

@[expose] public section

noncomputable section

namespace Cert.Proof.Counting

open Cert.CountsIdeal Cert.CountsIdeal.Gen
open Idealize.ShloMosaic Idealize.ShloMosaic.ShareLeaves
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Rows

variable {F : FTy → Type} [FloatOps F]
variable {Ix : Type} [DecidableEq Ix] {Name : Type} [DecidableEq Name] [Infinite Name]
variable {U : Type} [URA U] {Lvl : Type} [Preorder Lvl]
variable {defs : Defs nD τ sig (Elt F) Λ₀} (EC : UEmb Counters (MT nD τ sig Ix (Elt F) Name U Lvl))
variable (𝒱 : Variants) (d : Dev nD) (L : grid0.Coords) (bd : Option 𝒱.V)

local notation "𝕄" => MT nD τ sig Ix (Elt F) Name U Lvl

/-- The task an element of a flat result falls to. -/
def p4 (j : S802816.Idx) : Fin 32 := ⟨(j 0).val / 25088, by have h : (j 0).val < 802816 := (j 0).isLt; omega⟩
/-- The task an element of the lanes' counts falls to. -/
def p5 (j : S32x80x16.Idx) : Fin 32 := j 0
/-- The task a sum falls to. -/
def p6 (j : S32x80.Idx) : Fin 32 := j 0

/-- The elements that fall to some of the tasks. -/
def part {I : Type} [Fintype I] (g : I → Fin 32) (A : Finset (Fin 32)) : Finset I := Finset.univ.filter fun j => g j ∈ A

/-- The task alone. -/
def mine : Finset (Fin 32) := {⟨at_ L, at_lt L⟩}

theorem mem_mine {I : Type} [Fintype I] {g : I → Fin 32} {j : I} : j ∈ part g (mine L) ↔ (g j).val = at_ L := by
  simp only [part, mine, Finset.mem_filter, Finset.mem_univ, true_and, Finset.mem_singleton, Fin.ext_iff]

/-- Each edge's body's graph. -/
def looked (f2 : S802816.Idx → BitVec 32) (f3 : S50176.Idx → BitVec 32) : S802816.Idx → BitVec 32 :=
  fun j => ofFlat (n := 50176) (0 : BitVec 32) f3 (f2 j).toNat
/-- Each task's counts of edges by graph and lane. -/
def laneCounts (f2 : S802816.Idx → BitVec 32) (f3 : S50176.Idx → BitVec 32) : S32x80x16.Idx → BitVec 32 :=
  fun j => edgeTally (ofFlat (n := 802816) (0 : BitVec 32) f2) (ofFlat (n := 50176) (0 : BitVec 32) f3) (j 0).val (j 1).val (j 2).val
/-- Each task's counts of edges by graph. -/
def edgeCounts (f2 : S802816.Idx → BitVec 32) (f3 : S50176.Idx → BitVec 32) : S32x80.Idx → BitVec 32 :=
  fun j => tot (edgeTally (ofFlat (n := 802816) (0 : BitVec 32) f2) (ofFlat (n := 50176) (0 : BitVec 32) f3) (j 0).val) (j 1).val
/-- Each task's counts of bodies by graph. -/
def nodeCounts (f3 : S50176.Idx → BitVec 32) : S32x80.Idx → BitVec 32 :=
  fun j => tot (nodeTally (ofFlat (n := 50176) (0 : BitVec 32) f3) (j 0).val) (j 1).val

variable (q : PosShare TreeShare) (f2 : S802816.Idx → BitVec 32) (f3 : S50176.Idx → BitVec 32)

/-- The operands, a share of each. -/
def Ops : sProp 𝕄 :=
  iprop(((thr d L).loc main_arg0_scv ↦{q} (f2 : Buf (Elt F) ((thr d L).loc main_arg0_scv))) ∗ ((thr d L).loc main_arg1_scv ↦{q} (f3 : Buf (Elt F) ((thr d L).loc main_arg1_scv))))

/-- The task's parts of the results, whatever they hold. -/
def ResAny : sProp 𝕄 :=
  iprop((∃ f : Buf (Elt F) ((thr d L).loc main_v0_0_scv), (thr d L).loc main_v0_0_scv ↦[part p4 (mine L)]{fullShare} f)
    ∗ (∃ f : Buf (Elt F) ((thr d L).loc main_v0_1_scv), (thr d L).loc main_v0_1_scv ↦[part p5 (mine L)]{fullShare} f)
    ∗ (∃ f : Buf (Elt F) ((thr d L).loc main_v0_2_scv), (thr d L).loc main_v0_2_scv ↦[part p6 (mine L)]{fullShare} f)
    ∗ (∃ f : Buf (Elt F) ((thr d L).loc main_v0_3_scv), (thr d L).loc main_v0_3_scv ↦[part p6 (mine L)]{fullShare} f))

/-- The task's parts of the results at their values. -/
def ResAt : sProp 𝕄 :=
  iprop(((thr d L).loc main_v0_0_scv ↦[part p4 (mine L)]{fullShare} (looked f2 f3 : Buf (Elt F) ((thr d L).loc main_v0_0_scv)))
    ∗ ((thr d L).loc main_v0_1_scv ↦[part p5 (mine L)]{fullShare} (laneCounts f2 f3 : Buf (Elt F) ((thr d L).loc main_v0_1_scv)))
    ∗ ((thr d L).loc main_v0_2_scv ↦[part p6 (mine L)]{fullShare} (edgeCounts f2 f3 : Buf (Elt F) ((thr d L).loc main_v0_2_scv)))
    ∗ ((thr d L).loc main_v0_3_scv ↦[part p6 (mine L)]{fullShare} (nodeCounts f3 : Buf (Elt F) ((thr d L).loc main_v0_3_scv))))

/-- The subcore's buffers the task names. -/
def names : List (Ref sig .scVector) := [cc0_scratch0, cc0_scratch1, cc0_scratch2, cc0_scratch3, cc0_scratch4, cc0_scratch5, cc0_scratch6, cc0_scratch7, cc0_scratch8]

theorem names_nodup : names.Nodup := by decide

/-- The subcore's counters the task names. -/
def cellOf : Fin 6 → DmaSem sig := ![cc0_scoped0.sem, cc0_scoped1.sem, cc0_scoped2.sem, cc0_scoped3.sem, cc0_scoped4.sem, cc0_scoped5.sem]

theorem cellOf_injective : Function.Injective cellOf := by decide +kernel

theorem cellOf_scoped : ∀ x, (SemLoc.dma (cellOf x) : SemLoc sig).isScoped .scVector = true := by decide +kernel

omit [FloatOps F] [Infinite Name] in
/-- A subcore's own counters at zero: those the task names, and the rest. -/
theorem own_sems : (ownSems0 (thr d L) : sProp 𝕄)
    = iprop((semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ semVal (thr d L, SemLoc.dma cc0_scoped4.sem) 0 ∗ semVal (thr d L, SemLoc.dma cc0_scoped5.sem) 0)
      ∗ bigSep (ownCells (thr d L) \ Finset.univ.image fun x => (thr d L, SemLoc.dma (cellOf x))) fun g => semVal g 0) := by
  unfold SparseCore.Cfg.ownSems0
  rw [bigSep_named (fun g => (semVal g 0 : sProp 𝕄)) (ownCells (thr d L)) (fun x => (thr d L, SemLoc.dma (cellOf x)))
    (fun a b h => cellOf_injective (SemLoc.dma.inj (Prod.mk.inj h).2))
    (fun x => mem_ownCells.mpr ⟨rfl, cellOf_scoped x⟩),
    show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

omit [FloatOps F] [Infinite Name] in
/-- A subcore's own buffers: those the task names, and the rest. -/
theorem own_bufs : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f)
      ∗ (∃ f, (thr d L).loc cc0_scratch3 ↦{fullShare} f) ∗ (∃ f, (thr d L).loc cc0_scratch4 ↦{fullShare} f) ∗ (∃ f, (thr d L).loc cc0_scratch5 ↦{fullShare} f)
      ∗ (∃ f, (thr d L).loc cc0_scratch6 ↦{fullShare} f) ∗ (∃ f, (thr d L).loc cc0_scratch7 ↦{fullShare} f) ∗ (∃ f, (thr d L).loc cc0_scratch8 ↦{fullShare} f)
      ∗ bigSep (ownRefs (τ := τ) (thr d L).2 \ (names.map (thr d L).2.devRef).toFinset)
          fun b => iprop(∃ f, ((d, b) : Loc nD τ sig) ↦{fullShare} f)) := by
  unfold SparseCore.Cfg.ownBufs
  rw [bigSep_list _ (names.map (thr d L).2.devRef) _ (List.Nodup.map (Proc.devRef_injective _) names_nodup) (fun b hb => by
    obtain ⟨r, hr, rfl⟩ := List.mem_map.mp hb
    refine SparseCore.Cfg.mem_ownRefs_of_owner (p := (thr d L).2) ?_
    simp only [names, List.mem_cons, List.not_mem_nil, _root_.or_false] at hr
    rcases hr with rfl | rfl | rfl | rfl | rfl | rfl | rfl | rfl | rfl <;> rfl)]
  rfl

omit [FloatOps F] [Infinite Name] in
theorem holds_some (b : Ref sig (thr d L).2.kind) :
    (iprop(∃ f : Buf (Elt F) ((thr d L).loc b), (thr d L).loc b ↦{fullShare} f) : sProp 𝕄) ⊢ Holds (thr d L) (Memref.whole b) (fun _ => True) := by
  unfold Holds
  iintro ⟨%f, H⟩
  iexists f
  isplitr
  · ipureintro; trivial
  · iapply (Entails.of_eq (whole_pts (F := F) (thr d L) b fullShare f).symm) $$ H

omit [FloatOps F] [Infinite Name] in
theorem some_holds (b : Ref sig (thr d L).2.kind) :
    (Holds (thr d L) (Memref.whole b) (fun _ => True) : sProp 𝕄) ⊢ iprop(∃ f : Buf (Elt F) ((thr d L).loc b), (thr d L).loc b ↦{fullShare} f) := by
  unfold Holds
  iintro ⟨%f, -, H⟩
  iexists f
  iapply (Entails.of_eq (whole_pts (F := F) (thr d L) b fullShare f)) $$ H

omit [FloatOps F] [Infinite Name] in
/-- The task's part of the looked-up graphs is a window. -/
theorem part4 : ((Memref.whole main_v0_0_scv).view.slice (Rect.unit (s := S802816) (k0_off3 L) S25088.size (k0_off3_inb L))).set ⊆ part p4 (mine L) := by
  intro x hx
  obtain ⟨y, -, rfl⟩ := Finset.mem_map.mp hx
  refine (mem_mine L).mpr ?_
  show ((Rect.unit (s := S802816) (k0_off3 L) S25088.size (k0_off3_inb L)).emb y 0).val / 25088 = _
  rw [Rect.emb_apply]
  have e : (k0_off3 L) 0 = 25088 * at_ L := by rw [off3]; rfl
  have hy : (y 0).val < 25088 := (y 0).isLt
  show ((k0_off3 L) 0 + 1 * (y 0).val) / 25088 = _
  rw [e]
  omega

/-- An element of the lanes' counts. -/
def ix3 (w : Fin 32) (y : S80x16.Idx) : S32x80x16.Idx := fun a => match a with | ⟨0, _⟩ => w | ⟨1, _⟩ => y 0 | ⟨2, _⟩ => y 1

/-- An element of the sums. -/
def ix2 (w : Fin 32) (y : S80.Idx) : S32x80.Idx := fun a => match a with | ⟨0, _⟩ => w | ⟨1, _⟩ => y 0

theorem lane_emb (A : Memref sig .scVector .hbm S32x80x16 .i32) (y : S80x16.Idx) : (lanePart A L).view.emb y = A.view.emb (ix3 ⟨at_ L, at_lt L⟩ y) := by
  show A.view.emb ((Rect.unit (s := S32x80x16) (k0_off7 L) S1x80x16.size (k0_off7_inb L)).emb (Shape.reshapeEquiv squeezes_S1x80x16_S80x16.numel_eq y)) = _
  congr 1
  rw [Shape.reshapeEquiv_cons_one]
  funext a
  refine Fin.ext ?_
  rw [Rect.emb_apply]
  show k0_off7 L a + 1 * _ = _
  rw [congrFun (off7 L) a]
  match a with
  | ⟨0, _⟩ => show at_ L + 1 * 0 = at_ L; omega
  | ⟨1, _⟩ => show 0 + 1 * (y 0).val = (y 0).val; omega
  | ⟨2, _⟩ => show 0 + 1 * (y 1).val = (y 1).val; omega

theorem sum_emb (A : Memref sig .scVector .hbm S32x80 .i32) (y : S80.Idx) : (sumPart A L).view.emb y = A.view.emb (ix2 ⟨at_ L, at_lt L⟩ y) := by
  show A.view.emb ((Rect.unit (s := S32x80) (k0_off8 L) S1x80.size (k0_off8_inb L)).emb (Shape.reshapeEquiv squeezes_S1x80_S80.numel_eq y)) = _
  congr 1
  rw [Shape.reshapeEquiv_cons_one]
  funext a
  refine Fin.ext ?_
  rw [Rect.emb_apply]
  show k0_off8 L a + 1 * _ = _
  rw [congrFun (off8 L) a]
  match a with
  | ⟨0, _⟩ => show at_ L + 1 * 0 = at_ L; omega
  | ⟨1, _⟩ => show 0 + 1 * (y 0).val = (y 0).val; omega

theorem part5 : (lanePart (Memref.whole main_v0_1_scv) L).view.set ⊆ part p5 (mine L) := by
  intro x hx
  obtain ⟨y, -, rfl⟩ := Finset.mem_map.mp hx
  rw [lane_emb]
  exact (mem_mine L).mpr rfl

theorem part6 : (sumPart (Memref.whole main_v0_2_scv) L).view.set ⊆ part p6 (mine L) := by
  intro x hx
  obtain ⟨y, -, rfl⟩ := Finset.mem_map.mp hx
  rw [sum_emb]
  exact (mem_mine L).mpr rfl

theorem part7 : (sumPart (Memref.whole main_v0_3_scv) L).view.set ⊆ part p6 (mine L) := by
  intro x hx
  obtain ⟨y, -, rfl⟩ := Finset.mem_map.mp hx
  rw [sum_emb]
  exact (mem_mine L).mpr rfl

theorem ix3_eq (j : S32x80x16.Idx) (h : (p5 j).val = at_ L) : ix3 ⟨at_ L, at_lt L⟩ (fun a => match a with | ⟨0, _⟩ => j 1 | ⟨1, _⟩ => j 2) = j := by
  funext a
  match a with
  | ⟨0, _⟩ => exact Fin.ext h.symm
  | ⟨1, _⟩ => rfl
  | ⟨2, _⟩ => rfl

theorem ix2_eq (j : S32x80.Idx) (h : (p6 j).val = at_ L) : ix2 ⟨at_ L, at_lt L⟩ (fun a => match a with | ⟨0, _⟩ => j 1) = j := by
  funext a
  match a with
  | ⟨0, _⟩ => exact Fin.ext h.symm
  | ⟨1, _⟩ => rfl

omit [FloatOps F] [Infinite Name] in
theorem done4 (hf : ∀ j : S802816.Idx, ofFlat (n := 802816) (0 : BitVec 32) f2 (j 0).val = f2 j) :
    (Spanned (thr d L) (Memref.whole main_v0_0_scv) (part p4 (mine L)) (fun j => (ofFlat (n := 50176) (0 : BitVec 32) f3 (ofFlat (n := 802816) (0 : BitVec 32) f2 j).toNat : Elt F .i32)) (25088 * at_ L) (25088 * at_ L + 25088) : sProp 𝕄)
      ⊢ iprop((thr d L).loc main_v0_0_scv ↦[part p4 (mine L)]{fullShare} (looked f2 f3 : Buf (Elt F) ((thr d L).loc main_v0_0_scv))) := by
  unfold Spanned
  iintro ⟨%f, %h, H⟩
  have e : ∀ j ∈ part p4 (mine L), (f : S802816.Idx → BitVec 32) j = looked f2 f3 j := by
    intro j hj
    have hj : (j 0).val / 25088 = at_ L := (mem_mine L).mp hj
    refine (h j (by omega) (by omega)).trans ?_
    show ofFlat (n := 50176) (0 : BitVec 32) f3 (ofFlat (n := 802816) (0 : BitVec 32) f2 (j 0).val).toNat = _
    rw [hf j]
    rfl
  iapply (Entails.of_eq (pointsTo_congr e)) $$ H

omit [FloatOps F] [Infinite Name] in
theorem done5 : (iprop(∃ f : Buf (Elt F) ((Memref.whole main_v0_1_scv).view.loc (thr d L)), ⌜Reads (edgeTally (ofFlat (n := 802816) (0 : BitVec 32) f2) (ofFlat (n := 50176) (0 : BitVec 32) f3) (at_ L)) ((lanePart (Memref.whole main_v0_1_scv) L).view.read (Elt F) f)⌝
      ∗ ((Memref.whole main_v0_1_scv).view.loc (thr d L) ↦[part p5 (mine L)]{fullShare} f)) : sProp 𝕄)
      ⊢ iprop((thr d L).loc main_v0_1_scv ↦[part p5 (mine L)]{fullShare} (laneCounts f2 f3 : Buf (Elt F) ((thr d L).loc main_v0_1_scv))) := by
  iintro ⟨%f, %h, H⟩
  have e : ∀ j ∈ part p5 (mine L), (f : S32x80x16.Idx → BitVec 32) j = laneCounts f2 f3 j := by
    intro j hj
    have hj : (p5 j).val = at_ L := (mem_mine L).mp hj
    have h1 := h (fun a => match a with | ⟨0, _⟩ => j 1 | ⟨1, _⟩ => j 2)
    have h2 : (lanePart (Memref.whole main_v0_1_scv) L).view.read (Elt F) f (fun a => match a with | ⟨0, _⟩ => j 1 | ⟨1, _⟩ => j 2) = (f : S32x80x16.Idx → BitVec 32) j :=
      congrArg (f : S32x80x16.Idx → BitVec 32) ((lane_emb L (Memref.whole main_v0_1_scv) _).trans (ix3_eq L j hj))
    refine h2.symm.trans (h1.trans ?_)
    show _ = edgeTally _ _ (p5 j).val (j 1).val (j 2).val
    rw [hj]
  iapply (Entails.of_eq (pointsTo_congr e)) $$ H

omit [FloatOps F] [Infinite Name] in
theorem done6 : (iprop(∃ f : Buf (Elt F) ((Memref.whole main_v0_2_scv).view.loc (thr d L)), ⌜∀ j, (j 0).val < 80 → (sumPart (Memref.whole main_v0_2_scv) L).view.read (Elt F) f j = (tot (edgeTally (ofFlat (n := 802816) (0 : BitVec 32) f2) (ofFlat (n := 50176) (0 : BitVec 32) f3) (at_ L)) (j 0).val : Elt F .i32)⌝
      ∗ ((Memref.whole main_v0_2_scv).view.loc (thr d L) ↦[part p6 (mine L)]{fullShare} f)) : sProp 𝕄)
      ⊢ iprop((thr d L).loc main_v0_2_scv ↦[part p6 (mine L)]{fullShare} (edgeCounts f2 f3 : Buf (Elt F) ((thr d L).loc main_v0_2_scv))) := by
  iintro ⟨%f, %h, H⟩
  have e : ∀ j ∈ part p6 (mine L), (f : S32x80.Idx → BitVec 32) j = edgeCounts f2 f3 j := by
    intro j hj
    have hj : (p6 j).val = at_ L := (mem_mine L).mp hj
    have h1 := h (fun a => match a with | ⟨0, _⟩ => j 1) (j 1).isLt
    have h2 : (sumPart (Memref.whole main_v0_2_scv) L).view.read (Elt F) f (fun a => match a with | ⟨0, _⟩ => j 1) = (f : S32x80.Idx → BitVec 32) j :=
      congrArg (f : S32x80.Idx → BitVec 32) ((sum_emb L (Memref.whole main_v0_2_scv) _).trans (ix2_eq L j hj))
    refine h2.symm.trans (h1.trans ?_)
    show _ = tot (edgeTally _ _ (p6 j).val) (j 1).val
    rw [hj]
  iapply (Entails.of_eq (pointsTo_congr e)) $$ H

omit [FloatOps F] [Infinite Name] in
theorem done7 : (iprop(∃ f : Buf (Elt F) ((Memref.whole main_v0_3_scv).view.loc (thr d L)), ⌜∀ j, (j 0).val < 80 → (sumPart (Memref.whole main_v0_3_scv) L).view.read (Elt F) f j = (tot (nodeTally (ofFlat (n := 50176) (0 : BitVec 32) f3) (at_ L)) (j 0).val : Elt F .i32)⌝
      ∗ ((Memref.whole main_v0_3_scv).view.loc (thr d L) ↦[part p6 (mine L)]{fullShare} f)) : sProp 𝕄)
      ⊢ iprop((thr d L).loc main_v0_3_scv ↦[part p6 (mine L)]{fullShare} (nodeCounts f3 : Buf (Elt F) ((thr d L).loc main_v0_3_scv))) := by
  iintro ⟨%f, %h, H⟩
  have e : ∀ j ∈ part p6 (mine L), (f : S32x80.Idx → BitVec 32) j = nodeCounts f3 j := by
    intro j hj
    have hj : (p6 j).val = at_ L := (mem_mine L).mp hj
    have h1 := h (fun a => match a with | ⟨0, _⟩ => j 1) (j 1).isLt
    have h2 : (sumPart (Memref.whole main_v0_3_scv) L).view.read (Elt F) f (fun a => match a with | ⟨0, _⟩ => j 1) = (f : S32x80.Idx → BitVec 32) j :=
      congrArg (f : S32x80.Idx → BitVec 32) ((sum_emb L (Memref.whole main_v0_3_scv) _).trans (ix2_eq L j hj))
    refine h2.symm.trans (h1.trans ?_)
    show _ = tot (nodeTally _ (p6 j).val) (j 1).val
    rw [hj]
  iapply (Entails.of_eq (pointsTo_congr e)) $$ H

variable (ι : Ix) (O : CellTallies nD τ sig Ix) (W : Waits sig Ix)

set_option maxHeartbeats 4000000 in
set_option maxRecDepth 65536 in
/-- The task: the operands' shares kept, the results' parts at their values. -/
theorem task [EC.LandsIn (upEmb : UEmb _ 𝕄)] (hi : ∀ j, (f2 j).toNat < 50176) (hn : ∀ j, (f3 j).toNat < 80) :
    iprop((Transfers.MayWaits (thr d L) ι O) ∗ (Ops (F := F) d L q f2 f3 ∗ ResAny (F := F) d L)
        ∗ ownBufs (thr d L) ∗ ownSems0 (thr d L) ∗ owes (thr d L) O W)
      ⊢ wp frame (wpE defs 𝒱 (thr d L) bd) Set.univ
          (cc0__pass_a L (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5)
          fun _ => (iprop((Ops (F := F) d L q f2 f3 ∗ ResAt (F := F) d L f2 f3)
            ∗ ownBufs (thr d L) ∗ ownSems0 (thr d L) ∗ ∃ W', ⌜∀ p ∈ W', p ∈ W ∨ p.2 = ι⌝ ∗ owes (thr d L) O W') : sProp 𝕄) := by
  have hi' : ∀ j, (ofFlat (n := 802816) (0 : BitVec 32) f2 j).toNat < 50176 := by
    intro j
    unfold ofFlat
    split
    · exact hi _
    · decide
  have hn' : ∀ j, (ofFlat (n := 50176) (0 : BitVec 32) f3 j).toNat < 80 := by
    intro j
    unfold ofFlat
    split
    · exact hn _
    · decide
  rw [own_sems, own_bufs]
  unfold Ops ResAny ResAt
  iintro ⟨#Hmw, ⟨⟨H2, H3⟩, H4, H5, H6, H7⟩, ⟨Hs0, Hs1, Hs2, Hs3, Hs4, Hs5, Hs6, Hs7, Hs8, Hbufs⟩, ⟨⟨S0, S1, S2, S3, S4, S5⟩, Hsems⟩, HO⟩
  ihave H2 := (Entails.of_eq (whole_pts (F := F) (thr d L) main_arg0_scv _ _).symm) $$ H2
  ihave H3 := (Entails.of_eq (whole_pts (F := F) (thr d L) main_arg1_scv _ _).symm) $$ H3
  ihave Hs0 := (holds_some d L cc0_scratch0) $$ Hs0
  ihave Hs1 := (holds_some d L cc0_scratch1) $$ Hs1
  ihave Hs2 := (holds_some d L cc0_scratch2) $$ Hs2
  ihave Hs3 := (holds_some d L cc0_scratch3) $$ Hs3
  ihave Hs4 := (holds_some d L cc0_scratch4) $$ Hs4
  ihave Hs5 := (holds_some d L cc0_scratch5) $$ Hs5
  ihave Hs6 := (holds_some d L cc0_scratch6) $$ Hs6
  ihave Hs7 := (holds_some d L cc0_scratch7) $$ Hs7
  ihave Hs8 := (holds_some d L cc0_scratch8) $$ Hs8
  iapply (tile_run (defs := defs) EC 𝒱 d L bd (Memref.whole main_arg0_scv) (Memref.whole main_arg1_scv) (Memref.whole main_v0_0_scv) (Memref.whole main_v0_1_scv) (Memref.whole main_v0_2_scv) (Memref.whole main_v0_3_scv) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)
    (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) cc0_scoped0 cc0_scoped1 cc0_scoped2 cc0_scoped3 cc0_scoped4 cc0_scoped5
    (ofFlat (n := 802816) (0 : BitVec 32) f2) (ofFlat (n := 50176) (0 : BitVec 32) f3) ι O W q q f2 f3
    (part p4 (mine L)) (part p5 (mine L)) (part p6 (mine L)) (part p6 (mine L))
    hi' hn' (part4 L) (part5 L) (part6 L) (part7 L)) $$ [H2 H3 H4 H5 H6 H7 Hs0 Hs1 Hs2 Hs3 Hs4 Hs5 Hs6 Hs7 Hs8 S0 S1 S2 S3 S4 S5 HO]
  · isplitr; · iexact Hmw
    isplitl [H2]
    · unfold Rows.Table
      isplitr
      · ipureintro; exact fun x => (ofFlat_idx _ _ x).symm
      · iexact H2
    isplitl [H3]
    · unfold Rows.Table
      isplitr
      · ipureintro; exact fun x => (ofFlat_idx _ _ x).symm
      · iexact H3
    iframe H4 H5 H6 H7 Hs0 Hs1 Hs2 Hs3 Hs4 Hs5 Hs6 Hs7 Hs8 S0 S1 S2 S3 S4 S5
    unfold Owing
    iexists W
    isplitr
    · ipureintro; exact fun p hp => Or.inl hp
    · iexact HO
  iintro ⟨H2, H3, H4, H5, H6, H7, Hs0, Hs1, Hs2, Hs3, Hs4, Hs5, Hs6, Hs7, Hs8, S0, S1, S2, S3, S4, S5, HO⟩
  unfold Rows.Table
  icases H2 with ⟨-, H2⟩
  icases H3 with ⟨-, H3⟩
  ihave H2 := (Entails.of_eq (whole_pts (F := F) (thr d L) main_arg0_scv q f2)) $$ H2
  ihave H3 := (Entails.of_eq (whole_pts (F := F) (thr d L) main_arg1_scv q f3)) $$ H3
  ihave H4 := (done4 d L f2 f3 (ofFlat_idx _ _)) $$ H4
  ihave H5 := (done5 d L f2 f3) $$ H5
  ihave H6 := (done6 d L f2 f3) $$ H6
  ihave H7 := (done7 d L f3) $$ H7
  ihave Hs0 := (some_holds d L cc0_scratch0) $$ Hs0
  ihave Hs1 := (some_holds d L cc0_scratch1) $$ Hs1
  ihave Hs2 := (some_holds d L cc0_scratch2) $$ Hs2
  ihave Hs3 := (some_holds d L cc0_scratch3) $$ Hs3
  ihave Hs4 := (some_holds d L cc0_scratch4) $$ Hs4
  ihave Hs5 := (some_holds d L cc0_scratch5) $$ Hs5
  ihave Hs6 := (some_holds d L cc0_scratch6) $$ Hs6
  ihave Hs7 := (some_holds d L cc0_scratch7) $$ Hs7
  ihave Hs8 := (some_holds d L cc0_scratch8) $$ Hs8
  isplitl [H2 H3 H4 H5 H6 H7]
  · isplitl [H2 H3]
    · iframe H2 H3
    iframe H4 H5 H6 H7
  isplitl [Hs0 Hs1 Hs2 Hs3 Hs4 Hs5 Hs6 Hs7 Hs8 Hbufs]
  · iframe Hs0 Hs1 Hs2 Hs3 Hs4 Hs5 Hs6 Hs7 Hs8 Hbufs
  isplitl [S0 S1 S2 S3 S4 S5 Hsems]
  · isplitr [Hsems]
    · iframe S0 S1 S2 S3 S4 S5
    iexact Hsems
  unfold Owing
  iexact HO

end Cert.Proof.Counting
-- ==== Proof.TallyMain.lean ====
/-
  The counting program's run: what its call's handshakes carry, a subcore's task from what it is handed, the dealing of the
  operands' shares and the results' parts, and the program from the launch's memory to the results.
-/
module

public import proofs.«01_k».proof.Proof.TallyCall
public import proofs.«01_k».proof.Proof.Gen.Counts
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Tactic

@[expose] public section

noncomputable section

namespace Cert.Proof.CountingMain

open Cert.CountsIdeal Cert.CountsIdeal.Gen
open Idealize.ShloMosaic Idealize.ShloMosaic.ShareLeaves
open Idealize.ShloMosaic.SparseCore (S V)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr)
open Idealize.ShloMosaic.Pipeline (ucRefs unscopedBufs_held)
open Idealize.ShloMosaic.Rounds
open Idealize.ShloMosaic.Tactic
open Cert.Proof.Rows Cert.Proof.Counting

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The tasks' parts -/

/-- The SparseCore of a task. -/
def gc (t : Fin 32) : Fin 2 := ⟨t.val / 16, by have h := t.isLt; omega⟩
/-- The subcore of a task. -/
def gt (t : Fin 32) : Fin 16 := ⟨t.val % 16, Nat.mod_lt _ (by decide)⟩

/-- The tasks of SparseCore `c`. -/
abbrev ofCore (c : Fin 2) : Finset (Fin 32) := Finset.univ.filter fun j => gc j = c
/-- The task of subcore `i` of SparseCore `c`. -/
abbrev ofTile (c : Fin 2) (i : Fin 16) : Finset (Fin 32) := (ofCore c).filter fun j => gt j = i

def coordsV (c : Fin (grid0.bound 0)) (s : Fin (grid0.bound 1)) : grid0.Coords :=
  fun | 0 => c | 1 => s | ⟨_ + 2, h⟩ => absurd h (Nat.not_lt.2 (Nat.le_add_left _ _))

theorem ofTile_eq (c : Fin (grid0.bound 0)) (i : Fin (grid0.bound 1)) : ofTile ⟨c.val, c.isLt⟩ ⟨i.val, i.isLt⟩ = mine (coordsV c i) := by
  ext j
  have hc : c.val < 2 := c.isLt
  have hi : i.val < 16 := i.isLt
  simp only [ofTile, ofCore, mine, Finset.mem_filter, Finset.mem_univ, true_and, Finset.mem_singleton, gc, gt, Fin.ext_iff]
  show _ ↔ j.val = 16 * c.val + i.val
  omega

theorem part_filter {I : Type} [Fintype I] (g : I → Fin 32) (A : Finset (Fin 32)) {n : ℕ} (h : Fin 32 → Fin n) (k : Fin n) :
    part g (A.filter fun t => h t = k) = (part g A).filter fun j => h (g j) = k := by
  ext j
  simp only [part, Finset.mem_filter, Finset.mem_univ, true_and]

theorem part_univ {I : Type} [Fintype I] (g : I → Fin 32) : part g Finset.univ = Finset.univ := by
  ext j
  simp only [part, Finset.mem_filter, Finset.mem_univ, and_self]

/-! ## What the handshakes carry -/

variable (x2 : Dev nD → S802816.Idx → BitVec 32) (x3 : Dev nD → S50176.Idx → BitVec 32)

/-- The operands at a share. -/
def OpsAt (d : Dev nD) (q : PosShare TreeShare) : sProp 𝕄 :=
  iprop(((SparseCore.T d).loc main_arg0 ↦{q} (x2 d : Buf (Elt F) ((SparseCore.T d).loc main_arg0))) ∗ ((SparseCore.T d).loc main_arg1 ↦{q} (x3 d : Buf (Elt F) ((SparseCore.T d).loc main_arg1))))

/-- Some tasks' parts of the results, whatever they hold. -/
def Res (d : Dev nD) (A : Finset (Fin 32)) : sProp 𝕄 :=
  iprop((∃ f : Buf (Elt F) ((SparseCore.T d).loc main_v0_0), (SparseCore.T d).loc main_v0_0 ↦[part p4 A]{fullShare} f)
    ∗ (∃ f : Buf (Elt F) ((SparseCore.T d).loc main_v0_1), (SparseCore.T d).loc main_v0_1 ↦[part p5 A]{fullShare} f)
    ∗ (∃ f : Buf (Elt F) ((SparseCore.T d).loc main_v0_2), (SparseCore.T d).loc main_v0_2 ↦[part p6 A]{fullShare} f)
    ∗ (∃ f : Buf (Elt F) ((SparseCore.T d).loc main_v0_3), (SparseCore.T d).loc main_v0_3 ↦[part p6 A]{fullShare} f))

/-- Some tasks' parts of the results at their values. -/
def ResV (d : Dev nD) (A : Finset (Fin 32)) : sProp 𝕄 :=
  iprop(((SparseCore.T d).loc main_v0_0 ↦[part p4 A]{fullShare} (looked (x2 d) (x3 d) : Buf (Elt F) ((SparseCore.T d).loc main_v0_0)))
    ∗ ((SparseCore.T d).loc main_v0_1 ↦[part p5 A]{fullShare} (laneCounts (x2 d) (x3 d) : Buf (Elt F) ((SparseCore.T d).loc main_v0_1)))
    ∗ ((SparseCore.T d).loc main_v0_2 ↦[part p6 A]{fullShare} (edgeCounts (x2 d) (x3 d) : Buf (Elt F) ((SparseCore.T d).loc main_v0_2)))
    ∗ ((SparseCore.T d).loc main_v0_3 ↦[part p6 A]{fullShare} (nodeCounts (x3 d) : Buf (Elt F) ((SparseCore.T d).loc main_v0_3))))

theorem opsAt_leaves (d : Dev nD) (n : ℕ) (q : PosShare TreeShare) :
    (OpsAt x2 x3 d q : sProp 𝕄) = bigSep Finset.univ fun i : Fin (2 ^ n) => OpsAt x2 x3 d (leaf n q i) := by
  unfold OpsAt
  rw [bigSep_sep', ← pointsTo_leaves, ← pointsTo_leaves]

theorem at_fibers {ℓ : Loc nD τ sig} [Fintype (Idx ℓ)] (g : Idx ℓ → Fin 32) (A : Finset (Fin 32)) {n : ℕ} (h : Fin 32 → Fin n) (f : Buf (Elt F) ℓ) :
    (ℓ ↦[part g A]{fullShare} f : sProp 𝕄) = bigSep Finset.univ fun k : Fin n => iprop(ℓ ↦[part g (A.filter fun t => h t = k)]{fullShare} f) := by
  rw [pts_fibers (part g A) (fun j => h (g j)) fullShare f]
  exact bigSep_congr fun k _ => by rw [part_filter]

theorem some_fibers {ℓ : Loc nD τ sig} [Fintype (Idx ℓ)] (g : Idx ℓ → Fin 32) (A : Finset (Fin 32)) {n : ℕ} (h : Fin 32 → Fin n) :
    (iprop(∃ f : Buf (Elt F) ℓ, ℓ ↦[part g A]{fullShare} f) : sProp 𝕄)
      ⊢ bigSep Finset.univ fun k : Fin n => iprop(∃ f : Buf (Elt F) ℓ, ℓ ↦[part g (A.filter fun t => h t = k)]{fullShare} f) := by
  iintro ⟨%f, H⟩
  ihave H := (Entails.of_eq (at_fibers g A h f)) $$ H
  have hh : ∀ k ∈ (Finset.univ : Finset (Fin n)), (iprop(ℓ ↦[part g (A.filter fun t => h t = k)]{fullShare} f) : sProp 𝕄)
      ⊢ iprop(∃ f : Buf (Elt F) ℓ, ℓ ↦[part g (A.filter fun t => h t = k)]{fullShare} f) := by
    intro k _
    iintro H
    iexists f; iexact H
  iapply (show (bigSep Finset.univ fun k : Fin n => (iprop(ℓ ↦[part g (A.filter fun t => h t = k)]{fullShare} f) : sProp 𝕄))
    ⊢ bigSep Finset.univ fun k : Fin n => iprop(∃ f : Buf (Elt F) ℓ, ℓ ↦[part g (A.filter fun t => h t = k)]{fullShare} f) from bigSep_mono hh) $$ H

theorem res_fibers (d : Dev nD) (A : Finset (Fin 32)) {n : ℕ} (h : Fin 32 → Fin n) :
    (Res d A : sProp 𝕄) ⊢ bigSep Finset.univ fun k : Fin n => Res d (A.filter fun j => h j = k) := by
  unfold Res
  rw [bigSep_sep', bigSep_sep', bigSep_sep']
  iintro ⟨H0, H1, H2, H3⟩
  isplitl [H0]; · iapply (some_fibers (ℓ := (SparseCore.T d).loc main_v0_0) p4 A h) $$ H0
  isplitl [H1]; · iapply (some_fibers (ℓ := (SparseCore.T d).loc main_v0_1) p5 A h) $$ H1
  isplitl [H2]; · iapply (some_fibers (ℓ := (SparseCore.T d).loc main_v0_2) p6 A h) $$ H2
  iapply (some_fibers (ℓ := (SparseCore.T d).loc main_v0_3) p6 A h) $$ H3

theorem resV_fibers (d : Dev nD) (A : Finset (Fin 32)) {n : ℕ} (h : Fin 32 → Fin n) :
    (ResV x2 x3 d A : sProp 𝕄) = bigSep Finset.univ fun k : Fin n => ResV x2 x3 d (A.filter fun j => h j = k) := by
  unfold ResV
  rw [bigSep_sep', bigSep_sep', bigSep_sep', at_fibers (ℓ := (SparseCore.T d).loc main_v0_0) p4 A h (looked (x2 d) (x3 d)),
    at_fibers (ℓ := (SparseCore.T d).loc main_v0_1) p5 A h (laneCounts (x2 d) (x3 d)),
    at_fibers (ℓ := (SparseCore.T d).loc main_v0_2) p6 A h (edgeCounts (x2 d) (x3 d)),
    at_fibers (ℓ := (SparseCore.T d).loc main_v0_3) p6 A h (nodeCounts (x3 d))]

variable [FloatOps F]

/-- The call takes its operands and its results; each SparseCore half a share of the operands and its tasks' parts of the
    results, each of its subcores a sixteenth of that. The results come back at their values. -/
def P : (K (F := F)).Pay (nD := nD) (Val := Elt F) (Name := ℕ) (U := UU) where
  st := fun q d c => match q with
    | 0 => iprop(OpsAt x2 x3 d (leaf 1 fullShare (Fin.cast nCore_zero c)) ∗ Res d (ofCore (Fin.cast nCore_zero c)))
  dn := fun q d c => match q with
    | 0 => iprop(OpsAt x2 x3 d (leaf 1 fullShare (Fin.cast nCore_zero c)) ∗ ResV x2 x3 d (ofCore (Fin.cast nCore_zero c)))
  go := fun q d c i => match q with
    | 0 => iprop(OpsAt x2 x3 d (leaf 4 (leaf 1 fullShare (Fin.cast nCore_zero c)) (Fin.cast nSub_zero i))
        ∗ Res d (ofTile (Fin.cast nCore_zero c) (Fin.cast nSub_zero i)))
  td := fun q d c i => match q with
    | 0 => iprop(OpsAt x2 x3 d (leaf 4 (leaf 1 fullShare (Fin.cast nCore_zero c)) (Fin.cast nSub_zero i))
        ∗ ResV x2 x3 d (ofTile (Fin.cast nCore_zero c) (Fin.cast nSub_zero i)))
  x := fun _ _ => iprop(emp)

instance storable_ops (d : Dev nD) (q : PosShare TreeShare) : BI.Storable (upEmb : UEmb _ 𝕄) (OpsAt x2 x3 d q) := by
  unfold OpsAt; infer_instance
set_option synthInstance.maxHeartbeats 200000 in
set_option maxHeartbeats 1000000 in
instance storable_res (d : Dev nD) (A : Finset (Fin 32)) : BI.Storable (upEmb : UEmb _ 𝕄) (Res d A) := by
  unfold Res; infer_instance
instance storable_resV (d : Dev nD) (A : Finset (Fin 32)) : BI.Storable (upEmb : UEmb _ 𝕄) (ResV x2 x3 d A) := by
  unfold ResV; infer_instance

instance P_storable : (P (F := F) x2 x3).IsStorable where
  st q d c := match q with
    | 0 => (inferInstance : BI.Storable (upEmb : UEmb _ 𝕄)
      iprop(OpsAt x2 x3 d (leaf 1 fullShare (Fin.cast nCore_zero c)) ∗ Res d (ofCore (Fin.cast nCore_zero c))))
  dn q d c := match q with
    | 0 => (inferInstance : BI.Storable (upEmb : UEmb _ 𝕄)
      iprop(OpsAt x2 x3 d (leaf 1 fullShare (Fin.cast nCore_zero c)) ∗ ResV x2 x3 d (ofCore (Fin.cast nCore_zero c))))
  go q d c i := match q with
    | 0 => (inferInstance : BI.Storable (upEmb : UEmb _ 𝕄)
      iprop(OpsAt x2 x3 d (leaf 4 (leaf 1 fullShare (Fin.cast nCore_zero c)) (Fin.cast nSub_zero i))
        ∗ Res d (ofTile (Fin.cast nCore_zero c) (Fin.cast nSub_zero i))))
  td q d c i := match q with
    | 0 => (inferInstance : BI.Storable (upEmb : UEmb _ 𝕄)
      iprop(OpsAt x2 x3 d (leaf 4 (leaf 1 fullShare (Fin.cast nCore_zero c)) (Fin.cast nSub_zero i))
        ∗ ResV x2 x3 d (ofTile (Fin.cast nCore_zero c) (Fin.cast nSub_zero i))))

/-! ## A subcore's task -/

theorem defs₀_vector (c : Fin τ.nSC) (s : Fin τ.nSub) :
    defs₀ (F := F) (.scVector c s) 0 () = SparseCore.onTile hcore0 hsub0 (fun c s => cc0__pass_a (coordsV c s) (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5) ⟨⟩ c s := rfl

theorem tile_body (hF : (K (F := F)).Facts) (hi : ∀ d j, (x2 d j).toNat < 50176) (hn : ∀ d j, (x3 d j).toNat < 80) (d : Dev nD) (c : Fin (grid0.bound 0)) (i : Fin (grid0.bound 1))
    (O : CellTallies nD τ sig (HIx 1)) (W : Waits sig (HIx 1)) (hO : ∀ g, O g none = 0) :
    iprop(levAts (K (F := F)).L (K (F := F)).lev ∗ emp
        ∗ (OpsAt x2 x3 d (leaf 4 (leaf 1 fullShare (⟨c.val, c.isLt⟩ : Fin 2)) (⟨i.val, i.isLt⟩ : Fin 16))
          ∗ Res d (ofTile ⟨c.val, c.isLt⟩ ⟨i.val, i.isLt⟩))
        ∗ scopedBufs (V d (c.castLE hcore0) (i.castLE hsub0)) ∗ scopedSems0 (V d (c.castLE hcore0) (i.castLE hsub0)) ∗ owes (V d (c.castLE hcore0) (i.castLE hsub0)) O W)
      ⊢ (wp frame (wpE defs₀ 𝒱₀ (V d (c.castLE hcore0) (i.castLE hsub0)) none) Set.univ (cc0__pass_a (coordsV c i) (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 cc0_scoped3 cc0_scoped4 cc0_scoped5)
          fun _ => iprop((OpsAt x2 x3 d (leaf 4 (leaf 1 fullShare (⟨c.val, c.isLt⟩ : Fin 2)) (⟨i.val, i.isLt⟩ : Fin 16))
              ∗ ResV x2 x3 d (ofTile ⟨c.val, c.isLt⟩ ⟨i.val, i.isLt⟩))
            ∗ scopedBufs (V d (c.castLE hcore0) (i.castLE hsub0)) ∗ scopedSems0 (V d (c.castLE hcore0) (i.castLE hsub0))
            ∗ ∃ W', ⌜∀ p ∈ W', p ∈ W ∨ p.2 = none⌝ ∗ owes (V d (c.castLE hcore0) (i.castLE hsub0)) O W') : sProp 𝕄) := by
  rw [(K (F := F)).scopedBufs_V hF d (c.castLE hcore0) (i.castLE hsub0), SparseCore.Cfg.scopedSems0_V (Val := Elt F) d (c.castLE hcore0) (i.castLE hsub0),
    ofTile_eq]
  have h := task (F := F) (defs := defs₀) (countersEmb : UEmb Counters (MT nD τ sig (HIx 1) (Elt F) ℕ UU ℕ)) 𝒱₀ d (coordsV c i) none (leaf 4 (leaf 1 fullShare (⟨c.val, c.isLt⟩ : Fin 2)) (⟨i.val, i.isLt⟩ : Fin 16))
    (x2 d) (x3 d) (default : HIx 1) O W (hi d) (hn d)
  iintro ⟨Hlv, -, HP, Hb, Hs, HO⟩
  ihave Hmw := ((K (F := F)).mayWaits_none (thr := V d (c.castLE hcore0) (i.castLE hsub0)) hO) $$ Hlv
  iapply h $$ [Hmw HP Hb Hs HO]
  isplitl [Hmw]; · iexact Hmw
  isplitl [HP]; · iexact HP
  iframe Hb Hs HO

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hi : ∀ d j, (x2 d j).toNat < 50176) (hn : ∀ d j, (x3 d j).toNat < 80) :
    (K (F := F)).TileObl (D (F := F)) 𝒱 (P x2 x3) v₀ 0 := by
  intro d c i O W hO _ _
  simp only [show (P (F := F) x2 x3).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body x2 x3 hF hi hn d ⟨_, hci.1⟩ ⟨_, hci.2⟩ O W hO).trans (wp_mono frame _ _ fun _ => obl_post)

/-! ## The dealing -/

omit [FloatOps F] in
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem tiles_ops (d : Dev nD) (q : PosShare TreeShare) :
    (OpsAt x2 x3 d q : sProp 𝕄) = bigSep Finset.univ fun i : Fin 16 => OpsAt x2 x3 d (leaf 4 q i) :=
  opsAt_leaves x2 x3 d 4 q
omit [FloatOps F] in
theorem cores_ops (d : Dev nD) (q : PosShare TreeShare) :
    (OpsAt x2 x3 d q : sProp 𝕄) = bigSep Finset.univ fun c : Fin 2 => OpsAt x2 x3 d (leaf 1 q c) :=
  opsAt_leaves x2 x3 d 1 q

theorem vecSplit : (K (F := F)).VecSplit' (P x2 x3) 0 := by
  intro d c
  have key : ∀ c' : Fin 2, iprop(OpsAt x2 x3 d (leaf 1 fullShare c') ∗ Res d (ofCore c')) ⊢ (|={Set.univ}=> iprop(
      (bigSep Finset.univ fun i : Fin 16 => iprop(OpsAt x2 x3 d (leaf 4 (leaf 1 fullShare c') i) ∗ Res d (ofTile c' i)))
      ∗ ((bigSep Finset.univ fun i : Fin 16 => iprop(OpsAt x2 x3 d (leaf 4 (leaf 1 fullShare c') i) ∗ ResV x2 x3 d (ofTile c' i)))
          -∗ iprop(OpsAt x2 x3 d (leaf 1 fullShare c') ∗ ResV x2 x3 d (ofCore c')))) : sProp 𝕄) := by
    intro c'
    rw [bigSep_sep', bigSep_sep', ← tiles_ops x2 x3 d (leaf 1 fullShare c'), ← resV_fibers x2 x3 d (ofCore c') gt]
    iintro ⟨Ho, Hr⟩
    imodintro
    isplitl [Ho Hr]
    · isplitl [Ho]; · iexact Ho
      iapply (res_fibers d (ofCore c') gt) $$ Hr
    iintro H
    iexact H
  have hg := over_subs (F := F) (fun i => iprop(OpsAt x2 x3 d (leaf 4 (leaf 1 fullShare (Fin.cast nCore_zero c)) i) ∗ Res d (ofTile (Fin.cast nCore_zero c) i)))
  have ht := over_subs (F := F) (fun i => iprop(OpsAt x2 x3 d (leaf 4 (leaf 1 fullShare (Fin.cast nCore_zero c)) i) ∗ ResV x2 x3 d (ofTile (Fin.cast nCore_zero c) i)))
  have h := key (Fin.cast nCore_zero c)
  rw [← hg, ← ht] at h
  exact h

theorem st0_eq (d : Dev nD) : (iprop(OpsAt x2 x3 d fullShare ∗ Res d Finset.univ) : sProp 𝕄)
    ⊢ bigSep Finset.univ fun c : Fin ((K (F := F)).nCore 0) => (P x2 x3).st 0 d c := by
  show _ ⊢ bigSep Finset.univ fun c : Fin ((K (F := F)).nCore 0) =>
    iprop(OpsAt x2 x3 d (leaf 1 fullShare (Fin.cast nCore_zero c)) ∗ Res d (ofCore (Fin.cast nCore_zero c)))
  rw [over_cores (F := F) (fun c => iprop(OpsAt x2 x3 d (leaf 1 fullShare c) ∗ Res d (ofCore c))), bigSep_sep',
    ← cores_ops x2 x3 d fullShare]
  iintro ⟨Ho, Hr⟩
  isplitl [Ho]; · iexact Ho
  iapply (res_fibers d Finset.univ gc) $$ Hr

theorem dn0_eq (d : Dev nD) : (bigSep Finset.univ fun c : Fin ((K (F := F)).nCore 0) => (P x2 x3).dn 0 d c)
    = (iprop(OpsAt x2 x3 d fullShare ∗ ResV x2 x3 d Finset.univ) : sProp 𝕄) := by
  show (bigSep Finset.univ fun c : Fin ((K (F := F)).nCore 0) =>
    iprop(OpsAt x2 x3 d (leaf 1 fullShare (Fin.cast nCore_zero c)) ∗ ResV x2 x3 d (ofCore (Fin.cast nCore_zero c)))) = _
  rw [over_cores (F := F) (fun c => iprop(OpsAt x2 x3 d (leaf 1 fullShare c) ∗ ResV x2 x3 d (ofCore c))), bigSep_sep',
    ← cores_ops x2 x3 d fullShare, ← resV_fibers x2 x3 d Finset.univ gc]

/-! ## The launch's ghost state -/

def u₀ : UU := (initOf (K (F := F)).hsCells (K (F := F)).hsToks, 1)

omit [FloatOps F] in
theorem emps {I : Type} (A : Finset I) : (bigSep A fun _ => iprop(emp)) = (iprop(emp) : sProp 𝕄) := bigSep_emp_const A

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P x2 x3).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) x2 x3).x q thr) = bigSep Finset.univ fun _ => iprop(emp) from
    bigSep_congr fun _ _ => emps _, emps]
  iempintro

/-! ## The program -/

/-- A TensorCore reference as a device buffer. -/
abbrev tcb (r : Ref sig .tc) : DevRef τ sig := Proc.devRef .tc r

/-- The memory before the call. -/
abbrev V1 (d : Dev nD) : Valuation τ sig (Elt F) := StableHlo.launchContents m d

/-- The edges' bodies, and the bodies' graphs. -/
abbrev y2 (d : Dev nD) : S802816.Idx → BitVec 32 := V1 m d (tcb main_arg0)
abbrev y3 (d : Dev nD) : S50176.Idx → BitVec 32 := V1 m d (tcb main_arg1)

/-- The memory after the call. -/
def V2 (d : Dev nD) : Valuation τ sig (Elt F) :=
  Function.update (Function.update (Function.update (Function.update (V1 m d) (tcb main_v0_0) (looked (y2 m d) (y3 m d)))
    (tcb main_v0_1) (laneCounts (y2 m d) (y3 m d))) (tcb main_v0_2) (edgeCounts (y2 m d) (y3 m d))) (tcb main_v0_3) (nodeCounts (y3 m d))

/-- The buffers the call is handed. -/
def handed : Finset (DevRef τ sig) := {tcb main_arg0, tcb main_arg1, tcb main_v0_0, tcb main_v0_1, tcb main_v0_2, tcb main_v0_3}

theorem mem_uc (r : Ref sig .tc) (h : r.isScoped = false) : tcb r ∈ ucRefs τ sig :=
  Finset.mem_filter.mpr ⟨StableHlo.devRef_mem_tcRefs r, by
    intro h'
    exact Bool.false_ne_true (h.symm.trans h')⟩

theorem handed_sub : handed ⊆ ucRefs τ sig := by
  intro b hb
  simp only [handed, Finset.mem_insert, Finset.mem_singleton] at hb
  rcases hb with rfl | rfl | rfl | rfl | rfl | rfl <;> exact mem_uc _ (by decide)

omit [FloatOps F] in
theorem held_handed (d : Dev nD) (V : Valuation τ sig (Elt F)) :
    (held (SparseCore.T d) handed V : sProp 𝕄)
      = iprop((((d, tcb main_arg0) : Loc nD τ sig) ↦{fullShare} V (tcb main_arg0)) ∗ (((d, tcb main_arg1) : Loc nD τ sig) ↦{fullShare} V (tcb main_arg1))
        ∗ (((d, tcb main_v0_0) : Loc nD τ sig) ↦{fullShare} V (tcb main_v0_0)) ∗ (((d, tcb main_v0_1) : Loc nD τ sig) ↦{fullShare} V (tcb main_v0_1))
        ∗ (((d, tcb main_v0_2) : Loc nD τ sig) ↦{fullShare} V (tcb main_v0_2)) ∗ (((d, tcb main_v0_3) : Loc nD τ sig) ↦{fullShare} V (tcb main_v0_3))) := by
  unfold held handed
  rw [SparseCore.bigSep_insert' (by decide), SparseCore.bigSep_insert' (by decide), SparseCore.bigSep_insert' (by decide),
    SparseCore.bigSep_insert' (by decide), SparseCore.bigSep_insert' (by decide), bigSep_singleton]

theorem V2_of_ne (d : Dev nD) (b : DevRef τ sig) (h0 : b ≠ tcb main_v0_0) (h1 : b ≠ tcb main_v0_1) (h2 : b ≠ tcb main_v0_2) (h3 : b ≠ tcb main_v0_3) :
    V2 m d b = V1 m d b := by
  unfold V2
  rw [Function.update_of_ne h3, Function.update_of_ne h2, Function.update_of_ne h1, Function.update_of_ne h0]

theorem V2_0 (d : Dev nD) : V2 m d (tcb main_v0_0) = looked (y2 m d) (y3 m d) := by
  unfold V2
  rw [Function.update_of_ne (by decide), Function.update_of_ne (by decide), Function.update_of_ne (by decide), Function.update_self]
theorem V2_1 (d : Dev nD) : V2 m d (tcb main_v0_1) = laneCounts (y2 m d) (y3 m d) := by
  unfold V2
  rw [Function.update_of_ne (by decide), Function.update_of_ne (by decide), Function.update_self]
theorem V2_2 (d : Dev nD) : V2 m d (tcb main_v0_2) = edgeCounts (y2 m d) (y3 m d) := by
  unfold V2
  rw [Function.update_of_ne (by decide), Function.update_self]
theorem V2_3 (d : Dev nD) : V2 m d (tcb main_v0_3) = nodeCounts (y3 m d) := by
  unfold V2
  rw [Function.update_self]

/-- What the call is handed, from the buffers at the memory before it. -/
theorem hand (d : Dev nD) : (held (SparseCore.T d) handed (V1 m d) : sProp 𝕄) ⊢ iprop(OpsAt (y2 m) (y3 m) d fullShare ∗ Res d Finset.univ) := by
  rw [held_handed]
  unfold OpsAt Res
  rw [part_univ, part_univ, part_univ]
  iintro ⟨H0, H1, H2, H3, H4, H5⟩
  isplitl [H0 H1]
  · iframe H0 H1
  isplitl [H2]; · iexists _; iexact H2
  isplitl [H3]; · iexists _; iexact H3
  isplitl [H4]; · iexists _; iexact H4
  iexists _; iexact H5

/-- The buffers at the memory after the call, from what it hands back. -/
theorem unhand (d : Dev nD) : (iprop(OpsAt (y2 m) (y3 m) d fullShare ∗ ResV (y2 m) (y3 m) d Finset.univ) : sProp 𝕄)
    ⊢ held (SparseCore.T d) handed (V2 m d) := by
  rw [held_handed, V2_0, V2_1, V2_2, V2_3, V2_of_ne m d (tcb main_arg0) (by decide) (by decide) (by decide) (by decide),
    V2_of_ne m d (tcb main_arg1) (by decide) (by decide) (by decide) (by decide)]
  unfold OpsAt ResV
  rw [part_univ, part_univ, part_univ]
  iintro ⟨⟨H0, H1⟩, H2, H3, H4, H5⟩
  iframe H0 H1 H2 H3 H4 H5

theorem held_rest (d : Dev nD) : (held (SparseCore.T d) (ucRefs τ sig \ handed) (V1 m d) : sProp 𝕄)
    = held (SparseCore.T d) (ucRefs τ sig \ handed) (V2 m d) :=
  held_congr (SparseCore.T d) (fun b hb => by
    have hn := (Finset.mem_sdiff.mp hb).2
    refine (V2_of_ne m d b ?_ ?_ ?_ ?_).symm <;> rintro rfl <;> exact hn (by decide))

abbrev FIN (d : Dev nD) : sProp 𝕄 := held (SparseCore.T d) (ucRefs τ sig) (V2 m d)

theorem main_eq (d : Dev nD) : main (F := F) d = ((K (F := F)).run d 0 >>= fun _ => pure ⟨⟩) := rfl

/-- The program on device `d`'s TensorCore. -/
theorem hmain (κ : GSem nD τ sig → ℕ) (d : Dev nD) :
    iprop((K (F := F)).ctx EH (P (y2 m) (y3 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (StableHlo.launchContents m d) from
    unscopedBufs_held d (StableHlo.launchContents m d)]
  iintro ⟨#Hctx, Hst, ⟨Hb, Hh, Hts, -⟩, -⟩
  ihave Hh := (Entails.of_eq (held_sub_split (SparseCore.T d) handed_sub (V1 m d))) $$ Hh
  icases Hh with ⟨Hh, Hr⟩
  ihave Hh := (hand m d) $$ Hh
  ihave Hh := (st0_eq (y2 m) (y3 m) d) $$ Hh
  rw [wp_bind]
  iapply ((K (F := F)).wp_run (D (F := F)) 𝒱 (EH := EH) (P := P (y2 m) (y3 m)) κ d 0) $$ [Hst Hh Hr Hb Hts]
  iframe Hctx Hst Hh
  iintro ⟨Hst, Hdn⟩
  ihave Hdn := (Entails.of_eq (dn0_eq (y2 m) (y3 m) d)) $$ Hdn
  ihave Hdn := (unhand m d) $$ Hdn
  ihave Hr := (Entails.of_eq (held_rest m d)) $$ Hr
  ihave Hh := (Entails.of_eq (held_sub_split (SparseCore.T d) handed_sub (V2 m d)).symm) $$ [Hdn Hr]
  · iframe Hdn Hr
  rw [wp_pure]
  imodintro
  isplitl [Hst]; · iexact Hst
  iframe

/-- What a final state holds: every unscoped buffer's contents at the end. -/
def fq (d : Dev nD) (s' : Phys nD τ sig (Elt F)) : Prop := ∀ r : Ref sig .tc, r.isScoped = false → s'.mem.mem (d, tcb r) = V2 m d (tcb r)

omit [FloatOps F] in
theorem held_agree (d : Dev nD) (V : Valuation τ sig (Elt F)) (s' : Phys nD τ sig (Elt F)) (A : Finset (DevRef τ sig)) (b : DevRef τ sig) (hb : b ∈ A) :
    iprop(held (SparseCore.T d) A V ∗ SI s') ⊢ (⌜s'.mem.mem (d, b) = V b⌝ : sProp 𝕄) := by
  unfold held
  rw [SparseCore.bigSep_erase' hb]
  iintro ⟨⟨H, -⟩, HS⟩
  ihave H := (SI_pointsTo_agree (st := s') (ℓ := (d, b)) (I := Finset.univ) (q := fullShare) (f := V b)) $$ [H HS]
  · isplitl [HS] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) :=
  ((forall_intro fun r : {r : Ref sig .tc // r.isScoped = false} =>
    held_agree d (V2 m d) s' (ucRefs τ sig) (tcb r.1) (mem_uc r.1 r.2)).trans pure_forall.2).trans (Laws.pure_mono fun h r hr => h ⟨r, hr⟩)

def QC : PUnit × MemSt nD τ sig (Elt F) → Prop := fun r =>
  (∀ d : Dev nD, ∀ b : Ref sig .tc, b.isScoped = false → r.2.mem (d, tcb b) = V2 m d (tcb b)) ∧ r.2.sem = fun _ => 0

/-- Every run of the program ends with its buffers at `V2`, where the words are inside their tables. -/
theorem run_main [∀ e, Nonempty (Elt F e)] (hi : ∀ d j, (y2 m d j).toNat < 50176) (hn : ∀ d j, (y3 m d j).toNat < 80) :
    θ_run (Cert.CountsIdeal.defs (F := F)) (Cert.CountsIdeal.threads (F := F)) ⟨m, fun _ => 0, ρ⟩ (QC m) :=
  SparseCore.Cfg.θ_run_sc_quiescent (K := K (F := F)) (D := D (F := F)) (𝒱 := 𝒱) (EH := EH) (P := P (y2 m) (y3 m)) (A := ∅) facts v₀
    (fun q hq => match q with | 0 => nomatch hq)
    (fun q _ => match q with | 0 => tileObl (y2 m) (y3 m) facts hi hn)
    (fun q _ => match q with | 0 => SparseCore.Cfg.VecSplit.of_plain (vecSplit (y2 m) (y3 m)))
    m ρ main (fun _ => iprop(emp)) (FIN m) (u₀ (F := F)) (sep_elim_left.trans (hu₀ (y2 m) (y3 m))) (hmain m ρ) (fq m) (hfin m) (QC m) (fun _ h hz => ⟨h, hz⟩)

end Cert.Proof.CountingMain
-- ==== Proof.TallyValue.lean ====
/-
  The counting program's reference, element by element, against what the call leaves.
-/
module

public import proofs.«01_k».proof.Proof.TallyMain
public import proofs.«01_k».proof.Proof.FeatureRef
public import proofs.«01_k».proof.Proof.Value
public import proofs.«01_k».proof.Proof.Gen.CountsReferenceIdeal.Run
public import proofs.«01_k».proof.Proof.Gen.Pre_in_table
public import Idealize.ShloMosaic.Lib.Pointwise
public import Idealize.ShloMosaic.Lib.Routing.OpsSet
public import Idealize.ShloMosaic.Lib.Routing.Ops

@[expose] public section

noncomputable section

namespace Cert.Proof.CountingValue

open Cert.CountsReferenceIdeal Cert.CountsReferenceIdeal.Gen Cert.CountsReferenceIdeal.Value
open Idealize.ShloMosaic
open Cert.Proof.Rows (ofFlat)
open Cert.Proof.Counting (tally tot edgeKey nodeKey edgeTally nodeTally looked laneCounts edgeCounts nodeCounts)
open Cert.Proof.FeatureRef (eq_bit slt_zero fold_sum)

/-- One where a word is `k`, else zero. -/
abbrev bit (x : BitVec 32) (k : ℕ) : BitVec 32 := if x.toNat = k then 1#32 else 0#32

theorem tally_sum (H : ℕ → ℕ → BitVec 32) (k l : ℕ) : ∀ n, tally H n k l = ∑ s ∈ Finset.range n, bit (H l s) k
  | 0 => rfl
  | n + 1 => by
    rw [Finset.sum_range_succ, ← tally_sum H k l n]
    show (if _ then _ else _) = _
    by_cases h : (H l n).toNat = k
    · rw [bit, if_pos h, if_pos h]
    · rw [bit, if_neg h, if_neg h, BitVec.add_zero]

theorem tot_sum (H : ℕ → ℕ → BitVec 32) (k : ℕ) : tot H k = ∑ l ∈ Finset.range 16, H k l := by
  simp only [Finset.sum_range_succ, Finset.sum_range_zero]
  rfl

/-- A sum over one axis, from zero, at an index. -/
theorem reduce_at {s t : Shape} {a : Fin s.rank} (x : s.Idx → BitVec 32) (h' : s.ReducesTo [a] t) (h : s.Reduces [a] t) (hu : 0 < S_.numel) (j : t.Idx) :
    Host.reduce IntOp.addi x (constantI S_ 32 0#32) h' hu j = ∑ k : Fin (s.size a), x (h.lift j k) :=
  (Host.reduce_eq_fold_single IntOp.addi x _ h' h hu j).trans (fold_sum _ _)

theorem bit_at {s : Shape} (v : s.Idx → BitVec 1) (i : s.Idx) (x : BitVec 32) (k : Fin 80) (hlt : 1 < 32) (h : v i = IntOp.cmpi .eq x (BitVec.ofNat 32 k.val)) :
    extui 32 v hlt i = bit x k.val := by
  have hk : (BitVec.ofNat 32 k.val).toNat = k.val := by
    rw [BitVec.toNat_ofNat]
    have := k.isLt
    omega
  refine (show extui 32 v hlt i = (v i).setWidth 32 from rfl).trans ?_
  rw [h, eq_bit, hk]
  by_cases h : x.toNat = k.val
  · rw [decide_eq_true h, bit, if_pos h]
    rfl
  · rw [decide_eq_false h, bit, if_neg h]
    rfl

theorem red_edge : S32x80x16x1568.Reduces [3] S32x80x16 := ⟨rfl, by decide, reducesTo_S32x80x16x1568_S32x80x16_d3.2⟩

theorem red_node : S32x80x98x16.Reduces [2] S32x80x16 := ⟨rfl, by decide, reducesTo_S32x80x98x16_S32x80x16_d2.2⟩

theorem red_lane : S32x80x16.Reduces [2] S32x80 := ⟨rfl, by decide, reducesTo_S32x80x16_S32x80_d2.2⟩

theorem lift_edge (j : S32x80x16.Idx) (s : Fin 1568) : red_edge.lift j s = ix4 (j 0) (j 1) (j 2) s := by
  funext a
  match a with
  | ⟨0, _⟩ => rfl
  | ⟨1, _⟩ => rfl
  | ⟨2, _⟩ => rfl
  | ⟨3, _⟩ => rfl

theorem lift_node (j : S32x80x16.Idx) (s : Fin 98) : red_node.lift j s = ix4 (j 0) (j 1) s (j 2) := by
  funext a
  match a with
  | ⟨0, _⟩ => rfl
  | ⟨1, _⟩ => rfl
  | ⟨2, _⟩ => rfl
  | ⟨3, _⟩ => rfl

theorem lift_lane (j : S32x80.Idx) (l : Fin 16) : red_lane.lift j l = ix3 (j 0) (j 1) l := by
  funext a
  match a with
  | ⟨0, _⟩ => rfl
  | ⟨1, _⟩ => rfl
  | ⟨2, _⟩ => rfl

theorem mask_edge (y : S32x1x16x1568.Idx → BitVec 32) (w : Fin 32) (k : Fin 80) (l : Fin 16) (s : Fin 1568) :
    cmpi .eq (broadcastInDim S32x80x16x1568 ![0, 1, 2, 3] bcast_S32x1x16x1568_S32x80x16x1568_0_1_2_3 y) (broadcastInDim S32x80x16x1568 ![0, 1, 2, 3] bcast_S1x80x1x1_S32x80x16x1568_0_1_2_3 (broadcastInDim S1x80x1x1 ![1] bcast_S80_S1x80x1x1_1 (iotaInDim S80 32 0))) (ix4 w k l s)
      = IntOp.cmpi .eq (y (ix4 w (0 : Fin 1) l s)) (BitVec.ofNat 32 k.val) := by
  pointwise

theorem mask_node (y : S32x1x98x16.Idx → BitVec 32) (w : Fin 32) (k : Fin 80) (s : Fin 98) (l : Fin 16) :
    cmpi .eq (broadcastInDim S32x80x98x16 ![0, 1, 2, 3] bcast_S32x1x98x16_S32x80x98x16_0_1_2_3 y) (broadcastInDim S32x80x98x16 ![0, 1, 2, 3] bcast_S1x80x1x1_S32x80x98x16_0_1_2_3 (broadcastInDim S1x80x1x1 ![1] bcast_S80_S1x80x1x1_1 (iotaInDim S80 32 0))) (ix4 w k s l)
      = IntOp.cmpi .eq (y (ix4 w (0 : Fin 1) s l)) (BitVec.ofNat 32 k.val) := by
  pointwise

theorem wrap_at (n : S802816.Idx → BitVec 32) (p : Fin 802816) :
    broadcastInDim S802816x1 ![0] bcast_S802816_S802816x1_0 (select (cmpi .slt n (broadcastInDim S802816 ![] bcast_S_S802816 (constantI S_ 32 0#32))) (addi n (broadcastInDim S802816 ![] bcast_S_S802816 (constantI S_ 32 50176#32))) n) (ix2 p (0 : Fin 1))
      = Scalar.select (IntOp.cmpi .slt (n (ix1 p)) 0#32) (IntOp.addi (n (ix1 p)) 50176#32) (n (ix1 p)) := by
  pointwise

theorem flat_at {n : ℕ} (z : BitVec 32) (f : (⟨1, ![n]⟩ : Shape).Idx → BitVec 32) (p : Fin n) (i : ℕ) (hi : i = p.val) : ofFlat (n := n) z f i = f (ix1 p) := by
  subst hi
  unfold ofFlat
  rw [dif_pos p.isLt]
  refine congrArg f ?_
  funext a
  match a with
  | ⟨0, _⟩ => rfl

theorem idx1 {n : ℕ} (j : (⟨1, ![n]⟩ : Shape).Idx) : ∃ p : Fin n, j = ix1 p := ⟨j 0, by
  funext a
  match a with
  | ⟨0, _⟩ => rfl⟩

variable (f2 : S802816.Idx → BitVec 32) (f3 : S50176.Idx → BitVec 32)

/-- The edges' graphs, as the reference looks them up. -/
abbrev graphs : S802816.Idx → BitVec 32 :=
  Host.gather gather_S50176_S802816x1_S802816_n_0_n_n_0_1_1 f3 (broadcastInDim S802816x1 ![0] bcast_S802816_S802816x1_0 (select (cmpi .slt f2 (broadcastInDim S802816 ![] bcast_S_S802816 (constantI S_ 32 0#32))) (addi f2 (broadcastInDim S802816 ![] bcast_S_S802816 (constantI S_ 32 50176#32))) f2))

theorem graphs_eq (hi : ∀ j, (f2 j).toNat < 50176) : graphs f2 f3 = looked f2 f3 := by
  funext j
  obtain ⟨p, rfl⟩ := idx1 j
  have hp := hi (ix1 p)
  refine (Routing.gather_take1 (N := 50176) (n := 802816) gather_S50176_S802816x1_S802816_n_0_n_n_0_1_1 rfl rfl rfl rfl _ _ p ⟨(f2 (ix1 p)).toNat, hp⟩ ?_ (by decide)).trans ?_
  · refine (wrap_at f2 p).trans ?_
    rw [slt_zero _ (by omega)]
    show f2 (ix1 p) = BitVec.ofNat 32 (f2 (ix1 p)).toNat
    rw [BitVec.ofNat_toNat, BitVec.setWidth_eq]
  · exact (flat_at _ f3 ⟨(f2 (ix1 p)).toNat, hp⟩ _ rfl).symm

/-- The edges' graphs counted lane by lane, as the reference counts them. -/
abbrev byLane (g : S802816.Idx → BitVec 32) : S32x80x16.Idx → BitVec 32 :=
  Host.reduce IntOp.addi (extui 32 (cmpi .eq (broadcastInDim S32x80x16x1568 ![0, 1, 2, 3] bcast_S32x1x16x1568_S32x80x16x1568_0_1_2_3 (shapeCast _ g shapeCasts_S802816_S32x1x16x1568)) (broadcastInDim S32x80x16x1568 ![0, 1, 2, 3] bcast_S1x80x1x1_S32x80x16x1568_0_1_2_3 (broadcastInDim S1x80x1x1 ![1] bcast_S80_S1x80x1x1_1 (iotaInDim S80 32 0)))) natLt_1_32) (constantI S_ 32 0#32) reducesTo_S32x80x16x1568_S32x80x16_d3 h_S_

theorem edge_cell (w : Fin 32) (l : Fin 16) (s : Fin 1568) : 25088 * w.val + (1568 * l.val + s.val) < 802816 := by omega

theorem node_cell (w : Fin 32) (s : Fin 98) (l : Fin 16) : 1568 * w.val + (16 * s.val + l.val) < 50176 := by omega

theorem byLane_at (g : S802816.Idx → BitVec 32) (j : S32x80x16.Idx) :
    byLane g j = ∑ s : Fin 1568, bit (g (ix1 ⟨25088 * (j 0).val + (1568 * (j 2).val + s.val), edge_cell (j 0) (j 2) s⟩)) (j 1).val := by
  refine (reduce_at _ _ red_edge _ _).trans (Finset.sum_congr rfl fun s _ => ?_)
  refine (congrArg _ (lift_edge j s)).trans ((bit_at _ _ _ (j 1) _ (mask_edge _ (j 0) (j 1) (j 2) s)).trans ?_)
  refine congrArg (bit · _) (shapeCast_apply _ _ _ _ ?_)
  rw [Shape.rowMajor_val_four, Shape.rowMajor_val_one]
  show 25088 * (j 0).val + (1568 * (j 2).val + s.val) = (((j 0).val * 1 + 0) * 16 + (j 2).val) * 1568 + s.val
  omega

theorem lanes_eq (hi : ∀ j, (f2 j).toNat < 50176) : byLane (graphs f2 f3) = laneCounts f2 f3 := by
  funext j
  rw [graphs_eq f2 f3 hi, byLane_at]
  unfold laneCounts edgeTally
  rw [tally_sum, ← Fin.sum_univ_eq_sum_range (fun s => bit (edgeKey _ _ _ (j 2).val s) (j 1).val)]
  refine Finset.sum_congr rfl fun s _ => ?_
  unfold looked edgeKey
  rw [flat_at _ f2 ⟨25088 * (j 0).val + (1568 * (j 2).val + s.val), edge_cell (j 0) (j 2) s⟩ _ rfl]

/-- The lanes' counts added. -/
theorem lanes_added (x : S32x80x16.Idx → BitVec 32) (j : S32x80.Idx) :
    Host.reduce IntOp.addi x (constantI S_ 32 0#32) reducesTo_S32x80x16_S32x80_d2 h_S_ j = ∑ l : Fin 16, x (ix3 (j 0) (j 1) l) := by
  exact (reduce_at _ _ red_lane _ _).trans (Finset.sum_congr rfl fun l _ => congrArg x (lift_lane j l))

theorem edges_eq (hi : ∀ j, (f2 j).toNat < 50176) :
    Host.reduce IntOp.addi (byLane (graphs f2 f3)) (constantI S_ 32 0#32) reducesTo_S32x80x16_S32x80_d2 h_S_ = edgeCounts f2 f3 := by
  funext j
  rw [lanes_added, lanes_eq f2 f3 hi]
  unfold edgeCounts
  rw [tot_sum, ← Fin.sum_univ_eq_sum_range (fun l => edgeTally _ _ _ (j 1).val l)]
  rfl

/-- The bodies' graphs counted lane by lane, as the reference counts them. -/
abbrev nodesByLane : S32x80x16.Idx → BitVec 32 :=
  Host.reduce IntOp.addi (extui 32 (cmpi .eq (broadcastInDim S32x80x98x16 ![0, 1, 2, 3] bcast_S32x1x98x16_S32x80x98x16_0_1_2_3 (shapeCast _ f3 shapeCasts_S50176_S32x1x98x16)) (broadcastInDim S32x80x98x16 ![0, 1, 2, 3] bcast_S1x80x1x1_S32x80x98x16_0_1_2_3 (broadcastInDim S1x80x1x1 ![1] bcast_S80_S1x80x1x1_1 (iotaInDim S80 32 0)))) natLt_1_32) (constantI S_ 32 0#32) reducesTo_S32x80x98x16_S32x80x16_d2 h_S_

theorem nodesByLane_at (j : S32x80x16.Idx) : nodesByLane f3 j
    = ∑ s : Fin 98, bit (f3 (ix1 ⟨1568 * (j 0).val + (16 * s.val + (j 2).val), node_cell (j 0) s (j 2)⟩)) (j 1).val := by
  refine (reduce_at _ _ red_node _ _).trans (Finset.sum_congr rfl fun s _ => ?_)
  refine (congrArg _ (lift_node j s)).trans ((bit_at _ _ _ (j 1) _ (mask_node _ (j 0) (j 1) s (j 2))).trans ?_)
  refine congrArg (bit · _) (shapeCast_apply _ _ _ _ ?_)
  rw [Shape.rowMajor_val_four, Shape.rowMajor_val_one]
  show 1568 * (j 0).val + (16 * s.val + (j 2).val) = (((j 0).val * 1 + 0) * 98 + s.val) * 16 + (j 2).val
  omega

theorem nodes_eq : Host.reduce IntOp.addi (nodesByLane f3) (constantI S_ 32 0#32) reducesTo_S32x80x16_S32x80_d2 h_S_ = nodeCounts f3 := by
  funext j
  rw [lanes_added]
  unfold nodeCounts
  rw [tot_sum, ← Fin.sum_univ_eq_sum_range (fun l => nodeTally _ _ (j 1).val l)]
  refine Finset.sum_congr rfl fun l _ => ?_
  rw [nodesByLane_at]
  unfold nodeTally
  rw [tally_sum, ← Fin.sum_univ_eq_sum_range (fun s => bit (nodeKey _ _ l.val s) (j 1).val)]
  refine Finset.sum_congr rfl fun s _ => ?_
  unfold nodeKey
  rw [flat_at _ f3 ⟨1568 * (j 0).val + (16 * s.val + l.val), node_cell (j 0) s l⟩ _ rfl]
  rfl

/-- What the precondition says: the edges' ends are bodies, and the bodies' graphs are graphs. -/
theorem of_pre {F : FTy → Type} [FloatOps F] (h : Cert.Pre_in_table.fn (F := F) f2 f3 = fun _ => 1#1) :
    (∀ j, (f2 j).toNat < 50176) ∧ ∀ j, (f3 j).toNat < 80 := by
  have h0 := congrFun h (fun a => a.elim0)
  unfold Cert.Pre_in_table.fn at h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_in_table.S_.Idx := ⟨fun x y => funext fun a => a.elim0⟩
  have k1 : ∀ j, (0 : ℤ) ≤ (f2 j).toInt := fun j => IntOp.cmpi_sge.1 (Host.reduce_andi_all _ _ _ _ _ h1 j)
  have k2 : ∀ j, (f2 j).toInt < (50176 : ℕ) := fun j => IntOp.cmpi_slt.1 (Host.reduce_andi_all _ _ _ _ _ h2 j)
  have k3 : ∀ j, (0 : ℤ) ≤ (f3 j).toInt := fun j => IntOp.cmpi_sge.1 (Host.reduce_andi_all _ _ _ _ _ h3 j)
  have k4 : ∀ j, (f3 j).toInt < (80 : ℕ) := fun j => IntOp.cmpi_slt.1 (Host.reduce_andi_all _ _ _ _ _ h4 j)
  exact ⟨fun j => Launch.lt_of_range (k1 j) (k2 j), fun j => Launch.lt_of_range (k3 j) (k4 j)⟩

end Cert.Proof.CountingValue
-- ==== Proof.lean ====
/-
  The certificate's proof: the program's frames, and its results against the reference's.
-/
module

public import proofs.«01_k».proof.Defs
public import proofs.«01_k».proof.Proof.Value
public import proofs.«01_k».proof.Proof.Gen.ReferenceIdeal.Run
public import proofs.«01_k».proof.Proof.Gen.Kernel
public import proofs.«01_k».proof.Proof.Gen.Pre_in_range
public import proofs.«01_k».proof.Proof.Gen.Feature.Frame
public import proofs.«01_k».proof.Proof.Gen.FeatureIdeal.Value
public import proofs.«01_k».proof.Proof.Gen.FeatureReferenceIdeal.Run
public import proofs.«01_k».proof.Proof.Gen.Pre_in_classes
public import proofs.«01_k».proof.Proof.Gen.CountsIdeal
public import proofs.«01_k».proof.Proof.Gen.CountsIdeal.Skeleton
public import proofs.«01_k».proof.Proof.Gen.Counts
public import proofs.«01_k».proof.Proof.Gen.CountsReferenceIdeal
public import proofs.«01_k».proof.Proof.Gen.CountsReferenceIdeal.Run
public import proofs.«01_k».proof.Proof.Gen.Pre_in_table
public import proofs.«01_k».proof.Proof.FeatureValue
public import proofs.«01_k».proof.Proof.TallyValue

@[expose] public section

noncomputable section

namespace Cert.Proof

open Idealize.ShloMosaic Idealize.SL.Sem
open Cert.Proof.Launch Cert.Proof.Rows Cert.Proof.Lookup

section Ranges

variable {F : FTy → Type} [FloatOps F] (m : (ℓ : Loc Cert.KernelIdeal.nD Cert.KernelIdeal.τ Cert.KernelIdeal.sig) → Buf (Elt F) ℓ)
  (h : ∀ d : Dev Cert.KernelIdeal.nD, Cert.Pre_in_range.fn (F := F) (m (d, tcb Cert.KernelIdeal.main_arg0)) (m (d, tcb Cert.KernelIdeal.main_arg1)) (m (d, tcb Cert.KernelIdeal.main_arg2)) (m (d, tcb Cert.KernelIdeal.main_arg3)) (m (d, tcb Cert.KernelIdeal.main_arg4)) (m (d, tcb Cert.KernelIdeal.main_arg5)) (m (d, tcb Cert.KernelIdeal.main_arg6)) = fun _ => 1#1)

include h

/-- From the precondition, the order's words are positions. -/
theorem order_in : ∀ d j, (y2 m d j).toNat < 802816 := by
  intro d j
  rw [y2_eq]
  exact (of_pre _ _ _ _ _ _ _ (h d)).1 j

/-- From the precondition, the sorted edges' first ends are bodies. -/
theorem first_in : ∀ d j, (z2 m d j).toNat < 50176 := by
  intro d j
  rw [z2_eq, y3_eq]
  exact taken_lt _ _ (of_pre _ _ _ _ _ _ _ (h d)).2.2.1 j

/-- From the precondition, the sorted edges' second ends are bodies. -/
theorem second_in : ∀ d j, (z3 m d j).toNat < 50176 := by
  intro d j
  rw [z3_eq, y4_eq]
  exact taken_lt _ _ (of_pre _ _ _ _ _ _ _ (h d)).2.2.2.1 j

/-- From the precondition, the bodies' residues are residues. -/
theorem residue_in : ∀ d j, (z4 m d j).toNat < 12512 := by
  intro d j
  rw [z4_eq]
  exact paddedB_lt _ (of_pre _ _ _ _ _ _ _ (h d)).2.2.2.2 j

end Ranges

theorem frame_kernel : Cert.quiescent_Kernel := fun m ρ hpre =>
  (θ_run Cert.KernelIdeal.defs _ _).mono (fun _ h => ⟨fun c => ⟨(h.1 c Cert.KernelIdeal.main_arg0 rfl).trans (arg_eq m c _ (by decide) (by decide) (by decide) (by decide) (by decide)),
      (h.1 c Cert.KernelIdeal.main_arg1 rfl).trans (arg_eq m c _ (by decide) (by decide) (by decide) (by decide) (by decide)),
      (h.1 c Cert.KernelIdeal.main_arg2 rfl).trans (arg_eq m c _ (by decide) (by decide) (by decide) (by decide) (by decide)),
      (h.1 c Cert.KernelIdeal.main_arg3 rfl).trans (arg_eq m c _ (by decide) (by decide) (by decide) (by decide) (by decide)),
      (h.1 c Cert.KernelIdeal.main_arg4 rfl).trans (arg_eq m c _ (by decide) (by decide) (by decide) (by decide) (by decide)),
      (h.1 c Cert.KernelIdeal.main_arg5 rfl).trans (arg_eq m c _ (by decide) (by decide) (by decide) (by decide) (by decide)),
      (h.1 c Cert.KernelIdeal.main_arg6 rfl).trans (arg_eq m c _ (by decide) (by decide) (by decide) (by decide) (by decide))⟩, h.2⟩)
    (run_main (F := Bits) m ρ (order_in m hpre) (first_in m hpre) (second_in m hpre) (residue_in m hpre))

theorem frame_ideal : Cert.quiescent_KernelIdeal := fun m ρ hpre =>
  (θ_run Cert.KernelIdeal.defs _ _).mono (fun _ h => ⟨fun c => ⟨(h.1 c Cert.KernelIdeal.main_arg0 rfl).trans (arg_eq m c _ (by decide) (by decide) (by decide) (by decide) (by decide)),
      (h.1 c Cert.KernelIdeal.main_arg1 rfl).trans (arg_eq m c _ (by decide) (by decide) (by decide) (by decide) (by decide)),
      (h.1 c Cert.KernelIdeal.main_arg2 rfl).trans (arg_eq m c _ (by decide) (by decide) (by decide) (by decide) (by decide)),
      (h.1 c Cert.KernelIdeal.main_arg3 rfl).trans (arg_eq m c _ (by decide) (by decide) (by decide) (by decide) (by decide)),
      (h.1 c Cert.KernelIdeal.main_arg4 rfl).trans (arg_eq m c _ (by decide) (by decide) (by decide) (by decide) (by decide)),
      (h.1 c Cert.KernelIdeal.main_arg5 rfl).trans (arg_eq m c _ (by decide) (by decide) (by decide) (by decide) (by decide)),
      (h.1 c Cert.KernelIdeal.main_arg6 rfl).trans (arg_eq m c _ (by decide) (by decide) (by decide) (by decide) (by decide))⟩, h.2⟩)
    (run_main (F := Ideal) m ρ (order_in m hpre) (first_in m hpre) (second_in m hpre) (residue_in m hpre))

theorem frame_reference : Cert.quiescent_ReferenceIdeal := fun m ρ _ =>
  (θ_run Cert.ReferenceIdeal.defs _ _).mono (fun r h => ⟨fun c => (h c).2.2.2.2.2, sem_eq_zero_of_no_sems rfl r.2⟩) (Cert.ReferenceIdeal.Value.run (F := Ideal) m ρ)

section Values

open Cert.KernelIdeal (S802816 S800000)

variable (o : S802816.Idx → BitVec 32) (ho : ∀ p : Fin 800000, (o (Shape.Idx.ofFin ⟨p.val, lt_all p⟩)).toNat < 800000)

/-- A list's entries at the order's head. -/
abbrev atOrder (x : S800000.Idx → BitVec 32) : S800000.Idx → BitVec 32 :=
  Host.gather Cert.ReferenceIdeal.gather_S800000_S800000x1_S800000_n_0_n_n_0_1_1 x
    (wrapped 800000#32 (cut o) Cert.ReferenceIdeal.Gen.bcast_S_S800000 Cert.ReferenceIdeal.Gen.bcast_S800000_S800000x1_0)

include ho

theorem head_eq (x : S800000.Idx → BitVec 32) (w : BitVec 32) : cut (CdOne.taken o (padded (F := Ideal) x w)) = atOrder o x :=
  Lookup.piece Cert.ReferenceIdeal.gather_S800000_S800000x1_S800000_n_0_n_n_0_1_1 rfl rfl rfl rfl _ Cert.ReferenceIdeal.Gen.bcast_S_S800000 Cert.ReferenceIdeal.Gen.bcast_S800000_S800000x1_0 o x _ ho _

theorem head_lt (x : S800000.Idx → BitVec 32) (hx : ∀ j, (x j).toNat < 50000) (p : Fin 800000) : (atOrder o x (Shape.Idx.ofFin p)).toNat < 50000 :=
  gathered_all Cert.ReferenceIdeal.gather_S800000_S800000x1_S800000_n_0_n_n_0_1_1 rfl rfl rfl rfl _ Cert.ReferenceIdeal.Gen.bcast_S_S800000 Cert.ReferenceIdeal.Gen.bcast_S800000_S800000x1_0
    (fun w : BitVec 32 => w.toNat < 50000) o x ho hx p

end Values

theorem values : Cert.algebraic_KernelIdeal_ReferenceIdeal := by
  intro m ρ m' ρ' hpre hargs
  refine ⟨fun c => V5 m c (tcb Cert.KernelIdeal.main_v25), fun c => V5 m c (tcb Cert.KernelIdeal.main_v26), fun c => V5 m c (tcb Cert.KernelIdeal.main_v27),
    fun c => V5 m c (tcb Cert.KernelIdeal.main_v28), fun c => V5 m c (tcb Cert.KernelIdeal.main_v29), ?_, ?_⟩
  · exact (θ_run Cert.KernelIdeal.defs _ _).mono (fun _ h c => ⟨h.1 c Cert.KernelIdeal.main_v25 rfl, h.1 c Cert.KernelIdeal.main_v26 rfl,
      h.1 c Cert.KernelIdeal.main_v27 rfl, h.1 c Cert.KernelIdeal.main_v28 rfl, h.1 c Cert.KernelIdeal.main_v29 rfl,
      (h.1 c Cert.KernelIdeal.main_arg0 rfl).trans (arg_eq m c _ (by decide) (by decide) (by decide) (by decide) (by decide)),
      (h.1 c Cert.KernelIdeal.main_arg1 rfl).trans (arg_eq m c _ (by decide) (by decide) (by decide) (by decide) (by decide)),
      (h.1 c Cert.KernelIdeal.main_arg2 rfl).trans (arg_eq m c _ (by decide) (by decide) (by decide) (by decide) (by decide)),
      (h.1 c Cert.KernelIdeal.main_arg3 rfl).trans (arg_eq m c _ (by decide) (by decide) (by decide) (by decide) (by decide)),
      (h.1 c Cert.KernelIdeal.main_arg4 rfl).trans (arg_eq m c _ (by decide) (by decide) (by decide) (by decide) (by decide)),
      (h.1 c Cert.KernelIdeal.main_arg5 rfl).trans (arg_eq m c _ (by decide) (by decide) (by decide) (by decide) (by decide)),
      (h.1 c Cert.KernelIdeal.main_arg6 rfl).trans (arg_eq m c _ (by decide) (by decide) (by decide) (by decide) (by decide))⟩)
      (run_main (F := Ideal) m ρ (order_in m hpre) (first_in m hpre) (second_in m hpre) (residue_in m hpre))
  · refine (θ_run Cert.ReferenceIdeal.defs _ _).mono (fun _ h c => ⟨(h c).1.trans ?_, (h c).2.1.trans ?_, (h c).2.2.1.trans ?_, (h c).2.2.2.1.trans ?_,
      (h c).2.2.2.2.1.trans ?_, (h c).2.2.2.2.2⟩) (Cert.ReferenceIdeal.Value.run (F := Ideal) m' ρ')
    all_goals
      obtain ⟨e0, e1, e2, e3, e4, e5, e6⟩ := hargs c
      obtain ⟨-, ho, hin, hout, hres⟩ := of_pre _ _ _ _ _ _ _ (hpre c)
    · show _ = V5 m c (tcb Cert.KernelIdeal.main_v25)
      rw [edges_eq, y2_eq, y3_eq, y4_eq, y5_eq, e0, e2, e3, e4]
      unfold column
      rw [head_eq _ ho, head_eq _ ho, head_eq _ ho]
      rfl
    · show _ = V5 m c (tcb Cert.KernelIdeal.main_v26)
      unfold Cert.ReferenceIdeal.Value.res_main_v64
      rw [typesIn_eq, z2_eq, z4_eq, z5_eq, y2_eq, y3_eq, e0, e2, e5, e6]
      exact (twice_eq Cert.ReferenceIdeal.gather_S50000_S800000x1_S800000_n_0_n_n_0_1_1 rfl rfl rfl rfl Cert.ReferenceIdeal.gather_S12500_S800000x1_S800000_n_0_n_n_0_1_1 rfl rfl rfl rfl _
        Cert.ReferenceIdeal.Gen.bcast_S_S800000 Cert.ReferenceIdeal.Gen.bcast_S800000_S800000x1_0 _ _ (head_eq _ ho _ _) (head_lt _ ho _ hin) _ _ _ _ _ _ hres).symm
    · show _ = V5 m c (tcb Cert.KernelIdeal.main_v27)
      unfold Cert.ReferenceIdeal.Value.res_main_v71
      rw [typesOut_eq, z3_eq, z4_eq, z5_eq, y2_eq, y4_eq, e0, e3, e5, e6]
      exact (twice_eq Cert.ReferenceIdeal.gather_S50000_S800000x1_S800000_n_0_n_n_0_1_1 rfl rfl rfl rfl Cert.ReferenceIdeal.gather_S12500_S800000x1_S800000_n_0_n_n_0_1_1 rfl rfl rfl rfl _
        Cert.ReferenceIdeal.Gen.bcast_S_S800000 Cert.ReferenceIdeal.Gen.bcast_S800000_S800000x1_0 _ _ (head_eq _ ho _ _) (head_lt _ ho _ hout) _ _ _ _ _ _ hres).symm
    · show _ = V5 m c (tcb Cert.KernelIdeal.main_v28)
      unfold Cert.ReferenceIdeal.Value.res_main_v31
      rw [apart_at, z2_eq, z3_eq, z4_eq, y2_eq, y3_eq, y4_eq, e0, e2, e3, e5]
      exact (apart_eq Cert.ReferenceIdeal.gather_S50000_S800000x1_S800000_n_0_n_n_0_1_1 rfl rfl rfl rfl _
        Cert.ReferenceIdeal.Gen.bcast_S_S800000 Cert.ReferenceIdeal.Gen.bcast_S800000_S800000x1_0 _ _ _ _ (head_eq _ ho _ _) (head_eq _ ho _ _)
        (head_lt _ ho _ hin) (head_lt _ ho _ hout) _ _ _ hres).symm
    · show _ = V5 m c (tcb Cert.KernelIdeal.main_v29)
      unfold Cert.ReferenceIdeal.Value.res_main_v73
      rw [square_at, z2_eq, z3_eq, z6_eq, z7_eq, z8_eq, y2_eq, y3_eq, y4_eq, e0, e1, e2, e3]
      exact (square_eq Cert.ReferenceIdeal.gather_S50000x3_S800000x1_S800000x3_1_0_n_n_0_1_13 rfl rfl rfl rfl rfl _
        Cert.ReferenceIdeal.Gen.bcast_S_S800000 Cert.ReferenceIdeal.Gen.bcast_S800000_S800000x1_0 _ _ _ _ (head_eq _ ho _ _) (head_eq _ ho _ _)
        (head_lt _ ho _ hin) (head_lt _ ho _ hout) _ _ _ _ _ _ _ _ _).symm

theorem frame_feature : Cert.quiescent_Feature := fun m ρ _ => Cert.Feature.Gen.frame m ρ

theorem frame_feature_ideal : Cert.quiescent_FeatureIdeal := fun m ρ _ => Cert.FeatureIdeal.Gen.frame m ρ

theorem frame_feature_reference : Cert.quiescent_FeatureReferenceIdeal := fun m ρ _ =>
  (θ_run Cert.FeatureReferenceIdeal.defs _ _).mono (fun r h => ⟨fun c => (h c).2.2, sem_eq_zero_of_no_sems rfl r.2⟩) (Cert.FeatureReferenceIdeal.Value.run (F := Ideal) m ρ)

section Counts

open Cert.Proof.CountingMain (V2_of_ne V2_0 V2_1 V2_2 V2_3)
open Cert.Proof.Counting (looked laneCounts edgeCounts nodeCounts)

/-- The counting program leaves its arguments as they are. -/
theorem counts_arg {F : FTy → Type} [FloatOps F] (m : (ℓ : Loc Cert.CountsIdeal.nD Cert.CountsIdeal.τ Cert.CountsIdeal.sig) → Buf (Elt F) ℓ) (r : PUnit × MemSt Cert.CountsIdeal.nD Cert.CountsIdeal.τ Cert.CountsIdeal.sig (Elt F))
    (h : CountingMain.QC m r) (c : Dev Cert.CountsIdeal.nD) :
    r.2.mem (c, CountingMain.tcb Cert.CountsIdeal.main_arg0) = m (c, CountingMain.tcb Cert.CountsIdeal.main_arg0) ∧ r.2.mem (c, CountingMain.tcb Cert.CountsIdeal.main_arg1) = m (c, CountingMain.tcb Cert.CountsIdeal.main_arg1) :=
  ⟨(h.1 c Cert.CountsIdeal.main_arg0 rfl).trans (V2_of_ne m c _ (by decide) (by decide) (by decide) (by decide)),
    (h.1 c Cert.CountsIdeal.main_arg1 rfl).trans (V2_of_ne m c _ (by decide) (by decide) (by decide) (by decide))⟩

theorem frame_counts : Cert.quiescent_Counts := fun m ρ hpre =>
  (θ_run Cert.CountsIdeal.defs _ _).mono (fun r h => ⟨fun c => counts_arg m r h c, h.2⟩)
    (CountingMain.run_main (F := Bits) m ρ (fun d => (CountingValue.of_pre _ _ (hpre d)).1) (fun d => (CountingValue.of_pre _ _ (hpre d)).2))

theorem frame_counts_ideal : Cert.quiescent_CountsIdeal := fun m ρ hpre =>
  (θ_run Cert.CountsIdeal.defs _ _).mono (fun r h => ⟨fun c => counts_arg m r h c, h.2⟩)
    (CountingMain.run_main (F := Ideal) m ρ (fun d => (CountingValue.of_pre _ _ (hpre d)).1) (fun d => (CountingValue.of_pre _ _ (hpre d)).2))

theorem frame_counts_reference : Cert.quiescent_CountsReferenceIdeal := fun m ρ _ =>
  (θ_run Cert.CountsReferenceIdeal.defs _ _).mono (fun r h => ⟨fun c => (h c).2.2.2.2, sem_eq_zero_of_no_sems rfl r.2⟩) (Cert.CountsReferenceIdeal.Value.run (F := Ideal) m ρ)

theorem counts : Cert.algebraic_CountsIdeal_CountsReferenceIdeal := by
  intro m ρ m' ρ' hpre hargs
  refine ⟨fun c => looked (CountingMain.y2 m c) (CountingMain.y3 m c), fun c => laneCounts (CountingMain.y2 m c) (CountingMain.y3 m c),
    fun c => edgeCounts (CountingMain.y2 m c) (CountingMain.y3 m c), fun c => nodeCounts (CountingMain.y3 m c), ?_, ?_⟩
  · exact (θ_run Cert.CountsIdeal.defs _ _).mono (fun r h c => ⟨(h.1 c Cert.CountsIdeal.main_v0_0 rfl).trans (V2_0 m c), (h.1 c Cert.CountsIdeal.main_v0_1 rfl).trans (V2_1 m c),
      (h.1 c Cert.CountsIdeal.main_v0_2 rfl).trans (V2_2 m c), (h.1 c Cert.CountsIdeal.main_v0_3 rfl).trans (V2_3 m c), counts_arg m r h c⟩)
      (CountingMain.run_main (F := Ideal) m ρ (fun d => (CountingValue.of_pre _ _ (hpre d)).1) (fun d => (CountingValue.of_pre _ _ (hpre d)).2))
  · refine (θ_run Cert.CountsReferenceIdeal.defs _ _).mono (fun _ h c => ⟨(h c).1.trans ?_, (h c).2.1.trans ?_, (h c).2.2.1.trans ?_, (h c).2.2.2.1.trans ?_, (h c).2.2.2.2⟩)
      (Cert.CountsReferenceIdeal.Value.run (F := Ideal) m' ρ')
    all_goals
      obtain ⟨e0, e1⟩ := hargs c
      obtain ⟨hi, -⟩ := CountingValue.of_pre _ _ (hpre c)
      rw [e1]
      try rw [e0]
    · exact CountingValue.graphs_eq _ _ hi
    · exact CountingValue.lanes_eq _ _ hi
    · exact CountingValue.edges_eq _ _ hi
    · exact CountingValue.nodes_eq _

end Counts

theorem claim : Cert.Claim :=
  ⟨Cert.Kernel.Gen.facts, Cert.KernelIdeal.Gen.facts, Cert.ReferenceIdeal.Gen.facts, Cert.Feature.Gen.facts, Cert.FeatureIdeal.Gen.facts,
    Cert.FeatureReferenceIdeal.Gen.facts, Cert.Counts.Gen.facts, Cert.CountsIdeal.Gen.facts, Cert.CountsReferenceIdeal.Gen.facts,
    Cert.Pre_in_range.Gen.facts, Cert.Pre_in_classes.Gen.facts, Cert.Pre_in_table.Gen.facts,
    frame_kernel, frame_ideal, frame_reference, frame_feature, frame_feature_ideal, fun m ρ _ => frame_feature_ideal m ρ trivial,
    frame_feature_reference, fun m ρ _ => frame_feature_reference m ρ trivial, frame_counts, frame_counts_ideal, frame_counts_reference,
    trivial, values, trivial, FeatureValue.values, trivial, counts⟩

end Cert.Proof

end
